-- ==== Defs.lean ====
def Pre_Kernel [hPre_sizes_split_rows : Cert.Pre_sizes_split_rows.Facts] (m : (ℓ : Loc Cert.Kernel.nD Cert.Kernel.τ Cert.Kernel.sig) → Buf (Elt Bits) ℓ) : Prop :=
  ∀ c : Dev Cert.Kernel.nD,
    (Cert.Pre_sizes_split_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).1 = (fun _ => 1#1)
    ∧ (Cert.Pre_sizes_split_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.1 = (fun _ => 1#1)
    ∧ (Cert.Pre_sizes_split_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.2 = (fun _ => 1#1)

def Pre_KernelIdeal [hPre_sizes_split_rows : Cert.Pre_sizes_split_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_split_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_sizes_split_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_sizes_split_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal [hPre_sizes_split_rows : Cert.Pre_sizes_split_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_split_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_sizes_split_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_sizes_split_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Tail [hPre_starts_ascend : Cert.Pre_starts_ascend.Facts] (m : (ℓ : Loc Cert.Tail.nD Cert.Tail.τ Cert.Tail.sig) → Buf (Elt Bits) ℓ) : Prop :=
  ∀ c : Dev Cert.Tail.nD,
    (Cert.Pre_starts_ascend.fn (F := Bits) (m ((c.tc : Thread Cert.Tail.nD Cert.Tail.τ).loc Cert.Tail.main_arg0)) (m ((c.tc : Thread Cert.Tail.nD Cert.Tail.τ).loc Cert.Tail.main_arg1))).1 = (fun _ => 1#1)
    ∧ (Cert.Pre_starts_ascend.fn (F := Bits) (m ((c.tc : Thread Cert.Tail.nD Cert.Tail.τ).loc Cert.Tail.main_arg0)) (m ((c.tc : Thread Cert.Tail.nD Cert.Tail.τ).loc Cert.Tail.main_arg1))).2 = (fun _ => 1#1)

def Pre_TailIdeal [hPre_starts_ascend : Cert.Pre_starts_ascend.Facts] (m : (ℓ : Loc Cert.TailIdeal.nD Cert.TailIdeal.τ Cert.TailIdeal.sig) → Buf (Elt Ideal) ℓ) : Prop :=
  ∀ c : Dev Cert.TailIdeal.nD,
    (Cert.Pre_starts_ascend.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1))).1 = (fun _ => 1#1)
    ∧ (Cert.Pre_starts_ascend.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1))).2 = (fun _ => 1#1)

def Pre_GlobalIdeal [hPre_starts_ascend : Cert.Pre_starts_ascend.Facts] (m : (ℓ : Loc Cert.GlobalIdeal.nD Cert.GlobalIdeal.τ Cert.GlobalIdeal.sig) → Buf (Elt Ideal) ℓ) : Prop :=
  ∀ c : Dev Cert.GlobalIdeal.nD,
    (Cert.Pre_starts_ascend.fn (F := Ideal) (m ((c.tc : Thread Cert.GlobalIdeal.nD Cert.GlobalIdeal.τ).loc Cert.GlobalIdeal.main_arg0)) (m ((c.tc : Thread Cert.GlobalIdeal.nD Cert.GlobalIdeal.τ).loc Cert.GlobalIdeal.main_arg1))).1 = (fun _ => 1#1)
    ∧ (Cert.Pre_starts_ascend.fn (F := Ideal) (m ((c.tc : Thread Cert.GlobalIdeal.nD Cert.GlobalIdeal.τ).loc Cert.GlobalIdeal.main_arg0)) (m ((c.tc : Thread Cert.GlobalIdeal.nD Cert.GlobalIdeal.τ).loc Cert.GlobalIdeal.main_arg1))).2 = (fun _ => 1#1)

def Pre_Act [hPre_act_starts_ascend : Cert.Pre_act_starts_ascend.Facts] (m : (ℓ : Loc Cert.Act.nD Cert.Act.τ Cert.Act.sig) → Buf (Elt Bits) ℓ) : Prop :=
  ∀ c : Dev Cert.Act.nD,
    (Cert.Pre_act_starts_ascend.fn (F := Bits) (m ((c.tc : Thread Cert.Act.nD Cert.Act.τ).loc Cert.Act.main_arg0)) (m ((c.tc : Thread Cert.Act.nD Cert.Act.τ).loc Cert.Act.main_arg1))).1 = (fun _ => 1#1)
    ∧ (Cert.Pre_act_starts_ascend.fn (F := Bits) (m ((c.tc : Thread Cert.Act.nD Cert.Act.τ).loc Cert.Act.main_arg0)) (m ((c.tc : Thread Cert.Act.nD Cert.Act.τ).loc Cert.Act.main_arg1))).2 = (fun _ => 1#1)

def Pre_ActIdeal [hPre_act_starts_ascend : Cert.Pre_act_starts_ascend.Facts] (m : (ℓ : Loc Cert.ActIdeal.nD Cert.ActIdeal.τ Cert.ActIdeal.sig) → Buf (Elt Ideal) ℓ) : Prop :=
  ∀ c : Dev Cert.ActIdeal.nD,
    (Cert.Pre_act_starts_ascend.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1))).1 = (fun _ => 1#1)
    ∧ (Cert.Pre_act_starts_ascend.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1))).2 = (fun _ => 1#1)

def Pre_ActGlobalIdeal [hPre_act_starts_ascend : Cert.Pre_act_starts_ascend.Facts] (m : (ℓ : Loc Cert.ActGlobalIdeal.nD Cert.ActGlobalIdeal.τ Cert.ActGlobalIdeal.sig) → Buf (Elt Ideal) ℓ) : Prop :=
  ∀ c : Dev Cert.ActGlobalIdeal.nD,
    (Cert.Pre_act_starts_ascend.fn (F := Ideal) (m ((c.tc : Thread Cert.ActGlobalIdeal.nD Cert.ActGlobalIdeal.τ).loc Cert.ActGlobalIdeal.main_arg0)) (m ((c.tc : Thread Cert.ActGlobalIdeal.nD Cert.ActGlobalIdeal.τ).loc Cert.ActGlobalIdeal.main_arg1))).1 = (fun _ => 1#1)
    ∧ (Cert.Pre_act_starts_ascend.fn (F := Ideal) (m ((c.tc : Thread Cert.ActGlobalIdeal.nD Cert.ActGlobalIdeal.τ).loc Cert.ActGlobalIdeal.main_arg0)) (m ((c.tc : Thread Cert.ActGlobalIdeal.nD Cert.ActGlobalIdeal.τ).loc Cert.ActGlobalIdeal.main_arg1))).2 = (fun _ => 1#1)

def quiescent_Kernel [hKernel : Cert.Kernel.Facts] [hPre_sizes_split_rows : Cert.Pre_sizes_split_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_sizes_split_rows : Cert.Pre_sizes_split_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_sizes_split_rows : Cert.Pre_sizes_split_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Tail [hTail : Cert.Tail.Facts] [hPre_starts_ascend : Cert.Pre_starts_ascend.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1))
      ∧ r.2.sem = fun _ => 0)

def quiescent_TailIdeal [hTailIdeal : Cert.TailIdeal.Facts] [hPre_starts_ascend : Cert.Pre_starts_ascend.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ r.2.sem = fun _ => 0)

def quiescent_GlobalIdeal [hGlobalIdeal : Cert.GlobalIdeal.Facts] [hPre_starts_ascend : Cert.Pre_starts_ascend.Facts] : Prop :=
  ∀ (m : (ℓ : Loc Cert.GlobalIdeal.nD Cert.GlobalIdeal.τ Cert.GlobalIdeal.sig) → Buf (Elt Ideal) ℓ) (g : Dev Cert.GlobalIdeal.nD → PrngReg), Pre_GlobalIdeal m →
    θ_run (Cert.GlobalIdeal.defs (F := Ideal)) (onTc (τ := Cert.GlobalIdeal.τ) (Cert.GlobalIdeal.main (F := Ideal))) ⟨m, fun _ => 0, g⟩ (fun r => (∀ c : Dev Cert.GlobalIdeal.nD,
      r.2.mem ((c.tc : Thread Cert.GlobalIdeal.nD Cert.GlobalIdeal.τ).loc Cert.GlobalIdeal.main_arg0) = m ((c.tc : Thread Cert.GlobalIdeal.nD Cert.GlobalIdeal.τ).loc Cert.GlobalIdeal.main_arg0)
      ∧ r.2.mem ((c.tc : Thread Cert.GlobalIdeal.nD Cert.GlobalIdeal.τ).loc Cert.GlobalIdeal.main_arg1) = m ((c.tc : Thread Cert.GlobalIdeal.nD Cert.GlobalIdeal.τ).loc Cert.GlobalIdeal.main_arg1))
      ∧ r.2.sem = fun _ => 0)

def quiescent_Act [hAct : Cert.Act.Facts] [hPre_act_starts_ascend : Cert.Pre_act_starts_ascend.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1))
      ∧ r.2.sem = fun _ => 0)

def quiescent_ActIdeal [hActIdeal : Cert.ActIdeal.Facts] [hPre_act_starts_ascend : Cert.Pre_act_starts_ascend.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActGlobalIdeal [hActGlobalIdeal : Cert.ActGlobalIdeal.Facts] [hPre_act_starts_ascend : Cert.Pre_act_starts_ascend.Facts] : Prop :=
  ∀ (m : (ℓ : Loc Cert.ActGlobalIdeal.nD Cert.ActGlobalIdeal.τ Cert.ActGlobalIdeal.sig) → Buf (Elt Ideal) ℓ) (g : Dev Cert.ActGlobalIdeal.nD → PrngReg), Pre_ActGlobalIdeal m →
    θ_run (Cert.ActGlobalIdeal.defs (F := Ideal)) (onTc (τ := Cert.ActGlobalIdeal.τ) (Cert.ActGlobalIdeal.main (F := Ideal))) ⟨m, fun _ => 0, g⟩ (fun r => (∀ c : Dev Cert.ActGlobalIdeal.nD,
      r.2.mem ((c.tc : Thread Cert.ActGlobalIdeal.nD Cert.ActGlobalIdeal.τ).loc Cert.ActGlobalIdeal.main_arg0) = m ((c.tc : Thread Cert.ActGlobalIdeal.nD Cert.ActGlobalIdeal.τ).loc Cert.ActGlobalIdeal.main_arg0)
      ∧ r.2.mem ((c.tc : Thread Cert.ActGlobalIdeal.nD Cert.ActGlobalIdeal.τ).loc Cert.ActGlobalIdeal.main_arg1) = m ((c.tc : Thread Cert.ActGlobalIdeal.nD Cert.ActGlobalIdeal.τ).loc Cert.ActGlobalIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_split_rows : Cert.Pre_sizes_split_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Tail_TailIdeal : Prop :=
  True

def algebraic_TailIdeal_GlobalIdeal [hTailIdeal : Cert.TailIdeal.Facts] [hGlobalIdeal : Cert.GlobalIdeal.Facts] [hPre_starts_ascend : Cert.Pre_starts_ascend.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.GlobalIdeal.nD Cert.GlobalIdeal.τ Cert.GlobalIdeal.sig) → Buf (Elt Ideal) ℓ) (g' : Dev Cert.GlobalIdeal.nD → PrngReg), Pre_TailIdeal m →
    (∀ c : Dev Cert.TailIdeal.nD,
      m' ((c.tc : Thread Cert.GlobalIdeal.nD Cert.GlobalIdeal.τ).loc Cert.GlobalIdeal.main_arg0) = m ((c.tc : Thread Cert.TailIdeal.nD Cert.TailIdeal.τ).loc Cert.TailIdeal.main_arg0)
      ∧ m' ((c.tc : Thread Cert.GlobalIdeal.nD Cert.GlobalIdeal.τ).loc Cert.GlobalIdeal.main_arg1) = m ((c.tc : Thread Cert.TailIdeal.nD Cert.TailIdeal.τ).loc Cert.TailIdeal.main_arg1)) →
    ∃ (v0 : (c : Dev Cert.TailIdeal.nD) → Buf (Elt Ideal) ((c.tc : Thread Cert.TailIdeal.nD Cert.TailIdeal.τ).loc Cert.TailIdeal.main_v0)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ θ_run (Cert.GlobalIdeal.defs (F := Ideal)) (onTc (τ := Cert.GlobalIdeal.τ) (Cert.GlobalIdeal.main (F := Ideal))) ⟨m', fun _ => 0, g'⟩ (fun r => ∀ c : Dev Cert.GlobalIdeal.nD,
          r.2.mem ((c.tc : Thread Cert.GlobalIdeal.nD Cert.GlobalIdeal.τ).loc Cert.GlobalIdeal.main_v30) = v0 c
          ∧ r.2.mem ((c.tc : Thread Cert.GlobalIdeal.nD Cert.GlobalIdeal.τ).loc Cert.GlobalIdeal.main_arg0) = m' ((c.tc : Thread Cert.GlobalIdeal.nD Cert.GlobalIdeal.τ).loc Cert.GlobalIdeal.main_arg0)
          ∧ r.2.mem ((c.tc : Thread Cert.GlobalIdeal.nD Cert.GlobalIdeal.τ).loc Cert.GlobalIdeal.main_arg1) = m' ((c.tc : Thread Cert.GlobalIdeal.nD Cert.GlobalIdeal.τ).loc Cert.GlobalIdeal.main_arg1))

def preserves_Act_ActIdeal : Prop :=
  True

def algebraic_ActIdeal_ActGlobalIdeal [hActIdeal : Cert.ActIdeal.Facts] [hActGlobalIdeal : Cert.ActGlobalIdeal.Facts] [hPre_act_starts_ascend : Cert.Pre_act_starts_ascend.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActGlobalIdeal.nD Cert.ActGlobalIdeal.τ Cert.ActGlobalIdeal.sig) → Buf (Elt Ideal) ℓ) (g' : Dev Cert.ActGlobalIdeal.nD → PrngReg), Pre_ActIdeal m →
    (∀ c : Dev Cert.ActIdeal.nD,
      m' ((c.tc : Thread Cert.ActGlobalIdeal.nD Cert.ActGlobalIdeal.τ).loc Cert.ActGlobalIdeal.main_arg0) = m ((c.tc : Thread Cert.ActIdeal.nD Cert.ActIdeal.τ).loc Cert.ActIdeal.main_arg0)
      ∧ m' ((c.tc : Thread Cert.ActGlobalIdeal.nD Cert.ActGlobalIdeal.τ).loc Cert.ActGlobalIdeal.main_arg1) = m ((c.tc : Thread Cert.ActIdeal.nD Cert.ActIdeal.τ).loc Cert.ActIdeal.main_arg1)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ θ_run (Cert.ActGlobalIdeal.defs (F := Ideal)) (onTc (τ := Cert.ActGlobalIdeal.τ) (Cert.ActGlobalIdeal.main (F := Ideal))) ⟨m', fun _ => 0, g'⟩ (fun r => ∀ c : Dev Cert.ActGlobalIdeal.nD,
          r.2.mem ((c.tc : Thread Cert.ActGlobalIdeal.nD Cert.ActGlobalIdeal.τ).loc Cert.ActGlobalIdeal.main_v29) = v0 c
          ∧ r.2.mem ((c.tc : Thread Cert.ActGlobalIdeal.nD Cert.ActGlobalIdeal.τ).loc Cert.ActGlobalIdeal.main_arg0) = m' ((c.tc : Thread Cert.ActGlobalIdeal.nD Cert.ActGlobalIdeal.τ).loc Cert.ActGlobalIdeal.main_arg0)
          ∧ r.2.mem ((c.tc : Thread Cert.ActGlobalIdeal.nD Cert.ActGlobalIdeal.τ).loc Cert.ActGlobalIdeal.main_arg1) = m' ((c.tc : Thread Cert.ActGlobalIdeal.nD Cert.ActGlobalIdeal.τ).loc Cert.ActGlobalIdeal.main_arg1))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hGlobalIdeal : Cert.GlobalIdeal.Facts) (hAct : Cert.Act.Facts) (hActIdeal : Cert.ActIdeal.Facts) (hActGlobalIdeal : Cert.ActGlobalIdeal.Facts) (hPre_sizes_split_rows : Cert.Pre_sizes_split_rows.Facts) (hPre_starts_ascend : Cert.Pre_starts_ascend.Facts) (hPre_act_starts_ascend : Cert.Pre_act_starts_ascend.Facts),
    quiescent_Kernel (hKernel := hKernel) (hPre_sizes_split_rows := hPre_sizes_split_rows)
    ∧ quiescent_KernelIdeal (hKernelIdeal := hKernelIdeal) (hPre_sizes_split_rows := hPre_sizes_split_rows)
    ∧ quiescent_ReferenceIdeal (hReferenceIdeal := hReferenceIdeal) (hPre_sizes_split_rows := hPre_sizes_split_rows)
    ∧ quiescent_Tail (hTail := hTail) (hPre_starts_ascend := hPre_starts_ascend)
    ∧ quiescent_TailIdeal (hTailIdeal := hTailIdeal) (hPre_starts_ascend := hPre_starts_ascend)
    ∧ quiescent_GlobalIdeal (hGlobalIdeal := hGlobalIdeal) (hPre_starts_ascend := hPre_starts_ascend)
    ∧ quiescent_Act (hAct := hAct) (hPre_act_starts_ascend := hPre_act_starts_ascend)
    ∧ quiescent_ActIdeal (hActIdeal := hActIdeal) (hPre_act_starts_ascend := hPre_act_starts_ascend)
    ∧ quiescent_ActGlobalIdeal (hActGlobalIdeal := hActGlobalIdeal) (hPre_act_starts_ascend := hPre_act_starts_ascend)
    ∧ preserves_Kernel_KernelIdeal
    ∧ algebraic_KernelIdeal_ReferenceIdeal (hKernelIdeal := hKernelIdeal) (hReferenceIdeal := hReferenceIdeal) (hPre_sizes_split_rows := hPre_sizes_split_rows)
    ∧ preserves_Tail_TailIdeal
    ∧ algebraic_TailIdeal_GlobalIdeal (hTailIdeal := hTailIdeal) (hGlobalIdeal := hGlobalIdeal) (hPre_starts_ascend := hPre_starts_ascend)
    ∧ preserves_Act_ActIdeal
    ∧ algebraic_ActIdeal_ActGlobalIdeal (hActIdeal := hActIdeal) (hActGlobalIdeal := hActGlobalIdeal) (hPre_act_starts_ascend := hPre_act_starts_ascend)
-- ==== Pre_act_starts_ascend.lean ====
abbrev S12 : Shape := ⟨1, ![12]⟩
abbrev S1024x384 : Shape := ⟨2, ![1024, 384]⟩
abbrev S1 : Shape := ⟨1, ![1]⟩
abbrev S_ : Shape := ⟨0, ![]⟩
abbrev S11 : Shape := ⟨1, ![11]⟩

class Facts : Prop where
  slices_S12_S1_0 : S12.Slices ![0] S1
  bcast_S_S1 : S_.BroadcastsInDim S1 (![] : Fin 0 → Fin S1.rank)
  slices_S12_S11_0 : S12.Slices ![0] S11
  slices_S12_S11_1 : S12.Slices ![1] S11

variable [Facts]

def fn {F : FTy → Type} [FloatOps F] (main_arg0 : IVec S12 32) (main_arg1 : FVec F S1024x384 .f32) : IVec S1 1 × IVec S11 1 :=
  let main_v0 : IVec S1 32 := (extractStridedSlice S1 ![0] · slices_S12_S1_0) main_arg0
  let main_c : IVec S_ 32 := constantI S_ 32 0#32
  let main_v1 : IVec S1 32 := broadcastInDim S1 ![] bcast_S_S1 main_c
  let main_v2 : IVec S1 1 := cmpi .eq main_v0 main_v1
  let main_v3 : IVec S11 32 := (extractStridedSlice S11 ![0] · slices_S12_S11_0) main_arg0
  let main_v4 : IVec S11 32 := (extractStridedSlice S11 ![1] · slices_S12_S11_1) main_arg0
  let main_v5 : IVec S11 1 := cmpi .sle main_v3 main_v4
  (main_v2, main_v5)
-- ==== Pre_sizes_split_rows.lean ====
abbrev S11 : Shape := ⟨1, ![11]⟩
abbrev S1024x6144 : Shape := ⟨2, ![1024, 6144]⟩
abbrev S11x3072x2560 : Shape := ⟨3, ![11, 3072, 2560]⟩
abbrev S11x384x2560 : Shape := ⟨3, ![11, 384, 2560]⟩
abbrev S_ : Shape := ⟨0, ![]⟩

class Facts : Prop where
  bcast_S_S11 : S_.BroadcastsInDim S11 (![] : Fin 0 → Fin S11.rank)
  reducesTo_S11_S_d0 : S11.ReducesTo [0] S_
  h_S_ : 0 < S_.numel

variable [Facts]

def fn {F : FTy → Type} [FloatOps F] (main_arg0 : IVec S11 32) (main_arg1 : FVec F S11 .f32) (main_arg2 : FVec F S11 .f32) (main_arg3 : FVec F S1024x6144 .bf16) (main_arg4 : IVec S11x3072x2560 8) (main_arg5 : FVec F S11x384x2560 .fp8e4m3) : IVec S11 1 × IVec S11 1 × IVec S_ 1 :=
  let main_c : IVec S_ 32 := constantI S_ 32 0#32
  let main_v0 : IVec S11 32 := broadcastInDim S11 ![] bcast_S_S11 main_c
  let main_v1 : IVec S11 1 := cmpi .sge main_arg0 main_v0
  let main_c_0 : IVec S_ 32 := constantI S_ 32 1024#32
  let main_v2 : IVec S11 32 := broadcastInDim S11 ![] bcast_S_S11 main_c_0
  let main_v3 : IVec S11 1 := cmpi .sle main_arg0 main_v2
  let main_c_1 : IVec S_ 32 := constantI S_ 32 0#32
  let main_v4 : IVec S_ 32 := (fun x v => Host.reduce IntOp.addi x v reducesTo_S11_S_d0 h_S_) main_arg0 main_c_1
  let main_c_2 : IVec S_ 32 := constantI S_ 32 1024#32
  let main_v5 : IVec S_ 1 := cmpi .eq main_v4 main_c_2
  (main_v1, main_v3, main_v5)
-- ==== Pre_starts_ascend.lean ====
abbrev S12 : Shape := ⟨1, ![12]⟩
abbrev S1024x2560 : Shape := ⟨2, ![1024, 2560]⟩
abbrev S1 : Shape := ⟨1, ![1]⟩
abbrev S_ : Shape := ⟨0, ![]⟩
abbrev S11 : Shape := ⟨1, ![11]⟩

class Facts : Prop where
  slices_S12_S1_0 : S12.Slices ![0] S1
  bcast_S_S1 : S_.BroadcastsInDim S1 (![] : Fin 0 → Fin S1.rank)
  slices_S12_S11_0 : S12.Slices ![0] S11
  slices_S12_S11_1 : S12.Slices ![1] S11

variable [Facts]

def fn {F : FTy → Type} [FloatOps F] (main_arg0 : IVec S12 32) (main_arg1 : FVec F S1024x2560 .f32) : IVec S1 1 × IVec S11 1 :=
  let main_v0 : IVec S1 32 := (extractStridedSlice S1 ![0] · slices_S12_S1_0) main_arg0
  let main_c : IVec S_ 32 := constantI S_ 32 0#32
  let main_v1 : IVec S1 32 := broadcastInDim S1 ![] bcast_S_S1 main_c
  let main_v2 : IVec S1 1 := cmpi .eq main_v0 main_v1
  let main_v3 : IVec S11 32 := (extractStridedSlice S11 ![0] · slices_S12_S11_0) main_arg0
  let main_v4 : IVec S11 32 := (extractStridedSlice S11 ![1] · slices_S12_S11_1) main_arg0
  let main_v5 : IVec S11 1 := cmpi .sle main_v3 main_v4
  (main_v2, main_v5)
-- ==== Kernel.lean ====
abbrev S11 : Shape := ⟨1, ![11]⟩
abbrev S1024x6144 : Shape := ⟨2, ![1024, 6144]⟩
abbrev S11x3072x2560 : Shape := ⟨3, ![11, 3072, 2560]⟩
abbrev S11x384x2560 : Shape := ⟨3, ![11, 384, 2560]⟩
abbrev S1024x2560 : Shape := ⟨2, ![1024, 2560]⟩
abbrev S4x3072x512 : Shape := ⟨3, ![4, 3072, 512]⟩
abbrev S4x384x512 : Shape := ⟨3, ![4, 384, 512]⟩
abbrev S384x512 : Shape := ⟨2, ![384, 512]⟩
abbrev S12 : Shape := ⟨1, ![12]⟩
abbrev S4 : Shape := ⟨1, ![4]⟩
abbrev S1 : Shape := ⟨1, ![1]⟩
abbrev S_ : Shape := ⟨0, ![]⟩
abbrev S1x3072x512 : Shape := ⟨3, ![1, 3072, 512]⟩
abbrev S3072x512 : Shape := ⟨2, ![3072, 512]⟩
abbrev S1x384x512 : Shape := ⟨3, ![1, 384, 512]⟩
abbrev S1x1 : Shape := ⟨2, ![1, 1]⟩
abbrev S128x512 : Shape := ⟨2, ![128, 512]⟩
abbrev S1x128x512 : Shape := ⟨3, ![1, 128, 512]⟩
abbrev S128x1x512 : Shape := ⟨3, ![128, 1, 512]⟩
abbrev S128x2x512 : Shape := ⟨3, ![128, 2, 512]⟩
abbrev S256x512 : Shape := ⟨2, ![256, 512]⟩
abbrev S1x512 : Shape := ⟨2, ![1, 512]⟩
abbrev S16x512 : Shape := ⟨2, ![16, 512]⟩
abbrev S128x256 : Shape := ⟨2, ![128, 256]⟩
abbrev S192x512 : Shape := ⟨2, ![192, 512]⟩
abbrev S192x256 : Shape := ⟨2, ![192, 256]⟩
abbrev S272x512 : Shape := ⟨2, ![272, 512]⟩
abbrev S272x256 : Shape := ⟨2, ![272, 256]⟩

abbrev nBuf : Space → Nat
  | .hbm => 7
  | .vmem => 5
  | .smem => 5
  | _ => 0

abbrev bufTy : (tb : Table) → Fin (tcTables nBuf tb) → BufTy
  | .hbm, ⟨0, _⟩ => ⟨S11, .i32⟩
  | .hbm, ⟨1, _⟩ => ⟨S11, .f32⟩
  | .hbm, ⟨2, _⟩ => ⟨S11, .f32⟩
  | .hbm, ⟨3, _⟩ => ⟨S1024x6144, .bf16⟩
  | .hbm, ⟨4, _⟩ => ⟨S11x3072x2560, .i8⟩
  | .hbm, ⟨5, _⟩ => ⟨S11x384x2560, .fp8e4m3⟩
  | .hbm, ⟨6, _⟩ => ⟨S1024x2560, .f32⟩
  | .local _ .vmem, ⟨0, _⟩ => ⟨S1024x6144, .bf16⟩
  | .local _ .vmem, ⟨1, _⟩ => ⟨S1024x2560, .f32⟩
  | .local _ .vmem, ⟨2, _⟩ => ⟨S4x3072x512, .i8⟩
  | .local _ .vmem, ⟨3, _⟩ => ⟨S4x384x512, .fp8e4m3⟩
  | .local _ .vmem, ⟨4, _⟩ => ⟨S384x512, .f32⟩
  | .local _ .smem, ⟨0, _⟩ => ⟨S11, .i32⟩
  | .local _ .smem, ⟨1, _⟩ => ⟨S11, .f32⟩
  | .local _ .smem, ⟨2, _⟩ => ⟨S11, .f32⟩
  | .local _ .smem, ⟨3, _⟩ => ⟨S12, .i32⟩
  | .local _ .smem, ⟨4, _⟩ => ⟨S12, .i32⟩
  | _, _ => ⟨S11, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg4_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_scratch3 : Ref sig .tc := ⟨.smem, 3, rfl⟩
abbrev cc0_scratch4 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c11_i32 : BitVec 32 := 11#32
  let v0 : BitVec 32 := Scalar.addi c0_i32_1 c11_i32
  let c1_i32 : BitVec 32 := 1#32
  ⟨c0_i32_1, v0, c1_i32⟩
def k0_off1 (k0_t1 : Fin k0_t1_loop.trips) : Fin 1 → Nat :=
  let c0_i32_1 : BitVec 32 := 0#32
  let c1_i32 : BitVec 32 := 1#32
  let arg14 : BitVec 32 := Scf.iv c0_i32_1 c1_i32 k0_t1
  let v23 : Index := Scalar.indexCast arg14
  ![v23.toNat]
def k0_off2 (arg16 : BitVec 32) : Fin 1 → Nat :=
  let v25 : Index := Scalar.indexCast arg16
  ![v25.toNat]

def k0_chk1 (arg16 : BitVec 32) : Prop :=
  (∀ a, (k0_off2 arg16) a + S1.size a ≤ S12.size a)
theorem k0_off2_inb : ∀ (arg16 : BitVec 32) (k0_hw1 : k0_chk1 arg16), ∀ a, (k0_off2 arg16) a + S1.size a ≤ S12.size a := fun arg16 k0_hw1 => k0_hw1

def k0_off3 (k0_t1 : Fin k0_t1_loop.trips) : Fin 1 → Nat :=
  let c0_i32_1 : BitVec 32 := 0#32
  let c1_i32 : BitVec 32 := 1#32
  let arg14 : BitVec 32 := Scf.iv c0_i32_1 c1_i32 k0_t1
  let v27 : Index := Scalar.indexCast arg14
  ![v27.toNat]
def k0_off4 : Fin 1 → Nat :=
  let c0_i32_4 : BitVec 32 := 0#32
  let c0_i32_19 : BitVec 32 := 0#32
  let v24 : BitVec 1 := Scalar.cmpi .sgt c0_i32_4 c0_i32_19
  let v25 : BitVec 32 := Scalar.extui v24
  let c0_i32_20 : BitVec 32 := 0#32
  let v26 : BitVec 1 := Scalar.cmpi .slt c0_i32_4 c0_i32_20
  let v27 : BitVec 32 := Scalar.extui v26
  let v28 : BitVec 32 := Scalar.subi v25 v27
  let c5_i32_18 : BitVec 32 := 5#32
  let c0_i32_21 : BitVec 32 := 0#32
  let v29 : BitVec 1 := Scalar.cmpi .sgt c5_i32_18 c0_i32_21
  let v30 : BitVec 32 := Scalar.extui v29
  let c0_i32_22 : BitVec 32 := 0#32
  let v31 : BitVec 1 := Scalar.cmpi .slt c5_i32_18 c0_i32_22
  let v32 : BitVec 32 := Scalar.extui v31
  let v33 : BitVec 32 := Scalar.subi v30 v32
  let v34 : BitVec 1 := Scalar.cmpi .ne v28 v33
  let v35 : BitVec 32 := Scalar.remsi c0_i32_4 c5_i32_18
  let c0_i32_23 : BitVec 32 := 0#32
  let v36 : BitVec 1 := Scalar.cmpi .ne v35 c0_i32_23
  let v37 : BitVec 1 := Scalar.andi v34 v36
  let v23 : BitVec 32 := Scalar.divsi c0_i32_4 c5_i32_18
  let c1_i32_24 : BitVec 32 := 1#32
  let v38 : BitVec 32 := Scalar.subi v23 c1_i32_24
  let v39 : BitVec 32 := Scalar.select v37 v38 v23
  let v40 : Index := Scalar.indexCast v39
  ![v40.toNat]
def k0_mult1 : BitVec 32 :=
  let c0_i32_4 : BitVec 32 := 0#32
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi c0_i32_4 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  v52
def k0_off5 : Fin 1 → Nat :=
  let c0_i32_4 : BitVec 32 := 0#32
  let c4_i32 : BitVec 32 := 4#32
  let v54 : BitVec 32 := Scalar.remsi c0_i32_4 c4_i32
  ![v54.toNat]
def k0_off6 : Fin 3 → Nat :=
  let c0_i32_4 : BitVec 32 := 0#32
  let c4_i32 : BitVec 32 := 4#32
  let v54 : BitVec 32 := Scalar.remsi c0_i32_4 c4_i32
  let c0_i32_31 : BitVec 32 := 0#32
  let c0_i32_32 : BitVec 32 := 0#32
  ![v54.toNat, 0, 0]
def k0_off7 (v41 : BitVec 32) : Fin 3 → Nat :=
  let c0_i32_33 : BitVec 32 := 0#32
  let c0_i32_4 : BitVec 32 := 0#32
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi c0_i32_4 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  let v53 : BitVec 32 := v52
  ![v41.toNat, 0, v53.toNat]
def k0_cond1 (v1_1 : BitVec 32) : BitVec 1 :=
  let c0_i32_3 : BitVec 32 := 0#32
  let c5_i32 : BitVec 32 := 5#32
  let v3 : BitVec 32 := Scalar.muli v1_1 c5_i32
  let v4 : BitVec 1 := Scalar.cmpi .slt c0_i32_3 v3
  let v5 : BitVec 32 := Scalar.extui v4
  let c0_i32_5 : BitVec 32 := 0#32
  let v6 : BitVec 1 := Scalar.cmpi .ne v5 c0_i32_5
  v6

def k0_off8 : Fin 1 → Nat :=
  let c0_i32_4 : BitVec 32 := 0#32
  let c4_i32 : BitVec 32 := 4#32
  let v54 : BitVec 32 := Scalar.remsi c0_i32_4 c4_i32
  ![v54.toNat]
def k0_off9 : Fin 3 → Nat :=
  let c0_i32_4 : BitVec 32 := 0#32
  let c4_i32 : BitVec 32 := 4#32
  let v54 : BitVec 32 := Scalar.remsi c0_i32_4 c4_i32
  let c0_i32_34 : BitVec 32 := 0#32
  let c0_i32_35 : BitVec 32 := 0#32
  ![v54.toNat, 0, 0]
def k0_off10 (v41 : BitVec 32) : Fin 3 → Nat :=
  let c0_i32_36 : BitVec 32 := 0#32
  let c0_i32_4 : BitVec 32 := 0#32
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi c0_i32_4 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  let v53 : BitVec 32 := v52
  ![v41.toNat, 0, v53.toNat]

def k0_chk2 (v1_1 : BitVec 32) (v41 : BitVec 32) : Prop :=
  (∀ (k0_h1 : k0_cond1 v1_1 = 1#1), ∀ a, (k0_off7 v41) a + S1x3072x512.size a ≤ S11x3072x2560.size a) ∧
  (∀ (k0_h1 : k0_cond1 v1_1 = 1#1), ∀ (hinb : ∀ a, (k0_off7 v41) a + S1x3072x512.size a ≤ S11x3072x2560.size a), (Rect.unit (s := S11x3072x2560) (k0_off7 v41) S1x3072x512.size hinb).WholeWords (EltTy.packing .i8)) ∧
  (∀ (k0_h1 : k0_cond1 v1_1 = 1#1), ∀ a, (k0_off10 v41) a + S1x384x512.size a ≤ S11x384x2560.size a) ∧
  (∀ (k0_h1 : k0_cond1 v1_1 = 1#1), ∀ (hinb : ∀ a, (k0_off10 v41) a + S1x384x512.size a ≤ S11x384x2560.size a), (Rect.unit (s := S11x384x2560) (k0_off10 v41) S1x384x512.size hinb).WholeWords (EltTy.packing .fp8e4m3))
theorem k0_off7_inb : ∀ (v1_1 : BitVec 32) (v41 : BitVec 32) (k0_hw2 : k0_chk2 v1_1 v41), ∀ (k0_h1 : k0_cond1 v1_1 = 1#1), ∀ a, (k0_off7 v41) a + S1x3072x512.size a ≤ S11x3072x2560.size a := fun v1_1 v41 k0_hw2 k0_h1 => k0_hw2.1 k0_h1
theorem k0_off7_wordsi8 : ∀ (v1_1 : BitVec 32) (v41 : BitVec 32) (k0_hw2 : k0_chk2 v1_1 v41), ∀ (k0_h1 : k0_cond1 v1_1 = 1#1), (Rect.unit (s := S11x3072x2560) (k0_off7 v41) S1x3072x512.size (k0_off7_inb v1_1 v41 k0_hw2 k0_h1)).WholeWords (EltTy.packing .i8) := fun v1_1 v41 k0_hw2 k0_h1 => k0_hw2.2.1 k0_h1 (k0_off7_inb v1_1 v41 k0_hw2 k0_h1)
theorem k0_off10_inb : ∀ (v1_1 : BitVec 32) (v41 : BitVec 32) (k0_hw2 : k0_chk2 v1_1 v41), ∀ (k0_h1 : k0_cond1 v1_1 = 1#1), ∀ a, (k0_off10 v41) a + S1x384x512.size a ≤ S11x384x2560.size a := fun v1_1 v41 k0_hw2 k0_h1 => k0_hw2.2.2.1 k0_h1
theorem k0_off10_wordsfp8e4m3 : ∀ (v1_1 : BitVec 32) (v41 : BitVec 32) (k0_hw2 : k0_chk2 v1_1 v41), ∀ (k0_h1 : k0_cond1 v1_1 = 1#1), (Rect.unit (s := S11x384x2560) (k0_off10 v41) S1x384x512.size (k0_off10_inb v1_1 v41 k0_hw2 k0_h1)).WholeWords (EltTy.packing .fp8e4m3) := fun v1_1 v41 k0_hw2 k0_h1 => k0_hw2.2.2.2 k0_h1 (k0_off10_inb v1_1 v41 k0_hw2 k0_h1)

def k0_off11 : Fin 1 → Nat :=
  let c1_i32_7 : BitVec 32 := 1#32
  let c0_i32_19 : BitVec 32 := 0#32
  let v24 : BitVec 1 := Scalar.cmpi .sgt c1_i32_7 c0_i32_19
  let v25 : BitVec 32 := Scalar.extui v24
  let c0_i32_20 : BitVec 32 := 0#32
  let v26 : BitVec 1 := Scalar.cmpi .slt c1_i32_7 c0_i32_20
  let v27 : BitVec 32 := Scalar.extui v26
  let v28 : BitVec 32 := Scalar.subi v25 v27
  let c5_i32_18 : BitVec 32 := 5#32
  let c0_i32_21 : BitVec 32 := 0#32
  let v29 : BitVec 1 := Scalar.cmpi .sgt c5_i32_18 c0_i32_21
  let v30 : BitVec 32 := Scalar.extui v29
  let c0_i32_22 : BitVec 32 := 0#32
  let v31 : BitVec 1 := Scalar.cmpi .slt c5_i32_18 c0_i32_22
  let v32 : BitVec 32 := Scalar.extui v31
  let v33 : BitVec 32 := Scalar.subi v30 v32
  let v34 : BitVec 1 := Scalar.cmpi .ne v28 v33
  let v35 : BitVec 32 := Scalar.remsi c1_i32_7 c5_i32_18
  let c0_i32_23 : BitVec 32 := 0#32
  let v36 : BitVec 1 := Scalar.cmpi .ne v35 c0_i32_23
  let v37 : BitVec 1 := Scalar.andi v34 v36
  let v23 : BitVec 32 := Scalar.divsi c1_i32_7 c5_i32_18
  let c1_i32_24 : BitVec 32 := 1#32
  let v38 : BitVec 32 := Scalar.subi v23 c1_i32_24
  let v39 : BitVec 32 := Scalar.select v37 v38 v23
  let v40 : Index := Scalar.indexCast v39
  ![v40.toNat]
def k0_mult2 : BitVec 32 :=
  let c1_i32_7 : BitVec 32 := 1#32
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi c1_i32_7 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  v52
def k0_off12 : Fin 1 → Nat :=
  let c1_i32_7 : BitVec 32 := 1#32
  let c4_i32 : BitVec 32 := 4#32
  let v54 : BitVec 32 := Scalar.remsi c1_i32_7 c4_i32
  ![v54.toNat]
def k0_off13 : Fin 3 → Nat :=
  let c1_i32_7 : BitVec 32 := 1#32
  let c4_i32 : BitVec 32 := 4#32
  let v54 : BitVec 32 := Scalar.remsi c1_i32_7 c4_i32
  let c0_i32_31 : BitVec 32 := 0#32
  let c0_i32_32 : BitVec 32 := 0#32
  ![v54.toNat, 0, 0]
def k0_off14 (v41 : BitVec 32) : Fin 3 → Nat :=
  let c0_i32_33 : BitVec 32 := 0#32
  let c1_i32_7 : BitVec 32 := 1#32
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi c1_i32_7 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  let v53 : BitVec 32 := v52
  ![v41.toNat, 0, v53.toNat]
def k0_cond2 (v1_1 : BitVec 32) : BitVec 1 :=
  let c1_i32_6 : BitVec 32 := 1#32
  let c5_i32 : BitVec 32 := 5#32
  let v3 : BitVec 32 := Scalar.muli v1_1 c5_i32
  let v7 : BitVec 1 := Scalar.cmpi .slt c1_i32_6 v3
  let v8 : BitVec 32 := Scalar.extui v7
  let c0_i32_8 : BitVec 32 := 0#32
  let v9 : BitVec 1 := Scalar.cmpi .ne v8 c0_i32_8
  v9

def k0_off15 : Fin 1 → Nat :=
  let c1_i32_7 : BitVec 32 := 1#32
  let c4_i32 : BitVec 32 := 4#32
  let v54 : BitVec 32 := Scalar.remsi c1_i32_7 c4_i32
  ![v54.toNat]
def k0_off16 : Fin 3 → Nat :=
  let c1_i32_7 : BitVec 32 := 1#32
  let c4_i32 : BitVec 32 := 4#32
  let v54 : BitVec 32 := Scalar.remsi c1_i32_7 c4_i32
  let c0_i32_34 : BitVec 32 := 0#32
  let c0_i32_35 : BitVec 32 := 0#32
  ![v54.toNat, 0, 0]
def k0_off17 (v41 : BitVec 32) : Fin 3 → Nat :=
  let c0_i32_36 : BitVec 32 := 0#32
  let c1_i32_7 : BitVec 32 := 1#32
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi c1_i32_7 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  let v53 : BitVec 32 := v52
  ![v41.toNat, 0, v53.toNat]

def k0_chk3 (v1_1 : BitVec 32) (v41 : BitVec 32) : Prop :=
  (∀ (k0_h2 : k0_cond2 v1_1 = 1#1), ∀ a, (k0_off14 v41) a + S1x3072x512.size a ≤ S11x3072x2560.size a) ∧
  (∀ (k0_h2 : k0_cond2 v1_1 = 1#1), ∀ (hinb : ∀ a, (k0_off14 v41) a + S1x3072x512.size a ≤ S11x3072x2560.size a), (Rect.unit (s := S11x3072x2560) (k0_off14 v41) S1x3072x512.size hinb).WholeWords (EltTy.packing .i8)) ∧
  (∀ (k0_h2 : k0_cond2 v1_1 = 1#1), ∀ a, (k0_off17 v41) a + S1x384x512.size a ≤ S11x384x2560.size a) ∧
  (∀ (k0_h2 : k0_cond2 v1_1 = 1#1), ∀ (hinb : ∀ a, (k0_off17 v41) a + S1x384x512.size a ≤ S11x384x2560.size a), (Rect.unit (s := S11x384x2560) (k0_off17 v41) S1x384x512.size hinb).WholeWords (EltTy.packing .fp8e4m3))
theorem k0_off14_inb : ∀ (v1_1 : BitVec 32) (v41 : BitVec 32) (k0_hw3 : k0_chk3 v1_1 v41), ∀ (k0_h2 : k0_cond2 v1_1 = 1#1), ∀ a, (k0_off14 v41) a + S1x3072x512.size a ≤ S11x3072x2560.size a := fun v1_1 v41 k0_hw3 k0_h2 => k0_hw3.1 k0_h2
theorem k0_off14_wordsi8 : ∀ (v1_1 : BitVec 32) (v41 : BitVec 32) (k0_hw3 : k0_chk3 v1_1 v41), ∀ (k0_h2 : k0_cond2 v1_1 = 1#1), (Rect.unit (s := S11x3072x2560) (k0_off14 v41) S1x3072x512.size (k0_off14_inb v1_1 v41 k0_hw3 k0_h2)).WholeWords (EltTy.packing .i8) := fun v1_1 v41 k0_hw3 k0_h2 => k0_hw3.2.1 k0_h2 (k0_off14_inb v1_1 v41 k0_hw3 k0_h2)
theorem k0_off17_inb : ∀ (v1_1 : BitVec 32) (v41 : BitVec 32) (k0_hw3 : k0_chk3 v1_1 v41), ∀ (k0_h2 : k0_cond2 v1_1 = 1#1), ∀ a, (k0_off17 v41) a + S1x384x512.size a ≤ S11x384x2560.size a := fun v1_1 v41 k0_hw3 k0_h2 => k0_hw3.2.2.1 k0_h2
theorem k0_off17_wordsfp8e4m3 : ∀ (v1_1 : BitVec 32) (v41 : BitVec 32) (k0_hw3 : k0_chk3 v1_1 v41), ∀ (k0_h2 : k0_cond2 v1_1 = 1#1), (Rect.unit (s := S11x384x2560) (k0_off17 v41) S1x384x512.size (k0_off17_inb v1_1 v41 k0_hw3 k0_h2)).WholeWords (EltTy.packing .fp8e4m3) := fun v1_1 v41 k0_hw3 k0_h2 => k0_hw3.2.2.2 k0_h2 (k0_off17_inb v1_1 v41 k0_hw3 k0_h2)

def k0_off18 : Fin 1 → Nat :=
  let c2_i32_9 : BitVec 32 := 2#32
  let c0_i32_19 : BitVec 32 := 0#32
  let v24 : BitVec 1 := Scalar.cmpi .sgt c2_i32_9 c0_i32_19
  let v25 : BitVec 32 := Scalar.extui v24
  let c0_i32_20 : BitVec 32 := 0#32
  let v26 : BitVec 1 := Scalar.cmpi .slt c2_i32_9 c0_i32_20
  let v27 : BitVec 32 := Scalar.extui v26
  let v28 : BitVec 32 := Scalar.subi v25 v27
  let c5_i32_18 : BitVec 32 := 5#32
  let c0_i32_21 : BitVec 32 := 0#32
  let v29 : BitVec 1 := Scalar.cmpi .sgt c5_i32_18 c0_i32_21
  let v30 : BitVec 32 := Scalar.extui v29
  let c0_i32_22 : BitVec 32 := 0#32
  let v31 : BitVec 1 := Scalar.cmpi .slt c5_i32_18 c0_i32_22
  let v32 : BitVec 32 := Scalar.extui v31
  let v33 : BitVec 32 := Scalar.subi v30 v32
  let v34 : BitVec 1 := Scalar.cmpi .ne v28 v33
  let v35 : BitVec 32 := Scalar.remsi c2_i32_9 c5_i32_18
  let c0_i32_23 : BitVec 32 := 0#32
  let v36 : BitVec 1 := Scalar.cmpi .ne v35 c0_i32_23
  let v37 : BitVec 1 := Scalar.andi v34 v36
  let v23 : BitVec 32 := Scalar.divsi c2_i32_9 c5_i32_18
  let c1_i32_24 : BitVec 32 := 1#32
  let v38 : BitVec 32 := Scalar.subi v23 c1_i32_24
  let v39 : BitVec 32 := Scalar.select v37 v38 v23
  let v40 : Index := Scalar.indexCast v39
  ![v40.toNat]
def k0_mult3 : BitVec 32 :=
  let c2_i32_9 : BitVec 32 := 2#32
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi c2_i32_9 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  v52
def k0_off19 : Fin 1 → Nat :=
  let c2_i32_9 : BitVec 32 := 2#32
  let c4_i32 : BitVec 32 := 4#32
  let v54 : BitVec 32 := Scalar.remsi c2_i32_9 c4_i32
  ![v54.toNat]
def k0_off20 : Fin 3 → Nat :=
  let c2_i32_9 : BitVec 32 := 2#32
  let c4_i32 : BitVec 32 := 4#32
  let v54 : BitVec 32 := Scalar.remsi c2_i32_9 c4_i32
  let c0_i32_31 : BitVec 32 := 0#32
  let c0_i32_32 : BitVec 32 := 0#32
  ![v54.toNat, 0, 0]
def k0_off21 (v41 : BitVec 32) : Fin 3 → Nat :=
  let c0_i32_33 : BitVec 32 := 0#32
  let c2_i32_9 : BitVec 32 := 2#32
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi c2_i32_9 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  let v53 : BitVec 32 := v52
  ![v41.toNat, 0, v53.toNat]
def k0_cond3 (v1_1 : BitVec 32) : BitVec 1 :=
  let c2_i32 : BitVec 32 := 2#32
  let c5_i32 : BitVec 32 := 5#32
  let v3 : BitVec 32 := Scalar.muli v1_1 c5_i32
  let v10 : BitVec 1 := Scalar.cmpi .slt c2_i32 v3
  let v11 : BitVec 32 := Scalar.extui v10
  let c0_i32_10 : BitVec 32 := 0#32
  let v12 : BitVec 1 := Scalar.cmpi .ne v11 c0_i32_10
  v12

def k0_off22 : Fin 1 → Nat :=
  let c2_i32_9 : BitVec 32 := 2#32
  let c4_i32 : BitVec 32 := 4#32
  let v54 : BitVec 32 := Scalar.remsi c2_i32_9 c4_i32
  ![v54.toNat]
def k0_off23 : Fin 3 → Nat :=
  let c2_i32_9 : BitVec 32 := 2#32
  let c4_i32 : BitVec 32 := 4#32
  let v54 : BitVec 32 := Scalar.remsi c2_i32_9 c4_i32
  let c0_i32_34 : BitVec 32 := 0#32
  let c0_i32_35 : BitVec 32 := 0#32
  ![v54.toNat, 0, 0]
def k0_off24 (v41 : BitVec 32) : Fin 3 → Nat :=
  let c0_i32_36 : BitVec 32 := 0#32
  let c2_i32_9 : BitVec 32 := 2#32
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi c2_i32_9 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  let v53 : BitVec 32 := v52
  ![v41.toNat, 0, v53.toNat]

def k0_chk4 (v1_1 : BitVec 32) (v41 : BitVec 32) : Prop :=
  (∀ (k0_h3 : k0_cond3 v1_1 = 1#1), ∀ a, (k0_off21 v41) a + S1x3072x512.size a ≤ S11x3072x2560.size a) ∧
  (∀ (k0_h3 : k0_cond3 v1_1 = 1#1), ∀ (hinb : ∀ a, (k0_off21 v41) a + S1x3072x512.size a ≤ S11x3072x2560.size a), (Rect.unit (s := S11x3072x2560) (k0_off21 v41) S1x3072x512.size hinb).WholeWords (EltTy.packing .i8)) ∧
  (∀ (k0_h3 : k0_cond3 v1_1 = 1#1), ∀ a, (k0_off24 v41) a + S1x384x512.size a ≤ S11x384x2560.size a) ∧
  (∀ (k0_h3 : k0_cond3 v1_1 = 1#1), ∀ (hinb : ∀ a, (k0_off24 v41) a + S1x384x512.size a ≤ S11x384x2560.size a), (Rect.unit (s := S11x384x2560) (k0_off24 v41) S1x384x512.size hinb).WholeWords (EltTy.packing .fp8e4m3))
theorem k0_off21_inb : ∀ (v1_1 : BitVec 32) (v41 : BitVec 32) (k0_hw4 : k0_chk4 v1_1 v41), ∀ (k0_h3 : k0_cond3 v1_1 = 1#1), ∀ a, (k0_off21 v41) a + S1x3072x512.size a ≤ S11x3072x2560.size a := fun v1_1 v41 k0_hw4 k0_h3 => k0_hw4.1 k0_h3
theorem k0_off21_wordsi8 : ∀ (v1_1 : BitVec 32) (v41 : BitVec 32) (k0_hw4 : k0_chk4 v1_1 v41), ∀ (k0_h3 : k0_cond3 v1_1 = 1#1), (Rect.unit (s := S11x3072x2560) (k0_off21 v41) S1x3072x512.size (k0_off21_inb v1_1 v41 k0_hw4 k0_h3)).WholeWords (EltTy.packing .i8) := fun v1_1 v41 k0_hw4 k0_h3 => k0_hw4.2.1 k0_h3 (k0_off21_inb v1_1 v41 k0_hw4 k0_h3)
theorem k0_off24_inb : ∀ (v1_1 : BitVec 32) (v41 : BitVec 32) (k0_hw4 : k0_chk4 v1_1 v41), ∀ (k0_h3 : k0_cond3 v1_1 = 1#1), ∀ a, (k0_off24 v41) a + S1x384x512.size a ≤ S11x384x2560.size a := fun v1_1 v41 k0_hw4 k0_h3 => k0_hw4.2.2.1 k0_h3
theorem k0_off24_wordsfp8e4m3 : ∀ (v1_1 : BitVec 32) (v41 : BitVec 32) (k0_hw4 : k0_chk4 v1_1 v41), ∀ (k0_h3 : k0_cond3 v1_1 = 1#1), (Rect.unit (s := S11x384x2560) (k0_off24 v41) S1x384x512.size (k0_off24_inb v1_1 v41 k0_hw4 k0_h3)).WholeWords (EltTy.packing .fp8e4m3) := fun v1_1 v41 k0_hw4 k0_h3 => k0_hw4.2.2.2 k0_h3 (k0_off24_inb v1_1 v41 k0_hw4 k0_h3)

def k0_off25 : Fin 1 → Nat :=
  let c3_i32_11 : BitVec 32 := 3#32
  let c0_i32_19 : BitVec 32 := 0#32
  let v24 : BitVec 1 := Scalar.cmpi .sgt c3_i32_11 c0_i32_19
  let v25 : BitVec 32 := Scalar.extui v24
  let c0_i32_20 : BitVec 32 := 0#32
  let v26 : BitVec 1 := Scalar.cmpi .slt c3_i32_11 c0_i32_20
  let v27 : BitVec 32 := Scalar.extui v26
  let v28 : BitVec 32 := Scalar.subi v25 v27
  let c5_i32_18 : BitVec 32 := 5#32
  let c0_i32_21 : BitVec 32 := 0#32
  let v29 : BitVec 1 := Scalar.cmpi .sgt c5_i32_18 c0_i32_21
  let v30 : BitVec 32 := Scalar.extui v29
  let c0_i32_22 : BitVec 32 := 0#32
  let v31 : BitVec 1 := Scalar.cmpi .slt c5_i32_18 c0_i32_22
  let v32 : BitVec 32 := Scalar.extui v31
  let v33 : BitVec 32 := Scalar.subi v30 v32
  let v34 : BitVec 1 := Scalar.cmpi .ne v28 v33
  let v35 : BitVec 32 := Scalar.remsi c3_i32_11 c5_i32_18
  let c0_i32_23 : BitVec 32 := 0#32
  let v36 : BitVec 1 := Scalar.cmpi .ne v35 c0_i32_23
  let v37 : BitVec 1 := Scalar.andi v34 v36
  let v23 : BitVec 32 := Scalar.divsi c3_i32_11 c5_i32_18
  let c1_i32_24 : BitVec 32 := 1#32
  let v38 : BitVec 32 := Scalar.subi v23 c1_i32_24
  let v39 : BitVec 32 := Scalar.select v37 v38 v23
  let v40 : Index := Scalar.indexCast v39
  ![v40.toNat]
def k0_mult4 : BitVec 32 :=
  let c3_i32_11 : BitVec 32 := 3#32
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi c3_i32_11 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  v52
def k0_off26 : Fin 1 → Nat :=
  let c3_i32_11 : BitVec 32 := 3#32
  let c4_i32 : BitVec 32 := 4#32
  let v54 : BitVec 32 := Scalar.remsi c3_i32_11 c4_i32
  ![v54.toNat]
def k0_off27 : Fin 3 → Nat :=
  let c3_i32_11 : BitVec 32 := 3#32
  let c4_i32 : BitVec 32 := 4#32
  let v54 : BitVec 32 := Scalar.remsi c3_i32_11 c4_i32
  let c0_i32_31 : BitVec 32 := 0#32
  let c0_i32_32 : BitVec 32 := 0#32
  ![v54.toNat, 0, 0]
def k0_off28 (v41 : BitVec 32) : Fin 3 → Nat :=
  let c0_i32_33 : BitVec 32 := 0#32
  let c3_i32_11 : BitVec 32 := 3#32
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi c3_i32_11 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  let v53 : BitVec 32 := v52
  ![v41.toNat, 0, v53.toNat]
def k0_cond4 (v1_1 : BitVec 32) : BitVec 1 :=
  let c3_i32 : BitVec 32 := 3#32
  let c5_i32 : BitVec 32 := 5#32
  let v3 : BitVec 32 := Scalar.muli v1_1 c5_i32
  let v13 : BitVec 1 := Scalar.cmpi .slt c3_i32 v3
  let v14 : BitVec 32 := Scalar.extui v13
  let c0_i32_12 : BitVec 32 := 0#32
  let v15 : BitVec 1 := Scalar.cmpi .ne v14 c0_i32_12
  v15

def k0_off29 : Fin 1 → Nat :=
  let c3_i32_11 : BitVec 32 := 3#32
  let c4_i32 : BitVec 32 := 4#32
  let v54 : BitVec 32 := Scalar.remsi c3_i32_11 c4_i32
  ![v54.toNat]
def k0_off30 : Fin 3 → Nat :=
  let c3_i32_11 : BitVec 32 := 3#32
  let c4_i32 : BitVec 32 := 4#32
  let v54 : BitVec 32 := Scalar.remsi c3_i32_11 c4_i32
  let c0_i32_34 : BitVec 32 := 0#32
  let c0_i32_35 : BitVec 32 := 0#32
  ![v54.toNat, 0, 0]
def k0_off31 (v41 : BitVec 32) : Fin 3 → Nat :=
  let c0_i32_36 : BitVec 32 := 0#32
  let c3_i32_11 : BitVec 32 := 3#32
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi c3_i32_11 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  let v53 : BitVec 32 := v52
  ![v41.toNat, 0, v53.toNat]

def k0_chk5 (v1_1 : BitVec 32) (v41 : BitVec 32) : Prop :=
  (∀ (k0_h4 : k0_cond4 v1_1 = 1#1), ∀ a, (k0_off28 v41) a + S1x3072x512.size a ≤ S11x3072x2560.size a) ∧
  (∀ (k0_h4 : k0_cond4 v1_1 = 1#1), ∀ (hinb : ∀ a, (k0_off28 v41) a + S1x3072x512.size a ≤ S11x3072x2560.size a), (Rect.unit (s := S11x3072x2560) (k0_off28 v41) S1x3072x512.size hinb).WholeWords (EltTy.packing .i8)) ∧
  (∀ (k0_h4 : k0_cond4 v1_1 = 1#1), ∀ a, (k0_off31 v41) a + S1x384x512.size a ≤ S11x384x2560.size a) ∧
  (∀ (k0_h4 : k0_cond4 v1_1 = 1#1), ∀ (hinb : ∀ a, (k0_off31 v41) a + S1x384x512.size a ≤ S11x384x2560.size a), (Rect.unit (s := S11x384x2560) (k0_off31 v41) S1x384x512.size hinb).WholeWords (EltTy.packing .fp8e4m3))
theorem k0_off28_inb : ∀ (v1_1 : BitVec 32) (v41 : BitVec 32) (k0_hw5 : k0_chk5 v1_1 v41), ∀ (k0_h4 : k0_cond4 v1_1 = 1#1), ∀ a, (k0_off28 v41) a + S1x3072x512.size a ≤ S11x3072x2560.size a := fun v1_1 v41 k0_hw5 k0_h4 => k0_hw5.1 k0_h4
theorem k0_off28_wordsi8 : ∀ (v1_1 : BitVec 32) (v41 : BitVec 32) (k0_hw5 : k0_chk5 v1_1 v41), ∀ (k0_h4 : k0_cond4 v1_1 = 1#1), (Rect.unit (s := S11x3072x2560) (k0_off28 v41) S1x3072x512.size (k0_off28_inb v1_1 v41 k0_hw5 k0_h4)).WholeWords (EltTy.packing .i8) := fun v1_1 v41 k0_hw5 k0_h4 => k0_hw5.2.1 k0_h4 (k0_off28_inb v1_1 v41 k0_hw5 k0_h4)
theorem k0_off31_inb : ∀ (v1_1 : BitVec 32) (v41 : BitVec 32) (k0_hw5 : k0_chk5 v1_1 v41), ∀ (k0_h4 : k0_cond4 v1_1 = 1#1), ∀ a, (k0_off31 v41) a + S1x384x512.size a ≤ S11x384x2560.size a := fun v1_1 v41 k0_hw5 k0_h4 => k0_hw5.2.2.1 k0_h4
theorem k0_off31_wordsfp8e4m3 : ∀ (v1_1 : BitVec 32) (v41 : BitVec 32) (k0_hw5 : k0_chk5 v1_1 v41), ∀ (k0_h4 : k0_cond4 v1_1 = 1#1), (Rect.unit (s := S11x384x2560) (k0_off31 v41) S1x384x512.size (k0_off31_inb v1_1 v41 k0_hw5 k0_h4)).WholeWords (EltTy.packing .fp8e4m3) := fun v1_1 v41 k0_hw5 k0_h4 => k0_hw5.2.2.2 k0_h4 (k0_off31_inb v1_1 v41 k0_hw5 k0_h4)

@[reducible] def k0_t2_loop (v1_1 : BitVec 32) : Scf.Loop 32 :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_16 : BitVec 32 := 1#32
  ⟨c0_i32_13, v20, c1_i32_16⟩

def k0_off32 (v1_1 : BitVec 32) (k0_t2 : Fin (k0_t2_loop v1_1).trips) : Fin 1 → Nat :=
  let c0_i32_13 : BitVec 32 := 0#32
  let c1_i32_16 : BitVec 32 := 1#32
  let arg14 : BitVec 32 := Scf.iv c0_i32_13 c1_i32_16 k0_t2
  let c0_i32_19 : BitVec 32 := 0#32
  let v24 : BitVec 1 := Scalar.cmpi .sgt arg14 c0_i32_19
  let v25 : BitVec 32 := Scalar.extui v24
  let c0_i32_20 : BitVec 32 := 0#32
  let v26 : BitVec 1 := Scalar.cmpi .slt arg14 c0_i32_20
  let v27 : BitVec 32 := Scalar.extui v26
  let v28 : BitVec 32 := Scalar.subi v25 v27
  let c5_i32_18 : BitVec 32 := 5#32
  let c0_i32_21 : BitVec 32 := 0#32
  let v29 : BitVec 1 := Scalar.cmpi .sgt c5_i32_18 c0_i32_21
  let v30 : BitVec 32 := Scalar.extui v29
  let c0_i32_22 : BitVec 32 := 0#32
  let v31 : BitVec 1 := Scalar.cmpi .slt c5_i32_18 c0_i32_22
  let v32 : BitVec 32 := Scalar.extui v31
  let v33 : BitVec 32 := Scalar.subi v30 v32
  let v34 : BitVec 1 := Scalar.cmpi .ne v28 v33
  let v35 : BitVec 32 := Scalar.remsi arg14 c5_i32_18
  let c0_i32_23 : BitVec 32 := 0#32
  let v36 : BitVec 1 := Scalar.cmpi .ne v35 c0_i32_23
  let v37 : BitVec 1 := Scalar.andi v34 v36
  let v23 : BitVec 32 := Scalar.divsi arg14 c5_i32_18
  let c1_i32_24 : BitVec 32 := 1#32
  let v38 : BitVec 32 := Scalar.subi v23 c1_i32_24
  let v39 : BitVec 32 := Scalar.select v37 v38 v23
  let v40 : Index := Scalar.indexCast v39
  ![v40.toNat]
def k0_mult5 (v1_1 : BitVec 32) (k0_t2 : Fin (k0_t2_loop v1_1).trips) : BitVec 32 :=
  let c0_i32_13 : BitVec 32 := 0#32
  let c1_i32_16 : BitVec 32 := 1#32
  let arg14 : BitVec 32 := Scf.iv c0_i32_13 c1_i32_16 k0_t2
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi arg14 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  v52
def k0_off33 (v1_1 : BitVec 32) (k0_t2 : Fin (k0_t2_loop v1_1).trips) : Fin 1 → Nat :=
  let c0_i32_13 : BitVec 32 := 0#32
  let c1_i32_16 : BitVec 32 := 1#32
  let arg14 : BitVec 32 := Scf.iv c0_i32_13 c1_i32_16 k0_t2
  let c4_i32 : BitVec 32 := 4#32
  let v54 : BitVec 32 := Scalar.remsi arg14 c4_i32
  ![v54.toNat]
def k0_off34 (v1_1 : BitVec 32) (k0_t2 : Fin (k0_t2_loop v1_1).trips) : Fin 3 → Nat :=
  let c0_i32_13 : BitVec 32 := 0#32
  let c1_i32_16 : BitVec 32 := 1#32
  let arg14 : BitVec 32 := Scf.iv c0_i32_13 c1_i32_16 k0_t2
  let c4_i32 : BitVec 32 := 4#32
  let v54 : BitVec 32 := Scalar.remsi arg14 c4_i32
  let c0_i32_31 : BitVec 32 := 0#32
  let c0_i32_32 : BitVec 32 := 0#32
  ![v54.toNat, 0, 0]
def k0_off35 (v1_1 : BitVec 32) (k0_t2 : Fin (k0_t2_loop v1_1).trips) (v41 : BitVec 32) : Fin 3 → Nat :=
  let c0_i32_33 : BitVec 32 := 0#32
  let c0_i32_13 : BitVec 32 := 0#32
  let c1_i32_16 : BitVec 32 := 1#32
  let arg14 : BitVec 32 := Scf.iv c0_i32_13 c1_i32_16 k0_t2
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi arg14 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  let v53 : BitVec 32 := v52
  ![v41.toNat, 0, v53.toNat]

def k0_off36 (v1_1 : BitVec 32) (k0_t2 : Fin (k0_t2_loop v1_1).trips) : Fin 1 → Nat :=
  let c0_i32_13 : BitVec 32 := 0#32
  let c1_i32_16 : BitVec 32 := 1#32
  let arg14 : BitVec 32 := Scf.iv c0_i32_13 c1_i32_16 k0_t2
  let c4_i32 : BitVec 32 := 4#32
  let v54 : BitVec 32 := Scalar.remsi arg14 c4_i32
  ![v54.toNat]
def k0_off37 (v1_1 : BitVec 32) (k0_t2 : Fin (k0_t2_loop v1_1).trips) : Fin 3 → Nat :=
  let c0_i32_13 : BitVec 32 := 0#32
  let c1_i32_16 : BitVec 32 := 1#32
  let arg14 : BitVec 32 := Scf.iv c0_i32_13 c1_i32_16 k0_t2
  let c4_i32 : BitVec 32 := 4#32
  let v54 : BitVec 32 := Scalar.remsi arg14 c4_i32
  let c0_i32_34 : BitVec 32 := 0#32
  let c0_i32_35 : BitVec 32 := 0#32
  ![v54.toNat, 0, 0]
def k0_off38 (v1_1 : BitVec 32) (k0_t2 : Fin (k0_t2_loop v1_1).trips) (v41 : BitVec 32) : Fin 3 → Nat :=
  let c0_i32_36 : BitVec 32 := 0#32
  let c0_i32_13 : BitVec 32 := 0#32
  let c1_i32_16 : BitVec 32 := 1#32
  let arg14 : BitVec 32 := Scf.iv c0_i32_13 c1_i32_16 k0_t2
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi arg14 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  let v53 : BitVec 32 := v52
  ![v41.toNat, 0, v53.toNat]

def k0_chk7 (v1_1 : BitVec 32) (k0_t2 : Fin (k0_t2_loop v1_1).trips) (v41 : BitVec 32) : Prop :=
  (∀ a, (k0_off35 v1_1 k0_t2 v41) a + S1x3072x512.size a ≤ S11x3072x2560.size a) ∧
  (∀ (hinb : ∀ a, (k0_off35 v1_1 k0_t2 v41) a + S1x3072x512.size a ≤ S11x3072x2560.size a), (Rect.unit (s := S11x3072x2560) (k0_off35 v1_1 k0_t2 v41) S1x3072x512.size hinb).WholeWords (EltTy.packing .i8)) ∧
  (∀ a, (k0_off38 v1_1 k0_t2 v41) a + S1x384x512.size a ≤ S11x384x2560.size a) ∧
  (∀ (hinb : ∀ a, (k0_off38 v1_1 k0_t2 v41) a + S1x384x512.size a ≤ S11x384x2560.size a), (Rect.unit (s := S11x384x2560) (k0_off38 v1_1 k0_t2 v41) S1x384x512.size hinb).WholeWords (EltTy.packing .fp8e4m3))
theorem k0_off35_inb : ∀ (v1_1 : BitVec 32) (k0_t2 : Fin (k0_t2_loop v1_1).trips) (v41 : BitVec 32) (k0_hw7 : k0_chk7 v1_1 k0_t2 v41), ∀ a, (k0_off35 v1_1 k0_t2 v41) a + S1x3072x512.size a ≤ S11x3072x2560.size a := fun v1_1 k0_t2 v41 k0_hw7 => k0_hw7.1
theorem k0_off35_wordsi8 : ∀ (v1_1 : BitVec 32) (k0_t2 : Fin (k0_t2_loop v1_1).trips) (v41 : BitVec 32) (k0_hw7 : k0_chk7 v1_1 k0_t2 v41), (Rect.unit (s := S11x3072x2560) (k0_off35 v1_1 k0_t2 v41) S1x3072x512.size (k0_off35_inb v1_1 k0_t2 v41 k0_hw7)).WholeWords (EltTy.packing .i8) := fun v1_1 k0_t2 v41 k0_hw7 => k0_hw7.2.1 (k0_off35_inb v1_1 k0_t2 v41 k0_hw7)
theorem k0_off38_inb : ∀ (v1_1 : BitVec 32) (k0_t2 : Fin (k0_t2_loop v1_1).trips) (v41 : BitVec 32) (k0_hw7 : k0_chk7 v1_1 k0_t2 v41), ∀ a, (k0_off38 v1_1 k0_t2 v41) a + S1x384x512.size a ≤ S11x384x2560.size a := fun v1_1 k0_t2 v41 k0_hw7 => k0_hw7.2.2.1
theorem k0_off38_wordsfp8e4m3 : ∀ (v1_1 : BitVec 32) (k0_t2 : Fin (k0_t2_loop v1_1).trips) (v41 : BitVec 32) (k0_hw7 : k0_chk7 v1_1 k0_t2 v41), (Rect.unit (s := S11x384x2560) (k0_off38 v1_1 k0_t2 v41) S1x384x512.size (k0_off38_inb v1_1 k0_t2 v41 k0_hw7)).WholeWords (EltTy.packing .fp8e4m3) := fun v1_1 k0_t2 v41 k0_hw7 => k0_hw7.2.2.2 (k0_off38_inb v1_1 k0_t2 v41 k0_hw7)

def k0_off39 (v1_1 : BitVec 32) (k0_t2 : Fin (k0_t2_loop v1_1).trips) : Fin 1 → Nat :=
  let c0_i32_13 : BitVec 32 := 0#32
  let c1_i32_16 : BitVec 32 := 1#32
  let arg14 : BitVec 32 := Scf.iv c0_i32_13 c1_i32_16 k0_t2
  let c0_i32_39 : BitVec 32 := 0#32
  let v69 : BitVec 1 := Scalar.cmpi .sgt arg14 c0_i32_39
  let v70 : BitVec 32 := Scalar.extui v69
  let c0_i32_40 : BitVec 32 := 0#32
  let v71 : BitVec 1 := Scalar.cmpi .slt arg14 c0_i32_40
  let v72 : BitVec 32 := Scalar.extui v71
  let v73 : BitVec 32 := Scalar.subi v70 v72
  let c5_i32_38 : BitVec 32 := 5#32
  let c0_i32_41 : BitVec 32 := 0#32
  let v74 : BitVec 1 := Scalar.cmpi .sgt c5_i32_38 c0_i32_41
  let v75 : BitVec 32 := Scalar.extui v74
  let c0_i32_42 : BitVec 32 := 0#32
  let v76 : BitVec 1 := Scalar.cmpi .slt c5_i32_38 c0_i32_42
  let v77 : BitVec 32 := Scalar.extui v76
  let v78 : BitVec 32 := Scalar.subi v75 v77
  let v79 : BitVec 1 := Scalar.cmpi .ne v73 v78
  let v80 : BitVec 32 := Scalar.remsi arg14 c5_i32_38
  let c0_i32_43 : BitVec 32 := 0#32
  let v81 : BitVec 1 := Scalar.cmpi .ne v80 c0_i32_43
  let v82 : BitVec 1 := Scalar.andi v79 v81
  let v68 : BitVec 32 := Scalar.divsi arg14 c5_i32_38
  let c1_i32_44 : BitVec 32 := 1#32
  let v83 : BitVec 32 := Scalar.subi v68 c1_i32_44
  let v84 : BitVec 32 := Scalar.select v82 v83 v68
  let v85 : Index := Scalar.indexCast v84
  ![v85.toNat]
def k0_off40 (v86 : BitVec 32) : Fin 1 → Nat :=
  let v87 : Index := Scalar.indexCast v86
  ![v87.toNat]

def k0_off41 (v86 : BitVec 32) : Fin 1 → Nat :=
  let c1_i32_45 : BitVec 32 := 1#32
  let v89 : BitVec 32 := Scalar.addi v86 c1_i32_45
  let v90 : Index := Scalar.indexCast v89
  ![v90.toNat]
def k0_off42 (v86 : BitVec 32) : Fin 1 → Nat :=
  let v92 : Index := Scalar.indexCast v86
  ![v92.toNat]

def k0_chk8 (v86 : BitVec 32) : Prop :=
  (∀ a, (k0_off40 v86) a + S1.size a ≤ S12.size a) ∧
  (∀ a, (k0_off41 v86) a + S1.size a ≤ S12.size a) ∧
  (∀ a, (k0_off42 v86) a + S1.size a ≤ S11.size a)
theorem k0_off40_inb : ∀ (v86 : BitVec 32) (k0_hw8 : k0_chk8 v86), ∀ a, (k0_off40 v86) a + S1.size a ≤ S12.size a := fun v86 k0_hw8 => k0_hw8.1
theorem k0_off41_inb : ∀ (v86 : BitVec 32) (k0_hw8 : k0_chk8 v86), ∀ a, (k0_off41 v86) a + S1.size a ≤ S12.size a := fun v86 k0_hw8 => k0_hw8.2.1
theorem k0_off42_inb : ∀ (v86 : BitVec 32) (k0_hw8 : k0_chk8 v86), ∀ a, (k0_off42 v86) a + S1.size a ≤ S11.size a := fun v86 k0_hw8 => k0_hw8.2.2

def k0_off43 (v1_1 : BitVec 32) (k0_t2 : Fin (k0_t2_loop v1_1).trips) : Fin 3 → Nat :=
  let c0_i32_13 : BitVec 32 := 0#32
  let c1_i32_16 : BitVec 32 := 1#32
  let arg14 : BitVec 32 := Scf.iv c0_i32_13 c1_i32_16 k0_t2
  let c4_i32_37 : BitVec 32 := 4#32
  let v67 : BitVec 32 := Scalar.remsi arg14 c4_i32_37
  let v99 : Index := Scalar.indexCast v67
  let c0 : Index := 0#32
  let c0_46 : Index := 0#32
  ![v99.toNat, 0, 0]
def k0_mult6 (arg16 : BitVec 32) : BitVec 32 :=
  let c896_i32 : BitVec 32 := 896#32
  let v145 : BitVec 32 := Scalar.minsi arg16 c896_i32
  v145

def k0_mult7 (v1_1 : BitVec 32) (k0_t2 : Fin (k0_t2_loop v1_1).trips) : BitVec 32 :=
  let c0_i32_13 : BitVec 32 := 0#32
  let c1_i32_16 : BitVec 32 := 1#32
  let arg14 : BitVec 32 := Scf.iv c0_i32_13 c1_i32_16 k0_t2
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi arg14 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  v158
@[reducible] def k0_t3_loop : Scf.Loop 32 :=
  let c0_i32_73 : BitVec 32 := 0#32
  let c24_i32 : BitVec 32 := 24#32
  let v161 : BitVec 32 := Scalar.addi c0_i32_73 c24_i32
  let c1_i32_74 : BitVec 32 := 1#32
  ⟨c0_i32_73, v161, c1_i32_74⟩
def k0_mult8 (k0_t3 : Fin k0_t3_loop.trips) : BitVec 32 :=
  let c0_i32_73 : BitVec 32 := 0#32
  let c1_i32_74 : BitVec 32 := 1#32
  let arg17 : BitVec 32 := Scf.iv c0_i32_73 c1_i32_74 k0_t3
  let c128_i32_76 : BitVec 32 := 128#32
  let v181 : BitVec 32 := Scalar.muli arg17 c128_i32_76
  v181
def k0_off44 (v1_1 : BitVec 32) (k0_t2 : Fin (k0_t2_loop v1_1).trips) (k0_t3 : Fin k0_t3_loop.trips) : Fin 3 → Nat :=
  let c0_i32_13 : BitVec 32 := 0#32
  let c1_i32_16 : BitVec 32 := 1#32
  let arg14 : BitVec 32 := Scf.iv c0_i32_13 c1_i32_16 k0_t2
  let c4_i32_65 : BitVec 32 := 4#32
  let v147 : BitVec 32 := Scalar.remsi arg14 c4_i32_65
  let v183 : Index := Scalar.indexCast v147
  let c0_i32_73 : BitVec 32 := 0#32
  let c1_i32_74 : BitVec 32 := 1#32
  let arg17 : BitVec 32 := Scf.iv c0_i32_73 c1_i32_74 k0_t3
  let c128_i32_76 : BitVec 32 := 128#32
  let v181 : BitVec 32 := Scalar.muli arg17 c128_i32_76
  let v182 : BitVec 32 := v181
  let v184 : Index := Scalar.indexCast v182
  let c0_77 : Index := 0#32
  ![v183.toNat, v184.toNat, 0]
def k0_off45 (k0_t3 : Fin k0_t3_loop.trips) (c0_i32_125 : BitVec 32) : Fin 2 → Nat :=
  let c0_i32_73 : BitVec 32 := 0#32
  let c1_i32_74 : BitVec 32 := 1#32
  let arg17 : BitVec 32 := Scf.iv c0_i32_73 c1_i32_74 k0_t3
  let c16_i32_124 : BitVec 32 := 16#32
  let v293 : BitVec 32 := Scalar.muli arg17 c16_i32_124
  let v294 : BitVec 32 := Scalar.addi v293 c0_i32_125
  let v295 : Index := Scalar.indexCast v294
  let c0_126 : Index := 0#32
  ![v295.toNat, 0]
def k0_mult9 (k0_t3 : Fin k0_t3_loop.trips) : BitVec 32 :=
  let c0_i32_73 : BitVec 32 := 0#32
  let c1_i32_74 : BitVec 32 := 1#32
  let arg17 : BitVec 32 := Scf.iv c0_i32_73 c1_i32_74 k0_t3
  let c256_i32 : BitVec 32 := 256#32
  let v438 : BitVec 32 := Scalar.muli arg17 c256_i32
  v438
def k0_off46 (arg16 : BitVec 32) (k0_t3 : Fin k0_t3_loop.trips) : Fin 2 → Nat :=
  let c896_i32 : BitVec 32 := 896#32
  let v145 : BitVec 32 := Scalar.minsi arg16 c896_i32
  let v146 : BitVec 32 := v145
  let v440 : Index := Scalar.indexCast v146
  let c0_i32_73 : BitVec 32 := 0#32
  let c1_i32_74 : BitVec 32 := 1#32
  let arg17 : BitVec 32 := Scf.iv c0_i32_73 c1_i32_74 k0_t3
  let c256_i32 : BitVec 32 := 256#32
  let v438 : BitVec 32 := Scalar.muli arg17 c256_i32
  let v439 : BitVec 32 := v438
  let v441 : Index := Scalar.indexCast v439
  ![v440.toNat, v441.toNat]
def k0_off47 (v1_1 : BitVec 32) (k0_t2 : Fin (k0_t2_loop v1_1).trips) (arg16 : BitVec 32) : Fin 2 → Nat :=
  let c896_i32 : BitVec 32 := 896#32
  let v145 : BitVec 32 := Scalar.minsi arg16 c896_i32
  let v146 : BitVec 32 := v145
  let v173 : Index := Scalar.indexCast v146
  let c0_i32_13 : BitVec 32 := 0#32
  let c1_i32_16 : BitVec 32 := 1#32
  let arg14 : BitVec 32 := Scf.iv c0_i32_13 c1_i32_16 k0_t2
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi arg14 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  let v159 : BitVec 32 := v158
  let v174 : Index := Scalar.indexCast v159
  ![v173.toNat, v174.toNat]
def k0_mult10 (arg16 : BitVec 32) : BitVec 32 :=
  let c832_i32 : BitVec 32 := 832#32
  let v145 : BitVec 32 := Scalar.minsi arg16 c832_i32
  v145
def k0_mult11 (v1_1 : BitVec 32) (k0_t2 : Fin (k0_t2_loop v1_1).trips) : BitVec 32 :=
  let c0_i32_13 : BitVec 32 := 0#32
  let c1_i32_16 : BitVec 32 := 1#32
  let arg14 : BitVec 32 := Scf.iv c0_i32_13 c1_i32_16 k0_t2
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi arg14 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  v158
@[reducible] def k0_t4_loop : Scf.Loop 32 :=
  let c0_i32_73 : BitVec 32 := 0#32
  let c24_i32 : BitVec 32 := 24#32
  let v161 : BitVec 32 := Scalar.addi c0_i32_73 c24_i32
  let c1_i32_74 : BitVec 32 := 1#32
  ⟨c0_i32_73, v161, c1_i32_74⟩
def k0_mult12 (k0_t4 : Fin k0_t4_loop.trips) : BitVec 32 :=
  let c0_i32_73 : BitVec 32 := 0#32
  let c1_i32_74 : BitVec 32 := 1#32
  let arg17 : BitVec 32 := Scf.iv c0_i32_73 c1_i32_74 k0_t4
  let c128_i32_76 : BitVec 32 := 128#32
  let v181 : BitVec 32 := Scalar.muli arg17 c128_i32_76
  v181
def k0_off48 (v1_1 : BitVec 32) (k0_t2 : Fin (k0_t2_loop v1_1).trips) (k0_t4 : Fin k0_t4_loop.trips) : Fin 3 → Nat :=
  let c0_i32_13 : BitVec 32 := 0#32
  let c1_i32_16 : BitVec 32 := 1#32
  let arg14 : BitVec 32 := Scf.iv c0_i32_13 c1_i32_16 k0_t2
  let c4_i32_65 : BitVec 32 := 4#32
  let v147 : BitVec 32 := Scalar.remsi arg14 c4_i32_65
  let v183 : Index := Scalar.indexCast v147
  let c0_i32_73 : BitVec 32 := 0#32
  let c1_i32_74 : BitVec 32 := 1#32
  let arg17 : BitVec 32 := Scf.iv c0_i32_73 c1_i32_74 k0_t4
  let c128_i32_76 : BitVec 32 := 128#32
  let v181 : BitVec 32 := Scalar.muli arg17 c128_i32_76
  let v182 : BitVec 32 := v181
  let v184 : Index := Scalar.indexCast v182
  let c0_77 : Index := 0#32
  ![v183.toNat, v184.toNat, 0]
def k0_off49 (k0_t4 : Fin k0_t4_loop.trips) (c0_i32_125 : BitVec 32) : Fin 2 → Nat :=
  let c0_i32_73 : BitVec 32 := 0#32
  let c1_i32_74 : BitVec 32 := 1#32
  let arg17 : BitVec 32 := Scf.iv c0_i32_73 c1_i32_74 k0_t4
  let c16_i32_124 : BitVec 32 := 16#32
  let v293 : BitVec 32 := Scalar.muli arg17 c16_i32_124
  let v294 : BitVec 32 := Scalar.addi v293 c0_i32_125
  let v295 : Index := Scalar.indexCast v294
  let c0_126 : Index := 0#32
  ![v295.toNat, 0]
def k0_mult13 (k0_t4 : Fin k0_t4_loop.trips) : BitVec 32 :=
  let c0_i32_73 : BitVec 32 := 0#32
  let c1_i32_74 : BitVec 32 := 1#32
  let arg17 : BitVec 32 := Scf.iv c0_i32_73 c1_i32_74 k0_t4
  let c256_i32 : BitVec 32 := 256#32
  let v438 : BitVec 32 := Scalar.muli arg17 c256_i32
  v438
def k0_off50 (arg16 : BitVec 32) (k0_t4 : Fin k0_t4_loop.trips) : Fin 2 → Nat :=
  let c832_i32 : BitVec 32 := 832#32
  let v145 : BitVec 32 := Scalar.minsi arg16 c832_i32
  let v146 : BitVec 32 := v145
  let v440 : Index := Scalar.indexCast v146
  let c0_i32_73 : BitVec 32 := 0#32
  let c1_i32_74 : BitVec 32 := 1#32
  let arg17 : BitVec 32 := Scf.iv c0_i32_73 c1_i32_74 k0_t4
  let c256_i32 : BitVec 32 := 256#32
  let v438 : BitVec 32 := Scalar.muli arg17 c256_i32
  let v439 : BitVec 32 := v438
  let v441 : Index := Scalar.indexCast v439
  ![v440.toNat, v441.toNat]
def k0_off51 (v1_1 : BitVec 32) (k0_t2 : Fin (k0_t2_loop v1_1).trips) (arg16 : BitVec 32) : Fin 2 → Nat :=
  let c832_i32 : BitVec 32 := 832#32
  let v145 : BitVec 32 := Scalar.minsi arg16 c832_i32
  let v146 : BitVec 32 := v145
  let v173 : Index := Scalar.indexCast v146
  let c0_i32_13 : BitVec 32 := 0#32
  let c1_i32_16 : BitVec 32 := 1#32
  let arg14 : BitVec 32 := Scf.iv c0_i32_13 c1_i32_16 k0_t2
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi arg14 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  let v159 : BitVec 32 := v158
  let v174 : Index := Scalar.indexCast v159
  ![v173.toNat, v174.toNat]
def k0_mult14 (arg16 : BitVec 32) : BitVec 32 :=
  let c752_i32 : BitVec 32 := 752#32
  let v145 : BitVec 32 := Scalar.minsi arg16 c752_i32
  v145
def k0_mult15 (v1_1 : BitVec 32) (k0_t2 : Fin (k0_t2_loop v1_1).trips) : BitVec 32 :=
  let c0_i32_13 : BitVec 32 := 0#32
  let c1_i32_16 : BitVec 32 := 1#32
  let arg14 : BitVec 32 := Scf.iv c0_i32_13 c1_i32_16 k0_t2
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi arg14 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  v158
@[reducible] def k0_t5_loop : Scf.Loop 32 :=
  let c0_i32_73 : BitVec 32 := 0#32
  let c24_i32 : BitVec 32 := 24#32
  let v161 : BitVec 32 := Scalar.addi c0_i32_73 c24_i32
  let c1_i32_74 : BitVec 32 := 1#32
  ⟨c0_i32_73, v161, c1_i32_74⟩
def k0_mult16 (k0_t5 : Fin k0_t5_loop.trips) : BitVec 32 :=
  let c0_i32_73 : BitVec 32 := 0#32
  let c1_i32_74 : BitVec 32 := 1#32
  let arg17 : BitVec 32 := Scf.iv c0_i32_73 c1_i32_74 k0_t5
  let c128_i32_76 : BitVec 32 := 128#32
  let v181 : BitVec 32 := Scalar.muli arg17 c128_i32_76
  v181
def k0_off52 (v1_1 : BitVec 32) (k0_t2 : Fin (k0_t2_loop v1_1).trips) (k0_t5 : Fin k0_t5_loop.trips) : Fin 3 → Nat :=
  let c0_i32_13 : BitVec 32 := 0#32
  let c1_i32_16 : BitVec 32 := 1#32
  let arg14 : BitVec 32 := Scf.iv c0_i32_13 c1_i32_16 k0_t2
  let c4_i32_65 : BitVec 32 := 4#32
  let v147 : BitVec 32 := Scalar.remsi arg14 c4_i32_65
  let v183 : Index := Scalar.indexCast v147
  let c0_i32_73 : BitVec 32 := 0#32
  let c1_i32_74 : BitVec 32 := 1#32
  let arg17 : BitVec 32 := Scf.iv c0_i32_73 c1_i32_74 k0_t5
  let c128_i32_76 : BitVec 32 := 128#32
  let v181 : BitVec 32 := Scalar.muli arg17 c128_i32_76
  let v182 : BitVec 32 := v181
  let v184 : Index := Scalar.indexCast v182
  let c0_77 : Index := 0#32
  ![v183.toNat, v184.toNat, 0]
def k0_off53 (k0_t5 : Fin k0_t5_loop.trips) (c0_i32_125 : BitVec 32) : Fin 2 → Nat :=
  let c0_i32_73 : BitVec 32 := 0#32
  let c1_i32_74 : BitVec 32 := 1#32
  let arg17 : BitVec 32 := Scf.iv c0_i32_73 c1_i32_74 k0_t5
  let c16_i32_124 : BitVec 32 := 16#32
  let v293 : BitVec 32 := Scalar.muli arg17 c16_i32_124
  let v294 : BitVec 32 := Scalar.addi v293 c0_i32_125
  let v295 : Index := Scalar.indexCast v294
  let c0_126 : Index := 0#32
  ![v295.toNat, 0]
def k0_mult17 (k0_t5 : Fin k0_t5_loop.trips) : BitVec 32 :=
  let c0_i32_73 : BitVec 32 := 0#32
  let c1_i32_74 : BitVec 32 := 1#32
  let arg17 : BitVec 32 := Scf.iv c0_i32_73 c1_i32_74 k0_t5
  let c256_i32 : BitVec 32 := 256#32
  let v438 : BitVec 32 := Scalar.muli arg17 c256_i32
  v438
def k0_off54 (arg16 : BitVec 32) (k0_t5 : Fin k0_t5_loop.trips) : Fin 2 → Nat :=
  let c752_i32 : BitVec 32 := 752#32
  let v145 : BitVec 32 := Scalar.minsi arg16 c752_i32
  let v146 : BitVec 32 := v145
  let v440 : Index := Scalar.indexCast v146
  let c0_i32_73 : BitVec 32 := 0#32
  let c1_i32_74 : BitVec 32 := 1#32
  let arg17 : BitVec 32 := Scf.iv c0_i32_73 c1_i32_74 k0_t5
  let c256_i32 : BitVec 32 := 256#32
  let v438 : BitVec 32 := Scalar.muli arg17 c256_i32
  let v439 : BitVec 32 := v438
  let v441 : Index := Scalar.indexCast v439
  ![v440.toNat, v441.toNat]
def k0_off55 (v1_1 : BitVec 32) (k0_t2 : Fin (k0_t2_loop v1_1).trips) (arg16 : BitVec 32) : Fin 2 → Nat :=
  let c752_i32 : BitVec 32 := 752#32
  let v145 : BitVec 32 := Scalar.minsi arg16 c752_i32
  let v146 : BitVec 32 := v145
  let v173 : Index := Scalar.indexCast v146
  let c0_i32_13 : BitVec 32 := 0#32
  let c1_i32_16 : BitVec 32 := 1#32
  let arg14 : BitVec 32 := Scf.iv c0_i32_13 c1_i32_16 k0_t2
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi arg14 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  let v159 : BitVec 32 := v158
  let v174 : Index := Scalar.indexCast v159
  ![v173.toNat, v174.toNat]

def k0_chk9 (v1_1 : BitVec 32) (k0_t2 : Fin (k0_t2_loop v1_1).trips) (arg16 : BitVec 32) : Prop :=
  (16 ∣ (k0_mult6 arg16).toNat) ∧
  (∀ k0_t3 : Fin k0_t3_loop.trips, ∀ a, (k0_off46 arg16 k0_t3) a + S128x256.size a ≤ S1024x6144.size a) ∧
  (∀ a, (k0_off47 v1_1 k0_t2 arg16) a + S128x512.size a ≤ S1024x2560.size a) ∧
  (16 ∣ (k0_mult10 arg16).toNat) ∧
  (∀ k0_t4 : Fin k0_t4_loop.trips, ∀ a, (k0_off50 arg16 k0_t4) a + S192x256.size a ≤ S1024x6144.size a) ∧
  (∀ a, (k0_off51 v1_1 k0_t2 arg16) a + S192x512.size a ≤ S1024x2560.size a) ∧
  (16 ∣ (k0_mult14 arg16).toNat) ∧
  (∀ k0_t5 : Fin k0_t5_loop.trips, ∀ a, (k0_off54 arg16 k0_t5) a + S272x256.size a ≤ S1024x6144.size a) ∧
  (∀ a, (k0_off55 v1_1 k0_t2 arg16) a + S272x512.size a ≤ S1024x2560.size a)
theorem k0_mult6_dvd : ∀ (v1_1 : BitVec 32) (k0_t2 : Fin (k0_t2_loop v1_1).trips) (arg16 : BitVec 32) (k0_hw9 : k0_chk9 v1_1 k0_t2 arg16), 16 ∣ (k0_mult6 arg16).toNat := fun v1_1 k0_t2 arg16 k0_hw9 => k0_hw9.1
theorem k0_off46_inb : ∀ (v1_1 : BitVec 32) (k0_t2 : Fin (k0_t2_loop v1_1).trips) (arg16 : BitVec 32) (k0_hw9 : k0_chk9 v1_1 k0_t2 arg16) (k0_t3 : Fin k0_t3_loop.trips), ∀ a, (k0_off46 arg16 k0_t3) a + S128x256.size a ≤ S1024x6144.size a := fun v1_1 k0_t2 arg16 k0_hw9 k0_t3 => k0_hw9.2.1 k0_t3
theorem k0_off47_inb : ∀ (v1_1 : BitVec 32) (k0_t2 : Fin (k0_t2_loop v1_1).trips) (arg16 : BitVec 32) (k0_hw9 : k0_chk9 v1_1 k0_t2 arg16), ∀ a, (k0_off47 v1_1 k0_t2 arg16) a + S128x512.size a ≤ S1024x2560.size a := fun v1_1 k0_t2 arg16 k0_hw9 => k0_hw9.2.2.1
theorem k0_mult10_dvd : ∀ (v1_1 : BitVec 32) (k0_t2 : Fin (k0_t2_loop v1_1).trips) (arg16 : BitVec 32) (k0_hw9 : k0_chk9 v1_1 k0_t2 arg16), 16 ∣ (k0_mult10 arg16).toNat := fun v1_1 k0_t2 arg16 k0_hw9 => k0_hw9.2.2.2.1
theorem k0_off50_inb : ∀ (v1_1 : BitVec 32) (k0_t2 : Fin (k0_t2_loop v1_1).trips) (arg16 : BitVec 32) (k0_hw9 : k0_chk9 v1_1 k0_t2 arg16) (k0_t4 : Fin k0_t4_loop.trips), ∀ a, (k0_off50 arg16 k0_t4) a + S192x256.size a ≤ S1024x6144.size a := fun v1_1 k0_t2 arg16 k0_hw9 k0_t4 => k0_hw9.2.2.2.2.1 k0_t4
theorem k0_off51_inb : ∀ (v1_1 : BitVec 32) (k0_t2 : Fin (k0_t2_loop v1_1).trips) (arg16 : BitVec 32) (k0_hw9 : k0_chk9 v1_1 k0_t2 arg16), ∀ a, (k0_off51 v1_1 k0_t2 arg16) a + S192x512.size a ≤ S1024x2560.size a := fun v1_1 k0_t2 arg16 k0_hw9 => k0_hw9.2.2.2.2.2.1
theorem k0_mult14_dvd : ∀ (v1_1 : BitVec 32) (k0_t2 : Fin (k0_t2_loop v1_1).trips) (arg16 : BitVec 32) (k0_hw9 : k0_chk9 v1_1 k0_t2 arg16), 16 ∣ (k0_mult14 arg16).toNat := fun v1_1 k0_t2 arg16 k0_hw9 => k0_hw9.2.2.2.2.2.2.1
theorem k0_off54_inb : ∀ (v1_1 : BitVec 32) (k0_t2 : Fin (k0_t2_loop v1_1).trips) (arg16 : BitVec 32) (k0_hw9 : k0_chk9 v1_1 k0_t2 arg16) (k0_t5 : Fin k0_t5_loop.trips), ∀ a, (k0_off54 arg16 k0_t5) a + S272x256.size a ≤ S1024x6144.size a := fun v1_1 k0_t2 arg16 k0_hw9 k0_t5 => k0_hw9.2.2.2.2.2.2.2.1 k0_t5
theorem k0_off55_inb : ∀ (v1_1 : BitVec 32) (k0_t2 : Fin (k0_t2_loop v1_1).trips) (arg16 : BitVec 32) (k0_hw9 : k0_chk9 v1_1 k0_t2 arg16), ∀ a, (k0_off55 v1_1 k0_t2 arg16) a + S272x512.size a ≤ S1024x2560.size a := fun v1_1 k0_t2 arg16 k0_hw9 => k0_hw9.2.2.2.2.2.2.2.2

def k0_off56 (v1_1 : BitVec 32) (k0_t2 : Fin (k0_t2_loop v1_1).trips) : Fin 1 → Nat :=
  let c0_i32_13 : BitVec 32 := 0#32
  let c1_i32_16 : BitVec 32 := 1#32
  let arg14 : BitVec 32 := Scf.iv c0_i32_13 c1_i32_16 k0_t2
  let c4_i32_56 : BitVec 32 := 4#32
  let v125 : BitVec 32 := Scalar.addi arg14 c4_i32_56
  let c0_i32_60 : BitVec 32 := 0#32
  let v130 : BitVec 1 := Scalar.cmpi .sgt v125 c0_i32_60
  let v131 : BitVec 32 := Scalar.extui v130
  let c0_i32_61 : BitVec 32 := 0#32
  let v132 : BitVec 1 := Scalar.cmpi .slt v125 c0_i32_61
  let v133 : BitVec 32 := Scalar.extui v132
  let v134 : BitVec 32 := Scalar.subi v131 v133
  let c5_i32_59 : BitVec 32 := 5#32
  let c0_i32_62 : BitVec 32 := 0#32
  let v135 : BitVec 1 := Scalar.cmpi .sgt c5_i32_59 c0_i32_62
  let v136 : BitVec 32 := Scalar.extui v135
  let c0_i32_63 : BitVec 32 := 0#32
  let v137 : BitVec 1 := Scalar.cmpi .slt c5_i32_59 c0_i32_63
  let v138 : BitVec 32 := Scalar.extui v137
  let v139 : BitVec 32 := Scalar.subi v136 v138
  let v140 : BitVec 1 := Scalar.cmpi .ne v134 v139
  let v141 : BitVec 32 := Scalar.remsi v125 c5_i32_59
  let c0_i32_64 : BitVec 32 := 0#32
  let v142 : BitVec 1 := Scalar.cmpi .ne v141 c0_i32_64
  let v143 : BitVec 1 := Scalar.andi v140 v142
  let v129 : BitVec 32 := Scalar.divsi v125 c5_i32_59
  let c1_i32_65 : BitVec 32 := 1#32
  let v144 : BitVec 32 := Scalar.subi v129 c1_i32_65
  let v145 : BitVec 32 := Scalar.select v143 v144 v129
  let v146 : Index := Scalar.indexCast v145
  ![v146.toNat]
def k0_cond5 (v1_1 : BitVec 32) (k0_t2 : Fin (k0_t2_loop v1_1).trips) : BitVec 1 :=
  let c0_i32_13 : BitVec 32 := 0#32
  let c1_i32_16 : BitVec 32 := 1#32
  let arg14 : BitVec 32 := Scf.iv c0_i32_13 c1_i32_16 k0_t2
  let c4_i32_56 : BitVec 32 := 4#32
  let v125 : BitVec 32 := Scalar.addi arg14 c4_i32_56
  let c5_i32 : BitVec 32 := 5#32
  let v3 : BitVec 32 := Scalar.muli v1_1 c5_i32
  let v126 : BitVec 1 := Scalar.cmpi .slt v125 v3
  let v127 : BitVec 32 := Scalar.extui v126
  let c0_i32_57 : BitVec 32 := 0#32
  let v128 : BitVec 1 := Scalar.cmpi .ne v127 c0_i32_57
  v128

def k0_mult18 (v1_1 : BitVec 32) (k0_t2 : Fin (k0_t2_loop v1_1).trips) : BitVec 32 :=
  let c0_i32_13 : BitVec 32 := 0#32
  let c1_i32_16 : BitVec 32 := 1#32
  let arg14 : BitVec 32 := Scf.iv c0_i32_13 c1_i32_16 k0_t2
  let c4_i32_56 : BitVec 32 := 4#32
  let v125 : BitVec 32 := Scalar.addi arg14 c4_i32_56
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi v125 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  v158
def k0_off57 (v1_1 : BitVec 32) (k0_t2 : Fin (k0_t2_loop v1_1).trips) : Fin 1 → Nat :=
  let c0_i32_13 : BitVec 32 := 0#32
  let c1_i32_16 : BitVec 32 := 1#32
  let arg14 : BitVec 32 := Scf.iv c0_i32_13 c1_i32_16 k0_t2
  let c4_i32_56 : BitVec 32 := 4#32
  let v125 : BitVec 32 := Scalar.addi arg14 c4_i32_56
  let c4_i32_73 : BitVec 32 := 4#32
  let v160 : BitVec 32 := Scalar.remsi v125 c4_i32_73
  ![v160.toNat]
def k0_off58 (v1_1 : BitVec 32) (k0_t2 : Fin (k0_t2_loop v1_1).trips) : Fin 3 → Nat :=
  let c0_i32_13 : BitVec 32 := 0#32
  let c1_i32_16 : BitVec 32 := 1#32
  let arg14 : BitVec 32 := Scf.iv c0_i32_13 c1_i32_16 k0_t2
  let c4_i32_56 : BitVec 32 := 4#32
  let v125 : BitVec 32 := Scalar.addi arg14 c4_i32_56
  let c4_i32_73 : BitVec 32 := 4#32
  let v160 : BitVec 32 := Scalar.remsi v125 c4_i32_73
  let c0_i32_74 : BitVec 32 := 0#32
  let c0_i32_75 : BitVec 32 := 0#32
  ![v160.toNat, 0, 0]
def k0_off59 (v1_1 : BitVec 32) (k0_t2 : Fin (k0_t2_loop v1_1).trips) (v147 : BitVec 32) : Fin 3 → Nat :=
  let c0_i32_76 : BitVec 32 := 0#32
  let c0_i32_13 : BitVec 32 := 0#32
  let c1_i32_16 : BitVec 32 := 1#32
  let arg14 : BitVec 32 := Scf.iv c0_i32_13 c1_i32_16 k0_t2
  let c4_i32_56 : BitVec 32 := 4#32
  let v125 : BitVec 32 := Scalar.addi arg14 c4_i32_56
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi v125 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  let v159 : BitVec 32 := v158
  ![v147.toNat, 0, v159.toNat]

def k0_off60 (v1_1 : BitVec 32) (k0_t2 : Fin (k0_t2_loop v1_1).trips) : Fin 1 → Nat :=
  let c0_i32_13 : BitVec 32 := 0#32
  let c1_i32_16 : BitVec 32 := 1#32
  let arg14 : BitVec 32 := Scf.iv c0_i32_13 c1_i32_16 k0_t2
  let c4_i32_56 : BitVec 32 := 4#32
  let v125 : BitVec 32 := Scalar.addi arg14 c4_i32_56
  let c4_i32_73 : BitVec 32 := 4#32
  let v160 : BitVec 32 := Scalar.remsi v125 c4_i32_73
  ![v160.toNat]
def k0_off61 (v1_1 : BitVec 32) (k0_t2 : Fin (k0_t2_loop v1_1).trips) : Fin 3 → Nat :=
  let c0_i32_13 : BitVec 32 := 0#32
  let c1_i32_16 : BitVec 32 := 1#32
  let arg14 : BitVec 32 := Scf.iv c0_i32_13 c1_i32_16 k0_t2
  let c4_i32_56 : BitVec 32 := 4#32
  let v125 : BitVec 32 := Scalar.addi arg14 c4_i32_56
  let c4_i32_73 : BitVec 32 := 4#32
  let v160 : BitVec 32 := Scalar.remsi v125 c4_i32_73
  let c0_i32_77 : BitVec 32 := 0#32
  let c0_i32_78 : BitVec 32 := 0#32
  ![v160.toNat, 0, 0]
def k0_off62 (v1_1 : BitVec 32) (k0_t2 : Fin (k0_t2_loop v1_1).trips) (v147 : BitVec 32) : Fin 3 → Nat :=
  let c0_i32_79 : BitVec 32 := 0#32
  let c0_i32_13 : BitVec 32 := 0#32
  let c1_i32_16 : BitVec 32 := 1#32
  let arg14 : BitVec 32 := Scf.iv c0_i32_13 c1_i32_16 k0_t2
  let c4_i32_56 : BitVec 32 := 4#32
  let v125 : BitVec 32 := Scalar.addi arg14 c4_i32_56
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi v125 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  let v159 : BitVec 32 := v158
  ![v147.toNat, 0, v159.toNat]

def k0_chk10 (v1_1 : BitVec 32) (k0_t2 : Fin (k0_t2_loop v1_1).trips) (v147 : BitVec 32) : Prop :=
  (∀ (k0_h5 : k0_cond5 v1_1 k0_t2 = 1#1), ∀ a, (k0_off59 v1_1 k0_t2 v147) a + S1x3072x512.size a ≤ S11x3072x2560.size a) ∧
  (∀ (k0_h5 : k0_cond5 v1_1 k0_t2 = 1#1), ∀ (hinb : ∀ a, (k0_off59 v1_1 k0_t2 v147) a + S1x3072x512.size a ≤ S11x3072x2560.size a), (Rect.unit (s := S11x3072x2560) (k0_off59 v1_1 k0_t2 v147) S1x3072x512.size hinb).WholeWords (EltTy.packing .i8)) ∧
  (∀ (k0_h5 : k0_cond5 v1_1 k0_t2 = 1#1), ∀ a, (k0_off62 v1_1 k0_t2 v147) a + S1x384x512.size a ≤ S11x384x2560.size a) ∧
  (∀ (k0_h5 : k0_cond5 v1_1 k0_t2 = 1#1), ∀ (hinb : ∀ a, (k0_off62 v1_1 k0_t2 v147) a + S1x384x512.size a ≤ S11x384x2560.size a), (Rect.unit (s := S11x384x2560) (k0_off62 v1_1 k0_t2 v147) S1x384x512.size hinb).WholeWords (EltTy.packing .fp8e4m3))
theorem k0_off59_inb : ∀ (v1_1 : BitVec 32) (k0_t2 : Fin (k0_t2_loop v1_1).trips) (v147 : BitVec 32) (k0_hw10 : k0_chk10 v1_1 k0_t2 v147), ∀ (k0_h5 : k0_cond5 v1_1 k0_t2 = 1#1), ∀ a, (k0_off59 v1_1 k0_t2 v147) a + S1x3072x512.size a ≤ S11x3072x2560.size a := fun v1_1 k0_t2 v147 k0_hw10 k0_h5 => k0_hw10.1 k0_h5
theorem k0_off59_wordsi8 : ∀ (v1_1 : BitVec 32) (k0_t2 : Fin (k0_t2_loop v1_1).trips) (v147 : BitVec 32) (k0_hw10 : k0_chk10 v1_1 k0_t2 v147), ∀ (k0_h5 : k0_cond5 v1_1 k0_t2 = 1#1), (Rect.unit (s := S11x3072x2560) (k0_off59 v1_1 k0_t2 v147) S1x3072x512.size (k0_off59_inb v1_1 k0_t2 v147 k0_hw10 k0_h5)).WholeWords (EltTy.packing .i8) := fun v1_1 k0_t2 v147 k0_hw10 k0_h5 => k0_hw10.2.1 k0_h5 (k0_off59_inb v1_1 k0_t2 v147 k0_hw10 k0_h5)
theorem k0_off62_inb : ∀ (v1_1 : BitVec 32) (k0_t2 : Fin (k0_t2_loop v1_1).trips) (v147 : BitVec 32) (k0_hw10 : k0_chk10 v1_1 k0_t2 v147), ∀ (k0_h5 : k0_cond5 v1_1 k0_t2 = 1#1), ∀ a, (k0_off62 v1_1 k0_t2 v147) a + S1x384x512.size a ≤ S11x384x2560.size a := fun v1_1 k0_t2 v147 k0_hw10 k0_h5 => k0_hw10.2.2.1 k0_h5
theorem k0_off62_wordsfp8e4m3 : ∀ (v1_1 : BitVec 32) (k0_t2 : Fin (k0_t2_loop v1_1).trips) (v147 : BitVec 32) (k0_hw10 : k0_chk10 v1_1 k0_t2 v147), ∀ (k0_h5 : k0_cond5 v1_1 k0_t2 = 1#1), (Rect.unit (s := S11x384x2560) (k0_off62 v1_1 k0_t2 v147) S1x384x512.size (k0_off62_inb v1_1 k0_t2 v147 k0_hw10 k0_h5)).WholeWords (EltTy.packing .fp8e4m3) := fun v1_1 k0_t2 v147 k0_hw10 k0_h5 => k0_hw10.2.2.2 k0_h5 (k0_off62_inb v1_1 k0_t2 v147 k0_hw10 k0_h5)

@[reducible] def k0_t6_loop (v1_1 : BitVec 32) : Scf.Loop 32 :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let v17 : BitVec 32 := Scalar.addi c0_i32_13 v16
  let c1_i32_17 : BitVec 32 := 1#32
  ⟨v20, v17, c1_i32_17⟩
def k0_off63 (v1_1 : BitVec 32) (k0_t6 : Fin (k0_t6_loop v1_1).trips) : Fin 1 → Nat :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c0_i32_19 : BitVec 32 := 0#32
  let v24 : BitVec 1 := Scalar.cmpi .sgt arg14 c0_i32_19
  let v25 : BitVec 32 := Scalar.extui v24
  let c0_i32_20 : BitVec 32 := 0#32
  let v26 : BitVec 1 := Scalar.cmpi .slt arg14 c0_i32_20
  let v27 : BitVec 32 := Scalar.extui v26
  let v28 : BitVec 32 := Scalar.subi v25 v27
  let c5_i32_18 : BitVec 32 := 5#32
  let c0_i32_21 : BitVec 32 := 0#32
  let v29 : BitVec 1 := Scalar.cmpi .sgt c5_i32_18 c0_i32_21
  let v30 : BitVec 32 := Scalar.extui v29
  let c0_i32_22 : BitVec 32 := 0#32
  let v31 : BitVec 1 := Scalar.cmpi .slt c5_i32_18 c0_i32_22
  let v32 : BitVec 32 := Scalar.extui v31
  let v33 : BitVec 32 := Scalar.subi v30 v32
  let v34 : BitVec 1 := Scalar.cmpi .ne v28 v33
  let v35 : BitVec 32 := Scalar.remsi arg14 c5_i32_18
  let c0_i32_23 : BitVec 32 := 0#32
  let v36 : BitVec 1 := Scalar.cmpi .ne v35 c0_i32_23
  let v37 : BitVec 1 := Scalar.andi v34 v36
  let v23 : BitVec 32 := Scalar.divsi arg14 c5_i32_18
  let c1_i32_24 : BitVec 32 := 1#32
  let v38 : BitVec 32 := Scalar.subi v23 c1_i32_24
  let v39 : BitVec 32 := Scalar.select v37 v38 v23
  let v40 : Index := Scalar.indexCast v39
  ![v40.toNat]
def k0_mult19 (v1_1 : BitVec 32) (k0_t6 : Fin (k0_t6_loop v1_1).trips) : BitVec 32 :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi arg14 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  v52
def k0_off64 (v1_1 : BitVec 32) (k0_t6 : Fin (k0_t6_loop v1_1).trips) : Fin 1 → Nat :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32 : BitVec 32 := 4#32
  let v54 : BitVec 32 := Scalar.remsi arg14 c4_i32
  ![v54.toNat]
def k0_off65 (v1_1 : BitVec 32) (k0_t6 : Fin (k0_t6_loop v1_1).trips) : Fin 3 → Nat :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32 : BitVec 32 := 4#32
  let v54 : BitVec 32 := Scalar.remsi arg14 c4_i32
  let c0_i32_31 : BitVec 32 := 0#32
  let c0_i32_32 : BitVec 32 := 0#32
  ![v54.toNat, 0, 0]
def k0_off66 (v1_1 : BitVec 32) (k0_t6 : Fin (k0_t6_loop v1_1).trips) (v41 : BitVec 32) : Fin 3 → Nat :=
  let c0_i32_33 : BitVec 32 := 0#32
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi arg14 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  let v53 : BitVec 32 := v52
  ![v41.toNat, 0, v53.toNat]

def k0_off67 (v1_1 : BitVec 32) (k0_t6 : Fin (k0_t6_loop v1_1).trips) : Fin 1 → Nat :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32 : BitVec 32 := 4#32
  let v54 : BitVec 32 := Scalar.remsi arg14 c4_i32
  ![v54.toNat]
def k0_off68 (v1_1 : BitVec 32) (k0_t6 : Fin (k0_t6_loop v1_1).trips) : Fin 3 → Nat :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32 : BitVec 32 := 4#32
  let v54 : BitVec 32 := Scalar.remsi arg14 c4_i32
  let c0_i32_34 : BitVec 32 := 0#32
  let c0_i32_35 : BitVec 32 := 0#32
  ![v54.toNat, 0, 0]
def k0_off69 (v1_1 : BitVec 32) (k0_t6 : Fin (k0_t6_loop v1_1).trips) (v41 : BitVec 32) : Fin 3 → Nat :=
  let c0_i32_36 : BitVec 32 := 0#32
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c5_i32_25 : BitVec 32 := 5#32
  let c0_i32_26 : BitVec 32 := 0#32
  let v42 : BitVec 1 := Scalar.cmpi .eq c5_i32_25 c0_i32_26
  let c1_i32_27 : BitVec 32 := 1#32
  let v43 : BitVec 32 := Scalar.select v42 c1_i32_27 c5_i32_25
  let v44 : BitVec 32 := Scalar.remsi arg14 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c512_i32 : BitVec 32 := 512#32
  let v52 : BitVec 32 := Scalar.muli v51 c512_i32
  let v53 : BitVec 32 := v52
  ![v41.toNat, 0, v53.toNat]

def k0_chk11 (v1_1 : BitVec 32) (k0_t6 : Fin (k0_t6_loop v1_1).trips) (v41 : BitVec 32) : Prop :=
  (∀ a, (k0_off66 v1_1 k0_t6 v41) a + S1x3072x512.size a ≤ S11x3072x2560.size a) ∧
  (∀ (hinb : ∀ a, (k0_off66 v1_1 k0_t6 v41) a + S1x3072x512.size a ≤ S11x3072x2560.size a), (Rect.unit (s := S11x3072x2560) (k0_off66 v1_1 k0_t6 v41) S1x3072x512.size hinb).WholeWords (EltTy.packing .i8)) ∧
  (∀ a, (k0_off69 v1_1 k0_t6 v41) a + S1x384x512.size a ≤ S11x384x2560.size a) ∧
  (∀ (hinb : ∀ a, (k0_off69 v1_1 k0_t6 v41) a + S1x384x512.size a ≤ S11x384x2560.size a), (Rect.unit (s := S11x384x2560) (k0_off69 v1_1 k0_t6 v41) S1x384x512.size hinb).WholeWords (EltTy.packing .fp8e4m3))
theorem k0_off66_inb : ∀ (v1_1 : BitVec 32) (k0_t6 : Fin (k0_t6_loop v1_1).trips) (v41 : BitVec 32) (k0_hw11 : k0_chk11 v1_1 k0_t6 v41), ∀ a, (k0_off66 v1_1 k0_t6 v41) a + S1x3072x512.size a ≤ S11x3072x2560.size a := fun v1_1 k0_t6 v41 k0_hw11 => k0_hw11.1
theorem k0_off66_wordsi8 : ∀ (v1_1 : BitVec 32) (k0_t6 : Fin (k0_t6_loop v1_1).trips) (v41 : BitVec 32) (k0_hw11 : k0_chk11 v1_1 k0_t6 v41), (Rect.unit (s := S11x3072x2560) (k0_off66 v1_1 k0_t6 v41) S1x3072x512.size (k0_off66_inb v1_1 k0_t6 v41 k0_hw11)).WholeWords (EltTy.packing .i8) := fun v1_1 k0_t6 v41 k0_hw11 => k0_hw11.2.1 (k0_off66_inb v1_1 k0_t6 v41 k0_hw11)
theorem k0_off69_inb : ∀ (v1_1 : BitVec 32) (k0_t6 : Fin (k0_t6_loop v1_1).trips) (v41 : BitVec 32) (k0_hw11 : k0_chk11 v1_1 k0_t6 v41), ∀ a, (k0_off69 v1_1 k0_t6 v41) a + S1x384x512.size a ≤ S11x384x2560.size a := fun v1_1 k0_t6 v41 k0_hw11 => k0_hw11.2.2.1
theorem k0_off69_wordsfp8e4m3 : ∀ (v1_1 : BitVec 32) (k0_t6 : Fin (k0_t6_loop v1_1).trips) (v41 : BitVec 32) (k0_hw11 : k0_chk11 v1_1 k0_t6 v41), (Rect.unit (s := S11x384x2560) (k0_off69 v1_1 k0_t6 v41) S1x384x512.size (k0_off69_inb v1_1 k0_t6 v41 k0_hw11)).WholeWords (EltTy.packing .fp8e4m3) := fun v1_1 k0_t6 v41 k0_hw11 => k0_hw11.2.2.2 (k0_off69_inb v1_1 k0_t6 v41 k0_hw11)

def k0_off70 (v1_1 : BitVec 32) (k0_t6 : Fin (k0_t6_loop v1_1).trips) : Fin 1 → Nat :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c0_i32_39 : BitVec 32 := 0#32
  let v69 : BitVec 1 := Scalar.cmpi .sgt arg14 c0_i32_39
  let v70 : BitVec 32 := Scalar.extui v69
  let c0_i32_40 : BitVec 32 := 0#32
  let v71 : BitVec 1 := Scalar.cmpi .slt arg14 c0_i32_40
  let v72 : BitVec 32 := Scalar.extui v71
  let v73 : BitVec 32 := Scalar.subi v70 v72
  let c5_i32_38 : BitVec 32 := 5#32
  let c0_i32_41 : BitVec 32 := 0#32
  let v74 : BitVec 1 := Scalar.cmpi .sgt c5_i32_38 c0_i32_41
  let v75 : BitVec 32 := Scalar.extui v74
  let c0_i32_42 : BitVec 32 := 0#32
  let v76 : BitVec 1 := Scalar.cmpi .slt c5_i32_38 c0_i32_42
  let v77 : BitVec 32 := Scalar.extui v76
  let v78 : BitVec 32 := Scalar.subi v75 v77
  let v79 : BitVec 1 := Scalar.cmpi .ne v73 v78
  let v80 : BitVec 32 := Scalar.remsi arg14 c5_i32_38
  let c0_i32_43 : BitVec 32 := 0#32
  let v81 : BitVec 1 := Scalar.cmpi .ne v80 c0_i32_43
  let v82 : BitVec 1 := Scalar.andi v79 v81
  let v68 : BitVec 32 := Scalar.divsi arg14 c5_i32_38
  let c1_i32_44 : BitVec 32 := 1#32
  let v83 : BitVec 32 := Scalar.subi v68 c1_i32_44
  let v84 : BitVec 32 := Scalar.select v82 v83 v68
  let v85 : Index := Scalar.indexCast v84
  ![v85.toNat]
def k0_off71 (v86 : BitVec 32) : Fin 1 → Nat :=
  let v87 : Index := Scalar.indexCast v86
  ![v87.toNat]

def k0_off72 (v86 : BitVec 32) : Fin 1 → Nat :=
  let c1_i32_45 : BitVec 32 := 1#32
  let v89 : BitVec 32 := Scalar.addi v86 c1_i32_45
  let v90 : Index := Scalar.indexCast v89
  ![v90.toNat]
def k0_off73 (v86 : BitVec 32) : Fin 1 → Nat :=
  let v92 : Index := Scalar.indexCast v86
  ![v92.toNat]

def k0_chk12 (v86 : BitVec 32) : Prop :=
  (∀ a, (k0_off71 v86) a + S1.size a ≤ S12.size a) ∧
  (∀ a, (k0_off72 v86) a + S1.size a ≤ S12.size a) ∧
  (∀ a, (k0_off73 v86) a + S1.size a ≤ S11.size a)
theorem k0_off71_inb : ∀ (v86 : BitVec 32) (k0_hw12 : k0_chk12 v86), ∀ a, (k0_off71 v86) a + S1.size a ≤ S12.size a := fun v86 k0_hw12 => k0_hw12.1
theorem k0_off72_inb : ∀ (v86 : BitVec 32) (k0_hw12 : k0_chk12 v86), ∀ a, (k0_off72 v86) a + S1.size a ≤ S12.size a := fun v86 k0_hw12 => k0_hw12.2.1
theorem k0_off73_inb : ∀ (v86 : BitVec 32) (k0_hw12 : k0_chk12 v86), ∀ a, (k0_off73 v86) a + S1.size a ≤ S11.size a := fun v86 k0_hw12 => k0_hw12.2.2

def k0_off74 (v1_1 : BitVec 32) (k0_t6 : Fin (k0_t6_loop v1_1).trips) : Fin 3 → Nat :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32_37 : BitVec 32 := 4#32
  let v67 : BitVec 32 := Scalar.remsi arg14 c4_i32_37
  let v99 : Index := Scalar.indexCast v67
  let c0 : Index := 0#32
  let c0_46 : Index := 0#32
  ![v99.toNat, 0, 0]
def k0_mult20 (arg16 : BitVec 32) : BitVec 32 :=
  let c896_i32 : BitVec 32 := 896#32
  let v145 : BitVec 32 := Scalar.minsi arg16 c896_i32
  v145

def k0_mult21 (v1_1 : BitVec 32) (k0_t6 : Fin (k0_t6_loop v1_1).trips) : BitVec 32 :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi arg14 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  v158
@[reducible] def k0_t7_loop : Scf.Loop 32 :=
  let c0_i32_73 : BitVec 32 := 0#32
  let c24_i32 : BitVec 32 := 24#32
  let v161 : BitVec 32 := Scalar.addi c0_i32_73 c24_i32
  let c1_i32_74 : BitVec 32 := 1#32
  ⟨c0_i32_73, v161, c1_i32_74⟩
def k0_mult22 (k0_t7 : Fin k0_t7_loop.trips) : BitVec 32 :=
  let c0_i32_73 : BitVec 32 := 0#32
  let c1_i32_74 : BitVec 32 := 1#32
  let arg17 : BitVec 32 := Scf.iv c0_i32_73 c1_i32_74 k0_t7
  let c128_i32_76 : BitVec 32 := 128#32
  let v181 : BitVec 32 := Scalar.muli arg17 c128_i32_76
  v181
def k0_off75 (v1_1 : BitVec 32) (k0_t6 : Fin (k0_t6_loop v1_1).trips) (k0_t7 : Fin k0_t7_loop.trips) : Fin 3 → Nat :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32_65 : BitVec 32 := 4#32
  let v147 : BitVec 32 := Scalar.remsi arg14 c4_i32_65
  let v183 : Index := Scalar.indexCast v147
  let c0_i32_73 : BitVec 32 := 0#32
  let c1_i32_74 : BitVec 32 := 1#32
  let arg17 : BitVec 32 := Scf.iv c0_i32_73 c1_i32_74 k0_t7
  let c128_i32_76 : BitVec 32 := 128#32
  let v181 : BitVec 32 := Scalar.muli arg17 c128_i32_76
  let v182 : BitVec 32 := v181
  let v184 : Index := Scalar.indexCast v182
  let c0_77 : Index := 0#32
  ![v183.toNat, v184.toNat, 0]
def k0_off76 (k0_t7 : Fin k0_t7_loop.trips) (c0_i32_125 : BitVec 32) : Fin 2 → Nat :=
  let c0_i32_73 : BitVec 32 := 0#32
  let c1_i32_74 : BitVec 32 := 1#32
  let arg17 : BitVec 32 := Scf.iv c0_i32_73 c1_i32_74 k0_t7
  let c16_i32_124 : BitVec 32 := 16#32
  let v293 : BitVec 32 := Scalar.muli arg17 c16_i32_124
  let v294 : BitVec 32 := Scalar.addi v293 c0_i32_125
  let v295 : Index := Scalar.indexCast v294
  let c0_126 : Index := 0#32
  ![v295.toNat, 0]
def k0_mult23 (k0_t7 : Fin k0_t7_loop.trips) : BitVec 32 :=
  let c0_i32_73 : BitVec 32 := 0#32
  let c1_i32_74 : BitVec 32 := 1#32
  let arg17 : BitVec 32 := Scf.iv c0_i32_73 c1_i32_74 k0_t7
  let c256_i32 : BitVec 32 := 256#32
  let v438 : BitVec 32 := Scalar.muli arg17 c256_i32
  v438
def k0_off77 (arg16 : BitVec 32) (k0_t7 : Fin k0_t7_loop.trips) : Fin 2 → Nat :=
  let c896_i32 : BitVec 32 := 896#32
  let v145 : BitVec 32 := Scalar.minsi arg16 c896_i32
  let v146 : BitVec 32 := v145
  let v440 : Index := Scalar.indexCast v146
  let c0_i32_73 : BitVec 32 := 0#32
  let c1_i32_74 : BitVec 32 := 1#32
  let arg17 : BitVec 32 := Scf.iv c0_i32_73 c1_i32_74 k0_t7
  let c256_i32 : BitVec 32 := 256#32
  let v438 : BitVec 32 := Scalar.muli arg17 c256_i32
  let v439 : BitVec 32 := v438
  let v441 : Index := Scalar.indexCast v439
  ![v440.toNat, v441.toNat]
def k0_off78 (v1_1 : BitVec 32) (k0_t6 : Fin (k0_t6_loop v1_1).trips) (arg16 : BitVec 32) : Fin 2 → Nat :=
  let c896_i32 : BitVec 32 := 896#32
  let v145 : BitVec 32 := Scalar.minsi arg16 c896_i32
  let v146 : BitVec 32 := v145
  let v173 : Index := Scalar.indexCast v146
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi arg14 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  let v159 : BitVec 32 := v158
  let v174 : Index := Scalar.indexCast v159
  ![v173.toNat, v174.toNat]
def k0_mult24 (arg16 : BitVec 32) : BitVec 32 :=
  let c832_i32 : BitVec 32 := 832#32
  let v145 : BitVec 32 := Scalar.minsi arg16 c832_i32
  v145
def k0_mult25 (v1_1 : BitVec 32) (k0_t6 : Fin (k0_t6_loop v1_1).trips) : BitVec 32 :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi arg14 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  v158
@[reducible] def k0_t8_loop : Scf.Loop 32 :=
  let c0_i32_73 : BitVec 32 := 0#32
  let c24_i32 : BitVec 32 := 24#32
  let v161 : BitVec 32 := Scalar.addi c0_i32_73 c24_i32
  let c1_i32_74 : BitVec 32 := 1#32
  ⟨c0_i32_73, v161, c1_i32_74⟩
def k0_mult26 (k0_t8 : Fin k0_t8_loop.trips) : BitVec 32 :=
  let c0_i32_73 : BitVec 32 := 0#32
  let c1_i32_74 : BitVec 32 := 1#32
  let arg17 : BitVec 32 := Scf.iv c0_i32_73 c1_i32_74 k0_t8
  let c128_i32_76 : BitVec 32 := 128#32
  let v181 : BitVec 32 := Scalar.muli arg17 c128_i32_76
  v181
def k0_off79 (v1_1 : BitVec 32) (k0_t6 : Fin (k0_t6_loop v1_1).trips) (k0_t8 : Fin k0_t8_loop.trips) : Fin 3 → Nat :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32_65 : BitVec 32 := 4#32
  let v147 : BitVec 32 := Scalar.remsi arg14 c4_i32_65
  let v183 : Index := Scalar.indexCast v147
  let c0_i32_73 : BitVec 32 := 0#32
  let c1_i32_74 : BitVec 32 := 1#32
  let arg17 : BitVec 32 := Scf.iv c0_i32_73 c1_i32_74 k0_t8
  let c128_i32_76 : BitVec 32 := 128#32
  let v181 : BitVec 32 := Scalar.muli arg17 c128_i32_76
  let v182 : BitVec 32 := v181
  let v184 : Index := Scalar.indexCast v182
  let c0_77 : Index := 0#32
  ![v183.toNat, v184.toNat, 0]
def k0_off80 (k0_t8 : Fin k0_t8_loop.trips) (c0_i32_125 : BitVec 32) : Fin 2 → Nat :=
  let c0_i32_73 : BitVec 32 := 0#32
  let c1_i32_74 : BitVec 32 := 1#32
  let arg17 : BitVec 32 := Scf.iv c0_i32_73 c1_i32_74 k0_t8
  let c16_i32_124 : BitVec 32 := 16#32
  let v293 : BitVec 32 := Scalar.muli arg17 c16_i32_124
  let v294 : BitVec 32 := Scalar.addi v293 c0_i32_125
  let v295 : Index := Scalar.indexCast v294
  let c0_126 : Index := 0#32
  ![v295.toNat, 0]
def k0_mult27 (k0_t8 : Fin k0_t8_loop.trips) : BitVec 32 :=
  let c0_i32_73 : BitVec 32 := 0#32
  let c1_i32_74 : BitVec 32 := 1#32
  let arg17 : BitVec 32 := Scf.iv c0_i32_73 c1_i32_74 k0_t8
  let c256_i32 : BitVec 32 := 256#32
  let v438 : BitVec 32 := Scalar.muli arg17 c256_i32
  v438
def k0_off81 (arg16 : BitVec 32) (k0_t8 : Fin k0_t8_loop.trips) : Fin 2 → Nat :=
  let c832_i32 : BitVec 32 := 832#32
  let v145 : BitVec 32 := Scalar.minsi arg16 c832_i32
  let v146 : BitVec 32 := v145
  let v440 : Index := Scalar.indexCast v146
  let c0_i32_73 : BitVec 32 := 0#32
  let c1_i32_74 : BitVec 32 := 1#32
  let arg17 : BitVec 32 := Scf.iv c0_i32_73 c1_i32_74 k0_t8
  let c256_i32 : BitVec 32 := 256#32
  let v438 : BitVec 32 := Scalar.muli arg17 c256_i32
  let v439 : BitVec 32 := v438
  let v441 : Index := Scalar.indexCast v439
  ![v440.toNat, v441.toNat]
def k0_off82 (v1_1 : BitVec 32) (k0_t6 : Fin (k0_t6_loop v1_1).trips) (arg16 : BitVec 32) : Fin 2 → Nat :=
  let c832_i32 : BitVec 32 := 832#32
  let v145 : BitVec 32 := Scalar.minsi arg16 c832_i32
  let v146 : BitVec 32 := v145
  let v173 : Index := Scalar.indexCast v146
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi arg14 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  let v159 : BitVec 32 := v158
  let v174 : Index := Scalar.indexCast v159
  ![v173.toNat, v174.toNat]
def k0_mult28 (arg16 : BitVec 32) : BitVec 32 :=
  let c752_i32 : BitVec 32 := 752#32
  let v145 : BitVec 32 := Scalar.minsi arg16 c752_i32
  v145
def k0_mult29 (v1_1 : BitVec 32) (k0_t6 : Fin (k0_t6_loop v1_1).trips) : BitVec 32 :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi arg14 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  v158
@[reducible] def k0_t9_loop : Scf.Loop 32 :=
  let c0_i32_73 : BitVec 32 := 0#32
  let c24_i32 : BitVec 32 := 24#32
  let v161 : BitVec 32 := Scalar.addi c0_i32_73 c24_i32
  let c1_i32_74 : BitVec 32 := 1#32
  ⟨c0_i32_73, v161, c1_i32_74⟩
def k0_mult30 (k0_t9 : Fin k0_t9_loop.trips) : BitVec 32 :=
  let c0_i32_73 : BitVec 32 := 0#32
  let c1_i32_74 : BitVec 32 := 1#32
  let arg17 : BitVec 32 := Scf.iv c0_i32_73 c1_i32_74 k0_t9
  let c128_i32_76 : BitVec 32 := 128#32
  let v181 : BitVec 32 := Scalar.muli arg17 c128_i32_76
  v181
def k0_off83 (v1_1 : BitVec 32) (k0_t6 : Fin (k0_t6_loop v1_1).trips) (k0_t9 : Fin k0_t9_loop.trips) : Fin 3 → Nat :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32_65 : BitVec 32 := 4#32
  let v147 : BitVec 32 := Scalar.remsi arg14 c4_i32_65
  let v183 : Index := Scalar.indexCast v147
  let c0_i32_73 : BitVec 32 := 0#32
  let c1_i32_74 : BitVec 32 := 1#32
  let arg17 : BitVec 32 := Scf.iv c0_i32_73 c1_i32_74 k0_t9
  let c128_i32_76 : BitVec 32 := 128#32
  let v181 : BitVec 32 := Scalar.muli arg17 c128_i32_76
  let v182 : BitVec 32 := v181
  let v184 : Index := Scalar.indexCast v182
  let c0_77 : Index := 0#32
  ![v183.toNat, v184.toNat, 0]
def k0_off84 (k0_t9 : Fin k0_t9_loop.trips) (c0_i32_125 : BitVec 32) : Fin 2 → Nat :=
  let c0_i32_73 : BitVec 32 := 0#32
  let c1_i32_74 : BitVec 32 := 1#32
  let arg17 : BitVec 32 := Scf.iv c0_i32_73 c1_i32_74 k0_t9
  let c16_i32_124 : BitVec 32 := 16#32
  let v293 : BitVec 32 := Scalar.muli arg17 c16_i32_124
  let v294 : BitVec 32 := Scalar.addi v293 c0_i32_125
  let v295 : Index := Scalar.indexCast v294
  let c0_126 : Index := 0#32
  ![v295.toNat, 0]
def k0_mult31 (k0_t9 : Fin k0_t9_loop.trips) : BitVec 32 :=
  let c0_i32_73 : BitVec 32 := 0#32
  let c1_i32_74 : BitVec 32 := 1#32
  let arg17 : BitVec 32 := Scf.iv c0_i32_73 c1_i32_74 k0_t9
  let c256_i32 : BitVec 32 := 256#32
  let v438 : BitVec 32 := Scalar.muli arg17 c256_i32
  v438
def k0_off85 (arg16 : BitVec 32) (k0_t9 : Fin k0_t9_loop.trips) : Fin 2 → Nat :=
  let c752_i32 : BitVec 32 := 752#32
  let v145 : BitVec 32 := Scalar.minsi arg16 c752_i32
  let v146 : BitVec 32 := v145
  let v440 : Index := Scalar.indexCast v146
  let c0_i32_73 : BitVec 32 := 0#32
  let c1_i32_74 : BitVec 32 := 1#32
  let arg17 : BitVec 32 := Scf.iv c0_i32_73 c1_i32_74 k0_t9
  let c256_i32 : BitVec 32 := 256#32
  let v438 : BitVec 32 := Scalar.muli arg17 c256_i32
  let v439 : BitVec 32 := v438
  let v441 : Index := Scalar.indexCast v439
  ![v440.toNat, v441.toNat]
def k0_off86 (v1_1 : BitVec 32) (k0_t6 : Fin (k0_t6_loop v1_1).trips) (arg16 : BitVec 32) : Fin 2 → Nat :=
  let c752_i32 : BitVec 32 := 752#32
  let v145 : BitVec 32 := Scalar.minsi arg16 c752_i32
  let v146 : BitVec 32 := v145
  let v173 : Index := Scalar.indexCast v146
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi arg14 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  let v159 : BitVec 32 := v158
  let v174 : Index := Scalar.indexCast v159
  ![v173.toNat, v174.toNat]

def k0_chk13 (v1_1 : BitVec 32) (k0_t6 : Fin (k0_t6_loop v1_1).trips) (arg16 : BitVec 32) : Prop :=
  (16 ∣ (k0_mult20 arg16).toNat) ∧
  (∀ k0_t7 : Fin k0_t7_loop.trips, ∀ a, (k0_off77 arg16 k0_t7) a + S128x256.size a ≤ S1024x6144.size a) ∧
  (∀ a, (k0_off78 v1_1 k0_t6 arg16) a + S128x512.size a ≤ S1024x2560.size a) ∧
  (16 ∣ (k0_mult24 arg16).toNat) ∧
  (∀ k0_t8 : Fin k0_t8_loop.trips, ∀ a, (k0_off81 arg16 k0_t8) a + S192x256.size a ≤ S1024x6144.size a) ∧
  (∀ a, (k0_off82 v1_1 k0_t6 arg16) a + S192x512.size a ≤ S1024x2560.size a) ∧
  (16 ∣ (k0_mult28 arg16).toNat) ∧
  (∀ k0_t9 : Fin k0_t9_loop.trips, ∀ a, (k0_off85 arg16 k0_t9) a + S272x256.size a ≤ S1024x6144.size a) ∧
  (∀ a, (k0_off86 v1_1 k0_t6 arg16) a + S272x512.size a ≤ S1024x2560.size a)
theorem k0_mult20_dvd : ∀ (v1_1 : BitVec 32) (k0_t6 : Fin (k0_t6_loop v1_1).trips) (arg16 : BitVec 32) (k0_hw13 : k0_chk13 v1_1 k0_t6 arg16), 16 ∣ (k0_mult20 arg16).toNat := fun v1_1 k0_t6 arg16 k0_hw13 => k0_hw13.1
theorem k0_off77_inb : ∀ (v1_1 : BitVec 32) (k0_t6 : Fin (k0_t6_loop v1_1).trips) (arg16 : BitVec 32) (k0_hw13 : k0_chk13 v1_1 k0_t6 arg16) (k0_t7 : Fin k0_t7_loop.trips), ∀ a, (k0_off77 arg16 k0_t7) a + S128x256.size a ≤ S1024x6144.size a := fun v1_1 k0_t6 arg16 k0_hw13 k0_t7 => k0_hw13.2.1 k0_t7
theorem k0_off78_inb : ∀ (v1_1 : BitVec 32) (k0_t6 : Fin (k0_t6_loop v1_1).trips) (arg16 : BitVec 32) (k0_hw13 : k0_chk13 v1_1 k0_t6 arg16), ∀ a, (k0_off78 v1_1 k0_t6 arg16) a + S128x512.size a ≤ S1024x2560.size a := fun v1_1 k0_t6 arg16 k0_hw13 => k0_hw13.2.2.1
theorem k0_mult24_dvd : ∀ (v1_1 : BitVec 32) (k0_t6 : Fin (k0_t6_loop v1_1).trips) (arg16 : BitVec 32) (k0_hw13 : k0_chk13 v1_1 k0_t6 arg16), 16 ∣ (k0_mult24 arg16).toNat := fun v1_1 k0_t6 arg16 k0_hw13 => k0_hw13.2.2.2.1
theorem k0_off81_inb : ∀ (v1_1 : BitVec 32) (k0_t6 : Fin (k0_t6_loop v1_1).trips) (arg16 : BitVec 32) (k0_hw13 : k0_chk13 v1_1 k0_t6 arg16) (k0_t8 : Fin k0_t8_loop.trips), ∀ a, (k0_off81 arg16 k0_t8) a + S192x256.size a ≤ S1024x6144.size a := fun v1_1 k0_t6 arg16 k0_hw13 k0_t8 => k0_hw13.2.2.2.2.1 k0_t8
theorem k0_off82_inb : ∀ (v1_1 : BitVec 32) (k0_t6 : Fin (k0_t6_loop v1_1).trips) (arg16 : BitVec 32) (k0_hw13 : k0_chk13 v1_1 k0_t6 arg16), ∀ a, (k0_off82 v1_1 k0_t6 arg16) a + S192x512.size a ≤ S1024x2560.size a := fun v1_1 k0_t6 arg16 k0_hw13 => k0_hw13.2.2.2.2.2.1
theorem k0_mult28_dvd : ∀ (v1_1 : BitVec 32) (k0_t6 : Fin (k0_t6_loop v1_1).trips) (arg16 : BitVec 32) (k0_hw13 : k0_chk13 v1_1 k0_t6 arg16), 16 ∣ (k0_mult28 arg16).toNat := fun v1_1 k0_t6 arg16 k0_hw13 => k0_hw13.2.2.2.2.2.2.1
theorem k0_off85_inb : ∀ (v1_1 : BitVec 32) (k0_t6 : Fin (k0_t6_loop v1_1).trips) (arg16 : BitVec 32) (k0_hw13 : k0_chk13 v1_1 k0_t6 arg16) (k0_t9 : Fin k0_t9_loop.trips), ∀ a, (k0_off85 arg16 k0_t9) a + S272x256.size a ≤ S1024x6144.size a := fun v1_1 k0_t6 arg16 k0_hw13 k0_t9 => k0_hw13.2.2.2.2.2.2.2.1 k0_t9
theorem k0_off86_inb : ∀ (v1_1 : BitVec 32) (k0_t6 : Fin (k0_t6_loop v1_1).trips) (arg16 : BitVec 32) (k0_hw13 : k0_chk13 v1_1 k0_t6 arg16), ∀ a, (k0_off86 v1_1 k0_t6 arg16) a + S272x512.size a ≤ S1024x2560.size a := fun v1_1 k0_t6 arg16 k0_hw13 => k0_hw13.2.2.2.2.2.2.2.2

def k0_off87 (v1_1 : BitVec 32) (k0_t6 : Fin (k0_t6_loop v1_1).trips) : Fin 1 → Nat :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32_56 : BitVec 32 := 4#32
  let v125 : BitVec 32 := Scalar.addi arg14 c4_i32_56
  let c0_i32_60 : BitVec 32 := 0#32
  let v130 : BitVec 1 := Scalar.cmpi .sgt v125 c0_i32_60
  let v131 : BitVec 32 := Scalar.extui v130
  let c0_i32_61 : BitVec 32 := 0#32
  let v132 : BitVec 1 := Scalar.cmpi .slt v125 c0_i32_61
  let v133 : BitVec 32 := Scalar.extui v132
  let v134 : BitVec 32 := Scalar.subi v131 v133
  let c5_i32_59 : BitVec 32 := 5#32
  let c0_i32_62 : BitVec 32 := 0#32
  let v135 : BitVec 1 := Scalar.cmpi .sgt c5_i32_59 c0_i32_62
  let v136 : BitVec 32 := Scalar.extui v135
  let c0_i32_63 : BitVec 32 := 0#32
  let v137 : BitVec 1 := Scalar.cmpi .slt c5_i32_59 c0_i32_63
  let v138 : BitVec 32 := Scalar.extui v137
  let v139 : BitVec 32 := Scalar.subi v136 v138
  let v140 : BitVec 1 := Scalar.cmpi .ne v134 v139
  let v141 : BitVec 32 := Scalar.remsi v125 c5_i32_59
  let c0_i32_64 : BitVec 32 := 0#32
  let v142 : BitVec 1 := Scalar.cmpi .ne v141 c0_i32_64
  let v143 : BitVec 1 := Scalar.andi v140 v142
  let v129 : BitVec 32 := Scalar.divsi v125 c5_i32_59
  let c1_i32_65 : BitVec 32 := 1#32
  let v144 : BitVec 32 := Scalar.subi v129 c1_i32_65
  let v145 : BitVec 32 := Scalar.select v143 v144 v129
  let v146 : Index := Scalar.indexCast v145
  ![v146.toNat]
def k0_cond6 (v1_1 : BitVec 32) (k0_t6 : Fin (k0_t6_loop v1_1).trips) : BitVec 1 :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32_56 : BitVec 32 := 4#32
  let v125 : BitVec 32 := Scalar.addi arg14 c4_i32_56
  let v126 : BitVec 1 := Scalar.cmpi .slt v125 v3
  let v127 : BitVec 32 := Scalar.extui v126
  let c0_i32_57 : BitVec 32 := 0#32
  let v128 : BitVec 1 := Scalar.cmpi .ne v127 c0_i32_57
  v128

def k0_mult32 (v1_1 : BitVec 32) (k0_t6 : Fin (k0_t6_loop v1_1).trips) : BitVec 32 :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32_56 : BitVec 32 := 4#32
  let v125 : BitVec 32 := Scalar.addi arg14 c4_i32_56
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi v125 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  v158
def k0_off88 (v1_1 : BitVec 32) (k0_t6 : Fin (k0_t6_loop v1_1).trips) : Fin 1 → Nat :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32_56 : BitVec 32 := 4#32
  let v125 : BitVec 32 := Scalar.addi arg14 c4_i32_56
  let c4_i32_73 : BitVec 32 := 4#32
  let v160 : BitVec 32 := Scalar.remsi v125 c4_i32_73
  ![v160.toNat]
def k0_off89 (v1_1 : BitVec 32) (k0_t6 : Fin (k0_t6_loop v1_1).trips) : Fin 3 → Nat :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32_56 : BitVec 32 := 4#32
  let v125 : BitVec 32 := Scalar.addi arg14 c4_i32_56
  let c4_i32_73 : BitVec 32 := 4#32
  let v160 : BitVec 32 := Scalar.remsi v125 c4_i32_73
  let c0_i32_74 : BitVec 32 := 0#32
  let c0_i32_75 : BitVec 32 := 0#32
  ![v160.toNat, 0, 0]
def k0_off90 (v1_1 : BitVec 32) (k0_t6 : Fin (k0_t6_loop v1_1).trips) (v147 : BitVec 32) : Fin 3 → Nat :=
  let c0_i32_76 : BitVec 32 := 0#32
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32_56 : BitVec 32 := 4#32
  let v125 : BitVec 32 := Scalar.addi arg14 c4_i32_56
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi v125 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  let v159 : BitVec 32 := v158
  ![v147.toNat, 0, v159.toNat]

def k0_off91 (v1_1 : BitVec 32) (k0_t6 : Fin (k0_t6_loop v1_1).trips) : Fin 1 → Nat :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32_56 : BitVec 32 := 4#32
  let v125 : BitVec 32 := Scalar.addi arg14 c4_i32_56
  let c4_i32_73 : BitVec 32 := 4#32
  let v160 : BitVec 32 := Scalar.remsi v125 c4_i32_73
  ![v160.toNat]
def k0_off92 (v1_1 : BitVec 32) (k0_t6 : Fin (k0_t6_loop v1_1).trips) : Fin 3 → Nat :=
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32_56 : BitVec 32 := 4#32
  let v125 : BitVec 32 := Scalar.addi arg14 c4_i32_56
  let c4_i32_73 : BitVec 32 := 4#32
  let v160 : BitVec 32 := Scalar.remsi v125 c4_i32_73
  let c0_i32_77 : BitVec 32 := 0#32
  let c0_i32_78 : BitVec 32 := 0#32
  ![v160.toNat, 0, 0]
def k0_off93 (v1_1 : BitVec 32) (k0_t6 : Fin (k0_t6_loop v1_1).trips) (v147 : BitVec 32) : Fin 3 → Nat :=
  let c0_i32_79 : BitVec 32 := 0#32
  let c0_i32_13 : BitVec 32 := 0#32
  let c5_i32 : BitVec 32 := 5#32
  let v3 : BitVec 32 := Scalar.muli v1_1 c5_i32
  let v16 : BitVec 32 := Scalar.subi v3 c0_i32_13
  let c1_i32_15 : BitVec 32 := 1#32
  let v18 : BitVec 32 := Scalar.divsi v16 c1_i32_15
  let v19 : BitVec 32 := Scalar.muli v18 c1_i32_15
  let v20 : BitVec 32 := Scalar.addi c0_i32_13 v19
  let c1_i32_17 : BitVec 32 := 1#32
  let arg14 : BitVec 32 := Scf.iv v20 c1_i32_17 k0_t6
  let c4_i32_56 : BitVec 32 := 4#32
  let v125 : BitVec 32 := Scalar.addi arg14 c4_i32_56
  let c5_i32_66 : BitVec 32 := 5#32
  let c0_i32_67 : BitVec 32 := 0#32
  let v148 : BitVec 1 := Scalar.cmpi .eq c5_i32_66 c0_i32_67
  let c1_i32_68 : BitVec 32 := 1#32
  let v149 : BitVec 32 := Scalar.select v148 c1_i32_68 c5_i32_66
  let v150 : BitVec 32 := Scalar.remsi v125 v149
  let c0_i32_70 : BitVec 32 := 0#32
  let v152 : BitVec 1 := Scalar.cmpi .slt v150 c0_i32_70
  let c0_i32_71 : BitVec 32 := 0#32
  let v153 : BitVec 1 := Scalar.cmpi .slt v149 c0_i32_71
  let v154 : BitVec 1 := Scalar.xori v152 v153
  let c0_i32_69 : BitVec 32 := 0#32
  let v151 : BitVec 1 := Scalar.cmpi .ne v150 c0_i32_69
  let v155 : BitVec 1 := Scalar.andi v154 v151
  let v156 : BitVec 32 := Scalar.addi v150 v149
  let v157 : BitVec 32 := Scalar.select v155 v156 v150
  let c512_i32_72 : BitVec 32 := 512#32
  let v158 : BitVec 32 := Scalar.muli v157 c512_i32_72
  let v159 : BitVec 32 := v158
  ![v147.toNat, 0, v159.toNat]

def k0_chk14 (v1_1 : BitVec 32) (k0_t6 : Fin (k0_t6_loop v1_1).trips) (v147 : BitVec 32) : Prop :=
  (∀ (k0_h6 : k0_cond6 v1_1 k0_t6 = 1#1), ∀ a, (k0_off90 v1_1 k0_t6 v147) a + S1x3072x512.size a ≤ S11x3072x2560.size a) ∧
  (∀ (k0_h6 : k0_cond6 v1_1 k0_t6 = 1#1), ∀ (hinb : ∀ a, (k0_off90 v1_1 k0_t6 v147) a + S1x3072x512.size a ≤ S11x3072x2560.size a), (Rect.unit (s := S11x3072x2560) (k0_off90 v1_1 k0_t6 v147) S1x3072x512.size hinb).WholeWords (EltTy.packing .i8)) ∧
  (∀ (k0_h6 : k0_cond6 v1_1 k0_t6 = 1#1), ∀ a, (k0_off93 v1_1 k0_t6 v147) a + S1x384x512.size a ≤ S11x384x2560.size a) ∧
  (∀ (k0_h6 : k0_cond6 v1_1 k0_t6 = 1#1), ∀ (hinb : ∀ a, (k0_off93 v1_1 k0_t6 v147) a + S1x384x512.size a ≤ S11x384x2560.size a), (Rect.unit (s := S11x384x2560) (k0_off93 v1_1 k0_t6 v147) S1x384x512.size hinb).WholeWords (EltTy.packing .fp8e4m3))
theorem k0_off90_inb : ∀ (v1_1 : BitVec 32) (k0_t6 : Fin (k0_t6_loop v1_1).trips) (v147 : BitVec 32) (k0_hw14 : k0_chk14 v1_1 k0_t6 v147), ∀ (k0_h6 : k0_cond6 v1_1 k0_t6 = 1#1), ∀ a, (k0_off90 v1_1 k0_t6 v147) a + S1x3072x512.size a ≤ S11x3072x2560.size a := fun v1_1 k0_t6 v147 k0_hw14 k0_h6 => k0_hw14.1 k0_h6
theorem k0_off90_wordsi8 : ∀ (v1_1 : BitVec 32) (k0_t6 : Fin (k0_t6_loop v1_1).trips) (v147 : BitVec 32) (k0_hw14 : k0_chk14 v1_1 k0_t6 v147), ∀ (k0_h6 : k0_cond6 v1_1 k0_t6 = 1#1), (Rect.unit (s := S11x3072x2560) (k0_off90 v1_1 k0_t6 v147) S1x3072x512.size (k0_off90_inb v1_1 k0_t6 v147 k0_hw14 k0_h6)).WholeWords (EltTy.packing .i8) := fun v1_1 k0_t6 v147 k0_hw14 k0_h6 => k0_hw14.2.1 k0_h6 (k0_off90_inb v1_1 k0_t6 v147 k0_hw14 k0_h6)
theorem k0_off93_inb : ∀ (v1_1 : BitVec 32) (k0_t6 : Fin (k0_t6_loop v1_1).trips) (v147 : BitVec 32) (k0_hw14 : k0_chk14 v1_1 k0_t6 v147), ∀ (k0_h6 : k0_cond6 v1_1 k0_t6 = 1#1), ∀ a, (k0_off93 v1_1 k0_t6 v147) a + S1x384x512.size a ≤ S11x384x2560.size a := fun v1_1 k0_t6 v147 k0_hw14 k0_h6 => k0_hw14.2.2.1 k0_h6
theorem k0_off93_wordsfp8e4m3 : ∀ (v1_1 : BitVec 32) (k0_t6 : Fin (k0_t6_loop v1_1).trips) (v147 : BitVec 32) (k0_hw14 : k0_chk14 v1_1 k0_t6 v147), ∀ (k0_h6 : k0_cond6 v1_1 k0_t6 = 1#1), (Rect.unit (s := S11x384x2560) (k0_off93 v1_1 k0_t6 v147) S1x384x512.size (k0_off93_inb v1_1 k0_t6 v147 k0_hw14 k0_h6)).WholeWords (EltTy.packing .fp8e4m3) := fun v1_1 k0_t6 v147 k0_hw14 k0_h6 => k0_hw14.2.2.2 k0_h6 (k0_off93_inb v1_1 k0_t6 v147 k0_hw14 k0_h6)

def k0_chk6_0 (v1_1 : BitVec 32) : Prop :=
  ((k0_t2_loop v1_1).OK) ∧
  (∀ k0_t2 : Fin (k0_t2_loop v1_1).trips, ∀ a, (k0_off32 v1_1 k0_t2) a + S1.size a ≤ S12.size a) ∧
  (∀ k0_t2 : Fin (k0_t2_loop v1_1).trips, 512 ∣ (k0_mult5 v1_1 k0_t2).toNat) ∧
  (∀ k0_t2 : Fin (k0_t2_loop v1_1).trips, ∀ a, (k0_off33 v1_1 k0_t2) a + S1.size a ≤ S4.size a) ∧
  (∀ k0_t2 : Fin (k0_t2_loop v1_1).trips, ∀ a, (k0_off34 v1_1 k0_t2) a + S1x3072x512.size a ≤ S4x3072x512.size a) ∧
  (∀ k0_t2 : Fin (k0_t2_loop v1_1).trips, ∀ (hinb : ∀ a, (k0_off34 v1_1 k0_t2) a + S1x3072x512.size a ≤ S4x3072x512.size a), (Rect.unit (s := S4x3072x512) (k0_off34 v1_1 k0_t2) S1x3072x512.size hinb).WholeWords (EltTy.packing .i8)) ∧
  (∀ k0_t2 : Fin (k0_t2_loop v1_1).trips, ∀ a, (k0_off36 v1_1 k0_t2) a + S1.size a ≤ S4.size a) ∧
  (∀ k0_t2 : Fin (k0_t2_loop v1_1).trips, ∀ a, (k0_off37 v1_1 k0_t2) a + S1x384x512.size a ≤ S4x384x512.size a) ∧
  (∀ k0_t2 : Fin (k0_t2_loop v1_1).trips, ∀ (hinb : ∀ a, (k0_off37 v1_1 k0_t2) a + S1x384x512.size a ≤ S4x384x512.size a), (Rect.unit (s := S4x384x512) (k0_off37 v1_1 k0_t2) S1x384x512.size hinb).WholeWords (EltTy.packing .fp8e4m3)) ∧
  (∀ k0_t2 : Fin (k0_t2_loop v1_1).trips, ∀ a, (k0_off39 v1_1 k0_t2) a + S1.size a ≤ S12.size a) ∧
  (∀ k0_t2 : Fin (k0_t2_loop v1_1).trips, ∀ a, (k0_off43 v1_1 k0_t2) a + S1x384x512.size a ≤ S4x384x512.size a) ∧
  (∀ k0_t2 : Fin (k0_t2_loop v1_1).trips, 512 ∣ (k0_mult7 v1_1 k0_t2).toNat) ∧
  (∀ (k0_t2 : Fin (k0_t2_loop v1_1).trips) (k0_t3 : Fin k0_t3_loop.trips), ∀ a, (k0_off44 v1_1 k0_t2 k0_t3) a + S1x128x512.size a ≤ S4x3072x512.size a) ∧
  (∀ k0_t2 : Fin (k0_t2_loop v1_1).trips, 512 ∣ (k0_mult11 v1_1 k0_t2).toNat) ∧
  (∀ (k0_t2 : Fin (k0_t2_loop v1_1).trips) (k0_t4 : Fin k0_t4_loop.trips), ∀ a, (k0_off48 v1_1 k0_t2 k0_t4) a + S1x128x512.size a ≤ S4x3072x512.size a) ∧
  (∀ k0_t2 : Fin (k0_t2_loop v1_1).trips, 512 ∣ (k0_mult15 v1_1 k0_t2).toNat) ∧
  (∀ (k0_t2 : Fin (k0_t2_loop v1_1).trips) (k0_t5 : Fin k0_t5_loop.trips), ∀ a, (k0_off52 v1_1 k0_t2 k0_t5) a + S1x128x512.size a ≤ S4x3072x512.size a) ∧
  (∀ k0_t2 : Fin (k0_t2_loop v1_1).trips, ∀ (k0_h5 : k0_cond5 v1_1 k0_t2 = 1#1), ∀ a, (k0_off56 v1_1 k0_t2) a + S1.size a ≤ S12.size a) ∧
  (∀ k0_t2 : Fin (k0_t2_loop v1_1).trips, ∀ (k0_h5 : k0_cond5 v1_1 k0_t2 = 1#1), 512 ∣ (k0_mult18 v1_1 k0_t2).toNat) ∧
  (∀ k0_t2 : Fin (k0_t2_loop v1_1).trips, ∀ (k0_h5 : k0_cond5 v1_1 k0_t2 = 1#1), ∀ a, (k0_off57 v1_1 k0_t2) a + S1.size a ≤ S4.size a) ∧
  (∀ k0_t2 : Fin (k0_t2_loop v1_1).trips, ∀ (k0_h5 : k0_cond5 v1_1 k0_t2 = 1#1), ∀ a, (k0_off58 v1_1 k0_t2) a + S1x3072x512.size a ≤ S4x3072x512.size a) ∧
  (∀ k0_t2 : Fin (k0_t2_loop v1_1).trips, ∀ (k0_h5 : k0_cond5 v1_1 k0_t2 = 1#1), ∀ (hinb : ∀ a, (k0_off58 v1_1 k0_t2) a + S1x3072x512.size a ≤ S4x3072x512.size a), (Rect.unit (s := S4x3072x512) (k0_off58 v1_1 k0_t2) S1x3072x512.size hinb).WholeWords (EltTy.packing .i8)) ∧
  (∀ k0_t2 : Fin (k0_t2_loop v1_1).trips, ∀ (k0_h5 : k0_cond5 v1_1 k0_t2 = 1#1), ∀ a, (k0_off60 v1_1 k0_t2) a + S1.size a ≤ S4.size a) ∧
  (∀ k0_t2 : Fin (k0_t2_loop v1_1).trips, ∀ (k0_h5 : k0_cond5 v1_1 k0_t2 = 1#1), ∀ a, (k0_off61 v1_1 k0_t2) a + S1x384x512.size a ≤ S4x384x512.size a) ∧
  (∀ k0_t2 : Fin (k0_t2_loop v1_1).trips, ∀ (k0_h5 : k0_cond5 v1_1 k0_t2 = 1#1), ∀ (hinb : ∀ a, (k0_off61 v1_1 k0_t2) a + S1x384x512.size a ≤ S4x384x512.size a), (Rect.unit (s := S4x384x512) (k0_off61 v1_1 k0_t2) S1x384x512.size hinb).WholeWords (EltTy.packing .fp8e4m3)) ∧
  ((k0_t6_loop v1_1).OK) ∧
  (∀ k0_t6 : Fin (k0_t6_loop v1_1).trips, ∀ a, (k0_off63 v1_1 k0_t6) a + S1.size a ≤ S12.size a) ∧
  (∀ k0_t6 : Fin (k0_t6_loop v1_1).trips, 512 ∣ (k0_mult19 v1_1 k0_t6).toNat) ∧
  (∀ k0_t6 : Fin (k0_t6_loop v1_1).trips, ∀ a, (k0_off64 v1_1 k0_t6) a + S1.size a ≤ S4.size a) ∧
  (∀ k0_t6 : Fin (k0_t6_loop v1_1).trips, ∀ a, (k0_off65 v1_1 k0_t6) a + S1x3072x512.size a ≤ S4x3072x512.size a) ∧
  (∀ k0_t6 : Fin (k0_t6_loop v1_1).trips, ∀ (hinb : ∀ a, (k0_off65 v1_1 k0_t6) a + S1x3072x512.size a ≤ S4x3072x512.size a), (Rect.unit (s := S4x3072x512) (k0_off65 v1_1 k0_t6) S1x3072x512.size hinb).WholeWords (EltTy.packing .i8)) ∧
  (∀ k0_t6 : Fin (k0_t6_loop v1_1).trips, ∀ a, (k0_off67 v1_1 k0_t6) a + S1.size a ≤ S4.size a)
def k0_chk6_1 (v1_1 : BitVec 32) : Prop :=
  (∀ k0_t6 : Fin (k0_t6_loop v1_1).trips, ∀ a, (k0_off68 v1_1 k0_t6) a + S1x384x512.size a ≤ S4x384x512.size a) ∧
  (∀ k0_t6 : Fin (k0_t6_loop v1_1).trips, ∀ (hinb : ∀ a, (k0_off68 v1_1 k0_t6) a + S1x384x512.size a ≤ S4x384x512.size a), (Rect.unit (s := S4x384x512) (k0_off68 v1_1 k0_t6) S1x384x512.size hinb).WholeWords (EltTy.packing .fp8e4m3)) ∧
  (∀ k0_t6 : Fin (k0_t6_loop v1_1).trips, ∀ a, (k0_off70 v1_1 k0_t6) a + S1.size a ≤ S12.size a) ∧
  (∀ k0_t6 : Fin (k0_t6_loop v1_1).trips, ∀ a, (k0_off74 v1_1 k0_t6) a + S1x384x512.size a ≤ S4x384x512.size a) ∧
  (∀ k0_t6 : Fin (k0_t6_loop v1_1).trips, 512 ∣ (k0_mult21 v1_1 k0_t6).toNat) ∧
  (∀ (k0_t6 : Fin (k0_t6_loop v1_1).trips) (k0_t7 : Fin k0_t7_loop.trips), ∀ a, (k0_off75 v1_1 k0_t6 k0_t7) a + S1x128x512.size a ≤ S4x3072x512.size a) ∧
  (∀ k0_t6 : Fin (k0_t6_loop v1_1).trips, 512 ∣ (k0_mult25 v1_1 k0_t6).toNat) ∧
  (∀ (k0_t6 : Fin (k0_t6_loop v1_1).trips) (k0_t8 : Fin k0_t8_loop.trips), ∀ a, (k0_off79 v1_1 k0_t6 k0_t8) a + S1x128x512.size a ≤ S4x3072x512.size a) ∧
  (∀ k0_t6 : Fin (k0_t6_loop v1_1).trips, 512 ∣ (k0_mult29 v1_1 k0_t6).toNat) ∧
  (∀ (k0_t6 : Fin (k0_t6_loop v1_1).trips) (k0_t9 : Fin k0_t9_loop.trips), ∀ a, (k0_off83 v1_1 k0_t6 k0_t9) a + S1x128x512.size a ≤ S4x3072x512.size a) ∧
  (∀ k0_t6 : Fin (k0_t6_loop v1_1).trips, ∀ (k0_h6 : k0_cond6 v1_1 k0_t6 = 1#1), ∀ a, (k0_off87 v1_1 k0_t6) a + S1.size a ≤ S12.size a) ∧
  (∀ k0_t6 : Fin (k0_t6_loop v1_1).trips, ∀ (k0_h6 : k0_cond6 v1_1 k0_t6 = 1#1), 512 ∣ (k0_mult32 v1_1 k0_t6).toNat) ∧
  (∀ k0_t6 : Fin (k0_t6_loop v1_1).trips, ∀ (k0_h6 : k0_cond6 v1_1 k0_t6 = 1#1), ∀ a, (k0_off88 v1_1 k0_t6) a + S1.size a ≤ S4.size a) ∧
  (∀ k0_t6 : Fin (k0_t6_loop v1_1).trips, ∀ (k0_h6 : k0_cond6 v1_1 k0_t6 = 1#1), ∀ a, (k0_off89 v1_1 k0_t6) a + S1x3072x512.size a ≤ S4x3072x512.size a) ∧
  (∀ k0_t6 : Fin (k0_t6_loop v1_1).trips, ∀ (k0_h6 : k0_cond6 v1_1 k0_t6 = 1#1), ∀ (hinb : ∀ a, (k0_off89 v1_1 k0_t6) a + S1x3072x512.size a ≤ S4x3072x512.size a), (Rect.unit (s := S4x3072x512) (k0_off89 v1_1 k0_t6) S1x3072x512.size hinb).WholeWords (EltTy.packing .i8)) ∧
  (∀ k0_t6 : Fin (k0_t6_loop v1_1).trips, ∀ (k0_h6 : k0_cond6 v1_1 k0_t6 = 1#1), ∀ a, (k0_off91 v1_1 k0_t6) a + S1.size a ≤ S4.size a) ∧
  (∀ k0_t6 : Fin (k0_t6_loop v1_1).trips, ∀ (k0_h6 : k0_cond6 v1_1 k0_t6 = 1#1), ∀ a, (k0_off92 v1_1 k0_t6) a + S1x384x512.size a ≤ S4x384x512.size a) ∧
  (∀ k0_t6 : Fin (k0_t6_loop v1_1).trips, ∀ (k0_h6 : k0_cond6 v1_1 k0_t6 = 1#1), ∀ (hinb : ∀ a, (k0_off92 v1_1 k0_t6) a + S1x384x512.size a ≤ S4x384x512.size a), (Rect.unit (s := S4x384x512) (k0_off92 v1_1 k0_t6) S1x384x512.size hinb).WholeWords (EltTy.packing .fp8e4m3))
def k0_chk6 (v1_1 : BitVec 32) : Prop :=
  k0_chk6_0 v1_1 ∧
  k0_chk6_1 v1_1
theorem k0_t2_ok : ∀ (v1_1 : BitVec 32) (k0_hw6 : k0_chk6 v1_1), (k0_t2_loop v1_1).OK := fun v1_1 k0_hw6 => k0_hw6.1.1
theorem k0_off32_inb : ∀ (v1_1 : BitVec 32) (k0_hw6 : k0_chk6 v1_1) (k0_t2 : Fin (k0_t2_loop v1_1).trips), ∀ a, (k0_off32 v1_1 k0_t2) a + S1.size a ≤ S12.size a := fun v1_1 k0_hw6 k0_t2 => k0_hw6.1.2.1 k0_t2
theorem k0_mult5_dvd : ∀ (v1_1 : BitVec 32) (k0_hw6 : k0_chk6 v1_1) (k0_t2 : Fin (k0_t2_loop v1_1).trips), 512 ∣ (k0_mult5 v1_1 k0_t2).toNat := fun v1_1 k0_hw6 k0_t2 => k0_hw6.1.2.2.1 k0_t2
theorem k0_off33_inb : ∀ (v1_1 : BitVec 32) (k0_hw6 : k0_chk6 v1_1) (k0_t2 : Fin (k0_t2_loop v1_1).trips), ∀ a, (k0_off33 v1_1 k0_t2) a + S1.size a ≤ S4.size a := fun v1_1 k0_hw6 k0_t2 => k0_hw6.1.2.2.2.1 k0_t2
theorem k0_off34_inb : ∀ (v1_1 : BitVec 32) (k0_hw6 : k0_chk6 v1_1) (k0_t2 : Fin (k0_t2_loop v1_1).trips), ∀ a, (k0_off34 v1_1 k0_t2) a + S1x3072x512.size a ≤ S4x3072x512.size a := fun v1_1 k0_hw6 k0_t2 => k0_hw6.1.2.2.2.2.1 k0_t2
theorem k0_off34_wordsi8 : ∀ (v1_1 : BitVec 32) (k0_hw6 : k0_chk6 v1_1) (k0_t2 : Fin (k0_t2_loop v1_1).trips), (Rect.unit (s := S4x3072x512) (k0_off34 v1_1 k0_t2) S1x3072x512.size (k0_off34_inb v1_1 k0_hw6 k0_t2)).WholeWords (EltTy.packing .i8) := fun v1_1 k0_hw6 k0_t2 => k0_hw6.1.2.2.2.2.2.1 k0_t2 (k0_off34_inb v1_1 k0_hw6 k0_t2)
theorem k0_off36_inb : ∀ (v1_1 : BitVec 32) (k0_hw6 : k0_chk6 v1_1) (k0_t2 : Fin (k0_t2_loop v1_1).trips), ∀ a, (k0_off36 v1_1 k0_t2) a + S1.size a ≤ S4.size a := fun v1_1 k0_hw6 k0_t2 => k0_hw6.1.2.2.2.2.2.2.1 k0_t2
theorem k0_off37_inb : ∀ (v1_1 : BitVec 32) (k0_hw6 : k0_chk6 v1_1) (k0_t2 : Fin (k0_t2_loop v1_1).trips), ∀ a, (k0_off37 v1_1 k0_t2) a + S1x384x512.size a ≤ S4x384x512.size a := fun v1_1 k0_hw6 k0_t2 => k0_hw6.1.2.2.2.2.2.2.2.1 k0_t2
theorem k0_off37_wordsfp8e4m3 : ∀ (v1_1 : BitVec 32) (k0_hw6 : k0_chk6 v1_1) (k0_t2 : Fin (k0_t2_loop v1_1).trips), (Rect.unit (s := S4x384x512) (k0_off37 v1_1 k0_t2) S1x384x512.size (k0_off37_inb v1_1 k0_hw6 k0_t2)).WholeWords (EltTy.packing .fp8e4m3) := fun v1_1 k0_hw6 k0_t2 => k0_hw6.1.2.2.2.2.2.2.2.2.1 k0_t2 (k0_off37_inb v1_1 k0_hw6 k0_t2)
theorem k0_off39_inb : ∀ (v1_1 : BitVec 32) (k0_hw6 : k0_chk6 v1_1) (k0_t2 : Fin (k0_t2_loop v1_1).trips), ∀ a, (k0_off39 v1_1 k0_t2) a + S1.size a ≤ S12.size a := fun v1_1 k0_hw6 k0_t2 => k0_hw6.1.2.2.2.2.2.2.2.2.2.1 k0_t2
theorem k0_off43_inb : ∀ (v1_1 : BitVec 32) (k0_hw6 : k0_chk6 v1_1) (k0_t2 : Fin (k0_t2_loop v1_1).trips), ∀ a, (k0_off43 v1_1 k0_t2) a + S1x384x512.size a ≤ S4x384x512.size a := fun v1_1 k0_hw6 k0_t2 => k0_hw6.1.2.2.2.2.2.2.2.2.2.2.1 k0_t2
theorem k0_mult7_dvd : ∀ (v1_1 : BitVec 32) (k0_hw6 : k0_chk6 v1_1) (k0_t2 : Fin (k0_t2_loop v1_1).trips), 512 ∣ (k0_mult7 v1_1 k0_t2).toNat := fun v1_1 k0_hw6 k0_t2 => k0_hw6.1.2.2.2.2.2.2.2.2.2.2.2.1 k0_t2
theorem k0_off44_inb : ∀ (v1_1 : BitVec 32) (k0_hw6 : k0_chk6 v1_1) (k0_t2 : Fin (k0_t2_loop v1_1).trips) (k0_t3 : Fin k0_t3_loop.trips), ∀ a, (k0_off44 v1_1 k0_t2 k0_t3) a + S1x128x512.size a ≤ S4x3072x512.size a := fun v1_1 k0_hw6 k0_t2 k0_t3 => k0_hw6.1.2.2.2.2.2.2.2.2.2.2.2.2.1 k0_t2 k0_t3
theorem k0_mult11_dvd : ∀ (v1_1 : BitVec 32) (k0_hw6 : k0_chk6 v1_1) (k0_t2 : Fin (k0_t2_loop v1_1).trips), 512 ∣ (k0_mult11 v1_1 k0_t2).toNat := fun v1_1 k0_hw6 k0_t2 => k0_hw6.1.2.2.2.2.2.2.2.2.2.2.2.2.2.1 k0_t2
theorem k0_off48_inb : ∀ (v1_1 : BitVec 32) (k0_hw6 : k0_chk6 v1_1) (k0_t2 : Fin (k0_t2_loop v1_1).trips) (k0_t4 : Fin k0_t4_loop.trips), ∀ a, (k0_off48 v1_1 k0_t2 k0_t4) a + S1x128x512.size a ≤ S4x3072x512.size a := fun v1_1 k0_hw6 k0_t2 k0_t4 => k0_hw6.1.2.2.2.2.2.2.2.2.2.2.2.2.2.2.1 k0_t2 k0_t4
theorem k0_mult15_dvd : ∀ (v1_1 : BitVec 32) (k0_hw6 : k0_chk6 v1_1) (k0_t2 : Fin (k0_t2_loop v1_1).trips), 512 ∣ (k0_mult15 v1_1 k0_t2).toNat := fun v1_1 k0_hw6 k0_t2 => k0_hw6.1.2.2.2.2.2.2.2.2.2.2.2.2.2.2.2.1 k0_t2
theorem k0_off52_inb : ∀ (v1_1 : BitVec 32) (k0_hw6 : k0_chk6 v1_1) (k0_t2 : Fin (k0_t2_loop v1_1).trips) (k0_t5 : Fin k0_t5_loop.trips), ∀ a, (k0_off52 v1_1 k0_t2 k0_t5) a + S1x128x512.size a ≤ S4x3072x512.size a := fun v1_1 k0_hw6 k0_t2 k0_t5 => k0_hw6.1.2.2.2.2.2.2.2.2.2.2.2.2.2.2.2.2.1 k0_t2 k0_t5
theorem k0_off56_inb : ∀ (v1_1 : BitVec 32) (k0_hw6 : k0_chk6 v1_1) (k0_t2 : Fin (k0_t2_loop v1_1).trips), ∀ (k0_h5 : k0_cond5 v1_1 k0_t2 = 1#1), ∀ a, (k0_off56 v1_1 k0_t2) a + S1.size a ≤ S12.size a := fun v1_1 k0_hw6 k0_t2 k0_h5 => k0_hw6.1.2.2.2.2.2.2.2.2.2.2.2.2.2.2.2.2.2.1 k0_t2 k0_h5
theorem k0_mult18_dvd : ∀ (v1_1 : BitVec 32) (k0_hw6 : k0_chk6 v1_1) (k0_t2 : Fin (k0_t2_loop v1_1).trips), ∀ (k0_h5 : k0_cond5 v1_1 k0_t2 = 1#1), 512 ∣ (k0_mult18 v1_1 k0_t2).toNat := fun v1_1 k0_hw6 k0_t2 k0_h5 => k0_hw6.1.2.2.2.2.2.2.2.2.2.2.2.2.2.2.2.2.2.2.1 k0_t2 k0_h5
theorem k0_off57_inb : ∀ (v1_1 : BitVec 32) (k0_hw6 : k0_chk6 v1_1) (k0_t2 : Fin (k0_t2_loop v1_1).trips), ∀ (k0_h5 : k0_cond5 v1_1 k0_t2 = 1#1), ∀ a, (k0_off57 v1_1 k0_t2) a + S1.size a ≤ S4.size a := fun v1_1 k0_hw6 k0_t2 k0_h5 => k0_hw6.1.2.2.2.2.2.2.2.2.2.2.2.2.2.2.2.2.2.2.2.1 k0_t2 k0_h5
theorem k0_off58_inb : ∀ (v1_1 : BitVec 32) (k0_hw6 : k0_chk6 v1_1) (k0_t2 : Fin (k0_t2_loop v1_1).trips), ∀ (k0_h5 : k0_cond5 v1_1 k0_t2 = 1#1), ∀ a, (k0_off58 v1_1 k0_t2) a + S1x3072x512.size a ≤ S4x3072x512.size a := fun v1_1 k0_hw6 k0_t2 k0_h5 => k0_hw6.1.2.2.2.2.2.2.2.2.2.2.2.2.2.2.2.2.2.2.2.2.1 k0_t2 k0_h5
theorem k0_off58_wordsi8 : ∀ (v1_1 : BitVec 32) (k0_hw6 : k0_chk6 v1_1) (k0_t2 : Fin (k0_t2_loop v1_1).trips), ∀ (k0_h5 : k0_cond5 v1_1 k0_t2 = 1#1), (Rect.unit (s := S4x3072x512) (k0_off58 v1_1 k0_t2) S1x3072x512.size (k0_off58_inb v1_1 k0_hw6 k0_t2 k0_h5)).WholeWords (EltTy.packing .i8) := fun v1_1 k0_hw6 k0_t2 k0_h5 => k0_hw6.1.2.2.2.2.2.2.2.2.2.2.2.2.2.2.2.2.2.2.2.2.2.1 k0_t2 k0_h5 (k0_off58_inb v1_1 k0_hw6 k0_t2 k0_h5)
theorem k0_off60_inb : ∀ (v1_1 : BitVec 32) (k0_hw6 : k0_chk6 v1_1) (k0_t2 : Fin (k0_t2_loop v1_1).trips), ∀ (k0_h5 : k0_cond5 v1_1 k0_t2 = 1#1), ∀ a, (k0_off60 v1_1 k0_t2) a + S1.size a ≤ S4.size a := fun v1_1 k0_hw6 k0_t2 k0_h5 => k0_hw6.1.2.2.2.2.2.2.2.2.2.2.2.2.2.2.2.2.2.2.2.2.2.2.1 k0_t2 k0_h5
theorem k0_off61_inb : ∀ (v1_1 : BitVec 32) (k0_hw6 : k0_chk6 v1_1) (k0_t2 : Fin (k0_t2_loop v1_1).trips), ∀ (k0_h5 : k0_cond5 v1_1 k0_t2 = 1#1), ∀ a, (k0_off61 v1_1 k0_t2) a + S1x384x512.size a ≤ S4x384x512.size a := fun v1_1 k0_hw6 k0_t2 k0_h5 => k0_hw6.1.2.2.2.2.2.2.2.2.2.2.2.2.2.2.2.2.2.2.2.2.2.2.2.1 k0_t2 k0_h5
theorem k0_off61_wordsfp8e4m3 : ∀ (v1_1 : BitVec 32) (k0_hw6 : k0_chk6 v1_1) (k0_t2 : Fin (k0_t2_loop v1_1).trips), ∀ (k0_h5 : k0_cond5 v1_1 k0_t2 = 1#1), (Rect.unit (s := S4x384x512) (k0_off61 v1_1 k0_t2) S1x384x512.size (k0_off61_inb v1_1 k0_hw6 k0_t2 k0_h5)).WholeWords (EltTy.packing .fp8e4m3) := fun v1_1 k0_hw6 k0_t2 k0_h5 => k0_hw6.1.2.2.2.2.2.2.2.2.2.2.2.2.2.2.2.2.2.2.2.2.2.2.2.2.1 k0_t2 k0_h5 (k0_off61_inb v1_1 k0_hw6 k0_t2 k0_h5)
theorem k0_t6_ok : ∀ (v1_1 : BitVec 32) (k0_hw6 : k0_chk6 v1_1), (k0_t6_loop v1_1).OK := fun v1_1 k0_hw6 => k0_hw6.1.2.2.2.2.2.2.2.2.2.2.2.2.2.2.2.2.2.2.2.2.2.2.2.2.2.1
theorem k0_off63_inb : ∀ (v1_1 : BitVec 32) (k0_hw6 : k0_chk6 v1_1) (k0_t6 : Fin (k0_t6_loop v1_1).trips), ∀ a, (k0_off63 v1_1 k0_t6) a + S1.size a ≤ S12.size a := fun v1_1 k0_hw6 k0_t6 => k0_hw6.1.2.2.2.2.2.2.2.2.2.2.2.2.2.2.2.2.2.2.2.2.2.2.2.2.2.2.1 k0_t6
theorem k0_mult19_dvd : ∀ (v1_1 : BitVec 32) (k0_hw6 : k0_chk6 v1_1) (k0_t6 : Fin (k0_t6_loop v1_1).trips), 512 ∣ (k0_mult19 v1_1 k0_t6).toNat := fun v1_1 k0_hw6 k0_t6 => k0_hw6.1.2.2.2.2.2.2.2.2.2.2.2.2.2.2.2.2.2.2.2.2.2.2.2.2.2.2.2.1 k0_t6
theorem k0_off64_inb : ∀ (v1_1 : BitVec 32) (k0_hw6 : k0_chk6 v1_1) (k0_t6 : Fin (k0_t6_loop v1_1).trips), ∀ a, (k0_off64 v1_1 k0_t6) a + S1.size a ≤ S4.size a := fun v1_1 k0_hw6 k0_t6 => k0_hw6.1.2.2.2.2.2.2.2.2.2.2.2.2.2.2.2.2.2.2.2.2.2.2.2.2.2.2.2.2.1 k0_t6
theorem k0_off65_inb : ∀ (v1_1 : BitVec 32) (k0_hw6 : k0_chk6 v1_1) (k0_t6 : Fin (k0_t6_loop v1_1).trips), ∀ a, (k0_off65 v1_1 k0_t6) a + S1x3072x512.size a ≤ S4x3072x512.size a := fun v1_1 k0_hw6 k0_t6 => k0_hw6.1.2.2.2.2.2.2.2.2.2.2.2.2.2.2.2.2.2.2.2.2.2.2.2.2.2.2.2.2.2.1 k0_t6
theorem k0_off65_wordsi8 : ∀ (v1_1 : BitVec 32) (k0_hw6 : k0_chk6 v1_1) (k0_t6 : Fin (k0_t6_loop v1_1).trips), (Rect.unit (s := S4x3072x512) (k0_off65 v1_1 k0_t6) S1x3072x512.size (k0_off65_inb v1_1 k0_hw6 k0_t6)).WholeWords (EltTy.packing .i8) := fun v1_1 k0_hw6 k0_t6 => k0_hw6.1.2.2.2.2.2.2.2.2.2.2.2.2.2.2.2.2.2.2.2.2.2.2.2.2.2.2.2.2.2.2.1 k0_t6 (k0_off65_inb v1_1 k0_hw6 k0_t6)
theorem k0_off67_inb : ∀ (v1_1 : BitVec 32) (k0_hw6 : k0_chk6 v1_1) (k0_t6 : Fin (k0_t6_loop v1_1).trips), ∀ a, (k0_off67 v1_1 k0_t6) a + S1.size a ≤ S4.size a := fun v1_1 k0_hw6 k0_t6 => k0_hw6.1.2.2.2.2.2.2.2.2.2.2.2.2.2.2.2.2.2.2.2.2.2.2.2.2.2.2.2.2.2.2.2 k0_t6
theorem k0_off68_inb : ∀ (v1_1 : BitVec 32) (k0_hw6 : k0_chk6 v1_1) (k0_t6 : Fin (k0_t6_loop v1_1).trips), ∀ a, (k0_off68 v1_1 k0_t6) a + S1x384x512.size a ≤ S4x384x512.size a := fun v1_1 k0_hw6 k0_t6 => k0_hw6.2.1 k0_t6
theorem k0_off68_wordsfp8e4m3 : ∀ (v1_1 : BitVec 32) (k0_hw6 : k0_chk6 v1_1) (k0_t6 : Fin (k0_t6_loop v1_1).trips), (Rect.unit (s := S4x384x512) (k0_off68 v1_1 k0_t6) S1x384x512.size (k0_off68_inb v1_1 k0_hw6 k0_t6)).WholeWords (EltTy.packing .fp8e4m3) := fun v1_1 k0_hw6 k0_t6 => k0_hw6.2.2.1 k0_t6 (k0_off68_inb v1_1 k0_hw6 k0_t6)
theorem k0_off70_inb : ∀ (v1_1 : BitVec 32) (k0_hw6 : k0_chk6 v1_1) (k0_t6 : Fin (k0_t6_loop v1_1).trips), ∀ a, (k0_off70 v1_1 k0_t6) a + S1.size a ≤ S12.size a := fun v1_1 k0_hw6 k0_t6 => k0_hw6.2.2.2.1 k0_t6
theorem k0_off74_inb : ∀ (v1_1 : BitVec 32) (k0_hw6 : k0_chk6 v1_1) (k0_t6 : Fin (k0_t6_loop v1_1).trips), ∀ a, (k0_off74 v1_1 k0_t6) a + S1x384x512.size a ≤ S4x384x512.size a := fun v1_1 k0_hw6 k0_t6 => k0_hw6.2.2.2.2.1 k0_t6
theorem k0_mult21_dvd : ∀ (v1_1 : BitVec 32) (k0_hw6 : k0_chk6 v1_1) (k0_t6 : Fin (k0_t6_loop v1_1).trips), 512 ∣ (k0_mult21 v1_1 k0_t6).toNat := fun v1_1 k0_hw6 k0_t6 => k0_hw6.2.2.2.2.2.1 k0_t6
theorem k0_off75_inb : ∀ (v1_1 : BitVec 32) (k0_hw6 : k0_chk6 v1_1) (k0_t6 : Fin (k0_t6_loop v1_1).trips) (k0_t7 : Fin k0_t7_loop.trips), ∀ a, (k0_off75 v1_1 k0_t6 k0_t7) a + S1x128x512.size a ≤ S4x3072x512.size a := fun v1_1 k0_hw6 k0_t6 k0_t7 => k0_hw6.2.2.2.2.2.2.1 k0_t6 k0_t7
theorem k0_mult25_dvd : ∀ (v1_1 : BitVec 32) (k0_hw6 : k0_chk6 v1_1) (k0_t6 : Fin (k0_t6_loop v1_1).trips), 512 ∣ (k0_mult25 v1_1 k0_t6).toNat := fun v1_1 k0_hw6 k0_t6 => k0_hw6.2.2.2.2.2.2.2.1 k0_t6
theorem k0_off79_inb : ∀ (v1_1 : BitVec 32) (k0_hw6 : k0_chk6 v1_1) (k0_t6 : Fin (k0_t6_loop v1_1).trips) (k0_t8 : Fin k0_t8_loop.trips), ∀ a, (k0_off79 v1_1 k0_t6 k0_t8) a + S1x128x512.size a ≤ S4x3072x512.size a := fun v1_1 k0_hw6 k0_t6 k0_t8 => k0_hw6.2.2.2.2.2.2.2.2.1 k0_t6 k0_t8
theorem k0_mult29_dvd : ∀ (v1_1 : BitVec 32) (k0_hw6 : k0_chk6 v1_1) (k0_t6 : Fin (k0_t6_loop v1_1).trips), 512 ∣ (k0_mult29 v1_1 k0_t6).toNat := fun v1_1 k0_hw6 k0_t6 => k0_hw6.2.2.2.2.2.2.2.2.2.1 k0_t6
theorem k0_off83_inb : ∀ (v1_1 : BitVec 32) (k0_hw6 : k0_chk6 v1_1) (k0_t6 : Fin (k0_t6_loop v1_1).trips) (k0_t9 : Fin k0_t9_loop.trips), ∀ a, (k0_off83 v1_1 k0_t6 k0_t9) a + S1x128x512.size a ≤ S4x3072x512.size a := fun v1_1 k0_hw6 k0_t6 k0_t9 => k0_hw6.2.2.2.2.2.2.2.2.2.2.1 k0_t6 k0_t9
theorem k0_off87_inb : ∀ (v1_1 : BitVec 32) (k0_hw6 : k0_chk6 v1_1) (k0_t6 : Fin (k0_t6_loop v1_1).trips), ∀ (k0_h6 : k0_cond6 v1_1 k0_t6 = 1#1), ∀ a, (k0_off87 v1_1 k0_t6) a + S1.size a ≤ S12.size a := fun v1_1 k0_hw6 k0_t6 k0_h6 => k0_hw6.2.2.2.2.2.2.2.2.2.2.2.1 k0_t6 k0_h6
theorem k0_mult32_dvd : ∀ (v1_1 : BitVec 32) (k0_hw6 : k0_chk6 v1_1) (k0_t6 : Fin (k0_t6_loop v1_1).trips), ∀ (k0_h6 : k0_cond6 v1_1 k0_t6 = 1#1), 512 ∣ (k0_mult32 v1_1 k0_t6).toNat := fun v1_1 k0_hw6 k0_t6 k0_h6 => k0_hw6.2.2.2.2.2.2.2.2.2.2.2.2.1 k0_t6 k0_h6
theorem k0_off88_inb : ∀ (v1_1 : BitVec 32) (k0_hw6 : k0_chk6 v1_1) (k0_t6 : Fin (k0_t6_loop v1_1).trips), ∀ (k0_h6 : k0_cond6 v1_1 k0_t6 = 1#1), ∀ a, (k0_off88 v1_1 k0_t6) a + S1.size a ≤ S4.size a := fun v1_1 k0_hw6 k0_t6 k0_h6 => k0_hw6.2.2.2.2.2.2.2.2.2.2.2.2.2.1 k0_t6 k0_h6
theorem k0_off89_inb : ∀ (v1_1 : BitVec 32) (k0_hw6 : k0_chk6 v1_1) (k0_t6 : Fin (k0_t6_loop v1_1).trips), ∀ (k0_h6 : k0_cond6 v1_1 k0_t6 = 1#1), ∀ a, (k0_off89 v1_1 k0_t6) a + S1x3072x512.size a ≤ S4x3072x512.size a := fun v1_1 k0_hw6 k0_t6 k0_h6 => k0_hw6.2.2.2.2.2.2.2.2.2.2.2.2.2.2.1 k0_t6 k0_h6
theorem k0_off89_wordsi8 : ∀ (v1_1 : BitVec 32) (k0_hw6 : k0_chk6 v1_1) (k0_t6 : Fin (k0_t6_loop v1_1).trips), ∀ (k0_h6 : k0_cond6 v1_1 k0_t6 = 1#1), (Rect.unit (s := S4x3072x512) (k0_off89 v1_1 k0_t6) S1x3072x512.size (k0_off89_inb v1_1 k0_hw6 k0_t6 k0_h6)).WholeWords (EltTy.packing .i8) := fun v1_1 k0_hw6 k0_t6 k0_h6 => k0_hw6.2.2.2.2.2.2.2.2.2.2.2.2.2.2.2.1 k0_t6 k0_h6 (k0_off89_inb v1_1 k0_hw6 k0_t6 k0_h6)
theorem k0_off91_inb : ∀ (v1_1 : BitVec 32) (k0_hw6 : k0_chk6 v1_1) (k0_t6 : Fin (k0_t6_loop v1_1).trips), ∀ (k0_h6 : k0_cond6 v1_1 k0_t6 = 1#1), ∀ a, (k0_off91 v1_1 k0_t6) a + S1.size a ≤ S4.size a := fun v1_1 k0_hw6 k0_t6 k0_h6 => k0_hw6.2.2.2.2.2.2.2.2.2.2.2.2.2.2.2.2.1 k0_t6 k0_h6
theorem k0_off92_inb : ∀ (v1_1 : BitVec 32) (k0_hw6 : k0_chk6 v1_1) (k0_t6 : Fin (k0_t6_loop v1_1).trips), ∀ (k0_h6 : k0_cond6 v1_1 k0_t6 = 1#1), ∀ a, (k0_off92 v1_1 k0_t6) a + S1x384x512.size a ≤ S4x384x512.size a := fun v1_1 k0_hw6 k0_t6 k0_h6 => k0_hw6.2.2.2.2.2.2.2.2.2.2.2.2.2.2.2.2.2.1 k0_t6 k0_h6
theorem k0_off92_wordsfp8e4m3 : ∀ (v1_1 : BitVec 32) (k0_hw6 : k0_chk6 v1_1) (k0_t6 : Fin (k0_t6_loop v1_1).trips), ∀ (k0_h6 : k0_cond6 v1_1 k0_t6 = 1#1), (Rect.unit (s := S4x384x512) (k0_off92 v1_1 k0_t6) S1x384x512.size (k0_off92_inb v1_1 k0_hw6 k0_t6 k0_h6)).WholeWords (EltTy.packing .fp8e4m3) := fun v1_1 k0_hw6 k0_t6 k0_h6 => k0_hw6.2.2.2.2.2.2.2.2.2.2.2.2.2.2.2.2.2.2 k0_t6 k0_h6 (k0_off92_inb v1_1 k0_hw6 k0_t6 k0_h6)

abbrev stage0_0 : Fin 1 → Memref sig .tc .smem S11 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S11 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S11 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S11 : Shape := ⟨1, ![11]⟩
abbrev S1024x6144 : Shape := ⟨2, ![1024, 6144]⟩
abbrev S11x3072x2560 : Shape := ⟨3, ![11, 3072, 2560]⟩
abbrev S11x384x2560 : Shape := ⟨3, ![11, 384, 2560]⟩
abbrev S1024x3072 : Shape := ⟨2, ![1024, 3072]⟩
abbrev S1024x2560 : Shape := ⟨2, ![1024, 2560]⟩
abbrev S1 : Shape := ⟨1, ![1]⟩
abbrev S1x384x2560 : Shape := ⟨3, ![1, 384, 2560]⟩
abbrev S384x2560 : Shape := ⟨2, ![384, 2560]⟩
abbrev S384x1x2560 : Shape := ⟨3, ![384, 1, 2560]⟩
abbrev S384x8x2560 : Shape := ⟨3, ![384, 8, 2560]⟩
abbrev S3072x2560 : Shape := ⟨2, ![3072, 2560]⟩
abbrev S1x3072x2560 : Shape := ⟨3, ![1, 3072, 2560]⟩

abbrev nBuf : Space → Nat
  | .hbm => 9
  | .vmem => 5
  | .smem => 3
  | _ => 0

abbrev bufTy : (tb : Table) → Fin (tcTables nBuf tb) → BufTy
  | .hbm, ⟨0, _⟩ => ⟨S11, .i32⟩
  | .hbm, ⟨1, _⟩ => ⟨S11, .f32⟩
  | .hbm, ⟨2, _⟩ => ⟨S11, .f32⟩
  | .hbm, ⟨3, _⟩ => ⟨S1024x6144, .bf16⟩
  | .hbm, ⟨4, _⟩ => ⟨S11x3072x2560, .i8⟩
  | .hbm, ⟨5, _⟩ => ⟨S11x384x2560, .fp8e4m3⟩
  | .hbm, ⟨6, _⟩ => ⟨S1024x3072, .bf16⟩
  | .hbm, ⟨7, _⟩ => ⟨S1024x3072, .bf16⟩
  | .hbm, ⟨8, _⟩ => ⟨S1024x2560, .f32⟩
  | .local _ .vmem, ⟨0, _⟩ => ⟨S1024x3072, .bf16⟩
  | .local _ .vmem, ⟨1, _⟩ => ⟨S1024x3072, .bf16⟩
  | .local _ .vmem, ⟨2, _⟩ => ⟨S11x3072x2560, .i8⟩
  | .local _ .vmem, ⟨3, _⟩ => ⟨S11x384x2560, .fp8e4m3⟩
  | .local _ .vmem, ⟨4, _⟩ => ⟨S1024x2560, .f32⟩
  | .local _ .smem, ⟨0, _⟩ => ⟨S11, .i32⟩
  | .local _ .smem, ⟨1, _⟩ => ⟨S11, .f32⟩
  | .local _ .smem, ⟨2, _⟩ => ⟨S11, .f32⟩
  | _, _ => ⟨S11, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c11_i32 : BitVec 32 := 11#32
  let v2 : BitVec 32 := Scalar.addi c0_i32_1 c11_i32
  let c1_i32 : BitVec 32 := 1#32
  ⟨c0_i32_1, v2, c1_i32⟩
def k0_off1 (k0_t1 : Fin k0_t1_loop.trips) : Fin 1 → Nat :=
  let c0_i32_1 : BitVec 32 := 0#32
  let c1_i32 : BitVec 32 := 1#32
  let arg8 : BitVec 32 := Scf.iv c0_i32_1 c1_i32 k0_t1
  let v10 : Index := Scalar.indexCast arg8
  ![v10.toNat]
@[reducible] def k0_t2_loop : Scf.Loop 32 :=
  let c0_i32_4 : BitVec 32 := 0#32
  let c11_i32_5 : BitVec 32 := 11#32
  let v6 : BitVec 32 := Scalar.addi c0_i32_4 c11_i32_5
  let c1_i32_6 : BitVec 32 := 1#32
  ⟨c0_i32_4, v6, c1_i32_6⟩
def k0_off2 (k0_t2 : Fin k0_t2_loop.trips) : Fin 3 → Nat :=
  let c0_i32_4 : BitVec 32 := 0#32
  let c1_i32_6 : BitVec 32 := 1#32
  let arg8 : BitVec 32 := Scf.iv c0_i32_4 c1_i32_6 k0_t2
  let v10 : Index := Scalar.indexCast arg8
  let c0_9 : Index := 0#32
  let c0_10 : Index := 0#32
  ![v10.toNat, 0, 0]
def k0_off3 (k0_t2 : Fin k0_t2_loop.trips) : Fin 3 → Nat :=
  let c0_i32_4 : BitVec 32 := 0#32
  let c1_i32_6 : BitVec 32 := 1#32
  let arg8 : BitVec 32 := Scf.iv c0_i32_4 c1_i32_6 k0_t2
  let v18 : Index := Scalar.indexCast arg8
  let c0_11 : Index := 0#32
  let c0_12 : Index := 0#32
  ![v18.toNat, 0, 0]
def k0_off4 (k0_t2 : Fin k0_t2_loop.trips) : Fin 1 → Nat :=
  let c0_i32_4 : BitVec 32 := 0#32
  let c1_i32_6 : BitVec 32 := 1#32
  let arg8 : BitVec 32 := Scf.iv c0_i32_4 c1_i32_6 k0_t2
  let v150 : Index := Scalar.indexCast arg8
  ![v150.toNat]
abbrev stage0_0 : Fin 1 → Memref sig .tc .smem S11 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S11 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S11 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S11x3072x2560 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S11x384x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Tail.lean ====
abbrev S12 : Shape := ⟨1, ![12]⟩
abbrev S1024x2560 : Shape := ⟨2, ![1024, 2560]⟩
abbrev S11 : Shape := ⟨1, ![11]⟩
abbrev S1024x128 : Shape := ⟨2, ![1024, 128]⟩
abbrev S8x128 : Shape := ⟨2, ![8, 128]⟩
abbrev S8 : Shape := ⟨1, ![8]⟩
abbrev S8x1 : Shape := ⟨2, ![8, 1]⟩
abbrev S1 : Shape := ⟨1, ![1]⟩
abbrev S128 : Shape := ⟨1, ![128]⟩
abbrev S1x128 : Shape := ⟨2, ![1, 128]⟩
abbrev S1x1x128 : Shape := ⟨3, ![1, 1, 128]⟩
abbrev S1x1x1 : Shape := ⟨3, ![1, 1, 1]⟩

abbrev nBuf : Space → Nat
  | .hbm => 3
  | .vmem => 2
  | .smem => 2
  | _ => 0

abbrev bufTy : (tb : Table) → Fin (tcTables nBuf tb) → BufTy
  | .hbm, ⟨0, _⟩ => ⟨S12, .i32⟩
  | .hbm, ⟨1, _⟩ => ⟨S1024x2560, .f32⟩
  | .hbm, ⟨2, _⟩ => ⟨S11, .f32⟩
  | .local _ .vmem, ⟨0, _⟩ => ⟨S1024x2560, .f32⟩
  | .local _ .vmem, ⟨1, _⟩ => ⟨S1024x128, .f32⟩
  | .local _ .smem, ⟨0, _⟩ => ⟨S12, .i32⟩
  | .local _ .smem, ⟨1, _⟩ => ⟨S11, .f32⟩
  | _, _ => ⟨S12, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_scratch0 : Ref sig .tc := ⟨.vmem, 1, rfl⟩
abbrev cc0_stg0_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v1 : BitVec 32 := Scalar.addi c0_i32 c128_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  v245
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v247 : Index := Scalar.indexCast v246
  let c0_89 : Index := 0#32
  ![v247.toNat, 0]
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v250 : Index := Scalar.indexCast v246
  let c128 : Index := 128#32
  ![v250.toNat, 128]
def k0_off3 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v254 : Index := Scalar.indexCast v246
  let c256 : Index := 256#32
  ![v254.toNat, 256]
def k0_off4 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v258 : Index := Scalar.indexCast v246
  let c384 : Index := 384#32
  ![v258.toNat, 384]
def k0_off5 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v262 : Index := Scalar.indexCast v246
  let c512 : Index := 512#32
  ![v262.toNat, 512]
def k0_off6 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v266 : Index := Scalar.indexCast v246
  let c640 : Index := 640#32
  ![v266.toNat, 640]
def k0_off7 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v270 : Index := Scalar.indexCast v246
  let c768 : Index := 768#32
  ![v270.toNat, 768]
def k0_off8 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v274 : Index := Scalar.indexCast v246
  let c896 : Index := 896#32
  ![v274.toNat, 896]
def k0_off9 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v278 : Index := Scalar.indexCast v246
  let c1024 : Index := 1024#32
  ![v278.toNat, 1024]
def k0_off10 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v282 : Index := Scalar.indexCast v246
  let c1152 : Index := 1152#32
  ![v282.toNat, 1152]
def k0_off11 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v286 : Index := Scalar.indexCast v246
  let c1280 : Index := 1280#32
  ![v286.toNat, 1280]
def k0_off12 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v290 : Index := Scalar.indexCast v246
  let c1408 : Index := 1408#32
  ![v290.toNat, 1408]
def k0_off13 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v294 : Index := Scalar.indexCast v246
  let c1536 : Index := 1536#32
  ![v294.toNat, 1536]
def k0_off14 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v298 : Index := Scalar.indexCast v246
  let c1664 : Index := 1664#32
  ![v298.toNat, 1664]
def k0_off15 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v302 : Index := Scalar.indexCast v246
  let c1792 : Index := 1792#32
  ![v302.toNat, 1792]
def k0_off16 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v306 : Index := Scalar.indexCast v246
  let c1920 : Index := 1920#32
  ![v306.toNat, 1920]
def k0_off17 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v310 : Index := Scalar.indexCast v246
  let c2048 : Index := 2048#32
  ![v310.toNat, 2048]
def k0_off18 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v314 : Index := Scalar.indexCast v246
  let c2176 : Index := 2176#32
  ![v314.toNat, 2176]
def k0_off19 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v318 : Index := Scalar.indexCast v246
  let c2304 : Index := 2304#32
  ![v318.toNat, 2304]
def k0_off20 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v322 : Index := Scalar.indexCast v246
  let c2432 : Index := 2432#32
  ![v322.toNat, 2432]
def k0_off21 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v245 : BitVec 32 := Scalar.muli arg4 c8_i32
  let v246 : BitVec 32 := v245
  let v330 : Index := Scalar.indexCast v246
  let c0_91 : Index := 0#32
  ![v330.toNat, 0]
abbrev stage0_0 : Fin 1 → Memref sig .tc .smem S12 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S11 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== GlobalIdeal.lean ====
abbrev S12 : Shape := ⟨1, ![12]⟩
abbrev S1024x2560 : Shape := ⟨2, ![1024, 2560]⟩
abbrev S11 : Shape := ⟨1, ![11]⟩
abbrev S1024 : Shape := ⟨1, ![1024]⟩
abbrev S1024x1 : Shape := ⟨2, ![1024, 1]⟩
abbrev S1x11 : Shape := ⟨2, ![1, 11]⟩
abbrev S1024x11 : Shape := ⟨2, ![1024, 11]⟩
abbrev S_ : Shape := ⟨0, ![]⟩
abbrev S1x1024 : Shape := ⟨2, ![1, 1024]⟩
abbrev S11x1 : Shape := ⟨2, ![11, 1]⟩
abbrev S11x1024 : Shape := ⟨2, ![11, 1024]⟩

abbrev nBuf : Space → Nat
  | .hbm => 49
  | .vmem => 0
  | .smem => 0
  | _ => 0

abbrev bufTy : (tb : Table) → Fin (tcTables nBuf tb) → BufTy
  | .hbm, ⟨0, _⟩ => ⟨S12, .i32⟩
  | .hbm, ⟨1, _⟩ => ⟨S1024x2560, .f32⟩
  | .hbm, ⟨2, _⟩ => ⟨S11, .i32⟩
  | .hbm, ⟨3, _⟩ => ⟨S11, .i32⟩
  | .hbm, ⟨4, _⟩ => ⟨S11, .i32⟩
  | .hbm, ⟨5, _⟩ => ⟨S11, .i32⟩
  | .hbm, ⟨6, _⟩ => ⟨S11, .i32⟩
  | .hbm, ⟨7, _⟩ => ⟨S1024, .i32⟩
  | .hbm, ⟨8, _⟩ => ⟨S1024x1, .i32⟩
  | .hbm, ⟨9, _⟩ => ⟨S1x11, .i32⟩
  | .hbm, ⟨10, _⟩ => ⟨S1024x11, .i32⟩
  | .hbm, ⟨11, _⟩ => ⟨S1024x11, .i32⟩
  | .hbm, ⟨12, _⟩ => ⟨S1024x11, .i1⟩
  | .hbm, ⟨13, _⟩ => ⟨S1024x11, .i32⟩
  | .hbm, ⟨14, _⟩ => ⟨S_, .i32⟩
  | .hbm, ⟨15, _⟩ => ⟨S1024, .i32⟩
  | .hbm, ⟨16, _⟩ => ⟨S1024x2560, .f32⟩
  | .hbm, ⟨17, _⟩ => ⟨S_, .f32⟩
  | .hbm, ⟨18, _⟩ => ⟨S1024, .f32⟩
  | .hbm, ⟨19, _⟩ => ⟨S1x1024, .i32⟩
  | .hbm, ⟨20, _⟩ => ⟨S11x1, .i32⟩
  | .hbm, ⟨21, _⟩ => ⟨S11x1024, .i32⟩
  | .hbm, ⟨22, _⟩ => ⟨S11x1024, .i32⟩
  | .hbm, ⟨23, _⟩ => ⟨S11x1024, .i1⟩
  | .hbm, ⟨24, _⟩ => ⟨S1x1024, .f32⟩
  | .hbm, ⟨25, _⟩ => ⟨S_, .f32⟩
  | .hbm, ⟨26, _⟩ => ⟨S_, .f32⟩
  | .hbm, ⟨27, _⟩ => ⟨S11x1024, .f32⟩
  | .hbm, ⟨28, _⟩ => ⟨S11x1024, .f32⟩
  | .hbm, ⟨29, _⟩ => ⟨S11x1024, .f32⟩
  | .hbm, ⟨30, _⟩ => ⟨S_, .f32⟩
  | .hbm, ⟨31, _⟩ => ⟨S11, .f32⟩
  | .hbm, ⟨32, _⟩ => ⟨S_, .i32⟩
  | .hbm, ⟨33, _⟩ => ⟨S11, .i32⟩
  | .hbm, ⟨34, _⟩ => ⟨S11, .i1⟩
  | .hbm, ⟨35, _⟩ => ⟨S_, .f32⟩
  | .hbm, ⟨36, _⟩ => ⟨S_, .f32⟩
  | .hbm, ⟨37, _⟩ => ⟨S11, .f32⟩
  | .hbm, ⟨38, _⟩ => ⟨S11, .f32⟩
  | .hbm, ⟨39, _⟩ => ⟨S_, .f32⟩
  | .hbm, ⟨40, _⟩ => ⟨S11, .f32⟩
  | .hbm, ⟨41, _⟩ => ⟨S11, .i1⟩
  | .hbm, ⟨42, _⟩ => ⟨S_, .f32⟩
  | .hbm, ⟨43, _⟩ => ⟨S11, .f32⟩
  | .hbm, ⟨44, _⟩ => ⟨S11, .f32⟩
  | .hbm, ⟨45, _⟩ => ⟨S_, .f32⟩
  | .hbm, ⟨46, _⟩ => ⟨S_, .f32⟩
  | .hbm, ⟨47, _⟩ => ⟨S11, .f32⟩
  | .hbm, ⟨48, _⟩ => ⟨S11, .f32⟩
  | _, _ => ⟨S12, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_call2_v0 : Ref sig .tc := ⟨.hbm, 46, rfl⟩
abbrev main_call2_v1 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Act.lean ====
abbrev S12 : Shape := ⟨1, ![12]⟩
abbrev S1024x384 : Shape := ⟨2, ![1024, 384]⟩
abbrev S11 : Shape := ⟨1, ![11]⟩
abbrev S1024x128 : Shape := ⟨2, ![1024, 128]⟩
abbrev S128x384 : Shape := ⟨2, ![128, 384]⟩
abbrev S128 : Shape := ⟨1, ![128]⟩
abbrev S128x1 : Shape := ⟨2, ![128, 1]⟩
abbrev S128x128 : Shape := ⟨2, ![128, 128]⟩
abbrev S1 : Shape := ⟨1, ![1]⟩
abbrev S1x128 : Shape := ⟨2, ![1, 128]⟩
abbrev S1x1x128 : Shape := ⟨3, ![1, 1, 128]⟩
abbrev S1x1x1 : Shape := ⟨3, ![1, 1, 1]⟩

abbrev nBuf : Space → Nat
  | .hbm => 3
  | .vmem => 2
  | .smem => 2
  | _ => 0

abbrev bufTy : (tb : Table) → Fin (tcTables nBuf tb) → BufTy
  | .hbm, ⟨0, _⟩ => ⟨S12, .i32⟩
  | .hbm, ⟨1, _⟩ => ⟨S1024x384, .f32⟩
  | .hbm, ⟨2, _⟩ => ⟨S11, .f32⟩
  | .local _ .vmem, ⟨0, _⟩ => ⟨S1024x384, .f32⟩
  | .local _ .vmem, ⟨1, _⟩ => ⟨S1024x128, .f32⟩
  | .local _ .smem, ⟨0, _⟩ => ⟨S12, .i32⟩
  | .local _ .smem, ⟨1, _⟩ => ⟨S11, .f32⟩
  | _, _ => ⟨S12, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_scratch0 : Ref sig .tc := ⟨.vmem, 1, rfl⟩
abbrev cc0_stg0_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S12 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S11 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ActGlobalIdeal.lean ====
abbrev S12 : Shape := ⟨1, ![12]⟩
abbrev S1024x384 : Shape := ⟨2, ![1024, 384]⟩
abbrev S11 : Shape := ⟨1, ![11]⟩
abbrev S1024 : Shape := ⟨1, ![1024]⟩
abbrev S1024x1 : Shape := ⟨2, ![1024, 1]⟩
abbrev S1x11 : Shape := ⟨2, ![1, 11]⟩
abbrev S1024x11 : Shape := ⟨2, ![1024, 11]⟩
abbrev S_ : Shape := ⟨0, ![]⟩
abbrev S1x1024 : Shape := ⟨2, ![1, 1024]⟩
abbrev S11x1 : Shape := ⟨2, ![11, 1]⟩
abbrev S11x1024 : Shape := ⟨2, ![11, 1024]⟩

abbrev nBuf : Space → Nat
  | .hbm => 48
  | .vmem => 0
  | .smem => 0
  | _ => 0

abbrev bufTy : (tb : Table) → Fin (tcTables nBuf tb) → BufTy
  | .hbm, ⟨0, _⟩ => ⟨S12, .i32⟩
  | .hbm, ⟨1, _⟩ => ⟨S1024x384, .f32⟩
  | .hbm, ⟨2, _⟩ => ⟨S11, .i32⟩
  | .hbm, ⟨3, _⟩ => ⟨S11, .i32⟩
  | .hbm, ⟨4, _⟩ => ⟨S11, .i32⟩
  | .hbm, ⟨5, _⟩ => ⟨S11, .i32⟩
  | .hbm, ⟨6, _⟩ => ⟨S11, .i32⟩
  | .hbm, ⟨7, _⟩ => ⟨S1024, .i32⟩
  | .hbm, ⟨8, _⟩ => ⟨S1024x1, .i32⟩
  | .hbm, ⟨9, _⟩ => ⟨S1x11, .i32⟩
  | .hbm, ⟨10, _⟩ => ⟨S1024x11, .i32⟩
  | .hbm, ⟨11, _⟩ => ⟨S1024x11, .i32⟩
  | .hbm, ⟨12, _⟩ => ⟨S1024x11, .i1⟩
  | .hbm, ⟨13, _⟩ => ⟨S1024x11, .i32⟩
  | .hbm, ⟨14, _⟩ => ⟨S_, .i32⟩
  | .hbm, ⟨15, _⟩ => ⟨S1024, .i32⟩
  | .hbm, ⟨16, _⟩ => ⟨S_, .f32⟩
  | .hbm, ⟨17, _⟩ => ⟨S1024, .f32⟩
  | .hbm, ⟨18, _⟩ => ⟨S1x1024, .i32⟩
  | .hbm, ⟨19, _⟩ => ⟨S11x1, .i32⟩
  | .hbm, ⟨20, _⟩ => ⟨S11x1024, .i32⟩
  | .hbm, ⟨21, _⟩ => ⟨S11x1024, .i32⟩
  | .hbm, ⟨22, _⟩ => ⟨S11x1024, .i1⟩
  | .hbm, ⟨23, _⟩ => ⟨S1x1024, .f32⟩
  | .hbm, ⟨24, _⟩ => ⟨S_, .f32⟩
  | .hbm, ⟨25, _⟩ => ⟨S_, .f32⟩
  | .hbm, ⟨26, _⟩ => ⟨S11x1024, .f32⟩
  | .hbm, ⟨27, _⟩ => ⟨S11x1024, .f32⟩
  | .hbm, ⟨28, _⟩ => ⟨S11x1024, .f32⟩
  | .hbm, ⟨29, _⟩ => ⟨S_, .f32⟩
  | .hbm, ⟨30, _⟩ => ⟨S11, .f32⟩
  | .hbm, ⟨31, _⟩ => ⟨S_, .i32⟩
  | .hbm, ⟨32, _⟩ => ⟨S11, .i32⟩
  | .hbm, ⟨33, _⟩ => ⟨S11, .i1⟩
  | .hbm, ⟨34, _⟩ => ⟨S_, .f32⟩
  | .hbm, ⟨35, _⟩ => ⟨S_, .f32⟩
  | .hbm, ⟨36, _⟩ => ⟨S11, .f32⟩
  | .hbm, ⟨37, _⟩ => ⟨S11, .f32⟩
  | .hbm, ⟨38, _⟩ => ⟨S_, .f32⟩
  | .hbm, ⟨39, _⟩ => ⟨S11, .f32⟩
  | .hbm, ⟨40, _⟩ => ⟨S11, .i1⟩
  | .hbm, ⟨41, _⟩ => ⟨S_, .f32⟩
  | .hbm, ⟨42, _⟩ => ⟨S11, .f32⟩
  | .hbm, ⟨43, _⟩ => ⟨S11, .f32⟩
  | .hbm, ⟨44, _⟩ => ⟨S_, .f32⟩
  | .hbm, ⟨45, _⟩ => ⟨S_, .f32⟩
  | .hbm, ⟨46, _⟩ => ⟨S11, .f32⟩
  | .hbm, ⟨47, _⟩ => ⟨S11, .f32⟩
  | _, _ => ⟨S12, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_call2_v0 : Ref sig .tc := ⟨.hbm, 45, rfl⟩
abbrev main_call2_v1 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== Proof.KA.lean ====
/- The words the kernel computes — trip counts, offsets, guards and side conditions — as plain natural numbers. -/
module

public import proofs.«01_k».proof.Proof.Gen.Kernel.Skeleton

@[expose] public section

set_option maxRecDepth 100000
set_option maxHeartbeats 4000000

namespace Cert.Kernel.KA

open Idealize.ShloMosaic Cert.Kernel

/-- The 32-bit word of a natural number. -/
abbrev W (n : ℕ) : BitVec 32 := BitVec.ofNat 32 n

theorem trips2 : ∀ n : Fin 12, (k0_t2_loop (W n.val)).trips = 5 * n.val := by decide +kernel
theorem trips6 : ∀ n : Fin 12, (k0_t6_loop (W n.val)).trips = 0 := by decide +kernel
theorem trips1 : k0_t1_loop.trips = 11 := by decide +kernel
theorem trips3 : k0_t3_loop.trips = 24 := by decide +kernel
theorem trips4 : k0_t4_loop.trips = 24 := by decide +kernel
theorem trips5 : k0_t5_loop.trips = 24 := by decide +kernel

theorem chk6 : ∀ n : Fin 12, k0_chk6 (W n.val) := by decide +kernel

theorem cond1 : ∀ n : Fin 12, 1 ≤ n.val → k0_cond1 (W n.val) = 1#1 := by decide +kernel
theorem cond2 : ∀ n : Fin 12, 1 ≤ n.val → k0_cond2 (W n.val) = 1#1 := by decide +kernel
theorem cond3 : ∀ n : Fin 12, 1 ≤ n.val → k0_cond3 (W n.val) = 1#1 := by decide +kernel
theorem cond4 : ∀ n : Fin 12, 1 ≤ n.val → k0_cond4 (W n.val) = 1#1 := by decide +kernel

theorem cond5 : ∀ (n : Fin 12) (t : Fin (k0_t2_loop (W n.val)).trips), (k0_cond5 (W n.val) t = 1#1) ↔ t.val + 4 < 5 * n.val := by decide +kernel

theorem off1 : ∀ k : Fin k0_t1_loop.trips, k0_off1 k = ![k.val] := by decide +kernel
theorem off3 : ∀ k : Fin k0_t1_loop.trips, k0_off3 k = ![k.val] := by decide +kernel
theorem off2 : ∀ n : Fin 12, k0_off2 (W n.val) = ![n.val] := by decide +kernel
theorem chk1 : ∀ n : Fin 12, k0_chk1 (W n.val) := by decide +kernel
theorem iv1 : ∀ k : Fin k0_t1_loop.trips, (Scf.iv 0#32 1#32 k) = W k.val := by decide +kernel

theorem off4 : k0_off4 = ![0] := by decide +kernel
theorem off11 : k0_off11 = ![0] := by decide +kernel
theorem off18 : k0_off18 = ![0] := by decide +kernel
theorem off25 : k0_off25 = ![0] := by decide +kernel
theorem off5 : k0_off5 = ![0] := by decide +kernel
theorem off12 : k0_off12 = ![1] := by decide +kernel
theorem off19 : k0_off19 = ![2] := by decide +kernel
theorem off26 : k0_off26 = ![3] := by decide +kernel
theorem off8 : k0_off8 = ![0] := by decide +kernel
theorem off15 : k0_off15 = ![1] := by decide +kernel
theorem off22 : k0_off22 = ![2] := by decide +kernel
theorem off29 : k0_off29 = ![3] := by decide +kernel
theorem off6 : k0_off6 = ![0, 0, 0] := by decide +kernel
theorem off13 : k0_off13 = ![1, 0, 0] := by decide +kernel
theorem off20 : k0_off20 = ![2, 0, 0] := by decide +kernel
theorem off27 : k0_off27 = ![3, 0, 0] := by decide +kernel
theorem off9 : k0_off9 = ![0, 0, 0] := by decide +kernel
theorem off16 : k0_off16 = ![1, 0, 0] := by decide +kernel
theorem off23 : k0_off23 = ![2, 0, 0] := by decide +kernel
theorem off30 : k0_off30 = ![3, 0, 0] := by decide +kernel
theorem off7 : ∀ e : Fin 11, k0_off7 (W e.val) = ![e.val, 0, 0] := by decide +kernel
theorem off14 : ∀ e : Fin 11, k0_off14 (W e.val) = ![e.val, 0, 512] := by decide +kernel
theorem off21 : ∀ e : Fin 11, k0_off21 (W e.val) = ![e.val, 0, 1024] := by decide +kernel
theorem off28 : ∀ e : Fin 11, k0_off28 (W e.val) = ![e.val, 0, 1536] := by decide +kernel
theorem off10 : ∀ e : Fin 11, k0_off10 (W e.val) = ![e.val, 0, 0] := by decide +kernel
theorem off17 : ∀ e : Fin 11, k0_off17 (W e.val) = ![e.val, 0, 512] := by decide +kernel
theorem off24 : ∀ e : Fin 11, k0_off24 (W e.val) = ![e.val, 0, 1024] := by decide +kernel
theorem off31 : ∀ e : Fin 11, k0_off31 (W e.val) = ![e.val, 0, 1536] := by decide +kernel

/-- A window of packed weights is whole words: its rows are all the array's rows. -/
theorem words7 (off : Fin 3 → ℕ) (h : off 1 = 0) (hinb : ∀ a, off a + S1x3072x512.size a ≤ S11x3072x2560.size a) :
    (Rect.unit (s := S11x3072x2560) off S1x3072x512.size hinb).WholeWords (EltTy.packing .i8) :=
  .inr ⟨by decide, rfl, h, rfl⟩

theorem words8 (off : Fin 3 → ℕ) (h : off 1 = 0) (hinb : ∀ a, off a + S1x384x512.size a ≤ S11x384x2560.size a) :
    (Rect.unit (s := S11x384x2560) off S1x384x512.size hinb).WholeWords (EltTy.packing .fp8e4m3) :=
  .inr ⟨by decide, rfl, h, rfl⟩

theorem inb7 (off : Fin 3 → ℕ) (e : Fin 11) (cb : Fin 5) (h : off = ![e.val, 0, cb.val * 512]) : ∀ a, off a + S1x3072x512.size a ≤ S11x3072x2560.size a := by
  subst h; revert e cb; decide +kernel

theorem inb8 (off : Fin 3 → ℕ) (e : Fin 11) (cb : Fin 5) (h : off = ![e.val, 0, cb.val * 512]) : ∀ a, off a + S1x384x512.size a ≤ S11x384x2560.size a := by
  subst h; revert e cb; decide +kernel

theorem chk2 (v1 : BitVec 32) (e : Fin 11) : k0_chk2 v1 (W e.val) :=
  ⟨fun _ => inb7 _ e 0 (off7 e), fun _ => words7 _ (by rw [off7]; rfl), fun _ => inb8 _ e 0 (off10 e), fun _ => words8 _ (by rw [off10]; rfl)⟩
theorem chk3 (v1 : BitVec 32) (e : Fin 11) : k0_chk3 v1 (W e.val) :=
  ⟨fun _ => inb7 _ e 1 (off14 e), fun _ => words7 _ (by rw [off14]; rfl), fun _ => inb8 _ e 1 (off17 e), fun _ => words8 _ (by rw [off17]; rfl)⟩
theorem chk4 (v1 : BitVec 32) (e : Fin 11) : k0_chk4 v1 (W e.val) :=
  ⟨fun _ => inb7 _ e 2 (off21 e), fun _ => words7 _ (by rw [off21]; rfl), fun _ => inb8 _ e 2 (off24 e), fun _ => words8 _ (by rw [off24]; rfl)⟩
theorem chk5 (v1 : BitVec 32) (e : Fin 11) : k0_chk5 v1 (W e.val) :=
  ⟨fun _ => inb7 _ e 3 (off28 e), fun _ => words7 _ (by rw [off28]; rfl), fun _ => inb8 _ e 3 (off31 e), fun _ => words8 _ (by rw [off31]; rfl)⟩

/-! ## The chunk loop -/

theorem off32 : ∀ (n : Fin 12) (t : Fin (k0_t2_loop (W n.val)).trips), k0_off32 (W n.val) t = ![t.val / 5] := by decide +kernel
theorem off39 : ∀ (n : Fin 12) (t : Fin (k0_t2_loop (W n.val)).trips), k0_off39 (W n.val) t = ![t.val / 5] := by decide +kernel
theorem off56 : ∀ (n : Fin 12) (t : Fin (k0_t2_loop (W n.val)).trips), k0_cond5 (W n.val) t = 1#1 → k0_off56 (W n.val) t = ![(t.val + 4) / 5] := by decide +kernel
theorem off33 : ∀ (n : Fin 12) (t : Fin (k0_t2_loop (W n.val)).trips), k0_off33 (W n.val) t = ![t.val % 4] := by decide +kernel
theorem off36 : ∀ (n : Fin 12) (t : Fin (k0_t2_loop (W n.val)).trips), k0_off36 (W n.val) t = ![t.val % 4] := by decide +kernel
theorem off57 : ∀ (n : Fin 12) (t : Fin (k0_t2_loop (W n.val)).trips), k0_off57 (W n.val) t = ![t.val % 4] := by decide +kernel
theorem off60 : ∀ (n : Fin 12) (t : Fin (k0_t2_loop (W n.val)).trips), k0_off60 (W n.val) t = ![t.val % 4] := by decide +kernel
theorem off34 : ∀ (n : Fin 12) (t : Fin (k0_t2_loop (W n.val)).trips), k0_off34 (W n.val) t = ![t.val % 4, 0, 0] := by decide +kernel
theorem off37 : ∀ (n : Fin 12) (t : Fin (k0_t2_loop (W n.val)).trips), k0_off37 (W n.val) t = ![t.val % 4, 0, 0] := by decide +kernel
theorem off43 : ∀ (n : Fin 12) (t : Fin (k0_t2_loop (W n.val)).trips), k0_off43 (W n.val) t = ![t.val % 4, 0, 0] := by decide +kernel
theorem off58 : ∀ (n : Fin 12) (t : Fin (k0_t2_loop (W n.val)).trips), k0_off58 (W n.val) t = ![t.val % 4, 0, 0] := by decide +kernel
theorem off61 : ∀ (n : Fin 12) (t : Fin (k0_t2_loop (W n.val)).trips), k0_off61 (W n.val) t = ![t.val % 4, 0, 0] := by decide +kernel

theorem off35_0 : ∀ (n : Fin 12) (t : Fin (k0_t2_loop (W n.val)).trips), k0_off35 (W n.val) t 0#32 = ![0, 0, (t.val % 5) * 512] := by decide +kernel
theorem off38_0 : ∀ (n : Fin 12) (t : Fin (k0_t2_loop (W n.val)).trips), k0_off38 (W n.val) t 0#32 = ![0, 0, (t.val % 5) * 512] := by decide +kernel
theorem off59_0 : ∀ (n : Fin 12) (t : Fin (k0_t2_loop (W n.val)).trips), k0_off59 (W n.val) t 0#32 = ![0, 0, ((t.val + 4) % 5) * 512] := by decide +kernel
theorem off62_0 : ∀ (n : Fin 12) (t : Fin (k0_t2_loop (W n.val)).trips), k0_off62 (W n.val) t 0#32 = ![0, 0, ((t.val + 4) % 5) * 512] := by decide +kernel

theorem toNat_W {n : ℕ} (h : n < 2 ^ 32) : (W n).toNat = n := by rw [BitVec.toNat_ofNat]; exact Nat.mod_eq_of_lt h

theorem off35 (n : Fin 12) (t : Fin (k0_t2_loop (W n.val)).trips) (e : Fin 11) : k0_off35 (W n.val) t (W e.val) = ![e.val, 0, (t.val % 5) * 512] := by
  have h := congrFun (off35_0 n t) 2
  funext a; fin_cases a
  · exact toNat_W (by omega)
  · rfl
  · exact h
theorem off38 (n : Fin 12) (t : Fin (k0_t2_loop (W n.val)).trips) (e : Fin 11) : k0_off38 (W n.val) t (W e.val) = ![e.val, 0, (t.val % 5) * 512] := by
  have h := congrFun (off38_0 n t) 2
  funext a; fin_cases a
  · exact toNat_W (by omega)
  · rfl
  · exact h
theorem off59 (n : Fin 12) (t : Fin (k0_t2_loop (W n.val)).trips) (e : Fin 11) : k0_off59 (W n.val) t (W e.val) = ![e.val, 0, ((t.val + 4) % 5) * 512] := by
  have h := congrFun (off59_0 n t) 2
  funext a; fin_cases a
  · exact toNat_W (by omega)
  · rfl
  · exact h
theorem off62 (n : Fin 12) (t : Fin (k0_t2_loop (W n.val)).trips) (e : Fin 11) : k0_off62 (W n.val) t (W e.val) = ![e.val, 0, ((t.val + 4) % 5) * 512] := by
  have h := congrFun (off62_0 n t) 2
  funext a; fin_cases a
  · exact toNat_W (by omega)
  · rfl
  · exact h

theorem chk7 (n : Fin 12) (t : Fin (k0_t2_loop (W n.val)).trips) (e : Fin 11) : k0_chk7 (W n.val) t (W e.val) :=
  ⟨inb7 _ e ⟨t.val % 5, Nat.mod_lt _ (by omega)⟩ (off35 n t e), words7 _ (by rw [off35]; rfl),
    inb8 _ e ⟨t.val % 5, Nat.mod_lt _ (by omega)⟩ (off38 n t e), words8 _ (by rw [off38]; rfl)⟩
theorem chk10 (n : Fin 12) (t : Fin (k0_t2_loop (W n.val)).trips) (e : Fin 11) : k0_chk10 (W n.val) t (W e.val) :=
  ⟨fun _ => inb7 _ e ⟨(t.val + 4) % 5, Nat.mod_lt _ (by omega)⟩ (off59 n t e), fun _ => words7 _ (by rw [off59]; rfl),
    fun _ => inb8 _ e ⟨(t.val + 4) % 5, Nat.mod_lt _ (by omega)⟩ (off62 n t e), fun _ => words8 _ (by rw [off62]; rfl)⟩

theorem chk8 : ∀ e : Fin 11, k0_chk8 (W e.val) := by decide +kernel
theorem off40 : ∀ e : Fin 11, k0_off40 (W e.val) = ![e.val] := by decide +kernel
theorem off41 : ∀ e : Fin 11, k0_off41 (W e.val) = ![e.val + 1] := by decide +kernel
theorem off42 : ∀ e : Fin 11, k0_off42 (W e.val) = ![e.val] := by decide +kernel

/-! ## The windows of a chunk -/

theorem kmul128 : ∀ k : Fin k0_t3_loop.trips, (Scalar.indexCast (Scalar.muli (Scf.iv 0#32 1#32 k) 128#32)).toNat = k.val * 128 := by decide +kernel
theorem kmul128' : ∀ k : Fin k0_t4_loop.trips, (Scalar.indexCast (Scalar.muli (Scf.iv 0#32 1#32 k) 128#32)).toNat = k.val * 128 := by decide +kernel
theorem kmul128'' : ∀ k : Fin k0_t5_loop.trips, (Scalar.indexCast (Scalar.muli (Scf.iv 0#32 1#32 k) 128#32)).toNat = k.val * 128 := by decide +kernel

theorem off44 (n : Fin 12) (t : Fin (k0_t2_loop (W n.val)).trips) (k : Fin k0_t3_loop.trips) : k0_off44 (W n.val) t k = ![t.val % 4, k.val * 128, 0] := by
  have h := congrFun (off43 n t) 0
  funext a; fin_cases a
  · exact h
  · exact kmul128 k
  · rfl
theorem off48 (n : Fin 12) (t : Fin (k0_t2_loop (W n.val)).trips) (k : Fin k0_t4_loop.trips) : k0_off48 (W n.val) t k = ![t.val % 4, k.val * 128, 0] := by
  have h := congrFun (off43 n t) 0
  funext a; fin_cases a
  · exact h
  · exact kmul128' k
  · rfl
theorem off52 (n : Fin 12) (t : Fin (k0_t2_loop (W n.val)).trips) (k : Fin k0_t5_loop.trips) : k0_off52 (W n.val) t k = ![t.val % 4, k.val * 128, 0] := by
  have h := congrFun (off43 n t) 0
  funext a; fin_cases a
  · exact h
  · exact kmul128'' k
  · rfl

theorem off45 : ∀ (k : Fin k0_t3_loop.trips) (b : Fin 16), k0_off45 k (BitVec.ofNat 32 b.val) = ![k.val * 16 + b.val, 0] := by decide +kernel
theorem off49 : ∀ (k : Fin k0_t4_loop.trips) (b : Fin 16), k0_off49 k (BitVec.ofNat 32 b.val) = ![k.val * 16 + b.val, 0] := by decide +kernel
theorem off53 : ∀ (k : Fin k0_t5_loop.trips) (b : Fin 16), k0_off53 k (BitVec.ofNat 32 b.val) = ![k.val * 16 + b.val, 0] := by decide +kernel

theorem off46 : ∀ (i : Fin 64) (k : Fin k0_t3_loop.trips), k0_off46 (W (16 * i.val)) k = ![min (16 * i.val) 896, k.val * 256] := by decide +kernel
theorem off50 : ∀ (i : Fin 64) (k : Fin k0_t4_loop.trips), k0_off50 (W (16 * i.val)) k = ![min (16 * i.val) 832, k.val * 256] := by decide +kernel
theorem off54 : ∀ (i : Fin 64) (k : Fin k0_t5_loop.trips), k0_off54 (W (16 * i.val)) k = ![min (16 * i.val) 752, k.val * 256] := by decide +kernel

theorem off47 (n : Fin 12) (t : Fin (k0_t2_loop (W n.val)).trips) (i : Fin 64) : k0_off47 (W n.val) t (W (16 * i.val)) = ![min (16 * i.val) 896, (t.val % 5) * 512] := by
  have h0 := congrFun (off46 i ⟨0, by decide +kernel⟩) 0
  have h1 := congrFun (off35_0 n t) 2
  funext a; fin_cases a
  · exact h0
  · exact h1
theorem off51 (n : Fin 12) (t : Fin (k0_t2_loop (W n.val)).trips) (i : Fin 64) : k0_off51 (W n.val) t (W (16 * i.val)) = ![min (16 * i.val) 832, (t.val % 5) * 512] := by
  have h0 := congrFun (off50 i ⟨0, by decide +kernel⟩) 0
  have h1 := congrFun (off35_0 n t) 2
  funext a; fin_cases a
  · exact h0
  · exact h1
theorem off55 (n : Fin 12) (t : Fin (k0_t2_loop (W n.val)).trips) (i : Fin 64) : k0_off55 (W n.val) t (W (16 * i.val)) = ![min (16 * i.val) 752, (t.val % 5) * 512] := by
  have h0 := congrFun (off54 i ⟨0, by decide +kernel⟩) 0
  have h1 := congrFun (off35_0 n t) 2
  funext a; fin_cases a
  · exact h0
  · exact h1

theorem mult6 : ∀ i : Fin 64, 16 ∣ (k0_mult6 (W (16 * i.val))).toNat := by decide +kernel
theorem mult10 : ∀ i : Fin 64, 16 ∣ (k0_mult10 (W (16 * i.val))).toNat := by decide +kernel
theorem mult14 : ∀ i : Fin 64, 16 ∣ (k0_mult14 (W (16 * i.val))).toNat := by decide +kernel

theorem chk9 (n : Fin 12) (t : Fin (k0_t2_loop (W n.val)).trips) (i : Fin 64) : k0_chk9 (W n.val) t (W (16 * i.val)) := by
  have hm : t.val % 5 < 5 := Nat.mod_lt _ (by omega)
  refine ⟨mult6 i, fun k => ?_, ?_, mult10 i, fun k => ?_, ?_, mult14 i, fun k => ?_, ?_⟩
  · have hk : k.val < 24 := trips3 ▸ k.isLt
    rw [off46]; intro a; fin_cases a
    · show min (16 * i.val) 896 + 128 ≤ 1024; omega
    · show k.val * 256 + 256 ≤ 6144; omega
  · rw [off47]; intro a; fin_cases a
    · show min (16 * i.val) 896 + 128 ≤ 1024; omega
    · show t.val % 5 * 512 + 512 ≤ 2560; omega
  · have hk : k.val < 24 := trips4 ▸ k.isLt
    rw [off50]; intro a; fin_cases a
    · show min (16 * i.val) 832 + 192 ≤ 1024; omega
    · show k.val * 256 + 256 ≤ 6144; omega
  · rw [off51]; intro a; fin_cases a
    · show min (16 * i.val) 832 + 192 ≤ 1024; omega
    · show t.val % 5 * 512 + 512 ≤ 2560; omega
  · have hk : k.val < 24 := trips5 ▸ k.isLt
    rw [off54]; intro a; fin_cases a
    · show min (16 * i.val) 752 + 272 ≤ 1024; omega
    · show k.val * 256 + 256 ≤ 6144; omega
  · rw [off55]; intro a; fin_cases a
    · show min (16 * i.val) 752 + 272 ≤ 1024; omega
    · show t.val % 5 * 512 + 512 ≤ 2560; omega

/-- The first window's base: the group's first row rounded down to a multiple of 16. -/
theorem base0 : ∀ lo : Fin 1025,
    Scalar.muli (Scalar.select (Scalar.andi (Scalar.cmpi .ne
      (Scalar.subi (Scalar.extui (Scalar.cmpi .sgt (W lo.val) 0#32) : BitVec 32) (Scalar.extui (Scalar.cmpi .slt (W lo.val) 0#32)))
      (Scalar.subi (Scalar.extui (Scalar.cmpi .sgt 16#32 0#32)) (Scalar.extui (Scalar.cmpi .slt 16#32 0#32))))
      (Scalar.cmpi .ne (Scalar.remsi (W lo.val) 16#32) 0#32))
      (Scalar.subi (Scalar.divsi (W lo.val) 16#32) 1#32) (Scalar.divsi (W lo.val) 16#32)) 16#32 = W (16 * (lo.val / 16)) := by decide +kernel

theorem slt_W {a b : ℕ} (ha : a ≤ 2048) (hb : b ≤ 2048) : Scalar.cmpi .slt (W a) (W b) = if a < b then 1#1 else 0#1 := by
  have : (W a).slt (W b) = decide (a < b) := by
    rw [BitVec.slt_eq_decide, BitVec.toInt_eq_toNat_of_lt, BitVec.toInt_eq_toNat_of_lt] <;> simp only [W, BitVec.toNat_ofNat] <;>
      rw [Nat.mod_eq_of_lt (by omega)]
    · rw [Nat.mod_eq_of_lt (by omega)]; simp
    · omega
    · omega
  show BitVec.ofBool ((W a).slt (W b)) = _
  rw [this]; by_cases h : a < b <;> simp [h]

theorem sub_W {a b : ℕ} (h : b ≤ a) (ha : a ≤ 2048) : Scalar.subi (W a) (W b) = W (a - b) := by
  show W a - W b = W (a - b)
  apply BitVec.eq_of_toNat_eq
  rw [BitVec.toNat_sub]; simp only [W, BitVec.toNat_ofNat]; omega
theorem add_W {a b : ℕ} : Scalar.addi (W a) (W b) = W (a + b) := by
  show W a + W b = W (a + b)
  exact (BitVec.ofNat_add a b).symm

theorem left1 : ∀ d : Fin 1025, (Scalar.cmpi .ne (Scalar.extui (Scalar.andi (Scalar.cmpi .sgt (W d.val) 0#32) (Scalar.cmpi .sle (W d.val) 128#32)) : BitVec 32) 0#32 = 1#1) ↔ (0 < d.val ∧ d.val ≤ 128) := by decide +kernel
theorem left2 : ∀ d : Fin 1025, (Scalar.cmpi .ne (Scalar.extui (Scalar.andi (Scalar.cmpi .sgt (W d.val) 128#32) (Scalar.cmpi .sle (W d.val) 192#32)) : BitVec 32) 0#32 = 1#1) ↔ (128 < d.val ∧ d.val ≤ 192) := by decide +kernel
theorem left3 : ∀ d : Fin 1025, (Scalar.cmpi .ne (Scalar.extui (Scalar.andi (Scalar.cmpi .sgt (W d.val) 192#32) 1#1) : BitVec 32) 0#32 = 1#1) ↔ 192 < d.val := by decide +kernel

end Cert.Kernel.KA
-- ==== Proof.KD.lean ====
/- The kernel's ring of four slots: what a copy into a slot and the wait for it do, slot by slot.

   A slot of a ring is the slot's part of the buffer, a read share of the array the copies read, and the slot's
   semaphore at zero. Between a copy and its wait all of it is with the copy, but for the part of the array outside
   the window read. -/
module

public import proofs.«01_k».proof.Proof.KA
public import proofs.«01_k».proof.Proof.Gen.Kernel.Launch
public import proofs.«01_k».proof.Proof.Gen.Kernel.Points
public import Idealize.ShloMosaic.Lib.Pipeline.FrameBody
public import Idealize.ShloMosaic.Lib.Pointwise
public import Idealize.ShloMosaic.Lib.Transfers
public import Idealize.ShloMosaic.Lib.Ring
public import Idealize.ShloMosaic.Lib.Tactic
public import Idealize.ShloMosaic.Lib.ViewIndex

@[expose] public section

set_option maxRecDepth 8192
set_option maxHeartbeats 1000000

noncomputable section

namespace Cert.Kernel.KD

open Cert.Kernel Cert.Kernel.Gen Cert.Kernel.KA
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the transfers' counters. -/
local notation "𝕄" => MT nD τ sig Unit (Elt F) ℕ (Pipeline.UD sig nD τ) ℕ

/-- The embedding of the transfers' counters. -/
local notation "EC" => (countersEmb (U := Pipeline.UD sig nD τ))

/-- Variants: natural numbers, for the loop over windows. -/
abbrev 𝒱₀ : Variants := Variants.nat

variable (c : Dev nD)

theorem S1_in_S4 (s : Fin 4) : ∀ a, (![s.val] : Fin 1 → ℕ) a + S1.size a ≤ S4.size a := by
  intro a; fin_cases a; show s.val + 1 ≤ 4; omega

/-! ## The ring of packed weights -/

theorem inbS7 (s : Fin 4) : ∀ a, (![s.val, 0, 0] : Fin 3 → ℕ) a + S1x3072x512.size a ≤ S4x3072x512.size a := by
  intro a; fin_cases a
  · show s.val + 1 ≤ 4; omega
  · show 0 + 3072 ≤ 3072; omega
  · show 0 + 512 ≤ 512; omega

/-- Slot `s` of the ring. -/
abbrev slot7 (s : Fin 4) : Memref sig .tc .vmem S3072x512 .i8 :=
  ((Memref.whole cc0_scratch0 : Memref sig .tc .vmem S4x3072x512 .i8).slice (Rect.unit (s := S4x3072x512) ![s.val, 0, 0] S1x3072x512.size (inbS7 s)) (fun _ => rfl)).squeeze S3072x512 squeezes_S1x3072x512_S3072x512

/-- The window of expert `e`'s column block `cb`. -/
abbrev src7 (e : Fin 11) (cb : Fin 5) : Memref sig .tc .hbm S3072x512 .i8 :=
  ((Memref.whole main_arg4 : Memref sig .tc .hbm S11x3072x2560 .i8).slice (Rect.unit (s := S11x3072x2560) ![e.val, 0, cb.val * 512] S1x3072x512.size (inb7 _ e cb rfl)) (fun _ => rfl)).squeeze S3072x512 squeezes_S1x3072x512_S3072x512

/-- The slot's semaphore. -/
abbrev sem7 (s : Fin 4) : DmaSem sig :=
  ((cc0_scratch5.slice (Rect.unit (s := S4) ![s.val] S1.size (S1_in_S4 s))).squeeze S_ squeezes_S1_S_).sem

/-- The slot's part of the buffer. -/
def set7 (s : Fin 4) : Finset S4x3072x512.Idx := Finset.univ.filter fun x => (x 0).val = s.val

theorem mem_set7 (s : Fin 4) (x : S4x3072x512.Idx) : x ∈ set7 s ↔ (x 0).val = s.val := by
  unfold set7; rw [Finset.mem_filter]; exact ⟨fun h => h.2, fun h => ⟨Finset.mem_univ _, h⟩⟩

theorem slot7_set (s : Fin 4) : (slot7 s).view.set = set7 s := by
  ext x
  rw [mem_set7]
  have h : (slot7 s).view.set = (Rect.unit (s := S4x3072x512) ![s.val, 0, 0] S1x3072x512.size (inbS7 s)).set := by
    refine (View.set_reshape _ _).trans ?_
    exact View.set_slice_whole cc0_scratch0 _
  rw [h]
  refine Iff.trans Rect.mem_set_unit ?_
  constructor
  · intro h
    have h0 := h 0
    have h1 : s.val ≤ (x 0).val ∧ (x 0).val < s.val + 1 := h0
    omega
  · intro h a
    match a with
    | ⟨0, _⟩ => exact (⟨by omega, by omega⟩ : s.val ≤ (x 0).val ∧ (x 0).val < s.val + 1)
    | ⟨1, _⟩ => exact (⟨Nat.zero_le _, by have := (x 1).isLt; have h1 : (x 1).val < 3072 := this; omega⟩ : 0 ≤ (x 1).val ∧ (x 1).val < 0 + 3072)
    | ⟨2, _⟩ => exact (⟨Nat.zero_le _, by have := (x 2).isLt; have h1 : (x 2).val < 512 := this; omega⟩ : 0 ≤ (x 2).val ∧ (x 2).val < 0 + 512)

/-- The index of expert `e`, row `i`, column `q` of block `cb`. -/
abbrev wix7 (e : Fin 11) (cb : Fin 5) (i : Fin 3072) (q : Fin 512) : S11x3072x2560.Idx :=
  ix3 e i ⟨cb.val * 512 + q.val, by omega⟩

/-- What a landed copy leaves in its slot. -/
theorem landed7 (s : Fin 4) (e : Fin 11) (cb : Fin 5) (fd : (cc0_scratch0 : Ref sig .tc).ty.Contents (Elt F)) (fs : (main_arg4 : Ref sig .tc).ty.Contents (Elt F))
    (i : Fin 3072) (q : Fin 512) :
    (slot7 s).view.write (Elt F) fd ((ReadAs.same : ReadAs (Elt F) S3072x512 .i8 S3072x512 .i8).apply ((src7 e cb).view.read (Elt F) fs)) Finset.univ (ix3 s i q)
      = fs (wix7 e cb i q) := by
  obtain ⟨y, hy⟩ := (Shape.reshapeEquiv (s := S1x3072x512) (s' := S3072x512) squeezes_S1x3072x512_S3072x512.numel_eq).surjective (ix3 0 i q)
  have hd : (slot7 s).view.emb y = (ix3 s i q : S4x3072x512.Idx) := by
    show (Rect.unit (s := S4x3072x512) ![s.val, 0, 0] S1x3072x512.size (inbS7 s)).emb (Shape.reshapeEquiv _ y) = _
    rw [hy]
    funext a; apply Fin.ext; fin_cases a
    · show s.val + 1 * 0 = s.val; omega
    · show 0 + 1 * i.val = i.val; omega
    · show 0 + 1 * q.val = q.val; omega
  have hs : (src7 e cb).view.emb y = (wix7 e cb i q : S11x3072x2560.Idx) := by
    show (Rect.unit (s := S11x3072x2560) ![e.val, 0, cb.val * 512] S1x3072x512.size (inb7 _ e cb rfl)).emb (Shape.reshapeEquiv _ y) = _
    rw [hy]
    funext a; apply Fin.ext; fin_cases a
    · show e.val + 1 * 0 = e.val; omega
    · show 0 + 1 * i.val = i.val; omega
    · show cb.val * 512 + 1 * q.val = cb.val * 512 + q.val; omega
  rw [← hd]
  refine (View.write_emb_of_mem (v := (slot7 s).view) (Val := Elt F) fd _ (Finset.mem_univ y)).trans ?_
  rw [← hs]; rfl

/-- The slot's own read share of the array. -/
def tok7 (fs : Buf (Elt F) ((c : Thread nD τ).loc main_arg4)) (s : Fin 4) : sProp 𝕄 :=
  (c : Thread nD τ).loc main_arg4 ↦[Finset.univ]{Transfers.shareTok fullShare 4 s} fs

/-- A free slot. -/
def Idle7 (fs : Buf (Elt F) ((c : Thread nD τ).loc main_arg4)) (s : Fin 4) : sProp 𝕄 :=
  iprop((∃ f : Buf (Elt F) ((c : Thread nD τ).loc cc0_scratch0), (c : Thread nD τ).loc cc0_scratch0 ↦[set7 s]{fullShare} f) ∗ tok7 c fs s ∗ semVal ((c : Thread nD τ), SemLoc.dma (sem7 s)) 0)

/-- A slot holding a chunk. -/
def Full7 (fs : Buf (Elt F) ((c : Thread nD τ).loc main_arg4)) (s : Fin 4) (e : Fin 11) (cb : Fin 5) : sProp 𝕄 :=
  iprop((∃ f : Buf (Elt F) ((c : Thread nD τ).loc cc0_scratch0), ((c : Thread nD τ).loc cc0_scratch0 ↦[set7 s]{fullShare} f) ∗ ⌜∀ i q, f (ix3 s i q) = fs (wix7 e cb i q)⌝)
    ∗ tok7 c fs s ∗ semVal ((c : Thread nD τ), SemLoc.dma (sem7 s)) 0)

/-- A slot whose copy is under way. -/
def Pend7 (fs : Buf (Elt F) ((c : Thread nD τ).loc main_arg4)) (s : Fin 4) (e : Fin 11) (cb : Fin 5) : sProp 𝕄 :=
  iprop(Transfers.Flight EC (c : Thread nD τ) (SemLoc.dma (sem7 s)) () (slot7 s).view.dmaCredit
      iprop((∃ f : Buf (Elt F) ((c : Thread nD τ).loc cc0_scratch0), ((c : Thread nD τ).loc cc0_scratch0 ↦[set7 s]{fullShare} f) ∗ ⌜∀ i q, f (ix3 s i q) = fs (wix7 e cb i q)⌝)
        ∗ ((c : Thread nD τ).loc main_arg4 ↦[(src7 e cb).view.set]{Transfers.shareTok fullShare 4 s} fs))
    ∗ ((c : Thread nD τ).loc main_arg4 ↦[Finset.univ \ (src7 e cb).view.set]{Transfers.shareTok fullShare 4 s} fs))

theorem full_idle7 (fs : Buf (Elt F) ((c : Thread nD τ).loc main_arg4)) (s : Fin 4) (e : Fin 11) (cb : Fin 5) :
    Full7 c fs s e cb ⊢ Idle7 c fs s := by
  unfold Full7 Idle7
  iintro ⟨⟨%f, Hf, -⟩, H⟩
  isplitl [Hf]
  · iexists f; iexact Hf
  · iexact H

/-- Starting a copy into a free slot. -/
theorem enq7 {α : Type} {Q : α → sProp 𝕄} (bd : Option 𝒱₀.V) (fs : Buf (Elt F) ((c : Thread nD τ).loc main_arg4)) (s : Fin 4) (e : Fin 11) (cb : Fin 5)
    (dst : Memref sig .tc .vmem S3072x512 .i8) (hd : dst = slot7 s) (src : Memref sig .tc .hbm S3072x512 .i8) (hs : src = src7 e cb)
    (sm : DmaSem sig) (hm : sm = sem7 s) {hsrc : src.view.WordExact} {hdst : dst.view.WordExact}
    {hsem : DmaTarget.Typed (nD := nD) (τ := τ) (p := (c : Thread nD τ).2) Space.hbm (SemLoc.dma sm) (.here dst)}
    {k : PUnit → Prog (TpuEff nD τ sig (Elt F) (Λ₀ F) .tc) α} :
    Idle7 c fs s ⊢ iprop((Pend7 c fs s e cb -∗ wp frame (wpE (defs₀ (F := F)) 𝒱₀ (c : Thread nD τ) bd) Set.univ (k ⟨⟩) Q)
      -∗ wp frame (wpE (defs₀ (F := F)) 𝒱₀ (c : Thread nD τ) bd) Set.univ (.op (TpuEff.enqueueDma src (.here dst) (.dma sm) hsrc hdst hsem) k) Q) := by
  subst hd hs hm
  unfold Idle7 tok7
  iintro ⟨⟨%f, Hf⟩, Ht, Hv⟩ Hk
  ihave Ht := (pointsTo_split_subset (Finset.subset_univ (src7 e cb).view.set)).1 $$ Ht
  icases Ht with ⟨Ht, Hr⟩
  iapply (Transfers.wp_dmaLocal EC 𝒱₀ (c : Thread nD τ) bd (src := src7 e cb) (dst := slot7 s) (sm := SemLoc.dma (sem7 s)) (via := .same) (Sd := set7 s) (fd := f) (fs := fs)
      () (slot7 s).view.dmaCredit rfl ((slot7 s).view.dmaCredit_pos (by decide)) (by rw [slot7_set])) $$ [Ht Hf Hv]
  · isplitl [Ht]; · iexact Ht
    isplitl [Hf]; · iexact Hf
    iexact Hv
  iintro Hfl
  iapply Hk
  unfold Pend7
  isplitl [Hfl]
  · iapply (Transfers.Flight_mono EC (c : Thread nD τ) ?_) $$ Hfl
    iintro ⟨Hf, Ht⟩
    isplitl [Hf]
    · iexists _
      isplitl [Hf]; · iexact Hf
      ipureintro; exact fun i q => landed7 s e cb f fs i q
    · iexact Ht
  · iexact Hr

/-- Waiting for a slot's copy. -/
theorem wait7 {α : Type} {Q : α → sProp 𝕄} (bd : Option 𝒱₀.V) (fs : Buf (Elt F) ((c : Thread nD τ).loc main_arg4)) (s : Fin 4) (e : Fin 11) (cb : Fin 5)
    (dst : Memref sig .tc .vmem S3072x512 .i8) (hd : dst = slot7 s) (src : Memref sig .tc .hbm S3072x512 .i8)
    (sm : DmaSem sig) (hm : sm = sem7 s) {hsrc : src.view.WordExact} {hdst : dst.view.WordExact}
    {k : PUnit → Prog (TpuEff nD τ sig (Elt F) (Λ₀ F) .tc) α} {Wt : Waits sig Unit} :
    iprop(Pend7 c fs s e cb ∗ owes (c : Thread nD τ) 0 Wt) ⊢ iprop((iprop(Full7 c fs s e cb ∗ owes (c : Thread nD τ) 0 (insert (SemLoc.dma sm, ()) Wt)) -∗ wp frame (wpE (defs₀ (F := F)) 𝒱₀ (c : Thread nD τ) bd) Set.univ (k ⟨⟩) Q)
      -∗ wp frame (wpE (defs₀ (F := F)) 𝒱₀ (c : Thread nD τ) bd) Set.univ (.op (TpuEff.waitDma2 sm src dst hsrc hdst) k) Q) := by
  subst hd hm
  unfold Pend7
  iintro ⟨⟨Hfl, Hr⟩, HO⟩ Hk
  iapply (Transfers.wp_waitLocal EC 𝒱₀ (c : Thread nD τ) bd () (N := (slot7 s).view.dmaCredit) rfl) $$ [Hfl HO]
  · isplitl [Hfl]; · iexact Hfl
    iexact HO
  iintro ⟨⟨Hf, Ht⟩, Hv, HO⟩
  iapply Hk
  isplitl [Hf Ht Hr Hv]
  · unfold Full7 tok7
    isplitl [Hf]; · iexact Hf
    isplitl [Ht Hr]
    · iapply (pointsTo_split_subset (Finset.subset_univ (src7 e cb).view.set)).2
      isplitl [Ht]; · iexact Ht
      iexact Hr
    · iexact Hv
  · iexact HO

/-! ## The ring of weight scales -/

theorem inbS8 (s : Fin 4) : ∀ a, (![s.val, 0, 0] : Fin 3 → ℕ) a + S1x384x512.size a ≤ S4x384x512.size a := by
  intro a; fin_cases a
  · show s.val + 1 ≤ 4; omega
  · show 0 + 384 ≤ 384; omega
  · show 0 + 512 ≤ 512; omega

/-- Slot `s` of the ring. -/
abbrev slot8 (s : Fin 4) : Memref sig .tc .vmem S384x512 .fp8e4m3 :=
  ((Memref.whole cc0_scratch1 : Memref sig .tc .vmem S4x384x512 .fp8e4m3).slice (Rect.unit (s := S4x384x512) ![s.val, 0, 0] S1x384x512.size (inbS8 s)) (fun _ => rfl)).squeeze S384x512 squeezes_S1x384x512_S384x512

/-- The window of expert `e`'s column block `cb`. -/
abbrev src8 (e : Fin 11) (cb : Fin 5) : Memref sig .tc .hbm S384x512 .fp8e4m3 :=
  ((Memref.whole main_arg5 : Memref sig .tc .hbm S11x384x2560 .fp8e4m3).slice (Rect.unit (s := S11x384x2560) ![e.val, 0, cb.val * 512] S1x384x512.size (inb8 _ e cb rfl)) (fun _ => rfl)).squeeze S384x512 squeezes_S1x384x512_S384x512

/-- The slot's semaphore. -/
abbrev sem8 (s : Fin 4) : DmaSem sig :=
  ((cc0_scratch6.slice (Rect.unit (s := S4) ![s.val] S1.size (S1_in_S4 s))).squeeze S_ squeezes_S1_S_).sem

/-- The slot's part of the buffer. -/
def set8 (s : Fin 4) : Finset S4x384x512.Idx := Finset.univ.filter fun x => (x 0).val = s.val

theorem mem_set8 (s : Fin 4) (x : S4x384x512.Idx) : x ∈ set8 s ↔ (x 0).val = s.val := by
  unfold set8; rw [Finset.mem_filter]; exact ⟨fun h => h.2, fun h => ⟨Finset.mem_univ _, h⟩⟩

theorem slot8_set (s : Fin 4) : (slot8 s).view.set = set8 s := by
  ext x
  rw [mem_set8]
  have h : (slot8 s).view.set = (Rect.unit (s := S4x384x512) ![s.val, 0, 0] S1x384x512.size (inbS8 s)).set := by
    refine (View.set_reshape _ _).trans ?_
    exact View.set_slice_whole cc0_scratch1 _
  rw [h]
  refine Iff.trans Rect.mem_set_unit ?_
  constructor
  · intro h
    have h0 := h 0
    have h1 : s.val ≤ (x 0).val ∧ (x 0).val < s.val + 1 := h0
    omega
  · intro h a
    match a with
    | ⟨0, _⟩ => exact (⟨by omega, by omega⟩ : s.val ≤ (x 0).val ∧ (x 0).val < s.val + 1)
    | ⟨1, _⟩ => exact (⟨Nat.zero_le _, by have := (x 1).isLt; have h1 : (x 1).val < 384 := this; omega⟩ : 0 ≤ (x 1).val ∧ (x 1).val < 0 + 384)
    | ⟨2, _⟩ => exact (⟨Nat.zero_le _, by have := (x 2).isLt; have h1 : (x 2).val < 512 := this; omega⟩ : 0 ≤ (x 2).val ∧ (x 2).val < 0 + 512)

/-- The index of expert `e`, row `i`, column `q` of block `cb`. -/
abbrev wix8 (e : Fin 11) (cb : Fin 5) (i : Fin 384) (q : Fin 512) : S11x384x2560.Idx :=
  ix3 e i ⟨cb.val * 512 + q.val, by omega⟩

/-- What a landed copy leaves in its slot. -/
theorem landed8 (s : Fin 4) (e : Fin 11) (cb : Fin 5) (fd : (cc0_scratch1 : Ref sig .tc).ty.Contents (Elt F)) (fs : (main_arg5 : Ref sig .tc).ty.Contents (Elt F))
    (i : Fin 384) (q : Fin 512) :
    (slot8 s).view.write (Elt F) fd ((ReadAs.same : ReadAs (Elt F) S384x512 .fp8e4m3 S384x512 .fp8e4m3).apply ((src8 e cb).view.read (Elt F) fs)) Finset.univ (ix3 s i q)
      = fs (wix8 e cb i q) := by
  obtain ⟨y, hy⟩ := (Shape.reshapeEquiv (s := S1x384x512) (s' := S384x512) squeezes_S1x384x512_S384x512.numel_eq).surjective (ix3 0 i q)
  have hd : (slot8 s).view.emb y = (ix3 s i q : S4x384x512.Idx) := by
    show (Rect.unit (s := S4x384x512) ![s.val, 0, 0] S1x384x512.size (inbS8 s)).emb (Shape.reshapeEquiv _ y) = _
    rw [hy]
    funext a; apply Fin.ext; fin_cases a
    · show s.val + 1 * 0 = s.val; omega
    · show 0 + 1 * i.val = i.val; omega
    · show 0 + 1 * q.val = q.val; omega
  have hs : (src8 e cb).view.emb y = (wix8 e cb i q : S11x384x2560.Idx) := by
    show (Rect.unit (s := S11x384x2560) ![e.val, 0, cb.val * 512] S1x384x512.size (inb8 _ e cb rfl)).emb (Shape.reshapeEquiv _ y) = _
    rw [hy]
    funext a; apply Fin.ext; fin_cases a
    · show e.val + 1 * 0 = e.val; omega
    · show 0 + 1 * i.val = i.val; omega
    · show cb.val * 512 + 1 * q.val = cb.val * 512 + q.val; omega
  rw [← hd]
  refine (View.write_emb_of_mem (v := (slot8 s).view) (Val := Elt F) fd _ (Finset.mem_univ y)).trans ?_
  rw [← hs]; rfl

/-- The slot's own read share of the array. -/
def tok8 (fs : Buf (Elt F) ((c : Thread nD τ).loc main_arg5)) (s : Fin 4) : sProp 𝕄 :=
  (c : Thread nD τ).loc main_arg5 ↦[Finset.univ]{Transfers.shareTok fullShare 4 s} fs

/-- A free slot. -/
def Idle8 (fs : Buf (Elt F) ((c : Thread nD τ).loc main_arg5)) (s : Fin 4) : sProp 𝕄 :=
  iprop((∃ f : Buf (Elt F) ((c : Thread nD τ).loc cc0_scratch1), (c : Thread nD τ).loc cc0_scratch1 ↦[set8 s]{fullShare} f) ∗ tok8 c fs s ∗ semVal ((c : Thread nD τ), SemLoc.dma (sem8 s)) 0)

/-- A slot holding a chunk. -/
def Full8 (fs : Buf (Elt F) ((c : Thread nD τ).loc main_arg5)) (s : Fin 4) (e : Fin 11) (cb : Fin 5) : sProp 𝕄 :=
  iprop((∃ f : Buf (Elt F) ((c : Thread nD τ).loc cc0_scratch1), ((c : Thread nD τ).loc cc0_scratch1 ↦[set8 s]{fullShare} f) ∗ ⌜∀ i q, f (ix3 s i q) = fs (wix8 e cb i q)⌝)
    ∗ tok8 c fs s ∗ semVal ((c : Thread nD τ), SemLoc.dma (sem8 s)) 0)

/-- A slot whose copy is under way. -/
def Pend8 (fs : Buf (Elt F) ((c : Thread nD τ).loc main_arg5)) (s : Fin 4) (e : Fin 11) (cb : Fin 5) : sProp 𝕄 :=
  iprop(Transfers.Flight EC (c : Thread nD τ) (SemLoc.dma (sem8 s)) () (slot8 s).view.dmaCredit
      iprop((∃ f : Buf (Elt F) ((c : Thread nD τ).loc cc0_scratch1), ((c : Thread nD τ).loc cc0_scratch1 ↦[set8 s]{fullShare} f) ∗ ⌜∀ i q, f (ix3 s i q) = fs (wix8 e cb i q)⌝)
        ∗ ((c : Thread nD τ).loc main_arg5 ↦[(src8 e cb).view.set]{Transfers.shareTok fullShare 4 s} fs))
    ∗ ((c : Thread nD τ).loc main_arg5 ↦[Finset.univ \ (src8 e cb).view.set]{Transfers.shareTok fullShare 4 s} fs))

theorem full_idle8 (fs : Buf (Elt F) ((c : Thread nD τ).loc main_arg5)) (s : Fin 4) (e : Fin 11) (cb : Fin 5) :
    Full8 c fs s e cb ⊢ Idle8 c fs s := by
  unfold Full8 Idle8
  iintro ⟨⟨%f, Hf, -⟩, H⟩
  isplitl [Hf]
  · iexists f; iexact Hf
  · iexact H

/-- Starting a copy into a free slot. -/
theorem enq8 {α : Type} {Q : α → sProp 𝕄} (bd : Option 𝒱₀.V) (fs : Buf (Elt F) ((c : Thread nD τ).loc main_arg5)) (s : Fin 4) (e : Fin 11) (cb : Fin 5)
    (dst : Memref sig .tc .vmem S384x512 .fp8e4m3) (hd : dst = slot8 s) (src : Memref sig .tc .hbm S384x512 .fp8e4m3) (hs : src = src8 e cb)
    (sm : DmaSem sig) (hm : sm = sem8 s) {hsrc : src.view.WordExact} {hdst : dst.view.WordExact}
    {hsem : DmaTarget.Typed (nD := nD) (τ := τ) (p := (c : Thread nD τ).2) Space.hbm (SemLoc.dma sm) (.here dst)}
    {k : PUnit → Prog (TpuEff nD τ sig (Elt F) (Λ₀ F) .tc) α} :
    Idle8 c fs s ⊢ iprop((Pend8 c fs s e cb -∗ wp frame (wpE (defs₀ (F := F)) 𝒱₀ (c : Thread nD τ) bd) Set.univ (k ⟨⟩) Q)
      -∗ wp frame (wpE (defs₀ (F := F)) 𝒱₀ (c : Thread nD τ) bd) Set.univ (.op (TpuEff.enqueueDma src (.here dst) (.dma sm) hsrc hdst hsem) k) Q) := by
  subst hd hs hm
  unfold Idle8 tok8
  iintro ⟨⟨%f, Hf⟩, Ht, Hv⟩ Hk
  ihave Ht := (pointsTo_split_subset (Finset.subset_univ (src8 e cb).view.set)).1 $$ Ht
  icases Ht with ⟨Ht, Hr⟩
  iapply (Transfers.wp_dmaLocal EC 𝒱₀ (c : Thread nD τ) bd (src := src8 e cb) (dst := slot8 s) (sm := SemLoc.dma (sem8 s)) (via := .same) (Sd := set8 s) (fd := f) (fs := fs)
      () (slot8 s).view.dmaCredit rfl ((slot8 s).view.dmaCredit_pos (by decide)) (by rw [slot8_set])) $$ [Ht Hf Hv]
  · isplitl [Ht]; · iexact Ht
    isplitl [Hf]; · iexact Hf
    iexact Hv
  iintro Hfl
  iapply Hk
  unfold Pend8
  isplitl [Hfl]
  · iapply (Transfers.Flight_mono EC (c : Thread nD τ) ?_) $$ Hfl
    iintro ⟨Hf, Ht⟩
    isplitl [Hf]
    · iexists _
      isplitl [Hf]; · iexact Hf
      ipureintro; exact fun i q => landed8 s e cb f fs i q
    · iexact Ht
  · iexact Hr

/-- Waiting for a slot's copy. -/
theorem wait8 {α : Type} {Q : α → sProp 𝕄} (bd : Option 𝒱₀.V) (fs : Buf (Elt F) ((c : Thread nD τ).loc main_arg5)) (s : Fin 4) (e : Fin 11) (cb : Fin 5)
    (dst : Memref sig .tc .vmem S384x512 .fp8e4m3) (hd : dst = slot8 s) (src : Memref sig .tc .hbm S384x512 .fp8e4m3)
    (sm : DmaSem sig) (hm : sm = sem8 s) {hsrc : src.view.WordExact} {hdst : dst.view.WordExact}
    {k : PUnit → Prog (TpuEff nD τ sig (Elt F) (Λ₀ F) .tc) α} {Wt : Waits sig Unit} :
    iprop(Pend8 c fs s e cb ∗ owes (c : Thread nD τ) 0 Wt) ⊢ iprop((iprop(Full8 c fs s e cb ∗ owes (c : Thread nD τ) 0 (insert (SemLoc.dma sm, ()) Wt)) -∗ wp frame (wpE (defs₀ (F := F)) 𝒱₀ (c : Thread nD τ) bd) Set.univ (k ⟨⟩) Q)
      -∗ wp frame (wpE (defs₀ (F := F)) 𝒱₀ (c : Thread nD τ) bd) Set.univ (.op (TpuEff.waitDma2 sm src dst hsrc hdst) k) Q) := by
  subst hd hm
  unfold Pend8
  iintro ⟨⟨Hfl, Hr⟩, HO⟩ Hk
  iapply (Transfers.wp_waitLocal EC 𝒱₀ (c : Thread nD τ) bd () (N := (slot8 s).view.dmaCredit) rfl) $$ [Hfl HO]
  · isplitl [Hfl]; · iexact Hfl
    iexact HO
  iintro ⟨⟨Hf, Ht⟩, Hv, HO⟩
  iapply Hk
  isplitl [Hf Ht Hr Hv]
  · unfold Full8 tok8
    isplitl [Hf]; · iexact Hf
    isplitl [Ht Hr]
    · iapply (pointsTo_split_subset (Finset.subset_univ (src8 e cb).view.set)).2
      isplitl [Ht]; · iexact Ht
      iexact Hr
    · iexact Hv
  · iexact HO

end Cert.Kernel.KD

end
-- ==== Proof.KW.lean ====
/- The kernel's window loop: one group's rows times one column block, window after window.

   A window reads the slot's packed weights and their scales, expands them sixteen rows at a time, multiplies, and
   writes the group's rows of the result. -/
module

public import proofs.«01_k».proof.Proof.KD

@[expose] public section

set_option maxRecDepth 8192
set_option maxHeartbeats 1000000

noncomputable section

namespace Cert.Kernel.KW

open Cert.Kernel Cert.Kernel.Gen Cert.Kernel.KA Cert.Kernel.KD
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the transfers' counters. -/
local notation "𝕄" => MT nD τ sig Unit (Elt F) ℕ (Pipeline.UD sig nD τ) ℕ

/-- The embedding of the transfers' counters. -/
local notation "EC" => (countersEmb (U := Pipeline.UD sig nD τ))

variable (c : Dev nD)

/-! ## What a window computes -/

/-- The `k`-th 128 packed rows. -/
def r7 (D : Fin 3072 → Fin 512 → Elt F .i8) (k : ℕ) : Vec F S1x128x512 .i8 :=
  fun x => D ⟨(k * 128 + (x 1).val) % 3072, Nat.mod_lt _ (by omega)⟩ ⟨(x 2).val, (x 2).isLt⟩

/-- Row `r` of the scales. -/
def r9 (S : S384x512.Idx → F .f32) (r : ℕ) : Vec F S1x512 .f32 :=
  fun x => S (ix2 ⟨r % 384, Nat.mod_lt _ (by omega)⟩ ⟨(x 1).val, (x 1).isLt⟩)

/-- The bf16 weights of one trip: 128 packed rows expanded, each sixteen rows times their scale. -/
def wblk (v185 : Vec F S1x128x512 .i8) (s : ℕ → Vec F S1x512 .f32) : FVec F S256x512 .bf16 :=
  let v237 := k0_pay28 (k0_pay26 (F := F) v185) (k0_pay27 v185)
  let v239 := k0_pay29 (k0_pay25 (F := F) v185)
  let v258 := k0_pay30 (F := F) (k0_pay25 (F := F) v185)
  let v260 := k0_pay31 (k0_pay25 (F := F) v185)
  let v292 := k0_pay32 v237 v239 v258 v260
  k0_pay44 v292 (k0_pay33 v237 v239 v258 v260 (s 0)) (k0_pay34 v292 (s 1)) (k0_pay35 v292 (s 2)) (k0_pay36 v292 (s 3)) (k0_pay37 v292 (s 4)) (k0_pay38 v292 (s 5))
    (k0_pay39 v292 (s 6)) (k0_pay40 v292 (s 7)) (k0_pay41 v292 (s 8)) (k0_pay42 v292 (s 9)) (k0_pay43 v292 (s 10)) (s 11) (s 12) (s 13) (s 14) (s 15)

/-- What the window loop keeps of the result: the rows done hold `Y`, where the values are tracked. -/
def Good (tracked : Prop) (Y : S1024x2560.Idx → F .f32) (dn : S1024x2560.Idx → Prop) (f : S1024x2560.Idx → F .f32) : Prop :=
  tracked → ∀ x, dn x → f x = Y x

theorem minsi_W {a b : ℕ} (ha : a ≤ 2048) (hb : b ≤ 2048) : Scalar.minsi (W a) (W b) = W (min a b) := by
  have h := slt_W ha hb
  show (if (W a).slt (W b) then W a else W b) = _
  have h' : (W a).slt (W b) = decide (a < b) := by
    have h2 : BitVec.ofBool ((W a).slt (W b)) = if a < b then 1#1 else 0#1 := h
    by_cases hl : a < b
    · rw [if_pos hl] at h2
      cases hs : (W a).slt (W b) with
      | true => simp [hl]
      | false => rw [hs] at h2; exact absurd h2 (by decide)
    · rw [if_neg hl] at h2
      cases hs : (W a).slt (W b) with
      | true => rw [hs] at h2; exact absurd h2 (by decide)
      | false => simp [hl]
  rw [h']
  by_cases hl : a < b
  · rw [decide_eq_true hl, if_pos rfl, Nat.min_eq_left (Nat.le_of_lt hl)]
  · rw [decide_eq_false hl, if_neg (by decide), Nat.min_eq_right (Nat.le_of_not_lt hl)]

theorem sge_W {a b : ℕ} (ha : a ≤ 2048) (hb : b ≤ 2048) : Scalar.cmpi .sge (W a) (W b) = if b ≤ a then 1#1 else 0#1 := by
  have : (W b).sle (W a) = decide (b ≤ a) := by
    rw [BitVec.sle_eq_decide, BitVec.toInt_eq_toNat_of_lt, BitVec.toInt_eq_toNat_of_lt] <;> simp only [W, BitVec.toNat_ofNat] <;>
      rw [Nat.mod_eq_of_lt (by omega)]
    · rw [Nat.mod_eq_of_lt (by omega)]; simp
    · omega
    · omega
  show BitVec.ofBool ((W b).sle (W a)) = _
  rw [this]; by_cases h : b ≤ a <;> simp [h]

theorem mask_W {a lo hi : ℕ} (ha : a ≤ 2048) (hlo : lo ≤ 2048) (hhi : hi ≤ 2048) :
    Scalar.andi (Scalar.cmpi .sge (W a) (W lo)) (Scalar.cmpi .slt (W a) (W hi)) = if lo ≤ a ∧ a < hi then 1#1 else 0#1 := by
  rw [sge_W ha hlo, slt_W ha hhi]
  by_cases h1 : lo ≤ a <;> by_cases h2 : a < hi <;> simp [h1, h2] <;> rfl

/-! ## The loads -/

section Loads

variable (c : Dev nD)

/-- A load of 128 packed rows from slot `s`. -/
theorem read7 (s : Fin 4) (k : ℕ) (hk : k < 24) (off : Fin 3 → ℕ) (hoff : off = ![s.val, k * 128, 0]) (inb)
    (f : Buf (Elt F) ((c : Thread nD τ).loc cc0_scratch0)) (D : Fin 3072 → Fin 512 → Elt F .i8) (hD : ∀ i q, f (ix3 s i q) = D i q) :
    (Memref.whole cc0_scratch0 : Memref sig .tc .vmem S4x3072x512 .i8).view.readAt (Elt F) (Rect.unit (s := S4x3072x512) off S1x128x512.size inb).toLoadRect f = r7 D k := by
  subst hoff
  funext x
  have h0 : (x 0).val < 1 := (x 0).isLt
  have h1 : (x 1).val < 128 := (x 1).isLt
  show f ((Rect.unit (s := S4x3072x512) ![s.val, k * 128, 0] S1x128x512.size inb).emb x) = _
  unfold r7; rw [← hD]
  congr 1
  funext a; apply Fin.ext; fin_cases a
  · show s.val + 1 * (x 0).val = s.val; omega
  · show k * 128 + 1 * (x 1).val = (k * 128 + (x 1).val) % 3072
    rw [Nat.mod_eq_of_lt (by omega)]; omega
  · show 0 + 1 * (x 2).val = (x 2).val; omega

/-- The rows of the buffer a load of 128 packed rows reads are the slot's. -/
theorem sub7 (s : Fin 4) (k : ℕ) (off : Fin 3 → ℕ) (hoff : off = ![s.val, k * 128, 0]) (inb) :
    (Memref.whole cc0_scratch0 : Memref sig .tc .vmem S4x3072x512 .i8).view.setOn (Rect.unit (s := S4x3072x512) off S1x128x512.size inb).toLoadRect.set ⊆ set7 s := by
  subst hoff
  intro y hy
  rw [View.setOn, Finset.mem_map] at hy
  obtain ⟨z, hz, rfl⟩ := hy
  have hz' : z ∈ (Rect.unit (s := S4x3072x512) ![s.val, k * 128, 0] S1x128x512.size inb).set := hz
  rw [Rect.mem_set_unit] at hz'
  have h0 : s.val ≤ (z 0).val ∧ (z 0).val < s.val + 1 := hz' 0
  rw [mem_set7]
  show (z 0).val = s.val
  omega

/-- A load of one row of the scales. -/
theorem read9 (r : ℕ) (hr : r < 384) (off : Fin 2 → ℕ) (hoff : off = ![r, 0]) (inb) (f : Buf (Elt F) ((c : Thread nD τ).loc cc0_scratch2)) :
    (Memref.whole cc0_scratch2 : Memref sig .tc .vmem S384x512 .f32).view.readAt (Elt F) (Rect.unit (s := S384x512) off S1x512.size inb).toLoadRect f = r9 f r := by
  subst hoff
  funext x
  have h0 : (x 0).val < 1 := (x 0).isLt
  show f ((Rect.unit (s := S384x512) ![r, 0] S1x512.size inb).emb x) = _
  unfold r9
  congr 1
  funext a; apply Fin.ext; fin_cases a
  · show r + 1 * (x 0).val = r % 384
    rw [Nat.mod_eq_of_lt hr]; omega
  · show 0 + 1 * (x 1).val = (x 1).val; omega

/-- The `k`-th 256 columns of the activations' 128 rows from `w0`. -/
def r3_128 (A : S1024x6144.Idx → F .bf16) (w0 k : ℕ) : Vec F S128x256 .bf16 :=
  fun x => A (ix2 ⟨(w0 + (x 0).val) % 1024, Nat.mod_lt _ (by omega)⟩ ⟨(k * 256 + (x 1).val) % 6144, Nat.mod_lt _ (by omega)⟩)

/-- The product of 128 rows after `k` trips. -/
def kl128 (D : Fin 3072 → Fin 512 → Elt F .i8) (S : S384x512.Idx → F .f32) (A : S1024x6144.Idx → F .bf16) (w0 : ℕ) : ℕ → FVec F S128x512 .f32
  | 0 => k0_pay3
  | k + 1 => k0_pay4 (kl128 D S A w0 k) (wblk (r7 D k) fun b => r9 S (k * 16 + b)) (r3_128 A w0 k)

/-- A load of the activations. -/
theorem read3_128 (w0 k : ℕ) (hw0 : w0 + 128 ≤ 1024) (hk : k < 24) (off : Fin 2 → ℕ) (hoff : off = ![w0, k * 256]) (inb) (f : Buf (Elt F) ((c : Thread nD τ).loc cc0_stg3_0)) :
    (Memref.whole cc0_stg3_0 : Memref sig .tc .vmem S1024x6144 .bf16).view.readAt (Elt F) (Rect.unit (s := S1024x6144) off S128x256.size inb).toLoadRect f = r3_128 f w0 k := by
  subst hoff
  funext x
  have h0 : (x 0).val < 128 := (x 0).isLt
  have h1 : (x 1).val < 256 := (x 1).isLt
  show f ((Rect.unit (s := S1024x6144) ![w0, k * 256] S128x256.size inb).emb x) = _
  unfold r3_128
  congr 1
  funext a; apply Fin.ext; fin_cases a
  · show w0 + 1 * (x 0).val = (w0 + (x 0).val) % 1024
    rw [Nat.mod_eq_of_lt (by omega)]; omega
  · show k * 256 + 1 * (x 1).val = (k * 256 + (x 1).val) % 6144
    rw [Nat.mod_eq_of_lt (by omega)]; omega

/-- A load of the result. -/
theorem read6_128 (w0 cb : ℕ) (off : Fin 2 → ℕ) (hoff : off = ![w0, cb * 512]) (inb) (f : Buf (Elt F) ((c : Thread nD τ).loc cc0_stg4_0)) (r : Fin 128) (q : Fin 512)
    (x : S1024x2560.Idx) (hx0 : (x 0).val = w0 + r.val) (hx1 : (x 1).val = cb * 512 + q.val) :
    (Memref.whole cc0_stg4_0 : Memref sig .tc .vmem S1024x2560 .f32).view.readAt (Elt F) (Rect.unit (s := S1024x2560) off S128x512.size inb).toLoadRect f (ix2 r q) = f x := by
  subst hoff
  show f ((Rect.unit (s := S1024x2560) ![w0, cb * 512] S128x512.size inb).emb (ix2 r q)) = _
  congr 1
  funext a; apply Fin.ext; fin_cases a
  · show w0 + 1 * r.val = (x 0).val; omega
  · show cb * 512 + 1 * q.val = (x 1).val; omega

/-- What a window of 128 rows stores, at an index: the product times the scale in the group's rows, what was there in the others. -/
theorem pay_128 (lo hi i : ℕ) (hlo : lo ≤ 1024) (hhi : hi ≤ 1024) (hi' : i < 64) (v98 : FVec F S1x1 .f32) (v162 v175 : FVec F S128x512 .f32) (r : Fin 128) (q : Fin 512) :
    k0_pay5 (W hi) (W lo) v98 (W (16 * i)) v162 v175 (ix2 r q)
      = if lo ≤ min (16 * i) 896 + r.val ∧ min (16 * i) 896 + r.val < hi then mulf v162 (broadcastTo S128x512 v98 broadcasts_S1x1_S128x512) (ix2 r q) else v175 (ix2 r q) := by
  have hm : Scalar.minsi (W (16 * i)) (W 896) = W (min (16 * i) 896) := minsi_W (by omega) (by omega)
  have hr := r.isLt
  have hmask := mask_W (a := min (16 * i) 896 + r.val) (lo := lo) (hi := hi) (by omega) (by omega) (by omega)
  have hs : shapeCast S128x512 v175 shapeCasts_S128x512_S128x512 (ix2 r q) = v175 (ix2 r q) := by
    pointwise []
  have hiota : (iota .tc S128x512 32 [0] iota_S128x512_d0_w32 : IVec S128x512 32) (ix2 r q) = W r.val := by
    pointwise []
  unfold k0_pay5
  show Scalar.select (Scalar.andi (Scalar.cmpi .sge (Scalar.addi (Scalar.minsi (W (16 * i)) (W 896)) ((iota .tc S128x512 32 [0] iota_S128x512_d0_w32 : IVec S128x512 32) (ix2 r q))) (W lo))
      (Scalar.cmpi .slt (Scalar.addi (Scalar.minsi (W (16 * i)) (W 896)) ((iota .tc S128x512 32 [0] iota_S128x512_d0_w32 : IVec S128x512 32) (ix2 r q))) (W hi)))
      (mulf v162 (broadcastTo S128x512 v98 broadcasts_S1x1_S128x512) (ix2 r q)) (shapeCast S128x512 v175 shapeCasts_S128x512_S128x512 (ix2 r q)) = _
  rw [hm, hiota, hs, add_W, hmask]
  by_cases h : lo ≤ min (16 * i) 896 + r.val ∧ min (16 * i) 896 + r.val < hi
  · rw [if_pos h, if_pos h]; rfl
  · rw [if_neg h, if_neg h]; rfl

/-- The store of a window of 128 rows keeps what was done and adds the group's rows of the window. -/
theorem store_128 (lo hi i cb : ℕ) (hlo : lo ≤ 1024) (hhi : hi ≤ 1024) (hi' : i < 64) (v98 : FVec F S1x1 .f32)
    (tracked : Prop) (Y : S1024x2560.Idx → F .f32) (dn : S1024x2560.Idx → Prop)
    (v162 : FVec F S128x512 .f32)
    (hval : tracked → ∀ (r : Fin 128) (q : Fin 512) (x : S1024x2560.Idx), (x 0).val = min (16 * i) 896 + r.val → (x 1).val = cb * 512 + q.val → lo ≤ (x 0).val → (x 0).val < hi →
      mulf v162 (broadcastTo S128x512 v98 broadcasts_S1x1_S128x512) (ix2 r q) = Y x)
    (off : Fin 2 → ℕ) (hoff : off = ![min (16 * i) 896, cb * 512]) (inb) (f : Buf (Elt F) ((c : Thread nD τ).loc cc0_stg4_0)) (hf : Good tracked Y dn f) :
    Good tracked Y (fun x => dn x ∨ (16 * i ≤ (x 0).val ∧ (x 0).val < 16 * i + 128 ∧ lo ≤ (x 0).val ∧ (x 0).val < hi ∧ cb * 512 ≤ (x 1).val ∧ (x 1).val < cb * 512 + 512))
      (((Memref.whole cc0_stg4_0 : Memref sig .tc .vmem S1024x2560 .f32).access (Rect.unit (s := S1024x2560) off S128x512.size inb)).write (Elt F) f
        (k0_pay5 (W hi) (W lo) v98 (W (16 * i)) v162 ((Memref.whole cc0_stg4_0 : Memref sig .tc .vmem S1024x2560 .f32).view.readAt (Elt F) (Rect.unit (s := S1024x2560) off S128x512.size inb).toLoadRect f)) Finset.univ) := by
  intro ht x hx
  have hx0 : (x 0).val < 1024 := (x 0).isLt
  have hw := View.write_whole_slice_unit cc0_stg4_0 off S128x512.size inb f
    (k0_pay5 (W hi) (W lo) v98 (W (16 * i)) v162 ((Memref.whole cc0_stg4_0 : Memref sig .tc .vmem S1024x2560 .f32).view.readAt (Elt F) (Rect.unit (s := S1024x2560) off S128x512.size inb).toLoadRect f))
  refine (congrFun hw x).trans ?_
  unfold updateSlice
  by_cases hin : min (16 * i) 896 ≤ (x 0).val ∧ (x 0).val < min (16 * i) 896 + 128 ∧ cb * 512 ≤ (x 1).val ∧ (x 1).val < cb * 512 + 512
  · have hin' : ∀ a, off a ≤ (x a).val ∧ (x a).val < off a + S128x512.size a := by
      subst hoff
      intro a
      match a with
      | ⟨0, _⟩ => exact (⟨hin.1, hin.2.1⟩ : min (16 * i) 896 ≤ (x 0).val ∧ (x 0).val < min (16 * i) 896 + 128)
      | ⟨1, _⟩ => exact (⟨hin.2.2.1, hin.2.2.2⟩ : cb * 512 ≤ (x 1).val ∧ (x 1).val < cb * 512 + 512)
    refine (dif_pos hin').trans ?_
    have hrq : (fun a => (⟨(x a).val - off a, by have := hin' a; omega⟩ : Fin (S128x512.size a))) = (ix2 ⟨(x 0).val - min (16 * i) 896, by omega⟩ ⟨(x 1).val - cb * 512, by omega⟩ : S128x512.Idx) := by
      subst hoff
      funext a; apply Fin.ext; fin_cases a <;> rfl
    refine (congrArg _ hrq).trans ?_
    rw [pay_128 lo hi i hlo hhi hi']
    have e0 : (x 0).val = min (16 * i) 896 + ((x 0).val - min (16 * i) 896) := by omega
    have e1 : (x 1).val = cb * 512 + ((x 1).val - cb * 512) := by omega
    by_cases hmk : lo ≤ (x 0).val ∧ (x 0).val < hi
    · rw [if_pos (by rw [← e0]; exact hmk)]
      exact hval ht _ _ x e0 e1 hmk.1 hmk.2
    · rw [if_neg (by rw [← e0]; exact hmk)]
      rw [read6_128 c (min (16 * i) 896) cb off hoff inb f _ _ x e0 e1]
      rcases hx with hx | hx
      · exact hf ht x hx
      · exact absurd ⟨hx.2.2.1, hx.2.2.2.1⟩ hmk
  · have hin' : ¬ ∀ a, off a ≤ (x a).val ∧ (x a).val < off a + S128x512.size a := by
      subst hoff
      intro h
      have h0 : min (16 * i) 896 ≤ (x 0).val ∧ (x 0).val < min (16 * i) 896 + 128 := h 0
      have h1 : cb * 512 ≤ (x 1).val ∧ (x 1).val < cb * 512 + 512 := h 1
      exact hin ⟨h0.1, h0.2, h1.1, h1.2⟩
    refine (dif_neg hin').trans ?_
    rcases hx with hx | hx
    · exact hf ht x hx
    · exact absurd (by omega) hin

/-- The `k`-th 256 columns of the activations' 192 rows from `w0`. -/
def r3_192 (A : S1024x6144.Idx → F .bf16) (w0 k : ℕ) : Vec F S192x256 .bf16 :=
  fun x => A (ix2 ⟨(w0 + (x 0).val) % 1024, Nat.mod_lt _ (by omega)⟩ ⟨(k * 256 + (x 1).val) % 6144, Nat.mod_lt _ (by omega)⟩)

/-- The product of 192 rows after `k` trips. -/
def kl192 (D : Fin 3072 → Fin 512 → Elt F .i8) (S : S384x512.Idx → F .f32) (A : S1024x6144.Idx → F .bf16) (w0 : ℕ) : ℕ → FVec F S192x512 .f32
  | 0 => k0_pay6
  | k + 1 => k0_pay7 (kl192 D S A w0 k) (wblk (r7 D k) fun b => r9 S (k * 16 + b)) (r3_192 A w0 k)

/-- A load of the activations. -/
theorem read3_192 (w0 k : ℕ) (hw0 : w0 + 192 ≤ 1024) (hk : k < 24) (off : Fin 2 → ℕ) (hoff : off = ![w0, k * 256]) (inb) (f : Buf (Elt F) ((c : Thread nD τ).loc cc0_stg3_0)) :
    (Memref.whole cc0_stg3_0 : Memref sig .tc .vmem S1024x6144 .bf16).view.readAt (Elt F) (Rect.unit (s := S1024x6144) off S192x256.size inb).toLoadRect f = r3_192 f w0 k := by
  subst hoff
  funext x
  have h0 : (x 0).val < 192 := (x 0).isLt
  have h1 : (x 1).val < 256 := (x 1).isLt
  show f ((Rect.unit (s := S1024x6144) ![w0, k * 256] S192x256.size inb).emb x) = _
  unfold r3_192
  congr 1
  funext a; apply Fin.ext; fin_cases a
  · show w0 + 1 * (x 0).val = (w0 + (x 0).val) % 1024
    rw [Nat.mod_eq_of_lt (by omega)]; omega
  · show k * 256 + 1 * (x 1).val = (k * 256 + (x 1).val) % 6144
    rw [Nat.mod_eq_of_lt (by omega)]; omega

/-- A load of the result. -/
theorem read6_192 (w0 cb : ℕ) (off : Fin 2 → ℕ) (hoff : off = ![w0, cb * 512]) (inb) (f : Buf (Elt F) ((c : Thread nD τ).loc cc0_stg4_0)) (r : Fin 192) (q : Fin 512)
    (x : S1024x2560.Idx) (hx0 : (x 0).val = w0 + r.val) (hx1 : (x 1).val = cb * 512 + q.val) :
    (Memref.whole cc0_stg4_0 : Memref sig .tc .vmem S1024x2560 .f32).view.readAt (Elt F) (Rect.unit (s := S1024x2560) off S192x512.size inb).toLoadRect f (ix2 r q) = f x := by
  subst hoff
  show f ((Rect.unit (s := S1024x2560) ![w0, cb * 512] S192x512.size inb).emb (ix2 r q)) = _
  congr 1
  funext a; apply Fin.ext; fin_cases a
  · show w0 + 1 * r.val = (x 0).val; omega
  · show cb * 512 + 1 * q.val = (x 1).val; omega

/-- What a window of 192 rows stores, at an index: the product times the scale in the group's rows, what was there in the others. -/
theorem pay_192 (lo hi i : ℕ) (hlo : lo ≤ 1024) (hhi : hi ≤ 1024) (hi' : i < 64) (v98 : FVec F S1x1 .f32) (v162 v175 : FVec F S192x512 .f32) (r : Fin 192) (q : Fin 512) :
    k0_pay8 (W hi) (W lo) v98 (W (16 * i)) v162 v175 (ix2 r q)
      = if lo ≤ min (16 * i) 832 + r.val ∧ min (16 * i) 832 + r.val < hi then mulf v162 (broadcastTo S192x512 v98 broadcasts_S1x1_S192x512) (ix2 r q) else v175 (ix2 r q) := by
  have hm : Scalar.minsi (W (16 * i)) (W 832) = W (min (16 * i) 832) := minsi_W (by omega) (by omega)
  have hr := r.isLt
  have hmask := mask_W (a := min (16 * i) 832 + r.val) (lo := lo) (hi := hi) (by omega) (by omega) (by omega)
  have hs : shapeCast S192x512 v175 shapeCasts_S192x512_S192x512 (ix2 r q) = v175 (ix2 r q) := by
    pointwise []
  have hiota : (iota .tc S192x512 32 [0] iota_S192x512_d0_w32 : IVec S192x512 32) (ix2 r q) = W r.val := by
    pointwise []
  unfold k0_pay8
  show Scalar.select (Scalar.andi (Scalar.cmpi .sge (Scalar.addi (Scalar.minsi (W (16 * i)) (W 832)) ((iota .tc S192x512 32 [0] iota_S192x512_d0_w32 : IVec S192x512 32) (ix2 r q))) (W lo))
      (Scalar.cmpi .slt (Scalar.addi (Scalar.minsi (W (16 * i)) (W 832)) ((iota .tc S192x512 32 [0] iota_S192x512_d0_w32 : IVec S192x512 32) (ix2 r q))) (W hi)))
      (mulf v162 (broadcastTo S192x512 v98 broadcasts_S1x1_S192x512) (ix2 r q)) (shapeCast S192x512 v175 shapeCasts_S192x512_S192x512 (ix2 r q)) = _
  rw [hm, hiota, hs, add_W, hmask]
  by_cases h : lo ≤ min (16 * i) 832 + r.val ∧ min (16 * i) 832 + r.val < hi
  · rw [if_pos h, if_pos h]; rfl
  · rw [if_neg h, if_neg h]; rfl

/-- The store of a window of 192 rows keeps what was done and adds the group's rows of the window. -/
theorem store_192 (lo hi i cb : ℕ) (hlo : lo ≤ 1024) (hhi : hi ≤ 1024) (hi' : i < 64) (v98 : FVec F S1x1 .f32)
    (tracked : Prop) (Y : S1024x2560.Idx → F .f32) (dn : S1024x2560.Idx → Prop)
    (v162 : FVec F S192x512 .f32)
    (hval : tracked → ∀ (r : Fin 192) (q : Fin 512) (x : S1024x2560.Idx), (x 0).val = min (16 * i) 832 + r.val → (x 1).val = cb * 512 + q.val → lo ≤ (x 0).val → (x 0).val < hi →
      mulf v162 (broadcastTo S192x512 v98 broadcasts_S1x1_S192x512) (ix2 r q) = Y x)
    (off : Fin 2 → ℕ) (hoff : off = ![min (16 * i) 832, cb * 512]) (inb) (f : Buf (Elt F) ((c : Thread nD τ).loc cc0_stg4_0)) (hf : Good tracked Y dn f) :
    Good tracked Y (fun x => dn x ∨ (16 * i ≤ (x 0).val ∧ (x 0).val < 16 * i + 192 ∧ lo ≤ (x 0).val ∧ (x 0).val < hi ∧ cb * 512 ≤ (x 1).val ∧ (x 1).val < cb * 512 + 512))
      (((Memref.whole cc0_stg4_0 : Memref sig .tc .vmem S1024x2560 .f32).access (Rect.unit (s := S1024x2560) off S192x512.size inb)).write (Elt F) f
        (k0_pay8 (W hi) (W lo) v98 (W (16 * i)) v162 ((Memref.whole cc0_stg4_0 : Memref sig .tc .vmem S1024x2560 .f32).view.readAt (Elt F) (Rect.unit (s := S1024x2560) off S192x512.size inb).toLoadRect f)) Finset.univ) := by
  intro ht x hx
  have hx0 : (x 0).val < 1024 := (x 0).isLt
  have hw := View.write_whole_slice_unit cc0_stg4_0 off S192x512.size inb f
    (k0_pay8 (W hi) (W lo) v98 (W (16 * i)) v162 ((Memref.whole cc0_stg4_0 : Memref sig .tc .vmem S1024x2560 .f32).view.readAt (Elt F) (Rect.unit (s := S1024x2560) off S192x512.size inb).toLoadRect f))
  refine (congrFun hw x).trans ?_
  unfold updateSlice
  by_cases hin : min (16 * i) 832 ≤ (x 0).val ∧ (x 0).val < min (16 * i) 832 + 192 ∧ cb * 512 ≤ (x 1).val ∧ (x 1).val < cb * 512 + 512
  · have hin' : ∀ a, off a ≤ (x a).val ∧ (x a).val < off a + S192x512.size a := by
      subst hoff
      intro a
      match a with
      | ⟨0, _⟩ => exact (⟨hin.1, hin.2.1⟩ : min (16 * i) 832 ≤ (x 0).val ∧ (x 0).val < min (16 * i) 832 + 192)
      | ⟨1, _⟩ => exact (⟨hin.2.2.1, hin.2.2.2⟩ : cb * 512 ≤ (x 1).val ∧ (x 1).val < cb * 512 + 512)
    refine (dif_pos hin').trans ?_
    have hrq : (fun a => (⟨(x a).val - off a, by have := hin' a; omega⟩ : Fin (S192x512.size a))) = (ix2 ⟨(x 0).val - min (16 * i) 832, by omega⟩ ⟨(x 1).val - cb * 512, by omega⟩ : S192x512.Idx) := by
      subst hoff
      funext a; apply Fin.ext; fin_cases a <;> rfl
    refine (congrArg _ hrq).trans ?_
    rw [pay_192 lo hi i hlo hhi hi']
    have e0 : (x 0).val = min (16 * i) 832 + ((x 0).val - min (16 * i) 832) := by omega
    have e1 : (x 1).val = cb * 512 + ((x 1).val - cb * 512) := by omega
    by_cases hmk : lo ≤ (x 0).val ∧ (x 0).val < hi
    · rw [if_pos (by rw [← e0]; exact hmk)]
      exact hval ht _ _ x e0 e1 hmk.1 hmk.2
    · rw [if_neg (by rw [← e0]; exact hmk)]
      rw [read6_192 c (min (16 * i) 832) cb off hoff inb f _ _ x e0 e1]
      rcases hx with hx | hx
      · exact hf ht x hx
      · exact absurd ⟨hx.2.2.1, hx.2.2.2.1⟩ hmk
  · have hin' : ¬ ∀ a, off a ≤ (x a).val ∧ (x a).val < off a + S192x512.size a := by
      subst hoff
      intro h
      have h0 : min (16 * i) 832 ≤ (x 0).val ∧ (x 0).val < min (16 * i) 832 + 192 := h 0
      have h1 : cb * 512 ≤ (x 1).val ∧ (x 1).val < cb * 512 + 512 := h 1
      exact hin ⟨h0.1, h0.2, h1.1, h1.2⟩
    refine (dif_neg hin').trans ?_
    rcases hx with hx | hx
    · exact hf ht x hx
    · exact absurd (by omega) hin

/-- The `k`-th 256 columns of the activations' 272 rows from `w0`. -/
def r3_272 (A : S1024x6144.Idx → F .bf16) (w0 k : ℕ) : Vec F S272x256 .bf16 :=
  fun x => A (ix2 ⟨(w0 + (x 0).val) % 1024, Nat.mod_lt _ (by omega)⟩ ⟨(k * 256 + (x 1).val) % 6144, Nat.mod_lt _ (by omega)⟩)

/-- The product of 272 rows after `k` trips. -/
def kl272 (D : Fin 3072 → Fin 512 → Elt F .i8) (S : S384x512.Idx → F .f32) (A : S1024x6144.Idx → F .bf16) (w0 : ℕ) : ℕ → FVec F S272x512 .f32
  | 0 => k0_pay9
  | k + 1 => k0_pay10 (kl272 D S A w0 k) (wblk (r7 D k) fun b => r9 S (k * 16 + b)) (r3_272 A w0 k)

/-- A load of the activations. -/
theorem read3_272 (w0 k : ℕ) (hw0 : w0 + 272 ≤ 1024) (hk : k < 24) (off : Fin 2 → ℕ) (hoff : off = ![w0, k * 256]) (inb) (f : Buf (Elt F) ((c : Thread nD τ).loc cc0_stg3_0)) :
    (Memref.whole cc0_stg3_0 : Memref sig .tc .vmem S1024x6144 .bf16).view.readAt (Elt F) (Rect.unit (s := S1024x6144) off S272x256.size inb).toLoadRect f = r3_272 f w0 k := by
  subst hoff
  funext x
  have h0 : (x 0).val < 272 := (x 0).isLt
  have h1 : (x 1).val < 256 := (x 1).isLt
  show f ((Rect.unit (s := S1024x6144) ![w0, k * 256] S272x256.size inb).emb x) = _
  unfold r3_272
  congr 1
  funext a; apply Fin.ext; fin_cases a
  · show w0 + 1 * (x 0).val = (w0 + (x 0).val) % 1024
    rw [Nat.mod_eq_of_lt (by omega)]; omega
  · show k * 256 + 1 * (x 1).val = (k * 256 + (x 1).val) % 6144
    rw [Nat.mod_eq_of_lt (by omega)]; omega

/-- A load of the result. -/
theorem read6_272 (w0 cb : ℕ) (off : Fin 2 → ℕ) (hoff : off = ![w0, cb * 512]) (inb) (f : Buf (Elt F) ((c : Thread nD τ).loc cc0_stg4_0)) (r : Fin 272) (q : Fin 512)
    (x : S1024x2560.Idx) (hx0 : (x 0).val = w0 + r.val) (hx1 : (x 1).val = cb * 512 + q.val) :
    (Memref.whole cc0_stg4_0 : Memref sig .tc .vmem S1024x2560 .f32).view.readAt (Elt F) (Rect.unit (s := S1024x2560) off S272x512.size inb).toLoadRect f (ix2 r q) = f x := by
  subst hoff
  show f ((Rect.unit (s := S1024x2560) ![w0, cb * 512] S272x512.size inb).emb (ix2 r q)) = _
  congr 1
  funext a; apply Fin.ext; fin_cases a
  · show w0 + 1 * r.val = (x 0).val; omega
  · show cb * 512 + 1 * q.val = (x 1).val; omega

/-- What a window of 272 rows stores, at an index: the product times the scale in the group's rows, what was there in the others. -/
theorem pay_272 (lo hi i : ℕ) (hlo : lo ≤ 1024) (hhi : hi ≤ 1024) (hi' : i < 64) (v98 : FVec F S1x1 .f32) (v162 v175 : FVec F S272x512 .f32) (r : Fin 272) (q : Fin 512) :
    k0_pay11 (W hi) (W lo) v98 (W (16 * i)) v162 v175 (ix2 r q)
      = if lo ≤ min (16 * i) 752 + r.val ∧ min (16 * i) 752 + r.val < hi then mulf v162 (broadcastTo S272x512 v98 broadcasts_S1x1_S272x512) (ix2 r q) else v175 (ix2 r q) := by
  have hm : Scalar.minsi (W (16 * i)) (W 752) = W (min (16 * i) 752) := minsi_W (by omega) (by omega)
  have hr := r.isLt
  have hmask := mask_W (a := min (16 * i) 752 + r.val) (lo := lo) (hi := hi) (by omega) (by omega) (by omega)
  have hs : shapeCast S272x512 v175 shapeCasts_S272x512_S272x512 (ix2 r q) = v175 (ix2 r q) := by
    pointwise []
  have hiota : (iota .tc S272x512 32 [0] iota_S272x512_d0_w32 : IVec S272x512 32) (ix2 r q) = W r.val := by
    pointwise []
  unfold k0_pay11
  show Scalar.select (Scalar.andi (Scalar.cmpi .sge (Scalar.addi (Scalar.minsi (W (16 * i)) (W 752)) ((iota .tc S272x512 32 [0] iota_S272x512_d0_w32 : IVec S272x512 32) (ix2 r q))) (W lo))
      (Scalar.cmpi .slt (Scalar.addi (Scalar.minsi (W (16 * i)) (W 752)) ((iota .tc S272x512 32 [0] iota_S272x512_d0_w32 : IVec S272x512 32) (ix2 r q))) (W hi)))
      (mulf v162 (broadcastTo S272x512 v98 broadcasts_S1x1_S272x512) (ix2 r q)) (shapeCast S272x512 v175 shapeCasts_S272x512_S272x512 (ix2 r q)) = _
  rw [hm, hiota, hs, add_W, hmask]
  by_cases h : lo ≤ min (16 * i) 752 + r.val ∧ min (16 * i) 752 + r.val < hi
  · rw [if_pos h, if_pos h]; rfl
  · rw [if_neg h, if_neg h]; rfl

/-- The store of a window of 272 rows keeps what was done and adds the group's rows of the window. -/
theorem store_272 (lo hi i cb : ℕ) (hlo : lo ≤ 1024) (hhi : hi ≤ 1024) (hi' : i < 64) (v98 : FVec F S1x1 .f32)
    (tracked : Prop) (Y : S1024x2560.Idx → F .f32) (dn : S1024x2560.Idx → Prop)
    (v162 : FVec F S272x512 .f32)
    (hval : tracked → ∀ (r : Fin 272) (q : Fin 512) (x : S1024x2560.Idx), (x 0).val = min (16 * i) 752 + r.val → (x 1).val = cb * 512 + q.val → lo ≤ (x 0).val → (x 0).val < hi →
      mulf v162 (broadcastTo S272x512 v98 broadcasts_S1x1_S272x512) (ix2 r q) = Y x)
    (off : Fin 2 → ℕ) (hoff : off = ![min (16 * i) 752, cb * 512]) (inb) (f : Buf (Elt F) ((c : Thread nD τ).loc cc0_stg4_0)) (hf : Good tracked Y dn f) :
    Good tracked Y (fun x => dn x ∨ (16 * i ≤ (x 0).val ∧ (x 0).val < 16 * i + 272 ∧ lo ≤ (x 0).val ∧ (x 0).val < hi ∧ cb * 512 ≤ (x 1).val ∧ (x 1).val < cb * 512 + 512))
      (((Memref.whole cc0_stg4_0 : Memref sig .tc .vmem S1024x2560 .f32).access (Rect.unit (s := S1024x2560) off S272x512.size inb)).write (Elt F) f
        (k0_pay11 (W hi) (W lo) v98 (W (16 * i)) v162 ((Memref.whole cc0_stg4_0 : Memref sig .tc .vmem S1024x2560 .f32).view.readAt (Elt F) (Rect.unit (s := S1024x2560) off S272x512.size inb).toLoadRect f)) Finset.univ) := by
  intro ht x hx
  have hx0 : (x 0).val < 1024 := (x 0).isLt
  have hw := View.write_whole_slice_unit cc0_stg4_0 off S272x512.size inb f
    (k0_pay11 (W hi) (W lo) v98 (W (16 * i)) v162 ((Memref.whole cc0_stg4_0 : Memref sig .tc .vmem S1024x2560 .f32).view.readAt (Elt F) (Rect.unit (s := S1024x2560) off S272x512.size inb).toLoadRect f))
  refine (congrFun hw x).trans ?_
  unfold updateSlice
  by_cases hin : min (16 * i) 752 ≤ (x 0).val ∧ (x 0).val < min (16 * i) 752 + 272 ∧ cb * 512 ≤ (x 1).val ∧ (x 1).val < cb * 512 + 512
  · have hin' : ∀ a, off a ≤ (x a).val ∧ (x a).val < off a + S272x512.size a := by
      subst hoff
      intro a
      match a with
      | ⟨0, _⟩ => exact (⟨hin.1, hin.2.1⟩ : min (16 * i) 752 ≤ (x 0).val ∧ (x 0).val < min (16 * i) 752 + 272)
      | ⟨1, _⟩ => exact (⟨hin.2.2.1, hin.2.2.2⟩ : cb * 512 ≤ (x 1).val ∧ (x 1).val < cb * 512 + 512)
    refine (dif_pos hin').trans ?_
    have hrq : (fun a => (⟨(x a).val - off a, by have := hin' a; omega⟩ : Fin (S272x512.size a))) = (ix2 ⟨(x 0).val - min (16 * i) 752, by omega⟩ ⟨(x 1).val - cb * 512, by omega⟩ : S272x512.Idx) := by
      subst hoff
      funext a; apply Fin.ext; fin_cases a <;> rfl
    refine (congrArg _ hrq).trans ?_
    rw [pay_272 lo hi i hlo hhi hi']
    have e0 : (x 0).val = min (16 * i) 752 + ((x 0).val - min (16 * i) 752) := by omega
    have e1 : (x 1).val = cb * 512 + ((x 1).val - cb * 512) := by omega
    by_cases hmk : lo ≤ (x 0).val ∧ (x 0).val < hi
    · rw [if_pos (by rw [← e0]; exact hmk)]
      exact hval ht _ _ x e0 e1 hmk.1 hmk.2
    · rw [if_neg (by rw [← e0]; exact hmk)]
      rw [read6_272 c (min (16 * i) 752) cb off hoff inb f _ _ x e0 e1]
      rcases hx with hx | hx
      · exact hf ht x hx
      · exact absurd ⟨hx.2.2.1, hx.2.2.2.1⟩ hmk
  · have hin' : ¬ ∀ a, off a ≤ (x a).val ∧ (x a).val < off a + S272x512.size a := by
      subst hoff
      intro h
      have h0 : min (16 * i) 752 ≤ (x 0).val ∧ (x 0).val < min (16 * i) 752 + 272 := h 0
      have h1 : cb * 512 ≤ (x 1).val ∧ (x 1).val < cb * 512 + 512 := h 1
      exact hin ⟨h0.1, h0.2, h1.1, h1.2⟩
    refine (dif_neg hin').trans ?_
    rcases hx with hx | hx
    · exact hf ht x hx
    · exact absurd (by omega) hin

end Loads

/-! ## The programs -/

set_option cleanup.letToHave false in set_option maxHeartbeats 40000000 in
/-- One trip of the product of 128 rows. -/
def kbody128 (v1_1 : BitVec 32) (k0_hw6 : k0_chk6 v1_1) (k0_t2 : Fin (k0_t2_loop v1_1).trips) (v41 : BitVec 32) (k0_hw7 : k0_chk7 v1_1 k0_t2 v41) (v86 : BitVec 32) (k0_hw8 : k0_chk8 v86) (v91 : Elt F .i32) (arg7 : Memref sig .tc .vmem S4x3072x512 .i8) (harg7 : arg7.IsWhole) (arg9 : Memref sig .tc .vmem S384x512 .f32) (harg9 : arg9.IsWhole) (arg3 : Memref sig .tc .vmem S1024x6144 .bf16) (harg3 : arg3.IsWhole) (v88 : Elt F .i32) (v98 : FVec F S1x1 .f32) (arg6 : Memref sig .tc .vmem S1024x2560 .f32) (harg6 : arg6.IsWhole) (arg16 : BitVec 32) (k0_hw9 : k0_chk9 v1_1 k0_t2 arg16) (v147 : BitVec 32) :
    Fin k0_t3_loop.trips → FVec F S128x512 .f32 → Prog (TpuEff nD τ sig (Elt F) (Λ₀ F) .tc) (FVec F S128x512 .f32) := fun k0_t3 arg18 => do
  let ⟨arg17, v187, v189, v220⟩ : Σ' (arg17 : BitVec 32) (v187 : IVec S128x512 32) (v189 : IVec S128x512 32), FVec F S128x512 .f32 ← k0_part11 v1_1 k0_hw6 k0_t2 v41 k0_hw7 v86 k0_hw8 v91 arg7 harg7 arg9 harg9 arg3 harg3 v88 v98 arg6 harg6 arg16 v147 0#32 1#32 k0_t3
  let ⟨v237, v239, v258, v260⟩ : Σ' (v237 : FVec F S128x512 .f32) (v239 : IVec S128x512 32) (v258 : FVec F S128x512 .f32), IVec S128x512 32 ← k0_part12 v1_1 k0_hw6 k0_t2 v41 k0_hw7 v86 k0_hw8 v91 arg7 harg7 arg9 harg9 arg3 harg3 v88 v98 arg6 harg6 arg16 v187 v189 v220
  let ⟨v292, v301, v302, c1_i32_128⟩ : Σ' (v292 : FVec F S256x512 .bf16) (v301 : FVec F S16x512 .bf16) (v302 : BitVec 32), BitVec 32 ← k0_part13 v1_1 k0_hw6 k0_t2 v41 k0_hw7 v86 k0_hw8 v91 arg7 harg7 arg9 harg9 arg3 harg3 v88 v98 arg6 harg6 arg16 k0_t3 arg17 v237 v239 v258 v260
  let ⟨v310, v319, v328, v337, v346, v347, c6_i32_143⟩ : Σ' (v310 : FVec F S16x512 .bf16) (v319 : FVec F S16x512 .bf16) (v328 : FVec F S16x512 .bf16) (v337 : FVec F S16x512 .bf16) (v346 : FVec F S16x512 .bf16) (v347 : BitVec 32), BitVec 32 ← k0_part14 v1_1 k0_hw6 k0_t2 v41 k0_hw7 v86 k0_hw8 v91 arg7 harg7 arg9 harg9 arg3 harg3 v88 v98 arg6 harg6 arg16 k0_t3 arg17 v292 v302 c1_i32_128
  let ⟨v355, v364, v373, v382, v391, v392, c11_i32_156⟩ : Σ' (v355 : FVec F S16x512 .bf16) (v364 : FVec F S16x512 .bf16) (v373 : FVec F S16x512 .bf16) (v382 : FVec F S16x512 .bf16) (v391 : FVec F S16x512 .bf16) (v392 : BitVec 32), BitVec 32 ← k0_part15 v1_1 k0_hw6 k0_t2 v41 k0_hw7 v86 k0_hw8 v91 arg7 harg7 arg9 harg9 arg3 harg3 v88 v98 arg6 harg6 arg16 k0_t3 arg17 v292 v347 c6_i32_143
  let ⟨v437, v438⟩ : Σ' (v437 : FVec F S256x512 .bf16), BitVec 32 ← k0_part16 v1_1 k0_hw6 k0_t2 v41 k0_hw7 v86 k0_hw8 v91 arg7 harg7 arg9 harg9 arg3 harg3 v88 v98 arg6 harg6 arg16 k0_t3 arg17 v292 v301 v310 v319 v328 v337 v346 v355 v364 v373 v382 v391 v392 c11_i32_156
  let v442 : Vec F S128x256 .bf16 ← Prog.lift (.load arg3 (Rect.unit (s := S1024x6144) (k0_off46 arg16 k0_t3) S128x256.size (k0_off46_inb v1_1 k0_t2 arg16 k0_hw9 k0_t3)).toLoadRect (View.loadsAt_vmem h_S128x256))
  pure (k0_pay4 arg18 v437 v442)

set_option cleanup.letToHave false in set_option maxHeartbeats 40000000 in
/-- A window of 128 rows. -/
def win128 (v1_1 : BitVec 32) (k0_hw6 : k0_chk6 v1_1) (k0_t2 : Fin (k0_t2_loop v1_1).trips) (v41 : BitVec 32) (k0_hw7 : k0_chk7 v1_1 k0_t2 v41) (v86 : BitVec 32) (k0_hw8 : k0_chk8 v86) (v91 : Elt F .i32) (arg7 : Memref sig .tc .vmem S4x3072x512 .i8) (harg7 : arg7.IsWhole) (arg9 : Memref sig .tc .vmem S384x512 .f32) (harg9 : arg9.IsWhole) (arg3 : Memref sig .tc .vmem S1024x6144 .bf16) (harg3 : arg3.IsWhole) (v88 : Elt F .i32) (v98 : FVec F S1x1 .f32) (arg6 : Memref sig .tc .vmem S1024x2560 .f32) (harg6 : arg6.IsWhole) (arg16 : BitVec 32) (k0_hw9 : k0_chk9 v1_1 k0_t2 arg16) :
    Prog (TpuEff nD τ sig (Elt F) (Λ₀ F) .tc) PUnit := do
  let arg14 : BitVec 32 := Scf.iv 0#32 1#32 k0_t2
  let v147 : BitVec 32 := Scalar.remsi arg14 4#32
  let v162 : FVec F S128x512 .f32 ← Scf.Loop.for k0_t3_loop k0_t3_ok (k0_pay3 (F := F)) (kbody128 v1_1 k0_hw6 k0_t2 v41 k0_hw7 v86 k0_hw8 v91 arg7 harg7 arg9 harg9 arg3 harg3 v88 v98 arg6 harg6 arg16 k0_hw9 v147)
  let v175 : Vec F S128x512 .f32 ← Prog.lift (.load arg6 (Rect.unit (s := S1024x2560) (k0_off47 v1_1 k0_t2 arg16) S128x512.size (k0_off47_inb v1_1 k0_t2 arg16 k0_hw9)).toLoadRect (View.loadsAt_vmem h_S128x512))
  let v180 : Vec F S128x512 .f32 ← Prog.lift (.load arg6 (Rect.unit (s := S1024x2560) (k0_off47 v1_1 k0_t2 arg16) S128x512.size (k0_off47_inb v1_1 k0_t2 arg16 k0_hw9)).toLoadRect (View.loadsAt_vmem h_S128x512))
  Prog.lift (.store arg6 (Rect.unit (s := S1024x2560) (k0_off47 v1_1 k0_t2 arg16) S128x512.size (k0_off47_inb v1_1 k0_t2 arg16 k0_hw9)) (k0_pay5 v91 v88 v98 arg16 v162 v175) Finset.univ (View.stores_vmem_bits_univ h_S128x512 rfl) (.inl rfl))
  pure ⟨⟩

set_option cleanup.letToHave false in set_option maxHeartbeats 40000000 in
/-- One trip of the product of 192 rows. -/
def kbody192 (v1_1 : BitVec 32) (k0_hw6 : k0_chk6 v1_1) (k0_t2 : Fin (k0_t2_loop v1_1).trips) (v41 : BitVec 32) (k0_hw7 : k0_chk7 v1_1 k0_t2 v41) (v86 : BitVec 32) (k0_hw8 : k0_chk8 v86) (v91 : Elt F .i32) (arg7 : Memref sig .tc .vmem S4x3072x512 .i8) (harg7 : arg7.IsWhole) (arg9 : Memref sig .tc .vmem S384x512 .f32) (harg9 : arg9.IsWhole) (arg3 : Memref sig .tc .vmem S1024x6144 .bf16) (harg3 : arg3.IsWhole) (v88 : Elt F .i32) (v98 : FVec F S1x1 .f32) (arg6 : Memref sig .tc .vmem S1024x2560 .f32) (harg6 : arg6.IsWhole) (arg16 : BitVec 32) (k0_hw9 : k0_chk9 v1_1 k0_t2 arg16) (v147 : BitVec 32) :
    Fin k0_t4_loop.trips → FVec F S192x512 .f32 → Prog (TpuEff nD τ sig (Elt F) (Λ₀ F) .tc) (FVec F S192x512 .f32) := fun k0_t4 arg18 => do
  let ⟨arg17, v187, v189, v220⟩ : Σ' (arg17 : BitVec 32) (v187 : IVec S128x512 32) (v189 : IVec S128x512 32), FVec F S128x512 .f32 ← k0_part17 v1_1 k0_hw6 k0_t2 v41 k0_hw7 v86 k0_hw8 v91 arg7 harg7 arg9 harg9 arg3 harg3 v88 v98 arg6 harg6 arg16 v147 0#32 1#32 k0_t4
  let ⟨v237, v239, v258, v260⟩ : Σ' (v237 : FVec F S128x512 .f32) (v239 : IVec S128x512 32) (v258 : FVec F S128x512 .f32), IVec S128x512 32 ← k0_part18 v1_1 k0_hw6 k0_t2 v41 k0_hw7 v86 k0_hw8 v91 arg7 harg7 arg9 harg9 arg3 harg3 v88 v98 arg6 harg6 arg16 v187 v189 v220
  let ⟨v292, v301, v302, c1_i32_128⟩ : Σ' (v292 : FVec F S256x512 .bf16) (v301 : FVec F S16x512 .bf16) (v302 : BitVec 32), BitVec 32 ← k0_part19 v1_1 k0_hw6 k0_t2 v41 k0_hw7 v86 k0_hw8 v91 arg7 harg7 arg9 harg9 arg3 harg3 v88 v98 arg6 harg6 arg16 k0_t4 arg17 v237 v239 v258 v260
  let ⟨v310, v319, v328, v337, v346, v347, c6_i32_143⟩ : Σ' (v310 : FVec F S16x512 .bf16) (v319 : FVec F S16x512 .bf16) (v328 : FVec F S16x512 .bf16) (v337 : FVec F S16x512 .bf16) (v346 : FVec F S16x512 .bf16) (v347 : BitVec 32), BitVec 32 ← k0_part20 v1_1 k0_hw6 k0_t2 v41 k0_hw7 v86 k0_hw8 v91 arg7 harg7 arg9 harg9 arg3 harg3 v88 v98 arg6 harg6 arg16 k0_t4 arg17 v292 v302 c1_i32_128
  let ⟨v355, v364, v373, v382, v391, v392, c11_i32_156⟩ : Σ' (v355 : FVec F S16x512 .bf16) (v364 : FVec F S16x512 .bf16) (v373 : FVec F S16x512 .bf16) (v382 : FVec F S16x512 .bf16) (v391 : FVec F S16x512 .bf16) (v392 : BitVec 32), BitVec 32 ← k0_part21 v1_1 k0_hw6 k0_t2 v41 k0_hw7 v86 k0_hw8 v91 arg7 harg7 arg9 harg9 arg3 harg3 v88 v98 arg6 harg6 arg16 k0_t4 arg17 v292 v347 c6_i32_143
  let ⟨v437, v438⟩ : Σ' (v437 : FVec F S256x512 .bf16), BitVec 32 ← k0_part22 v1_1 k0_hw6 k0_t2 v41 k0_hw7 v86 k0_hw8 v91 arg7 harg7 arg9 harg9 arg3 harg3 v88 v98 arg6 harg6 arg16 k0_t4 arg17 v292 v301 v310 v319 v328 v337 v346 v355 v364 v373 v382 v391 v392 c11_i32_156
  let v442 : Vec F S192x256 .bf16 ← Prog.lift (.load arg3 (Rect.unit (s := S1024x6144) (k0_off50 arg16 k0_t4) S192x256.size (k0_off50_inb v1_1 k0_t2 arg16 k0_hw9 k0_t4)).toLoadRect (View.loadsAt_vmem h_S192x256))
  pure (k0_pay7 arg18 v437 v442)

set_option cleanup.letToHave false in set_option maxHeartbeats 40000000 in
/-- A window of 192 rows. -/
def win192 (v1_1 : BitVec 32) (k0_hw6 : k0_chk6 v1_1) (k0_t2 : Fin (k0_t2_loop v1_1).trips) (v41 : BitVec 32) (k0_hw7 : k0_chk7 v1_1 k0_t2 v41) (v86 : BitVec 32) (k0_hw8 : k0_chk8 v86) (v91 : Elt F .i32) (arg7 : Memref sig .tc .vmem S4x3072x512 .i8) (harg7 : arg7.IsWhole) (arg9 : Memref sig .tc .vmem S384x512 .f32) (harg9 : arg9.IsWhole) (arg3 : Memref sig .tc .vmem S1024x6144 .bf16) (harg3 : arg3.IsWhole) (v88 : Elt F .i32) (v98 : FVec F S1x1 .f32) (arg6 : Memref sig .tc .vmem S1024x2560 .f32) (harg6 : arg6.IsWhole) (arg16 : BitVec 32) (k0_hw9 : k0_chk9 v1_1 k0_t2 arg16) :
    Prog (TpuEff nD τ sig (Elt F) (Λ₀ F) .tc) PUnit := do
  let arg14 : BitVec 32 := Scf.iv 0#32 1#32 k0_t2
  let v147 : BitVec 32 := Scalar.remsi arg14 4#32
  let v162 : FVec F S192x512 .f32 ← Scf.Loop.for k0_t4_loop k0_t4_ok (k0_pay6 (F := F)) (kbody192 v1_1 k0_hw6 k0_t2 v41 k0_hw7 v86 k0_hw8 v91 arg7 harg7 arg9 harg9 arg3 harg3 v88 v98 arg6 harg6 arg16 k0_hw9 v147)
  let v175 : Vec F S192x512 .f32 ← Prog.lift (.load arg6 (Rect.unit (s := S1024x2560) (k0_off51 v1_1 k0_t2 arg16) S192x512.size (k0_off51_inb v1_1 k0_t2 arg16 k0_hw9)).toLoadRect (View.loadsAt_vmem h_S192x512))
  let v180 : Vec F S192x512 .f32 ← Prog.lift (.load arg6 (Rect.unit (s := S1024x2560) (k0_off51 v1_1 k0_t2 arg16) S192x512.size (k0_off51_inb v1_1 k0_t2 arg16 k0_hw9)).toLoadRect (View.loadsAt_vmem h_S192x512))
  Prog.lift (.store arg6 (Rect.unit (s := S1024x2560) (k0_off51 v1_1 k0_t2 arg16) S192x512.size (k0_off51_inb v1_1 k0_t2 arg16 k0_hw9)) (k0_pay8 v91 v88 v98 arg16 v162 v175) Finset.univ (View.stores_vmem_bits_univ h_S192x512 rfl) (.inl rfl))
  pure ⟨⟩

set_option cleanup.letToHave false in set_option maxHeartbeats 40000000 in
/-- One trip of the product of 272 rows. -/
def kbody272 (v1_1 : BitVec 32) (k0_hw6 : k0_chk6 v1_1) (k0_t2 : Fin (k0_t2_loop v1_1).trips) (v41 : BitVec 32) (k0_hw7 : k0_chk7 v1_1 k0_t2 v41) (v86 : BitVec 32) (k0_hw8 : k0_chk8 v86) (v91 : Elt F .i32) (arg7 : Memref sig .tc .vmem S4x3072x512 .i8) (harg7 : arg7.IsWhole) (arg9 : Memref sig .tc .vmem S384x512 .f32) (harg9 : arg9.IsWhole) (arg3 : Memref sig .tc .vmem S1024x6144 .bf16) (harg3 : arg3.IsWhole) (v88 : Elt F .i32) (v98 : FVec F S1x1 .f32) (arg6 : Memref sig .tc .vmem S1024x2560 .f32) (harg6 : arg6.IsWhole) (arg16 : BitVec 32) (k0_hw9 : k0_chk9 v1_1 k0_t2 arg16) (v147 : BitVec 32) :
    Fin k0_t5_loop.trips → FVec F S272x512 .f32 → Prog (TpuEff nD τ sig (Elt F) (Λ₀ F) .tc) (FVec F S272x512 .f32) := fun k0_t5 arg18 => do
  let ⟨arg17, v187, v189, v220⟩ : Σ' (arg17 : BitVec 32) (v187 : IVec S128x512 32) (v189 : IVec S128x512 32), FVec F S128x512 .f32 ← k0_part23 v1_1 k0_hw6 k0_t2 v41 k0_hw7 v86 k0_hw8 v91 arg7 harg7 arg9 harg9 arg3 harg3 v88 v98 arg6 harg6 arg16 v147 0#32 1#32 k0_t5
  let ⟨v237, v239, v258, v260⟩ : Σ' (v237 : FVec F S128x512 .f32) (v239 : IVec S128x512 32) (v258 : FVec F S128x512 .f32), IVec S128x512 32 ← k0_part24 v1_1 k0_hw6 k0_t2 v41 k0_hw7 v86 k0_hw8 v91 arg7 harg7 arg9 harg9 arg3 harg3 v88 v98 arg6 harg6 arg16 v187 v189 v220
  let ⟨v292, v301, v302, c1_i32_128⟩ : Σ' (v292 : FVec F S256x512 .bf16) (v301 : FVec F S16x512 .bf16) (v302 : BitVec 32), BitVec 32 ← k0_part25 v1_1 k0_hw6 k0_t2 v41 k0_hw7 v86 k0_hw8 v91 arg7 harg7 arg9 harg9 arg3 harg3 v88 v98 arg6 harg6 arg16 k0_t5 arg17 v237 v239 v258 v260
  let ⟨v310, v319, v328, v337, v346, v347, c6_i32_143⟩ : Σ' (v310 : FVec F S16x512 .bf16) (v319 : FVec F S16x512 .bf16) (v328 : FVec F S16x512 .bf16) (v337 : FVec F S16x512 .bf16) (v346 : FVec F S16x512 .bf16) (v347 : BitVec 32), BitVec 32 ← k0_part26 v1_1 k0_hw6 k0_t2 v41 k0_hw7 v86 k0_hw8 v91 arg7 harg7 arg9 harg9 arg3 harg3 v88 v98 arg6 harg6 arg16 k0_t5 arg17 v292 v302 c1_i32_128
  let ⟨v355, v364, v373, v382, v391, v392, c11_i32_156⟩ : Σ' (v355 : FVec F S16x512 .bf16) (v364 : FVec F S16x512 .bf16) (v373 : FVec F S16x512 .bf16) (v382 : FVec F S16x512 .bf16) (v391 : FVec F S16x512 .bf16) (v392 : BitVec 32), BitVec 32 ← k0_part27 v1_1 k0_hw6 k0_t2 v41 k0_hw7 v86 k0_hw8 v91 arg7 harg7 arg9 harg9 arg3 harg3 v88 v98 arg6 harg6 arg16 k0_t5 arg17 v292 v347 c6_i32_143
  let ⟨v437, v438⟩ : Σ' (v437 : FVec F S256x512 .bf16), BitVec 32 ← k0_part28 v1_1 k0_hw6 k0_t2 v41 k0_hw7 v86 k0_hw8 v91 arg7 harg7 arg9 harg9 arg3 harg3 v88 v98 arg6 harg6 arg16 k0_t5 arg17 v292 v301 v310 v319 v328 v337 v346 v355 v364 v373 v382 v391 v392 c11_i32_156
  let v442 : Vec F S272x256 .bf16 ← Prog.lift (.load arg3 (Rect.unit (s := S1024x6144) (k0_off54 arg16 k0_t5) S272x256.size (k0_off54_inb v1_1 k0_t2 arg16 k0_hw9 k0_t5)).toLoadRect (View.loadsAt_vmem h_S272x256))
  pure (k0_pay10 arg18 v437 v442)

set_option cleanup.letToHave false in set_option maxHeartbeats 40000000 in
/-- A window of 272 rows. -/
def win272 (v1_1 : BitVec 32) (k0_hw6 : k0_chk6 v1_1) (k0_t2 : Fin (k0_t2_loop v1_1).trips) (v41 : BitVec 32) (k0_hw7 : k0_chk7 v1_1 k0_t2 v41) (v86 : BitVec 32) (k0_hw8 : k0_chk8 v86) (v91 : Elt F .i32) (arg7 : Memref sig .tc .vmem S4x3072x512 .i8) (harg7 : arg7.IsWhole) (arg9 : Memref sig .tc .vmem S384x512 .f32) (harg9 : arg9.IsWhole) (arg3 : Memref sig .tc .vmem S1024x6144 .bf16) (harg3 : arg3.IsWhole) (v88 : Elt F .i32) (v98 : FVec F S1x1 .f32) (arg6 : Memref sig .tc .vmem S1024x2560 .f32) (harg6 : arg6.IsWhole) (arg16 : BitVec 32) (k0_hw9 : k0_chk9 v1_1 k0_t2 arg16) :
    Prog (TpuEff nD τ sig (Elt F) (Λ₀ F) .tc) PUnit := do
  let arg14 : BitVec 32 := Scf.iv 0#32 1#32 k0_t2
  let v147 : BitVec 32 := Scalar.remsi arg14 4#32
  let v162 : FVec F S272x512 .f32 ← Scf.Loop.for k0_t5_loop k0_t5_ok (k0_pay9 (F := F)) (kbody272 v1_1 k0_hw6 k0_t2 v41 k0_hw7 v86 k0_hw8 v91 arg7 harg7 arg9 harg9 arg3 harg3 v88 v98 arg6 harg6 arg16 k0_hw9 v147)
  let v175 : Vec F S272x512 .f32 ← Prog.lift (.load arg6 (Rect.unit (s := S1024x2560) (k0_off55 v1_1 k0_t2 arg16) S272x512.size (k0_off55_inb v1_1 k0_t2 arg16 k0_hw9)).toLoadRect (View.loadsAt_vmem h_S272x512))
  let v180 : Vec F S272x512 .f32 ← Prog.lift (.load arg6 (Rect.unit (s := S1024x2560) (k0_off55 v1_1 k0_t2 arg16) S272x512.size (k0_off55_inb v1_1 k0_t2 arg16 k0_hw9)).toLoadRect (View.loadsAt_vmem h_S272x512))
  Prog.lift (.store arg6 (Rect.unit (s := S1024x2560) (k0_off55 v1_1 k0_t2 arg16) S272x512.size (k0_off55_inb v1_1 k0_t2 arg16 k0_hw9)) (k0_pay11 v91 v88 v98 arg16 v162 v175) Finset.univ (View.stores_vmem_bits_univ h_S272x512 rfl) (.inl rfl))
  pure ⟨⟩

set_option cleanup.letToHave false in set_option maxHeartbeats 40000000 in
/-- The window loop over the windows' programs. -/
def while1F (v1_1 : BitVec 32) (k0_hw6 : k0_chk6 v1_1) (k0_t2 : Fin (k0_t2_loop v1_1).trips) (v41 : BitVec 32) (k0_hw7 : k0_chk7 v1_1 k0_t2 v41) (v86 : BitVec 32) (k0_hw8 : k0_chk8 v86) (v91 : Elt F .i32) (arg7 : Memref sig .tc .vmem S4x3072x512 .i8) (harg7 : arg7.IsWhole) (arg9 : Memref sig .tc .vmem S384x512 .f32) (harg9 : arg9.IsWhole) (arg3 : Memref sig .tc .vmem S1024x6144 .bf16) (harg3 : arg3.IsWhole) (v88 : Elt F .i32) (v98 : FVec F S1x1 .f32) (arg6 : Memref sig .tc .vmem S1024x2560 .f32) (harg6 : arg6.IsWhole) (arg16 : BitVec 32) :
    Prog (TpuEff nD τ sig (Elt F) (Λ₀ F) .tc) (BitVec 32) := do
  let arg14 : BitVec 32 := Scf.iv 0#32 1#32 k0_t2
  let v129 : BitVec 1 := Scalar.cmpi .slt arg16 v91
  if v129 = 1#1 then do
    have k0_hw9 : k0_chk9 v1_1 k0_t2 arg16 := (← Prog.lift (TpuEff.assume (k0_chk9 v1_1 k0_t2 arg16) (k0_chk9.dec v1_1 k0_t2 arg16))).down
    let v129 : BitVec 32 := Scalar.subi v91 arg16
    let v130 : BitVec 1 := Scalar.cmpi .sgt v129 0#32
    let v131 : BitVec 1 := Scalar.cmpi .sle v129 128#32
    let v132 : BitVec 1 := Scalar.andi v130 v131
    let v133 : BitVec 32 := Scalar.extui v132
    let v134 : BitVec 1 := Scalar.cmpi .ne v133 0#32
    if v134 = 1#1 then do
      win128 v1_1 k0_hw6 k0_t2 v41 k0_hw7 v86 k0_hw8 v91 arg7 harg7 arg9 harg9 arg3 harg3 v88 v98 arg6 harg6 arg16 k0_hw9
    else do
      pure ⟨⟩
    let v135 : BitVec 1 := Scalar.cmpi .sgt v129 128#32
    let v136 : BitVec 1 := Scalar.cmpi .sle v129 192#32
    let v137 : BitVec 1 := Scalar.andi v135 v136
    let v138 : BitVec 32 := Scalar.extui v137
    let v139 : BitVec 1 := Scalar.cmpi .ne v138 0#32
    if v139 = 1#1 then do
      win192 v1_1 k0_hw6 k0_t2 v41 k0_hw7 v86 k0_hw8 v91 arg7 harg7 arg9 harg9 arg3 harg3 v88 v98 arg6 harg6 arg16 k0_hw9
    else do
      pure ⟨⟩
    let v140 : BitVec 1 := Scalar.cmpi .sgt v129 192#32
    let v141 : BitVec 1 := Scalar.andi v140 1#1
    let v142 : BitVec 32 := Scalar.extui v141
    let v143 : BitVec 1 := Scalar.cmpi .ne v142 0#32
    if v143 = 1#1 then do
      win272 v1_1 k0_hw6 k0_t2 v41 k0_hw7 v86 k0_hw8 v91 arg7 harg7 arg9 harg9 arg3 harg3 v88 v98 arg6 harg6 arg16 k0_hw9
    else do
      pure ⟨⟩
    let v144 : BitVec 32 := Scalar.addi arg16 272#32
    Prog.lift (.call (1 : (Λ₀ F).Label) ⟨v1_1, k0_hw6, k0_t2, v41, k0_hw7, v86, k0_hw8, v91, arg7, harg7, arg9, harg9, arg3, harg3, v88, v98, arg6, harg6, v144⟩)
  else pure arg16

set_option maxRecDepth 65536 in
theorem while1F_eq : cc0_while1 (F := F) = while1F (F := F) := by
  rw [cc0_while1_eq_skeleton]
  funext v1_1 k0_hw6 k0_t2 v41 k0_hw7 v86 k0_hw8 v91 arg7 harg7 arg9 harg9 arg3 harg3 v88 v98 arg6 harg6 arg16
  unfold cc0_while1_skel while1F win128 win192 win272
  simp only [bind_assoc, pure_bind]
  rfl

/-! ## What they do -/

section Rules

variable (c : Dev nD)

/-- What a window reads: the slot, the scales and the activations. -/
def held (s : Fin 4) (f7 : Buf (Elt F) ((c : Thread nD τ).loc cc0_scratch0)) (f9 : Buf (Elt F) ((c : Thread nD τ).loc cc0_scratch2)) (fA : Buf (Elt F) ((c : Thread nD τ).loc cc0_stg3_0)) : sProp 𝕄 :=
  iprop(((c : Thread nD τ).loc cc0_scratch0 ↦[set7 s]{fullShare} f7) ∗ ((c : Thread nD τ).loc cc0_scratch2 ↦{fullShare} f9) ∗ ((c : Thread nD τ).loc cc0_stg3_0 ↦{fullShare} fA))

theorem kbody128_wp (bd : Option ℕ) (E : Set ℕ) (n : Fin 12) (hw6 : k0_chk6 (W n.val)) (t : Fin (k0_t2_loop (W n.val)).trips) (v41 : BitVec 32) (hw7 : k0_chk7 (W n.val) t v41) (v86 : BitVec 32) (hw8 : k0_chk8 v86) (lo hi : ℕ) (v98 : FVec F S1x1 .f32) (i : Fin 64) (hw9 : k0_chk9 (W n.val) t (W (16 * i.val))) (v147 : BitVec 32)
    (s : Fin 4) (hs : s.val = t.val % 4) (f7 : Buf (Elt F) ((c : Thread nD τ).loc cc0_scratch0)) (f9 : Buf (Elt F) ((c : Thread nD τ).loc cc0_scratch2)) (fA : Buf (Elt F) ((c : Thread nD τ).loc cc0_stg3_0))
    (D : Fin 3072 → Fin 512 → Elt F .i8) (hD : ∀ i q, f7 (ix3 s i q) = D i q) (k : Fin k0_t3_loop.trips) (acc : FVec F S128x512 .f32) :
    iprop(⌜acc = kl128 D f9 fA (min (16 * i.val) 896) k.val⌝ ∗ held c s f7 f9 fA)
      ⊢ wp frame (wpE (defs₀ (F := F)) 𝒱₀ (c : Thread nD τ) bd) E
          (kbody128 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9 v147 k acc)
          (fun a => iprop(⌜a = kl128 D f9 fA (min (16 * i.val) 896) (k.val + 1)⌝ ∗ held c s f7 f9 fA)) := by
  have hk : k.val < 24 := trips3 ▸ k.isLt
  have ho7 : k0_off44 (W n.val) t k = ![s.val, k.val * 128, 0] := by rw [off44, hs]

  have e0 : (Memref.whole cc0_scratch2 : Memref sig .tc .vmem S384x512 .f32).view.readAt (Elt F) (Rect.unit (s := S384x512) (k0_off45 k 0#32) S1x512.size (k0_off45_inb k 0)).toLoadRect f9 = r9 f9 (k.val * 16 + 0) :=
    read9 c _ (by omega) _ (off45 k 0) _ f9

  have e1 : (Memref.whole cc0_scratch2 : Memref sig .tc .vmem S384x512 .f32).view.readAt (Elt F) (Rect.unit (s := S384x512) (k0_off45 k 1#32) S1x512.size (k0_off45_inb k 1)).toLoadRect f9 = r9 f9 (k.val * 16 + 1) :=
    read9 c _ (by omega) _ (off45 k 1) _ f9

  have e2 : (Memref.whole cc0_scratch2 : Memref sig .tc .vmem S384x512 .f32).view.readAt (Elt F) (Rect.unit (s := S384x512) (k0_off45 k 2#32) S1x512.size (k0_off45_inb k 2)).toLoadRect f9 = r9 f9 (k.val * 16 + 2) :=
    read9 c _ (by omega) _ (off45 k 2) _ f9

  have e3 : (Memref.whole cc0_scratch2 : Memref sig .tc .vmem S384x512 .f32).view.readAt (Elt F) (Rect.unit (s := S384x512) (k0_off45 k 3#32) S1x512.size (k0_off45_inb k 3)).toLoadRect f9 = r9 f9 (k.val * 16 + 3) :=
    read9 c _ (by omega) _ (off45 k 3) _ f9

  have e4 : (Memref.whole cc0_scratch2 : Memref sig .tc .vmem S384x512 .f32).view.readAt (Elt F) (Rect.unit (s := S384x512) (k0_off45 k 4#32) S1x512.size (k0_off45_inb k 4)).toLoadRect f9 = r9 f9 (k.val * 16 + 4) :=
    read9 c _ (by omega) _ (off45 k 4) _ f9

  have e5 : (Memref.whole cc0_scratch2 : Memref sig .tc .vmem S384x512 .f32).view.readAt (Elt F) (Rect.unit (s := S384x512) (k0_off45 k 5#32) S1x512.size (k0_off45_inb k 5)).toLoadRect f9 = r9 f9 (k.val * 16 + 5) :=
    read9 c _ (by omega) _ (off45 k 5) _ f9

  have e6 : (Memref.whole cc0_scratch2 : Memref sig .tc .vmem S384x512 .f32).view.readAt (Elt F) (Rect.unit (s := S384x512) (k0_off45 k 6#32) S1x512.size (k0_off45_inb k 6)).toLoadRect f9 = r9 f9 (k.val * 16 + 6) :=
    read9 c _ (by omega) _ (off45 k 6) _ f9

  have e7 : (Memref.whole cc0_scratch2 : Memref sig .tc .vmem S384x512 .f32).view.readAt (Elt F) (Rect.unit (s := S384x512) (k0_off45 k 7#32) S1x512.size (k0_off45_inb k 7)).toLoadRect f9 = r9 f9 (k.val * 16 + 7) :=
    read9 c _ (by omega) _ (off45 k 7) _ f9

  have e8 : (Memref.whole cc0_scratch2 : Memref sig .tc .vmem S384x512 .f32).view.readAt (Elt F) (Rect.unit (s := S384x512) (k0_off45 k 8#32) S1x512.size (k0_off45_inb k 8)).toLoadRect f9 = r9 f9 (k.val * 16 + 8) :=
    read9 c _ (by omega) _ (off45 k 8) _ f9

  have e9 : (Memref.whole cc0_scratch2 : Memref sig .tc .vmem S384x512 .f32).view.readAt (Elt F) (Rect.unit (s := S384x512) (k0_off45 k 9#32) S1x512.size (k0_off45_inb k 9)).toLoadRect f9 = r9 f9 (k.val * 16 + 9) :=
    read9 c _ (by omega) _ (off45 k 9) _ f9

  have e10 : (Memref.whole cc0_scratch2 : Memref sig .tc .vmem S384x512 .f32).view.readAt (Elt F) (Rect.unit (s := S384x512) (k0_off45 k 10#32) S1x512.size (k0_off45_inb k 10)).toLoadRect f9 = r9 f9 (k.val * 16 + 10) :=
    read9 c _ (by omega) _ (off45 k 10) _ f9

  have e11 : (Memref.whole cc0_scratch2 : Memref sig .tc .vmem S384x512 .f32).view.readAt (Elt F) (Rect.unit (s := S384x512) (k0_off45 k 11#32) S1x512.size (k0_off45_inb k 11)).toLoadRect f9 = r9 f9 (k.val * 16 + 11) :=
    read9 c _ (by omega) _ (off45 k 11) _ f9

  have e12 : (Memref.whole cc0_scratch2 : Memref sig .tc .vmem S384x512 .f32).view.readAt (Elt F) (Rect.unit (s := S384x512) (k0_off45 k 12#32) S1x512.size (k0_off45_inb k 12)).toLoadRect f9 = r9 f9 (k.val * 16 + 12) :=
    read9 c _ (by omega) _ (off45 k 12) _ f9

  have e13 : (Memref.whole cc0_scratch2 : Memref sig .tc .vmem S384x512 .f32).view.readAt (Elt F) (Rect.unit (s := S384x512) (k0_off45 k 13#32) S1x512.size (k0_off45_inb k 13)).toLoadRect f9 = r9 f9 (k.val * 16 + 13) :=
    read9 c _ (by omega) _ (off45 k 13) _ f9

  have e14 : (Memref.whole cc0_scratch2 : Memref sig .tc .vmem S384x512 .f32).view.readAt (Elt F) (Rect.unit (s := S384x512) (k0_off45 k 14#32) S1x512.size (k0_off45_inb k 14)).toLoadRect f9 = r9 f9 (k.val * 16 + 14) :=
    read9 c _ (by omega) _ (off45 k 14) _ f9

  have e15 : (Memref.whole cc0_scratch2 : Memref sig .tc .vmem S384x512 .f32).view.readAt (Elt F) (Rect.unit (s := S384x512) (k0_off45 k 15#32) S1x512.size (k0_off45_inb k 15)).toLoadRect f9 = r9 f9 (k.val * 16 + 15) :=
    read9 c _ (by omega) _ (off45 k 15) _ f9

  unfold kbody128 held
  simp only [k0_part11_eq_skeleton, k0_part12_eq_skeleton, k0_part13_eq_skeleton, k0_part14_eq_skeleton, k0_part15_eq_skeleton, k0_part16_eq_skeleton]
  unfold k0_part11_skel k0_part12_skel k0_part13_skel k0_part14_skel k0_part15_skel k0_part16_skel
  simp only [Prog.lift, Prog.bind_op, Prog.bind_ret, Prog.pure_eq_ret]
  iintro ⟨%hacc, H7, H9, HA⟩
  iapply (wp_load 𝒱₀ (c : Thread nD τ) bd E (m := Memref.whole cc0_scratch0) (sub7 s k.val _ ho7 _)) $$ H7; iintro H7
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_stg3_0) (Finset.subset_univ _)) $$ HA; iintro HA
  rw [wp_ret]; imodintro
  isplitr [H7 H9 HA]
  · ipureintro
    rw [read7 c s k.val hk _ ho7 _ f7 D hD, read3_128 c (min (16 * i.val) 896) k.val (by omega) hk _ (off46 i k) _ fA, hacc, e0, e1, e2, e3, e4, e5, e6, e7, e8, e9, e10, e11, e12, e13, e14, e15]
    rfl
  · isplitl [H7]; · iexact H7
    isplitl [H9]; · iexact H9
    iexact HA

theorem win128_wp (bd : Option ℕ) (E : Set ℕ) (n : Fin 12) (hw6 : k0_chk6 (W n.val)) (t : Fin (k0_t2_loop (W n.val)).trips) (v41 : BitVec 32) (hw7 : k0_chk7 (W n.val) t v41) (v86 : BitVec 32) (hw8 : k0_chk8 v86) (lo hi : ℕ) (v98 : FVec F S1x1 .f32) (i : Fin 64) (hw9 : k0_chk9 (W n.val) t (W (16 * i.val))) (hlo : lo ≤ 1024) (hhi : hi ≤ 1024)
    (s : Fin 4) (hs : s.val = t.val % 4) (f7 : Buf (Elt F) ((c : Thread nD τ).loc cc0_scratch0)) (f9 : Buf (Elt F) ((c : Thread nD τ).loc cc0_scratch2)) (fA : Buf (Elt F) ((c : Thread nD τ).loc cc0_stg3_0))
    (D : Fin 3072 → Fin 512 → Elt F .i8) (hD : ∀ i q, f7 (ix3 s i q) = D i q)
    (tracked : Prop) (Y : S1024x2560.Idx → F .f32) (dn : S1024x2560.Idx → Prop)
    (hval : tracked → ∀ (r : Fin 128) (q : Fin 512) (x : S1024x2560.Idx), (x 0).val = min (16 * i.val) 896 + r.val → (x 1).val = t.val % 5 * 512 + q.val → lo ≤ (x 0).val → (x 0).val < hi →
      mulf (kl128 D f9 fA (min (16 * i.val) 896) 24) (broadcastTo S128x512 v98 broadcasts_S1x1_S128x512) (ix2 r q) = Y x)
    (f6 : Buf (Elt F) ((c : Thread nD τ).loc cc0_stg4_0)) (hf : Good tracked Y dn f6) :
    iprop(held c s f7 f9 fA ∗ ((c : Thread nD τ).loc cc0_stg4_0 ↦{fullShare} f6))
      ⊢ wp frame (wpE (defs₀ (F := F)) 𝒱₀ (c : Thread nD τ) bd) E
          (win128 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9)
          (fun _ => iprop(held c s f7 f9 fA ∗ ∃ f6' : Buf (Elt F) ((c : Thread nD τ).loc cc0_stg4_0), ((c : Thread nD τ).loc cc0_stg4_0 ↦{fullShare} f6')
            ∗ ⌜Good tracked Y (fun x => dn x ∨ (16 * i.val ≤ (x 0).val ∧ (x 0).val < 16 * i.val + 128 ∧ lo ≤ (x 0).val ∧ (x 0).val < hi ∧ t.val % 5 * 512 ≤ (x 1).val ∧ (x 1).val < t.val % 5 * 512 + 512)) f6'⌝)) := by
  unfold win128
  rw [wp_bind]
  iintro ⟨H, H6⟩
  iapply (Scf.wp_for frame (wpE (defs₀ (F := F)) 𝒱₀ (c : Thread nD τ) bd) E _ _ _ k0_t3_ok (k0_pay3 (F := F))
    (kbody128 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9 _)
    (fun k acc => iprop(⌜acc = kl128 D f9 fA (min (16 * i.val) 896) k⌝ ∗ held c s f7 f9 fA))
    (fun k acc => kbody128_wp c bd E n hw6 t v41 hw7 v86 hw8 lo hi v98 i hw9 _ s hs f7 f9 fA D hD k acc))
  isplitl [H]
  · isplitr [H]
    · ipureintro; rfl
    · iexact H
  iintro %acc ⟨%hacc, H⟩
  have ht : Scf.trips (w := 32) k0_t3_loop.lb k0_t3_loop.ub k0_t3_loop.st = 24 := trips3
  rw [ht] at hacc
  simp only [Prog.lift, Prog.bind_op, Prog.bind_ret, Prog.pure_eq_ret]
  iapply (wp_load 𝒱₀ (c : Thread nD τ) bd E (m := Memref.whole cc0_stg4_0) (Finset.subset_univ _)) $$ H6; iintro H6
  iapply (wp_load 𝒱₀ (c : Thread nD τ) bd E (m := Memref.whole cc0_stg4_0) (Finset.subset_univ _)) $$ H6; iintro H6
  iapply (wp_store 𝒱₀ (c : Thread nD τ) bd E (m := Memref.whole cc0_stg4_0) (r := Rect.unit (s := S1024x2560) (k0_off47 (W n.val) t (W (16 * i.val))) S128x512.size (k0_off47_inb _ _ _ hw9)) (Mk := Finset.univ) (Finset.subset_univ _)) $$ H6; iintro H6
  rw [wp_ret]; imodintro
  isplitl [H]; · iexact H
  iexists _
  isplitl [H6]; · iexact H6
  ipureintro
  rw [hacc]
  exact store_128 c lo hi i.val (t.val % 5) hlo hhi i.isLt v98 tracked Y dn _ hval _ (off47 n t i) _ f6 hf

theorem kbody192_wp (bd : Option ℕ) (E : Set ℕ) (n : Fin 12) (hw6 : k0_chk6 (W n.val)) (t : Fin (k0_t2_loop (W n.val)).trips) (v41 : BitVec 32) (hw7 : k0_chk7 (W n.val) t v41) (v86 : BitVec 32) (hw8 : k0_chk8 v86) (lo hi : ℕ) (v98 : FVec F S1x1 .f32) (i : Fin 64) (hw9 : k0_chk9 (W n.val) t (W (16 * i.val))) (v147 : BitVec 32)
    (s : Fin 4) (hs : s.val = t.val % 4) (f7 : Buf (Elt F) ((c : Thread nD τ).loc cc0_scratch0)) (f9 : Buf (Elt F) ((c : Thread nD τ).loc cc0_scratch2)) (fA : Buf (Elt F) ((c : Thread nD τ).loc cc0_stg3_0))
    (D : Fin 3072 → Fin 512 → Elt F .i8) (hD : ∀ i q, f7 (ix3 s i q) = D i q) (k : Fin k0_t4_loop.trips) (acc : FVec F S192x512 .f32) :
    iprop(⌜acc = kl192 D f9 fA (min (16 * i.val) 832) k.val⌝ ∗ held c s f7 f9 fA)
      ⊢ wp frame (wpE (defs₀ (F := F)) 𝒱₀ (c : Thread nD τ) bd) E
          (kbody192 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9 v147 k acc)
          (fun a => iprop(⌜a = kl192 D f9 fA (min (16 * i.val) 832) (k.val + 1)⌝ ∗ held c s f7 f9 fA)) := by
  have hk : k.val < 24 := trips4 ▸ k.isLt
  have ho7 : k0_off48 (W n.val) t k = ![s.val, k.val * 128, 0] := by rw [off48, hs]

  have e0 : (Memref.whole cc0_scratch2 : Memref sig .tc .vmem S384x512 .f32).view.readAt (Elt F) (Rect.unit (s := S384x512) (k0_off49 k 0#32) S1x512.size (k0_off49_inb k 0)).toLoadRect f9 = r9 f9 (k.val * 16 + 0) :=
    read9 c _ (by omega) _ (off49 k 0) _ f9

  have e1 : (Memref.whole cc0_scratch2 : Memref sig .tc .vmem S384x512 .f32).view.readAt (Elt F) (Rect.unit (s := S384x512) (k0_off49 k 1#32) S1x512.size (k0_off49_inb k 1)).toLoadRect f9 = r9 f9 (k.val * 16 + 1) :=
    read9 c _ (by omega) _ (off49 k 1) _ f9

  have e2 : (Memref.whole cc0_scratch2 : Memref sig .tc .vmem S384x512 .f32).view.readAt (Elt F) (Rect.unit (s := S384x512) (k0_off49 k 2#32) S1x512.size (k0_off49_inb k 2)).toLoadRect f9 = r9 f9 (k.val * 16 + 2) :=
    read9 c _ (by omega) _ (off49 k 2) _ f9

  have e3 : (Memref.whole cc0_scratch2 : Memref sig .tc .vmem S384x512 .f32).view.readAt (Elt F) (Rect.unit (s := S384x512) (k0_off49 k 3#32) S1x512.size (k0_off49_inb k 3)).toLoadRect f9 = r9 f9 (k.val * 16 + 3) :=
    read9 c _ (by omega) _ (off49 k 3) _ f9

  have e4 : (Memref.whole cc0_scratch2 : Memref sig .tc .vmem S384x512 .f32).view.readAt (Elt F) (Rect.unit (s := S384x512) (k0_off49 k 4#32) S1x512.size (k0_off49_inb k 4)).toLoadRect f9 = r9 f9 (k.val * 16 + 4) :=
    read9 c _ (by omega) _ (off49 k 4) _ f9

  have e5 : (Memref.whole cc0_scratch2 : Memref sig .tc .vmem S384x512 .f32).view.readAt (Elt F) (Rect.unit (s := S384x512) (k0_off49 k 5#32) S1x512.size (k0_off49_inb k 5)).toLoadRect f9 = r9 f9 (k.val * 16 + 5) :=
    read9 c _ (by omega) _ (off49 k 5) _ f9

  have e6 : (Memref.whole cc0_scratch2 : Memref sig .tc .vmem S384x512 .f32).view.readAt (Elt F) (Rect.unit (s := S384x512) (k0_off49 k 6#32) S1x512.size (k0_off49_inb k 6)).toLoadRect f9 = r9 f9 (k.val * 16 + 6) :=
    read9 c _ (by omega) _ (off49 k 6) _ f9

  have e7 : (Memref.whole cc0_scratch2 : Memref sig .tc .vmem S384x512 .f32).view.readAt (Elt F) (Rect.unit (s := S384x512) (k0_off49 k 7#32) S1x512.size (k0_off49_inb k 7)).toLoadRect f9 = r9 f9 (k.val * 16 + 7) :=
    read9 c _ (by omega) _ (off49 k 7) _ f9

  have e8 : (Memref.whole cc0_scratch2 : Memref sig .tc .vmem S384x512 .f32).view.readAt (Elt F) (Rect.unit (s := S384x512) (k0_off49 k 8#32) S1x512.size (k0_off49_inb k 8)).toLoadRect f9 = r9 f9 (k.val * 16 + 8) :=
    read9 c _ (by omega) _ (off49 k 8) _ f9

  have e9 : (Memref.whole cc0_scratch2 : Memref sig .tc .vmem S384x512 .f32).view.readAt (Elt F) (Rect.unit (s := S384x512) (k0_off49 k 9#32) S1x512.size (k0_off49_inb k 9)).toLoadRect f9 = r9 f9 (k.val * 16 + 9) :=
    read9 c _ (by omega) _ (off49 k 9) _ f9

  have e10 : (Memref.whole cc0_scratch2 : Memref sig .tc .vmem S384x512 .f32).view.readAt (Elt F) (Rect.unit (s := S384x512) (k0_off49 k 10#32) S1x512.size (k0_off49_inb k 10)).toLoadRect f9 = r9 f9 (k.val * 16 + 10) :=
    read9 c _ (by omega) _ (off49 k 10) _ f9

  have e11 : (Memref.whole cc0_scratch2 : Memref sig .tc .vmem S384x512 .f32).view.readAt (Elt F) (Rect.unit (s := S384x512) (k0_off49 k 11#32) S1x512.size (k0_off49_inb k 11)).toLoadRect f9 = r9 f9 (k.val * 16 + 11) :=
    read9 c _ (by omega) _ (off49 k 11) _ f9

  have e12 : (Memref.whole cc0_scratch2 : Memref sig .tc .vmem S384x512 .f32).view.readAt (Elt F) (Rect.unit (s := S384x512) (k0_off49 k 12#32) S1x512.size (k0_off49_inb k 12)).toLoadRect f9 = r9 f9 (k.val * 16 + 12) :=
    read9 c _ (by omega) _ (off49 k 12) _ f9

  have e13 : (Memref.whole cc0_scratch2 : Memref sig .tc .vmem S384x512 .f32).view.readAt (Elt F) (Rect.unit (s := S384x512) (k0_off49 k 13#32) S1x512.size (k0_off49_inb k 13)).toLoadRect f9 = r9 f9 (k.val * 16 + 13) :=
    read9 c _ (by omega) _ (off49 k 13) _ f9

  have e14 : (Memref.whole cc0_scratch2 : Memref sig .tc .vmem S384x512 .f32).view.readAt (Elt F) (Rect.unit (s := S384x512) (k0_off49 k 14#32) S1x512.size (k0_off49_inb k 14)).toLoadRect f9 = r9 f9 (k.val * 16 + 14) :=
    read9 c _ (by omega) _ (off49 k 14) _ f9

  have e15 : (Memref.whole cc0_scratch2 : Memref sig .tc .vmem S384x512 .f32).view.readAt (Elt F) (Rect.unit (s := S384x512) (k0_off49 k 15#32) S1x512.size (k0_off49_inb k 15)).toLoadRect f9 = r9 f9 (k.val * 16 + 15) :=
    read9 c _ (by omega) _ (off49 k 15) _ f9

  unfold kbody192 held
  simp only [k0_part17_eq_skeleton, k0_part18_eq_skeleton, k0_part19_eq_skeleton, k0_part20_eq_skeleton, k0_part21_eq_skeleton, k0_part22_eq_skeleton]
  unfold k0_part17_skel k0_part18_skel k0_part19_skel k0_part20_skel k0_part21_skel k0_part22_skel
  simp only [Prog.lift, Prog.bind_op, Prog.bind_ret, Prog.pure_eq_ret]
  iintro ⟨%hacc, H7, H9, HA⟩
  iapply (wp_load 𝒱₀ (c : Thread nD τ) bd E (m := Memref.whole cc0_scratch0) (sub7 s k.val _ ho7 _)) $$ H7; iintro H7
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_stg3_0) (Finset.subset_univ _)) $$ HA; iintro HA
  rw [wp_ret]; imodintro
  isplitr [H7 H9 HA]
  · ipureintro
    rw [read7 c s k.val hk _ ho7 _ f7 D hD, read3_192 c (min (16 * i.val) 832) k.val (by omega) hk _ (off50 i k) _ fA, hacc, e0, e1, e2, e3, e4, e5, e6, e7, e8, e9, e10, e11, e12, e13, e14, e15]
    rfl
  · isplitl [H7]; · iexact H7
    isplitl [H9]; · iexact H9
    iexact HA

theorem win192_wp (bd : Option ℕ) (E : Set ℕ) (n : Fin 12) (hw6 : k0_chk6 (W n.val)) (t : Fin (k0_t2_loop (W n.val)).trips) (v41 : BitVec 32) (hw7 : k0_chk7 (W n.val) t v41) (v86 : BitVec 32) (hw8 : k0_chk8 v86) (lo hi : ℕ) (v98 : FVec F S1x1 .f32) (i : Fin 64) (hw9 : k0_chk9 (W n.val) t (W (16 * i.val))) (hlo : lo ≤ 1024) (hhi : hi ≤ 1024)
    (s : Fin 4) (hs : s.val = t.val % 4) (f7 : Buf (Elt F) ((c : Thread nD τ).loc cc0_scratch0)) (f9 : Buf (Elt F) ((c : Thread nD τ).loc cc0_scratch2)) (fA : Buf (Elt F) ((c : Thread nD τ).loc cc0_stg3_0))
    (D : Fin 3072 → Fin 512 → Elt F .i8) (hD : ∀ i q, f7 (ix3 s i q) = D i q)
    (tracked : Prop) (Y : S1024x2560.Idx → F .f32) (dn : S1024x2560.Idx → Prop)
    (hval : tracked → ∀ (r : Fin 192) (q : Fin 512) (x : S1024x2560.Idx), (x 0).val = min (16 * i.val) 832 + r.val → (x 1).val = t.val % 5 * 512 + q.val → lo ≤ (x 0).val → (x 0).val < hi →
      mulf (kl192 D f9 fA (min (16 * i.val) 832) 24) (broadcastTo S192x512 v98 broadcasts_S1x1_S192x512) (ix2 r q) = Y x)
    (f6 : Buf (Elt F) ((c : Thread nD τ).loc cc0_stg4_0)) (hf : Good tracked Y dn f6) :
    iprop(held c s f7 f9 fA ∗ ((c : Thread nD τ).loc cc0_stg4_0 ↦{fullShare} f6))
      ⊢ wp frame (wpE (defs₀ (F := F)) 𝒱₀ (c : Thread nD τ) bd) E
          (win192 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9)
          (fun _ => iprop(held c s f7 f9 fA ∗ ∃ f6' : Buf (Elt F) ((c : Thread nD τ).loc cc0_stg4_0), ((c : Thread nD τ).loc cc0_stg4_0 ↦{fullShare} f6')
            ∗ ⌜Good tracked Y (fun x => dn x ∨ (16 * i.val ≤ (x 0).val ∧ (x 0).val < 16 * i.val + 192 ∧ lo ≤ (x 0).val ∧ (x 0).val < hi ∧ t.val % 5 * 512 ≤ (x 1).val ∧ (x 1).val < t.val % 5 * 512 + 512)) f6'⌝)) := by
  unfold win192
  rw [wp_bind]
  iintro ⟨H, H6⟩
  iapply (Scf.wp_for frame (wpE (defs₀ (F := F)) 𝒱₀ (c : Thread nD τ) bd) E _ _ _ k0_t4_ok (k0_pay6 (F := F))
    (kbody192 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9 _)
    (fun k acc => iprop(⌜acc = kl192 D f9 fA (min (16 * i.val) 832) k⌝ ∗ held c s f7 f9 fA))
    (fun k acc => kbody192_wp c bd E n hw6 t v41 hw7 v86 hw8 lo hi v98 i hw9 _ s hs f7 f9 fA D hD k acc))
  isplitl [H]
  · isplitr [H]
    · ipureintro; rfl
    · iexact H
  iintro %acc ⟨%hacc, H⟩
  have ht : Scf.trips (w := 32) k0_t4_loop.lb k0_t4_loop.ub k0_t4_loop.st = 24 := trips4
  rw [ht] at hacc
  simp only [Prog.lift, Prog.bind_op, Prog.bind_ret, Prog.pure_eq_ret]
  iapply (wp_load 𝒱₀ (c : Thread nD τ) bd E (m := Memref.whole cc0_stg4_0) (Finset.subset_univ _)) $$ H6; iintro H6
  iapply (wp_load 𝒱₀ (c : Thread nD τ) bd E (m := Memref.whole cc0_stg4_0) (Finset.subset_univ _)) $$ H6; iintro H6
  iapply (wp_store 𝒱₀ (c : Thread nD τ) bd E (m := Memref.whole cc0_stg4_0) (r := Rect.unit (s := S1024x2560) (k0_off51 (W n.val) t (W (16 * i.val))) S192x512.size (k0_off51_inb _ _ _ hw9)) (Mk := Finset.univ) (Finset.subset_univ _)) $$ H6; iintro H6
  rw [wp_ret]; imodintro
  isplitl [H]; · iexact H
  iexists _
  isplitl [H6]; · iexact H6
  ipureintro
  rw [hacc]
  exact store_192 c lo hi i.val (t.val % 5) hlo hhi i.isLt v98 tracked Y dn _ hval _ (off51 n t i) _ f6 hf

theorem kbody272_wp (bd : Option ℕ) (E : Set ℕ) (n : Fin 12) (hw6 : k0_chk6 (W n.val)) (t : Fin (k0_t2_loop (W n.val)).trips) (v41 : BitVec 32) (hw7 : k0_chk7 (W n.val) t v41) (v86 : BitVec 32) (hw8 : k0_chk8 v86) (lo hi : ℕ) (v98 : FVec F S1x1 .f32) (i : Fin 64) (hw9 : k0_chk9 (W n.val) t (W (16 * i.val))) (v147 : BitVec 32)
    (s : Fin 4) (hs : s.val = t.val % 4) (f7 : Buf (Elt F) ((c : Thread nD τ).loc cc0_scratch0)) (f9 : Buf (Elt F) ((c : Thread nD τ).loc cc0_scratch2)) (fA : Buf (Elt F) ((c : Thread nD τ).loc cc0_stg3_0))
    (D : Fin 3072 → Fin 512 → Elt F .i8) (hD : ∀ i q, f7 (ix3 s i q) = D i q) (k : Fin k0_t5_loop.trips) (acc : FVec F S272x512 .f32) :
    iprop(⌜acc = kl272 D f9 fA (min (16 * i.val) 752) k.val⌝ ∗ held c s f7 f9 fA)
      ⊢ wp frame (wpE (defs₀ (F := F)) 𝒱₀ (c : Thread nD τ) bd) E
          (kbody272 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9 v147 k acc)
          (fun a => iprop(⌜a = kl272 D f9 fA (min (16 * i.val) 752) (k.val + 1)⌝ ∗ held c s f7 f9 fA)) := by
  have hk : k.val < 24 := trips5 ▸ k.isLt
  have ho7 : k0_off52 (W n.val) t k = ![s.val, k.val * 128, 0] := by rw [off52, hs]

  have e0 : (Memref.whole cc0_scratch2 : Memref sig .tc .vmem S384x512 .f32).view.readAt (Elt F) (Rect.unit (s := S384x512) (k0_off53 k 0#32) S1x512.size (k0_off53_inb k 0)).toLoadRect f9 = r9 f9 (k.val * 16 + 0) :=
    read9 c _ (by omega) _ (off53 k 0) _ f9

  have e1 : (Memref.whole cc0_scratch2 : Memref sig .tc .vmem S384x512 .f32).view.readAt (Elt F) (Rect.unit (s := S384x512) (k0_off53 k 1#32) S1x512.size (k0_off53_inb k 1)).toLoadRect f9 = r9 f9 (k.val * 16 + 1) :=
    read9 c _ (by omega) _ (off53 k 1) _ f9

  have e2 : (Memref.whole cc0_scratch2 : Memref sig .tc .vmem S384x512 .f32).view.readAt (Elt F) (Rect.unit (s := S384x512) (k0_off53 k 2#32) S1x512.size (k0_off53_inb k 2)).toLoadRect f9 = r9 f9 (k.val * 16 + 2) :=
    read9 c _ (by omega) _ (off53 k 2) _ f9

  have e3 : (Memref.whole cc0_scratch2 : Memref sig .tc .vmem S384x512 .f32).view.readAt (Elt F) (Rect.unit (s := S384x512) (k0_off53 k 3#32) S1x512.size (k0_off53_inb k 3)).toLoadRect f9 = r9 f9 (k.val * 16 + 3) :=
    read9 c _ (by omega) _ (off53 k 3) _ f9

  have e4 : (Memref.whole cc0_scratch2 : Memref sig .tc .vmem S384x512 .f32).view.readAt (Elt F) (Rect.unit (s := S384x512) (k0_off53 k 4#32) S1x512.size (k0_off53_inb k 4)).toLoadRect f9 = r9 f9 (k.val * 16 + 4) :=
    read9 c _ (by omega) _ (off53 k 4) _ f9

  have e5 : (Memref.whole cc0_scratch2 : Memref sig .tc .vmem S384x512 .f32).view.readAt (Elt F) (Rect.unit (s := S384x512) (k0_off53 k 5#32) S1x512.size (k0_off53_inb k 5)).toLoadRect f9 = r9 f9 (k.val * 16 + 5) :=
    read9 c _ (by omega) _ (off53 k 5) _ f9

  have e6 : (Memref.whole cc0_scratch2 : Memref sig .tc .vmem S384x512 .f32).view.readAt (Elt F) (Rect.unit (s := S384x512) (k0_off53 k 6#32) S1x512.size (k0_off53_inb k 6)).toLoadRect f9 = r9 f9 (k.val * 16 + 6) :=
    read9 c _ (by omega) _ (off53 k 6) _ f9

  have e7 : (Memref.whole cc0_scratch2 : Memref sig .tc .vmem S384x512 .f32).view.readAt (Elt F) (Rect.unit (s := S384x512) (k0_off53 k 7#32) S1x512.size (k0_off53_inb k 7)).toLoadRect f9 = r9 f9 (k.val * 16 + 7) :=
    read9 c _ (by omega) _ (off53 k 7) _ f9

  have e8 : (Memref.whole cc0_scratch2 : Memref sig .tc .vmem S384x512 .f32).view.readAt (Elt F) (Rect.unit (s := S384x512) (k0_off53 k 8#32) S1x512.size (k0_off53_inb k 8)).toLoadRect f9 = r9 f9 (k.val * 16 + 8) :=
    read9 c _ (by omega) _ (off53 k 8) _ f9

  have e9 : (Memref.whole cc0_scratch2 : Memref sig .tc .vmem S384x512 .f32).view.readAt (Elt F) (Rect.unit (s := S384x512) (k0_off53 k 9#32) S1x512.size (k0_off53_inb k 9)).toLoadRect f9 = r9 f9 (k.val * 16 + 9) :=
    read9 c _ (by omega) _ (off53 k 9) _ f9

  have e10 : (Memref.whole cc0_scratch2 : Memref sig .tc .vmem S384x512 .f32).view.readAt (Elt F) (Rect.unit (s := S384x512) (k0_off53 k 10#32) S1x512.size (k0_off53_inb k 10)).toLoadRect f9 = r9 f9 (k.val * 16 + 10) :=
    read9 c _ (by omega) _ (off53 k 10) _ f9

  have e11 : (Memref.whole cc0_scratch2 : Memref sig .tc .vmem S384x512 .f32).view.readAt (Elt F) (Rect.unit (s := S384x512) (k0_off53 k 11#32) S1x512.size (k0_off53_inb k 11)).toLoadRect f9 = r9 f9 (k.val * 16 + 11) :=
    read9 c _ (by omega) _ (off53 k 11) _ f9

  have e12 : (Memref.whole cc0_scratch2 : Memref sig .tc .vmem S384x512 .f32).view.readAt (Elt F) (Rect.unit (s := S384x512) (k0_off53 k 12#32) S1x512.size (k0_off53_inb k 12)).toLoadRect f9 = r9 f9 (k.val * 16 + 12) :=
    read9 c _ (by omega) _ (off53 k 12) _ f9

  have e13 : (Memref.whole cc0_scratch2 : Memref sig .tc .vmem S384x512 .f32).view.readAt (Elt F) (Rect.unit (s := S384x512) (k0_off53 k 13#32) S1x512.size (k0_off53_inb k 13)).toLoadRect f9 = r9 f9 (k.val * 16 + 13) :=
    read9 c _ (by omega) _ (off53 k 13) _ f9

  have e14 : (Memref.whole cc0_scratch2 : Memref sig .tc .vmem S384x512 .f32).view.readAt (Elt F) (Rect.unit (s := S384x512) (k0_off53 k 14#32) S1x512.size (k0_off53_inb k 14)).toLoadRect f9 = r9 f9 (k.val * 16 + 14) :=
    read9 c _ (by omega) _ (off53 k 14) _ f9

  have e15 : (Memref.whole cc0_scratch2 : Memref sig .tc .vmem S384x512 .f32).view.readAt (Elt F) (Rect.unit (s := S384x512) (k0_off53 k 15#32) S1x512.size (k0_off53_inb k 15)).toLoadRect f9 = r9 f9 (k.val * 16 + 15) :=
    read9 c _ (by omega) _ (off53 k 15) _ f9

  unfold kbody272 held
  simp only [k0_part23_eq_skeleton, k0_part24_eq_skeleton, k0_part25_eq_skeleton, k0_part26_eq_skeleton, k0_part27_eq_skeleton, k0_part28_eq_skeleton]
  unfold k0_part23_skel k0_part24_skel k0_part25_skel k0_part26_skel k0_part27_skel k0_part28_skel
  simp only [Prog.lift, Prog.bind_op, Prog.bind_ret, Prog.pure_eq_ret]
  iintro ⟨%hacc, H7, H9, HA⟩
  iapply (wp_load 𝒱₀ (c : Thread nD τ) bd E (m := Memref.whole cc0_scratch0) (sub7 s k.val _ ho7 _)) $$ H7; iintro H7
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_stg3_0) (Finset.subset_univ _)) $$ HA; iintro HA
  rw [wp_ret]; imodintro
  isplitr [H7 H9 HA]
  · ipureintro
    rw [read7 c s k.val hk _ ho7 _ f7 D hD, read3_272 c (min (16 * i.val) 752) k.val (by omega) hk _ (off54 i k) _ fA, hacc, e0, e1, e2, e3, e4, e5, e6, e7, e8, e9, e10, e11, e12, e13, e14, e15]
    rfl
  · isplitl [H7]; · iexact H7
    isplitl [H9]; · iexact H9
    iexact HA

theorem win272_wp (bd : Option ℕ) (E : Set ℕ) (n : Fin 12) (hw6 : k0_chk6 (W n.val)) (t : Fin (k0_t2_loop (W n.val)).trips) (v41 : BitVec 32) (hw7 : k0_chk7 (W n.val) t v41) (v86 : BitVec 32) (hw8 : k0_chk8 v86) (lo hi : ℕ) (v98 : FVec F S1x1 .f32) (i : Fin 64) (hw9 : k0_chk9 (W n.val) t (W (16 * i.val))) (hlo : lo ≤ 1024) (hhi : hi ≤ 1024)
    (s : Fin 4) (hs : s.val = t.val % 4) (f7 : Buf (Elt F) ((c : Thread nD τ).loc cc0_scratch0)) (f9 : Buf (Elt F) ((c : Thread nD τ).loc cc0_scratch2)) (fA : Buf (Elt F) ((c : Thread nD τ).loc cc0_stg3_0))
    (D : Fin 3072 → Fin 512 → Elt F .i8) (hD : ∀ i q, f7 (ix3 s i q) = D i q)
    (tracked : Prop) (Y : S1024x2560.Idx → F .f32) (dn : S1024x2560.Idx → Prop)
    (hval : tracked → ∀ (r : Fin 272) (q : Fin 512) (x : S1024x2560.Idx), (x 0).val = min (16 * i.val) 752 + r.val → (x 1).val = t.val % 5 * 512 + q.val → lo ≤ (x 0).val → (x 0).val < hi →
      mulf (kl272 D f9 fA (min (16 * i.val) 752) 24) (broadcastTo S272x512 v98 broadcasts_S1x1_S272x512) (ix2 r q) = Y x)
    (f6 : Buf (Elt F) ((c : Thread nD τ).loc cc0_stg4_0)) (hf : Good tracked Y dn f6) :
    iprop(held c s f7 f9 fA ∗ ((c : Thread nD τ).loc cc0_stg4_0 ↦{fullShare} f6))
      ⊢ wp frame (wpE (defs₀ (F := F)) 𝒱₀ (c : Thread nD τ) bd) E
          (win272 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9)
          (fun _ => iprop(held c s f7 f9 fA ∗ ∃ f6' : Buf (Elt F) ((c : Thread nD τ).loc cc0_stg4_0), ((c : Thread nD τ).loc cc0_stg4_0 ↦{fullShare} f6')
            ∗ ⌜Good tracked Y (fun x => dn x ∨ (16 * i.val ≤ (x 0).val ∧ (x 0).val < 16 * i.val + 272 ∧ lo ≤ (x 0).val ∧ (x 0).val < hi ∧ t.val % 5 * 512 ≤ (x 1).val ∧ (x 1).val < t.val % 5 * 512 + 512)) f6'⌝)) := by
  unfold win272
  rw [wp_bind]
  iintro ⟨H, H6⟩
  iapply (Scf.wp_for frame (wpE (defs₀ (F := F)) 𝒱₀ (c : Thread nD τ) bd) E _ _ _ k0_t5_ok (k0_pay9 (F := F))
    (kbody272 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9 _)
    (fun k acc => iprop(⌜acc = kl272 D f9 fA (min (16 * i.val) 752) k⌝ ∗ held c s f7 f9 fA))
    (fun k acc => kbody272_wp c bd E n hw6 t v41 hw7 v86 hw8 lo hi v98 i hw9 _ s hs f7 f9 fA D hD k acc))
  isplitl [H]
  · isplitr [H]
    · ipureintro; rfl
    · iexact H
  iintro %acc ⟨%hacc, H⟩
  have ht : Scf.trips (w := 32) k0_t5_loop.lb k0_t5_loop.ub k0_t5_loop.st = 24 := trips5
  rw [ht] at hacc
  simp only [Prog.lift, Prog.bind_op, Prog.bind_ret, Prog.pure_eq_ret]
  iapply (wp_load 𝒱₀ (c : Thread nD τ) bd E (m := Memref.whole cc0_stg4_0) (Finset.subset_univ _)) $$ H6; iintro H6
  iapply (wp_load 𝒱₀ (c : Thread nD τ) bd E (m := Memref.whole cc0_stg4_0) (Finset.subset_univ _)) $$ H6; iintro H6
  iapply (wp_store 𝒱₀ (c : Thread nD τ) bd E (m := Memref.whole cc0_stg4_0) (r := Rect.unit (s := S1024x2560) (k0_off55 (W n.val) t (W (16 * i.val))) S272x512.size (k0_off55_inb _ _ _ hw9)) (Mk := Finset.univ) (Finset.subset_univ _)) $$ H6; iintro H6
  rw [wp_ret]; imodintro
  isplitl [H]; · iexact H
  iexists _
  isplitl [H6]; · iexact H6
  ipureintro
  rw [hacc]
  exact store_272 c lo hi i.val (t.val % 5) hlo hhi i.isLt v98 tracked Y dn _ hval _ (off55 n t i) _ f6 hf

end Rules

end Cert.Kernel.KW
-- ==== Proof.KX.lean ====
/- The window loop's label: its specification, and that its body meets it.

   Entered at a window's base it does the group's rows from there on, in the chunk's column block. -/
module

public import proofs.«01_k».proof.Proof.KW

@[expose] public section

set_option maxRecDepth 8192
set_option maxHeartbeats 1000000

noncomputable section

namespace Cert.Kernel.KX

open Cert.Kernel Cert.Kernel.Gen Cert.Kernel.KA Cert.Kernel.KD Cert.Kernel.KW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the transfers' counters. -/
local notation "𝕄" => MT nD τ sig Unit (Elt F) ℕ (Pipeline.UD sig nD τ) ℕ

/-- The embedding of the transfers' counters. -/
local notation "EC" => (countersEmb (U := Pipeline.UD sig nD τ))

variable (c : Dev nD)

section Label

variable (c : Dev nD) (n : Fin 12) (hw6 : k0_chk6 (W n.val)) (t : Fin (k0_t2_loop (W n.val)).trips) (v41 : BitVec 32) (hw7 : k0_chk7 (W n.val) t v41) (v86 : BitVec 32) (hw8 : k0_chk8 v86)
  (lo hi : ℕ) (hlo : lo ≤ 1024) (hhi : hi ≤ 1024) (v98 : FVec F S1x1 .f32)
  (s : Fin 4) (hs : s.val = t.val % 4) (f7 : Buf (Elt F) ((c : Thread nD τ).loc cc0_scratch0)) (f9 : Buf (Elt F) ((c : Thread nD τ).loc cc0_scratch2)) (fA : Buf (Elt F) ((c : Thread nD τ).loc cc0_stg3_0))
  (D : Fin 3072 → Fin 512 → Elt F .i8) (hD : ∀ i q, f7 (ix3 s i q) = D i q)
  (tracked : Prop) (Y : S1024x2560.Idx → F .f32)

/-- A window's rows of the group hold the result, wherever the window lies. -/
def Vals : Prop :=
  tracked → ∀ w0 : ℕ,
    (∀ (r : Fin 128) (q : Fin 512) (x : S1024x2560.Idx), w0 + 128 ≤ 1024 → (x 0).val = w0 + r.val → (x 1).val = t.val % 5 * 512 + q.val → lo ≤ (x 0).val → (x 0).val < hi →
      mulf (kl128 D f9 fA w0 24) (broadcastTo S128x512 v98 broadcasts_S1x1_S128x512) (ix2 r q) = Y x)
    ∧ (∀ (r : Fin 192) (q : Fin 512) (x : S1024x2560.Idx), w0 + 192 ≤ 1024 → (x 0).val = w0 + r.val → (x 1).val = t.val % 5 * 512 + q.val → lo ≤ (x 0).val → (x 0).val < hi →
      mulf (kl192 D f9 fA w0 24) (broadcastTo S192x512 v98 broadcasts_S1x1_S192x512) (ix2 r q) = Y x)
    ∧ (∀ (r : Fin 272) (q : Fin 512) (x : S1024x2560.Idx), w0 + 272 ≤ 1024 → (x 0).val = w0 + r.val → (x 1).val = t.val % 5 * 512 + q.val → lo ≤ (x 0).val → (x 0).val < hi →
      mulf (kl272 D f9 fA w0 24) (broadcastTo S272x512 v98 broadcasts_S1x1_S272x512) (ix2 r q) = Y x)

/-- The indices of the group's rows from base `b` on, in the chunk's column block. -/
def Todo (b : ℕ) (x : S1024x2560.Idx) : Prop :=
  b ≤ (x 0).val ∧ lo ≤ (x 0).val ∧ (x 0).val < hi ∧ t.val % 5 * 512 ≤ (x 1).val ∧ (x 1).val < t.val % 5 * 512 + 512

/-- The label's specification entered at base `b` with `dn` done. -/
def spec (b : ℕ) (dn : S1024x2560.Idx → Prop) (f6 : Buf (Elt F) ((c : Thread nD τ).loc cc0_stg4_0)) : sWPT 𝕄 (BitVec 32) := do
  sWPT.consume iprop(held c s f7 f9 fA ∗ ((c : Thread nD τ).loc cc0_stg4_0 ↦{fullShare} f6))
  let r ← sWPT.arbitrary
  sWPT.produce iprop(held c s f7 f9 fA ∗ ∃ f6' : Buf (Elt F) ((c : Thread nD τ).loc cc0_stg4_0), ((c : Thread nD τ).loc cc0_stg4_0 ↦{fullShare} f6')
    ∗ ⌜Good tracked Y (fun x => dn x ∨ Todo n t lo hi b x) f6'⌝)
  pure r

theorem spec_apply (b : ℕ) (dn : S1024x2560.Idx → Prop) (f6 : Buf (Elt F) ((c : Thread nD τ).loc cc0_stg4_0)) (K : BitVec 32 → sProp 𝕄) :
    spec c n t lo hi s f7 f9 fA tracked Y b dn f6 K
      = iprop((held c s f7 f9 fA ∗ ((c : Thread nD τ).loc cc0_stg4_0 ↦{fullShare} f6)) ∗ ∀ r : BitVec 32,
        ((held c s f7 f9 fA ∗ ∃ f6' : Buf (Elt F) ((c : Thread nD τ).loc cc0_stg4_0), ((c : Thread nD τ).loc cc0_stg4_0 ↦{fullShare} f6')
          ∗ ⌜Good tracked Y (fun x => dn x ∨ Todo n t lo hi b x) f6'⌝) -∗ K r)) := rfl

omit [FloatOps F] in
theorem Good_mono {tracked : Prop} {Y : S1024x2560.Idx → F .f32} {d d' : S1024x2560.Idx → Prop} {f : S1024x2560.Idx → F .f32} (h : ∀ x, d' x → d x) (hg : Good tracked Y d f) : Good tracked Y d' f :=
  fun ht x hx => hg ht x (h x hx)

include hlo hhi hs hD in
theorem spec_le (hval : Vals c n t lo hi v98 f9 fA D tracked Y) (E : Set ℕ) :
    ∀ k i : ℕ, i ≤ 81 → hi ≤ 16 * i + 272 * k → ∀ dn f6, Good tracked Y dn f6 → ∀ K, spec c n t lo hi s f7 f9 fA tracked Y (16 * i) dn f6 K
      ⊢ wp frame (wpE (defs₀ (F := F)) 𝒱₀ (c : Thread nD τ) (some k)) E
          (defs₀ (F := F) .tc 1 ⟨W n.val, hw6, t, v41, hw7, v86, hw8, W hi, Memref.whole cc0_scratch0, Memref.isWhole_whole _, Memref.whole cc0_scratch2, Memref.isWhole_whole _,
            Memref.whole cc0_stg3_0, Memref.isWhole_whole _, W lo, v98, Memref.whole cc0_stg4_0, Memref.isWhole_whole _, W (16 * i)⟩) K := by
  intro k
  induction k with
  | zero =>
    intro i hi' hk dn f6 hf K
    rw [spec_apply]
    show _ ⊢ wp frame (wpE (defs₀ (F := F)) 𝒱₀ (c : Thread nD τ) (some 0)) E
      (cc0_while1 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i))) K
    rw [while1F_eq]; unfold while1F
    have htest : Scalar.cmpi .slt (W (16 * i)) (W hi) = 0#1 := by rw [slt_W (by omega) (by omega), if_neg (by omega)]
    simp only [htest, show (0#1 = 1#1) = False from by decide, ↓reduceIte, Prog.pure_eq_ret]
    iintro ⟨⟨H, H6⟩, Hk⟩
    rw [wp_ret]; imodintro
    iapply Hk
    isplitl [H]; · iexact H
    iexists f6
    isplitl [H6]; · iexact H6
    ipureintro
    refine Good_mono (fun x hx => ?_) hf
    rcases hx with hx | hx
    · exact hx
    · exact absurd hx.2.2.1 (by have := hx.1; omega)
  | succ k ih =>
    intro i hi' hk dn f6 hf K
    rw [spec_apply]
    show _ ⊢ wp frame (wpE (defs₀ (F := F)) 𝒱₀ (c : Thread nD τ) (some (k + 1))) E
      (cc0_while1 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i))) K
    rw [while1F_eq]; unfold while1F
    by_cases hlt : 16 * i < hi
    · have htest : Scalar.cmpi .slt (W (16 * i)) (W hi) = 1#1 := by rw [slt_W (by omega) (by omega), if_pos hlt]
      have hi64 : i < 64 := by omega
      have hw9 : k0_chk9 (W n.val) t (W (16 * i)) := chk9 n t ⟨i, hi64⟩
      have hsub : Scalar.subi (W hi) (W (16 * i)) = W (hi - 16 * i) := sub_W (by omega) (by omega)
      have hnext : Scalar.addi (W (16 * i)) 272#32 = W (16 * (i + 17)) := by
        rw [show (272#32 : BitVec 32) = W 272 from rfl, add_W]; congr 1
      have g1 := left1 ⟨hi - 16 * i, by omega⟩
      have g2 := left2 ⟨hi - 16 * i, by omega⟩
      have g3 := left3 ⟨hi - 16 * i, by omega⟩
      simp only [] at g1 g2 g3
      rcases (by omega : hi - 16 * i ≤ 128 ∨ (128 < hi - 16 * i ∧ hi - 16 * i ≤ 192) ∨ 192 < hi - 16 * i) with hd | hd | hd
      · have c1 := g1.2 (by omega); have c2 := eq_false (mt g2.1 (by omega)); have c3 := eq_false (mt g3.1 (by omega))
        simp only [htest, hsub, c1, c2, c3, ↓reduceIte, Prog.lift, Prog.bind_op, Prog.bind_ret, Prog.pure_eq_ret]
        iintro ⟨⟨H, H6⟩, Hk⟩
        iapply (wp_assume 𝒱₀ (c : Thread nD τ) (some (k + 1)) E hw9)
        rw [wp_bind]
        iapply (wp_wand_r frame (wpE (defs₀ (F := F)) 𝒱₀ (c : Thread nD τ) (some (k + 1))) E)
        isplitl [H H6]
        · iapply (win128_wp c (some (k + 1)) E n hw6 t v41 hw7 v86 hw8 lo hi v98 ⟨i, hi64⟩ hw9 hlo hhi s hs f7 f9 fA D hD tracked Y dn
            (fun ht r q x h0 h1 h2 h3 => (hval ht _).1 r q x (by omega) h0 h1 h2 h3) f6 hf)
          isplitl [H]; · iexact H
          iexact H6
        iintro %u ⟨H, %f6', H6, %hf'⟩
        rw [hnext]
        iapply (wp_call_spec 𝒱₀ (c : Thread nD τ) (some (k + 1)) E (spec c n t lo hi s f7 f9 fA tracked Y (16 * (i + 17)) _ f6') k
          (fun u hu => by cases hu; exact Nat.lt_succ_self k)
          (ih (i + 17) (by omega) (by omega) _ f6' hf'))
        rw [spec_apply]
        isplitl [H H6]
        · isplitl [H]; · iexact H
          iexact H6
        iintro %r ⟨H, %f7', H6, %hf7⟩
        rw [wp_ret]; imodintro
        iapply Hk
        isplitl [H]; · iexact H
        iexists f7'
        isplitl [H6]; · iexact H6
        ipureintro
        refine Good_mono (fun x hx => ?_) hf7
        rcases hx with hx | ⟨h1, h2, h3, h4, h5⟩
        · exact Or.inl (Or.inl hx)
        · by_cases hx : (x 0).val < 16 * i + 128
          · exact Or.inl (Or.inr ⟨h1, hx, h2, h3, h4, h5⟩)
          · exact Or.inr ⟨by omega, h2, h3, h4, h5⟩
      · have c1 := eq_false (mt g1.1 (by omega)); have c2 := g2.2 (by omega); have c3 := eq_false (mt g3.1 (by omega))
        simp only [htest, hsub, c1, c2, c3, ↓reduceIte, Prog.lift, Prog.bind_op, Prog.bind_ret, Prog.pure_eq_ret]
        iintro ⟨⟨H, H6⟩, Hk⟩
        iapply (wp_assume 𝒱₀ (c : Thread nD τ) (some (k + 1)) E hw9)
        rw [wp_bind]
        iapply (wp_wand_r frame (wpE (defs₀ (F := F)) 𝒱₀ (c : Thread nD τ) (some (k + 1))) E)
        isplitl [H H6]
        · iapply (win192_wp c (some (k + 1)) E n hw6 t v41 hw7 v86 hw8 lo hi v98 ⟨i, hi64⟩ hw9 hlo hhi s hs f7 f9 fA D hD tracked Y dn
            (fun ht r q x h0 h1 h2 h3 => (hval ht _).2.1 r q x (by omega) h0 h1 h2 h3) f6 hf)
          isplitl [H]; · iexact H
          iexact H6
        iintro %u ⟨H, %f6', H6, %hf'⟩
        rw [hnext]
        iapply (wp_call_spec 𝒱₀ (c : Thread nD τ) (some (k + 1)) E (spec c n t lo hi s f7 f9 fA tracked Y (16 * (i + 17)) _ f6') k
          (fun u hu => by cases hu; exact Nat.lt_succ_self k)
          (ih (i + 17) (by omega) (by omega) _ f6' hf'))
        rw [spec_apply]
        isplitl [H H6]
        · isplitl [H]; · iexact H
          iexact H6
        iintro %r ⟨H, %f7', H6, %hf7⟩
        rw [wp_ret]; imodintro
        iapply Hk
        isplitl [H]; · iexact H
        iexists f7'
        isplitl [H6]; · iexact H6
        ipureintro
        refine Good_mono (fun x hx => ?_) hf7
        rcases hx with hx | ⟨h1, h2, h3, h4, h5⟩
        · exact Or.inl (Or.inl hx)
        · by_cases hx : (x 0).val < 16 * i + 192
          · exact Or.inl (Or.inr ⟨h1, hx, h2, h3, h4, h5⟩)
          · exact Or.inr ⟨by omega, h2, h3, h4, h5⟩
      · have c1 := eq_false (mt g1.1 (by omega)); have c2 := eq_false (mt g2.1 (by omega)); have c3 := g3.2 (by omega)
        simp only [htest, hsub, c1, c2, c3, ↓reduceIte, Prog.lift, Prog.bind_op, Prog.bind_ret, Prog.pure_eq_ret]
        iintro ⟨⟨H, H6⟩, Hk⟩
        iapply (wp_assume 𝒱₀ (c : Thread nD τ) (some (k + 1)) E hw9)
        rw [wp_bind]
        iapply (wp_wand_r frame (wpE (defs₀ (F := F)) 𝒱₀ (c : Thread nD τ) (some (k + 1))) E)
        isplitl [H H6]
        · iapply (win272_wp c (some (k + 1)) E n hw6 t v41 hw7 v86 hw8 lo hi v98 ⟨i, hi64⟩ hw9 hlo hhi s hs f7 f9 fA D hD tracked Y dn
            (fun ht r q x h0 h1 h2 h3 => (hval ht _).2.2 r q x (by omega) h0 h1 h2 h3) f6 hf)
          isplitl [H]; · iexact H
          iexact H6
        iintro %u ⟨H, %f6', H6, %hf'⟩
        rw [hnext]
        iapply (wp_call_spec 𝒱₀ (c : Thread nD τ) (some (k + 1)) E (spec c n t lo hi s f7 f9 fA tracked Y (16 * (i + 17)) _ f6') k
          (fun u hu => by cases hu; exact Nat.lt_succ_self k)
          (ih (i + 17) (by omega) (by omega) _ f6' hf'))
        rw [spec_apply]
        isplitl [H H6]
        · isplitl [H]; · iexact H
          iexact H6
        iintro %r ⟨H, %f7', H6, %hf7⟩
        rw [wp_ret]; imodintro
        iapply Hk
        isplitl [H]; · iexact H
        iexists f7'
        isplitl [H6]; · iexact H6
        ipureintro
        refine Good_mono (fun x hx => ?_) hf7
        rcases hx with hx | ⟨h1, h2, h3, h4, h5⟩
        · exact Or.inl (Or.inl hx)
        · by_cases hx : (x 0).val < 16 * i + 272
          · exact Or.inl (Or.inr ⟨h1, hx, h2, h3, h4, h5⟩)
          · exact Or.inr ⟨by omega, h2, h3, h4, h5⟩
    · have htest : Scalar.cmpi .slt (W (16 * i)) (W hi) = 0#1 := by rw [slt_W (by omega) (by omega), if_neg hlt]
      simp only [htest, show (0#1 = 1#1) = False from by decide, ↓reduceIte, Prog.pure_eq_ret]
      iintro ⟨⟨H, H6⟩, Hk⟩
      rw [wp_ret]; imodintro
      iapply Hk
      isplitl [H]; · iexact H
      iexists f6
      isplitl [H6]; · iexact H6
      ipureintro
      refine Good_mono (fun x hx => ?_) hf
      rcases hx with hx | hx
      · exact hx
      · exact absurd hx.2.2.1 (by have := hx.1; omega)

end Label

end Cert.Kernel.KX
-- ==== Proof.Words.lean ====
/- The groups: their first rows, which of them are not empty, and in what order. -/
module

public import Mathlib.Algebra.BigOperators.Fin
public import Mathlib.Algebra.Order.BigOperators.Group.Finset
public import Mathlib.Tactic.IntervalCases

@[expose] public section

noncomputable section

namespace Cert.Words

variable (G : ℕ → ℕ)

/-- The first row of group `k`: the sizes before it. -/
def pre (k : ℕ) : ℕ := ∑ e ∈ Finset.range k, G e

/-- How many groups before `k` are not empty. -/
def nl : ℕ → ℕ
  | 0 => 0
  | k + 1 => nl k + if 0 < G k then 1 else 0

/-- The `j`-th group that is not empty. -/
def ex (j : ℕ) : Fin 11 := if h : ∃ e : Fin 11, 0 < G e.val ∧ nl G e.val = j then h.choose else 0

theorem pre_zero : pre G 0 = 0 := rfl
theorem pre_succ (k : ℕ) : pre G (k + 1) = pre G k + G k := Finset.sum_range_succ _ _
theorem nl_succ (k : ℕ) : nl G (k + 1) = nl G k + if 0 < G k then 1 else 0 := rfl

theorem pre_mono {a b : ℕ} (h : a ≤ b) : pre G a ≤ pre G b := by
  induction b, h using Nat.le_induction with
  | base => exact le_refl _
  | succ n hn ih => rw [pre_succ]; omega

theorem nl_mono {a b : ℕ} (h : a ≤ b) : nl G a ≤ nl G b := by
  induction b, h using Nat.le_induction with
  | base => exact le_refl _
  | succ n hn ih => rw [nl_succ]; omega

theorem nl_le (k : ℕ) : nl G k ≤ k := by
  induction k with
  | zero => exact le_refl _
  | succ n ih => rw [nl_succ]; split <;> omega

theorem nl_lt {a b : ℕ} (h : a < b) (ha : 0 < G a) : nl G a < nl G b := by
  have h1 := nl_mono G (show a + 1 ≤ b from h)
  rw [nl_succ, if_pos ha] at h1; omega

theorem ex_nl (e : Fin 11) (he : 0 < G e.val) : ex G (nl G e.val) = e := by
  have h : ∃ e' : Fin 11, 0 < G e'.val ∧ nl G e'.val = nl G e.val := ⟨e, he, rfl⟩
  unfold ex
  rw [dif_pos h]
  have hc := h.choose_spec
  apply Fin.ext
  rcases Nat.lt_trichotomy h.choose.val e.val with hl | hl | hl
  · exact absurd hc.2 (Nat.ne_of_lt (nl_lt G hl hc.1))
  · exact hl
  · exact absurd hc.2 (Nat.ne_of_gt (nl_lt G hl he))

theorem nl_hit (k : ℕ) : ∀ j, j < nl G k → ∃ e, e < k ∧ 0 < G e ∧ nl G e = j := by
  induction k with
  | zero => intro j hj; exact absurd hj (Nat.not_lt_zero _)
  | succ n ih =>
    intro j hj
    rw [nl_succ] at hj
    by_cases hjn : j < nl G n
    · obtain ⟨e, h1, h2⟩ := ih j hjn
      exact ⟨e, by omega, h2⟩
    · by_cases hg : 0 < G n
      · rw [if_pos hg] at hj
        exact ⟨n, by omega, hg, by omega⟩
      · rw [if_neg hg] at hj; omega

theorem ex_spec (j : ℕ) (h : j < nl G 11) : 0 < G (ex G j).val ∧ nl G (ex G j).val = j := by
  obtain ⟨e, h1, h2, h3⟩ := nl_hit G 11 j h
  have := ex_nl G ⟨e, h1⟩ h2
  rw [← h3, this]; exact ⟨h2, rfl⟩

theorem nl_pos (k : ℕ) (h : pre G k ≠ 0) : 1 ≤ nl G k := by
  induction k with
  | zero => exact absurd rfl h
  | succ n ih =>
    rw [nl_succ]
    by_cases hg : 0 < G n
    · rw [if_pos hg]; omega
    · rw [if_neg hg]
      have := ih (by rw [pre_succ] at h; omega)
      omega

/-- Every row is a group's. -/
theorem group_of (k : ℕ) (x : ℕ) (h : x < pre G k) : ∃ e, e < k ∧ pre G e ≤ x ∧ x < pre G (e + 1) ∧ 0 < G e := by
  induction k with
  | zero => exact absurd h (Nat.not_lt_zero _)
  | succ n ih =>
    by_cases hx : x < pre G n
    · obtain ⟨e, h1, h2⟩ := ih hx
      exact ⟨e, by omega, h2⟩
    · exact ⟨n, by omega, by omega, h, by rw [pre_succ] at h; omega⟩

/-- The chunk slot `s` has or awaits at chunk `t`. -/
def pc (t s : ℕ) : ℕ := t + (s + 3 * t) % 4

theorem pc_self (t : ℕ) : pc t (t % 4) = t := by unfold pc; omega
theorem pc_next (t : ℕ) : pc (t + 1) (t % 4) = t + 4 := by unfold pc; omega
theorem pc_other (t s : ℕ) (hs : s < 4) (h : s ≠ t % 4) : pc (t + 1) s = pc t s := by unfold pc; omega
theorem pc_ge (t s : ℕ) : t ≤ pc t s := Nat.le_add_right _ _

end Cert.Words
-- ==== Proof.KR.lean ====
/- The kernel's ring, its cells and its first loop.

   The first loop leaves each group's first row and the list of the groups that are not empty. -/
module

public import proofs.«01_k».proof.Proof.KX
public import proofs.«01_k».proof.Proof.Words

@[expose] public section

set_option maxRecDepth 8192
set_option maxHeartbeats 1000000

noncomputable section

namespace Cert.Kernel.KR

open Cert.Kernel Cert.Kernel.Gen Cert.Kernel.KA Cert.Kernel.KD Cert.Kernel.KW Cert.Kernel.KX Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the transfers' counters. -/
local notation "𝕄" => MT nD τ sig Unit (Elt F) ℕ (Pipeline.UD sig nD τ) ℕ

/-- The embedding of the transfers' counters. -/
local notation "EC" => (countersEmb (U := Pipeline.UD sig nD τ))

variable (c : Dev nD)

variable (c : Dev nD)

/-! ## Cells -/

theorem read_c0 (k : ℕ) (hk : k < 11) (off : Fin 1 → ℕ) (hoff : off = ![k]) (inb) (f : Buf (Elt F) ((c : Thread nD τ).loc cc0_stg0_0)) (x) :
    ((Memref.whole cc0_stg0_0 : Memref sig .tc .smem S11 .i32).access (Rect.unit (s := S11) off S1.size inb)).read (Elt F) f x = f (ix1 (⟨k, hk⟩ : Fin 11)) := by
  subst hoff
  have h0 : (x 0).val < 1 := (x 0).isLt
  show f ((Rect.unit (s := S11) ![k] S1.size inb).emb x) = _
  congr 1
  funext a; apply Fin.ext; fin_cases a
  show k + 1 * (x 0).val = k; omega

theorem read_c1 (k : ℕ) (hk : k < 11) (off : Fin 1 → ℕ) (hoff : off = ![k]) (inb) (f : Buf (Elt F) ((c : Thread nD τ).loc cc0_stg1_0)) (x) :
    ((Memref.whole cc0_stg1_0 : Memref sig .tc .smem S11 .f32).access (Rect.unit (s := S11) off S1.size inb)).read (Elt F) f x = f (ix1 (⟨k, hk⟩ : Fin 11)) := by
  subst hoff
  have h0 : (x 0).val < 1 := (x 0).isLt
  show f ((Rect.unit (s := S11) ![k] S1.size inb).emb x) = _
  congr 1
  funext a; apply Fin.ext; fin_cases a
  show k + 1 * (x 0).val = k; omega

theorem read_c2 (k : ℕ) (hk : k < 11) (off : Fin 1 → ℕ) (hoff : off = ![k]) (inb) (f : Buf (Elt F) ((c : Thread nD τ).loc cc0_stg2_0)) (x) :
    ((Memref.whole cc0_stg2_0 : Memref sig .tc .smem S11 .f32).access (Rect.unit (s := S11) off S1.size inb)).read (Elt F) f x = f (ix1 (⟨k, hk⟩ : Fin 11)) := by
  subst hoff
  have h0 : (x 0).val < 1 := (x 0).isLt
  show f ((Rect.unit (s := S11) ![k] S1.size inb).emb x) = _
  congr 1
  funext a; apply Fin.ext; fin_cases a
  show k + 1 * (x 0).val = k; omega

theorem read_c10 (k : ℕ) (hk : k < 12) (off : Fin 1 → ℕ) (hoff : off = ![k]) (inb) (f : Buf (Elt F) ((c : Thread nD τ).loc cc0_scratch3)) (x) :
    ((Memref.whole cc0_scratch3 : Memref sig .tc .smem S12 .i32).access (Rect.unit (s := S12) off S1.size inb)).read (Elt F) f x = f (ix1 (⟨k, hk⟩ : Fin 12)) := by
  subst hoff
  have h0 : (x 0).val < 1 := (x 0).isLt
  show f ((Rect.unit (s := S12) ![k] S1.size inb).emb x) = _
  congr 1
  funext a; apply Fin.ext; fin_cases a
  show k + 1 * (x 0).val = k; omega

theorem read_c11 (k : ℕ) (hk : k < 12) (off : Fin 1 → ℕ) (hoff : off = ![k]) (inb) (f : Buf (Elt F) ((c : Thread nD τ).loc cc0_scratch4)) (x) :
    ((Memref.whole cc0_scratch4 : Memref sig .tc .smem S12 .i32).access (Rect.unit (s := S12) off S1.size inb)).read (Elt F) f x = f (ix1 (⟨k, hk⟩ : Fin 12)) := by
  subst hoff
  have h0 : (x 0).val < 1 := (x 0).isLt
  show f ((Rect.unit (s := S12) ![k] S1.size inb).emb x) = _
  congr 1
  funext a; apply Fin.ext; fin_cases a
  show k + 1 * (x 0).val = k; omega

theorem write_c10 (k : ℕ) (off : Fin 1 → ℕ) (hoff : off = ![k]) (inb) (f : Buf (Elt F) ((c : Thread nD τ).loc cc0_scratch3)) (v : Elt F .i32) (y : Fin 12) :
    ((Memref.whole cc0_scratch3 : Memref sig .tc .smem S12 .i32).access (Rect.unit (s := S12) off S1.size inb)).write (Elt F) f (fun _ => v) Finset.univ (ix1 y)
      = if y.val = k then v else f (ix1 y) := by
  refine (congrFun (View.write_whole_slice_unit cc0_scratch3 off S1.size inb f (fun _ => v)) (ix1 y)).trans ?_
  subst hoff
  unfold updateSlice
  by_cases h : y.val = k
  · rw [if_pos h]
    refine dif_pos ?_
    intro a; fin_cases a
    exact (⟨by omega, by omega⟩ : k ≤ y.val ∧ y.val < k + 1)
  · rw [if_neg h]
    refine dif_neg ?_
    intro h'
    have h0 : k ≤ y.val ∧ y.val < k + 1 := h' 0
    omega

theorem write_c11 (k : ℕ) (off : Fin 1 → ℕ) (hoff : off = ![k]) (inb) (f : Buf (Elt F) ((c : Thread nD τ).loc cc0_scratch4)) (v : Elt F .i32) (y : Fin 12) :
    ((Memref.whole cc0_scratch4 : Memref sig .tc .smem S12 .i32).access (Rect.unit (s := S12) off S1.size inb)).write (Elt F) f (fun _ => v) Finset.univ (ix1 y)
      = if y.val = k then v else f (ix1 y) := by
  refine (congrFun (View.write_whole_slice_unit cc0_scratch4 off S1.size inb f (fun _ => v)) (ix1 y)).trans ?_
  subst hoff
  unfold updateSlice
  by_cases h : y.val = k
  · rw [if_pos h]
    refine dif_pos ?_
    intro a; fin_cases a
    exact (⟨by omega, by omega⟩ : k ≤ y.val ∧ y.val < k + 1)
  · rw [if_neg h]
    refine dif_neg ?_
    intro h'
    have h0 : k ≤ y.val ∧ y.val < k + 1 := h' 0
    omega

theorem slot7_eq (s : Fin 4) (off : Fin 3 → ℕ) (h : off = ![s.val, 0, 0]) (inb) :
    ((Memref.whole cc0_scratch0 : Memref sig .tc .vmem S4x3072x512 .i8).slice (Rect.unit (s := S4x3072x512) off S1x3072x512.size inb) (fun _ => rfl)).squeeze S3072x512 squeezes_S1x3072x512_S3072x512 = slot7 s := by
  subst h; rfl

theorem src7_eq (e : Fin 11) (cb : Fin 5) (off : Fin 3 → ℕ) (h : off = ![e.val, 0, cb.val * 512]) (inb) :
    ((Memref.whole main_arg4 : Memref sig .tc .hbm S11x3072x2560 .i8).slice (Rect.unit (s := S11x3072x2560) off S1x3072x512.size inb) (fun _ => rfl)).squeeze S3072x512 squeezes_S1x3072x512_S3072x512 = src7 e cb := by
  subst h; rfl

theorem sem7_eq (s : Fin 4) (off : Fin 1 → ℕ) (h : off = ![s.val]) (inb) :
    ((cc0_scratch5.slice (Rect.unit (s := S4) off S1.size inb)).squeeze S_ squeezes_S1_S_).sem = sem7 s := by
  subst h; rfl

theorem slot8_eq (s : Fin 4) (off : Fin 3 → ℕ) (h : off = ![s.val, 0, 0]) (inb) :
    ((Memref.whole cc0_scratch1 : Memref sig .tc .vmem S4x384x512 .fp8e4m3).slice (Rect.unit (s := S4x384x512) off S1x384x512.size inb) (fun _ => rfl)).squeeze S384x512 squeezes_S1x384x512_S384x512 = slot8 s := by
  subst h; rfl

theorem src8_eq (e : Fin 11) (cb : Fin 5) (off : Fin 3 → ℕ) (h : off = ![e.val, 0, cb.val * 512]) (inb) :
    ((Memref.whole main_arg5 : Memref sig .tc .hbm S11x384x2560 .fp8e4m3).slice (Rect.unit (s := S11x384x2560) off S1x384x512.size inb) (fun _ => rfl)).squeeze S384x512 squeezes_S1x384x512_S384x512 = src8 e cb := by
  subst h; rfl

theorem sem8_eq (s : Fin 4) (off : Fin 1 → ℕ) (h : off = ![s.val]) (inb) :
    ((cc0_scratch6.slice (Rect.unit (s := S4) off S1.size inb)).squeeze S_ squeezes_S1_S_).sem = sem8 s := by
  subst h; rfl

theorem sgt_W {a : ℕ} (ha : a ≤ 2048) : (Scalar.extui (Scalar.cmpi .sgt (W a) 0#32) : BitVec 32) = W (if 0 < a then 1 else 0) := by
  have h := slt_W (a := 0) (b := a) (by omega) ha
  have h2 : Scalar.cmpi .sgt (W a) 0#32 = Scalar.cmpi .slt (W 0) (W a) := rfl
  rw [h2, h]
  by_cases h0 : 0 < a
  · rw [if_pos h0, if_pos h0]; rfl
  · rw [if_neg h0, if_neg h0]; rfl

/-! ## The first loop -/

/-- What is known of the groups: their sizes, as the program reads them. -/
structure Sizes (G : ℕ → ℕ) (gs : S11.Idx → Elt F .i32) : Prop where
  word : ∀ e : Fin 11, gs (ix1 e) = W (G e.val)
  total : pre G 11 = 1024

theorem Sizes.pre_le {G : ℕ → ℕ} {gs : S11.Idx → Elt F .i32} (h : Sizes G gs) {k : ℕ} (hk : k ≤ 11) : pre G k ≤ 1024 :=
  h.total ▸ pre_mono G hk

theorem Sizes.G_le {G : ℕ → ℕ} {gs : S11.Idx → Elt F .i32} (h : Sizes G gs) {k : ℕ} (hk : k < 11) : G k ≤ 1024 := by
  have := h.pre_le (show k + 1 ≤ 11 from hk)
  rw [pre_succ] at this; omega

/-- After `k` groups: their first rows, and the list of those not empty. -/
def Scanned (G : ℕ → ℕ) (k : ℕ) (f10 f11 : S12.Idx → Elt F .i32) : Prop :=
  (∀ y : Fin 12, y.val < k → f10 (ix1 y) = W (pre G y.val)) ∧ (∀ e : ℕ, e < k → 0 < G e → ∀ y : Fin 12, y.val = nl G e → f11 (ix1 y) = W e)

/-- The first loop's state after `k` groups. -/
def Scan (G : ℕ → ℕ) (gs : Buf (Elt F) ((c : Thread nD τ).loc cc0_stg0_0)) (k : ℕ) (acc : BitVec 32 × BitVec 32) : sProp 𝕄 :=
  iprop(⌜acc = (W (pre G k), W (nl G k))⌝ ∗ ((c : Thread nD τ).loc cc0_stg0_0 ↦{fullShare} gs) ∗ ∃ (f10 : Buf (Elt F) ((c : Thread nD τ).loc cc0_scratch3)) (f11 : Buf (Elt F) ((c : Thread nD τ).loc cc0_scratch4)),
        ((c : Thread nD τ).loc cc0_scratch3 ↦{fullShare} f10) ∗ ((c : Thread nD τ).loc cc0_scratch4 ↦{fullShare} f11) ∗ ⌜Scanned G k f10 f11⌝)

theorem t1_wp (bd : Option 𝒱₀.V) (G : ℕ → ℕ) (gs : Buf (Elt F) ((c : Thread nD τ).loc cc0_stg0_0)) (hG : Sizes G gs)
    (k : Fin k0_t1_loop.trips) (acc : BitVec 32 × BitVec 32) :
    Scan c G gs k.val acc
      ⊢ wp frame (wpE (defs₀ (F := F)) 𝒱₀ (c : Thread nD τ) bd) Set.univ
          (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 k acc)
          (fun a => Scan c G gs (k.val + 1) a) := by
  unfold Scan
  have hk : k.val < 11 := trips1 ▸ k.isLt
  have hnl : nl G k.val < 12 := by have := nl_le G k.val; omega
  have hc1 : k0_chk1 (W (nl G k.val)) := chk1 ⟨nl G k.val, hnl⟩
  have ho2 : k0_off2 (W (nl G k.val)) = ![nl G k.val] := off2 ⟨nl G k.val, hnl⟩
  have hgk : gs (ix1 (⟨k.val, hk⟩ : Fin 11)) = W (G k.val) := hG.word ⟨k.val, hk⟩
  iintro ⟨%hacc, H0, %f10, %f11, H10, H11, %hsc⟩
  subst hacc
  unfold k0_t1_body
  simp only [smemLoad, smemLoadElt, Prog.lift, Prog.bind_op, Prog.bind_ret, Prog.pure_eq_ret]
  iapply (wp_assume 𝒱₀ (c : Thread nD τ) bd Set.univ hc1)
  iapply (wp_load_rect 𝒱₀ (c : Thread nD τ) bd Set.univ (m := Memref.whole cc0_scratch3) (r := Rect.unit (s := S12) (k0_off1 k) S1.size (k0_off1_inb k)) (Finset.subset_univ _)) $$ H10; iintro H10
  iapply (wp_store 𝒱₀ (c : Thread nD τ) bd Set.univ (m := Memref.whole cc0_scratch3) (r := Rect.unit (s := S12) (k0_off1 k) S1.size (k0_off1_inb k)) (Mk := Finset.univ) (Finset.subset_univ _)) $$ H10; iintro H10
  iapply (wp_load_rect 𝒱₀ (c : Thread nD τ) bd Set.univ (m := Memref.whole cc0_scratch4) (r := Rect.unit (s := S12) (k0_off2 (W (nl G k.val))) S1.size (k0_off2_inb _ hc1)) (Finset.subset_univ _)) $$ H11; iintro H11
  iapply (wp_store 𝒱₀ (c : Thread nD τ) bd Set.univ (m := Memref.whole cc0_scratch4) (r := Rect.unit (s := S12) (k0_off2 (W (nl G k.val))) S1.size (k0_off2_inb _ hc1)) (Mk := Finset.univ) (Finset.subset_univ _)) $$ H11; iintro H11
  iapply (wp_load_rect 𝒱₀ (c : Thread nD τ) bd Set.univ (m := Memref.whole cc0_stg0_0) (r := Rect.unit (s := S11) (k0_off3 k) S1.size (k0_off3_inb k)) (Finset.subset_univ _)) $$ H0; iintro H0
  rw [wp_ret]; imodintro
  isplitr [H0 H10 H11]
  · ipureintro
    rw [read_c0 c k.val hk _ (off3 k) _ gs, hgk, add_W, sgt_W (by have := hG.G_le hk; omega), add_W, pre_succ, nl_succ]
  isplitl [H0]; · iexact H0
  iexists _; iexists _
  isplitl [H10]; · iexact H10
  isplitl [H11]; · iexact H11
  ipureintro
  refine ⟨fun y hy => ?_, fun e he h0 y hy => ?_⟩
  · refine (write_c10 c k.val _ (off1 k) _ f10 (W (pre G k.val)) y).trans ?_
    by_cases h : y.val = k.val
    · rw [if_pos h, h]
    · rw [if_neg h]; exact hsc.1 y (by omega)
  · refine (write_c11 c (nl G k.val) _ ho2 _ f11 (Scf.iv 0#32 1#32 k.val) y).trans ?_
    by_cases h : e = k.val
    · subst h; rw [if_pos hy]; exact iv1 k
    · rw [if_neg (by have := nl_lt G (show e < k.val by omega) h0; omega)]
      exact hsc.2 e (by omega) h0 y hy

end Cert.Kernel.KR
-- ==== Proof.KS.lean ====
/- One trip of the kernel's main loop: a chunk waited for, done, and the slot's next chunk started. -/
module

public import proofs.«01_k».proof.Proof.KR

@[expose] public section

set_option maxRecDepth 8192
set_option maxHeartbeats 1000000

noncomputable section

namespace Cert.Kernel.KS

open Cert.Kernel Cert.Kernel.Gen Cert.Kernel.KA Cert.Kernel.KD Cert.Kernel.KW Cert.Kernel.KX Cert.Kernel.KR Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the transfers' counters. -/
local notation "𝕄" => MT nD τ sig Unit (Elt F) ℕ (Pipeline.UD sig nD τ) ℕ

/-- The embedding of the transfers' counters. -/
local notation "EC" => (countersEmb (U := Pipeline.UD sig nD τ))

variable (c : Dev nD)

variable (c : Dev nD) (G : ℕ → ℕ)
  (fs7 : Buf (Elt F) ((c : Thread nD τ).loc main_arg4)) (fs8 : Buf (Elt F) ((c : Thread nD τ).loc main_arg5))
  (wg : Buf (Elt F) ((c : Thread nD τ).loc cc0_stg1_0)) (ag : Buf (Elt F) ((c : Thread nD τ).loc cc0_stg2_0)) (fA : Buf (Elt F) ((c : Thread nD τ).loc cc0_stg3_0))
  (tracked : Prop) (Y : S1024x2560.Idx → F .f32)

/-- Chunk `j`'s column block. -/
abbrev cbl (j : ℕ) : Fin 5 := ⟨j % 5, Nat.mod_lt _ (by omega)⟩

/-- Chunk `j`'s group. -/
abbrev grp (j : ℕ) : Fin 11 := ex G (j / 5)

/-- A slot at chunk `t` of `N`: its next chunk under way, or free when there is none. -/
def slotst (N t : ℕ) (s : Fin 4) : sProp 𝕄 :=
  if pc t s.val < N then iprop(Pend7 c fs7 s (grp G (pc t s.val)) (cbl (pc t s.val)) ∗ Pend8 c fs8 s (grp G (pc t s.val)) (cbl (pc t s.val)))
  else iprop(Idle7 c fs7 s ∗ Idle8 c fs8 s)

/-- The ring at chunk `t`. -/
def ring (N t : ℕ) : sProp 𝕄 := bigSep Finset.univ (slotst c G fs7 fs8 N t)

theorem ring_take (N t : ℕ) (s : Fin 4) : ring c G fs7 fs8 N t = iprop(slotst c G fs7 fs8 N t s ∗ bigSep (Finset.univ.erase s) (slotst c G fs7 fs8 N t)) :=
  bigSep_erase (Finset.mem_univ s)

theorem ring_put (N t : ℕ) (s : Fin 4) (hs : s.val = t % 4) :
    ring c G fs7 fs8 N (t + 1) = iprop(slotst c G fs7 fs8 N (t + 1) s ∗ bigSep (Finset.univ.erase s) (slotst c G fs7 fs8 N t)) := by
  rw [ring_take c G fs7 fs8 N (t + 1) s]
  congr 1
  refine bigSep_congr fun s' hs' => ?_
  have hne : s' ≠ s := (Finset.mem_erase.1 hs').1
  unfold slotst
  rw [pc_other t s'.val s'.isLt fun h => hne (Fin.ext (h.trans hs.symm))]

/-- The packed weights of group `e`'s column block. -/
def Dof (e : Fin 11) (cb : Fin 5) : Fin 3072 → Fin 512 → Elt F .i8 := fun i q => fs7 (wix7 e cb i q)

/-- The scales of group `e`'s column block, as the slot holds them. -/
def Eof (e : Fin 11) (cb : Fin 5) : Vec F S1x384x512 .fp8e4m3 := fun x => fs8 (wix8 e cb ⟨(x 1).val, (x 1).isLt⟩ ⟨(x 2).val, (x 2).isLt⟩)

/-- The same as f32. -/
def Sof (e : Fin 11) (cb : Fin 5) : FVec F S384x512 .f32 := k0_pay1 (k0_pay22 (Eof c fs8 e cb))

/-- The group's scale. -/
def sof (e : Fin 11) : FVec F S1x1 .f32 := k0_pay21 (ag (ix1 e)) (wg (ix1 e))

/-- What is done before chunk `t`. -/
def dn (t : ℕ) (x : S1024x2560.Idx) : Prop :=
  ∃ j, j < t ∧ pre G (grp G j).val ≤ (x 0).val ∧ (x 0).val < pre G ((grp G j).val + 1) ∧ j % 5 * 512 ≤ (x 1).val ∧ (x 1).val < j % 5 * 512 + 512

/-- Every chunk's windows hold the result. -/
def AllVals (n : Fin 12) : Prop :=
  ∀ t : Fin (k0_t2_loop (W n.val)).trips, Vals c n t (pre G (grp G t.val).val) (pre G ((grp G t.val).val + 1)) (sof c wg ag (grp G t.val))
    (Sof c fs8 (grp G t.val) (cbl t.val)) fA (Dof c fs7 (grp G t.val) (cbl t.val)) tracked Y

/-- The first loop's cells, after it. -/
def Cells (f10 f11 : S12.Idx → Elt F .i32) : Prop :=
  (∀ y : Fin 12, f10 (ix1 y) = W (pre G y.val)) ∧ (∀ e : ℕ, e < 11 → 0 < G e → ∀ y : Fin 12, y.val = nl G e → f11 (ix1 y) = W e)

omit [FloatOps F] in
theorem Cells.live {G : ℕ → ℕ} {f10 f11 : S12.Idx → Elt F .i32} (h : Cells G f10 f11) (j : ℕ) (hj : j < nl G 11) (hj' : j < 12) : f11 (ix1 ⟨j, hj'⟩) = W (ex G j).val :=
  h.2 _ (ex G j).isLt (ex_spec G j hj).1 ⟨j, hj'⟩ (ex_spec G j hj).2.symm

/-- The state between chunks. -/
def Inv (n : Fin 12) (f10 : Buf (Elt F) ((c : Thread nD τ).loc cc0_scratch3)) (f11 : Buf (Elt F) ((c : Thread nD τ).loc cc0_scratch4)) (t : ℕ) : sProp 𝕄 :=
  iprop((∃ Wt : Waits sig Unit, owes (c : Thread nD τ) 0 Wt) ∗ ((c : Thread nD τ).loc cc0_stg1_0 ↦{fullShare} wg) ∗ ((c : Thread nD τ).loc cc0_stg2_0 ↦{fullShare} ag) ∗ ((c : Thread nD τ).loc cc0_stg3_0 ↦{fullShare} fA)
    ∗ ((c : Thread nD τ).loc cc0_scratch3 ↦{fullShare} f10) ∗ ((c : Thread nD τ).loc cc0_scratch4 ↦{fullShare} f11)
    ∗ (∃ f9 : Buf (Elt F) ((c : Thread nD τ).loc cc0_scratch2), (c : Thread nD τ).loc cc0_scratch2 ↦{fullShare} f9)
    ∗ (∃ f6 : Buf (Elt F) ((c : Thread nD τ).loc cc0_stg4_0), ((c : Thread nD τ).loc cc0_stg4_0 ↦{fullShare} f6) ∗ ⌜Good tracked Y (dn G t) f6⌝)
    ∗ ring c G fs7 fs8 (5 * n.val) t)

theorem read8 (s : Fin 4) (e : Fin 11) (cb : Fin 5) (off : Fin 3 → ℕ) (hoff : off = ![s.val, 0, 0]) (inb)
    (f : Buf (Elt F) ((c : Thread nD τ).loc cc0_scratch1)) (hf : ∀ i q, f (ix3 s i q) = fs8 (wix8 e cb i q)) :
    (Memref.whole cc0_scratch1 : Memref sig .tc .vmem S4x384x512 .fp8e4m3).view.readAt (Elt F) (Rect.unit (s := S4x384x512) off S1x384x512.size inb).toLoadRect f = Eof c fs8 e cb := by
  subst hoff
  funext x
  have h0 : (x 0).val < 1 := (x 0).isLt
  show f ((Rect.unit (s := S4x384x512) ![s.val, 0, 0] S1x384x512.size inb).emb x) = _
  unfold Eof; rw [← hf]
  congr 1
  funext a; apply Fin.ext; fin_cases a
  · show s.val + 1 * (x 0).val = s.val; omega
  · show 0 + 1 * (x 1).val = (x 1).val; omega
  · show 0 + 1 * (x 2).val = (x 2).val; omega

theorem sub8 (s : Fin 4) (off : Fin 3 → ℕ) (hoff : off = ![s.val, 0, 0]) (inb) :
    (Memref.whole cc0_scratch1 : Memref sig .tc .vmem S4x384x512 .fp8e4m3).view.setOn (Rect.unit (s := S4x384x512) off S1x384x512.size inb).toLoadRect.set ⊆ set8 s := by
  subst hoff
  intro y hy
  rw [View.setOn, Finset.mem_map] at hy
  obtain ⟨z, hz, rfl⟩ := hy
  have hz' : z ∈ (Rect.unit (s := S4x384x512) ![s.val, 0, 0] S1x384x512.size inb).set := hz
  rw [Rect.mem_set_unit] at hz'
  have h0 : s.val ≤ (z 0).val ∧ (z 0).val < s.val + 1 := hz' 0
  rw [mem_set8]
  show (z 0).val = s.val
  omega

theorem write9 (inb) (f w : Buf (Elt F) ((c : Thread nD τ).loc cc0_scratch2)) :
    ((Memref.whole cc0_scratch2 : Memref sig .tc .vmem S384x512 .f32).access (Rect.unit (s := S384x512) ![0, 0] S384x512.size inb)).write (Elt F) f w Finset.univ = w := by
  refine (View.write_whole_slice_unit cc0_scratch2 ![0, 0] S384x512.size inb f w).trans ?_
  funext x
  unfold updateSlice
  refine (dif_pos ?_).trans ?_
  · intro a
    have := (x a).isLt
    fin_cases a
    · exact (⟨Nat.zero_le _, by have h := (x 0).isLt; have h' : (x 0).val < 384 := h; omega⟩ : 0 ≤ (x 0).val ∧ (x 0).val < 0 + 384)
    · exact (⟨Nat.zero_le _, by have h := (x 1).isLt; have h' : (x 1).val < 512 := h; omega⟩ : 0 ≤ (x 1).val ∧ (x 1).val < 0 + 512)
  · congr 1
    funext a; apply Fin.ext; fin_cases a <;> rfl

theorem store9 (inb) (f w : Buf (Elt F) ((c : Thread nD τ).loc cc0_scratch2)) :
    (((c : Thread nD τ).loc cc0_scratch2 ↦{fullShare} ((Memref.whole cc0_scratch2 : Memref sig .tc .vmem S384x512 .f32).access (Rect.unit (s := S384x512) ![0, 0] S384x512.size inb)).write (Elt F) f w Finset.univ : sProp 𝕄))
      ⊢ ((c : Thread nD τ).loc cc0_scratch2 ↦{fullShare} w) := by
  rw [write9]

theorem part5_wp (n : Fin 12) (hw6 : k0_chk6 (W n.val)) (t : Fin (k0_t2_loop (W n.val)).trips) (v125 : BitVec 32) (h5 : k0_cond5 (W n.val) t = 1#1)
    (f11 : Buf (Elt F) ((c : Thread nD τ).loc cc0_scratch4)) (s : Fin 4) (hs : s.val = t.val % 4) (e' : Fin 11) (ht4 : (t.val + 4) / 5 < 12)
    (hlive4 : f11 (ix1 ⟨(t.val + 4) / 5, ht4⟩) = W e'.val) :
    iprop(((c : Thread nD τ).loc cc0_scratch4 ↦{fullShare} f11) ∗ Idle7 c fs7 s)
      ⊢ wp frame (wpE (defs₀ (F := F)) 𝒱₀ (c : Thread nD τ) none) Set.univ
          (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) hw6 t v125 h5)
          (fun r => iprop(⌜r.1 = W e'.val⌝ ∗ ((c : Thread nD τ).loc cc0_scratch4 ↦{fullShare} f11) ∗ Pend7 c fs7 s e' (cbl (t.val + 4)))) := by
  rw [k0_part5_eq_skeleton]
  unfold k0_part5_skel
  simp only [smemLoad, smemLoadElt, Prog.lift, Prog.bind_op, Prog.bind_ret, Prog.pure_eq_ret]
  iintro ⟨H11, I7⟩
  iapply (wp_load_rect 𝒱₀ (c : Thread nD τ) none Set.univ (m := Memref.whole cc0_scratch4) (r := Rect.unit (s := S12) (k0_off56 (W n.val) t) S1.size (k0_off56_inb (W n.val) hw6 t h5)) (Finset.subset_univ _)) $$ H11; iintro H11
  beta_reduce
  irw [read_c11 c ((t.val + 4) / 5) (by omega) _ (off56 n t h5) _ f11, hlive4]
  iapply (wp_assume 𝒱₀ (c : Thread nD τ) none Set.univ (chk10 n t e'))
  iapply (enq7 c none fs7 s e' (cbl (t.val + 4)) _ (slot7_eq s _ ((off58 n t).trans (by rw [hs])) _) _ (src7_eq e' (cbl (t.val + 4)) _ (off59 n t e') _) _ (sem7_eq s _ ((off57 n t).trans (by rw [hs])) _)) $$ I7
  iintro P7
  rw [wp_ret]; imodintro
  isplitr [H11 P7]; · ipureintro; rfl
  isplitl [H11]; · iexact H11
  iexact P7

theorem t2_wp (n : Fin 12) (hn : n.val = nl G 11) (gs : S11.Idx → Elt F .i32) (hG : Sizes G gs) (hw6 : k0_chk6 (W n.val))
    (f10 : Buf (Elt F) ((c : Thread nD τ).loc cc0_scratch3)) (f11 : Buf (Elt F) ((c : Thread nD τ).loc cc0_scratch4)) (hc : Cells G f10 f11)
    (hv : AllVals c G fs7 fs8 wg ag fA tracked Y n) (t : Fin (k0_t2_loop (W n.val)).trips) (acc : BitVec 32) :
    Inv c G fs7 fs8 wg ag fA tracked Y n f10 f11 t.val
      ⊢ wp frame (wpE (defs₀ (F := F)) 𝒱₀ (c : Thread nD τ) none) Set.univ
          (k0_t2_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) hw6 t acc)
          (fun _ => Inv c G fs7 fs8 wg ag fA tracked Y n f10 f11 (t.val + 1)) := by
  have ht : t.val < 5 * n.val := trips2 n ▸ t.isLt
  have hn12 := n.isLt
  obtain ⟨s, hs⟩ : ∃ s : Fin 4, s.val = t.val % 4 := ⟨⟨t.val % 4, Nat.mod_lt _ (by omega)⟩, rfl⟩
  have hpc : pc t.val s.val = t.val := by rw [hs]; exact pc_self t.val
  have hpn : pc (t.val + 1) s.val = t.val + 4 := by rw [hs]; exact pc_next t.val
  have hj : t.val / 5 < nl G 11 := by omega
  have hlive := hc.live (t.val / 5) hj (by omega)
  obtain ⟨e, he⟩ : ∃ e : Fin 11, e = grp G t.val := ⟨_, rfl⟩
  have hlive' : f11 (ix1 ⟨t.val / 5, by omega⟩) = W e.val := by rw [he]; exact hlive
  have hlo := hG.pre_le (show e.val ≤ 11 by omega)
  have hhi := hG.pre_le (show e.val + 1 ≤ 11 by omega)
  have hb := base0 ⟨pre G e.val, by omega⟩
  dsimp only at hb
  have hc7 : k0_chk7 (W n.val) t (W e.val) := chk7 n t e
  have hvt := hv t
  rw [← he] at hvt
  have hst : slotst c G fs7 fs8 (5 * n.val) t.val s = iprop(Pend7 c fs7 s e (cbl t.val) ∗ Pend8 c fs8 s e (cbl t.val)) := by
    unfold slotst; rw [hpc, if_pos ht, he]
  unfold Inv
  rw [ring_take c G fs7 fs8 _ t.val s, ring_put c G fs7 fs8 _ t.val s hs]
  rw [hst]
  iintro ⟨⟨%Wt, HO⟩, H1, H2, H3, H10, H11, ⟨%f9, H9⟩, ⟨%f6, H6, %hf6⟩, ⟨P7, P8⟩, HR⟩
  unfold k0_t2_body
  simp only [k0_part6_eq_skeleton, k0_part7_eq_skeleton]
  unfold k0_part6_skel k0_part7_skel
  simp only [smemLoad, smemLoadElt, Prog.lift, Prog.bind_op, Prog.bind_ret, Prog.pure_eq_ret]
  -- the chunk's group, and the wait for its weights
  iapply (wp_load_rect 𝒱₀ (c : Thread nD τ) none Set.univ (m := Memref.whole cc0_scratch4) (r := Rect.unit (s := S12) (k0_off32 (W n.val) t) S1.size (k0_off32_inb (W n.val) hw6 t)) (Finset.subset_univ _)) $$ H11; iintro H11
  beta_reduce
  irw [read_c11 c (t.val / 5) (by omega) _ (off32 n t) _ f11, hlive']
  iapply (wp_assume 𝒱₀ (c : Thread nD τ) none Set.univ hc7)
  iapply (wait7 c none fs7 s e (cbl t.val) _ (slot7_eq s _ ((off34 n t).trans (by rw [hs])) _) _ _ (sem7_eq s _ ((off33 n t).trans (by rw [hs])) _)) $$ [P7 HO]
  · isplitl [P7]; · iexact P7
    iexact HO
  iintro ⟨F7, HO⟩
  iapply (wait8 c none fs8 s e (cbl t.val) _ (slot8_eq s _ ((off37 n t).trans (by rw [hs])) _) _ _ (sem8_eq s _ ((off36 n t).trans (by rw [hs])) _)) $$ [P8 HO]
  · isplitl [P8]; · iexact P8
    iexact HO
  iintro ⟨F8, HO⟩
  -- the group's rows and scale
  iapply (wp_load_rect 𝒱₀ (c : Thread nD τ) none Set.univ (m := Memref.whole cc0_scratch4) (r := Rect.unit (s := S12) (k0_off39 (W n.val) t) S1.size (k0_off39_inb (W n.val) hw6 t)) (Finset.subset_univ _)) $$ H11; iintro H11
  beta_reduce
  irw [read_c11 c (t.val / 5) (by omega) _ (off39 n t) _ f11, hlive']
  iapply (wp_assume 𝒱₀ (c : Thread nD τ) none Set.univ (chk8 e))
  iapply (wp_load_rect 𝒱₀ (c : Thread nD τ) none Set.univ (m := Memref.whole cc0_scratch3) (r := Rect.unit (s := S12) (k0_off40 (W e.val)) S1.size (k0_off40_inb (W e.val) (chk8 e))) (Finset.subset_univ _)) $$ H10; iintro H10
  beta_reduce
  irw [read_c10 c e.val (by omega) _ (off40 e) _ f10, hc.1]
  iapply (wp_load_rect 𝒱₀ (c : Thread nD τ) none Set.univ (m := Memref.whole cc0_scratch3) (r := Rect.unit (s := S12) (k0_off41 (W e.val)) S1.size (k0_off41_inb (W e.val) (chk8 e))) (Finset.subset_univ _)) $$ H10; iintro H10
  beta_reduce
  irw [read_c10 c (e.val + 1) (by omega) _ (off41 e) _ f10, hc.1]
  iapply (wp_load_rect 𝒱₀ (c : Thread nD τ) none Set.univ (m := Memref.whole cc0_stg2_0) (r := Rect.unit (s := S11) (k0_off42 (W e.val)) S1.size (k0_off42_inb (W e.val) (chk8 e))) (Finset.subset_univ _)) $$ H2; iintro H2
  beta_reduce
  irw [read_c2 c e.val e.isLt _ (off42 e) _ ag]
  iapply (wp_load_rect 𝒱₀ (c : Thread nD τ) none Set.univ (m := Memref.whole cc0_stg1_0) (r := Rect.unit (s := S11) (k0_off42 (W e.val)) S1.size (k0_off42_inb (W e.val) (chk8 e))) (Finset.subset_univ _)) $$ H1; iintro H1
  beta_reduce
  irw [read_c1 c e.val e.isLt _ (off42 e) _ wg]
  unfold Full7 Full8
  icases F7 with ⟨⟨%f7, F7, %hf7⟩, T7, V7⟩
  icases F8 with ⟨⟨%f8, F8, %hf8⟩, T8, V8⟩
  iapply (wp_load 𝒱₀ (c : Thread nD τ) none Set.univ (m := Memref.whole cc0_scratch1) (sub8 s _ ((off43 n t).trans (by rw [hs])) _)) $$ F8; iintro F8
  irw [read8 c fs8 s e (cbl t.val) _ ((off43 n t).trans (by rw [hs])) _ f8 hf8]
  iapply (wp_load 𝒱₀ (c : Thread nD τ) none Set.univ (m := Memref.whole cc0_scratch2) (Finset.subset_univ _)) $$ H9; iintro H9
  iapply (wp_store 𝒱₀ (c : Thread nD τ) none Set.univ (m := Memref.whole cc0_scratch2) (r := Rect.unit (s := S384x512) ![0, 0] S384x512.size inb_S384x512_S384x512_0_0) (Mk := Finset.univ) (Finset.subset_univ _)) $$ H9; iintro H9
  ihave H9 := (store9 c _ f9 _) $$ H9
  irw [hb]
  -- the windows
  iapply (wp_call_spec 𝒱₀ (c : Thread nD τ) none Set.univ
    (spec c n t (pre G e.val) (pre G (e.val + 1)) s f7 (Sof c fs8 e (cbl t.val)) fA tracked Y (16 * (pre G e.val / 16)) (dn G t.val) f6) (4 : ℕ) (fun u hu => nomatch hu)
    (spec_le c n hw6 t (W e.val) hc7 (W e.val) (chk8 e) (pre G e.val) (pre G (e.val + 1)) hlo hhi (sof c wg ag e) s hs f7 (Sof c fs8 e (cbl t.val)) fA (Dof c fs7 e (cbl t.val)) hf7 tracked Y hvt Set.univ
      4 (pre G e.val / 16) (by omega) (by omega) (dn G t.val) f6 hf6))
  irw [spec_apply]; irw [held]
  isplitl [F7 H9 H3 H6]
  · isplitl [F7 H9 H3]
    · isplitl [F7]; · iexact F7
      isplitl [H9]; · iexact H9
      iexact H3
    · iexact H6
  iintro %r ⟨⟨F7, H9, H3⟩, %f6', H6, %hf6'⟩
  ihave I7 : Idle7 c fs7 s $$ [F7 T7 V7]
  · unfold Idle7
    isplitl [F7]; · iexists f7; iexact F7
    isplitl [T7]; · iexact T7
    iexact V7
  ihave I8 : Idle8 c fs8 s $$ [F8 T8 V8]
  · unfold Idle8
    isplitl [F8]; · iexists f8; iexact F8
    isplitl [T8]; · iexact T8
    iexact V8
  have hdn : Good tracked Y (dn G (t.val + 1)) f6' := by
    refine Good_mono (fun x hx => ?_) hf6'
    obtain ⟨j, hj, h1, h2, h3, h4⟩ := hx
    by_cases hjt : j = t.val
    · subst hjt
      rw [← he] at h1 h2
      exact Or.inr ⟨by omega, h1, h2, h3, h4⟩
    · exact Or.inl ⟨j, by omega, h1, h2, h3, h4⟩
  by_cases h5 : k0_cond5 (W n.val) t = 1#1
  · have ht4 : t.val + 4 < 5 * n.val := (cond5 n t).1 h5
    obtain ⟨e', he'⟩ : ∃ e : Fin 11, e = grp G (t.val + 4) := ⟨_, rfl⟩
    have hlive4 : f11 (ix1 ⟨(t.val + 4) / 5, by omega⟩) = W e'.val := by rw [he']; exact hc.live ((t.val + 4) / 5) (by omega) (by omega)
    have hst' : slotst c G fs7 fs8 (5 * n.val) (t.val + 1) s = iprop(Pend7 c fs7 s e' (cbl (t.val + 4)) ∗ Pend8 c fs8 s e' (cbl (t.val + 4))) := by
      unfold slotst; rw [hpn, if_pos ht4, he']
    irw [hst']
    irw [dif_pos h5]
    rw [wp_bind]
    iapply (wp_wand_r frame (wpE (defs₀ (F := F)) 𝒱₀ (c : Thread nD τ) none) Set.univ)
    isplitl [H11 I7]
    · iapply (part5_wp c fs7 n hw6 t _ h5 f11 s hs e' (by omega) hlive4)
      isplitl [H11]; · iexact H11
      iexact I7
    iintro %a ⟨%ha, H11, P7⟩
    obtain ⟨v, hw10⟩ := a
    change v = W e'.val at ha
    subst ha
    simp only [Prog.lift, Prog.bind_op, Prog.bind_ret, Prog.pure_eq_ret]
    iapply (enq8 c none fs8 s e' (cbl (t.val + 4)) _ (slot8_eq s _ ((off61 n t).trans (by rw [hs])) _) _ (src8_eq e' (cbl (t.val + 4)) _ (off62 n t e') _) _ (sem8_eq s _ ((off60 n t).trans (by rw [hs])) _)) $$ I8
    iintro P8
    rw [wp_ret]; imodintro
    isplitl [HO]; · iexists _; iexact HO
    isplitl [H1]; · iexact H1
    isplitl [H2]; · iexact H2
    isplitl [H3]; · iexact H3
    isplitl [H10]; · iexact H10
    isplitl [H11]; · iexact H11
    isplitl [H9]; · iexists _; iexact H9
    isplitl [H6]
    · iexists f6'
      isplitl [H6]; · iexact H6
      ipureintro; exact hdn
    isplitl [P7 P8]
    · isplitl [P7]; · iexact P7
      iexact P8
    iexact HR
  · have ht4 : ¬ t.val + 4 < 5 * n.val := fun h => h5 ((cond5 n t).2 h)
    have hst' : slotst c G fs7 fs8 (5 * n.val) (t.val + 1) s = iprop(Idle7 c fs7 s ∗ Idle8 c fs8 s) := by
      unfold slotst; rw [hpn, if_neg ht4]
    irw [hst']
    irw [dif_neg h5]
    rw [wp_ret]; imodintro
    isplitl [HO]; · iexists _; iexact HO
    isplitl [H1]; · iexact H1
    isplitl [H2]; · iexact H2
    isplitl [H3]; · iexact H3
    isplitl [H10]; · iexact H10
    isplitl [H11]; · iexact H11
    isplitl [H9]; · iexists _; iexact H9
    isplitl [H6]
    · iexists f6'
      isplitl [H6]; · iexact H6
      ipureintro; exact hdn
    isplitl [I7 I8]
    · isplitl [I7]; · iexact I7
      iexact I8
    iexact HR

end Cert.Kernel.KS
-- ==== Proof.KB.lean ====
/- The whole body: from its staged arguments to its staged result. -/
module

public import proofs.«01_k».proof.Proof.KS

@[expose] public section

set_option maxRecDepth 8192
set_option maxHeartbeats 1000000

noncomputable section

namespace Cert.Kernel.KB

open Cert.Kernel Cert.Kernel.Gen Cert.Kernel.KA Cert.Kernel.KD Cert.Kernel.KW Cert.Kernel.KX Cert.Kernel.KR Cert.Kernel.KS Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the transfers' counters. -/
local notation "𝕄" => MT nD τ sig Unit (Elt F) ℕ (Pipeline.UD sig nD τ) ℕ

/-- The embedding of the transfers' counters. -/
local notation "EC" => (countersEmb (U := Pipeline.UD sig nD τ))

variable (c : Dev nD)

variable (c : Dev nD)

/-! ## The ring's slots, taken apart and put together -/

omit [FloatOps F] in
theorem four_eq (Φ : Fin 4 → sProp 𝕄) : bigSep Finset.univ Φ = iprop(Φ 0 ∗ Φ 1 ∗ Φ 2 ∗ Φ 3) := by
  rw [BI.bigSep_eq_bigSepL_of_eq [0, 1, 2, 3] (by decide) (by decide)]; rfl

theorem cover7 : Finset.univ.biUnion set7 = Finset.univ := by
  ext x
  constructor
  · intro _; exact Finset.mem_univ _
  · intro _
    rw [Finset.mem_biUnion]
    exact ⟨⟨(x 0).val, (x 0).isLt⟩, Finset.mem_univ _, (mem_set7 _ x).2 rfl⟩

theorem disj7 : ∀ t ∈ (Finset.univ : Finset (Fin 4)), ∀ t' ∈ (Finset.univ : Finset (Fin 4)), t ≠ t' → Disjoint (set7 t) (set7 t') := by
  intro t _ t' _ h
  rw [Finset.disjoint_left]
  intro x hx hx'
  rw [mem_set7] at hx hx'
  exact h (Fin.ext (hx.symm.trans hx'))

theorem split7 (f : Buf (Elt F) ((c : Thread nD τ).loc cc0_scratch0)) :
    ((c : Thread nD τ).loc cc0_scratch0 ↦{fullShare} f : sProp 𝕄) = bigSep Finset.univ fun s => (c : Thread nD τ).loc cc0_scratch0 ↦[set7 s]{fullShare} f := by
  rw [← pointsTo_biUnion Finset.univ (ℓ := (c : Thread nD τ).loc cc0_scratch0) set7 disj7, cover7]; try rfl

theorem idle_in7 (f : Buf (Elt F) ((c : Thread nD τ).loc cc0_scratch0)) (fs : Buf (Elt F) ((c : Thread nD τ).loc main_arg4)) :
    iprop(((c : Thread nD τ).loc cc0_scratch0 ↦{fullShare} f) ∗ ((c : Thread nD τ).loc main_arg4 ↦{fullShare} fs) ∗ bigSep Finset.univ (fun s : Fin 4 => semVal ((c : Thread nD τ), SemLoc.dma (sem7 s)) 0))
      ⊢ (iprop(((c : Thread nD τ).loc main_arg4 ↦{Transfers.shareDrop fullShare 4} fs) ∗ bigSep Finset.univ (fun s => Idle7 c fs s)) : sProp 𝕄) := by
  rw [split7, four_eq, four_eq, four_eq]
  unfold Idle7 tok7
  iintro ⟨⟨H0, H1, H2, H3⟩, Ha, S0, S1, S2, S3⟩
  ihave Ha := (Transfers.pointsTo_toks_split fullShare 4) $$ Ha
  rw [four_eq]
  icases Ha with ⟨Ha, T0, T1, T2, T3⟩
  isplitl [Ha]; · iexact Ha
  isplitl [H0 T0 S0]
  · isplitl [H0]; · iexists f; iexact H0
    isplitl [T0]; · iexact T0
    iexact S0
  isplitl [H1 T1 S1]
  · isplitl [H1]; · iexists f; iexact H1
    isplitl [T1]; · iexact T1
    iexact S1
  isplitl [H2 T2 S2]
  · isplitl [H2]; · iexists f; iexact H2
    isplitl [T2]; · iexact T2
    iexact S2
  isplitl [H3]; · iexists f; iexact H3
  isplitl [T3]; · iexact T3
  iexact S3

theorem idle_out7 (fs : Buf (Elt F) ((c : Thread nD τ).loc main_arg4)) :
    iprop(((c : Thread nD τ).loc main_arg4 ↦{Transfers.shareDrop fullShare 4} fs) ∗ bigSep Finset.univ (fun s => Idle7 c fs s))
      ⊢ (iprop((∃ f : Buf (Elt F) ((c : Thread nD τ).loc cc0_scratch0), (c : Thread nD τ).loc cc0_scratch0 ↦{fullShare} f) ∗ ((c : Thread nD τ).loc main_arg4 ↦{fullShare} fs) ∗ bigSep Finset.univ (fun s : Fin 4 => semVal ((c : Thread nD τ), SemLoc.dma (sem7 s)) 0)) : sProp 𝕄) := by
  rw [four_eq, four_eq]
  unfold Idle7 tok7
  iintro ⟨Ha, ⟨⟨%f0, H0⟩, T0, S0⟩, ⟨⟨%f1, H1⟩, T1, S1⟩, ⟨⟨%f2, H2⟩, T2, S2⟩, ⟨⟨%f3, H3⟩, T3, S3⟩⟩
  isplitl [H0 H1 H2 H3]
  · ihave H : (bigSep Finset.univ fun s : Fin 4 => (c : Thread nD τ).loc cc0_scratch0 ↦[set7 s]{fullShare} (![f0, f1, f2, f3] : Fin 4 → Buf (Elt F) ((c : Thread nD τ).loc cc0_scratch0)) s : sProp 𝕄) $$ [H0 H1 H2 H3]
    · rw [four_eq]
      isplitl [H0]; · iexact H0
      isplitl [H1]; · iexact H1
      isplitl [H2]; · iexact H2
      iexact H3
    ihave H := (pointsTo_biUnion_join Finset.univ set7 (![f0, f1, f2, f3] : Fin 4 → Buf (Elt F) ((c : Thread nD τ).loc cc0_scratch0)) f0 disj7) $$ H
    rw [cover7]
    icases H with ⟨%g, -, H⟩
    iexists g; iexact H
  isplitl [Ha T0 T1 T2 T3]
  · iapply (Transfers.pointsTo_toks_join fullShare 4)
    isplitl [Ha]; · iexact Ha
    rw [four_eq]
    isplitl [T0]; · iexact T0
    isplitl [T1]; · iexact T1
    isplitl [T2]; · iexact T2
    iexact T3
  isplitl [S0]; · iexact S0
  isplitl [S1]; · iexact S1
  isplitl [S2]; · iexact S2
  iexact S3

theorem cover8 : Finset.univ.biUnion set8 = Finset.univ := by
  ext x
  constructor
  · intro _; exact Finset.mem_univ _
  · intro _
    rw [Finset.mem_biUnion]
    exact ⟨⟨(x 0).val, (x 0).isLt⟩, Finset.mem_univ _, (mem_set8 _ x).2 rfl⟩

theorem disj8 : ∀ t ∈ (Finset.univ : Finset (Fin 4)), ∀ t' ∈ (Finset.univ : Finset (Fin 4)), t ≠ t' → Disjoint (set8 t) (set8 t') := by
  intro t _ t' _ h
  rw [Finset.disjoint_left]
  intro x hx hx'
  rw [mem_set8] at hx hx'
  exact h (Fin.ext (hx.symm.trans hx'))

theorem split8 (f : Buf (Elt F) ((c : Thread nD τ).loc cc0_scratch1)) :
    ((c : Thread nD τ).loc cc0_scratch1 ↦{fullShare} f : sProp 𝕄) = bigSep Finset.univ fun s => (c : Thread nD τ).loc cc0_scratch1 ↦[set8 s]{fullShare} f := by
  rw [← pointsTo_biUnion Finset.univ (ℓ := (c : Thread nD τ).loc cc0_scratch1) set8 disj8, cover8]; try rfl

theorem idle_in8 (f : Buf (Elt F) ((c : Thread nD τ).loc cc0_scratch1)) (fs : Buf (Elt F) ((c : Thread nD τ).loc main_arg5)) :
    iprop(((c : Thread nD τ).loc cc0_scratch1 ↦{fullShare} f) ∗ ((c : Thread nD τ).loc main_arg5 ↦{fullShare} fs) ∗ bigSep Finset.univ (fun s : Fin 4 => semVal ((c : Thread nD τ), SemLoc.dma (sem8 s)) 0))
      ⊢ (iprop(((c : Thread nD τ).loc main_arg5 ↦{Transfers.shareDrop fullShare 4} fs) ∗ bigSep Finset.univ (fun s => Idle8 c fs s)) : sProp 𝕄) := by
  rw [split8, four_eq, four_eq, four_eq]
  unfold Idle8 tok8
  iintro ⟨⟨H0, H1, H2, H3⟩, Ha, S0, S1, S2, S3⟩
  ihave Ha := (Transfers.pointsTo_toks_split fullShare 4) $$ Ha
  rw [four_eq]
  icases Ha with ⟨Ha, T0, T1, T2, T3⟩
  isplitl [Ha]; · iexact Ha
  isplitl [H0 T0 S0]
  · isplitl [H0]; · iexists f; iexact H0
    isplitl [T0]; · iexact T0
    iexact S0
  isplitl [H1 T1 S1]
  · isplitl [H1]; · iexists f; iexact H1
    isplitl [T1]; · iexact T1
    iexact S1
  isplitl [H2 T2 S2]
  · isplitl [H2]; · iexists f; iexact H2
    isplitl [T2]; · iexact T2
    iexact S2
  isplitl [H3]; · iexists f; iexact H3
  isplitl [T3]; · iexact T3
  iexact S3

theorem idle_out8 (fs : Buf (Elt F) ((c : Thread nD τ).loc main_arg5)) :
    iprop(((c : Thread nD τ).loc main_arg5 ↦{Transfers.shareDrop fullShare 4} fs) ∗ bigSep Finset.univ (fun s => Idle8 c fs s))
      ⊢ (iprop((∃ f : Buf (Elt F) ((c : Thread nD τ).loc cc0_scratch1), (c : Thread nD τ).loc cc0_scratch1 ↦{fullShare} f) ∗ ((c : Thread nD τ).loc main_arg5 ↦{fullShare} fs) ∗ bigSep Finset.univ (fun s : Fin 4 => semVal ((c : Thread nD τ), SemLoc.dma (sem8 s)) 0)) : sProp 𝕄) := by
  rw [four_eq, four_eq]
  unfold Idle8 tok8
  iintro ⟨Ha, ⟨⟨%f0, H0⟩, T0, S0⟩, ⟨⟨%f1, H1⟩, T1, S1⟩, ⟨⟨%f2, H2⟩, T2, S2⟩, ⟨⟨%f3, H3⟩, T3, S3⟩⟩
  isplitl [H0 H1 H2 H3]
  · ihave H : (bigSep Finset.univ fun s : Fin 4 => (c : Thread nD τ).loc cc0_scratch1 ↦[set8 s]{fullShare} (![f0, f1, f2, f3] : Fin 4 → Buf (Elt F) ((c : Thread nD τ).loc cc0_scratch1)) s : sProp 𝕄) $$ [H0 H1 H2 H3]
    · rw [four_eq]
      isplitl [H0]; · iexact H0
      isplitl [H1]; · iexact H1
      isplitl [H2]; · iexact H2
      iexact H3
    ihave H := (pointsTo_biUnion_join Finset.univ set8 (![f0, f1, f2, f3] : Fin 4 → Buf (Elt F) ((c : Thread nD τ).loc cc0_scratch1)) f0 disj8) $$ H
    rw [cover8]
    icases H with ⟨%g, -, H⟩
    iexists g; iexact H
  isplitl [Ha T0 T1 T2 T3]
  · iapply (Transfers.pointsTo_toks_join fullShare 4)
    isplitl [Ha]; · iexact Ha
    rw [four_eq]
    isplitl [T0]; · iexact T0
    isplitl [T1]; · iexact T1
    isplitl [T2]; · iexact T2
    iexact T3
  isplitl [S0]; · iexact S0
  isplitl [S1]; · iexact S1
  isplitl [S2]; · iexact S2
  iexact S3

/-! ## The ring's start -/

theorem part1_wp (n : Fin 12) (v : BitVec 32) (h1 : k0_cond1 (W n.val) = 1#1) (fs7 : Buf (Elt F) ((c : Thread nD τ).loc main_arg4))
    (f11 : Buf (Elt F) ((c : Thread nD τ).loc cc0_scratch4)) (e : Fin 11) (hlive : f11 (ix1 ⟨0, by omega⟩) = W e.val) :
    iprop(((c : Thread nD τ).loc cc0_scratch4 ↦{fullShare} f11) ∗ Idle7 c fs7 0)
      ⊢ wp frame (wpE (defs₀ (F := F)) 𝒱₀ (c : Thread nD τ) none) Set.univ
          (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) v h1)
          (fun r => iprop(⌜r.1 = W e.val⌝ ∗ ((c : Thread nD τ).loc cc0_scratch4 ↦{fullShare} f11) ∗ Pend7 c fs7 0 e 0)) := by
  rw [k0_part1_eq_skeleton]
  unfold k0_part1_skel
  simp only [smemLoad, smemLoadElt, Prog.lift, Prog.bind_op, Prog.bind_ret, Prog.pure_eq_ret]
  iintro ⟨H11, I7⟩
  iapply (wp_load_rect 𝒱₀ (c : Thread nD τ) none Set.univ (m := Memref.whole cc0_scratch4) (r := Rect.unit (s := S12) k0_off4 S1.size k0_off4_inb) (Finset.subset_univ _)) $$ H11; iintro H11
  beta_reduce
  irw [read_c11 c 0 (by omega) _ off4 _ f11, hlive]
  iapply (wp_assume 𝒱₀ (c : Thread nD τ) none Set.univ (chk2 (W n.val) e))
  iapply (enq7 c none fs7 0 e 0 _ (slot7_eq 0 _ off6 _) _ (src7_eq e 0 _ (off7 e) _) _ (sem7_eq 0 _ off5 _)) $$ I7
  iintro P7
  rw [wp_ret]; imodintro
  isplitr [H11 P7]; · ipureintro; rfl
  isplitl [H11]; · iexact H11
  iexact P7

theorem part2_wp (n : Fin 12) (v : BitVec 32) (h1 : k0_cond2 (W n.val) = 1#1) (fs7 : Buf (Elt F) ((c : Thread nD τ).loc main_arg4))
    (f11 : Buf (Elt F) ((c : Thread nD τ).loc cc0_scratch4)) (e : Fin 11) (hlive : f11 (ix1 ⟨0, by omega⟩) = W e.val) :
    iprop(((c : Thread nD τ).loc cc0_scratch4 ↦{fullShare} f11) ∗ Idle7 c fs7 1)
      ⊢ wp frame (wpE (defs₀ (F := F)) 𝒱₀ (c : Thread nD τ) none) Set.univ
          (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) v h1)
          (fun r => iprop(⌜r.1 = W e.val⌝ ∗ ((c : Thread nD τ).loc cc0_scratch4 ↦{fullShare} f11) ∗ Pend7 c fs7 1 e 1)) := by
  rw [k0_part2_eq_skeleton]
  unfold k0_part2_skel
  simp only [smemLoad, smemLoadElt, Prog.lift, Prog.bind_op, Prog.bind_ret, Prog.pure_eq_ret]
  iintro ⟨H11, I7⟩
  iapply (wp_load_rect 𝒱₀ (c : Thread nD τ) none Set.univ (m := Memref.whole cc0_scratch4) (r := Rect.unit (s := S12) k0_off11 S1.size k0_off11_inb) (Finset.subset_univ _)) $$ H11; iintro H11
  beta_reduce
  irw [read_c11 c 0 (by omega) _ off11 _ f11, hlive]
  iapply (wp_assume 𝒱₀ (c : Thread nD τ) none Set.univ (chk3 (W n.val) e))
  iapply (enq7 c none fs7 1 e 1 _ (slot7_eq 1 _ off13 _) _ (src7_eq e 1 _ (off14 e) _) _ (sem7_eq 1 _ off12 _)) $$ I7
  iintro P7
  rw [wp_ret]; imodintro
  isplitr [H11 P7]; · ipureintro; rfl
  isplitl [H11]; · iexact H11
  iexact P7

theorem part3_wp (n : Fin 12) (v : BitVec 32) (h1 : k0_cond3 (W n.val) = 1#1) (fs7 : Buf (Elt F) ((c : Thread nD τ).loc main_arg4))
    (f11 : Buf (Elt F) ((c : Thread nD τ).loc cc0_scratch4)) (e : Fin 11) (hlive : f11 (ix1 ⟨0, by omega⟩) = W e.val) :
    iprop(((c : Thread nD τ).loc cc0_scratch4 ↦{fullShare} f11) ∗ Idle7 c fs7 2)
      ⊢ wp frame (wpE (defs₀ (F := F)) 𝒱₀ (c : Thread nD τ) none) Set.univ
          (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) v h1)
          (fun r => iprop(⌜r.1 = W e.val⌝ ∗ ((c : Thread nD τ).loc cc0_scratch4 ↦{fullShare} f11) ∗ Pend7 c fs7 2 e 2)) := by
  rw [k0_part3_eq_skeleton]
  unfold k0_part3_skel
  simp only [smemLoad, smemLoadElt, Prog.lift, Prog.bind_op, Prog.bind_ret, Prog.pure_eq_ret]
  iintro ⟨H11, I7⟩
  iapply (wp_load_rect 𝒱₀ (c : Thread nD τ) none Set.univ (m := Memref.whole cc0_scratch4) (r := Rect.unit (s := S12) k0_off18 S1.size k0_off18_inb) (Finset.subset_univ _)) $$ H11; iintro H11
  beta_reduce
  irw [read_c11 c 0 (by omega) _ off18 _ f11, hlive]
  iapply (wp_assume 𝒱₀ (c : Thread nD τ) none Set.univ (chk4 (W n.val) e))
  iapply (enq7 c none fs7 2 e 2 _ (slot7_eq 2 _ off20 _) _ (src7_eq e 2 _ (off21 e) _) _ (sem7_eq 2 _ off19 _)) $$ I7
  iintro P7
  rw [wp_ret]; imodintro
  isplitr [H11 P7]; · ipureintro; rfl
  isplitl [H11]; · iexact H11
  iexact P7

theorem part4_wp (n : Fin 12) (v : BitVec 32) (h1 : k0_cond4 (W n.val) = 1#1) (fs7 : Buf (Elt F) ((c : Thread nD τ).loc main_arg4))
    (f11 : Buf (Elt F) ((c : Thread nD τ).loc cc0_scratch4)) (e : Fin 11) (hlive : f11 (ix1 ⟨0, by omega⟩) = W e.val) :
    iprop(((c : Thread nD τ).loc cc0_scratch4 ↦{fullShare} f11) ∗ Idle7 c fs7 3)
      ⊢ wp frame (wpE (defs₀ (F := F)) 𝒱₀ (c : Thread nD τ) none) Set.univ
          (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) v h1)
          (fun r => iprop(⌜r.1 = W e.val⌝ ∗ ((c : Thread nD τ).loc cc0_scratch4 ↦{fullShare} f11) ∗ Pend7 c fs7 3 e 3)) := by
  rw [k0_part4_eq_skeleton]
  unfold k0_part4_skel
  simp only [smemLoad, smemLoadElt, Prog.lift, Prog.bind_op, Prog.bind_ret, Prog.pure_eq_ret]
  iintro ⟨H11, I7⟩
  iapply (wp_load_rect 𝒱₀ (c : Thread nD τ) none Set.univ (m := Memref.whole cc0_scratch4) (r := Rect.unit (s := S12) k0_off25 S1.size k0_off25_inb) (Finset.subset_univ _)) $$ H11; iintro H11
  beta_reduce
  irw [read_c11 c 0 (by omega) _ off25 _ f11, hlive]
  iapply (wp_assume 𝒱₀ (c : Thread nD τ) none Set.univ (chk5 (W n.val) e))
  iapply (enq7 c none fs7 3 e 3 _ (slot7_eq 3 _ off27 _) _ (src7_eq e 3 _ (off28 e) _) _ (sem7_eq 3 _ off26 _)) $$ I7
  iintro P7
  rw [wp_ret]; imodintro
  isplitr [H11 P7]; · ipureintro; rfl
  isplitl [H11]; · iexact H11
  iexact P7

theorem slot0 (G : ℕ → ℕ) (fs7 : Buf (Elt F) ((c : Thread nD τ).loc main_arg4)) (fs8 : Buf (Elt F) ((c : Thread nD τ).loc main_arg5)) (N : ℕ) (hN : 4 ≤ N) (s : Fin 4) :
    slotst c G fs7 fs8 N 0 s = iprop(Pend7 c fs7 s (ex G 0) ⟨s.val, by omega⟩ ∗ Pend8 c fs8 s (ex G 0) ⟨s.val, by omega⟩) := by
  have hp : pc 0 s.val = s.val := by unfold pc; omega
  have hg : grp G s.val = ex G 0 := by unfold grp; rw [show s.val / 5 = 0 by omega]
  have hb : cbl s.val = ⟨s.val, by omega⟩ := Fin.ext (show s.val % 5 = s.val by omega)
  unfold slotst
  rw [hp, if_pos (by omega), hg, hb]

theorem ring0 (G : ℕ → ℕ) (fs7 : Buf (Elt F) ((c : Thread nD τ).loc main_arg4)) (fs8 : Buf (Elt F) ((c : Thread nD τ).loc main_arg5)) (N : ℕ) (hN : 4 ≤ N) :
    ring c G fs7 fs8 N 0 = iprop((Pend7 c fs7 0 (ex G 0) 0 ∗ Pend8 c fs8 0 (ex G 0) 0) ∗ (Pend7 c fs7 1 (ex G 0) 1 ∗ Pend8 c fs8 1 (ex G 0) 1)
      ∗ (Pend7 c fs7 2 (ex G 0) 2 ∗ Pend8 c fs8 2 (ex G 0) 2) ∗ (Pend7 c fs7 3 (ex G 0) 3 ∗ Pend8 c fs8 3 (ex G 0) 3)) := by
  unfold ring
  rw [four_eq, slot0 c G fs7 fs8 N hN, slot0 c G fs7 fs8 N hN, slot0 c G fs7 fs8 N hN, slot0 c G fs7 fs8 N hN]
  rfl

theorem ringN (G : ℕ → ℕ) (fs7 : Buf (Elt F) ((c : Thread nD τ).loc main_arg4)) (fs8 : Buf (Elt F) ((c : Thread nD τ).loc main_arg5)) (N : ℕ) :
    ring c G fs7 fs8 N N = iprop(bigSep Finset.univ (fun s => Idle7 c fs7 s) ∗ bigSep Finset.univ (fun s => Idle8 c fs8 s)) := by
  unfold ring
  refine Eq.trans ?_ (bigSep_sep Finset.univ (fun s => Idle7 c fs7 s) (fun s => Idle8 c fs8 s))
  refine bigSep_congr fun s _ => ?_
  unfold slotst
  rw [if_neg (by have := pc_ge N s.val; omega)]; rfl

/-- Every row is in a group, every column in a block: at the end all is done. -/
theorem dn_all (G : ℕ → ℕ) (h : pre G 11 = 1024) (x : S1024x2560.Idx) : dn G (5 * nl G 11) x := by
  have h0 : (x 0).val < 1024 := (x 0).isLt
  have h1 : (x 1).val < 2560 := (x 1).isLt
  obtain ⟨e, he, hlo, hhi, hpos⟩ := group_of G 11 (x 0).val (by omega)
  have hn := nl_lt G he hpos
  refine ⟨5 * nl G e + (x 1).val / 512, by omega, ?_⟩
  have hg : (grp G (5 * nl G e + (x 1).val / 512)).val = e := by
    unfold grp
    rw [show (5 * nl G e + (x 1).val / 512) / 5 = nl G e by omega]
    exact congrArg Fin.val (ex_nl G ⟨e, he⟩ hpos)
  rw [hg]
  exact ⟨hlo, hhi, by omega, by omega⟩

/-! ## The body -/

/-- All that the body holds, with what is known of the result's buffer. -/
def Held (gs : Buf (Elt F) ((c : Thread nD τ).loc cc0_stg0_0)) (wg : Buf (Elt F) ((c : Thread nD τ).loc cc0_stg1_0)) (ag : Buf (Elt F) ((c : Thread nD τ).loc cc0_stg2_0))
    (fA : Buf (Elt F) ((c : Thread nD τ).loc cc0_stg3_0)) (fs7 : Buf (Elt F) ((c : Thread nD τ).loc main_arg4)) (fs8 : Buf (Elt F) ((c : Thread nD τ).loc main_arg5))
    (P : Buf (Elt F) ((c : Thread nD τ).loc cc0_stg4_0) → Prop) : sProp 𝕄 :=
  iprop((∃ Wt : Waits sig Unit, owes (c : Thread nD τ) 0 Wt) ∗ ((c : Thread nD τ).loc cc0_stg0_0 ↦{fullShare} gs) ∗ ((c : Thread nD τ).loc cc0_stg1_0 ↦{fullShare} wg)
        ∗ ((c : Thread nD τ).loc cc0_stg2_0 ↦{fullShare} ag) ∗ ((c : Thread nD τ).loc cc0_stg3_0 ↦{fullShare} fA)
        ∗ (∃ f6 : Buf (Elt F) ((c : Thread nD τ).loc cc0_stg4_0), ((c : Thread nD τ).loc cc0_stg4_0 ↦{fullShare} f6) ∗ ⌜P f6⌝)
        ∗ (∃ f : Buf (Elt F) ((c : Thread nD τ).loc cc0_scratch0), (c : Thread nD τ).loc cc0_scratch0 ↦{fullShare} f) ∗ (∃ f : Buf (Elt F) ((c : Thread nD τ).loc cc0_scratch1), (c : Thread nD τ).loc cc0_scratch1 ↦{fullShare} f)
        ∗ (∃ f : Buf (Elt F) ((c : Thread nD τ).loc cc0_scratch2), (c : Thread nD τ).loc cc0_scratch2 ↦{fullShare} f) ∗ (∃ f : Buf (Elt F) ((c : Thread nD τ).loc cc0_scratch3), (c : Thread nD τ).loc cc0_scratch3 ↦{fullShare} f)
        ∗ (∃ f : Buf (Elt F) ((c : Thread nD τ).loc cc0_scratch4), (c : Thread nD τ).loc cc0_scratch4 ↦{fullShare} f)
        ∗ ((c : Thread nD τ).loc main_arg4 ↦{fullShare} fs7) ∗ ((c : Thread nD τ).loc main_arg5 ↦{fullShare} fs8)
        ∗ bigSep Finset.univ (fun s : Fin 4 => semVal ((c : Thread nD τ), SemLoc.dma (sem7 s)) 0) ∗ bigSep Finset.univ (fun s : Fin 4 => semVal ((c : Thread nD τ), SemLoc.dma (sem8 s)) 0))

theorem body_wp (G : ℕ → ℕ) (gs : Buf (Elt F) ((c : Thread nD τ).loc cc0_stg0_0)) (hG : Sizes G gs)
    (wg : Buf (Elt F) ((c : Thread nD τ).loc cc0_stg1_0)) (ag : Buf (Elt F) ((c : Thread nD τ).loc cc0_stg2_0)) (fA : Buf (Elt F) ((c : Thread nD τ).loc cc0_stg3_0))
    (fs7 : Buf (Elt F) ((c : Thread nD τ).loc main_arg4)) (fs8 : Buf (Elt F) ((c : Thread nD τ).loc main_arg5))
    (tracked : Prop) (Y : S1024x2560.Idx → F .f32) (hv : ∀ n : Fin 12, n.val = nl G 11 → AllVals c G fs7 fs8 wg ag fA tracked Y n) :
    Held c gs wg ag fA fs7 fs8 (fun _ => True)
      ⊢ wp frame (wpE (defs₀ (F := F)) 𝒱₀ (c : Thread nD τ) none) Set.univ
          (cc0_nvfp4_grouped_projection (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6)
          (fun _ => Held c gs wg ag fA fs7 fs8 (fun f6 => tracked → f6 = Y)) := by
  have hn0 : 0 < nl G 11 := nl_pos G 11 (by rw [hG.total]; omega)
  obtain ⟨n, hn⟩ : ∃ n : Fin 12, n.val = nl G 11 := ⟨⟨nl G 11, by have := nl_le G 11; omega⟩, rfl⟩
  have hn1 : 1 ≤ n.val := by omega
  rw [cc0_nvfp4_grouped_projection_eq_skeleton]
  unfold cc0_nvfp4_grouped_projection_skel
  unfold Held
  iintro ⟨HO, H0, H1, H2, H3, ⟨%f6, H6, -⟩, ⟨%f7, H7⟩, ⟨%f8, H8⟩, ⟨%f9, H9⟩, ⟨%f10, H10⟩, ⟨%f11, H11⟩, Ha7, Ha8, HS7, HS8⟩
  -- the first loop
  iapply (Scf.wp_for_bind Idealize.ShloMosaic.frame (wpE (defs₀ (F := F)) 𝒱₀ (c : Thread nD τ) none) Set.univ k0_t1_loop.lb k0_t1_loop.ub k0_t1_loop.st k0_t1_ok ((0#32, 0#32) : BitVec 32 × BitVec 32)
    (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) (fun k acc => Scan c G gs k acc) (fun k acc => t1_wp c none G gs hG k acc)) $$ [H0 H10 H11]
  · unfold Scan
    isplitr [H0 H10 H11]; · ipureintro; rfl
    isplitl [H0]; · iexact H0
    iexists f10; iexists f11
    isplitl [H10]; · iexact H10
    isplitl [H11]; · iexact H11
    ipureintro
    exact ⟨fun y hy => absurd hy (by omega), fun e he => absurd he (by omega)⟩
  iintro %acc HS
  unfold Scan
  icases HS with ⟨%hacc, H0, %g10, %g11, H10, H11, %hsc⟩
  have htr : Scf.trips k0_t1_loop.lb k0_t1_loop.ub k0_t1_loop.st = 11 := trips1
  rw [htr, ← hn] at hacc
  rw [htr] at hsc
  subst hacc
  have hc1 : (k0_cond1 (W n.val) = 1#1) = True := eq_true (cond1 n hn1)
  have hc2 : (k0_cond2 (W n.val) = 1#1) = True := eq_true (cond2 n hn1)
  have hc3 : (k0_cond3 (W n.val) = 1#1) = True := eq_true (cond3 n hn1)
  have hc4 : (k0_cond4 (W n.val) = 1#1) = True := eq_true (cond4 n hn1)
  simp only [hc1, hc2, hc3, hc4, ↓reduceDIte, smemLoad, smemLoadElt, Prog.lift, Prog.bind_op, Prog.bind_ret, Prog.pure_eq_ret]
  iapply (wp_assume 𝒱₀ (c : Thread nD τ) none Set.univ (chk6 n))
  iapply (wp_load_rect 𝒱₀ (c : Thread nD τ) none Set.univ (m := Memref.whole cc0_scratch3) (r := Rect.unit (s := S12) ![11] S1.size inb_S12_S1_11) (Finset.subset_univ _)) $$ H10; iintro H10
  iapply (wp_store 𝒱₀ (c : Thread nD τ) none Set.univ (m := Memref.whole cc0_scratch3) (r := Rect.unit (s := S12) ![11] S1.size inb_S12_S1_11) (Mk := Finset.univ) (Finset.subset_univ _)) $$ H10; iintro H10
  obtain ⟨h10, hh10⟩ : ∃ h : Buf (Elt F) ((c : Thread nD τ).loc cc0_scratch3), h = ((Memref.whole cc0_scratch3 : Memref sig .tc .smem S12 .i32).access (Rect.unit (s := S12) ![11] S1.size inb_S12_S1_11)).write (Elt F) g10 (fun _ => W (pre G 11)) Finset.univ := ⟨_, rfl⟩
  have hcells : Cells G h10 g11 := by
    refine ⟨fun y => ?_, fun e he h0 y hy => hsc.2 e he h0 y hy⟩
    rw [hh10]
    refine (write_c10 c 11 _ rfl _ g10 (W (pre G 11)) y).trans ?_
    by_cases h : y.val = 11
    · rw [if_pos h, h]
    · rw [if_neg h]; exact hsc.1 y (by omega)
  ihave H10 : ((c : Thread nD τ).loc cc0_scratch3 ↦{fullShare} h10) $$ [H10]
  · rw [hh10]; iexact H10
  have hlive : g11 (ix1 ⟨0, by omega⟩) = W (ex G 0).val := hcells.live 0 hn0 (by omega)
  -- the ring's slots
  ihave HI7 := (idle_in7 c f7 fs7) $$ [H7 Ha7 HS7]
  · isplitl [H7]; · iexact H7
    isplitl [Ha7]; · iexact Ha7
    iexact HS7
  ihave HI8 := (idle_in8 c f8 fs8) $$ [H8 Ha8 HS8]
  · isplitl [H8]; · iexact H8
    isplitl [Ha8]; · iexact Ha8
    iexact HS8
  rw [four_eq, four_eq]
  icases HI7 with ⟨Ha7, A0, A1, A2, A3⟩
  icases HI8 with ⟨Ha8, B0, B1, B2, B3⟩
  rw [wp_bind]
  iapply (wp_wand_r Idealize.ShloMosaic.frame (wpE (defs₀ (F := F)) 𝒱₀ (c : Thread nD τ) none) Set.univ)
  isplitl [H11 A0]
  · iapply (part1_wp c n _ (cond1 n hn1) fs7 g11 (ex G 0) hlive)
    isplitl [H11]; · iexact H11
    iexact A0
  iintro %a ⟨%ha, H11, A0⟩
  obtain ⟨v, hw⟩ := a
  change v = W (ex G 0).val at ha
  subst ha
  simp only [Prog.lift, Prog.bind_op, Prog.bind_ret, Prog.pure_eq_ret]
  iapply (enq8 c none fs8 0 (ex G 0) 0 _ (slot8_eq 0 _ off9 _) _ (src8_eq (ex G 0) 0 _ (off10 (ex G 0)) _) _ (sem8_eq 0 _ off8 _)) $$ B0
  iintro B0
  clear hw
  rw [wp_bind]
  iapply (wp_wand_r Idealize.ShloMosaic.frame (wpE (defs₀ (F := F)) 𝒱₀ (c : Thread nD τ) none) Set.univ)
  isplitl [H11 A1]
  · iapply (part2_wp c n _ (cond2 n hn1) fs7 g11 (ex G 0) hlive)
    isplitl [H11]; · iexact H11
    iexact A1
  iintro %a ⟨%ha, H11, A1⟩
  obtain ⟨v, hw⟩ := a
  change v = W (ex G 0).val at ha
  subst ha
  simp only [Prog.lift, Prog.bind_op, Prog.bind_ret, Prog.pure_eq_ret]
  iapply (enq8 c none fs8 1 (ex G 0) 1 _ (slot8_eq 1 _ off16 _) _ (src8_eq (ex G 0) 1 _ (off17 (ex G 0)) _) _ (sem8_eq 1 _ off15 _)) $$ B1
  iintro B1
  clear hw
  rw [wp_bind]
  iapply (wp_wand_r Idealize.ShloMosaic.frame (wpE (defs₀ (F := F)) 𝒱₀ (c : Thread nD τ) none) Set.univ)
  isplitl [H11 A2]
  · iapply (part3_wp c n _ (cond3 n hn1) fs7 g11 (ex G 0) hlive)
    isplitl [H11]; · iexact H11
    iexact A2
  iintro %a ⟨%ha, H11, A2⟩
  obtain ⟨v, hw⟩ := a
  change v = W (ex G 0).val at ha
  subst ha
  simp only [Prog.lift, Prog.bind_op, Prog.bind_ret, Prog.pure_eq_ret]
  iapply (enq8 c none fs8 2 (ex G 0) 2 _ (slot8_eq 2 _ off23 _) _ (src8_eq (ex G 0) 2 _ (off24 (ex G 0)) _) _ (sem8_eq 2 _ off22 _)) $$ B2
  iintro B2
  clear hw
  rw [wp_bind]
  iapply (wp_wand_r Idealize.ShloMosaic.frame (wpE (defs₀ (F := F)) 𝒱₀ (c : Thread nD τ) none) Set.univ)
  isplitl [H11 A3]
  · iapply (part4_wp c n _ (cond4 n hn1) fs7 g11 (ex G 0) hlive)
    isplitl [H11]; · iexact H11
    iexact A3
  iintro %a ⟨%ha, H11, A3⟩
  obtain ⟨v, hw⟩ := a
  change v = W (ex G 0).val at ha
  subst ha
  simp only [Prog.lift, Prog.bind_op, Prog.bind_ret, Prog.pure_eq_ret]
  iapply (enq8 c none fs8 3 (ex G 0) 3 _ (slot8_eq 3 _ off30 _) _ (src8_eq (ex G 0) 3 _ (off31 (ex G 0)) _) _ (sem8_eq 3 _ off29 _)) $$ B3
  iintro B3
  clear hw
  -- the chunks
  iapply (Scf.wp_for_bind Idealize.ShloMosaic.frame (wpE (defs₀ (F := F)) 𝒱₀ (c : Thread nD τ) none) Set.univ (k0_t2_loop (W n.val)).lb (k0_t2_loop (W n.val)).ub (k0_t2_loop (W n.val)).st (k0_t2_ok (W n.val) (chk6 n)) (0#32 : BitVec 32)
    (k0_t2_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) (chk6 n)) (fun t _ => KS.Inv c G fs7 fs8 wg ag fA tracked Y n h10 g11 t)
    (fun t acc => t2_wp c G fs7 fs8 wg ag fA tracked Y n hn gs hG (chk6 n) h10 g11 hcells (hv n hn) t acc)) $$ [HO H1 H2 H3 H10 H11 H9 H6 A0 A1 A2 A3 B0 B1 B2 B3]
  · unfold KS.Inv
    rw [ring0 c G fs7 fs8 (5 * n.val) (by omega)]
    isplitl [HO]; · iexact HO
    isplitl [H1]; · iexact H1
    isplitl [H2]; · iexact H2
    isplitl [H3]; · iexact H3
    isplitl [H10]; · iexact H10
    isplitl [H11]; · iexact H11
    isplitl [H9]; · iexists f9; iexact H9
    isplitl [H6]
    · iexists f6
      isplitl [H6]; · iexact H6
      ipureintro
      exact fun _ x hx => absurd hx (fun ⟨j, hj, _⟩ => absurd hj (by omega))
    isplitl [A0 B0]
    · isplitl [A0]; · iexact A0
      iexact B0
    isplitl [A1 B1]
    · isplitl [A1]; · iexact A1
      iexact B1
    isplitl [A2 B2]
    · isplitl [A2]; · iexact A2
      iexact B2
    isplitl [A3]; · iexact A3
    iexact B3
  iintro %acc HI
  -- the second loop over chunks has no trips
  iapply (Scf.wp_for_bind Idealize.ShloMosaic.frame (wpE (defs₀ (F := F)) 𝒱₀ (c : Thread nD τ) none) Set.univ (k0_t6_loop (W n.val)).lb (k0_t6_loop (W n.val)).ub (k0_t6_loop (W n.val)).st (k0_t6_ok (W n.val) (chk6 n)) acc
    (k0_t6_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) (chk6 n) _) (fun _ _ => KS.Inv c G fs7 fs8 wg ag fA tracked Y n h10 g11 (5 * n.val))
    (fun t acc => absurd (show t.val < (k0_t6_loop (W n.val)).trips from t.isLt) (by rw [trips6 n]; omega))) $$ [HI]
  · have htr2 : Scf.trips (k0_t2_loop (W n.val)).lb (k0_t2_loop (W n.val)).ub (k0_t2_loop (W n.val)).st = 5 * n.val := trips2 n
    rw [htr2]
    iexact HI
  iintro %acc' HI
  unfold KS.Inv
  rw [ringN]
  icases HI with ⟨HO, H1, H2, H3, H10, H11, H9, ⟨%f6', H6, %hf6⟩, A, B⟩
  ihave HI7 := (idle_out7 c fs7) $$ [Ha7 A]
  · isplitl [Ha7]; · iexact Ha7
    iexact A
  ihave HI8 := (idle_out8 c fs8) $$ [Ha8 B]
  · isplitl [Ha8]; · iexact Ha8
    iexact B
  icases HI7 with ⟨H7, Ha7, HS7⟩
  icases HI8 with ⟨H8, Ha8, HS8⟩
  rw [wp_ret]; imodintro
  isplitl [HO]; · iexact HO
  isplitl [H0]; · iexact H0
  isplitl [H1]; · iexact H1
  isplitl [H2]; · iexact H2
  isplitl [H3]; · iexact H3
  isplitl [H6]
  · iexists f6'
    isplitl [H6]; · iexact H6
    ipureintro
    intro ht
    funext x
    exact hf6 ht x (hn ▸ dn_all G hG.total x)
  isplitl [H7]; · iexact H7
  isplitl [H8]; · iexact H8
  isplitl [H9]; · iexact H9
  isplitl [H10]; · iexists h10; iexact H10
  isplitl [H11]; · iexists g11; iexact H11
  isplitl [Ha7]; · iexact Ha7
  isplitl [Ha8]; · iexact Ha8
  isplitl [HS7]; · iexact HS7
  iexact HS8

end Cert.Kernel.KB
-- ==== Proof.KL.lean ====
/- The launch: the body run as the one point of the grid, its arguments staged and its result written back. -/
module

public import proofs.«01_k».proof.Proof.KB
public import proofs.«01_k».proof.Proof.Gen.Kernel.Launch
public import proofs.«01_k».proof.Proof.Gen.Kernel.Points
public import Idealize.ShloMosaic.Lib.Pipeline.FrameBody
public import Idealize.ShloMosaic.Lib.Pipeline.Value

@[expose] public section

set_option maxRecDepth 8192
set_option maxHeartbeats 1000000

noncomputable section

namespace Cert.Kernel.KL

open Cert.Kernel Cert.Kernel.Gen Cert.Kernel.KA Cert.Kernel.KD Cert.Kernel.KW Cert.Kernel.KX Cert.Kernel.KR Cert.Kernel.KS Cert.Kernel.KB Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the transfers' counters. -/
local notation "𝕄" => MT nD τ sig Unit (Elt F) ℕ (Pipeline.UD sig nD τ) ℕ

/-- The embedding of the transfers' counters. -/
local notation "EC" => (countersEmb (U := Pipeline.UD sig nD τ))

open Idealize.ShloMosaic.Pipeline (Dat RDat Cfg Window BodyObligation cellOf)

variable (m : (ℓ : Loc nD τ sig) → Buf (Elt F) ℓ) (ρ : Dev nD → PrngReg) (Y : Dev nD → S1024x2560.Idx → F .f32)

abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's own transfer cells: four for the codes, four for the scales. -/
abbrev osem0 : Fin 8 → SemLoc sig := fun j => (![SemLoc.dma 5, SemLoc.dma 6, SemLoc.dma 7, SemLoc.dma 8, SemLoc.dma 9, SemLoc.dma 10, SemLoc.dma 11, SemLoc.dma 12] : Fin 8 → SemLoc sig) j
theorem ownSemFacts0 : Pipeline.OwnSemFacts spec0 osem0 := by decide

theorem sem7_val : sem7 0 = 5 ∧ sem7 1 = 6 ∧ sem7 2 = 7 ∧ sem7 3 = 8 := by decide +kernel
theorem sem8_val : sem8 0 = 9 ∧ sem8 1 = 10 ∧ sem8 2 = 11 ∧ sem8 3 = 12 := by decide +kernel

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0
          ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3, 4, 5, 6, 7] (by decide) (by decide)]; rfl

theorem sems7_eq (c : Dev nD) : (bigSep Finset.univ (fun s : Fin 4 => semVal ((c : Thread nD τ), SemLoc.dma (sem7 s)) 0) : sProp 𝕄)
    = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) := by
  obtain ⟨h0, h1, h2, h3⟩ := sem7_val
  rw [four_eq, h0, h1, h2, h3]
theorem sems8_eq (c : Dev nD) : (bigSep Finset.univ (fun s : Fin 4 => semVal ((c : Thread nD τ), SemLoc.dma (sem8 s)) 0) : sProp 𝕄)
    = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  obtain ⟨h0, h1, h2, h3⟩ := sem8_val
  rw [four_eq, h0, h1, h2, h3]

/-- The arguments the body's transfers read. -/
def H0 : Finset (Ref sig .tc) := {main_arg4, main_arg5}
theorem H0_sub : H0 ⊆ Pipeline.restRefs sig spec0 := by decide
theorem hbmPts0_eq (c : Dev nD) :
    (bigSep H0 (fun b => ((c : Thread nD τ).loc b) ↦{fullShare} V m c b) : sProp 𝕄)
      = iprop(((c : Thread nD τ).loc main_arg4 ↦{fullShare} V m c main_arg4) ∗ ((c : Thread nD τ).loc main_arg5 ↦{fullShare} V m c main_arg5)) := by
  rw [BI.bigSep_eq_bigSepL_of_eq [main_arg4, main_arg5] (by decide) (by decide)]; rfl

/-- The proof data: the arrays as launched, the result after the body at `Y`. -/
def dats (_ : Fin 1) (c : Dev nD) : Dat τ (Elt F) Unit ℕ (Pipeline.UD sig nD τ) ℕ (cfg0 (F := F)) c where
  A w := V m c (Pipeline.arrRef spec0 w)
  after w t := match w with
    | ⟨0, _⟩ => V m c main_arg0
    | ⟨1, _⟩ => V m c main_arg1
    | ⟨2, _⟩ => V m c main_arg2
    | ⟨3, _⟩ => V m c main_arg3
    | ⟨4, _⟩ => Y c
  Φ _ := Pipeline.ΦD osem0 spec0 H0 (V m) c
  q _ := fullShare
  owed _ := 0

theorem A_eq (c : Dev nD) (w : Fin (cfg0 (F := F)).W) : (dats m Y 0 c).A w = V m c (Pipeline.arrRef spec0 w) := by
  dsimp only [dats]

theorem before0 (c : Dev nD) (t : Fin (cfg0 (F := F)).N) (d) : (dats m Y 0 c).before 0 t d = V m c main_arg0 := by
  rw [(dats m Y 0 c).before_fetched 0 t (fetch0_0 t) d]
  unfold Dat.fetched Dat.blockOf
  funext y
  exact congrArg (V m c main_arg0) (funext fun a => Fin.ext (Pipeline.Window.rect_emb_val_of_index_zero win0_0 t a rfl y))

theorem before1 (c : Dev nD) (t : Fin (cfg0 (F := F)).N) (d) : (dats m Y 0 c).before 1 t d = V m c main_arg1 := by
  rw [(dats m Y 0 c).before_fetched 1 t (fetch0_1 t) d]
  unfold Dat.fetched Dat.blockOf
  funext y
  exact congrArg (V m c main_arg1) (funext fun a => Fin.ext (Pipeline.Window.rect_emb_val_of_index_zero win0_1 t a rfl y))

theorem before2 (c : Dev nD) (t : Fin (cfg0 (F := F)).N) (d) : (dats m Y 0 c).before 2 t d = V m c main_arg2 := by
  rw [(dats m Y 0 c).before_fetched 2 t (fetch0_2 t) d]
  unfold Dat.fetched Dat.blockOf
  funext y
  exact congrArg (V m c main_arg2) (funext fun a => Fin.ext (Pipeline.Window.rect_emb_val_of_index_zero win0_2 t a rfl y))

theorem before3 (c : Dev nD) (t : Fin (cfg0 (F := F)).N) (d) : (dats m Y 0 c).before 3 t d = V m c main_arg3 := by
  rw [(dats m Y 0 c).before_fetched 3 t (fetch0_3 t) d]
  unfold Dat.fetched Dat.blockOf
  funext y
  exact congrArg (V m c main_arg3) (funext fun a => Fin.ext (Pipeline.Window.rect_emb_val_of_index_zero win0_3 t a rfl y))

theorem disj4 : ∀ t t' : Fin (cfg0 (F := F)).N, ((cfg0 (F := F)).win 4).flush t = true → ((cfg0 (F := F)).win 4).flush t' = true → t ≠ t' →
    Disjoint (((cfg0 (F := F)).win 4).blk t).view.set (((cfg0 (F := F)).win 4).blk t').view.set :=
  fun t t' _ _ hne => absurd ((fin_N0 t).trans (fin_N0 t').symm) hne

/-- The result's array after the run. -/
theorem arr4 (c : Dev nD) : (dats m Y 0 c).arrAt 4 (cfg0 (F := F)).N = Y c := by
  funext x
  have h := (dats m Y 0 c).arrAt_emb_eq_flushed 4 disj4 t0_0 (flush0_4 t0_0) x
  have he : (((cfg0 (F := F)).win 4).blk t0_0).view.emb x = x :=
    funext fun a => Fin.ext (Pipeline.Window.rect_emb_val_of_index_zero win0_4 t0_0 a rfl x)
  rw [he] at h
  exact h

variable (G : Dev nD → ℕ → ℕ) (hG : ∀ c, Sizes (G c) (V m c main_arg0)) (tracked : Prop)
  (hv : ∀ c, ∀ n : Fin 12, n.val = nl (G c) 11 → AllVals c (G c) (V m c main_arg4) (V m c main_arg5) (V m c main_arg1) (V m c main_arg2) (V m c main_arg3) tracked (Y c) n)

def bodyPre (c : Dev nD) (t : Fin (cfg0 (F := F)).N) : sProp 𝕄 :=
  iprop((dats m Y 0 c).Φ t.castSucc ∗ (dats m Y 0 c).owesAt () t.castSucc
    ∗ (∃ d, owns (c : Thread nD τ) (st0_0 t) fullShare ((dats m Y 0 c).before 0 t d))
    ∗ (∃ d, owns (c : Thread nD τ) (st0_1 t) fullShare ((dats m Y 0 c).before 1 t d))
    ∗ (∃ d, owns (c : Thread nD τ) (st0_2 t) fullShare ((dats m Y 0 c).before 2 t d))
    ∗ (∃ d, owns (c : Thread nD τ) (st0_3 t) fullShare ((dats m Y 0 c).before 3 t d))
    ∗ (∃ X, owns (c : Thread nD τ) (st0_4 t) fullShare X))
def bodyPost (c : Dev nD) (t : Fin (cfg0 (F := F)).N) : sProp 𝕄 :=
  iprop((dats m Y 0 c).Φ t.succ ∗ (dats m Y 0 c).owesAt () t.succ
    ∗ owns (c : Thread nD τ) (st0_0 t) fullShare ((dats m Y 0 c).after 0 t)
    ∗ owns (c : Thread nD τ) (st0_1 t) fullShare ((dats m Y 0 c).after 1 t)
    ∗ owns (c : Thread nD τ) (st0_2 t) fullShare ((dats m Y 0 c).after 2 t)
    ∗ owns (c : Thread nD τ) (st0_3 t) fullShare ((dats m Y 0 c).after 3 t)
    ∗ (∃ X, ⌜tracked → X = Y c⌝ ∗ owns (c : Thread nD τ) (st0_4 t) fullShare X))

theorem of_eq {A B : sProp 𝕄} (h : A = B) : A ⊢ B := h ▸ .rfl

include hG hv in
theorem sound_body (c : Dev nD) (t : Fin (cfg0 (F := F)).N) :
    bodyPre m Y c t ⊢ wp frame (wpE (defs₀ (F := F)) 𝒱₀ c none) Set.univ (bodyAt0 t) (fun _ => bodyPost m Y tracked c t) := by
  rw [fin_N0 t]
  unfold bodyPre bodyPost
  rw [show (dats m Y 0 c).Φ (Fin.succ t0_0) = Pipeline.ΦD osem0 spec0 H0 (V m) c from rfl, show (dats m Y 0 c).Φ (Fin.castSucc t0_0) = Pipeline.ΦD osem0 spec0 H0 (V m) c from rfl]
  rw [Pipeline.ΦD_eq, scopedRest0_eq, ownSems00_eq, hbmPts0_eq]
  unfold Dat.owesAt Pipeline.owesWithin
  rw [show (dats m Y 0 c).owed (Fin.castSucc t0_0) = 0 from rfl, show (dats m Y 0 c).owed (Fin.succ t0_0) = 0 from rfl]
  have e0 : ∀ f, (owns (c : Thread nD τ) (st0_0 (F := F) t0_0) fullShare f : sProp 𝕄) = ((c : Thread nD τ).loc cc0_stg0_0 ↦{fullShare} f) := fun f => owns_whole (c : Thread nD τ) cc0_stg0_0 fullShare f
  have e1 : ∀ f, (owns (c : Thread nD τ) (st0_1 (F := F) t0_0) fullShare f : sProp 𝕄) = ((c : Thread nD τ).loc cc0_stg1_0 ↦{fullShare} f) := fun f => owns_whole (c : Thread nD τ) cc0_stg1_0 fullShare f
  have e2 : ∀ f, (owns (c : Thread nD τ) (st0_2 (F := F) t0_0) fullShare f : sProp 𝕄) = ((c : Thread nD τ).loc cc0_stg2_0 ↦{fullShare} f) := fun f => owns_whole (c : Thread nD τ) cc0_stg2_0 fullShare f
  have e3 : ∀ f, (owns (c : Thread nD τ) (st0_3 (F := F) t0_0) fullShare f : sProp 𝕄) = ((c : Thread nD τ).loc cc0_stg3_0 ↦{fullShare} f) := fun f => owns_whole (c : Thread nD τ) cc0_stg3_0 fullShare f
  have e4 : ∀ f, (owns (c : Thread nD τ) (st0_4 (F := F) t0_0) fullShare f : sProp 𝕄) = ((c : Thread nD τ).loc cc0_stg4_0 ↦{fullShare} f) := fun f => owns_whole (c : Thread nD τ) cc0_stg4_0 fullShare f
  have u0 : ∀ d, (owns (c : Thread nD τ) (st0_0 (F := F) t0_0) fullShare ((dats m Y 0 c).before 0 t0_0 d) : sProp 𝕄) ⊢ ((c : Thread nD τ).loc cc0_stg0_0 ↦{fullShare} V m c main_arg0) := fun d => by rw [before0]; exact of_eq (e0 (V m c main_arg0))
  have v0 : ((c : Thread nD τ).loc cc0_stg0_0 ↦{fullShare} V m c main_arg0 : sProp 𝕄) ⊢ owns (c : Thread nD τ) (st0_0 (F := F) t0_0) fullShare ((dats m Y 0 c).after 0 t0_0) := of_eq (e0 (V m c main_arg0)).symm
  have u1 : ∀ d, (owns (c : Thread nD τ) (st0_1 (F := F) t0_0) fullShare ((dats m Y 0 c).before 1 t0_0 d) : sProp 𝕄) ⊢ ((c : Thread nD τ).loc cc0_stg1_0 ↦{fullShare} V m c main_arg1) := fun d => by rw [before1]; exact of_eq (e1 (V m c main_arg1))
  have v1 : ((c : Thread nD τ).loc cc0_stg1_0 ↦{fullShare} V m c main_arg1 : sProp 𝕄) ⊢ owns (c : Thread nD τ) (st0_1 (F := F) t0_0) fullShare ((dats m Y 0 c).after 1 t0_0) := of_eq (e1 (V m c main_arg1)).symm
  have u2 : ∀ d, (owns (c : Thread nD τ) (st0_2 (F := F) t0_0) fullShare ((dats m Y 0 c).before 2 t0_0 d) : sProp 𝕄) ⊢ ((c : Thread nD τ).loc cc0_stg2_0 ↦{fullShare} V m c main_arg2) := fun d => by rw [before2]; exact of_eq (e2 (V m c main_arg2))
  have v2 : ((c : Thread nD τ).loc cc0_stg2_0 ↦{fullShare} V m c main_arg2 : sProp 𝕄) ⊢ owns (c : Thread nD τ) (st0_2 (F := F) t0_0) fullShare ((dats m Y 0 c).after 2 t0_0) := of_eq (e2 (V m c main_arg2)).symm
  have u3 : ∀ d, (owns (c : Thread nD τ) (st0_3 (F := F) t0_0) fullShare ((dats m Y 0 c).before 3 t0_0 d) : sProp 𝕄) ⊢ ((c : Thread nD τ).loc cc0_stg3_0 ↦{fullShare} V m c main_arg3) := fun d => by rw [before3]; exact of_eq (e3 (V m c main_arg3))
  have v3 : ((c : Thread nD τ).loc cc0_stg3_0 ↦{fullShare} V m c main_arg3 : sProp 𝕄) ⊢ owns (c : Thread nD τ) (st0_3 (F := F) t0_0) fullShare ((dats m Y 0 c).after 3 t0_0) := of_eq (e3 (V m c main_arg3)).symm
  have u4 : ∀ f, (owns (c : Thread nD τ) (st0_4 (F := F) t0_0) fullShare f : sProp 𝕄) ⊢ ((c : Thread nD τ).loc cc0_stg4_0 ↦{fullShare} f) := fun f => of_eq (e4 f)
  have v4 : ∀ f, ((c : Thread nD τ).loc cc0_stg4_0 ↦{fullShare} f : sProp 𝕄) ⊢ owns (c : Thread nD τ) (st0_4 (F := F) t0_0) fullShare f := fun f => of_eq (e4 f).symm
  iintro ⟨⟨⟨HS0, HS1, HS2, HS3, HS4⟩, Hg, ⟨Q0, Q1, Q2, Q3, Q4, Q5, Q6, Q7⟩, Ha4, Ha5⟩, ⟨%W, -, HW⟩, ⟨%d0, H0⟩, ⟨%d1, H1⟩, ⟨%d2, H2⟩, ⟨%d3, H3⟩, ⟨%d4, H4⟩⟩
  ihave H0 := (u0 _) $$ H0
  ihave H1 := (u1 _) $$ H1
  ihave H2 := (u2 _) $$ H2
  ihave H3 := (u3 _) $$ H3
  ihave H4 := (u4 _) $$ H4
  iapply (wp_wand_r Idealize.ShloMosaic.frame (wpE (defs₀ (F := F)) 𝒱₀ (c : Thread nD τ) none) Set.univ)
  isplitr [Hg]
  · iapply (body_wp c (G c) (V m c main_arg0) (hG c) (V m c main_arg1) (V m c main_arg2) (V m c main_arg3) (V m c main_arg4) (V m c main_arg5) tracked (Y c) (hv c))
    unfold Held
    rw [sems7_eq, sems8_eq]
    isplitl [HW]; · iexists W; iexact HW
    isplitl [H0]; · iexact H0
    isplitl [H1]; · iexact H1
    isplitl [H2]; · iexact H2
    isplitl [H3]; · iexact H3
    isplitl [H4]
    · iexists d4
      isplitl [H4]; · iexact H4
      ipureintro; trivial
    isplitl [HS0]; · iexact HS0
    isplitl [HS1]; · iexact HS1
    isplitl [HS2]; · iexact HS2
    isplitl [HS3]; · iexact HS3
    isplitl [HS4]; · iexact HS4
    isplitl [Ha4]; · iexact Ha4
    isplitl [Ha5]; · iexact Ha5
    isplitl [Q0 Q1 Q2 Q3]
    · isplitl [Q0]; · iexact Q0
      isplitl [Q1]; · iexact Q1
      isplitl [Q2]; · iexact Q2
      iexact Q3
    isplitl [Q4]; · iexact Q4
    isplitl [Q5]; · iexact Q5
    isplitl [Q6]; · iexact Q6
    iexact Q7
  iintro %u HH
  unfold Held
  rw [sems7_eq, sems8_eq]
  icases HH with ⟨⟨%W', HW⟩, H0, H1, H2, H3, ⟨%f6, H4, %hf6⟩, HS0, HS1, HS2, HS3, HS4, Ha4, Ha5, ⟨Q0, Q1, Q2, Q3⟩, Q4, Q5, Q6, Q7⟩
  isplitl [HS0 HS1 HS2 HS3 HS4 Hg Q0 Q1 Q2 Q3 Q4 Q5 Q6 Q7 Ha4 Ha5]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]; · iexact Hg
    isplitl [Q0 Q1 Q2 Q3 Q4 Q5 Q6 Q7]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      iexact Q7
    isplitl [Ha4]; · iexact Ha4
    iexact Ha5
  isplitl [HW]
  · iexists W'; isplitr; · ipureintro; exact fun _ _ => Or.inl trivial
    iexact HW
  isplitl [H0]; · iapply v0; iexact H0
  isplitl [H1]; · iapply v1; iexact H1
  isplitl [H2]; · iapply v2; iexact H2
  isplitl [H3]; · iapply v3; iexact H3
  iexists f6
  isplitr; · ipureintro; exact hf6
  iapply (v4 f6); iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The result's window, whose contents the frame does not name. -/
def fgt : Fin (cfg0 (F := F)).W → Bool := ![false, false, false, false, true]

theorem forget_post (c : Dev nD) (t : Fin (cfg0 (F := F)).N) : bodyPost m Y tracked c t
    ⊢ iprop((dats m Y 0 c).Φ t.succ ∗ (dats m Y 0 c).owesAt () t.succ
      ∗ owns (c : Thread nD τ) (st0_0 t) fullShare ((dats m Y 0 c).after 0 t)
      ∗ owns (c : Thread nD τ) (st0_1 t) fullShare ((dats m Y 0 c).after 1 t)
      ∗ owns (c : Thread nD τ) (st0_2 t) fullShare ((dats m Y 0 c).after 2 t)
      ∗ owns (c : Thread nD τ) (st0_3 t) fullShare ((dats m Y 0 c).after 3 t)
      ∗ (∃ X, owns (c : Thread nD τ) (st0_4 t) fullShare X)) := by
  unfold bodyPost
  iintro ⟨HP, HO, H0, H1, H2, H3, ⟨%X, -, H4⟩⟩
  isplitl [HP]; · iexact HP
  isplitl [HO]; · iexact HO
  isplitl [H0]; · iexact H0
  isplitl [H1]; · iexact H1
  isplitl [H2]; · iexact H2
  isplitl [H3]; · iexact H3
  iexists X; iexact H4

theorem exact_post (c : Dev nD) (t : Fin (cfg0 (F := F)).N) (ht : tracked) : bodyPost m Y tracked c t
    ⊢ iprop((dats m Y 0 c).Φ t.succ ∗ (dats m Y 0 c).owesAt () t.succ
      ∗ owns (c : Thread nD τ) (st0_0 t) fullShare ((dats m Y 0 c).after 0 t)
      ∗ owns (c : Thread nD τ) (st0_1 t) fullShare ((dats m Y 0 c).after 1 t)
      ∗ owns (c : Thread nD τ) (st0_2 t) fullShare ((dats m Y 0 c).after 2 t)
      ∗ owns (c : Thread nD τ) (st0_3 t) fullShare ((dats m Y 0 c).after 3 t)
      ∗ owns (c : Thread nD τ) (st0_4 t) fullShare ((dats m Y 0 c).after 4 t)) := by
  unfold bodyPost
  iintro ⟨HP, HO, H0, H1, H2, H3, ⟨%X, %hX, H4⟩⟩
  obtain rfl := hX ht
  isplitl [HP]; · iexact HP
  isplitl [HO]; · iexact HO
  isplitl [H0]; · iexact H0
  isplitl [H1]; · iexact H1
  isplitl [H2]; · iexact H2
  isplitl [H3]; · iexact H3
  iexact H4

theorem exact_pre (c : Dev nD) (t : Fin (cfg0 (F := F)).N) :
    iprop((dats m Y 0 c).Φ t.castSucc ∗ (dats m Y 0 c).owesAt () t.castSucc
    ∗ (∃ d, owns (c : Thread nD τ) (st0_0 t) fullShare ((dats m Y 0 c).before 0 t d))
    ∗ (∃ d, owns (c : Thread nD τ) (st0_1 t) fullShare ((dats m Y 0 c).before 1 t d))
    ∗ (∃ d, owns (c : Thread nD τ) (st0_2 t) fullShare ((dats m Y 0 c).before 2 t d))
    ∗ (∃ d, owns (c : Thread nD τ) (st0_3 t) fullShare ((dats m Y 0 c).before 3 t d))
    ∗ (∃ d, owns (c : Thread nD τ) (st0_4 t) fullShare ((dats m Y 0 c).before 4 t d))) ⊢ bodyPre m Y c t := by
  unfold bodyPre
  iintro ⟨HP, HO, H0, H1, H2, H3, ⟨%d, H4⟩⟩
  isplitl [HP]; · iexact HP
  isplitl [HO]; · iexact HO
  isplitl [H0]; · iexact H0
  isplitl [H1]; · iexact H1
  isplitl [H2]; · iexact H2
  isplitl [H3]; · iexact H3
  iexists _; iexact H4

include hG hv in
theorem body_forget (c : Dev nD) : Pipeline.BodyObligationLoose (dats (F := F) m Y 0 c) (defs₀ (F := F)) 𝒱₀ () Set.univ (fgt (F := F)) := fun t => by
  rw [bigSep_W0, bigSep_W0, defs₀_row]
  exact triple_restated (sound_body m Y G hG tracked hv c t) rfl .rfl fun _ => forget_post m Y tracked c t

include hG hv in
theorem body_exact (ht : tracked) (c : Dev nD) : BodyObligation (dats (F := F) m Y 0 c) (defs₀ (F := F)) 𝒱₀ () Set.univ := fun t => by
  rw [bigSep_W0, bigSep_W0, defs₀_row]
  exact triple_restated (sound_body m Y G hG tracked hv c t) rfl (exact_pre m Y c t) fun _ => exact_post m Y tracked c t ht

/-! ## The runs -/

include hG hv in
set_option backward.isDefEq.respectTransparency.types false in
theorem run_forget : θ_run defs (onTc (τ := τ) (main (F := F))) ⟨m, fun _ => 0, ρ⟩ (fun r => RDat.FramePost (cfg0 (F := F)) (fun c => (dats m Y 0 c).toRForget (fgt (F := F))) (V m) r ∧ r.2.sem = fun _ => 0) :=
  Pipeline.θ_run_frame_dma_forget (Q' := _) cfgs (dats m Y) (0 : Fin 1) launch0 osem0 defs₀ 𝒱₀ (fgt (F := F)) ownSemFacts0 H0 H0_sub m ρ main
    (hbody := fun c => body_forget m Y G hG tracked hv c) (hshare := fun c => (dats m Y 0 c).share_full fun _ => rfl)
    (howed := fun _ _ => rfl) (V := V m) (hmain := hmain m 𝒱₀) (hA := A_eq m Y)
    (hin := fun _ => .rfl) (hout := fun _ => .rfl)

include hG hv in
set_option backward.isDefEq.respectTransparency.types false in
theorem run_exact (ht : tracked) : θ_run defs (onTc (τ := τ) (main (F := F))) ⟨m, fun _ => 0, ρ⟩ (fun r => Pipeline.FramePost cfgs (dats m Y) 0 (V m) r ∧ r.2.sem = fun _ => 0) :=
  Pipeline.θ_run_frame_dma (Q' := _) cfgs (dats m Y) (0 : Fin 1) launch0 osem0 defs₀ 𝒱₀ ownSemFacts0 H0 H0_sub m ρ main
    (hbody := fun c => (body_exact m Y G hG tracked hv ht c).loose) (hshare := fun c => (dats m Y 0 c).share_full fun _ => rfl)
    (howed := fun _ _ => rfl) (V := V m) (hmain := hmain m 𝒱₀) (hA := A_eq m Y)
    (hin := fun _ => .rfl) (hout := fun _ => .rfl)

theorem rest4 : main_arg4 ∈ Pipeline.restRefs sig spec0 := Pipeline.mem_restRefs_of main_arg4 (by decide) (by decide)
theorem rest5 : main_arg5 ∈ Pipeline.restRefs sig spec0 := Pipeline.mem_restRefs_of main_arg5 (by decide) (by decide)

/-- Every argument ends as it began. -/
def Kept (r : PUnit × MemSt nD τ sig (Elt F)) : Prop := (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0

include hG hv in
/-- THE FRAME: the program runs and ends quiescent, its arguments unchanged. -/
theorem frame_forget : θ_run defs (onTc (τ := τ) (main (F := F))) ⟨m, fun _ => 0, ρ⟩ (Kept m) :=
  (θ_run defs _ _).mono (fun r h => ⟨fun c => ⟨
      (congrFun (RDat.ArrAt_in ((dats m Y 0 c).toRForget (fgt (F := F))) 0 rfl _) _).mp ((h.1 c).1 0),
      (congrFun (RDat.ArrAt_in ((dats m Y 0 c).toRForget (fgt (F := F))) 1 rfl _) _).mp ((h.1 c).1 1),
      (congrFun (RDat.ArrAt_in ((dats m Y 0 c).toRForget (fgt (F := F))) 2 rfl _) _).mp ((h.1 c).1 2),
      (congrFun (RDat.ArrAt_in ((dats m Y 0 c).toRForget (fgt (F := F))) 3 rfl _) _).mp ((h.1 c).1 3),
      (h.1 c).2 main_arg4 rest4,
      (h.1 c).2 main_arg5 rest5⟩, h.2⟩) (run_forget m ρ Y G hG tracked hv)

include hG hv in
/-- THE RUN WITH ITS RESULT: the result ends at `Y`, the arguments unchanged, the machine quiescent. -/
theorem frame_exact (ht : tracked) : θ_run defs (onTc (τ := τ) (main (F := F))) ⟨m, fun _ => 0, ρ⟩
    (fun r => Kept m r ∧ ∀ c : Dev nD, r.2.mem ((c.tc : Thread nD τ).loc main_v0) = Y c) :=
  (θ_run defs _ _).mono (fun r h => ⟨⟨fun c => ⟨
      ((h.1 c).1 0).trans ((dats m Y 0 c).arrAt_in 0 rfl _),
      ((h.1 c).1 1).trans ((dats m Y 0 c).arrAt_in 1 rfl _),
      ((h.1 c).1 2).trans ((dats m Y 0 c).arrAt_in 2 rfl _),
      ((h.1 c).1 3).trans ((dats m Y 0 c).arrAt_in 3 rfl _),
      (h.1 c).2 main_arg4 rest4,
      (h.1 c).2 main_arg5 rest5⟩, h.2⟩,
      fun c => ((h.1 c).1 4).trans (arr4 m Y c)⟩) (run_exact m ρ Y G hG tracked hv ht)

end Cert.Kernel.KL
-- ==== Proof.IKA.lean ====
/- The words the kernel computes — trip counts, offsets, guards and side conditions — as plain natural numbers. -/
module

public import proofs.«01_k».proof.Proof.Gen.KernelIdeal.Skeleton

@[expose] public section

set_option maxRecDepth 100000
set_option maxHeartbeats 4000000

namespace Cert.KernelIdeal.KA

open Idealize.ShloMosaic Cert.KernelIdeal

/-- The 32-bit word of a natural number. -/
abbrev W (n : ℕ) : BitVec 32 := BitVec.ofNat 32 n

theorem trips2 : ∀ n : Fin 12, (k0_t2_loop (W n.val)).trips = 5 * n.val := by decide +kernel
theorem trips6 : ∀ n : Fin 12, (k0_t6_loop (W n.val)).trips = 0 := by decide +kernel
theorem trips1 : k0_t1_loop.trips = 11 := by decide +kernel
theorem trips3 : k0_t3_loop.trips = 24 := by decide +kernel
theorem trips4 : k0_t4_loop.trips = 24 := by decide +kernel
theorem trips5 : k0_t5_loop.trips = 24 := by decide +kernel

theorem chk6 : ∀ n : Fin 12, k0_chk6 (W n.val) := by decide +kernel

theorem cond1 : ∀ n : Fin 12, 1 ≤ n.val → k0_cond1 (W n.val) = 1#1 := by decide +kernel
theorem cond2 : ∀ n : Fin 12, 1 ≤ n.val → k0_cond2 (W n.val) = 1#1 := by decide +kernel
theorem cond3 : ∀ n : Fin 12, 1 ≤ n.val → k0_cond3 (W n.val) = 1#1 := by decide +kernel
theorem cond4 : ∀ n : Fin 12, 1 ≤ n.val → k0_cond4 (W n.val) = 1#1 := by decide +kernel

theorem cond5 : ∀ (n : Fin 12) (t : Fin (k0_t2_loop (W n.val)).trips), (k0_cond5 (W n.val) t = 1#1) ↔ t.val + 4 < 5 * n.val := by decide +kernel

theorem off1 : ∀ k : Fin k0_t1_loop.trips, k0_off1 k = ![k.val] := by decide +kernel
theorem off3 : ∀ k : Fin k0_t1_loop.trips, k0_off3 k = ![k.val] := by decide +kernel
theorem off2 : ∀ n : Fin 12, k0_off2 (W n.val) = ![n.val] := by decide +kernel
theorem chk1 : ∀ n : Fin 12, k0_chk1 (W n.val) := by decide +kernel
theorem iv1 : ∀ k : Fin k0_t1_loop.trips, (Scf.iv 0#32 1#32 k) = W k.val := by decide +kernel

theorem off4 : k0_off4 = ![0] := by decide +kernel
theorem off11 : k0_off11 = ![0] := by decide +kernel
theorem off18 : k0_off18 = ![0] := by decide +kernel
theorem off25 : k0_off25 = ![0] := by decide +kernel
theorem off5 : k0_off5 = ![0] := by decide +kernel
theorem off12 : k0_off12 = ![1] := by decide +kernel
theorem off19 : k0_off19 = ![2] := by decide +kernel
theorem off26 : k0_off26 = ![3] := by decide +kernel
theorem off8 : k0_off8 = ![0] := by decide +kernel
theorem off15 : k0_off15 = ![1] := by decide +kernel
theorem off22 : k0_off22 = ![2] := by decide +kernel
theorem off29 : k0_off29 = ![3] := by decide +kernel
theorem off6 : k0_off6 = ![0, 0, 0] := by decide +kernel
theorem off13 : k0_off13 = ![1, 0, 0] := by decide +kernel
theorem off20 : k0_off20 = ![2, 0, 0] := by decide +kernel
theorem off27 : k0_off27 = ![3, 0, 0] := by decide +kernel
theorem off9 : k0_off9 = ![0, 0, 0] := by decide +kernel
theorem off16 : k0_off16 = ![1, 0, 0] := by decide +kernel
theorem off23 : k0_off23 = ![2, 0, 0] := by decide +kernel
theorem off30 : k0_off30 = ![3, 0, 0] := by decide +kernel
theorem off7 : ∀ e : Fin 11, k0_off7 (W e.val) = ![e.val, 0, 0] := by decide +kernel
theorem off14 : ∀ e : Fin 11, k0_off14 (W e.val) = ![e.val, 0, 512] := by decide +kernel
theorem off21 : ∀ e : Fin 11, k0_off21 (W e.val) = ![e.val, 0, 1024] := by decide +kernel
theorem off28 : ∀ e : Fin 11, k0_off28 (W e.val) = ![e.val, 0, 1536] := by decide +kernel
theorem off10 : ∀ e : Fin 11, k0_off10 (W e.val) = ![e.val, 0, 0] := by decide +kernel
theorem off17 : ∀ e : Fin 11, k0_off17 (W e.val) = ![e.val, 0, 512] := by decide +kernel
theorem off24 : ∀ e : Fin 11, k0_off24 (W e.val) = ![e.val, 0, 1024] := by decide +kernel
theorem off31 : ∀ e : Fin 11, k0_off31 (W e.val) = ![e.val, 0, 1536] := by decide +kernel

/-- A window of packed weights is whole words: its rows are all the array's rows. -/
theorem words7 (off : Fin 3 → ℕ) (h : off 1 = 0) (hinb : ∀ a, off a + S1x3072x512.size a ≤ S11x3072x2560.size a) :
    (Rect.unit (s := S11x3072x2560) off S1x3072x512.size hinb).WholeWords (EltTy.packing .i8) :=
  .inr ⟨by decide, rfl, h, rfl⟩

theorem words8 (off : Fin 3 → ℕ) (h : off 1 = 0) (hinb : ∀ a, off a + S1x384x512.size a ≤ S11x384x2560.size a) :
    (Rect.unit (s := S11x384x2560) off S1x384x512.size hinb).WholeWords (EltTy.packing .fp8e4m3) :=
  .inr ⟨by decide, rfl, h, rfl⟩

theorem inb7 (off : Fin 3 → ℕ) (e : Fin 11) (cb : Fin 5) (h : off = ![e.val, 0, cb.val * 512]) : ∀ a, off a + S1x3072x512.size a ≤ S11x3072x2560.size a := by
  subst h; revert e cb; decide +kernel

theorem inb8 (off : Fin 3 → ℕ) (e : Fin 11) (cb : Fin 5) (h : off = ![e.val, 0, cb.val * 512]) : ∀ a, off a + S1x384x512.size a ≤ S11x384x2560.size a := by
  subst h; revert e cb; decide +kernel

theorem chk2 (v1 : BitVec 32) (e : Fin 11) : k0_chk2 v1 (W e.val) :=
  ⟨fun _ => inb7 _ e 0 (off7 e), fun _ => words7 _ (by rw [off7]; rfl), fun _ => inb8 _ e 0 (off10 e), fun _ => words8 _ (by rw [off10]; rfl)⟩
theorem chk3 (v1 : BitVec 32) (e : Fin 11) : k0_chk3 v1 (W e.val) :=
  ⟨fun _ => inb7 _ e 1 (off14 e), fun _ => words7 _ (by rw [off14]; rfl), fun _ => inb8 _ e 1 (off17 e), fun _ => words8 _ (by rw [off17]; rfl)⟩
theorem chk4 (v1 : BitVec 32) (e : Fin 11) : k0_chk4 v1 (W e.val) :=
  ⟨fun _ => inb7 _ e 2 (off21 e), fun _ => words7 _ (by rw [off21]; rfl), fun _ => inb8 _ e 2 (off24 e), fun _ => words8 _ (by rw [off24]; rfl)⟩
theorem chk5 (v1 : BitVec 32) (e : Fin 11) : k0_chk5 v1 (W e.val) :=
  ⟨fun _ => inb7 _ e 3 (off28 e), fun _ => words7 _ (by rw [off28]; rfl), fun _ => inb8 _ e 3 (off31 e), fun _ => words8 _ (by rw [off31]; rfl)⟩

/-! ## The chunk loop -/

theorem off32 : ∀ (n : Fin 12) (t : Fin (k0_t2_loop (W n.val)).trips), k0_off32 (W n.val) t = ![t.val / 5] := by decide +kernel
theorem off39 : ∀ (n : Fin 12) (t : Fin (k0_t2_loop (W n.val)).trips), k0_off39 (W n.val) t = ![t.val / 5] := by decide +kernel
theorem off56 : ∀ (n : Fin 12) (t : Fin (k0_t2_loop (W n.val)).trips), k0_cond5 (W n.val) t = 1#1 → k0_off56 (W n.val) t = ![(t.val + 4) / 5] := by decide +kernel
theorem off33 : ∀ (n : Fin 12) (t : Fin (k0_t2_loop (W n.val)).trips), k0_off33 (W n.val) t = ![t.val % 4] := by decide +kernel
theorem off36 : ∀ (n : Fin 12) (t : Fin (k0_t2_loop (W n.val)).trips), k0_off36 (W n.val) t = ![t.val % 4] := by decide +kernel
theorem off57 : ∀ (n : Fin 12) (t : Fin (k0_t2_loop (W n.val)).trips), k0_off57 (W n.val) t = ![t.val % 4] := by decide +kernel
theorem off60 : ∀ (n : Fin 12) (t : Fin (k0_t2_loop (W n.val)).trips), k0_off60 (W n.val) t = ![t.val % 4] := by decide +kernel
theorem off34 : ∀ (n : Fin 12) (t : Fin (k0_t2_loop (W n.val)).trips), k0_off34 (W n.val) t = ![t.val % 4, 0, 0] := by decide +kernel
theorem off37 : ∀ (n : Fin 12) (t : Fin (k0_t2_loop (W n.val)).trips), k0_off37 (W n.val) t = ![t.val % 4, 0, 0] := by decide +kernel
theorem off43 : ∀ (n : Fin 12) (t : Fin (k0_t2_loop (W n.val)).trips), k0_off43 (W n.val) t = ![t.val % 4, 0, 0] := by decide +kernel
theorem off58 : ∀ (n : Fin 12) (t : Fin (k0_t2_loop (W n.val)).trips), k0_off58 (W n.val) t = ![t.val % 4, 0, 0] := by decide +kernel
theorem off61 : ∀ (n : Fin 12) (t : Fin (k0_t2_loop (W n.val)).trips), k0_off61 (W n.val) t = ![t.val % 4, 0, 0] := by decide +kernel

theorem off35_0 : ∀ (n : Fin 12) (t : Fin (k0_t2_loop (W n.val)).trips), k0_off35 (W n.val) t 0#32 = ![0, 0, (t.val % 5) * 512] := by decide +kernel
theorem off38_0 : ∀ (n : Fin 12) (t : Fin (k0_t2_loop (W n.val)).trips), k0_off38 (W n.val) t 0#32 = ![0, 0, (t.val % 5) * 512] := by decide +kernel
theorem off59_0 : ∀ (n : Fin 12) (t : Fin (k0_t2_loop (W n.val)).trips), k0_off59 (W n.val) t 0#32 = ![0, 0, ((t.val + 4) % 5) * 512] := by decide +kernel
theorem off62_0 : ∀ (n : Fin 12) (t : Fin (k0_t2_loop (W n.val)).trips), k0_off62 (W n.val) t 0#32 = ![0, 0, ((t.val + 4) % 5) * 512] := by decide +kernel

theorem toNat_W {n : ℕ} (h : n < 2 ^ 32) : (W n).toNat = n := by rw [BitVec.toNat_ofNat]; exact Nat.mod_eq_of_lt h

theorem off35 (n : Fin 12) (t : Fin (k0_t2_loop (W n.val)).trips) (e : Fin 11) : k0_off35 (W n.val) t (W e.val) = ![e.val, 0, (t.val % 5) * 512] := by
  have h := congrFun (off35_0 n t) 2
  funext a; fin_cases a
  · exact toNat_W (by omega)
  · rfl
  · exact h
theorem off38 (n : Fin 12) (t : Fin (k0_t2_loop (W n.val)).trips) (e : Fin 11) : k0_off38 (W n.val) t (W e.val) = ![e.val, 0, (t.val % 5) * 512] := by
  have h := congrFun (off38_0 n t) 2
  funext a; fin_cases a
  · exact toNat_W (by omega)
  · rfl
  · exact h
theorem off59 (n : Fin 12) (t : Fin (k0_t2_loop (W n.val)).trips) (e : Fin 11) : k0_off59 (W n.val) t (W e.val) = ![e.val, 0, ((t.val + 4) % 5) * 512] := by
  have h := congrFun (off59_0 n t) 2
  funext a; fin_cases a
  · exact toNat_W (by omega)
  · rfl
  · exact h
theorem off62 (n : Fin 12) (t : Fin (k0_t2_loop (W n.val)).trips) (e : Fin 11) : k0_off62 (W n.val) t (W e.val) = ![e.val, 0, ((t.val + 4) % 5) * 512] := by
  have h := congrFun (off62_0 n t) 2
  funext a; fin_cases a
  · exact toNat_W (by omega)
  · rfl
  · exact h

theorem chk7 (n : Fin 12) (t : Fin (k0_t2_loop (W n.val)).trips) (e : Fin 11) : k0_chk7 (W n.val) t (W e.val) :=
  ⟨inb7 _ e ⟨t.val % 5, Nat.mod_lt _ (by omega)⟩ (off35 n t e), words7 _ (by rw [off35]; rfl),
    inb8 _ e ⟨t.val % 5, Nat.mod_lt _ (by omega)⟩ (off38 n t e), words8 _ (by rw [off38]; rfl)⟩
theorem chk10 (n : Fin 12) (t : Fin (k0_t2_loop (W n.val)).trips) (e : Fin 11) : k0_chk10 (W n.val) t (W e.val) :=
  ⟨fun _ => inb7 _ e ⟨(t.val + 4) % 5, Nat.mod_lt _ (by omega)⟩ (off59 n t e), fun _ => words7 _ (by rw [off59]; rfl),
    fun _ => inb8 _ e ⟨(t.val + 4) % 5, Nat.mod_lt _ (by omega)⟩ (off62 n t e), fun _ => words8 _ (by rw [off62]; rfl)⟩

theorem chk8 : ∀ e : Fin 11, k0_chk8 (W e.val) := by decide +kernel
theorem off40 : ∀ e : Fin 11, k0_off40 (W e.val) = ![e.val] := by decide +kernel
theorem off41 : ∀ e : Fin 11, k0_off41 (W e.val) = ![e.val + 1] := by decide +kernel
theorem off42 : ∀ e : Fin 11, k0_off42 (W e.val) = ![e.val] := by decide +kernel

/-! ## The windows of a chunk -/

theorem kmul128 : ∀ k : Fin k0_t3_loop.trips, (Scalar.indexCast (Scalar.muli (Scf.iv 0#32 1#32 k) 128#32)).toNat = k.val * 128 := by decide +kernel
theorem kmul128' : ∀ k : Fin k0_t4_loop.trips, (Scalar.indexCast (Scalar.muli (Scf.iv 0#32 1#32 k) 128#32)).toNat = k.val * 128 := by decide +kernel
theorem kmul128'' : ∀ k : Fin k0_t5_loop.trips, (Scalar.indexCast (Scalar.muli (Scf.iv 0#32 1#32 k) 128#32)).toNat = k.val * 128 := by decide +kernel

theorem off44 (n : Fin 12) (t : Fin (k0_t2_loop (W n.val)).trips) (k : Fin k0_t3_loop.trips) : k0_off44 (W n.val) t k = ![t.val % 4, k.val * 128, 0] := by
  have h := congrFun (off43 n t) 0
  funext a; fin_cases a
  · exact h
  · exact kmul128 k
  · rfl
theorem off48 (n : Fin 12) (t : Fin (k0_t2_loop (W n.val)).trips) (k : Fin k0_t4_loop.trips) : k0_off48 (W n.val) t k = ![t.val % 4, k.val * 128, 0] := by
  have h := congrFun (off43 n t) 0
  funext a; fin_cases a
  · exact h
  · exact kmul128' k
  · rfl
theorem off52 (n : Fin 12) (t : Fin (k0_t2_loop (W n.val)).trips) (k : Fin k0_t5_loop.trips) : k0_off52 (W n.val) t k = ![t.val % 4, k.val * 128, 0] := by
  have h := congrFun (off43 n t) 0
  funext a; fin_cases a
  · exact h
  · exact kmul128'' k
  · rfl

theorem off45 : ∀ (k : Fin k0_t3_loop.trips) (b : Fin 16), k0_off45 k (BitVec.ofNat 32 b.val) = ![k.val * 16 + b.val, 0] := by decide +kernel
theorem off49 : ∀ (k : Fin k0_t4_loop.trips) (b : Fin 16), k0_off49 k (BitVec.ofNat 32 b.val) = ![k.val * 16 + b.val, 0] := by decide +kernel
theorem off53 : ∀ (k : Fin k0_t5_loop.trips) (b : Fin 16), k0_off53 k (BitVec.ofNat 32 b.val) = ![k.val * 16 + b.val, 0] := by decide +kernel

theorem off46 : ∀ (i : Fin 64) (k : Fin k0_t3_loop.trips), k0_off46 (W (16 * i.val)) k = ![min (16 * i.val) 896, k.val * 256] := by decide +kernel
theorem off50 : ∀ (i : Fin 64) (k : Fin k0_t4_loop.trips), k0_off50 (W (16 * i.val)) k = ![min (16 * i.val) 832, k.val * 256] := by decide +kernel
theorem off54 : ∀ (i : Fin 64) (k : Fin k0_t5_loop.trips), k0_off54 (W (16 * i.val)) k = ![min (16 * i.val) 752, k.val * 256] := by decide +kernel

theorem off47 (n : Fin 12) (t : Fin (k0_t2_loop (W n.val)).trips) (i : Fin 64) : k0_off47 (W n.val) t (W (16 * i.val)) = ![min (16 * i.val) 896, (t.val % 5) * 512] := by
  have h0 := congrFun (off46 i ⟨0, by decide +kernel⟩) 0
  have h1 := congrFun (off35_0 n t) 2
  funext a; fin_cases a
  · exact h0
  · exact h1
theorem off51 (n : Fin 12) (t : Fin (k0_t2_loop (W n.val)).trips) (i : Fin 64) : k0_off51 (W n.val) t (W (16 * i.val)) = ![min (16 * i.val) 832, (t.val % 5) * 512] := by
  have h0 := congrFun (off50 i ⟨0, by decide +kernel⟩) 0
  have h1 := congrFun (off35_0 n t) 2
  funext a; fin_cases a
  · exact h0
  · exact h1
theorem off55 (n : Fin 12) (t : Fin (k0_t2_loop (W n.val)).trips) (i : Fin 64) : k0_off55 (W n.val) t (W (16 * i.val)) = ![min (16 * i.val) 752, (t.val % 5) * 512] := by
  have h0 := congrFun (off54 i ⟨0, by decide +kernel⟩) 0
  have h1 := congrFun (off35_0 n t) 2
  funext a; fin_cases a
  · exact h0
  · exact h1

theorem mult6 : ∀ i : Fin 64, 16 ∣ (k0_mult6 (W (16 * i.val))).toNat := by decide +kernel
theorem mult10 : ∀ i : Fin 64, 16 ∣ (k0_mult10 (W (16 * i.val))).toNat := by decide +kernel
theorem mult14 : ∀ i : Fin 64, 16 ∣ (k0_mult14 (W (16 * i.val))).toNat := by decide +kernel

theorem chk9 (n : Fin 12) (t : Fin (k0_t2_loop (W n.val)).trips) (i : Fin 64) : k0_chk9 (W n.val) t (W (16 * i.val)) := by
  have hm : t.val % 5 < 5 := Nat.mod_lt _ (by omega)
  refine ⟨mult6 i, fun k => ?_, ?_, mult10 i, fun k => ?_, ?_, mult14 i, fun k => ?_, ?_⟩
  · have hk : k.val < 24 := trips3 ▸ k.isLt
    rw [off46]; intro a; fin_cases a
    · show min (16 * i.val) 896 + 128 ≤ 1024; omega
    · show k.val * 256 + 256 ≤ 6144; omega
  · rw [off47]; intro a; fin_cases a
    · show min (16 * i.val) 896 + 128 ≤ 1024; omega
    · show t.val % 5 * 512 + 512 ≤ 2560; omega
  · have hk : k.val < 24 := trips4 ▸ k.isLt
    rw [off50]; intro a; fin_cases a
    · show min (16 * i.val) 832 + 192 ≤ 1024; omega
    · show k.val * 256 + 256 ≤ 6144; omega
  · rw [off51]; intro a; fin_cases a
    · show min (16 * i.val) 832 + 192 ≤ 1024; omega
    · show t.val % 5 * 512 + 512 ≤ 2560; omega
  · have hk : k.val < 24 := trips5 ▸ k.isLt
    rw [off54]; intro a; fin_cases a
    · show min (16 * i.val) 752 + 272 ≤ 1024; omega
    · show k.val * 256 + 256 ≤ 6144; omega
  · rw [off55]; intro a; fin_cases a
    · show min (16 * i.val) 752 + 272 ≤ 1024; omega
    · show t.val % 5 * 512 + 512 ≤ 2560; omega

/-- The first window's base: the group's first row rounded down to a multiple of 16. -/
theorem base0 : ∀ lo : Fin 1025,
    Scalar.muli (Scalar.select (Scalar.andi (Scalar.cmpi .ne
      (Scalar.subi (Scalar.extui (Scalar.cmpi .sgt (W lo.val) 0#32) : BitVec 32) (Scalar.extui (Scalar.cmpi .slt (W lo.val) 0#32)))
      (Scalar.subi (Scalar.extui (Scalar.cmpi .sgt 16#32 0#32)) (Scalar.extui (Scalar.cmpi .slt 16#32 0#32))))
      (Scalar.cmpi .ne (Scalar.remsi (W lo.val) 16#32) 0#32))
      (Scalar.subi (Scalar.divsi (W lo.val) 16#32) 1#32) (Scalar.divsi (W lo.val) 16#32)) 16#32 = W (16 * (lo.val / 16)) := by decide +kernel

theorem slt_W {a b : ℕ} (ha : a ≤ 2048) (hb : b ≤ 2048) : Scalar.cmpi .slt (W a) (W b) = if a < b then 1#1 else 0#1 := by
  have : (W a).slt (W b) = decide (a < b) := by
    rw [BitVec.slt_eq_decide, BitVec.toInt_eq_toNat_of_lt, BitVec.toInt_eq_toNat_of_lt] <;> simp only [W, BitVec.toNat_ofNat] <;>
      rw [Nat.mod_eq_of_lt (by omega)]
    · rw [Nat.mod_eq_of_lt (by omega)]; simp
    · omega
    · omega
  show BitVec.ofBool ((W a).slt (W b)) = _
  rw [this]; by_cases h : a < b <;> simp [h]

theorem sub_W {a b : ℕ} (h : b ≤ a) (ha : a ≤ 2048) : Scalar.subi (W a) (W b) = W (a - b) := by
  show W a - W b = W (a - b)
  apply BitVec.eq_of_toNat_eq
  rw [BitVec.toNat_sub]; simp only [W, BitVec.toNat_ofNat]; omega
theorem add_W {a b : ℕ} : Scalar.addi (W a) (W b) = W (a + b) := by
  show W a + W b = W (a + b)
  exact (BitVec.ofNat_add a b).symm

theorem left1 : ∀ d : Fin 1025, (Scalar.cmpi .ne (Scalar.extui (Scalar.andi (Scalar.cmpi .sgt (W d.val) 0#32) (Scalar.cmpi .sle (W d.val) 128#32)) : BitVec 32) 0#32 = 1#1) ↔ (0 < d.val ∧ d.val ≤ 128) := by decide +kernel
theorem left2 : ∀ d : Fin 1025, (Scalar.cmpi .ne (Scalar.extui (Scalar.andi (Scalar.cmpi .sgt (W d.val) 128#32) (Scalar.cmpi .sle (W d.val) 192#32)) : BitVec 32) 0#32 = 1#1) ↔ (128 < d.val ∧ d.val ≤ 192) := by decide +kernel
theorem left3 : ∀ d : Fin 1025, (Scalar.cmpi .ne (Scalar.extui (Scalar.andi (Scalar.cmpi .sgt (W d.val) 192#32) 1#1) : BitVec 32) 0#32 = 1#1) ↔ 192 < d.val := by decide +kernel

end Cert.KernelIdeal.KA
-- ==== Proof.IKD.lean ====
/- The kernel's ring of four slots: what a copy into a slot and the wait for it do, slot by slot.

   A slot of a ring is the slot's part of the buffer, a read share of the array the copies read, and the slot's
   semaphore at zero. Between a copy and its wait all of it is with the copy, but for the part of the array outside
   the window read. -/
module

public import proofs.«01_k».proof.Proof.IKA
public import proofs.«01_k».proof.Proof.Gen.KernelIdeal.Launch
public import proofs.«01_k».proof.Proof.Gen.KernelIdeal.Points
public import Idealize.ShloMosaic.Lib.Pipeline.FrameBody
public import Idealize.ShloMosaic.Lib.Pointwise
public import Idealize.ShloMosaic.Lib.Transfers
public import Idealize.ShloMosaic.Lib.Ring
public import Idealize.ShloMosaic.Lib.Tactic
public import Idealize.ShloMosaic.Lib.ViewIndex

@[expose] public section

set_option maxRecDepth 8192
set_option maxHeartbeats 1000000

noncomputable section

namespace Cert.KernelIdeal.KD

open Cert.KernelIdeal Cert.KernelIdeal.Gen Cert.KernelIdeal.KA
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the transfers' counters. -/
local notation "𝕄" => MT nD τ sig Unit (Elt F) ℕ (Pipeline.UD sig nD τ) ℕ

/-- The embedding of the transfers' counters. -/
local notation "EC" => (countersEmb (U := Pipeline.UD sig nD τ))

/-- Variants: natural numbers, for the loop over windows. -/
abbrev 𝒱₀ : Variants := Variants.nat

variable (c : Dev nD)

theorem S1_in_S4 (s : Fin 4) : ∀ a, (![s.val] : Fin 1 → ℕ) a + S1.size a ≤ S4.size a := by
  intro a; fin_cases a; show s.val + 1 ≤ 4; omega

/-! ## The ring of packed weights -/

theorem inbS7 (s : Fin 4) : ∀ a, (![s.val, 0, 0] : Fin 3 → ℕ) a + S1x3072x512.size a ≤ S4x3072x512.size a := by
  intro a; fin_cases a
  · show s.val + 1 ≤ 4; omega
  · show 0 + 3072 ≤ 3072; omega
  · show 0 + 512 ≤ 512; omega

/-- Slot `s` of the ring. -/
abbrev slot7 (s : Fin 4) : Memref sig .tc .vmem S3072x512 .i8 :=
  ((Memref.whole cc0_scratch0 : Memref sig .tc .vmem S4x3072x512 .i8).slice (Rect.unit (s := S4x3072x512) ![s.val, 0, 0] S1x3072x512.size (inbS7 s)) (fun _ => rfl)).squeeze S3072x512 squeezes_S1x3072x512_S3072x512

/-- The window of expert `e`'s column block `cb`. -/
abbrev src7 (e : Fin 11) (cb : Fin 5) : Memref sig .tc .hbm S3072x512 .i8 :=
  ((Memref.whole main_arg4 : Memref sig .tc .hbm S11x3072x2560 .i8).slice (Rect.unit (s := S11x3072x2560) ![e.val, 0, cb.val * 512] S1x3072x512.size (inb7 _ e cb rfl)) (fun _ => rfl)).squeeze S3072x512 squeezes_S1x3072x512_S3072x512

/-- The slot's semaphore. -/
abbrev sem7 (s : Fin 4) : DmaSem sig :=
  ((cc0_scratch5.slice (Rect.unit (s := S4) ![s.val] S1.size (S1_in_S4 s))).squeeze S_ squeezes_S1_S_).sem

/-- The slot's part of the buffer. -/
def set7 (s : Fin 4) : Finset S4x3072x512.Idx := Finset.univ.filter fun x => (x 0).val = s.val

theorem mem_set7 (s : Fin 4) (x : S4x3072x512.Idx) : x ∈ set7 s ↔ (x 0).val = s.val := by
  unfold set7; rw [Finset.mem_filter]; exact ⟨fun h => h.2, fun h => ⟨Finset.mem_univ _, h⟩⟩

theorem slot7_set (s : Fin 4) : (slot7 s).view.set = set7 s := by
  ext x
  rw [mem_set7]
  have h : (slot7 s).view.set = (Rect.unit (s := S4x3072x512) ![s.val, 0, 0] S1x3072x512.size (inbS7 s)).set := by
    refine (View.set_reshape _ _).trans ?_
    exact View.set_slice_whole cc0_scratch0 _
  rw [h]
  refine Iff.trans Rect.mem_set_unit ?_
  constructor
  · intro h
    have h0 := h 0
    have h1 : s.val ≤ (x 0).val ∧ (x 0).val < s.val + 1 := h0
    omega
  · intro h a
    match a with
    | ⟨0, _⟩ => exact (⟨by omega, by omega⟩ : s.val ≤ (x 0).val ∧ (x 0).val < s.val + 1)
    | ⟨1, _⟩ => exact (⟨Nat.zero_le _, by have := (x 1).isLt; have h1 : (x 1).val < 3072 := this; omega⟩ : 0 ≤ (x 1).val ∧ (x 1).val < 0 + 3072)
    | ⟨2, _⟩ => exact (⟨Nat.zero_le _, by have := (x 2).isLt; have h1 : (x 2).val < 512 := this; omega⟩ : 0 ≤ (x 2).val ∧ (x 2).val < 0 + 512)

/-- The index of expert `e`, row `i`, column `q` of block `cb`. -/
abbrev wix7 (e : Fin 11) (cb : Fin 5) (i : Fin 3072) (q : Fin 512) : S11x3072x2560.Idx :=
  ix3 e i ⟨cb.val * 512 + q.val, by omega⟩

/-- What a landed copy leaves in its slot. -/
theorem landed7 (s : Fin 4) (e : Fin 11) (cb : Fin 5) (fd : (cc0_scratch0 : Ref sig .tc).ty.Contents (Elt F)) (fs : (main_arg4 : Ref sig .tc).ty.Contents (Elt F))
    (i : Fin 3072) (q : Fin 512) :
    (slot7 s).view.write (Elt F) fd ((ReadAs.same : ReadAs (Elt F) S3072x512 .i8 S3072x512 .i8).apply ((src7 e cb).view.read (Elt F) fs)) Finset.univ (ix3 s i q)
      = fs (wix7 e cb i q) := by
  obtain ⟨y, hy⟩ := (Shape.reshapeEquiv (s := S1x3072x512) (s' := S3072x512) squeezes_S1x3072x512_S3072x512.numel_eq).surjective (ix3 0 i q)
  have hd : (slot7 s).view.emb y = (ix3 s i q : S4x3072x512.Idx) := by
    show (Rect.unit (s := S4x3072x512) ![s.val, 0, 0] S1x3072x512.size (inbS7 s)).emb (Shape.reshapeEquiv _ y) = _
    rw [hy]
    funext a; apply Fin.ext; fin_cases a
    · show s.val + 1 * 0 = s.val; omega
    · show 0 + 1 * i.val = i.val; omega
    · show 0 + 1 * q.val = q.val; omega
  have hs : (src7 e cb).view.emb y = (wix7 e cb i q : S11x3072x2560.Idx) := by
    show (Rect.unit (s := S11x3072x2560) ![e.val, 0, cb.val * 512] S1x3072x512.size (inb7 _ e cb rfl)).emb (Shape.reshapeEquiv _ y) = _
    rw [hy]
    funext a; apply Fin.ext; fin_cases a
    · show e.val + 1 * 0 = e.val; omega
    · show 0 + 1 * i.val = i.val; omega
    · show cb.val * 512 + 1 * q.val = cb.val * 512 + q.val; omega
  rw [← hd]
  refine (View.write_emb_of_mem (v := (slot7 s).view) (Val := Elt F) fd _ (Finset.mem_univ y)).trans ?_
  rw [← hs]; rfl

/-- The slot's own read share of the array. -/
def tok7 (fs : Buf (Elt F) ((c : Thread nD τ).loc main_arg4)) (s : Fin 4) : sProp 𝕄 :=
  (c : Thread nD τ).loc main_arg4 ↦[Finset.univ]{Transfers.shareTok fullShare 4 s} fs

/-- A free slot. -/
def Idle7 (fs : Buf (Elt F) ((c : Thread nD τ).loc main_arg4)) (s : Fin 4) : sProp 𝕄 :=
  iprop((∃ f : Buf (Elt F) ((c : Thread nD τ).loc cc0_scratch0), (c : Thread nD τ).loc cc0_scratch0 ↦[set7 s]{fullShare} f) ∗ tok7 c fs s ∗ semVal ((c : Thread nD τ), SemLoc.dma (sem7 s)) 0)

/-- A slot holding a chunk. -/
def Full7 (fs : Buf (Elt F) ((c : Thread nD τ).loc main_arg4)) (s : Fin 4) (e : Fin 11) (cb : Fin 5) : sProp 𝕄 :=
  iprop((∃ f : Buf (Elt F) ((c : Thread nD τ).loc cc0_scratch0), ((c : Thread nD τ).loc cc0_scratch0 ↦[set7 s]{fullShare} f) ∗ ⌜∀ i q, f (ix3 s i q) = fs (wix7 e cb i q)⌝)
    ∗ tok7 c fs s ∗ semVal ((c : Thread nD τ), SemLoc.dma (sem7 s)) 0)

/-- A slot whose copy is under way. -/
def Pend7 (fs : Buf (Elt F) ((c : Thread nD τ).loc main_arg4)) (s : Fin 4) (e : Fin 11) (cb : Fin 5) : sProp 𝕄 :=
  iprop(Transfers.Flight EC (c : Thread nD τ) (SemLoc.dma (sem7 s)) () (slot7 s).view.dmaCredit
      iprop((∃ f : Buf (Elt F) ((c : Thread nD τ).loc cc0_scratch0), ((c : Thread nD τ).loc cc0_scratch0 ↦[set7 s]{fullShare} f) ∗ ⌜∀ i q, f (ix3 s i q) = fs (wix7 e cb i q)⌝)
        ∗ ((c : Thread nD τ).loc main_arg4 ↦[(src7 e cb).view.set]{Transfers.shareTok fullShare 4 s} fs))
    ∗ ((c : Thread nD τ).loc main_arg4 ↦[Finset.univ \ (src7 e cb).view.set]{Transfers.shareTok fullShare 4 s} fs))

theorem full_idle7 (fs : Buf (Elt F) ((c : Thread nD τ).loc main_arg4)) (s : Fin 4) (e : Fin 11) (cb : Fin 5) :
    Full7 c fs s e cb ⊢ Idle7 c fs s := by
  unfold Full7 Idle7
  iintro ⟨⟨%f, Hf, -⟩, H⟩
  isplitl [Hf]
  · iexists f; iexact Hf
  · iexact H

/-- Starting a copy into a free slot. -/
theorem enq7 {α : Type} {Q : α → sProp 𝕄} (bd : Option 𝒱₀.V) (fs : Buf (Elt F) ((c : Thread nD τ).loc main_arg4)) (s : Fin 4) (e : Fin 11) (cb : Fin 5)
    (dst : Memref sig .tc .vmem S3072x512 .i8) (hd : dst = slot7 s) (src : Memref sig .tc .hbm S3072x512 .i8) (hs : src = src7 e cb)
    (sm : DmaSem sig) (hm : sm = sem7 s) {hsrc : src.view.WordExact} {hdst : dst.view.WordExact}
    {hsem : DmaTarget.Typed (nD := nD) (τ := τ) (p := (c : Thread nD τ).2) Space.hbm (SemLoc.dma sm) (.here dst)}
    {k : PUnit → Prog (TpuEff nD τ sig (Elt F) (Λ₀ F) .tc) α} :
    Idle7 c fs s ⊢ iprop((Pend7 c fs s e cb -∗ wp frame (wpE (defs₀ (F := F)) 𝒱₀ (c : Thread nD τ) bd) Set.univ (k ⟨⟩) Q)
      -∗ wp frame (wpE (defs₀ (F := F)) 𝒱₀ (c : Thread nD τ) bd) Set.univ (.op (TpuEff.enqueueDma src (.here dst) (.dma sm) hsrc hdst hsem) k) Q) := by
  subst hd hs hm
  unfold Idle7 tok7
  iintro ⟨⟨%f, Hf⟩, Ht, Hv⟩ Hk
  ihave Ht := (pointsTo_split_subset (Finset.subset_univ (src7 e cb).view.set)).1 $$ Ht
  icases Ht with ⟨Ht, Hr⟩
  iapply (Transfers.wp_dmaLocal EC 𝒱₀ (c : Thread nD τ) bd (src := src7 e cb) (dst := slot7 s) (sm := SemLoc.dma (sem7 s)) (via := .same) (Sd := set7 s) (fd := f) (fs := fs)
      () (slot7 s).view.dmaCredit rfl ((slot7 s).view.dmaCredit_pos (by decide)) (by rw [slot7_set])) $$ [Ht Hf Hv]
  · isplitl [Ht]; · iexact Ht
    isplitl [Hf]; · iexact Hf
    iexact Hv
  iintro Hfl
  iapply Hk
  unfold Pend7
  isplitl [Hfl]
  · iapply (Transfers.Flight_mono EC (c : Thread nD τ) ?_) $$ Hfl
    iintro ⟨Hf, Ht⟩
    isplitl [Hf]
    · iexists _
      isplitl [Hf]; · iexact Hf
      ipureintro; exact fun i q => landed7 s e cb f fs i q
    · iexact Ht
  · iexact Hr

/-- Waiting for a slot's copy. -/
theorem wait7 {α : Type} {Q : α → sProp 𝕄} (bd : Option 𝒱₀.V) (fs : Buf (Elt F) ((c : Thread nD τ).loc main_arg4)) (s : Fin 4) (e : Fin 11) (cb : Fin 5)
    (dst : Memref sig .tc .vmem S3072x512 .i8) (hd : dst = slot7 s) (src : Memref sig .tc .hbm S3072x512 .i8)
    (sm : DmaSem sig) (hm : sm = sem7 s) {hsrc : src.view.WordExact} {hdst : dst.view.WordExact}
    {k : PUnit → Prog (TpuEff nD τ sig (Elt F) (Λ₀ F) .tc) α} {Wt : Waits sig Unit} :
    iprop(Pend7 c fs s e cb ∗ owes (c : Thread nD τ) 0 Wt) ⊢ iprop((iprop(Full7 c fs s e cb ∗ owes (c : Thread nD τ) 0 (insert (SemLoc.dma sm, ()) Wt)) -∗ wp frame (wpE (defs₀ (F := F)) 𝒱₀ (c : Thread nD τ) bd) Set.univ (k ⟨⟩) Q)
      -∗ wp frame (wpE (defs₀ (F := F)) 𝒱₀ (c : Thread nD τ) bd) Set.univ (.op (TpuEff.waitDma2 sm src dst hsrc hdst) k) Q) := by
  subst hd hm
  unfold Pend7
  iintro ⟨⟨Hfl, Hr⟩, HO⟩ Hk
  iapply (Transfers.wp_waitLocal EC 𝒱₀ (c : Thread nD τ) bd () (N := (slot7 s).view.dmaCredit) rfl) $$ [Hfl HO]
  · isplitl [Hfl]; · iexact Hfl
    iexact HO
  iintro ⟨⟨Hf, Ht⟩, Hv, HO⟩
  iapply Hk
  isplitl [Hf Ht Hr Hv]
  · unfold Full7 tok7
    isplitl [Hf]; · iexact Hf
    isplitl [Ht Hr]
    · iapply (pointsTo_split_subset (Finset.subset_univ (src7 e cb).view.set)).2
      isplitl [Ht]; · iexact Ht
      iexact Hr
    · iexact Hv
  · iexact HO

/-! ## The ring of weight scales -/

theorem inbS8 (s : Fin 4) : ∀ a, (![s.val, 0, 0] : Fin 3 → ℕ) a + S1x384x512.size a ≤ S4x384x512.size a := by
  intro a; fin_cases a
  · show s.val + 1 ≤ 4; omega
  · show 0 + 384 ≤ 384; omega
  · show 0 + 512 ≤ 512; omega

/-- Slot `s` of the ring. -/
abbrev slot8 (s : Fin 4) : Memref sig .tc .vmem S384x512 .fp8e4m3 :=
  ((Memref.whole cc0_scratch1 : Memref sig .tc .vmem S4x384x512 .fp8e4m3).slice (Rect.unit (s := S4x384x512) ![s.val, 0, 0] S1x384x512.size (inbS8 s)) (fun _ => rfl)).squeeze S384x512 squeezes_S1x384x512_S384x512

/-- The window of expert `e`'s column block `cb`. -/
abbrev src8 (e : Fin 11) (cb : Fin 5) : Memref sig .tc .hbm S384x512 .fp8e4m3 :=
  ((Memref.whole main_arg5 : Memref sig .tc .hbm S11x384x2560 .fp8e4m3).slice (Rect.unit (s := S11x384x2560) ![e.val, 0, cb.val * 512] S1x384x512.size (inb8 _ e cb rfl)) (fun _ => rfl)).squeeze S384x512 squeezes_S1x384x512_S384x512

/-- The slot's semaphore. -/
abbrev sem8 (s : Fin 4) : DmaSem sig :=
  ((cc0_scratch6.slice (Rect.unit (s := S4) ![s.val] S1.size (S1_in_S4 s))).squeeze S_ squeezes_S1_S_).sem

/-- The slot's part of the buffer. -/
def set8 (s : Fin 4) : Finset S4x384x512.Idx := Finset.univ.filter fun x => (x 0).val = s.val

theorem mem_set8 (s : Fin 4) (x : S4x384x512.Idx) : x ∈ set8 s ↔ (x 0).val = s.val := by
  unfold set8; rw [Finset.mem_filter]; exact ⟨fun h => h.2, fun h => ⟨Finset.mem_univ _, h⟩⟩

theorem slot8_set (s : Fin 4) : (slot8 s).view.set = set8 s := by
  ext x
  rw [mem_set8]
  have h : (slot8 s).view.set = (Rect.unit (s := S4x384x512) ![s.val, 0, 0] S1x384x512.size (inbS8 s)).set := by
    refine (View.set_reshape _ _).trans ?_
    exact View.set_slice_whole cc0_scratch1 _
  rw [h]
  refine Iff.trans Rect.mem_set_unit ?_
  constructor
  · intro h
    have h0 := h 0
    have h1 : s.val ≤ (x 0).val ∧ (x 0).val < s.val + 1 := h0
    omega
  · intro h a
    match a with
    | ⟨0, _⟩ => exact (⟨by omega, by omega⟩ : s.val ≤ (x 0).val ∧ (x 0).val < s.val + 1)
    | ⟨1, _⟩ => exact (⟨Nat.zero_le _, by have := (x 1).isLt; have h1 : (x 1).val < 384 := this; omega⟩ : 0 ≤ (x 1).val ∧ (x 1).val < 0 + 384)
    | ⟨2, _⟩ => exact (⟨Nat.zero_le _, by have := (x 2).isLt; have h1 : (x 2).val < 512 := this; omega⟩ : 0 ≤ (x 2).val ∧ (x 2).val < 0 + 512)

/-- The index of expert `e`, row `i`, column `q` of block `cb`. -/
abbrev wix8 (e : Fin 11) (cb : Fin 5) (i : Fin 384) (q : Fin 512) : S11x384x2560.Idx :=
  ix3 e i ⟨cb.val * 512 + q.val, by omega⟩

/-- What a landed copy leaves in its slot. -/
theorem landed8 (s : Fin 4) (e : Fin 11) (cb : Fin 5) (fd : (cc0_scratch1 : Ref sig .tc).ty.Contents (Elt F)) (fs : (main_arg5 : Ref sig .tc).ty.Contents (Elt F))
    (i : Fin 384) (q : Fin 512) :
    (slot8 s).view.write (Elt F) fd ((ReadAs.same : ReadAs (Elt F) S384x512 .fp8e4m3 S384x512 .fp8e4m3).apply ((src8 e cb).view.read (Elt F) fs)) Finset.univ (ix3 s i q)
      = fs (wix8 e cb i q) := by
  obtain ⟨y, hy⟩ := (Shape.reshapeEquiv (s := S1x384x512) (s' := S384x512) squeezes_S1x384x512_S384x512.numel_eq).surjective (ix3 0 i q)
  have hd : (slot8 s).view.emb y = (ix3 s i q : S4x384x512.Idx) := by
    show (Rect.unit (s := S4x384x512) ![s.val, 0, 0] S1x384x512.size (inbS8 s)).emb (Shape.reshapeEquiv _ y) = _
    rw [hy]
    funext a; apply Fin.ext; fin_cases a
    · show s.val + 1 * 0 = s.val; omega
    · show 0 + 1 * i.val = i.val; omega
    · show 0 + 1 * q.val = q.val; omega
  have hs : (src8 e cb).view.emb y = (wix8 e cb i q : S11x384x2560.Idx) := by
    show (Rect.unit (s := S11x384x2560) ![e.val, 0, cb.val * 512] S1x384x512.size (inb8 _ e cb rfl)).emb (Shape.reshapeEquiv _ y) = _
    rw [hy]
    funext a; apply Fin.ext; fin_cases a
    · show e.val + 1 * 0 = e.val; omega
    · show 0 + 1 * i.val = i.val; omega
    · show cb.val * 512 + 1 * q.val = cb.val * 512 + q.val; omega
  rw [← hd]
  refine (View.write_emb_of_mem (v := (slot8 s).view) (Val := Elt F) fd _ (Finset.mem_univ y)).trans ?_
  rw [← hs]; rfl

/-- The slot's own read share of the array. -/
def tok8 (fs : Buf (Elt F) ((c : Thread nD τ).loc main_arg5)) (s : Fin 4) : sProp 𝕄 :=
  (c : Thread nD τ).loc main_arg5 ↦[Finset.univ]{Transfers.shareTok fullShare 4 s} fs

/-- A free slot. -/
def Idle8 (fs : Buf (Elt F) ((c : Thread nD τ).loc main_arg5)) (s : Fin 4) : sProp 𝕄 :=
  iprop((∃ f : Buf (Elt F) ((c : Thread nD τ).loc cc0_scratch1), (c : Thread nD τ).loc cc0_scratch1 ↦[set8 s]{fullShare} f) ∗ tok8 c fs s ∗ semVal ((c : Thread nD τ), SemLoc.dma (sem8 s)) 0)

/-- A slot holding a chunk. -/
def Full8 (fs : Buf (Elt F) ((c : Thread nD τ).loc main_arg5)) (s : Fin 4) (e : Fin 11) (cb : Fin 5) : sProp 𝕄 :=
  iprop((∃ f : Buf (Elt F) ((c : Thread nD τ).loc cc0_scratch1), ((c : Thread nD τ).loc cc0_scratch1 ↦[set8 s]{fullShare} f) ∗ ⌜∀ i q, f (ix3 s i q) = fs (wix8 e cb i q)⌝)
    ∗ tok8 c fs s ∗ semVal ((c : Thread nD τ), SemLoc.dma (sem8 s)) 0)

/-- A slot whose copy is under way. -/
def Pend8 (fs : Buf (Elt F) ((c : Thread nD τ).loc main_arg5)) (s : Fin 4) (e : Fin 11) (cb : Fin 5) : sProp 𝕄 :=
  iprop(Transfers.Flight EC (c : Thread nD τ) (SemLoc.dma (sem8 s)) () (slot8 s).view.dmaCredit
      iprop((∃ f : Buf (Elt F) ((c : Thread nD τ).loc cc0_scratch1), ((c : Thread nD τ).loc cc0_scratch1 ↦[set8 s]{fullShare} f) ∗ ⌜∀ i q, f (ix3 s i q) = fs (wix8 e cb i q)⌝)
        ∗ ((c : Thread nD τ).loc main_arg5 ↦[(src8 e cb).view.set]{Transfers.shareTok fullShare 4 s} fs))
    ∗ ((c : Thread nD τ).loc main_arg5 ↦[Finset.univ \ (src8 e cb).view.set]{Transfers.shareTok fullShare 4 s} fs))

theorem full_idle8 (fs : Buf (Elt F) ((c : Thread nD τ).loc main_arg5)) (s : Fin 4) (e : Fin 11) (cb : Fin 5) :
    Full8 c fs s e cb ⊢ Idle8 c fs s := by
  unfold Full8 Idle8
  iintro ⟨⟨%f, Hf, -⟩, H⟩
  isplitl [Hf]
  · iexists f; iexact Hf
  · iexact H

/-- Starting a copy into a free slot. -/
theorem enq8 {α : Type} {Q : α → sProp 𝕄} (bd : Option 𝒱₀.V) (fs : Buf (Elt F) ((c : Thread nD τ).loc main_arg5)) (s : Fin 4) (e : Fin 11) (cb : Fin 5)
    (dst : Memref sig .tc .vmem S384x512 .fp8e4m3) (hd : dst = slot8 s) (src : Memref sig .tc .hbm S384x512 .fp8e4m3) (hs : src = src8 e cb)
    (sm : DmaSem sig) (hm : sm = sem8 s) {hsrc : src.view.WordExact} {hdst : dst.view.WordExact}
    {hsem : DmaTarget.Typed (nD := nD) (τ := τ) (p := (c : Thread nD τ).2) Space.hbm (SemLoc.dma sm) (.here dst)}
    {k : PUnit → Prog (TpuEff nD τ sig (Elt F) (Λ₀ F) .tc) α} :
    Idle8 c fs s ⊢ iprop((Pend8 c fs s e cb -∗ wp frame (wpE (defs₀ (F := F)) 𝒱₀ (c : Thread nD τ) bd) Set.univ (k ⟨⟩) Q)
      -∗ wp frame (wpE (defs₀ (F := F)) 𝒱₀ (c : Thread nD τ) bd) Set.univ (.op (TpuEff.enqueueDma src (.here dst) (.dma sm) hsrc hdst hsem) k) Q) := by
  subst hd hs hm
  unfold Idle8 tok8
  iintro ⟨⟨%f, Hf⟩, Ht, Hv⟩ Hk
  ihave Ht := (pointsTo_split_subset (Finset.subset_univ (src8 e cb).view.set)).1 $$ Ht
  icases Ht with ⟨Ht, Hr⟩
  iapply (Transfers.wp_dmaLocal EC 𝒱₀ (c : Thread nD τ) bd (src := src8 e cb) (dst := slot8 s) (sm := SemLoc.dma (sem8 s)) (via := .same) (Sd := set8 s) (fd := f) (fs := fs)
      () (slot8 s).view.dmaCredit rfl ((slot8 s).view.dmaCredit_pos (by decide)) (by rw [slot8_set])) $$ [Ht Hf Hv]
  · isplitl [Ht]; · iexact Ht
    isplitl [Hf]; · iexact Hf
    iexact Hv
  iintro Hfl
  iapply Hk
  unfold Pend8
  isplitl [Hfl]
  · iapply (Transfers.Flight_mono EC (c : Thread nD τ) ?_) $$ Hfl
    iintro ⟨Hf, Ht⟩
    isplitl [Hf]
    · iexists _
      isplitl [Hf]; · iexact Hf
      ipureintro; exact fun i q => landed8 s e cb f fs i q
    · iexact Ht
  · iexact Hr

/-- Waiting for a slot's copy. -/
theorem wait8 {α : Type} {Q : α → sProp 𝕄} (bd : Option 𝒱₀.V) (fs : Buf (Elt F) ((c : Thread nD τ).loc main_arg5)) (s : Fin 4) (e : Fin 11) (cb : Fin 5)
    (dst : Memref sig .tc .vmem S384x512 .fp8e4m3) (hd : dst = slot8 s) (src : Memref sig .tc .hbm S384x512 .fp8e4m3)
    (sm : DmaSem sig) (hm : sm = sem8 s) {hsrc : src.view.WordExact} {hdst : dst.view.WordExact}
    {k : PUnit → Prog (TpuEff nD τ sig (Elt F) (Λ₀ F) .tc) α} {Wt : Waits sig Unit} :
    iprop(Pend8 c fs s e cb ∗ owes (c : Thread nD τ) 0 Wt) ⊢ iprop((iprop(Full8 c fs s e cb ∗ owes (c : Thread nD τ) 0 (insert (SemLoc.dma sm, ()) Wt)) -∗ wp frame (wpE (defs₀ (F := F)) 𝒱₀ (c : Thread nD τ) bd) Set.univ (k ⟨⟩) Q)
      -∗ wp frame (wpE (defs₀ (F := F)) 𝒱₀ (c : Thread nD τ) bd) Set.univ (.op (TpuEff.waitDma2 sm src dst hsrc hdst) k) Q) := by
  subst hd hm
  unfold Pend8
  iintro ⟨⟨Hfl, Hr⟩, HO⟩ Hk
  iapply (Transfers.wp_waitLocal EC 𝒱₀ (c : Thread nD τ) bd () (N := (slot8 s).view.dmaCredit) rfl) $$ [Hfl HO]
  · isplitl [Hfl]; · iexact Hfl
    iexact HO
  iintro ⟨⟨Hf, Ht⟩, Hv, HO⟩
  iapply Hk
  isplitl [Hf Ht Hr Hv]
  · unfold Full8 tok8
    isplitl [Hf]; · iexact Hf
    isplitl [Ht Hr]
    · iapply (pointsTo_split_subset (Finset.subset_univ (src8 e cb).view.set)).2
      isplitl [Ht]; · iexact Ht
      iexact Hr
    · iexact Hv
  · iexact HO

end Cert.KernelIdeal.KD

end
-- ==== Proof.IKW.lean ====
/- The kernel's window loop: one group's rows times one column block, window after window.

   A window reads the slot's packed weights and their scales, expands them sixteen rows at a time, multiplies, and
   writes the group's rows of the result. -/
module

public import proofs.«01_k».proof.Proof.IKD

@[expose] public section

set_option maxRecDepth 8192
set_option maxHeartbeats 1000000

noncomputable section

namespace Cert.KernelIdeal.KW

open Cert.KernelIdeal Cert.KernelIdeal.Gen Cert.KernelIdeal.KA Cert.KernelIdeal.KD
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the transfers' counters. -/
local notation "𝕄" => MT nD τ sig Unit (Elt F) ℕ (Pipeline.UD sig nD τ) ℕ

/-- The embedding of the transfers' counters. -/
local notation "EC" => (countersEmb (U := Pipeline.UD sig nD τ))

variable (c : Dev nD)

/-! ## What a window computes -/

/-- The `k`-th 128 packed rows. -/
def r7 (D : Fin 3072 → Fin 512 → Elt F .i8) (k : ℕ) : Vec F S1x128x512 .i8 :=
  fun x => D ⟨(k * 128 + (x 1).val) % 3072, Nat.mod_lt _ (by omega)⟩ ⟨(x 2).val, (x 2).isLt⟩

/-- Row `r` of the scales. -/
def r9 (S : S384x512.Idx → F .f32) (r : ℕ) : Vec F S1x512 .f32 :=
  fun x => S (ix2 ⟨r % 384, Nat.mod_lt _ (by omega)⟩ ⟨(x 1).val, (x 1).isLt⟩)

/-- The bf16 weights of one trip: 128 packed rows expanded, each sixteen rows times their scale. -/
def wblk (v185 : Vec F S1x128x512 .i8) (s : ℕ → Vec F S1x512 .f32) : FVec F S256x512 .bf16 :=
  let v237 := k0_pay28 (k0_pay26 (F := F) v185) (k0_pay27 v185)
  let v239 := k0_pay29 (k0_pay25 (F := F) v185)
  let v258 := k0_pay30 (F := F) (k0_pay25 (F := F) v185)
  let v260 := k0_pay31 (k0_pay25 (F := F) v185)
  let v292 := k0_pay32 v237 v239 v258 v260
  k0_pay44 v292 (k0_pay33 v237 v239 v258 v260 (s 0)) (k0_pay34 v292 (s 1)) (k0_pay35 v292 (s 2)) (k0_pay36 v292 (s 3)) (k0_pay37 v292 (s 4)) (k0_pay38 v292 (s 5))
    (k0_pay39 v292 (s 6)) (k0_pay40 v292 (s 7)) (k0_pay41 v292 (s 8)) (k0_pay42 v292 (s 9)) (k0_pay43 v292 (s 10)) (s 11) (s 12) (s 13) (s 14) (s 15)

/-- What the window loop keeps of the result: the rows done hold `Y`, where the values are tracked. -/
def Good (tracked : Prop) (Y : S1024x2560.Idx → F .f32) (dn : S1024x2560.Idx → Prop) (f : S1024x2560.Idx → F .f32) : Prop :=
  tracked → ∀ x, dn x → f x = Y x

theorem minsi_W {a b : ℕ} (ha : a ≤ 2048) (hb : b ≤ 2048) : Scalar.minsi (W a) (W b) = W (min a b) := by
  have h := slt_W ha hb
  show (if (W a).slt (W b) then W a else W b) = _
  have h' : (W a).slt (W b) = decide (a < b) := by
    have h2 : BitVec.ofBool ((W a).slt (W b)) = if a < b then 1#1 else 0#1 := h
    by_cases hl : a < b
    · rw [if_pos hl] at h2
      cases hs : (W a).slt (W b) with
      | true => simp [hl]
      | false => rw [hs] at h2; exact absurd h2 (by decide)
    · rw [if_neg hl] at h2
      cases hs : (W a).slt (W b) with
      | true => rw [hs] at h2; exact absurd h2 (by decide)
      | false => simp [hl]
  rw [h']
  by_cases hl : a < b
  · rw [decide_eq_true hl, if_pos rfl, Nat.min_eq_left (Nat.le_of_lt hl)]
  · rw [decide_eq_false hl, if_neg (by decide), Nat.min_eq_right (Nat.le_of_not_lt hl)]

theorem sge_W {a b : ℕ} (ha : a ≤ 2048) (hb : b ≤ 2048) : Scalar.cmpi .sge (W a) (W b) = if b ≤ a then 1#1 else 0#1 := by
  have : (W b).sle (W a) = decide (b ≤ a) := by
    rw [BitVec.sle_eq_decide, BitVec.toInt_eq_toNat_of_lt, BitVec.toInt_eq_toNat_of_lt] <;> simp only [W, BitVec.toNat_ofNat] <;>
      rw [Nat.mod_eq_of_lt (by omega)]
    · rw [Nat.mod_eq_of_lt (by omega)]; simp
    · omega
    · omega
  show BitVec.ofBool ((W b).sle (W a)) = _
  rw [this]; by_cases h : b ≤ a <;> simp [h]

theorem mask_W {a lo hi : ℕ} (ha : a ≤ 2048) (hlo : lo ≤ 2048) (hhi : hi ≤ 2048) :
    Scalar.andi (Scalar.cmpi .sge (W a) (W lo)) (Scalar.cmpi .slt (W a) (W hi)) = if lo ≤ a ∧ a < hi then 1#1 else 0#1 := by
  rw [sge_W ha hlo, slt_W ha hhi]
  by_cases h1 : lo ≤ a <;> by_cases h2 : a < hi <;> simp [h1, h2] <;> rfl

/-! ## The loads -/

section Loads

variable (c : Dev nD)

/-- A load of 128 packed rows from slot `s`. -/
theorem read7 (s : Fin 4) (k : ℕ) (hk : k < 24) (off : Fin 3 → ℕ) (hoff : off = ![s.val, k * 128, 0]) (inb)
    (f : Buf (Elt F) ((c : Thread nD τ).loc cc0_scratch0)) (D : Fin 3072 → Fin 512 → Elt F .i8) (hD : ∀ i q, f (ix3 s i q) = D i q) :
    (Memref.whole cc0_scratch0 : Memref sig .tc .vmem S4x3072x512 .i8).view.readAt (Elt F) (Rect.unit (s := S4x3072x512) off S1x128x512.size inb).toLoadRect f = r7 D k := by
  subst hoff
  funext x
  have h0 : (x 0).val < 1 := (x 0).isLt
  have h1 : (x 1).val < 128 := (x 1).isLt
  show f ((Rect.unit (s := S4x3072x512) ![s.val, k * 128, 0] S1x128x512.size inb).emb x) = _
  unfold r7; rw [← hD]
  congr 1
  funext a; apply Fin.ext; fin_cases a
  · show s.val + 1 * (x 0).val = s.val; omega
  · show k * 128 + 1 * (x 1).val = (k * 128 + (x 1).val) % 3072
    rw [Nat.mod_eq_of_lt (by omega)]; omega
  · show 0 + 1 * (x 2).val = (x 2).val; omega

/-- The rows of the buffer a load of 128 packed rows reads are the slot's. -/
theorem sub7 (s : Fin 4) (k : ℕ) (off : Fin 3 → ℕ) (hoff : off = ![s.val, k * 128, 0]) (inb) :
    (Memref.whole cc0_scratch0 : Memref sig .tc .vmem S4x3072x512 .i8).view.setOn (Rect.unit (s := S4x3072x512) off S1x128x512.size inb).toLoadRect.set ⊆ set7 s := by
  subst hoff
  intro y hy
  rw [View.setOn, Finset.mem_map] at hy
  obtain ⟨z, hz, rfl⟩ := hy
  have hz' : z ∈ (Rect.unit (s := S4x3072x512) ![s.val, k * 128, 0] S1x128x512.size inb).set := hz
  rw [Rect.mem_set_unit] at hz'
  have h0 : s.val ≤ (z 0).val ∧ (z 0).val < s.val + 1 := hz' 0
  rw [mem_set7]
  show (z 0).val = s.val
  omega

/-- A load of one row of the scales. -/
theorem read9 (r : ℕ) (hr : r < 384) (off : Fin 2 → ℕ) (hoff : off = ![r, 0]) (inb) (f : Buf (Elt F) ((c : Thread nD τ).loc cc0_scratch2)) :
    (Memref.whole cc0_scratch2 : Memref sig .tc .vmem S384x512 .f32).view.readAt (Elt F) (Rect.unit (s := S384x512) off S1x512.size inb).toLoadRect f = r9 f r := by
  subst hoff
  funext x
  have h0 : (x 0).val < 1 := (x 0).isLt
  show f ((Rect.unit (s := S384x512) ![r, 0] S1x512.size inb).emb x) = _
  unfold r9
  congr 1
  funext a; apply Fin.ext; fin_cases a
  · show r + 1 * (x 0).val = r % 384
    rw [Nat.mod_eq_of_lt hr]; omega
  · show 0 + 1 * (x 1).val = (x 1).val; omega

/-- The `k`-th 256 columns of the activations' 128 rows from `w0`. -/
def r3_128 (A : S1024x6144.Idx → F .bf16) (w0 k : ℕ) : Vec F S128x256 .bf16 :=
  fun x => A (ix2 ⟨(w0 + (x 0).val) % 1024, Nat.mod_lt _ (by omega)⟩ ⟨(k * 256 + (x 1).val) % 6144, Nat.mod_lt _ (by omega)⟩)

/-- The product of 128 rows after `k` trips. -/
def kl128 (D : Fin 3072 → Fin 512 → Elt F .i8) (S : S384x512.Idx → F .f32) (A : S1024x6144.Idx → F .bf16) (w0 : ℕ) : ℕ → FVec F S128x512 .f32
  | 0 => k0_pay3
  | k + 1 => k0_pay4 (kl128 D S A w0 k) (wblk (r7 D k) fun b => r9 S (k * 16 + b)) (r3_128 A w0 k)

/-- A load of the activations. -/
theorem read3_128 (w0 k : ℕ) (hw0 : w0 + 128 ≤ 1024) (hk : k < 24) (off : Fin 2 → ℕ) (hoff : off = ![w0, k * 256]) (inb) (f : Buf (Elt F) ((c : Thread nD τ).loc cc0_stg3_0)) :
    (Memref.whole cc0_stg3_0 : Memref sig .tc .vmem S1024x6144 .bf16).view.readAt (Elt F) (Rect.unit (s := S1024x6144) off S128x256.size inb).toLoadRect f = r3_128 f w0 k := by
  subst hoff
  funext x
  have h0 : (x 0).val < 128 := (x 0).isLt
  have h1 : (x 1).val < 256 := (x 1).isLt
  show f ((Rect.unit (s := S1024x6144) ![w0, k * 256] S128x256.size inb).emb x) = _
  unfold r3_128
  congr 1
  funext a; apply Fin.ext; fin_cases a
  · show w0 + 1 * (x 0).val = (w0 + (x 0).val) % 1024
    rw [Nat.mod_eq_of_lt (by omega)]; omega
  · show k * 256 + 1 * (x 1).val = (k * 256 + (x 1).val) % 6144
    rw [Nat.mod_eq_of_lt (by omega)]; omega

/-- A load of the result. -/
theorem read6_128 (w0 cb : ℕ) (off : Fin 2 → ℕ) (hoff : off = ![w0, cb * 512]) (inb) (f : Buf (Elt F) ((c : Thread nD τ).loc cc0_stg4_0)) (r : Fin 128) (q : Fin 512)
    (x : S1024x2560.Idx) (hx0 : (x 0).val = w0 + r.val) (hx1 : (x 1).val = cb * 512 + q.val) :
    (Memref.whole cc0_stg4_0 : Memref sig .tc .vmem S1024x2560 .f32).view.readAt (Elt F) (Rect.unit (s := S1024x2560) off S128x512.size inb).toLoadRect f (ix2 r q) = f x := by
  subst hoff
  show f ((Rect.unit (s := S1024x2560) ![w0, cb * 512] S128x512.size inb).emb (ix2 r q)) = _
  congr 1
  funext a; apply Fin.ext; fin_cases a
  · show w0 + 1 * r.val = (x 0).val; omega
  · show cb * 512 + 1 * q.val = (x 1).val; omega

/-- What a window of 128 rows stores, at an index: the product times the scale in the group's rows, what was there in the others. -/
theorem pay_128 (lo hi i : ℕ) (hlo : lo ≤ 1024) (hhi : hi ≤ 1024) (hi' : i < 64) (v98 : FVec F S1x1 .f32) (v162 v175 : FVec F S128x512 .f32) (r : Fin 128) (q : Fin 512) :
    k0_pay5 (W hi) (W lo) v98 (W (16 * i)) v162 v175 (ix2 r q)
      = if lo ≤ min (16 * i) 896 + r.val ∧ min (16 * i) 896 + r.val < hi then mulf v162 (broadcastTo S128x512 v98 broadcasts_S1x1_S128x512) (ix2 r q) else v175 (ix2 r q) := by
  have hm : Scalar.minsi (W (16 * i)) (W 896) = W (min (16 * i) 896) := minsi_W (by omega) (by omega)
  have hr := r.isLt
  have hmask := mask_W (a := min (16 * i) 896 + r.val) (lo := lo) (hi := hi) (by omega) (by omega) (by omega)
  have hs : shapeCast S128x512 v175 shapeCasts_S128x512_S128x512 (ix2 r q) = v175 (ix2 r q) := by
    pointwise []
  have hiota : (iota .tc S128x512 32 [0] iota_S128x512_d0_w32 : IVec S128x512 32) (ix2 r q) = W r.val := by
    pointwise []
  unfold k0_pay5
  show Scalar.select (Scalar.andi (Scalar.cmpi .sge (Scalar.addi (Scalar.minsi (W (16 * i)) (W 896)) ((iota .tc S128x512 32 [0] iota_S128x512_d0_w32 : IVec S128x512 32) (ix2 r q))) (W lo))
      (Scalar.cmpi .slt (Scalar.addi (Scalar.minsi (W (16 * i)) (W 896)) ((iota .tc S128x512 32 [0] iota_S128x512_d0_w32 : IVec S128x512 32) (ix2 r q))) (W hi)))
      (mulf v162 (broadcastTo S128x512 v98 broadcasts_S1x1_S128x512) (ix2 r q)) (shapeCast S128x512 v175 shapeCasts_S128x512_S128x512 (ix2 r q)) = _
  rw [hm, hiota, hs, add_W, hmask]
  by_cases h : lo ≤ min (16 * i) 896 + r.val ∧ min (16 * i) 896 + r.val < hi
  · rw [if_pos h, if_pos h]; rfl
  · rw [if_neg h, if_neg h]; rfl

/-- The store of a window of 128 rows keeps what was done and adds the group's rows of the window. -/
theorem store_128 (lo hi i cb : ℕ) (hlo : lo ≤ 1024) (hhi : hi ≤ 1024) (hi' : i < 64) (v98 : FVec F S1x1 .f32)
    (tracked : Prop) (Y : S1024x2560.Idx → F .f32) (dn : S1024x2560.Idx → Prop)
    (v162 : FVec F S128x512 .f32)
    (hval : tracked → ∀ (r : Fin 128) (q : Fin 512) (x : S1024x2560.Idx), (x 0).val = min (16 * i) 896 + r.val → (x 1).val = cb * 512 + q.val → lo ≤ (x 0).val → (x 0).val < hi →
      mulf v162 (broadcastTo S128x512 v98 broadcasts_S1x1_S128x512) (ix2 r q) = Y x)
    (off : Fin 2 → ℕ) (hoff : off = ![min (16 * i) 896, cb * 512]) (inb) (f : Buf (Elt F) ((c : Thread nD τ).loc cc0_stg4_0)) (hf : Good tracked Y dn f) :
    Good tracked Y (fun x => dn x ∨ (16 * i ≤ (x 0).val ∧ (x 0).val < 16 * i + 128 ∧ lo ≤ (x 0).val ∧ (x 0).val < hi ∧ cb * 512 ≤ (x 1).val ∧ (x 1).val < cb * 512 + 512))
      (((Memref.whole cc0_stg4_0 : Memref sig .tc .vmem S1024x2560 .f32).access (Rect.unit (s := S1024x2560) off S128x512.size inb)).write (Elt F) f
        (k0_pay5 (W hi) (W lo) v98 (W (16 * i)) v162 ((Memref.whole cc0_stg4_0 : Memref sig .tc .vmem S1024x2560 .f32).view.readAt (Elt F) (Rect.unit (s := S1024x2560) off S128x512.size inb).toLoadRect f)) Finset.univ) := by
  intro ht x hx
  have hx0 : (x 0).val < 1024 := (x 0).isLt
  have hw := View.write_whole_slice_unit cc0_stg4_0 off S128x512.size inb f
    (k0_pay5 (W hi) (W lo) v98 (W (16 * i)) v162 ((Memref.whole cc0_stg4_0 : Memref sig .tc .vmem S1024x2560 .f32).view.readAt (Elt F) (Rect.unit (s := S1024x2560) off S128x512.size inb).toLoadRect f))
  refine (congrFun hw x).trans ?_
  unfold updateSlice
  by_cases hin : min (16 * i) 896 ≤ (x 0).val ∧ (x 0).val < min (16 * i) 896 + 128 ∧ cb * 512 ≤ (x 1).val ∧ (x 1).val < cb * 512 + 512
  · have hin' : ∀ a, off a ≤ (x a).val ∧ (x a).val < off a + S128x512.size a := by
      subst hoff
      intro a
      match a with
      | ⟨0, _⟩ => exact (⟨hin.1, hin.2.1⟩ : min (16 * i) 896 ≤ (x 0).val ∧ (x 0).val < min (16 * i) 896 + 128)
      | ⟨1, _⟩ => exact (⟨hin.2.2.1, hin.2.2.2⟩ : cb * 512 ≤ (x 1).val ∧ (x 1).val < cb * 512 + 512)
    refine (dif_pos hin').trans ?_
    have hrq : (fun a => (⟨(x a).val - off a, by have := hin' a; omega⟩ : Fin (S128x512.size a))) = (ix2 ⟨(x 0).val - min (16 * i) 896, by omega⟩ ⟨(x 1).val - cb * 512, by omega⟩ : S128x512.Idx) := by
      subst hoff
      funext a; apply Fin.ext; fin_cases a <;> rfl
    refine (congrArg _ hrq).trans ?_
    rw [pay_128 lo hi i hlo hhi hi']
    have e0 : (x 0).val = min (16 * i) 896 + ((x 0).val - min (16 * i) 896) := by omega
    have e1 : (x 1).val = cb * 512 + ((x 1).val - cb * 512) := by omega
    by_cases hmk : lo ≤ (x 0).val ∧ (x 0).val < hi
    · rw [if_pos (by rw [← e0]; exact hmk)]
      exact hval ht _ _ x e0 e1 hmk.1 hmk.2
    · rw [if_neg (by rw [← e0]; exact hmk)]
      rw [read6_128 c (min (16 * i) 896) cb off hoff inb f _ _ x e0 e1]
      rcases hx with hx | hx
      · exact hf ht x hx
      · exact absurd ⟨hx.2.2.1, hx.2.2.2.1⟩ hmk
  · have hin' : ¬ ∀ a, off a ≤ (x a).val ∧ (x a).val < off a + S128x512.size a := by
      subst hoff
      intro h
      have h0 : min (16 * i) 896 ≤ (x 0).val ∧ (x 0).val < min (16 * i) 896 + 128 := h 0
      have h1 : cb * 512 ≤ (x 1).val ∧ (x 1).val < cb * 512 + 512 := h 1
      exact hin ⟨h0.1, h0.2, h1.1, h1.2⟩
    refine (dif_neg hin').trans ?_
    rcases hx with hx | hx
    · exact hf ht x hx
    · exact absurd (by omega) hin

/-- The `k`-th 256 columns of the activations' 192 rows from `w0`. -/
def r3_192 (A : S1024x6144.Idx → F .bf16) (w0 k : ℕ) : Vec F S192x256 .bf16 :=
  fun x => A (ix2 ⟨(w0 + (x 0).val) % 1024, Nat.mod_lt _ (by omega)⟩ ⟨(k * 256 + (x 1).val) % 6144, Nat.mod_lt _ (by omega)⟩)

/-- The product of 192 rows after `k` trips. -/
def kl192 (D : Fin 3072 → Fin 512 → Elt F .i8) (S : S384x512.Idx → F .f32) (A : S1024x6144.Idx → F .bf16) (w0 : ℕ) : ℕ → FVec F S192x512 .f32
  | 0 => k0_pay6
  | k + 1 => k0_pay7 (kl192 D S A w0 k) (wblk (r7 D k) fun b => r9 S (k * 16 + b)) (r3_192 A w0 k)

/-- A load of the activations. -/
theorem read3_192 (w0 k : ℕ) (hw0 : w0 + 192 ≤ 1024) (hk : k < 24) (off : Fin 2 → ℕ) (hoff : off = ![w0, k * 256]) (inb) (f : Buf (Elt F) ((c : Thread nD τ).loc cc0_stg3_0)) :
    (Memref.whole cc0_stg3_0 : Memref sig .tc .vmem S1024x6144 .bf16).view.readAt (Elt F) (Rect.unit (s := S1024x6144) off S192x256.size inb).toLoadRect f = r3_192 f w0 k := by
  subst hoff
  funext x
  have h0 : (x 0).val < 192 := (x 0).isLt
  have h1 : (x 1).val < 256 := (x 1).isLt
  show f ((Rect.unit (s := S1024x6144) ![w0, k * 256] S192x256.size inb).emb x) = _
  unfold r3_192
  congr 1
  funext a; apply Fin.ext; fin_cases a
  · show w0 + 1 * (x 0).val = (w0 + (x 0).val) % 1024
    rw [Nat.mod_eq_of_lt (by omega)]; omega
  · show k * 256 + 1 * (x 1).val = (k * 256 + (x 1).val) % 6144
    rw [Nat.mod_eq_of_lt (by omega)]; omega

/-- A load of the result. -/
theorem read6_192 (w0 cb : ℕ) (off : Fin 2 → ℕ) (hoff : off = ![w0, cb * 512]) (inb) (f : Buf (Elt F) ((c : Thread nD τ).loc cc0_stg4_0)) (r : Fin 192) (q : Fin 512)
    (x : S1024x2560.Idx) (hx0 : (x 0).val = w0 + r.val) (hx1 : (x 1).val = cb * 512 + q.val) :
    (Memref.whole cc0_stg4_0 : Memref sig .tc .vmem S1024x2560 .f32).view.readAt (Elt F) (Rect.unit (s := S1024x2560) off S192x512.size inb).toLoadRect f (ix2 r q) = f x := by
  subst hoff
  show f ((Rect.unit (s := S1024x2560) ![w0, cb * 512] S192x512.size inb).emb (ix2 r q)) = _
  congr 1
  funext a; apply Fin.ext; fin_cases a
  · show w0 + 1 * r.val = (x 0).val; omega
  · show cb * 512 + 1 * q.val = (x 1).val; omega

/-- What a window of 192 rows stores, at an index: the product times the scale in the group's rows, what was there in the others. -/
theorem pay_192 (lo hi i : ℕ) (hlo : lo ≤ 1024) (hhi : hi ≤ 1024) (hi' : i < 64) (v98 : FVec F S1x1 .f32) (v162 v175 : FVec F S192x512 .f32) (r : Fin 192) (q : Fin 512) :
    k0_pay8 (W hi) (W lo) v98 (W (16 * i)) v162 v175 (ix2 r q)
      = if lo ≤ min (16 * i) 832 + r.val ∧ min (16 * i) 832 + r.val < hi then mulf v162 (broadcastTo S192x512 v98 broadcasts_S1x1_S192x512) (ix2 r q) else v175 (ix2 r q) := by
  have hm : Scalar.minsi (W (16 * i)) (W 832) = W (min (16 * i) 832) := minsi_W (by omega) (by omega)
  have hr := r.isLt
  have hmask := mask_W (a := min (16 * i) 832 + r.val) (lo := lo) (hi := hi) (by omega) (by omega) (by omega)
  have hs : shapeCast S192x512 v175 shapeCasts_S192x512_S192x512 (ix2 r q) = v175 (ix2 r q) := by
    pointwise []
  have hiota : (iota .tc S192x512 32 [0] iota_S192x512_d0_w32 : IVec S192x512 32) (ix2 r q) = W r.val := by
    pointwise []
  unfold k0_pay8
  show Scalar.select (Scalar.andi (Scalar.cmpi .sge (Scalar.addi (Scalar.minsi (W (16 * i)) (W 832)) ((iota .tc S192x512 32 [0] iota_S192x512_d0_w32 : IVec S192x512 32) (ix2 r q))) (W lo))
      (Scalar.cmpi .slt (Scalar.addi (Scalar.minsi (W (16 * i)) (W 832)) ((iota .tc S192x512 32 [0] iota_S192x512_d0_w32 : IVec S192x512 32) (ix2 r q))) (W hi)))
      (mulf v162 (broadcastTo S192x512 v98 broadcasts_S1x1_S192x512) (ix2 r q)) (shapeCast S192x512 v175 shapeCasts_S192x512_S192x512 (ix2 r q)) = _
  rw [hm, hiota, hs, add_W, hmask]
  by_cases h : lo ≤ min (16 * i) 832 + r.val ∧ min (16 * i) 832 + r.val < hi
  · rw [if_pos h, if_pos h]; rfl
  · rw [if_neg h, if_neg h]; rfl

/-- The store of a window of 192 rows keeps what was done and adds the group's rows of the window. -/
theorem store_192 (lo hi i cb : ℕ) (hlo : lo ≤ 1024) (hhi : hi ≤ 1024) (hi' : i < 64) (v98 : FVec F S1x1 .f32)
    (tracked : Prop) (Y : S1024x2560.Idx → F .f32) (dn : S1024x2560.Idx → Prop)
    (v162 : FVec F S192x512 .f32)
    (hval : tracked → ∀ (r : Fin 192) (q : Fin 512) (x : S1024x2560.Idx), (x 0).val = min (16 * i) 832 + r.val → (x 1).val = cb * 512 + q.val → lo ≤ (x 0).val → (x 0).val < hi →
      mulf v162 (broadcastTo S192x512 v98 broadcasts_S1x1_S192x512) (ix2 r q) = Y x)
    (off : Fin 2 → ℕ) (hoff : off = ![min (16 * i) 832, cb * 512]) (inb) (f : Buf (Elt F) ((c : Thread nD τ).loc cc0_stg4_0)) (hf : Good tracked Y dn f) :
    Good tracked Y (fun x => dn x ∨ (16 * i ≤ (x 0).val ∧ (x 0).val < 16 * i + 192 ∧ lo ≤ (x 0).val ∧ (x 0).val < hi ∧ cb * 512 ≤ (x 1).val ∧ (x 1).val < cb * 512 + 512))
      (((Memref.whole cc0_stg4_0 : Memref sig .tc .vmem S1024x2560 .f32).access (Rect.unit (s := S1024x2560) off S192x512.size inb)).write (Elt F) f
        (k0_pay8 (W hi) (W lo) v98 (W (16 * i)) v162 ((Memref.whole cc0_stg4_0 : Memref sig .tc .vmem S1024x2560 .f32).view.readAt (Elt F) (Rect.unit (s := S1024x2560) off S192x512.size inb).toLoadRect f)) Finset.univ) := by
  intro ht x hx
  have hx0 : (x 0).val < 1024 := (x 0).isLt
  have hw := View.write_whole_slice_unit cc0_stg4_0 off S192x512.size inb f
    (k0_pay8 (W hi) (W lo) v98 (W (16 * i)) v162 ((Memref.whole cc0_stg4_0 : Memref sig .tc .vmem S1024x2560 .f32).view.readAt (Elt F) (Rect.unit (s := S1024x2560) off S192x512.size inb).toLoadRect f))
  refine (congrFun hw x).trans ?_
  unfold updateSlice
  by_cases hin : min (16 * i) 832 ≤ (x 0).val ∧ (x 0).val < min (16 * i) 832 + 192 ∧ cb * 512 ≤ (x 1).val ∧ (x 1).val < cb * 512 + 512
  · have hin' : ∀ a, off a ≤ (x a).val ∧ (x a).val < off a + S192x512.size a := by
      subst hoff
      intro a
      match a with
      | ⟨0, _⟩ => exact (⟨hin.1, hin.2.1⟩ : min (16 * i) 832 ≤ (x 0).val ∧ (x 0).val < min (16 * i) 832 + 192)
      | ⟨1, _⟩ => exact (⟨hin.2.2.1, hin.2.2.2⟩ : cb * 512 ≤ (x 1).val ∧ (x 1).val < cb * 512 + 512)
    refine (dif_pos hin').trans ?_
    have hrq : (fun a => (⟨(x a).val - off a, by have := hin' a; omega⟩ : Fin (S192x512.size a))) = (ix2 ⟨(x 0).val - min (16 * i) 832, by omega⟩ ⟨(x 1).val - cb * 512, by omega⟩ : S192x512.Idx) := by
      subst hoff
      funext a; apply Fin.ext; fin_cases a <;> rfl
    refine (congrArg _ hrq).trans ?_
    rw [pay_192 lo hi i hlo hhi hi']
    have e0 : (x 0).val = min (16 * i) 832 + ((x 0).val - min (16 * i) 832) := by omega
    have e1 : (x 1).val = cb * 512 + ((x 1).val - cb * 512) := by omega
    by_cases hmk : lo ≤ (x 0).val ∧ (x 0).val < hi
    · rw [if_pos (by rw [← e0]; exact hmk)]
      exact hval ht _ _ x e0 e1 hmk.1 hmk.2
    · rw [if_neg (by rw [← e0]; exact hmk)]
      rw [read6_192 c (min (16 * i) 832) cb off hoff inb f _ _ x e0 e1]
      rcases hx with hx | hx
      · exact hf ht x hx
      · exact absurd ⟨hx.2.2.1, hx.2.2.2.1⟩ hmk
  · have hin' : ¬ ∀ a, off a ≤ (x a).val ∧ (x a).val < off a + S192x512.size a := by
      subst hoff
      intro h
      have h0 : min (16 * i) 832 ≤ (x 0).val ∧ (x 0).val < min (16 * i) 832 + 192 := h 0
      have h1 : cb * 512 ≤ (x 1).val ∧ (x 1).val < cb * 512 + 512 := h 1
      exact hin ⟨h0.1, h0.2, h1.1, h1.2⟩
    refine (dif_neg hin').trans ?_
    rcases hx with hx | hx
    · exact hf ht x hx
    · exact absurd (by omega) hin

/-- The `k`-th 256 columns of the activations' 272 rows from `w0`. -/
def r3_272 (A : S1024x6144.Idx → F .bf16) (w0 k : ℕ) : Vec F S272x256 .bf16 :=
  fun x => A (ix2 ⟨(w0 + (x 0).val) % 1024, Nat.mod_lt _ (by omega)⟩ ⟨(k * 256 + (x 1).val) % 6144, Nat.mod_lt _ (by omega)⟩)

/-- The product of 272 rows after `k` trips. -/
def kl272 (D : Fin 3072 → Fin 512 → Elt F .i8) (S : S384x512.Idx → F .f32) (A : S1024x6144.Idx → F .bf16) (w0 : ℕ) : ℕ → FVec F S272x512 .f32
  | 0 => k0_pay9
  | k + 1 => k0_pay10 (kl272 D S A w0 k) (wblk (r7 D k) fun b => r9 S (k * 16 + b)) (r3_272 A w0 k)

/-- A load of the activations. -/
theorem read3_272 (w0 k : ℕ) (hw0 : w0 + 272 ≤ 1024) (hk : k < 24) (off : Fin 2 → ℕ) (hoff : off = ![w0, k * 256]) (inb) (f : Buf (Elt F) ((c : Thread nD τ).loc cc0_stg3_0)) :
    (Memref.whole cc0_stg3_0 : Memref sig .tc .vmem S1024x6144 .bf16).view.readAt (Elt F) (Rect.unit (s := S1024x6144) off S272x256.size inb).toLoadRect f = r3_272 f w0 k := by
  subst hoff
  funext x
  have h0 : (x 0).val < 272 := (x 0).isLt
  have h1 : (x 1).val < 256 := (x 1).isLt
  show f ((Rect.unit (s := S1024x6144) ![w0, k * 256] S272x256.size inb).emb x) = _
  unfold r3_272
  congr 1
  funext a; apply Fin.ext; fin_cases a
  · show w0 + 1 * (x 0).val = (w0 + (x 0).val) % 1024
    rw [Nat.mod_eq_of_lt (by omega)]; omega
  · show k * 256 + 1 * (x 1).val = (k * 256 + (x 1).val) % 6144
    rw [Nat.mod_eq_of_lt (by omega)]; omega

/-- A load of the result. -/
theorem read6_272 (w0 cb : ℕ) (off : Fin 2 → ℕ) (hoff : off = ![w0, cb * 512]) (inb) (f : Buf (Elt F) ((c : Thread nD τ).loc cc0_stg4_0)) (r : Fin 272) (q : Fin 512)
    (x : S1024x2560.Idx) (hx0 : (x 0).val = w0 + r.val) (hx1 : (x 1).val = cb * 512 + q.val) :
    (Memref.whole cc0_stg4_0 : Memref sig .tc .vmem S1024x2560 .f32).view.readAt (Elt F) (Rect.unit (s := S1024x2560) off S272x512.size inb).toLoadRect f (ix2 r q) = f x := by
  subst hoff
  show f ((Rect.unit (s := S1024x2560) ![w0, cb * 512] S272x512.size inb).emb (ix2 r q)) = _
  congr 1
  funext a; apply Fin.ext; fin_cases a
  · show w0 + 1 * r.val = (x 0).val; omega
  · show cb * 512 + 1 * q.val = (x 1).val; omega

/-- What a window of 272 rows stores, at an index: the product times the scale in the group's rows, what was there in the others. -/
theorem pay_272 (lo hi i : ℕ) (hlo : lo ≤ 1024) (hhi : hi ≤ 1024) (hi' : i < 64) (v98 : FVec F S1x1 .f32) (v162 v175 : FVec F S272x512 .f32) (r : Fin 272) (q : Fin 512) :
    k0_pay11 (W hi) (W lo) v98 (W (16 * i)) v162 v175 (ix2 r q)
      = if lo ≤ min (16 * i) 752 + r.val ∧ min (16 * i) 752 + r.val < hi then mulf v162 (broadcastTo S272x512 v98 broadcasts_S1x1_S272x512) (ix2 r q) else v175 (ix2 r q) := by
  have hm : Scalar.minsi (W (16 * i)) (W 752) = W (min (16 * i) 752) := minsi_W (by omega) (by omega)
  have hr := r.isLt
  have hmask := mask_W (a := min (16 * i) 752 + r.val) (lo := lo) (hi := hi) (by omega) (by omega) (by omega)
  have hs : shapeCast S272x512 v175 shapeCasts_S272x512_S272x512 (ix2 r q) = v175 (ix2 r q) := by
    pointwise []
  have hiota : (iota .tc S272x512 32 [0] iota_S272x512_d0_w32 : IVec S272x512 32) (ix2 r q) = W r.val := by
    pointwise []
  unfold k0_pay11
  show Scalar.select (Scalar.andi (Scalar.cmpi .sge (Scalar.addi (Scalar.minsi (W (16 * i)) (W 752)) ((iota .tc S272x512 32 [0] iota_S272x512_d0_w32 : IVec S272x512 32) (ix2 r q))) (W lo))
      (Scalar.cmpi .slt (Scalar.addi (Scalar.minsi (W (16 * i)) (W 752)) ((iota .tc S272x512 32 [0] iota_S272x512_d0_w32 : IVec S272x512 32) (ix2 r q))) (W hi)))
      (mulf v162 (broadcastTo S272x512 v98 broadcasts_S1x1_S272x512) (ix2 r q)) (shapeCast S272x512 v175 shapeCasts_S272x512_S272x512 (ix2 r q)) = _
  rw [hm, hiota, hs, add_W, hmask]
  by_cases h : lo ≤ min (16 * i) 752 + r.val ∧ min (16 * i) 752 + r.val < hi
  · rw [if_pos h, if_pos h]; rfl
  · rw [if_neg h, if_neg h]; rfl

/-- The store of a window of 272 rows keeps what was done and adds the group's rows of the window. -/
theorem store_272 (lo hi i cb : ℕ) (hlo : lo ≤ 1024) (hhi : hi ≤ 1024) (hi' : i < 64) (v98 : FVec F S1x1 .f32)
    (tracked : Prop) (Y : S1024x2560.Idx → F .f32) (dn : S1024x2560.Idx → Prop)
    (v162 : FVec F S272x512 .f32)
    (hval : tracked → ∀ (r : Fin 272) (q : Fin 512) (x : S1024x2560.Idx), (x 0).val = min (16 * i) 752 + r.val → (x 1).val = cb * 512 + q.val → lo ≤ (x 0).val → (x 0).val < hi →
      mulf v162 (broadcastTo S272x512 v98 broadcasts_S1x1_S272x512) (ix2 r q) = Y x)
    (off : Fin 2 → ℕ) (hoff : off = ![min (16 * i) 752, cb * 512]) (inb) (f : Buf (Elt F) ((c : Thread nD τ).loc cc0_stg4_0)) (hf : Good tracked Y dn f) :
    Good tracked Y (fun x => dn x ∨ (16 * i ≤ (x 0).val ∧ (x 0).val < 16 * i + 272 ∧ lo ≤ (x 0).val ∧ (x 0).val < hi ∧ cb * 512 ≤ (x 1).val ∧ (x 1).val < cb * 512 + 512))
      (((Memref.whole cc0_stg4_0 : Memref sig .tc .vmem S1024x2560 .f32).access (Rect.unit (s := S1024x2560) off S272x512.size inb)).write (Elt F) f
        (k0_pay11 (W hi) (W lo) v98 (W (16 * i)) v162 ((Memref.whole cc0_stg4_0 : Memref sig .tc .vmem S1024x2560 .f32).view.readAt (Elt F) (Rect.unit (s := S1024x2560) off S272x512.size inb).toLoadRect f)) Finset.univ) := by
  intro ht x hx
  have hx0 : (x 0).val < 1024 := (x 0).isLt
  have hw := View.write_whole_slice_unit cc0_stg4_0 off S272x512.size inb f
    (k0_pay11 (W hi) (W lo) v98 (W (16 * i)) v162 ((Memref.whole cc0_stg4_0 : Memref sig .tc .vmem S1024x2560 .f32).view.readAt (Elt F) (Rect.unit (s := S1024x2560) off S272x512.size inb).toLoadRect f))
  refine (congrFun hw x).trans ?_
  unfold updateSlice
  by_cases hin : min (16 * i) 752 ≤ (x 0).val ∧ (x 0).val < min (16 * i) 752 + 272 ∧ cb * 512 ≤ (x 1).val ∧ (x 1).val < cb * 512 + 512
  · have hin' : ∀ a, off a ≤ (x a).val ∧ (x a).val < off a + S272x512.size a := by
      subst hoff
      intro a
      match a with
      | ⟨0, _⟩ => exact (⟨hin.1, hin.2.1⟩ : min (16 * i) 752 ≤ (x 0).val ∧ (x 0).val < min (16 * i) 752 + 272)
      | ⟨1, _⟩ => exact (⟨hin.2.2.1, hin.2.2.2⟩ : cb * 512 ≤ (x 1).val ∧ (x 1).val < cb * 512 + 512)
    refine (dif_pos hin').trans ?_
    have hrq : (fun a => (⟨(x a).val - off a, by have := hin' a; omega⟩ : Fin (S272x512.size a))) = (ix2 ⟨(x 0).val - min (16 * i) 752, by omega⟩ ⟨(x 1).val - cb * 512, by omega⟩ : S272x512.Idx) := by
      subst hoff
      funext a; apply Fin.ext; fin_cases a <;> rfl
    refine (congrArg _ hrq).trans ?_
    rw [pay_272 lo hi i hlo hhi hi']
    have e0 : (x 0).val = min (16 * i) 752 + ((x 0).val - min (16 * i) 752) := by omega
    have e1 : (x 1).val = cb * 512 + ((x 1).val - cb * 512) := by omega
    by_cases hmk : lo ≤ (x 0).val ∧ (x 0).val < hi
    · rw [if_pos (by rw [← e0]; exact hmk)]
      exact hval ht _ _ x e0 e1 hmk.1 hmk.2
    · rw [if_neg (by rw [← e0]; exact hmk)]
      rw [read6_272 c (min (16 * i) 752) cb off hoff inb f _ _ x e0 e1]
      rcases hx with hx | hx
      · exact hf ht x hx
      · exact absurd ⟨hx.2.2.1, hx.2.2.2.1⟩ hmk
  · have hin' : ¬ ∀ a, off a ≤ (x a).val ∧ (x a).val < off a + S272x512.size a := by
      subst hoff
      intro h
      have h0 : min (16 * i) 752 ≤ (x 0).val ∧ (x 0).val < min (16 * i) 752 + 272 := h 0
      have h1 : cb * 512 ≤ (x 1).val ∧ (x 1).val < cb * 512 + 512 := h 1
      exact hin ⟨h0.1, h0.2, h1.1, h1.2⟩
    refine (dif_neg hin').trans ?_
    rcases hx with hx | hx
    · exact hf ht x hx
    · exact absurd (by omega) hin

end Loads

/-! ## The programs -/

set_option cleanup.letToHave false in set_option maxHeartbeats 40000000 in
/-- One trip of the product of 128 rows. -/
def kbody128 (v1_1 : BitVec 32) (k0_hw6 : k0_chk6 v1_1) (k0_t2 : Fin (k0_t2_loop v1_1).trips) (v41 : BitVec 32) (k0_hw7 : k0_chk7 v1_1 k0_t2 v41) (v86 : BitVec 32) (k0_hw8 : k0_chk8 v86) (v91 : Elt F .i32) (arg7 : Memref sig .tc .vmem S4x3072x512 .i8) (harg7 : arg7.IsWhole) (arg9 : Memref sig .tc .vmem S384x512 .f32) (harg9 : arg9.IsWhole) (arg3 : Memref sig .tc .vmem S1024x6144 .bf16) (harg3 : arg3.IsWhole) (v88 : Elt F .i32) (v98 : FVec F S1x1 .f32) (arg6 : Memref sig .tc .vmem S1024x2560 .f32) (harg6 : arg6.IsWhole) (arg16 : BitVec 32) (k0_hw9 : k0_chk9 v1_1 k0_t2 arg16) (v147 : BitVec 32) :
    Fin k0_t3_loop.trips → FVec F S128x512 .f32 → Prog (TpuEff nD τ sig (Elt F) (Λ₀ F) .tc) (FVec F S128x512 .f32) := fun k0_t3 arg18 => do
  let ⟨arg17, v187, v189, v220⟩ : Σ' (arg17 : BitVec 32) (v187 : IVec S128x512 32) (v189 : IVec S128x512 32), FVec F S128x512 .f32 ← k0_part11 v1_1 k0_hw6 k0_t2 v41 k0_hw7 v86 k0_hw8 v91 arg7 harg7 arg9 harg9 arg3 harg3 v88 v98 arg6 harg6 arg16 v147 0#32 1#32 k0_t3
  let ⟨v237, v239, v258, v260⟩ : Σ' (v237 : FVec F S128x512 .f32) (v239 : IVec S128x512 32) (v258 : FVec F S128x512 .f32), IVec S128x512 32 ← k0_part12 v1_1 k0_hw6 k0_t2 v41 k0_hw7 v86 k0_hw8 v91 arg7 harg7 arg9 harg9 arg3 harg3 v88 v98 arg6 harg6 arg16 v187 v189 v220
  let ⟨v292, v301, v302, c1_i32_128⟩ : Σ' (v292 : FVec F S256x512 .bf16) (v301 : FVec F S16x512 .bf16) (v302 : BitVec 32), BitVec 32 ← k0_part13 v1_1 k0_hw6 k0_t2 v41 k0_hw7 v86 k0_hw8 v91 arg7 harg7 arg9 harg9 arg3 harg3 v88 v98 arg6 harg6 arg16 k0_t3 arg17 v237 v239 v258 v260
  let ⟨v310, v319, v328, v337, v346, v347, c6_i32_143⟩ : Σ' (v310 : FVec F S16x512 .bf16) (v319 : FVec F S16x512 .bf16) (v328 : FVec F S16x512 .bf16) (v337 : FVec F S16x512 .bf16) (v346 : FVec F S16x512 .bf16) (v347 : BitVec 32), BitVec 32 ← k0_part14 v1_1 k0_hw6 k0_t2 v41 k0_hw7 v86 k0_hw8 v91 arg7 harg7 arg9 harg9 arg3 harg3 v88 v98 arg6 harg6 arg16 k0_t3 arg17 v292 v302 c1_i32_128
  let ⟨v355, v364, v373, v382, v391, v392, c11_i32_156⟩ : Σ' (v355 : FVec F S16x512 .bf16) (v364 : FVec F S16x512 .bf16) (v373 : FVec F S16x512 .bf16) (v382 : FVec F S16x512 .bf16) (v391 : FVec F S16x512 .bf16) (v392 : BitVec 32), BitVec 32 ← k0_part15 v1_1 k0_hw6 k0_t2 v41 k0_hw7 v86 k0_hw8 v91 arg7 harg7 arg9 harg9 arg3 harg3 v88 v98 arg6 harg6 arg16 k0_t3 arg17 v292 v347 c6_i32_143
  let ⟨v437, v438⟩ : Σ' (v437 : FVec F S256x512 .bf16), BitVec 32 ← k0_part16 v1_1 k0_hw6 k0_t2 v41 k0_hw7 v86 k0_hw8 v91 arg7 harg7 arg9 harg9 arg3 harg3 v88 v98 arg6 harg6 arg16 k0_t3 arg17 v292 v301 v310 v319 v328 v337 v346 v355 v364 v373 v382 v391 v392 c11_i32_156
  let v442 : Vec F S128x256 .bf16 ← Prog.lift (.load arg3 (Rect.unit (s := S1024x6144) (k0_off46 arg16 k0_t3) S128x256.size (k0_off46_inb v1_1 k0_t2 arg16 k0_hw9 k0_t3)).toLoadRect (View.loadsAt_vmem h_S128x256))
  pure (k0_pay4 arg18 v437 v442)

set_option cleanup.letToHave false in set_option maxHeartbeats 40000000 in
/-- A window of 128 rows. -/
def win128 (v1_1 : BitVec 32) (k0_hw6 : k0_chk6 v1_1) (k0_t2 : Fin (k0_t2_loop v1_1).trips) (v41 : BitVec 32) (k0_hw7 : k0_chk7 v1_1 k0_t2 v41) (v86 : BitVec 32) (k0_hw8 : k0_chk8 v86) (v91 : Elt F .i32) (arg7 : Memref sig .tc .vmem S4x3072x512 .i8) (harg7 : arg7.IsWhole) (arg9 : Memref sig .tc .vmem S384x512 .f32) (harg9 : arg9.IsWhole) (arg3 : Memref sig .tc .vmem S1024x6144 .bf16) (harg3 : arg3.IsWhole) (v88 : Elt F .i32) (v98 : FVec F S1x1 .f32) (arg6 : Memref sig .tc .vmem S1024x2560 .f32) (harg6 : arg6.IsWhole) (arg16 : BitVec 32) (k0_hw9 : k0_chk9 v1_1 k0_t2 arg16) :
    Prog (TpuEff nD τ sig (Elt F) (Λ₀ F) .tc) PUnit := do
  let arg14 : BitVec 32 := Scf.iv 0#32 1#32 k0_t2
  let v147 : BitVec 32 := Scalar.remsi arg14 4#32
  let v162 : FVec F S128x512 .f32 ← Scf.Loop.for k0_t3_loop k0_t3_ok (k0_pay3 (F := F)) (kbody128 v1_1 k0_hw6 k0_t2 v41 k0_hw7 v86 k0_hw8 v91 arg7 harg7 arg9 harg9 arg3 harg3 v88 v98 arg6 harg6 arg16 k0_hw9 v147)
  let v175 : Vec F S128x512 .f32 ← Prog.lift (.load arg6 (Rect.unit (s := S1024x2560) (k0_off47 v1_1 k0_t2 arg16) S128x512.size (k0_off47_inb v1_1 k0_t2 arg16 k0_hw9)).toLoadRect (View.loadsAt_vmem h_S128x512))
  let v180 : Vec F S128x512 .f32 ← Prog.lift (.load arg6 (Rect.unit (s := S1024x2560) (k0_off47 v1_1 k0_t2 arg16) S128x512.size (k0_off47_inb v1_1 k0_t2 arg16 k0_hw9)).toLoadRect (View.loadsAt_vmem h_S128x512))
  Prog.lift (.store arg6 (Rect.unit (s := S1024x2560) (k0_off47 v1_1 k0_t2 arg16) S128x512.size (k0_off47_inb v1_1 k0_t2 arg16 k0_hw9)) (k0_pay5 v91 v88 v98 arg16 v162 v175) Finset.univ (View.stores_vmem_bits_univ h_S128x512 rfl) (.inl rfl))
  pure ⟨⟩

set_option cleanup.letToHave false in set_option maxHeartbeats 40000000 in
/-- One trip of the product of 192 rows. -/
def kbody192 (v1_1 : BitVec 32) (k0_hw6 : k0_chk6 v1_1) (k0_t2 : Fin (k0_t2_loop v1_1).trips) (v41 : BitVec 32) (k0_hw7 : k0_chk7 v1_1 k0_t2 v41) (v86 : BitVec 32) (k0_hw8 : k0_chk8 v86) (v91 : Elt F .i32) (arg7 : Memref sig .tc .vmem S4x3072x512 .i8) (harg7 : arg7.IsWhole) (arg9 : Memref sig .tc .vmem S384x512 .f32) (harg9 : arg9.IsWhole) (arg3 : Memref sig .tc .vmem S1024x6144 .bf16) (harg3 : arg3.IsWhole) (v88 : Elt F .i32) (v98 : FVec F S1x1 .f32) (arg6 : Memref sig .tc .vmem S1024x2560 .f32) (harg6 : arg6.IsWhole) (arg16 : BitVec 32) (k0_hw9 : k0_chk9 v1_1 k0_t2 arg16) (v147 : BitVec 32) :
    Fin k0_t4_loop.trips → FVec F S192x512 .f32 → Prog (TpuEff nD τ sig (Elt F) (Λ₀ F) .tc) (FVec F S192x512 .f32) := fun k0_t4 arg18 => do
  let ⟨arg17, v187, v189, v220⟩ : Σ' (arg17 : BitVec 32) (v187 : IVec S128x512 32) (v189 : IVec S128x512 32), FVec F S128x512 .f32 ← k0_part17 v1_1 k0_hw6 k0_t2 v41 k0_hw7 v86 k0_hw8 v91 arg7 harg7 arg9 harg9 arg3 harg3 v88 v98 arg6 harg6 arg16 v147 0#32 1#32 k0_t4
  let ⟨v237, v239, v258, v260⟩ : Σ' (v237 : FVec F S128x512 .f32) (v239 : IVec S128x512 32) (v258 : FVec F S128x512 .f32), IVec S128x512 32 ← k0_part18 v1_1 k0_hw6 k0_t2 v41 k0_hw7 v86 k0_hw8 v91 arg7 harg7 arg9 harg9 arg3 harg3 v88 v98 arg6 harg6 arg16 v187 v189 v220
  let ⟨v292, v301, v302, c1_i32_128⟩ : Σ' (v292 : FVec F S256x512 .bf16) (v301 : FVec F S16x512 .bf16) (v302 : BitVec 32), BitVec 32 ← k0_part19 v1_1 k0_hw6 k0_t2 v41 k0_hw7 v86 k0_hw8 v91 arg7 harg7 arg9 harg9 arg3 harg3 v88 v98 arg6 harg6 arg16 k0_t4 arg17 v237 v239 v258 v260
  let ⟨v310, v319, v328, v337, v346, v347, c6_i32_143⟩ : Σ' (v310 : FVec F S16x512 .bf16) (v319 : FVec F S16x512 .bf16) (v328 : FVec F S16x512 .bf16) (v337 : FVec F S16x512 .bf16) (v346 : FVec F S16x512 .bf16) (v347 : BitVec 32), BitVec 32 ← k0_part20 v1_1 k0_hw6 k0_t2 v41 k0_hw7 v86 k0_hw8 v91 arg7 harg7 arg9 harg9 arg3 harg3 v88 v98 arg6 harg6 arg16 k0_t4 arg17 v292 v302 c1_i32_128
  let ⟨v355, v364, v373, v382, v391, v392, c11_i32_156⟩ : Σ' (v355 : FVec F S16x512 .bf16) (v364 : FVec F S16x512 .bf16) (v373 : FVec F S16x512 .bf16) (v382 : FVec F S16x512 .bf16) (v391 : FVec F S16x512 .bf16) (v392 : BitVec 32), BitVec 32 ← k0_part21 v1_1 k0_hw6 k0_t2 v41 k0_hw7 v86 k0_hw8 v91 arg7 harg7 arg9 harg9 arg3 harg3 v88 v98 arg6 harg6 arg16 k0_t4 arg17 v292 v347 c6_i32_143
  let ⟨v437, v438⟩ : Σ' (v437 : FVec F S256x512 .bf16), BitVec 32 ← k0_part22 v1_1 k0_hw6 k0_t2 v41 k0_hw7 v86 k0_hw8 v91 arg7 harg7 arg9 harg9 arg3 harg3 v88 v98 arg6 harg6 arg16 k0_t4 arg17 v292 v301 v310 v319 v328 v337 v346 v355 v364 v373 v382 v391 v392 c11_i32_156
  let v442 : Vec F S192x256 .bf16 ← Prog.lift (.load arg3 (Rect.unit (s := S1024x6144) (k0_off50 arg16 k0_t4) S192x256.size (k0_off50_inb v1_1 k0_t2 arg16 k0_hw9 k0_t4)).toLoadRect (View.loadsAt_vmem h_S192x256))
  pure (k0_pay7 arg18 v437 v442)

set_option cleanup.letToHave false in set_option maxHeartbeats 40000000 in
/-- A window of 192 rows. -/
def win192 (v1_1 : BitVec 32) (k0_hw6 : k0_chk6 v1_1) (k0_t2 : Fin (k0_t2_loop v1_1).trips) (v41 : BitVec 32) (k0_hw7 : k0_chk7 v1_1 k0_t2 v41) (v86 : BitVec 32) (k0_hw8 : k0_chk8 v86) (v91 : Elt F .i32) (arg7 : Memref sig .tc .vmem S4x3072x512 .i8) (harg7 : arg7.IsWhole) (arg9 : Memref sig .tc .vmem S384x512 .f32) (harg9 : arg9.IsWhole) (arg3 : Memref sig .tc .vmem S1024x6144 .bf16) (harg3 : arg3.IsWhole) (v88 : Elt F .i32) (v98 : FVec F S1x1 .f32) (arg6 : Memref sig .tc .vmem S1024x2560 .f32) (harg6 : arg6.IsWhole) (arg16 : BitVec 32) (k0_hw9 : k0_chk9 v1_1 k0_t2 arg16) :
    Prog (TpuEff nD τ sig (Elt F) (Λ₀ F) .tc) PUnit := do
  let arg14 : BitVec 32 := Scf.iv 0#32 1#32 k0_t2
  let v147 : BitVec 32 := Scalar.remsi arg14 4#32
  let v162 : FVec F S192x512 .f32 ← Scf.Loop.for k0_t4_loop k0_t4_ok (k0_pay6 (F := F)) (kbody192 v1_1 k0_hw6 k0_t2 v41 k0_hw7 v86 k0_hw8 v91 arg7 harg7 arg9 harg9 arg3 harg3 v88 v98 arg6 harg6 arg16 k0_hw9 v147)
  let v175 : Vec F S192x512 .f32 ← Prog.lift (.load arg6 (Rect.unit (s := S1024x2560) (k0_off51 v1_1 k0_t2 arg16) S192x512.size (k0_off51_inb v1_1 k0_t2 arg16 k0_hw9)).toLoadRect (View.loadsAt_vmem h_S192x512))
  let v180 : Vec F S192x512 .f32 ← Prog.lift (.load arg6 (Rect.unit (s := S1024x2560) (k0_off51 v1_1 k0_t2 arg16) S192x512.size (k0_off51_inb v1_1 k0_t2 arg16 k0_hw9)).toLoadRect (View.loadsAt_vmem h_S192x512))
  Prog.lift (.store arg6 (Rect.unit (s := S1024x2560) (k0_off51 v1_1 k0_t2 arg16) S192x512.size (k0_off51_inb v1_1 k0_t2 arg16 k0_hw9)) (k0_pay8 v91 v88 v98 arg16 v162 v175) Finset.univ (View.stores_vmem_bits_univ h_S192x512 rfl) (.inl rfl))
  pure ⟨⟩

set_option cleanup.letToHave false in set_option maxHeartbeats 40000000 in
/-- One trip of the product of 272 rows. -/
def kbody272 (v1_1 : BitVec 32) (k0_hw6 : k0_chk6 v1_1) (k0_t2 : Fin (k0_t2_loop v1_1).trips) (v41 : BitVec 32) (k0_hw7 : k0_chk7 v1_1 k0_t2 v41) (v86 : BitVec 32) (k0_hw8 : k0_chk8 v86) (v91 : Elt F .i32) (arg7 : Memref sig .tc .vmem S4x3072x512 .i8) (harg7 : arg7.IsWhole) (arg9 : Memref sig .tc .vmem S384x512 .f32) (harg9 : arg9.IsWhole) (arg3 : Memref sig .tc .vmem S1024x6144 .bf16) (harg3 : arg3.IsWhole) (v88 : Elt F .i32) (v98 : FVec F S1x1 .f32) (arg6 : Memref sig .tc .vmem S1024x2560 .f32) (harg6 : arg6.IsWhole) (arg16 : BitVec 32) (k0_hw9 : k0_chk9 v1_1 k0_t2 arg16) (v147 : BitVec 32) :
    Fin k0_t5_loop.trips → FVec F S272x512 .f32 → Prog (TpuEff nD τ sig (Elt F) (Λ₀ F) .tc) (FVec F S272x512 .f32) := fun k0_t5 arg18 => do
  let ⟨arg17, v187, v189, v220⟩ : Σ' (arg17 : BitVec 32) (v187 : IVec S128x512 32) (v189 : IVec S128x512 32), FVec F S128x512 .f32 ← k0_part23 v1_1 k0_hw6 k0_t2 v41 k0_hw7 v86 k0_hw8 v91 arg7 harg7 arg9 harg9 arg3 harg3 v88 v98 arg6 harg6 arg16 v147 0#32 1#32 k0_t5
  let ⟨v237, v239, v258, v260⟩ : Σ' (v237 : FVec F S128x512 .f32) (v239 : IVec S128x512 32) (v258 : FVec F S128x512 .f32), IVec S128x512 32 ← k0_part24 v1_1 k0_hw6 k0_t2 v41 k0_hw7 v86 k0_hw8 v91 arg7 harg7 arg9 harg9 arg3 harg3 v88 v98 arg6 harg6 arg16 v187 v189 v220
  let ⟨v292, v301, v302, c1_i32_128⟩ : Σ' (v292 : FVec F S256x512 .bf16) (v301 : FVec F S16x512 .bf16) (v302 : BitVec 32), BitVec 32 ← k0_part25 v1_1 k0_hw6 k0_t2 v41 k0_hw7 v86 k0_hw8 v91 arg7 harg7 arg9 harg9 arg3 harg3 v88 v98 arg6 harg6 arg16 k0_t5 arg17 v237 v239 v258 v260
  let ⟨v310, v319, v328, v337, v346, v347, c6_i32_143⟩ : Σ' (v310 : FVec F S16x512 .bf16) (v319 : FVec F S16x512 .bf16) (v328 : FVec F S16x512 .bf16) (v337 : FVec F S16x512 .bf16) (v346 : FVec F S16x512 .bf16) (v347 : BitVec 32), BitVec 32 ← k0_part26 v1_1 k0_hw6 k0_t2 v41 k0_hw7 v86 k0_hw8 v91 arg7 harg7 arg9 harg9 arg3 harg3 v88 v98 arg6 harg6 arg16 k0_t5 arg17 v292 v302 c1_i32_128
  let ⟨v355, v364, v373, v382, v391, v392, c11_i32_156⟩ : Σ' (v355 : FVec F S16x512 .bf16) (v364 : FVec F S16x512 .bf16) (v373 : FVec F S16x512 .bf16) (v382 : FVec F S16x512 .bf16) (v391 : FVec F S16x512 .bf16) (v392 : BitVec 32), BitVec 32 ← k0_part27 v1_1 k0_hw6 k0_t2 v41 k0_hw7 v86 k0_hw8 v91 arg7 harg7 arg9 harg9 arg3 harg3 v88 v98 arg6 harg6 arg16 k0_t5 arg17 v292 v347 c6_i32_143
  let ⟨v437, v438⟩ : Σ' (v437 : FVec F S256x512 .bf16), BitVec 32 ← k0_part28 v1_1 k0_hw6 k0_t2 v41 k0_hw7 v86 k0_hw8 v91 arg7 harg7 arg9 harg9 arg3 harg3 v88 v98 arg6 harg6 arg16 k0_t5 arg17 v292 v301 v310 v319 v328 v337 v346 v355 v364 v373 v382 v391 v392 c11_i32_156
  let v442 : Vec F S272x256 .bf16 ← Prog.lift (.load arg3 (Rect.unit (s := S1024x6144) (k0_off54 arg16 k0_t5) S272x256.size (k0_off54_inb v1_1 k0_t2 arg16 k0_hw9 k0_t5)).toLoadRect (View.loadsAt_vmem h_S272x256))
  pure (k0_pay10 arg18 v437 v442)

set_option cleanup.letToHave false in set_option maxHeartbeats 40000000 in
/-- A window of 272 rows. -/
def win272 (v1_1 : BitVec 32) (k0_hw6 : k0_chk6 v1_1) (k0_t2 : Fin (k0_t2_loop v1_1).trips) (v41 : BitVec 32) (k0_hw7 : k0_chk7 v1_1 k0_t2 v41) (v86 : BitVec 32) (k0_hw8 : k0_chk8 v86) (v91 : Elt F .i32) (arg7 : Memref sig .tc .vmem S4x3072x512 .i8) (harg7 : arg7.IsWhole) (arg9 : Memref sig .tc .vmem S384x512 .f32) (harg9 : arg9.IsWhole) (arg3 : Memref sig .tc .vmem S1024x6144 .bf16) (harg3 : arg3.IsWhole) (v88 : Elt F .i32) (v98 : FVec F S1x1 .f32) (arg6 : Memref sig .tc .vmem S1024x2560 .f32) (harg6 : arg6.IsWhole) (arg16 : BitVec 32) (k0_hw9 : k0_chk9 v1_1 k0_t2 arg16) :
    Prog (TpuEff nD τ sig (Elt F) (Λ₀ F) .tc) PUnit := do
  let arg14 : BitVec 32 := Scf.iv 0#32 1#32 k0_t2
  let v147 : BitVec 32 := Scalar.remsi arg14 4#32
  let v162 : FVec F S272x512 .f32 ← Scf.Loop.for k0_t5_loop k0_t5_ok (k0_pay9 (F := F)) (kbody272 v1_1 k0_hw6 k0_t2 v41 k0_hw7 v86 k0_hw8 v91 arg7 harg7 arg9 harg9 arg3 harg3 v88 v98 arg6 harg6 arg16 k0_hw9 v147)
  let v175 : Vec F S272x512 .f32 ← Prog.lift (.load arg6 (Rect.unit (s := S1024x2560) (k0_off55 v1_1 k0_t2 arg16) S272x512.size (k0_off55_inb v1_1 k0_t2 arg16 k0_hw9)).toLoadRect (View.loadsAt_vmem h_S272x512))
  let v180 : Vec F S272x512 .f32 ← Prog.lift (.load arg6 (Rect.unit (s := S1024x2560) (k0_off55 v1_1 k0_t2 arg16) S272x512.size (k0_off55_inb v1_1 k0_t2 arg16 k0_hw9)).toLoadRect (View.loadsAt_vmem h_S272x512))
  Prog.lift (.store arg6 (Rect.unit (s := S1024x2560) (k0_off55 v1_1 k0_t2 arg16) S272x512.size (k0_off55_inb v1_1 k0_t2 arg16 k0_hw9)) (k0_pay11 v91 v88 v98 arg16 v162 v175) Finset.univ (View.stores_vmem_bits_univ h_S272x512 rfl) (.inl rfl))
  pure ⟨⟩

set_option cleanup.letToHave false in set_option maxHeartbeats 40000000 in
/-- The window loop over the windows' programs. -/
def while1F (v1_1 : BitVec 32) (k0_hw6 : k0_chk6 v1_1) (k0_t2 : Fin (k0_t2_loop v1_1).trips) (v41 : BitVec 32) (k0_hw7 : k0_chk7 v1_1 k0_t2 v41) (v86 : BitVec 32) (k0_hw8 : k0_chk8 v86) (v91 : Elt F .i32) (arg7 : Memref sig .tc .vmem S4x3072x512 .i8) (harg7 : arg7.IsWhole) (arg9 : Memref sig .tc .vmem S384x512 .f32) (harg9 : arg9.IsWhole) (arg3 : Memref sig .tc .vmem S1024x6144 .bf16) (harg3 : arg3.IsWhole) (v88 : Elt F .i32) (v98 : FVec F S1x1 .f32) (arg6 : Memref sig .tc .vmem S1024x2560 .f32) (harg6 : arg6.IsWhole) (arg16 : BitVec 32) :
    Prog (TpuEff nD τ sig (Elt F) (Λ₀ F) .tc) (BitVec 32) := do
  let arg14 : BitVec 32 := Scf.iv 0#32 1#32 k0_t2
  let v129 : BitVec 1 := Scalar.cmpi .slt arg16 v91
  if v129 = 1#1 then do
    have k0_hw9 : k0_chk9 v1_1 k0_t2 arg16 := (← Prog.lift (TpuEff.assume (k0_chk9 v1_1 k0_t2 arg16) (k0_chk9.dec v1_1 k0_t2 arg16))).down
    let v129 : BitVec 32 := Scalar.subi v91 arg16
    let v130 : BitVec 1 := Scalar.cmpi .sgt v129 0#32
    let v131 : BitVec 1 := Scalar.cmpi .sle v129 128#32
    let v132 : BitVec 1 := Scalar.andi v130 v131
    let v133 : BitVec 32 := Scalar.extui v132
    let v134 : BitVec 1 := Scalar.cmpi .ne v133 0#32
    if v134 = 1#1 then do
      win128 v1_1 k0_hw6 k0_t2 v41 k0_hw7 v86 k0_hw8 v91 arg7 harg7 arg9 harg9 arg3 harg3 v88 v98 arg6 harg6 arg16 k0_hw9
    else do
      pure ⟨⟩
    let v135 : BitVec 1 := Scalar.cmpi .sgt v129 128#32
    let v136 : BitVec 1 := Scalar.cmpi .sle v129 192#32
    let v137 : BitVec 1 := Scalar.andi v135 v136
    let v138 : BitVec 32 := Scalar.extui v137
    let v139 : BitVec 1 := Scalar.cmpi .ne v138 0#32
    if v139 = 1#1 then do
      win192 v1_1 k0_hw6 k0_t2 v41 k0_hw7 v86 k0_hw8 v91 arg7 harg7 arg9 harg9 arg3 harg3 v88 v98 arg6 harg6 arg16 k0_hw9
    else do
      pure ⟨⟩
    let v140 : BitVec 1 := Scalar.cmpi .sgt v129 192#32
    let v141 : BitVec 1 := Scalar.andi v140 1#1
    let v142 : BitVec 32 := Scalar.extui v141
    let v143 : BitVec 1 := Scalar.cmpi .ne v142 0#32
    if v143 = 1#1 then do
      win272 v1_1 k0_hw6 k0_t2 v41 k0_hw7 v86 k0_hw8 v91 arg7 harg7 arg9 harg9 arg3 harg3 v88 v98 arg6 harg6 arg16 k0_hw9
    else do
      pure ⟨⟩
    let v144 : BitVec 32 := Scalar.addi arg16 272#32
    Prog.lift (.call (1 : (Λ₀ F).Label) ⟨v1_1, k0_hw6, k0_t2, v41, k0_hw7, v86, k0_hw8, v91, arg7, harg7, arg9, harg9, arg3, harg3, v88, v98, arg6, harg6, v144⟩)
  else pure arg16

set_option maxRecDepth 65536 in
theorem while1F_eq : cc0_while1 (F := F) = while1F (F := F) := by
  rw [cc0_while1_eq_skeleton]
  funext v1_1 k0_hw6 k0_t2 v41 k0_hw7 v86 k0_hw8 v91 arg7 harg7 arg9 harg9 arg3 harg3 v88 v98 arg6 harg6 arg16
  unfold cc0_while1_skel while1F win128 win192 win272
  simp only [bind_assoc, pure_bind]
  rfl

/-! ## What they do -/

section Rules

variable (c : Dev nD)

/-- What a window reads: the slot, the scales and the activations. -/
def held (s : Fin 4) (f7 : Buf (Elt F) ((c : Thread nD τ).loc cc0_scratch0)) (f9 : Buf (Elt F) ((c : Thread nD τ).loc cc0_scratch2)) (fA : Buf (Elt F) ((c : Thread nD τ).loc cc0_stg3_0)) : sProp 𝕄 :=
  iprop(((c : Thread nD τ).loc cc0_scratch0 ↦[set7 s]{fullShare} f7) ∗ ((c : Thread nD τ).loc cc0_scratch2 ↦{fullShare} f9) ∗ ((c : Thread nD τ).loc cc0_stg3_0 ↦{fullShare} fA))

theorem kbody128_wp (bd : Option ℕ) (E : Set ℕ) (n : Fin 12) (hw6 : k0_chk6 (W n.val)) (t : Fin (k0_t2_loop (W n.val)).trips) (v41 : BitVec 32) (hw7 : k0_chk7 (W n.val) t v41) (v86 : BitVec 32) (hw8 : k0_chk8 v86) (lo hi : ℕ) (v98 : FVec F S1x1 .f32) (i : Fin 64) (hw9 : k0_chk9 (W n.val) t (W (16 * i.val))) (v147 : BitVec 32)
    (s : Fin 4) (hs : s.val = t.val % 4) (f7 : Buf (Elt F) ((c : Thread nD τ).loc cc0_scratch0)) (f9 : Buf (Elt F) ((c : Thread nD τ).loc cc0_scratch2)) (fA : Buf (Elt F) ((c : Thread nD τ).loc cc0_stg3_0))
    (D : Fin 3072 → Fin 512 → Elt F .i8) (hD : ∀ i q, f7 (ix3 s i q) = D i q) (k : Fin k0_t3_loop.trips) (acc : FVec F S128x512 .f32) :
    iprop(⌜acc = kl128 D f9 fA (min (16 * i.val) 896) k.val⌝ ∗ held c s f7 f9 fA)
      ⊢ wp frame (wpE (defs₀ (F := F)) 𝒱₀ (c : Thread nD τ) bd) E
          (kbody128 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9 v147 k acc)
          (fun a => iprop(⌜a = kl128 D f9 fA (min (16 * i.val) 896) (k.val + 1)⌝ ∗ held c s f7 f9 fA)) := by
  have hk : k.val < 24 := trips3 ▸ k.isLt
  have ho7 : k0_off44 (W n.val) t k = ![s.val, k.val * 128, 0] := by rw [off44, hs]

  have e0 : (Memref.whole cc0_scratch2 : Memref sig .tc .vmem S384x512 .f32).view.readAt (Elt F) (Rect.unit (s := S384x512) (k0_off45 k 0#32) S1x512.size (k0_off45_inb k 0)).toLoadRect f9 = r9 f9 (k.val * 16 + 0) :=
    read9 c _ (by omega) _ (off45 k 0) _ f9

  have e1 : (Memref.whole cc0_scratch2 : Memref sig .tc .vmem S384x512 .f32).view.readAt (Elt F) (Rect.unit (s := S384x512) (k0_off45 k 1#32) S1x512.size (k0_off45_inb k 1)).toLoadRect f9 = r9 f9 (k.val * 16 + 1) :=
    read9 c _ (by omega) _ (off45 k 1) _ f9

  have e2 : (Memref.whole cc0_scratch2 : Memref sig .tc .vmem S384x512 .f32).view.readAt (Elt F) (Rect.unit (s := S384x512) (k0_off45 k 2#32) S1x512.size (k0_off45_inb k 2)).toLoadRect f9 = r9 f9 (k.val * 16 + 2) :=
    read9 c _ (by omega) _ (off45 k 2) _ f9

  have e3 : (Memref.whole cc0_scratch2 : Memref sig .tc .vmem S384x512 .f32).view.readAt (Elt F) (Rect.unit (s := S384x512) (k0_off45 k 3#32) S1x512.size (k0_off45_inb k 3)).toLoadRect f9 = r9 f9 (k.val * 16 + 3) :=
    read9 c _ (by omega) _ (off45 k 3) _ f9

  have e4 : (Memref.whole cc0_scratch2 : Memref sig .tc .vmem S384x512 .f32).view.readAt (Elt F) (Rect.unit (s := S384x512) (k0_off45 k 4#32) S1x512.size (k0_off45_inb k 4)).toLoadRect f9 = r9 f9 (k.val * 16 + 4) :=
    read9 c _ (by omega) _ (off45 k 4) _ f9

  have e5 : (Memref.whole cc0_scratch2 : Memref sig .tc .vmem S384x512 .f32).view.readAt (Elt F) (Rect.unit (s := S384x512) (k0_off45 k 5#32) S1x512.size (k0_off45_inb k 5)).toLoadRect f9 = r9 f9 (k.val * 16 + 5) :=
    read9 c _ (by omega) _ (off45 k 5) _ f9

  have e6 : (Memref.whole cc0_scratch2 : Memref sig .tc .vmem S384x512 .f32).view.readAt (Elt F) (Rect.unit (s := S384x512) (k0_off45 k 6#32) S1x512.size (k0_off45_inb k 6)).toLoadRect f9 = r9 f9 (k.val * 16 + 6) :=
    read9 c _ (by omega) _ (off45 k 6) _ f9

  have e7 : (Memref.whole cc0_scratch2 : Memref sig .tc .vmem S384x512 .f32).view.readAt (Elt F) (Rect.unit (s := S384x512) (k0_off45 k 7#32) S1x512.size (k0_off45_inb k 7)).toLoadRect f9 = r9 f9 (k.val * 16 + 7) :=
    read9 c _ (by omega) _ (off45 k 7) _ f9

  have e8 : (Memref.whole cc0_scratch2 : Memref sig .tc .vmem S384x512 .f32).view.readAt (Elt F) (Rect.unit (s := S384x512) (k0_off45 k 8#32) S1x512.size (k0_off45_inb k 8)).toLoadRect f9 = r9 f9 (k.val * 16 + 8) :=
    read9 c _ (by omega) _ (off45 k 8) _ f9

  have e9 : (Memref.whole cc0_scratch2 : Memref sig .tc .vmem S384x512 .f32).view.readAt (Elt F) (Rect.unit (s := S384x512) (k0_off45 k 9#32) S1x512.size (k0_off45_inb k 9)).toLoadRect f9 = r9 f9 (k.val * 16 + 9) :=
    read9 c _ (by omega) _ (off45 k 9) _ f9

  have e10 : (Memref.whole cc0_scratch2 : Memref sig .tc .vmem S384x512 .f32).view.readAt (Elt F) (Rect.unit (s := S384x512) (k0_off45 k 10#32) S1x512.size (k0_off45_inb k 10)).toLoadRect f9 = r9 f9 (k.val * 16 + 10) :=
    read9 c _ (by omega) _ (off45 k 10) _ f9

  have e11 : (Memref.whole cc0_scratch2 : Memref sig .tc .vmem S384x512 .f32).view.readAt (Elt F) (Rect.unit (s := S384x512) (k0_off45 k 11#32) S1x512.size (k0_off45_inb k 11)).toLoadRect f9 = r9 f9 (k.val * 16 + 11) :=
    read9 c _ (by omega) _ (off45 k 11) _ f9

  have e12 : (Memref.whole cc0_scratch2 : Memref sig .tc .vmem S384x512 .f32).view.readAt (Elt F) (Rect.unit (s := S384x512) (k0_off45 k 12#32) S1x512.size (k0_off45_inb k 12)).toLoadRect f9 = r9 f9 (k.val * 16 + 12) :=
    read9 c _ (by omega) _ (off45 k 12) _ f9

  have e13 : (Memref.whole cc0_scratch2 : Memref sig .tc .vmem S384x512 .f32).view.readAt (Elt F) (Rect.unit (s := S384x512) (k0_off45 k 13#32) S1x512.size (k0_off45_inb k 13)).toLoadRect f9 = r9 f9 (k.val * 16 + 13) :=
    read9 c _ (by omega) _ (off45 k 13) _ f9

  have e14 : (Memref.whole cc0_scratch2 : Memref sig .tc .vmem S384x512 .f32).view.readAt (Elt F) (Rect.unit (s := S384x512) (k0_off45 k 14#32) S1x512.size (k0_off45_inb k 14)).toLoadRect f9 = r9 f9 (k.val * 16 + 14) :=
    read9 c _ (by omega) _ (off45 k 14) _ f9

  have e15 : (Memref.whole cc0_scratch2 : Memref sig .tc .vmem S384x512 .f32).view.readAt (Elt F) (Rect.unit (s := S384x512) (k0_off45 k 15#32) S1x512.size (k0_off45_inb k 15)).toLoadRect f9 = r9 f9 (k.val * 16 + 15) :=
    read9 c _ (by omega) _ (off45 k 15) _ f9

  unfold kbody128 held
  simp only [k0_part11_eq_skeleton, k0_part12_eq_skeleton, k0_part13_eq_skeleton, k0_part14_eq_skeleton, k0_part15_eq_skeleton, k0_part16_eq_skeleton]
  unfold k0_part11_skel k0_part12_skel k0_part13_skel k0_part14_skel k0_part15_skel k0_part16_skel
  simp only [Prog.lift, Prog.bind_op, Prog.bind_ret, Prog.pure_eq_ret]
  iintro ⟨%hacc, H7, H9, HA⟩
  iapply (wp_load 𝒱₀ (c : Thread nD τ) bd E (m := Memref.whole cc0_scratch0) (sub7 s k.val _ ho7 _)) $$ H7; iintro H7
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_stg3_0) (Finset.subset_univ _)) $$ HA; iintro HA
  rw [wp_ret]; imodintro
  isplitr [H7 H9 HA]
  · ipureintro
    rw [read7 c s k.val hk _ ho7 _ f7 D hD, read3_128 c (min (16 * i.val) 896) k.val (by omega) hk _ (off46 i k) _ fA, hacc, e0, e1, e2, e3, e4, e5, e6, e7, e8, e9, e10, e11, e12, e13, e14, e15]
    rfl
  · isplitl [H7]; · iexact H7
    isplitl [H9]; · iexact H9
    iexact HA

theorem win128_wp (bd : Option ℕ) (E : Set ℕ) (n : Fin 12) (hw6 : k0_chk6 (W n.val)) (t : Fin (k0_t2_loop (W n.val)).trips) (v41 : BitVec 32) (hw7 : k0_chk7 (W n.val) t v41) (v86 : BitVec 32) (hw8 : k0_chk8 v86) (lo hi : ℕ) (v98 : FVec F S1x1 .f32) (i : Fin 64) (hw9 : k0_chk9 (W n.val) t (W (16 * i.val))) (hlo : lo ≤ 1024) (hhi : hi ≤ 1024)
    (s : Fin 4) (hs : s.val = t.val % 4) (f7 : Buf (Elt F) ((c : Thread nD τ).loc cc0_scratch0)) (f9 : Buf (Elt F) ((c : Thread nD τ).loc cc0_scratch2)) (fA : Buf (Elt F) ((c : Thread nD τ).loc cc0_stg3_0))
    (D : Fin 3072 → Fin 512 → Elt F .i8) (hD : ∀ i q, f7 (ix3 s i q) = D i q)
    (tracked : Prop) (Y : S1024x2560.Idx → F .f32) (dn : S1024x2560.Idx → Prop)
    (hval : tracked → ∀ (r : Fin 128) (q : Fin 512) (x : S1024x2560.Idx), (x 0).val = min (16 * i.val) 896 + r.val → (x 1).val = t.val % 5 * 512 + q.val → lo ≤ (x 0).val → (x 0).val < hi →
      mulf (kl128 D f9 fA (min (16 * i.val) 896) 24) (broadcastTo S128x512 v98 broadcasts_S1x1_S128x512) (ix2 r q) = Y x)
    (f6 : Buf (Elt F) ((c : Thread nD τ).loc cc0_stg4_0)) (hf : Good tracked Y dn f6) :
    iprop(held c s f7 f9 fA ∗ ((c : Thread nD τ).loc cc0_stg4_0 ↦{fullShare} f6))
      ⊢ wp frame (wpE (defs₀ (F := F)) 𝒱₀ (c : Thread nD τ) bd) E
          (win128 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9)
          (fun _ => iprop(held c s f7 f9 fA ∗ ∃ f6' : Buf (Elt F) ((c : Thread nD τ).loc cc0_stg4_0), ((c : Thread nD τ).loc cc0_stg4_0 ↦{fullShare} f6')
            ∗ ⌜Good tracked Y (fun x => dn x ∨ (16 * i.val ≤ (x 0).val ∧ (x 0).val < 16 * i.val + 128 ∧ lo ≤ (x 0).val ∧ (x 0).val < hi ∧ t.val % 5 * 512 ≤ (x 1).val ∧ (x 1).val < t.val % 5 * 512 + 512)) f6'⌝)) := by
  unfold win128
  rw [wp_bind]
  iintro ⟨H, H6⟩
  iapply (Scf.wp_for frame (wpE (defs₀ (F := F)) 𝒱₀ (c : Thread nD τ) bd) E _ _ _ k0_t3_ok (k0_pay3 (F := F))
    (kbody128 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9 _)
    (fun k acc => iprop(⌜acc = kl128 D f9 fA (min (16 * i.val) 896) k⌝ ∗ held c s f7 f9 fA))
    (fun k acc => kbody128_wp c bd E n hw6 t v41 hw7 v86 hw8 lo hi v98 i hw9 _ s hs f7 f9 fA D hD k acc))
  isplitl [H]
  · isplitr [H]
    · ipureintro; rfl
    · iexact H
  iintro %acc ⟨%hacc, H⟩
  have ht : Scf.trips (w := 32) k0_t3_loop.lb k0_t3_loop.ub k0_t3_loop.st = 24 := trips3
  rw [ht] at hacc
  simp only [Prog.lift, Prog.bind_op, Prog.bind_ret, Prog.pure_eq_ret]
  iapply (wp_load 𝒱₀ (c : Thread nD τ) bd E (m := Memref.whole cc0_stg4_0) (Finset.subset_univ _)) $$ H6; iintro H6
  iapply (wp_load 𝒱₀ (c : Thread nD τ) bd E (m := Memref.whole cc0_stg4_0) (Finset.subset_univ _)) $$ H6; iintro H6
  iapply (wp_store 𝒱₀ (c : Thread nD τ) bd E (m := Memref.whole cc0_stg4_0) (r := Rect.unit (s := S1024x2560) (k0_off47 (W n.val) t (W (16 * i.val))) S128x512.size (k0_off47_inb _ _ _ hw9)) (Mk := Finset.univ) (Finset.subset_univ _)) $$ H6; iintro H6
  rw [wp_ret]; imodintro
  isplitl [H]; · iexact H
  iexists _
  isplitl [H6]; · iexact H6
  ipureintro
  rw [hacc]
  exact store_128 c lo hi i.val (t.val % 5) hlo hhi i.isLt v98 tracked Y dn _ hval _ (off47 n t i) _ f6 hf

theorem kbody192_wp (bd : Option ℕ) (E : Set ℕ) (n : Fin 12) (hw6 : k0_chk6 (W n.val)) (t : Fin (k0_t2_loop (W n.val)).trips) (v41 : BitVec 32) (hw7 : k0_chk7 (W n.val) t v41) (v86 : BitVec 32) (hw8 : k0_chk8 v86) (lo hi : ℕ) (v98 : FVec F S1x1 .f32) (i : Fin 64) (hw9 : k0_chk9 (W n.val) t (W (16 * i.val))) (v147 : BitVec 32)
    (s : Fin 4) (hs : s.val = t.val % 4) (f7 : Buf (Elt F) ((c : Thread nD τ).loc cc0_scratch0)) (f9 : Buf (Elt F) ((c : Thread nD τ).loc cc0_scratch2)) (fA : Buf (Elt F) ((c : Thread nD τ).loc cc0_stg3_0))
    (D : Fin 3072 → Fin 512 → Elt F .i8) (hD : ∀ i q, f7 (ix3 s i q) = D i q) (k : Fin k0_t4_loop.trips) (acc : FVec F S192x512 .f32) :
    iprop(⌜acc = kl192 D f9 fA (min (16 * i.val) 832) k.val⌝ ∗ held c s f7 f9 fA)
      ⊢ wp frame (wpE (defs₀ (F := F)) 𝒱₀ (c : Thread nD τ) bd) E
          (kbody192 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9 v147 k acc)
          (fun a => iprop(⌜a = kl192 D f9 fA (min (16 * i.val) 832) (k.val + 1)⌝ ∗ held c s f7 f9 fA)) := by
  have hk : k.val < 24 := trips4 ▸ k.isLt
  have ho7 : k0_off48 (W n.val) t k = ![s.val, k.val * 128, 0] := by rw [off48, hs]

  have e0 : (Memref.whole cc0_scratch2 : Memref sig .tc .vmem S384x512 .f32).view.readAt (Elt F) (Rect.unit (s := S384x512) (k0_off49 k 0#32) S1x512.size (k0_off49_inb k 0)).toLoadRect f9 = r9 f9 (k.val * 16 + 0) :=
    read9 c _ (by omega) _ (off49 k 0) _ f9

  have e1 : (Memref.whole cc0_scratch2 : Memref sig .tc .vmem S384x512 .f32).view.readAt (Elt F) (Rect.unit (s := S384x512) (k0_off49 k 1#32) S1x512.size (k0_off49_inb k 1)).toLoadRect f9 = r9 f9 (k.val * 16 + 1) :=
    read9 c _ (by omega) _ (off49 k 1) _ f9

  have e2 : (Memref.whole cc0_scratch2 : Memref sig .tc .vmem S384x512 .f32).view.readAt (Elt F) (Rect.unit (s := S384x512) (k0_off49 k 2#32) S1x512.size (k0_off49_inb k 2)).toLoadRect f9 = r9 f9 (k.val * 16 + 2) :=
    read9 c _ (by omega) _ (off49 k 2) _ f9

  have e3 : (Memref.whole cc0_scratch2 : Memref sig .tc .vmem S384x512 .f32).view.readAt (Elt F) (Rect.unit (s := S384x512) (k0_off49 k 3#32) S1x512.size (k0_off49_inb k 3)).toLoadRect f9 = r9 f9 (k.val * 16 + 3) :=
    read9 c _ (by omega) _ (off49 k 3) _ f9

  have e4 : (Memref.whole cc0_scratch2 : Memref sig .tc .vmem S384x512 .f32).view.readAt (Elt F) (Rect.unit (s := S384x512) (k0_off49 k 4#32) S1x512.size (k0_off49_inb k 4)).toLoadRect f9 = r9 f9 (k.val * 16 + 4) :=
    read9 c _ (by omega) _ (off49 k 4) _ f9

  have e5 : (Memref.whole cc0_scratch2 : Memref sig .tc .vmem S384x512 .f32).view.readAt (Elt F) (Rect.unit (s := S384x512) (k0_off49 k 5#32) S1x512.size (k0_off49_inb k 5)).toLoadRect f9 = r9 f9 (k.val * 16 + 5) :=
    read9 c _ (by omega) _ (off49 k 5) _ f9

  have e6 : (Memref.whole cc0_scratch2 : Memref sig .tc .vmem S384x512 .f32).view.readAt (Elt F) (Rect.unit (s := S384x512) (k0_off49 k 6#32) S1x512.size (k0_off49_inb k 6)).toLoadRect f9 = r9 f9 (k.val * 16 + 6) :=
    read9 c _ (by omega) _ (off49 k 6) _ f9

  have e7 : (Memref.whole cc0_scratch2 : Memref sig .tc .vmem S384x512 .f32).view.readAt (Elt F) (Rect.unit (s := S384x512) (k0_off49 k 7#32) S1x512.size (k0_off49_inb k 7)).toLoadRect f9 = r9 f9 (k.val * 16 + 7) :=
    read9 c _ (by omega) _ (off49 k 7) _ f9

  have e8 : (Memref.whole cc0_scratch2 : Memref sig .tc .vmem S384x512 .f32).view.readAt (Elt F) (Rect.unit (s := S384x512) (k0_off49 k 8#32) S1x512.size (k0_off49_inb k 8)).toLoadRect f9 = r9 f9 (k.val * 16 + 8) :=
    read9 c _ (by omega) _ (off49 k 8) _ f9

  have e9 : (Memref.whole cc0_scratch2 : Memref sig .tc .vmem S384x512 .f32).view.readAt (Elt F) (Rect.unit (s := S384x512) (k0_off49 k 9#32) S1x512.size (k0_off49_inb k 9)).toLoadRect f9 = r9 f9 (k.val * 16 + 9) :=
    read9 c _ (by omega) _ (off49 k 9) _ f9

  have e10 : (Memref.whole cc0_scratch2 : Memref sig .tc .vmem S384x512 .f32).view.readAt (Elt F) (Rect.unit (s := S384x512) (k0_off49 k 10#32) S1x512.size (k0_off49_inb k 10)).toLoadRect f9 = r9 f9 (k.val * 16 + 10) :=
    read9 c _ (by omega) _ (off49 k 10) _ f9

  have e11 : (Memref.whole cc0_scratch2 : Memref sig .tc .vmem S384x512 .f32).view.readAt (Elt F) (Rect.unit (s := S384x512) (k0_off49 k 11#32) S1x512.size (k0_off49_inb k 11)).toLoadRect f9 = r9 f9 (k.val * 16 + 11) :=
    read9 c _ (by omega) _ (off49 k 11) _ f9

  have e12 : (Memref.whole cc0_scratch2 : Memref sig .tc .vmem S384x512 .f32).view.readAt (Elt F) (Rect.unit (s := S384x512) (k0_off49 k 12#32) S1x512.size (k0_off49_inb k 12)).toLoadRect f9 = r9 f9 (k.val * 16 + 12) :=
    read9 c _ (by omega) _ (off49 k 12) _ f9

  have e13 : (Memref.whole cc0_scratch2 : Memref sig .tc .vmem S384x512 .f32).view.readAt (Elt F) (Rect.unit (s := S384x512) (k0_off49 k 13#32) S1x512.size (k0_off49_inb k 13)).toLoadRect f9 = r9 f9 (k.val * 16 + 13) :=
    read9 c _ (by omega) _ (off49 k 13) _ f9

  have e14 : (Memref.whole cc0_scratch2 : Memref sig .tc .vmem S384x512 .f32).view.readAt (Elt F) (Rect.unit (s := S384x512) (k0_off49 k 14#32) S1x512.size (k0_off49_inb k 14)).toLoadRect f9 = r9 f9 (k.val * 16 + 14) :=
    read9 c _ (by omega) _ (off49 k 14) _ f9

  have e15 : (Memref.whole cc0_scratch2 : Memref sig .tc .vmem S384x512 .f32).view.readAt (Elt F) (Rect.unit (s := S384x512) (k0_off49 k 15#32) S1x512.size (k0_off49_inb k 15)).toLoadRect f9 = r9 f9 (k.val * 16 + 15) :=
    read9 c _ (by omega) _ (off49 k 15) _ f9

  unfold kbody192 held
  simp only [k0_part17_eq_skeleton, k0_part18_eq_skeleton, k0_part19_eq_skeleton, k0_part20_eq_skeleton, k0_part21_eq_skeleton, k0_part22_eq_skeleton]
  unfold k0_part17_skel k0_part18_skel k0_part19_skel k0_part20_skel k0_part21_skel k0_part22_skel
  simp only [Prog.lift, Prog.bind_op, Prog.bind_ret, Prog.pure_eq_ret]
  iintro ⟨%hacc, H7, H9, HA⟩
  iapply (wp_load 𝒱₀ (c : Thread nD τ) bd E (m := Memref.whole cc0_scratch0) (sub7 s k.val _ ho7 _)) $$ H7; iintro H7
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_stg3_0) (Finset.subset_univ _)) $$ HA; iintro HA
  rw [wp_ret]; imodintro
  isplitr [H7 H9 HA]
  · ipureintro
    rw [read7 c s k.val hk _ ho7 _ f7 D hD, read3_192 c (min (16 * i.val) 832) k.val (by omega) hk _ (off50 i k) _ fA, hacc, e0, e1, e2, e3, e4, e5, e6, e7, e8, e9, e10, e11, e12, e13, e14, e15]
    rfl
  · isplitl [H7]; · iexact H7
    isplitl [H9]; · iexact H9
    iexact HA

theorem win192_wp (bd : Option ℕ) (E : Set ℕ) (n : Fin 12) (hw6 : k0_chk6 (W n.val)) (t : Fin (k0_t2_loop (W n.val)).trips) (v41 : BitVec 32) (hw7 : k0_chk7 (W n.val) t v41) (v86 : BitVec 32) (hw8 : k0_chk8 v86) (lo hi : ℕ) (v98 : FVec F S1x1 .f32) (i : Fin 64) (hw9 : k0_chk9 (W n.val) t (W (16 * i.val))) (hlo : lo ≤ 1024) (hhi : hi ≤ 1024)
    (s : Fin 4) (hs : s.val = t.val % 4) (f7 : Buf (Elt F) ((c : Thread nD τ).loc cc0_scratch0)) (f9 : Buf (Elt F) ((c : Thread nD τ).loc cc0_scratch2)) (fA : Buf (Elt F) ((c : Thread nD τ).loc cc0_stg3_0))
    (D : Fin 3072 → Fin 512 → Elt F .i8) (hD : ∀ i q, f7 (ix3 s i q) = D i q)
    (tracked : Prop) (Y : S1024x2560.Idx → F .f32) (dn : S1024x2560.Idx → Prop)
    (hval : tracked → ∀ (r : Fin 192) (q : Fin 512) (x : S1024x2560.Idx), (x 0).val = min (16 * i.val) 832 + r.val → (x 1).val = t.val % 5 * 512 + q.val → lo ≤ (x 0).val → (x 0).val < hi →
      mulf (kl192 D f9 fA (min (16 * i.val) 832) 24) (broadcastTo S192x512 v98 broadcasts_S1x1_S192x512) (ix2 r q) = Y x)
    (f6 : Buf (Elt F) ((c : Thread nD τ).loc cc0_stg4_0)) (hf : Good tracked Y dn f6) :
    iprop(held c s f7 f9 fA ∗ ((c : Thread nD τ).loc cc0_stg4_0 ↦{fullShare} f6))
      ⊢ wp frame (wpE (defs₀ (F := F)) 𝒱₀ (c : Thread nD τ) bd) E
          (win192 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9)
          (fun _ => iprop(held c s f7 f9 fA ∗ ∃ f6' : Buf (Elt F) ((c : Thread nD τ).loc cc0_stg4_0), ((c : Thread nD τ).loc cc0_stg4_0 ↦{fullShare} f6')
            ∗ ⌜Good tracked Y (fun x => dn x ∨ (16 * i.val ≤ (x 0).val ∧ (x 0).val < 16 * i.val + 192 ∧ lo ≤ (x 0).val ∧ (x 0).val < hi ∧ t.val % 5 * 512 ≤ (x 1).val ∧ (x 1).val < t.val % 5 * 512 + 512)) f6'⌝)) := by
  unfold win192
  rw [wp_bind]
  iintro ⟨H, H6⟩
  iapply (Scf.wp_for frame (wpE (defs₀ (F := F)) 𝒱₀ (c : Thread nD τ) bd) E _ _ _ k0_t4_ok (k0_pay6 (F := F))
    (kbody192 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9 _)
    (fun k acc => iprop(⌜acc = kl192 D f9 fA (min (16 * i.val) 832) k⌝ ∗ held c s f7 f9 fA))
    (fun k acc => kbody192_wp c bd E n hw6 t v41 hw7 v86 hw8 lo hi v98 i hw9 _ s hs f7 f9 fA D hD k acc))
  isplitl [H]
  · isplitr [H]
    · ipureintro; rfl
    · iexact H
  iintro %acc ⟨%hacc, H⟩
  have ht : Scf.trips (w := 32) k0_t4_loop.lb k0_t4_loop.ub k0_t4_loop.st = 24 := trips4
  rw [ht] at hacc
  simp only [Prog.lift, Prog.bind_op, Prog.bind_ret, Prog.pure_eq_ret]
  iapply (wp_load 𝒱₀ (c : Thread nD τ) bd E (m := Memref.whole cc0_stg4_0) (Finset.subset_univ _)) $$ H6; iintro H6
  iapply (wp_load 𝒱₀ (c : Thread nD τ) bd E (m := Memref.whole cc0_stg4_0) (Finset.subset_univ _)) $$ H6; iintro H6
  iapply (wp_store 𝒱₀ (c : Thread nD τ) bd E (m := Memref.whole cc0_stg4_0) (r := Rect.unit (s := S1024x2560) (k0_off51 (W n.val) t (W (16 * i.val))) S192x512.size (k0_off51_inb _ _ _ hw9)) (Mk := Finset.univ) (Finset.subset_univ _)) $$ H6; iintro H6
  rw [wp_ret]; imodintro
  isplitl [H]; · iexact H
  iexists _
  isplitl [H6]; · iexact H6
  ipureintro
  rw [hacc]
  exact store_192 c lo hi i.val (t.val % 5) hlo hhi i.isLt v98 tracked Y dn _ hval _ (off51 n t i) _ f6 hf

theorem kbody272_wp (bd : Option ℕ) (E : Set ℕ) (n : Fin 12) (hw6 : k0_chk6 (W n.val)) (t : Fin (k0_t2_loop (W n.val)).trips) (v41 : BitVec 32) (hw7 : k0_chk7 (W n.val) t v41) (v86 : BitVec 32) (hw8 : k0_chk8 v86) (lo hi : ℕ) (v98 : FVec F S1x1 .f32) (i : Fin 64) (hw9 : k0_chk9 (W n.val) t (W (16 * i.val))) (v147 : BitVec 32)
    (s : Fin 4) (hs : s.val = t.val % 4) (f7 : Buf (Elt F) ((c : Thread nD τ).loc cc0_scratch0)) (f9 : Buf (Elt F) ((c : Thread nD τ).loc cc0_scratch2)) (fA : Buf (Elt F) ((c : Thread nD τ).loc cc0_stg3_0))
    (D : Fin 3072 → Fin 512 → Elt F .i8) (hD : ∀ i q, f7 (ix3 s i q) = D i q) (k : Fin k0_t5_loop.trips) (acc : FVec F S272x512 .f32) :
    iprop(⌜acc = kl272 D f9 fA (min (16 * i.val) 752) k.val⌝ ∗ held c s f7 f9 fA)
      ⊢ wp frame (wpE (defs₀ (F := F)) 𝒱₀ (c : Thread nD τ) bd) E
          (kbody272 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9 v147 k acc)
          (fun a => iprop(⌜a = kl272 D f9 fA (min (16 * i.val) 752) (k.val + 1)⌝ ∗ held c s f7 f9 fA)) := by
  have hk : k.val < 24 := trips5 ▸ k.isLt
  have ho7 : k0_off52 (W n.val) t k = ![s.val, k.val * 128, 0] := by rw [off52, hs]

  have e0 : (Memref.whole cc0_scratch2 : Memref sig .tc .vmem S384x512 .f32).view.readAt (Elt F) (Rect.unit (s := S384x512) (k0_off53 k 0#32) S1x512.size (k0_off53_inb k 0)).toLoadRect f9 = r9 f9 (k.val * 16 + 0) :=
    read9 c _ (by omega) _ (off53 k 0) _ f9

  have e1 : (Memref.whole cc0_scratch2 : Memref sig .tc .vmem S384x512 .f32).view.readAt (Elt F) (Rect.unit (s := S384x512) (k0_off53 k 1#32) S1x512.size (k0_off53_inb k 1)).toLoadRect f9 = r9 f9 (k.val * 16 + 1) :=
    read9 c _ (by omega) _ (off53 k 1) _ f9

  have e2 : (Memref.whole cc0_scratch2 : Memref sig .tc .vmem S384x512 .f32).view.readAt (Elt F) (Rect.unit (s := S384x512) (k0_off53 k 2#32) S1x512.size (k0_off53_inb k 2)).toLoadRect f9 = r9 f9 (k.val * 16 + 2) :=
    read9 c _ (by omega) _ (off53 k 2) _ f9

  have e3 : (Memref.whole cc0_scratch2 : Memref sig .tc .vmem S384x512 .f32).view.readAt (Elt F) (Rect.unit (s := S384x512) (k0_off53 k 3#32) S1x512.size (k0_off53_inb k 3)).toLoadRect f9 = r9 f9 (k.val * 16 + 3) :=
    read9 c _ (by omega) _ (off53 k 3) _ f9

  have e4 : (Memref.whole cc0_scratch2 : Memref sig .tc .vmem S384x512 .f32).view.readAt (Elt F) (Rect.unit (s := S384x512) (k0_off53 k 4#32) S1x512.size (k0_off53_inb k 4)).toLoadRect f9 = r9 f9 (k.val * 16 + 4) :=
    read9 c _ (by omega) _ (off53 k 4) _ f9

  have e5 : (Memref.whole cc0_scratch2 : Memref sig .tc .vmem S384x512 .f32).view.readAt (Elt F) (Rect.unit (s := S384x512) (k0_off53 k 5#32) S1x512.size (k0_off53_inb k 5)).toLoadRect f9 = r9 f9 (k.val * 16 + 5) :=
    read9 c _ (by omega) _ (off53 k 5) _ f9

  have e6 : (Memref.whole cc0_scratch2 : Memref sig .tc .vmem S384x512 .f32).view.readAt (Elt F) (Rect.unit (s := S384x512) (k0_off53 k 6#32) S1x512.size (k0_off53_inb k 6)).toLoadRect f9 = r9 f9 (k.val * 16 + 6) :=
    read9 c _ (by omega) _ (off53 k 6) _ f9

  have e7 : (Memref.whole cc0_scratch2 : Memref sig .tc .vmem S384x512 .f32).view.readAt (Elt F) (Rect.unit (s := S384x512) (k0_off53 k 7#32) S1x512.size (k0_off53_inb k 7)).toLoadRect f9 = r9 f9 (k.val * 16 + 7) :=
    read9 c _ (by omega) _ (off53 k 7) _ f9

  have e8 : (Memref.whole cc0_scratch2 : Memref sig .tc .vmem S384x512 .f32).view.readAt (Elt F) (Rect.unit (s := S384x512) (k0_off53 k 8#32) S1x512.size (k0_off53_inb k 8)).toLoadRect f9 = r9 f9 (k.val * 16 + 8) :=
    read9 c _ (by omega) _ (off53 k 8) _ f9

  have e9 : (Memref.whole cc0_scratch2 : Memref sig .tc .vmem S384x512 .f32).view.readAt (Elt F) (Rect.unit (s := S384x512) (k0_off53 k 9#32) S1x512.size (k0_off53_inb k 9)).toLoadRect f9 = r9 f9 (k.val * 16 + 9) :=
    read9 c _ (by omega) _ (off53 k 9) _ f9

  have e10 : (Memref.whole cc0_scratch2 : Memref sig .tc .vmem S384x512 .f32).view.readAt (Elt F) (Rect.unit (s := S384x512) (k0_off53 k 10#32) S1x512.size (k0_off53_inb k 10)).toLoadRect f9 = r9 f9 (k.val * 16 + 10) :=
    read9 c _ (by omega) _ (off53 k 10) _ f9

  have e11 : (Memref.whole cc0_scratch2 : Memref sig .tc .vmem S384x512 .f32).view.readAt (Elt F) (Rect.unit (s := S384x512) (k0_off53 k 11#32) S1x512.size (k0_off53_inb k 11)).toLoadRect f9 = r9 f9 (k.val * 16 + 11) :=
    read9 c _ (by omega) _ (off53 k 11) _ f9

  have e12 : (Memref.whole cc0_scratch2 : Memref sig .tc .vmem S384x512 .f32).view.readAt (Elt F) (Rect.unit (s := S384x512) (k0_off53 k 12#32) S1x512.size (k0_off53_inb k 12)).toLoadRect f9 = r9 f9 (k.val * 16 + 12) :=
    read9 c _ (by omega) _ (off53 k 12) _ f9

  have e13 : (Memref.whole cc0_scratch2 : Memref sig .tc .vmem S384x512 .f32).view.readAt (Elt F) (Rect.unit (s := S384x512) (k0_off53 k 13#32) S1x512.size (k0_off53_inb k 13)).toLoadRect f9 = r9 f9 (k.val * 16 + 13) :=
    read9 c _ (by omega) _ (off53 k 13) _ f9

  have e14 : (Memref.whole cc0_scratch2 : Memref sig .tc .vmem S384x512 .f32).view.readAt (Elt F) (Rect.unit (s := S384x512) (k0_off53 k 14#32) S1x512.size (k0_off53_inb k 14)).toLoadRect f9 = r9 f9 (k.val * 16 + 14) :=
    read9 c _ (by omega) _ (off53 k 14) _ f9

  have e15 : (Memref.whole cc0_scratch2 : Memref sig .tc .vmem S384x512 .f32).view.readAt (Elt F) (Rect.unit (s := S384x512) (k0_off53 k 15#32) S1x512.size (k0_off53_inb k 15)).toLoadRect f9 = r9 f9 (k.val * 16 + 15) :=
    read9 c _ (by omega) _ (off53 k 15) _ f9

  unfold kbody272 held
  simp only [k0_part23_eq_skeleton, k0_part24_eq_skeleton, k0_part25_eq_skeleton, k0_part26_eq_skeleton, k0_part27_eq_skeleton, k0_part28_eq_skeleton]
  unfold k0_part23_skel k0_part24_skel k0_part25_skel k0_part26_skel k0_part27_skel k0_part28_skel
  simp only [Prog.lift, Prog.bind_op, Prog.bind_ret, Prog.pure_eq_ret]
  iintro ⟨%hacc, H7, H9, HA⟩
  iapply (wp_load 𝒱₀ (c : Thread nD τ) bd E (m := Memref.whole cc0_scratch0) (sub7 s k.val _ ho7 _)) $$ H7; iintro H7
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_scratch2) (Finset.subset_univ _)) $$ H9; iintro H9
  iapply (wp_load 𝒱₀ (c : Thread nD τ) bd E (m := Memref.whole cc0_stg3_0) (Finset.subset_univ _)) $$ HA; iintro HA
  rw [wp_ret]; imodintro
  isplitr [H7 H9 HA]
  · ipureintro
    rw [read7 c s k.val hk _ ho7 _ f7 D hD, read3_272 c (min (16 * i.val) 752) k.val (by omega) hk _ (off54 i k) _ fA, hacc, e0, e1, e2, e3, e4, e5, e6, e7, e8, e9, e10, e11, e12, e13, e14, e15]
    rfl
  · isplitl [H7]; · iexact H7
    isplitl [H9]; · iexact H9
    iexact HA

theorem win272_wp (bd : Option ℕ) (E : Set ℕ) (n : Fin 12) (hw6 : k0_chk6 (W n.val)) (t : Fin (k0_t2_loop (W n.val)).trips) (v41 : BitVec 32) (hw7 : k0_chk7 (W n.val) t v41) (v86 : BitVec 32) (hw8 : k0_chk8 v86) (lo hi : ℕ) (v98 : FVec F S1x1 .f32) (i : Fin 64) (hw9 : k0_chk9 (W n.val) t (W (16 * i.val))) (hlo : lo ≤ 1024) (hhi : hi ≤ 1024)
    (s : Fin 4) (hs : s.val = t.val % 4) (f7 : Buf (Elt F) ((c : Thread nD τ).loc cc0_scratch0)) (f9 : Buf (Elt F) ((c : Thread nD τ).loc cc0_scratch2)) (fA : Buf (Elt F) ((c : Thread nD τ).loc cc0_stg3_0))
    (D : Fin 3072 → Fin 512 → Elt F .i8) (hD : ∀ i q, f7 (ix3 s i q) = D i q)
    (tracked : Prop) (Y : S1024x2560.Idx → F .f32) (dn : S1024x2560.Idx → Prop)
    (hval : tracked → ∀ (r : Fin 272) (q : Fin 512) (x : S1024x2560.Idx), (x 0).val = min (16 * i.val) 752 + r.val → (x 1).val = t.val % 5 * 512 + q.val → lo ≤ (x 0).val → (x 0).val < hi →
      mulf (kl272 D f9 fA (min (16 * i.val) 752) 24) (broadcastTo S272x512 v98 broadcasts_S1x1_S272x512) (ix2 r q) = Y x)
    (f6 : Buf (Elt F) ((c : Thread nD τ).loc cc0_stg4_0)) (hf : Good tracked Y dn f6) :
    iprop(held c s f7 f9 fA ∗ ((c : Thread nD τ).loc cc0_stg4_0 ↦{fullShare} f6))
      ⊢ wp frame (wpE (defs₀ (F := F)) 𝒱₀ (c : Thread nD τ) bd) E
          (win272 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9)
          (fun _ => iprop(held c s f7 f9 fA ∗ ∃ f6' : Buf (Elt F) ((c : Thread nD τ).loc cc0_stg4_0), ((c : Thread nD τ).loc cc0_stg4_0 ↦{fullShare} f6')
            ∗ ⌜Good tracked Y (fun x => dn x ∨ (16 * i.val ≤ (x 0).val ∧ (x 0).val < 16 * i.val + 272 ∧ lo ≤ (x 0).val ∧ (x 0).val < hi ∧ t.val % 5 * 512 ≤ (x 1).val ∧ (x 1).val < t.val % 5 * 512 + 512)) f6'⌝)) := by
  unfold win272
  rw [wp_bind]
  iintro ⟨H, H6⟩
  iapply (Scf.wp_for frame (wpE (defs₀ (F := F)) 𝒱₀ (c : Thread nD τ) bd) E _ _ _ k0_t5_ok (k0_pay9 (F := F))
    (kbody272 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i.val)) hw9 _)
    (fun k acc => iprop(⌜acc = kl272 D f9 fA (min (16 * i.val) 752) k⌝ ∗ held c s f7 f9 fA))
    (fun k acc => kbody272_wp c bd E n hw6 t v41 hw7 v86 hw8 lo hi v98 i hw9 _ s hs f7 f9 fA D hD k acc))
  isplitl [H]
  · isplitr [H]
    · ipureintro; rfl
    · iexact H
  iintro %acc ⟨%hacc, H⟩
  have ht : Scf.trips (w := 32) k0_t5_loop.lb k0_t5_loop.ub k0_t5_loop.st = 24 := trips5
  rw [ht] at hacc
  simp only [Prog.lift, Prog.bind_op, Prog.bind_ret, Prog.pure_eq_ret]
  iapply (wp_load 𝒱₀ (c : Thread nD τ) bd E (m := Memref.whole cc0_stg4_0) (Finset.subset_univ _)) $$ H6; iintro H6
  iapply (wp_load 𝒱₀ (c : Thread nD τ) bd E (m := Memref.whole cc0_stg4_0) (Finset.subset_univ _)) $$ H6; iintro H6
  iapply (wp_store 𝒱₀ (c : Thread nD τ) bd E (m := Memref.whole cc0_stg4_0) (r := Rect.unit (s := S1024x2560) (k0_off55 (W n.val) t (W (16 * i.val))) S272x512.size (k0_off55_inb _ _ _ hw9)) (Mk := Finset.univ) (Finset.subset_univ _)) $$ H6; iintro H6
  rw [wp_ret]; imodintro
  isplitl [H]; · iexact H
  iexists _
  isplitl [H6]; · iexact H6
  ipureintro
  rw [hacc]
  exact store_272 c lo hi i.val (t.val % 5) hlo hhi i.isLt v98 tracked Y dn _ hval _ (off55 n t i) _ f6 hf

end Rules

end Cert.KernelIdeal.KW
-- ==== Proof.IKX.lean ====
/- The window loop's label: its specification, and that its body meets it.

   Entered at a window's base it does the group's rows from there on, in the chunk's column block. -/
module

public import proofs.«01_k».proof.Proof.IKW

@[expose] public section

set_option maxRecDepth 8192
set_option maxHeartbeats 1000000

noncomputable section

namespace Cert.KernelIdeal.KX

open Cert.KernelIdeal Cert.KernelIdeal.Gen Cert.KernelIdeal.KA Cert.KernelIdeal.KD Cert.KernelIdeal.KW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the transfers' counters. -/
local notation "𝕄" => MT nD τ sig Unit (Elt F) ℕ (Pipeline.UD sig nD τ) ℕ

/-- The embedding of the transfers' counters. -/
local notation "EC" => (countersEmb (U := Pipeline.UD sig nD τ))

variable (c : Dev nD)

section Label

variable (c : Dev nD) (n : Fin 12) (hw6 : k0_chk6 (W n.val)) (t : Fin (k0_t2_loop (W n.val)).trips) (v41 : BitVec 32) (hw7 : k0_chk7 (W n.val) t v41) (v86 : BitVec 32) (hw8 : k0_chk8 v86)
  (lo hi : ℕ) (hlo : lo ≤ 1024) (hhi : hi ≤ 1024) (v98 : FVec F S1x1 .f32)
  (s : Fin 4) (hs : s.val = t.val % 4) (f7 : Buf (Elt F) ((c : Thread nD τ).loc cc0_scratch0)) (f9 : Buf (Elt F) ((c : Thread nD τ).loc cc0_scratch2)) (fA : Buf (Elt F) ((c : Thread nD τ).loc cc0_stg3_0))
  (D : Fin 3072 → Fin 512 → Elt F .i8) (hD : ∀ i q, f7 (ix3 s i q) = D i q)
  (tracked : Prop) (Y : S1024x2560.Idx → F .f32)

/-- A window's rows of the group hold the result, wherever the window lies. -/
def Vals : Prop :=
  tracked → ∀ w0 : ℕ,
    (∀ (r : Fin 128) (q : Fin 512) (x : S1024x2560.Idx), w0 + 128 ≤ 1024 → (x 0).val = w0 + r.val → (x 1).val = t.val % 5 * 512 + q.val → lo ≤ (x 0).val → (x 0).val < hi →
      mulf (kl128 D f9 fA w0 24) (broadcastTo S128x512 v98 broadcasts_S1x1_S128x512) (ix2 r q) = Y x)
    ∧ (∀ (r : Fin 192) (q : Fin 512) (x : S1024x2560.Idx), w0 + 192 ≤ 1024 → (x 0).val = w0 + r.val → (x 1).val = t.val % 5 * 512 + q.val → lo ≤ (x 0).val → (x 0).val < hi →
      mulf (kl192 D f9 fA w0 24) (broadcastTo S192x512 v98 broadcasts_S1x1_S192x512) (ix2 r q) = Y x)
    ∧ (∀ (r : Fin 272) (q : Fin 512) (x : S1024x2560.Idx), w0 + 272 ≤ 1024 → (x 0).val = w0 + r.val → (x 1).val = t.val % 5 * 512 + q.val → lo ≤ (x 0).val → (x 0).val < hi →
      mulf (kl272 D f9 fA w0 24) (broadcastTo S272x512 v98 broadcasts_S1x1_S272x512) (ix2 r q) = Y x)

/-- The indices of the group's rows from base `b` on, in the chunk's column block. -/
def Todo (b : ℕ) (x : S1024x2560.Idx) : Prop :=
  b ≤ (x 0).val ∧ lo ≤ (x 0).val ∧ (x 0).val < hi ∧ t.val % 5 * 512 ≤ (x 1).val ∧ (x 1).val < t.val % 5 * 512 + 512

/-- The label's specification entered at base `b` with `dn` done. -/
def spec (b : ℕ) (dn : S1024x2560.Idx → Prop) (f6 : Buf (Elt F) ((c : Thread nD τ).loc cc0_stg4_0)) : sWPT 𝕄 (BitVec 32) := do
  sWPT.consume iprop(held c s f7 f9 fA ∗ ((c : Thread nD τ).loc cc0_stg4_0 ↦{fullShare} f6))
  let r ← sWPT.arbitrary
  sWPT.produce iprop(held c s f7 f9 fA ∗ ∃ f6' : Buf (Elt F) ((c : Thread nD τ).loc cc0_stg4_0), ((c : Thread nD τ).loc cc0_stg4_0 ↦{fullShare} f6')
    ∗ ⌜Good tracked Y (fun x => dn x ∨ Todo n t lo hi b x) f6'⌝)
  pure r

theorem spec_apply (b : ℕ) (dn : S1024x2560.Idx → Prop) (f6 : Buf (Elt F) ((c : Thread nD τ).loc cc0_stg4_0)) (K : BitVec 32 → sProp 𝕄) :
    spec c n t lo hi s f7 f9 fA tracked Y b dn f6 K
      = iprop((held c s f7 f9 fA ∗ ((c : Thread nD τ).loc cc0_stg4_0 ↦{fullShare} f6)) ∗ ∀ r : BitVec 32,
        ((held c s f7 f9 fA ∗ ∃ f6' : Buf (Elt F) ((c : Thread nD τ).loc cc0_stg4_0), ((c : Thread nD τ).loc cc0_stg4_0 ↦{fullShare} f6')
          ∗ ⌜Good tracked Y (fun x => dn x ∨ Todo n t lo hi b x) f6'⌝) -∗ K r)) := rfl

omit [FloatOps F] in
theorem Good_mono {tracked : Prop} {Y : S1024x2560.Idx → F .f32} {d d' : S1024x2560.Idx → Prop} {f : S1024x2560.Idx → F .f32} (h : ∀ x, d' x → d x) (hg : Good tracked Y d f) : Good tracked Y d' f :=
  fun ht x hx => hg ht x (h x hx)

include hlo hhi hs hD in
theorem spec_le (hval : Vals c n t lo hi v98 f9 fA D tracked Y) (E : Set ℕ) :
    ∀ k i : ℕ, i ≤ 81 → hi ≤ 16 * i + 272 * k → ∀ dn f6, Good tracked Y dn f6 → ∀ K, spec c n t lo hi s f7 f9 fA tracked Y (16 * i) dn f6 K
      ⊢ wp frame (wpE (defs₀ (F := F)) 𝒱₀ (c : Thread nD τ) (some k)) E
          (defs₀ (F := F) .tc 1 ⟨W n.val, hw6, t, v41, hw7, v86, hw8, W hi, Memref.whole cc0_scratch0, Memref.isWhole_whole _, Memref.whole cc0_scratch2, Memref.isWhole_whole _,
            Memref.whole cc0_stg3_0, Memref.isWhole_whole _, W lo, v98, Memref.whole cc0_stg4_0, Memref.isWhole_whole _, W (16 * i)⟩) K := by
  intro k
  induction k with
  | zero =>
    intro i hi' hk dn f6 hf K
    rw [spec_apply]
    show _ ⊢ wp frame (wpE (defs₀ (F := F)) 𝒱₀ (c : Thread nD τ) (some 0)) E
      (cc0_while1 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i))) K
    rw [while1F_eq]; unfold while1F
    have htest : Scalar.cmpi .slt (W (16 * i)) (W hi) = 0#1 := by rw [slt_W (by omega) (by omega), if_neg (by omega)]
    simp only [htest, show (0#1 = 1#1) = False from by decide, ↓reduceIte, Prog.pure_eq_ret]
    iintro ⟨⟨H, H6⟩, Hk⟩
    rw [wp_ret]; imodintro
    iapply Hk
    isplitl [H]; · iexact H
    iexists f6
    isplitl [H6]; · iexact H6
    ipureintro
    refine Good_mono (fun x hx => ?_) hf
    rcases hx with hx | hx
    · exact hx
    · exact absurd hx.2.2.1 (by have := hx.1; omega)
  | succ k ih =>
    intro i hi' hk dn f6 hf K
    rw [spec_apply]
    show _ ⊢ wp frame (wpE (defs₀ (F := F)) 𝒱₀ (c : Thread nD τ) (some (k + 1))) E
      (cc0_while1 (W n.val) hw6 t v41 hw7 v86 hw8 (W hi) (Memref.whole cc0_scratch0) (Memref.isWhole_whole _) (Memref.whole cc0_scratch2) (Memref.isWhole_whole _) (Memref.whole cc0_stg3_0) (Memref.isWhole_whole _) (W lo) v98 (Memref.whole cc0_stg4_0) (Memref.isWhole_whole _) (W (16 * i))) K
    rw [while1F_eq]; unfold while1F
    by_cases hlt : 16 * i < hi
    · have htest : Scalar.cmpi .slt (W (16 * i)) (W hi) = 1#1 := by rw [slt_W (by omega) (by omega), if_pos hlt]
      have hi64 : i < 64 := by omega
      have hw9 : k0_chk9 (W n.val) t (W (16 * i)) := chk9 n t ⟨i, hi64⟩
      have hsub : Scalar.subi (W hi) (W (16 * i)) = W (hi - 16 * i) := sub_W (by omega) (by omega)
      have hnext : Scalar.addi (W (16 * i)) 272#32 = W (16 * (i + 17)) := by
        rw [show (272#32 : BitVec 32) = W 272 from rfl, add_W]; congr 1
      have g1 := left1 ⟨hi - 16 * i, by omega⟩
      have g2 := left2 ⟨hi - 16 * i, by omega⟩
      have g3 := left3 ⟨hi - 16 * i, by omega⟩
      simp only [] at g1 g2 g3
      rcases (by omega : hi - 16 * i ≤ 128 ∨ (128 < hi - 16 * i ∧ hi - 16 * i ≤ 192) ∨ 192 < hi - 16 * i) with hd | hd | hd
      · have c1 := g1.2 (by omega); have c2 := eq_false (mt g2.1 (by omega)); have c3 := eq_false (mt g3.1 (by omega))
        simp only [htest, hsub, c1, c2, c3, ↓reduceIte, Prog.lift, Prog.bind_op, Prog.bind_ret, Prog.pure_eq_ret]
        iintro ⟨⟨H, H6⟩, Hk⟩
        iapply (wp_assume 𝒱₀ (c : Thread nD τ) (some (k + 1)) E hw9)
        rw [wp_bind]
        iapply (wp_wand_r frame (wpE (defs₀ (F := F)) 𝒱₀ (c : Thread nD τ) (some (k + 1))) E)
        isplitl [H H6]
        · iapply (win128_wp c (some (k + 1)) E n hw6 t v41 hw7 v86 hw8 lo hi v98 ⟨i, hi64⟩ hw9 hlo hhi s hs f7 f9 fA D hD tracked Y dn
            (fun ht r q x h0 h1 h2 h3 => (hval ht _).1 r q x (by omega) h0 h1 h2 h3) f6 hf)
          isplitl [H]; · iexact H
          iexact H6
        iintro %u ⟨H, %f6', H6, %hf'⟩
        rw [hnext]
        iapply (wp_call_spec 𝒱₀ (c : Thread nD τ) (some (k + 1)) E (spec c n t lo hi s f7 f9 fA tracked Y (16 * (i + 17)) _ f6') k
          (fun u hu => by cases hu; exact Nat.lt_succ_self k)
          (ih (i + 17) (by omega) (by omega) _ f6' hf'))
        rw [spec_apply]
        isplitl [H H6]
        · isplitl [H]; · iexact H
          iexact H6
        iintro %r ⟨H, %f7', H6, %hf7⟩
        rw [wp_ret]; imodintro
        iapply Hk
        isplitl [H]; · iexact H
        iexists f7'
        isplitl [H6]; · iexact H6
        ipureintro
        refine Good_mono (fun x hx => ?_) hf7
        rcases hx with hx | ⟨h1, h2, h3, h4, h5⟩
        · exact Or.inl (Or.inl hx)
        · by_cases hx : (x 0).val < 16 * i + 128
          · exact Or.inl (Or.inr ⟨h1, hx, h2, h3, h4, h5⟩)
          · exact Or.inr ⟨by omega, h2, h3, h4, h5⟩
      · have c1 := eq_false (mt g1.1 (by omega)); have c2 := g2.2 (by omega); have c3 := eq_false (mt g3.1 (by omega))
        simp only [htest, hsub, c1, c2, c3, ↓reduceIte, Prog.lift, Prog.bind_op, Prog.bind_ret, Prog.pure_eq_ret]
        iintro ⟨⟨H, H6⟩, Hk⟩
        iapply (wp_assume 𝒱₀ (c : Thread nD τ) (some (k + 1)) E hw9)
        rw [wp_bind]
        iapply (wp_wand_r frame (wpE (defs₀ (F := F)) 𝒱₀ (c : Thread nD τ) (some (k + 1))) E)
        isplitl [H H6]
        · iapply (win192_wp c (some (k + 1)) E n hw6 t v41 hw7 v86 hw8 lo hi v98 ⟨i, hi64⟩ hw9 hlo hhi s hs f7 f9 fA D hD tracked Y dn
            (fun ht r q x h0 h1 h2 h3 => (hval ht _).2.1 r q x (by omega) h0 h1 h2 h3) f6 hf)
          isplitl [H]; · iexact H
          iexact H6
        iintro %u ⟨H, %f6', H6, %hf'⟩
        rw [hnext]
        iapply (wp_call_spec 𝒱₀ (c : Thread nD τ) (some (k + 1)) E (spec c n t lo hi s f7 f9 fA tracked Y (16 * (i + 17)) _ f6') k
          (fun u hu => by cases hu; exact Nat.lt_succ_self k)
          (ih (i + 17) (by omega) (by omega) _ f6' hf'))
        rw [spec_apply]
        isplitl [H H6]
        · isplitl [H]; · iexact H
          iexact H6
        iintro %r ⟨H, %f7', H6, %hf7⟩
        rw [wp_ret]; imodintro
        iapply Hk
        isplitl [H]; · iexact H
        iexists f7'
        isplitl [H6]; · iexact H6
        ipureintro
        refine Good_mono (fun x hx => ?_) hf7
        rcases hx with hx | ⟨h1, h2, h3, h4, h5⟩
        · exact Or.inl (Or.inl hx)
        · by_cases hx : (x 0).val < 16 * i + 192
          · exact Or.inl (Or.inr ⟨h1, hx, h2, h3, h4, h5⟩)
          · exact Or.inr ⟨by omega, h2, h3, h4, h5⟩
      · have c1 := eq_false (mt g1.1 (by omega)); have c2 := eq_false (mt g2.1 (by omega)); have c3 := g3.2 (by omega)
        simp only [htest, hsub, c1, c2, c3, ↓reduceIte, Prog.lift, Prog.bind_op, Prog.bind_ret, Prog.pure_eq_ret]
        iintro ⟨⟨H, H6⟩, Hk⟩
        iapply (wp_assume 𝒱₀ (c : Thread nD τ) (some (k + 1)) E hw9)
        rw [wp_bind]
        iapply (wp_wand_r frame (wpE (defs₀ (F := F)) 𝒱₀ (c : Thread nD τ) (some (k + 1))) E)
        isplitl [H H6]
        · iapply (win272_wp c (some (k + 1)) E n hw6 t v41 hw7 v86 hw8 lo hi v98 ⟨i, hi64⟩ hw9 hlo hhi s hs f7 f9 fA D hD tracked Y dn
            (fun ht r q x h0 h1 h2 h3 => (hval ht _).2.2 r q x (by omega) h0 h1 h2 h3) f6 hf)
          isplitl [H]; · iexact H
          iexact H6
        iintro %u ⟨H, %f6', H6, %hf'⟩
        rw [hnext]
        iapply (wp_call_spec 𝒱₀ (c : Thread nD τ) (some (k + 1)) E (spec c n t lo hi s f7 f9 fA tracked Y (16 * (i + 17)) _ f6') k
          (fun u hu => by cases hu; exact Nat.lt_succ_self k)
          (ih (i + 17) (by omega) (by omega) _ f6' hf'))
        rw [spec_apply]
        isplitl [H H6]
        · isplitl [H]; · iexact H
          iexact H6
        iintro %r ⟨H, %f7', H6, %hf7⟩
        rw [wp_ret]; imodintro
        iapply Hk
        isplitl [H]; · iexact H
        iexists f7'
        isplitl [H6]; · iexact H6
        ipureintro
        refine Good_mono (fun x hx => ?_) hf7
        rcases hx with hx | ⟨h1, h2, h3, h4, h5⟩
        · exact Or.inl (Or.inl hx)
        · by_cases hx : (x 0).val < 16 * i + 272
          · exact Or.inl (Or.inr ⟨h1, hx, h2, h3, h4, h5⟩)
          · exact Or.inr ⟨by omega, h2, h3, h4, h5⟩
    · have htest : Scalar.cmpi .slt (W (16 * i)) (W hi) = 0#1 := by rw [slt_W (by omega) (by omega), if_neg hlt]
      simp only [htest, show (0#1 = 1#1) = False from by decide, ↓reduceIte, Prog.pure_eq_ret]
      iintro ⟨⟨H, H6⟩, Hk⟩
      rw [wp_ret]; imodintro
      iapply Hk
      isplitl [H]; · iexact H
      iexists f6
      isplitl [H6]; · iexact H6
      ipureintro
      refine Good_mono (fun x hx => ?_) hf
      rcases hx with hx | hx
      · exact hx
      · exact absurd hx.2.2.1 (by have := hx.1; omega)

end Label

end Cert.KernelIdeal.KX
-- ==== Proof.IKR.lean ====
/- The kernel's ring, its cells and its first loop.

   The first loop leaves each group's first row and the list of the groups that are not empty. -/
module

public import proofs.«01_k».proof.Proof.IKX
public import proofs.«01_k».proof.Proof.Words

@[expose] public section

set_option maxRecDepth 8192
set_option maxHeartbeats 1000000

noncomputable section

namespace Cert.KernelIdeal.KR

open Cert.KernelIdeal Cert.KernelIdeal.Gen Cert.KernelIdeal.KA Cert.KernelIdeal.KD Cert.KernelIdeal.KW Cert.KernelIdeal.KX Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the transfers' counters. -/
local notation "𝕄" => MT nD τ sig Unit (Elt F) ℕ (Pipeline.UD sig nD τ) ℕ

/-- The embedding of the transfers' counters. -/
local notation "EC" => (countersEmb (U := Pipeline.UD sig nD τ))

variable (c : Dev nD)

variable (c : Dev nD)

/-! ## Cells -/

theorem read_c0 (k : ℕ) (hk : k < 11) (off : Fin 1 → ℕ) (hoff : off = ![k]) (inb) (f : Buf (Elt F) ((c : Thread nD τ).loc cc0_stg0_0)) (x) :
    ((Memref.whole cc0_stg0_0 : Memref sig .tc .smem S11 .i32).access (Rect.unit (s := S11) off S1.size inb)).read (Elt F) f x = f (ix1 (⟨k, hk⟩ : Fin 11)) := by
  subst hoff
  have h0 : (x 0).val < 1 := (x 0).isLt
  show f ((Rect.unit (s := S11) ![k] S1.size inb).emb x) = _
  congr 1
  funext a; apply Fin.ext; fin_cases a
  show k + 1 * (x 0).val = k; omega

theorem read_c1 (k : ℕ) (hk : k < 11) (off : Fin 1 → ℕ) (hoff : off = ![k]) (inb) (f : Buf (Elt F) ((c : Thread nD τ).loc cc0_stg1_0)) (x) :
    ((Memref.whole cc0_stg1_0 : Memref sig .tc .smem S11 .f32).access (Rect.unit (s := S11) off S1.size inb)).read (Elt F) f x = f (ix1 (⟨k, hk⟩ : Fin 11)) := by
  subst hoff
  have h0 : (x 0).val < 1 := (x 0).isLt
  show f ((Rect.unit (s := S11) ![k] S1.size inb).emb x) = _
  congr 1
  funext a; apply Fin.ext; fin_cases a
  show k + 1 * (x 0).val = k; omega

theorem read_c2 (k : ℕ) (hk : k < 11) (off : Fin 1 → ℕ) (hoff : off = ![k]) (inb) (f : Buf (Elt F) ((c : Thread nD τ).loc cc0_stg2_0)) (x) :
    ((Memref.whole cc0_stg2_0 : Memref sig .tc .smem S11 .f32).access (Rect.unit (s := S11) off S1.size inb)).read (Elt F) f x = f (ix1 (⟨k, hk⟩ : Fin 11)) := by
  subst hoff
  have h0 : (x 0).val < 1 := (x 0).isLt
  show f ((Rect.unit (s := S11) ![k] S1.size inb).emb x) = _
  congr 1
  funext a; apply Fin.ext; fin_cases a
  show k + 1 * (x 0).val = k; omega

theorem read_c10 (k : ℕ) (hk : k < 12) (off : Fin 1 → ℕ) (hoff : off = ![k]) (inb) (f : Buf (Elt F) ((c : Thread nD τ).loc cc0_scratch3)) (x) :
    ((Memref.whole cc0_scratch3 : Memref sig .tc .smem S12 .i32).access (Rect.unit (s := S12) off S1.size inb)).read (Elt F) f x = f (ix1 (⟨k, hk⟩ : Fin 12)) := by
  subst hoff
  have h0 : (x 0).val < 1 := (x 0).isLt
  show f ((Rect.unit (s := S12) ![k] S1.size inb).emb x) = _
  congr 1
  funext a; apply Fin.ext; fin_cases a
  show k + 1 * (x 0).val = k; omega

theorem read_c11 (k : ℕ) (hk : k < 12) (off : Fin 1 → ℕ) (hoff : off = ![k]) (inb) (f : Buf (Elt F) ((c : Thread nD τ).loc cc0_scratch4)) (x) :
    ((Memref.whole cc0_scratch4 : Memref sig .tc .smem S12 .i32).access (Rect.unit (s := S12) off S1.size inb)).read (Elt F) f x = f (ix1 (⟨k, hk⟩ : Fin 12)) := by
  subst hoff
  have h0 : (x 0).val < 1 := (x 0).isLt
  show f ((Rect.unit (s := S12) ![k] S1.size inb).emb x) = _
  congr 1
  funext a; apply Fin.ext; fin_cases a
  show k + 1 * (x 0).val = k; omega

theorem write_c10 (k : ℕ) (off : Fin 1 → ℕ) (hoff : off = ![k]) (inb) (f : Buf (Elt F) ((c : Thread nD τ).loc cc0_scratch3)) (v : Elt F .i32) (y : Fin 12) :
    ((Memref.whole cc0_scratch3 : Memref sig .tc .smem S12 .i32).access (Rect.unit (s := S12) off S1.size inb)).write (Elt F) f (fun _ => v) Finset.univ (ix1 y)
      = if y.val = k then v else f (ix1 y) := by
  refine (congrFun (View.write_whole_slice_unit cc0_scratch3 off S1.size inb f (fun _ => v)) (ix1 y)).trans ?_
  subst hoff
  unfold updateSlice
  by_cases h : y.val = k
  · rw [if_pos h]
    refine dif_pos ?_
    intro a; fin_cases a
    exact (⟨by omega, by omega⟩ : k ≤ y.val ∧ y.val < k + 1)
  · rw [if_neg h]
    refine dif_neg ?_
    intro h'
    have h0 : k ≤ y.val ∧ y.val < k + 1 := h' 0
    omega

theorem write_c11 (k : ℕ) (off : Fin 1 → ℕ) (hoff : off = ![k]) (inb) (f : Buf (Elt F) ((c : Thread nD τ).loc cc0_scratch4)) (v : Elt F .i32) (y : Fin 12) :
    ((Memref.whole cc0_scratch4 : Memref sig .tc .smem S12 .i32).access (Rect.unit (s := S12) off S1.size inb)).write (Elt F) f (fun _ => v) Finset.univ (ix1 y)
      = if y.val = k then v else f (ix1 y) := by
  refine (congrFun (View.write_whole_slice_unit cc0_scratch4 off S1.size inb f (fun _ => v)) (ix1 y)).trans ?_
  subst hoff
  unfold updateSlice
  by_cases h : y.val = k
  · rw [if_pos h]
    refine dif_pos ?_
    intro a; fin_cases a
    exact (⟨by omega, by omega⟩ : k ≤ y.val ∧ y.val < k + 1)
  · rw [if_neg h]
    refine dif_neg ?_
    intro h'
    have h0 : k ≤ y.val ∧ y.val < k + 1 := h' 0
    omega

theorem slot7_eq (s : Fin 4) (off : Fin 3 → ℕ) (h : off = ![s.val, 0, 0]) (inb) :
    ((Memref.whole cc0_scratch0 : Memref sig .tc .vmem S4x3072x512 .i8).slice (Rect.unit (s := S4x3072x512) off S1x3072x512.size inb) (fun _ => rfl)).squeeze S3072x512 squeezes_S1x3072x512_S3072x512 = slot7 s := by
  subst h; rfl

theorem src7_eq (e : Fin 11) (cb : Fin 5) (off : Fin 3 → ℕ) (h : off = ![e.val, 0, cb.val * 512]) (inb) :
    ((Memref.whole main_arg4 : Memref sig .tc .hbm S11x3072x2560 .i8).slice (Rect.unit (s := S11x3072x2560) off S1x3072x512.size inb) (fun _ => rfl)).squeeze S3072x512 squeezes_S1x3072x512_S3072x512 = src7 e cb := by
  subst h; rfl

theorem sem7_eq (s : Fin 4) (off : Fin 1 → ℕ) (h : off = ![s.val]) (inb) :
    ((cc0_scratch5.slice (Rect.unit (s := S4) off S1.size inb)).squeeze S_ squeezes_S1_S_).sem = sem7 s := by
  subst h; rfl

theorem slot8_eq (s : Fin 4) (off : Fin 3 → ℕ) (h : off = ![s.val, 0, 0]) (inb) :
    ((Memref.whole cc0_scratch1 : Memref sig .tc .vmem S4x384x512 .fp8e4m3).slice (Rect.unit (s := S4x384x512) off S1x384x512.size inb) (fun _ => rfl)).squeeze S384x512 squeezes_S1x384x512_S384x512 = slot8 s := by
  subst h; rfl

theorem src8_eq (e : Fin 11) (cb : Fin 5) (off : Fin 3 → ℕ) (h : off = ![e.val, 0, cb.val * 512]) (inb) :
    ((Memref.whole main_arg5 : Memref sig .tc .hbm S11x384x2560 .fp8e4m3).slice (Rect.unit (s := S11x384x2560) off S1x384x512.size inb) (fun _ => rfl)).squeeze S384x512 squeezes_S1x384x512_S384x512 = src8 e cb := by
  subst h; rfl

theorem sem8_eq (s : Fin 4) (off : Fin 1 → ℕ) (h : off = ![s.val]) (inb) :
    ((cc0_scratch6.slice (Rect.unit (s := S4) off S1.size inb)).squeeze S_ squeezes_S1_S_).sem = sem8 s := by
  subst h; rfl

theorem sgt_W {a : ℕ} (ha : a ≤ 2048) : (Scalar.extui (Scalar.cmpi .sgt (W a) 0#32) : BitVec 32) = W (if 0 < a then 1 else 0) := by
  have h := slt_W (a := 0) (b := a) (by omega) ha
  have h2 : Scalar.cmpi .sgt (W a) 0#32 = Scalar.cmpi .slt (W 0) (W a) := rfl
  rw [h2, h]
  by_cases h0 : 0 < a
  · rw [if_pos h0, if_pos h0]; rfl
  · rw [if_neg h0, if_neg h0]; rfl

/-! ## The first loop -/

/-- What is known of the groups: their sizes, as the program reads them. -/
structure Sizes (G : ℕ → ℕ) (gs : S11.Idx → Elt F .i32) : Prop where
  word : ∀ e : Fin 11, gs (ix1 e) = W (G e.val)
  total : pre G 11 = 1024

theorem Sizes.pre_le {G : ℕ → ℕ} {gs : S11.Idx → Elt F .i32} (h : Sizes G gs) {k : ℕ} (hk : k ≤ 11) : pre G k ≤ 1024 :=
  h.total ▸ pre_mono G hk

theorem Sizes.G_le {G : ℕ → ℕ} {gs : S11.Idx → Elt F .i32} (h : Sizes G gs) {k : ℕ} (hk : k < 11) : G k ≤ 1024 := by
  have := h.pre_le (show k + 1 ≤ 11 from hk)
  rw [pre_succ] at this; omega

/-- After `k` groups: their first rows, and the list of those not empty. -/
def Scanned (G : ℕ → ℕ) (k : ℕ) (f10 f11 : S12.Idx → Elt F .i32) : Prop :=
  (∀ y : Fin 12, y.val < k → f10 (ix1 y) = W (pre G y.val)) ∧ (∀ e : ℕ, e < k → 0 < G e → ∀ y : Fin 12, y.val = nl G e → f11 (ix1 y) = W e)

/-- The first loop's state after `k` groups. -/
def Scan (G : ℕ → ℕ) (gs : Buf (Elt F) ((c : Thread nD τ).loc cc0_stg0_0)) (k : ℕ) (acc : BitVec 32 × BitVec 32) : sProp 𝕄 :=
  iprop(⌜acc = (W (pre G k), W (nl G k))⌝ ∗ ((c : Thread nD τ).loc cc0_stg0_0 ↦{fullShare} gs) ∗ ∃ (f10 : Buf (Elt F) ((c : Thread nD τ).loc cc0_scratch3)) (f11 : Buf (Elt F) ((c : Thread nD τ).loc cc0_scratch4)),
        ((c : Thread nD τ).loc cc0_scratch3 ↦{fullShare} f10) ∗ ((c : Thread nD τ).loc cc0_scratch4 ↦{fullShare} f11) ∗ ⌜Scanned G k f10 f11⌝)

theorem t1_wp (bd : Option 𝒱₀.V) (G : ℕ → ℕ) (gs : Buf (Elt F) ((c : Thread nD τ).loc cc0_stg0_0)) (hG : Sizes G gs)
    (k : Fin k0_t1_loop.trips) (acc : BitVec 32 × BitVec 32) :
    Scan c G gs k.val acc
      ⊢ wp frame (wpE (defs₀ (F := F)) 𝒱₀ (c : Thread nD τ) bd) Set.univ
          (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 k acc)
          (fun a => Scan c G gs (k.val + 1) a) := by
  unfold Scan
  have hk : k.val < 11 := trips1 ▸ k.isLt
  have hnl : nl G k.val < 12 := by have := nl_le G k.val; omega
  have hc1 : k0_chk1 (W (nl G k.val)) := chk1 ⟨nl G k.val, hnl⟩
  have ho2 : k0_off2 (W (nl G k.val)) = ![nl G k.val] := off2 ⟨nl G k.val, hnl⟩
  have hgk : gs (ix1 (⟨k.val, hk⟩ : Fin 11)) = W (G k.val) := hG.word ⟨k.val, hk⟩
  iintro ⟨%hacc, H0, %f10, %f11, H10, H11, %hsc⟩
  subst hacc
  unfold k0_t1_body
  simp only [smemLoad, smemLoadElt, Prog.lift, Prog.bind_op, Prog.bind_ret, Prog.pure_eq_ret]
  iapply (wp_assume 𝒱₀ (c : Thread nD τ) bd Set.univ hc1)
  iapply (wp_load_rect 𝒱₀ (c : Thread nD τ) bd Set.univ (m := Memref.whole cc0_scratch3) (r := Rect.unit (s := S12) (k0_off1 k) S1.size (k0_off1_inb k)) (Finset.subset_univ _)) $$ H10; iintro H10
  iapply (wp_store 𝒱₀ (c : Thread nD τ) bd Set.univ (m := Memref.whole cc0_scratch3) (r := Rect.unit (s := S12) (k0_off1 k) S1.size (k0_off1_inb k)) (Mk := Finset.univ) (Finset.subset_univ _)) $$ H10; iintro H10
  iapply (wp_load_rect 𝒱₀ (c : Thread nD τ) bd Set.univ (m := Memref.whole cc0_scratch4) (r := Rect.unit (s := S12) (k0_off2 (W (nl G k.val))) S1.size (k0_off2_inb _ hc1)) (Finset.subset_univ _)) $$ H11; iintro H11
  iapply (wp_store 𝒱₀ (c : Thread nD τ) bd Set.univ (m := Memref.whole cc0_scratch4) (r := Rect.unit (s := S12) (k0_off2 (W (nl G k.val))) S1.size (k0_off2_inb _ hc1)) (Mk := Finset.univ) (Finset.subset_univ _)) $$ H11; iintro H11
  iapply (wp_load_rect 𝒱₀ (c : Thread nD τ) bd Set.univ (m := Memref.whole cc0_stg0_0) (r := Rect.unit (s := S11) (k0_off3 k) S1.size (k0_off3_inb k)) (Finset.subset_univ _)) $$ H0; iintro H0
  rw [wp_ret]; imodintro
  isplitr [H0 H10 H11]
  · ipureintro
    rw [read_c0 c k.val hk _ (off3 k) _ gs, hgk, add_W, sgt_W (by have := hG.G_le hk; omega), add_W, pre_succ, nl_succ]
  isplitl [H0]; · iexact H0
  iexists _; iexists _
  isplitl [H10]; · iexact H10
  isplitl [H11]; · iexact H11
  ipureintro
  refine ⟨fun y hy => ?_, fun e he h0 y hy => ?_⟩
  · refine (write_c10 c k.val _ (off1 k) _ f10 (W (pre G k.val)) y).trans ?_
    by_cases h : y.val = k.val
    · rw [if_pos h, h]
    · rw [if_neg h]; exact hsc.1 y (by omega)
  · refine (write_c11 c (nl G k.val) _ ho2 _ f11 (Scf.iv 0#32 1#32 k.val) y).trans ?_
    by_cases h : e = k.val
    · subst h; rw [if_pos hy]; exact iv1 k
    · rw [if_neg (by have := nl_lt G (show e < k.val by omega) h0; omega)]
      exact hsc.2 e (by omega) h0 y hy

end Cert.KernelIdeal.KR
-- ==== Proof.IKS.lean ====
/- One trip of the kernel's main loop: a chunk waited for, done, and the slot's next chunk started. -/
module

public import proofs.«01_k».proof.Proof.IKR

@[expose] public section

set_option maxRecDepth 8192
set_option maxHeartbeats 1000000

noncomputable section

namespace Cert.KernelIdeal.KS

open Cert.KernelIdeal Cert.KernelIdeal.Gen Cert.KernelIdeal.KA Cert.KernelIdeal.KD Cert.KernelIdeal.KW Cert.KernelIdeal.KX Cert.KernelIdeal.KR Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the transfers' counters. -/
local notation "𝕄" => MT nD τ sig Unit (Elt F) ℕ (Pipeline.UD sig nD τ) ℕ

/-- The embedding of the transfers' counters. -/
local notation "EC" => (countersEmb (U := Pipeline.UD sig nD τ))

variable (c : Dev nD)

variable (c : Dev nD) (G : ℕ → ℕ)
  (fs7 : Buf (Elt F) ((c : Thread nD τ).loc main_arg4)) (fs8 : Buf (Elt F) ((c : Thread nD τ).loc main_arg5))
  (wg : Buf (Elt F) ((c : Thread nD τ).loc cc0_stg1_0)) (ag : Buf (Elt F) ((c : Thread nD τ).loc cc0_stg2_0)) (fA : Buf (Elt F) ((c : Thread nD τ).loc cc0_stg3_0))
  (tracked : Prop) (Y : S1024x2560.Idx → F .f32)

/-- Chunk `j`'s column block. -/
abbrev cbl (j : ℕ) : Fin 5 := ⟨j % 5, Nat.mod_lt _ (by omega)⟩

/-- Chunk `j`'s group. -/
abbrev grp (j : ℕ) : Fin 11 := ex G (j / 5)

/-- A slot at chunk `t` of `N`: its next chunk under way, or free when there is none. -/
def slotst (N t : ℕ) (s : Fin 4) : sProp 𝕄 :=
  if pc t s.val < N then iprop(Pend7 c fs7 s (grp G (pc t s.val)) (cbl (pc t s.val)) ∗ Pend8 c fs8 s (grp G (pc t s.val)) (cbl (pc t s.val)))
  else iprop(Idle7 c fs7 s ∗ Idle8 c fs8 s)

/-- The ring at chunk `t`. -/
def ring (N t : ℕ) : sProp 𝕄 := bigSep Finset.univ (slotst c G fs7 fs8 N t)

theorem ring_take (N t : ℕ) (s : Fin 4) : ring c G fs7 fs8 N t = iprop(slotst c G fs7 fs8 N t s ∗ bigSep (Finset.univ.erase s) (slotst c G fs7 fs8 N t)) :=
  bigSep_erase (Finset.mem_univ s)

theorem ring_put (N t : ℕ) (s : Fin 4) (hs : s.val = t % 4) :
    ring c G fs7 fs8 N (t + 1) = iprop(slotst c G fs7 fs8 N (t + 1) s ∗ bigSep (Finset.univ.erase s) (slotst c G fs7 fs8 N t)) := by
  rw [ring_take c G fs7 fs8 N (t + 1) s]
  congr 1
  refine bigSep_congr fun s' hs' => ?_
  have hne : s' ≠ s := (Finset.mem_erase.1 hs').1
  unfold slotst
  rw [pc_other t s'.val s'.isLt fun h => hne (Fin.ext (h.trans hs.symm))]

/-- The packed weights of group `e`'s column block. -/
def Dof (e : Fin 11) (cb : Fin 5) : Fin 3072 → Fin 512 → Elt F .i8 := fun i q => fs7 (wix7 e cb i q)

/-- The scales of group `e`'s column block, as the slot holds them. -/
def Eof (e : Fin 11) (cb : Fin 5) : Vec F S1x384x512 .fp8e4m3 := fun x => fs8 (wix8 e cb ⟨(x 1).val, (x 1).isLt⟩ ⟨(x 2).val, (x 2).isLt⟩)

/-- The same as f32. -/
def Sof (e : Fin 11) (cb : Fin 5) : FVec F S384x512 .f32 := k0_pay1 (k0_pay22 (Eof c fs8 e cb))

/-- The group's scale. -/
def sof (e : Fin 11) : FVec F S1x1 .f32 := k0_pay21 (ag (ix1 e)) (wg (ix1 e))

/-- What is done before chunk `t`. -/
def dn (t : ℕ) (x : S1024x2560.Idx) : Prop :=
  ∃ j, j < t ∧ pre G (grp G j).val ≤ (x 0).val ∧ (x 0).val < pre G ((grp G j).val + 1) ∧ j % 5 * 512 ≤ (x 1).val ∧ (x 1).val < j % 5 * 512 + 512

/-- Every chunk's windows hold the result. -/
def AllVals (n : Fin 12) : Prop :=
  ∀ t : Fin (k0_t2_loop (W n.val)).trips, Vals c n t (pre G (grp G t.val).val) (pre G ((grp G t.val).val + 1)) (sof c wg ag (grp G t.val))
    (Sof c fs8 (grp G t.val) (cbl t.val)) fA (Dof c fs7 (grp G t.val) (cbl t.val)) tracked Y

/-- The first loop's cells, after it. -/
def Cells (f10 f11 : S12.Idx → Elt F .i32) : Prop :=
  (∀ y : Fin 12, f10 (ix1 y) = W (pre G y.val)) ∧ (∀ e : ℕ, e < 11 → 0 < G e → ∀ y : Fin 12, y.val = nl G e → f11 (ix1 y) = W e)

omit [FloatOps F] in
theorem Cells.live {G : ℕ → ℕ} {f10 f11 : S12.Idx → Elt F .i32} (h : Cells G f10 f11) (j : ℕ) (hj : j < nl G 11) (hj' : j < 12) : f11 (ix1 ⟨j, hj'⟩) = W (ex G j).val :=
  h.2 _ (ex G j).isLt (ex_spec G j hj).1 ⟨j, hj'⟩ (ex_spec G j hj).2.symm

/-- The state between chunks. -/
def Inv (n : Fin 12) (f10 : Buf (Elt F) ((c : Thread nD τ).loc cc0_scratch3)) (f11 : Buf (Elt F) ((c : Thread nD τ).loc cc0_scratch4)) (t : ℕ) : sProp 𝕄 :=
  iprop((∃ Wt : Waits sig Unit, owes (c : Thread nD τ) 0 Wt) ∗ ((c : Thread nD τ).loc cc0_stg1_0 ↦{fullShare} wg) ∗ ((c : Thread nD τ).loc cc0_stg2_0 ↦{fullShare} ag) ∗ ((c : Thread nD τ).loc cc0_stg3_0 ↦{fullShare} fA)
    ∗ ((c : Thread nD τ).loc cc0_scratch3 ↦{fullShare} f10) ∗ ((c : Thread nD τ).loc cc0_scratch4 ↦{fullShare} f11)
    ∗ (∃ f9 : Buf (Elt F) ((c : Thread nD τ).loc cc0_scratch2), (c : Thread nD τ).loc cc0_scratch2 ↦{fullShare} f9)
    ∗ (∃ f6 : Buf (Elt F) ((c : Thread nD τ).loc cc0_stg4_0), ((c : Thread nD τ).loc cc0_stg4_0 ↦{fullShare} f6) ∗ ⌜Good tracked Y (dn G t) f6⌝)
    ∗ ring c G fs7 fs8 (5 * n.val) t)

theorem read8 (s : Fin 4) (e : Fin 11) (cb : Fin 5) (off : Fin 3 → ℕ) (hoff : off = ![s.val, 0, 0]) (inb)
    (f : Buf (Elt F) ((c : Thread nD τ).loc cc0_scratch1)) (hf : ∀ i q, f (ix3 s i q) = fs8 (wix8 e cb i q)) :
    (Memref.whole cc0_scratch1 : Memref sig .tc .vmem S4x384x512 .fp8e4m3).view.readAt (Elt F) (Rect.unit (s := S4x384x512) off S1x384x512.size inb).toLoadRect f = Eof c fs8 e cb := by
  subst hoff
  funext x
  have h0 : (x 0).val < 1 := (x 0).isLt
  show f ((Rect.unit (s := S4x384x512) ![s.val, 0, 0] S1x384x512.size inb).emb x) = _
  unfold Eof; rw [← hf]
  congr 1
  funext a; apply Fin.ext; fin_cases a
  · show s.val + 1 * (x 0).val = s.val; omega
  · show 0 + 1 * (x 1).val = (x 1).val; omega
  · show 0 + 1 * (x 2).val = (x 2).val; omega

theorem sub8 (s : Fin 4) (off : Fin 3 → ℕ) (hoff : off = ![s.val, 0, 0]) (inb) :
    (Memref.whole cc0_scratch1 : Memref sig .tc .vmem S4x384x512 .fp8e4m3).view.setOn (Rect.unit (s := S4x384x512) off S1x384x512.size inb).toLoadRect.set ⊆ set8 s := by
  subst hoff
  intro y hy
  rw [View.setOn, Finset.mem_map] at hy
  obtain ⟨z, hz, rfl⟩ := hy
  have hz' : z ∈ (Rect.unit (s := S4x384x512) ![s.val, 0, 0] S1x384x512.size inb).set := hz
  rw [Rect.mem_set_unit] at hz'
  have h0 : s.val ≤ (z 0).val ∧ (z 0).val < s.val + 1 := hz' 0
  rw [mem_set8]
  show (z 0).val = s.val
  omega

theorem write9 (inb) (f w : Buf (Elt F) ((c : Thread nD τ).loc cc0_scratch2)) :
    ((Memref.whole cc0_scratch2 : Memref sig .tc .vmem S384x512 .f32).access (Rect.unit (s := S384x512) ![0, 0] S384x512.size inb)).write (Elt F) f w Finset.univ = w := by
  refine (View.write_whole_slice_unit cc0_scratch2 ![0, 0] S384x512.size inb f w).trans ?_
  funext x
  unfold updateSlice
  refine (dif_pos ?_).trans ?_
  · intro a
    have := (x a).isLt
    fin_cases a
    · exact (⟨Nat.zero_le _, by have h := (x 0).isLt; have h' : (x 0).val < 384 := h; omega⟩ : 0 ≤ (x 0).val ∧ (x 0).val < 0 + 384)
    · exact (⟨Nat.zero_le _, by have h := (x 1).isLt; have h' : (x 1).val < 512 := h; omega⟩ : 0 ≤ (x 1).val ∧ (x 1).val < 0 + 512)
  · congr 1
    funext a; apply Fin.ext; fin_cases a <;> rfl

theorem store9 (inb) (f w : Buf (Elt F) ((c : Thread nD τ).loc cc0_scratch2)) :
    (((c : Thread nD τ).loc cc0_scratch2 ↦{fullShare} ((Memref.whole cc0_scratch2 : Memref sig .tc .vmem S384x512 .f32).access (Rect.unit (s := S384x512) ![0, 0] S384x512.size inb)).write (Elt F) f w Finset.univ : sProp 𝕄))
      ⊢ ((c : Thread nD τ).loc cc0_scratch2 ↦{fullShare} w) := by
  rw [write9]

theorem part5_wp (n : Fin 12) (hw6 : k0_chk6 (W n.val)) (t : Fin (k0_t2_loop (W n.val)).trips) (v125 : BitVec 32) (h5 : k0_cond5 (W n.val) t = 1#1)
    (f11 : Buf (Elt F) ((c : Thread nD τ).loc cc0_scratch4)) (s : Fin 4) (hs : s.val = t.val % 4) (e' : Fin 11) (ht4 : (t.val + 4) / 5 < 12)
    (hlive4 : f11 (ix1 ⟨(t.val + 4) / 5, ht4⟩) = W e'.val) :
    iprop(((c : Thread nD τ).loc cc0_scratch4 ↦{fullShare} f11) ∗ Idle7 c fs7 s)
      ⊢ wp frame (wpE (defs₀ (F := F)) 𝒱₀ (c : Thread nD τ) none) Set.univ
          (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) hw6 t v125 h5)
          (fun r => iprop(⌜r.1 = W e'.val⌝ ∗ ((c : Thread nD τ).loc cc0_scratch4 ↦{fullShare} f11) ∗ Pend7 c fs7 s e' (cbl (t.val + 4)))) := by
  rw [k0_part5_eq_skeleton]
  unfold k0_part5_skel
  simp only [smemLoad, smemLoadElt, Prog.lift, Prog.bind_op, Prog.bind_ret, Prog.pure_eq_ret]
  iintro ⟨H11, I7⟩
  iapply (wp_load_rect 𝒱₀ (c : Thread nD τ) none Set.univ (m := Memref.whole cc0_scratch4) (r := Rect.unit (s := S12) (k0_off56 (W n.val) t) S1.size (k0_off56_inb (W n.val) hw6 t h5)) (Finset.subset_univ _)) $$ H11; iintro H11
  beta_reduce
  irw [read_c11 c ((t.val + 4) / 5) (by omega) _ (off56 n t h5) _ f11, hlive4]
  iapply (wp_assume 𝒱₀ (c : Thread nD τ) none Set.univ (chk10 n t e'))
  iapply (enq7 c none fs7 s e' (cbl (t.val + 4)) _ (slot7_eq s _ ((off58 n t).trans (by rw [hs])) _) _ (src7_eq e' (cbl (t.val + 4)) _ (off59 n t e') _) _ (sem7_eq s _ ((off57 n t).trans (by rw [hs])) _)) $$ I7
  iintro P7
  rw [wp_ret]; imodintro
  isplitr [H11 P7]; · ipureintro; rfl
  isplitl [H11]; · iexact H11
  iexact P7

theorem t2_wp (n : Fin 12) (hn : n.val = nl G 11) (gs : S11.Idx → Elt F .i32) (hG : Sizes G gs) (hw6 : k0_chk6 (W n.val))
    (f10 : Buf (Elt F) ((c : Thread nD τ).loc cc0_scratch3)) (f11 : Buf (Elt F) ((c : Thread nD τ).loc cc0_scratch4)) (hc : Cells G f10 f11)
    (hv : AllVals c G fs7 fs8 wg ag fA tracked Y n) (t : Fin (k0_t2_loop (W n.val)).trips) (acc : BitVec 32) :
    Inv c G fs7 fs8 wg ag fA tracked Y n f10 f11 t.val
      ⊢ wp frame (wpE (defs₀ (F := F)) 𝒱₀ (c : Thread nD τ) none) Set.univ
          (k0_t2_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) hw6 t acc)
          (fun _ => Inv c G fs7 fs8 wg ag fA tracked Y n f10 f11 (t.val + 1)) := by
  have ht : t.val < 5 * n.val := trips2 n ▸ t.isLt
  have hn12 := n.isLt
  obtain ⟨s, hs⟩ : ∃ s : Fin 4, s.val = t.val % 4 := ⟨⟨t.val % 4, Nat.mod_lt _ (by omega)⟩, rfl⟩
  have hpc : pc t.val s.val = t.val := by rw [hs]; exact pc_self t.val
  have hpn : pc (t.val + 1) s.val = t.val + 4 := by rw [hs]; exact pc_next t.val
  have hj : t.val / 5 < nl G 11 := by omega
  have hlive := hc.live (t.val / 5) hj (by omega)
  obtain ⟨e, he⟩ : ∃ e : Fin 11, e = grp G t.val := ⟨_, rfl⟩
  have hlive' : f11 (ix1 ⟨t.val / 5, by omega⟩) = W e.val := by rw [he]; exact hlive
  have hlo := hG.pre_le (show e.val ≤ 11 by omega)
  have hhi := hG.pre_le (show e.val + 1 ≤ 11 by omega)
  have hb := base0 ⟨pre G e.val, by omega⟩
  dsimp only at hb
  have hc7 : k0_chk7 (W n.val) t (W e.val) := chk7 n t e
  have hvt := hv t
  rw [← he] at hvt
  have hst : slotst c G fs7 fs8 (5 * n.val) t.val s = iprop(Pend7 c fs7 s e (cbl t.val) ∗ Pend8 c fs8 s e (cbl t.val)) := by
    unfold slotst; rw [hpc, if_pos ht, he]
  unfold Inv
  rw [ring_take c G fs7 fs8 _ t.val s, ring_put c G fs7 fs8 _ t.val s hs]
  rw [hst]
  iintro ⟨⟨%Wt, HO⟩, H1, H2, H3, H10, H11, ⟨%f9, H9⟩, ⟨%f6, H6, %hf6⟩, ⟨P7, P8⟩, HR⟩
  unfold k0_t2_body
  simp only [k0_part6_eq_skeleton, k0_part7_eq_skeleton]
  unfold k0_part6_skel k0_part7_skel
  simp only [smemLoad, smemLoadElt, Prog.lift, Prog.bind_op, Prog.bind_ret, Prog.pure_eq_ret]
  -- the chunk's group, and the wait for its weights
  iapply (wp_load_rect 𝒱₀ (c : Thread nD τ) none Set.univ (m := Memref.whole cc0_scratch4) (r := Rect.unit (s := S12) (k0_off32 (W n.val) t) S1.size (k0_off32_inb (W n.val) hw6 t)) (Finset.subset_univ _)) $$ H11; iintro H11
  beta_reduce
  irw [read_c11 c (t.val / 5) (by omega) _ (off32 n t) _ f11, hlive']
  iapply (wp_assume 𝒱₀ (c : Thread nD τ) none Set.univ hc7)
  iapply (wait7 c none fs7 s e (cbl t.val) _ (slot7_eq s _ ((off34 n t).trans (by rw [hs])) _) _ _ (sem7_eq s _ ((off33 n t).trans (by rw [hs])) _)) $$ [P7 HO]
  · isplitl [P7]; · iexact P7
    iexact HO
  iintro ⟨F7, HO⟩
  iapply (wait8 c none fs8 s e (cbl t.val) _ (slot8_eq s _ ((off37 n t).trans (by rw [hs])) _) _ _ (sem8_eq s _ ((off36 n t).trans (by rw [hs])) _)) $$ [P8 HO]
  · isplitl [P8]; · iexact P8
    iexact HO
  iintro ⟨F8, HO⟩
  -- the group's rows and scale
  iapply (wp_load_rect 𝒱₀ (c : Thread nD τ) none Set.univ (m := Memref.whole cc0_scratch4) (r := Rect.unit (s := S12) (k0_off39 (W n.val) t) S1.size (k0_off39_inb (W n.val) hw6 t)) (Finset.subset_univ _)) $$ H11; iintro H11
  beta_reduce
  irw [read_c11 c (t.val / 5) (by omega) _ (off39 n t) _ f11, hlive']
  iapply (wp_assume 𝒱₀ (c : Thread nD τ) none Set.univ (chk8 e))
  iapply (wp_load_rect 𝒱₀ (c : Thread nD τ) none Set.univ (m := Memref.whole cc0_scratch3) (r := Rect.unit (s := S12) (k0_off40 (W e.val)) S1.size (k0_off40_inb (W e.val) (chk8 e))) (Finset.subset_univ _)) $$ H10; iintro H10
  beta_reduce
  irw [read_c10 c e.val (by omega) _ (off40 e) _ f10, hc.1]
  iapply (wp_load_rect 𝒱₀ (c : Thread nD τ) none Set.univ (m := Memref.whole cc0_scratch3) (r := Rect.unit (s := S12) (k0_off41 (W e.val)) S1.size (k0_off41_inb (W e.val) (chk8 e))) (Finset.subset_univ _)) $$ H10; iintro H10
  beta_reduce
  irw [read_c10 c (e.val + 1) (by omega) _ (off41 e) _ f10, hc.1]
  iapply (wp_load_rect 𝒱₀ (c : Thread nD τ) none Set.univ (m := Memref.whole cc0_stg2_0) (r := Rect.unit (s := S11) (k0_off42 (W e.val)) S1.size (k0_off42_inb (W e.val) (chk8 e))) (Finset.subset_univ _)) $$ H2; iintro H2
  beta_reduce
  irw [read_c2 c e.val e.isLt _ (off42 e) _ ag]
  iapply (wp_load_rect 𝒱₀ (c : Thread nD τ) none Set.univ (m := Memref.whole cc0_stg1_0) (r := Rect.unit (s := S11) (k0_off42 (W e.val)) S1.size (k0_off42_inb (W e.val) (chk8 e))) (Finset.subset_univ _)) $$ H1; iintro H1
  beta_reduce
  irw [read_c1 c e.val e.isLt _ (off42 e) _ wg]
  unfold Full7 Full8
  icases F7 with ⟨⟨%f7, F7, %hf7⟩, T7, V7⟩
  icases F8 with ⟨⟨%f8, F8, %hf8⟩, T8, V8⟩
  iapply (wp_load 𝒱₀ (c : Thread nD τ) none Set.univ (m := Memref.whole cc0_scratch1) (sub8 s _ ((off43 n t).trans (by rw [hs])) _)) $$ F8; iintro F8
  irw [read8 c fs8 s e (cbl t.val) _ ((off43 n t).trans (by rw [hs])) _ f8 hf8]
  iapply (wp_load 𝒱₀ (c : Thread nD τ) none Set.univ (m := Memref.whole cc0_scratch2) (Finset.subset_univ _)) $$ H9; iintro H9
  iapply (wp_store 𝒱₀ (c : Thread nD τ) none Set.univ (m := Memref.whole cc0_scratch2) (r := Rect.unit (s := S384x512) ![0, 0] S384x512.size inb_S384x512_S384x512_0_0) (Mk := Finset.univ) (Finset.subset_univ _)) $$ H9; iintro H9
  ihave H9 := (store9 c _ f9 _) $$ H9
  irw [hb]
  -- the windows
  iapply (wp_call_spec 𝒱₀ (c : Thread nD τ) none Set.univ
    (spec c n t (pre G e.val) (pre G (e.val + 1)) s f7 (Sof c fs8 e (cbl t.val)) fA tracked Y (16 * (pre G e.val / 16)) (dn G t.val) f6) (4 : ℕ) (fun u hu => nomatch hu)
    (spec_le c n hw6 t (W e.val) hc7 (W e.val) (chk8 e) (pre G e.val) (pre G (e.val + 1)) hlo hhi (sof c wg ag e) s hs f7 (Sof c fs8 e (cbl t.val)) fA (Dof c fs7 e (cbl t.val)) hf7 tracked Y hvt Set.univ
      4 (pre G e.val / 16) (by omega) (by omega) (dn G t.val) f6 hf6))
  irw [spec_apply]; irw [held]
  isplitl [F7 H9 H3 H6]
  · isplitl [F7 H9 H3]
    · isplitl [F7]; · iexact F7
      isplitl [H9]; · iexact H9
      iexact H3
    · iexact H6
  iintro %r ⟨⟨F7, H9, H3⟩, %f6', H6, %hf6'⟩
  ihave I7 : Idle7 c fs7 s $$ [F7 T7 V7]
  · unfold Idle7
    isplitl [F7]; · iexists f7; iexact F7
    isplitl [T7]; · iexact T7
    iexact V7
  ihave I8 : Idle8 c fs8 s $$ [F8 T8 V8]
  · unfold Idle8
    isplitl [F8]; · iexists f8; iexact F8
    isplitl [T8]; · iexact T8
    iexact V8
  have hdn : Good tracked Y (dn G (t.val + 1)) f6' := by
    refine Good_mono (fun x hx => ?_) hf6'
    obtain ⟨j, hj, h1, h2, h3, h4⟩ := hx
    by_cases hjt : j = t.val
    · subst hjt
      rw [← he] at h1 h2
      exact Or.inr ⟨by omega, h1, h2, h3, h4⟩
    · exact Or.inl ⟨j, by omega, h1, h2, h3, h4⟩
  by_cases h5 : k0_cond5 (W n.val) t = 1#1
  · have ht4 : t.val + 4 < 5 * n.val := (cond5 n t).1 h5
    obtain ⟨e', he'⟩ : ∃ e : Fin 11, e = grp G (t.val + 4) := ⟨_, rfl⟩
    have hlive4 : f11 (ix1 ⟨(t.val + 4) / 5, by omega⟩) = W e'.val := by rw [he']; exact hc.live ((t.val + 4) / 5) (by omega) (by omega)
    have hst' : slotst c G fs7 fs8 (5 * n.val) (t.val + 1) s = iprop(Pend7 c fs7 s e' (cbl (t.val + 4)) ∗ Pend8 c fs8 s e' (cbl (t.val + 4))) := by
      unfold slotst; rw [hpn, if_pos ht4, he']
    irw [hst']
    irw [dif_pos h5]
    rw [wp_bind]
    iapply (wp_wand_r frame (wpE (defs₀ (F := F)) 𝒱₀ (c : Thread nD τ) none) Set.univ)
    isplitl [H11 I7]
    · iapply (part5_wp c fs7 n hw6 t _ h5 f11 s hs e' (by omega) hlive4)
      isplitl [H11]; · iexact H11
      iexact I7
    iintro %a ⟨%ha, H11, P7⟩
    obtain ⟨v, hw10⟩ := a
    change v = W e'.val at ha
    subst ha
    simp only [Prog.lift, Prog.bind_op, Prog.bind_ret, Prog.pure_eq_ret]
    iapply (enq8 c none fs8 s e' (cbl (t.val + 4)) _ (slot8_eq s _ ((off61 n t).trans (by rw [hs])) _) _ (src8_eq e' (cbl (t.val + 4)) _ (off62 n t e') _) _ (sem8_eq s _ ((off60 n t).trans (by rw [hs])) _)) $$ I8
    iintro P8
    rw [wp_ret]; imodintro
    isplitl [HO]; · iexists _; iexact HO
    isplitl [H1]; · iexact H1
    isplitl [H2]; · iexact H2
    isplitl [H3]; · iexact H3
    isplitl [H10]; · iexact H10
    isplitl [H11]; · iexact H11
    isplitl [H9]; · iexists _; iexact H9
    isplitl [H6]
    · iexists f6'
      isplitl [H6]; · iexact H6
      ipureintro; exact hdn
    isplitl [P7 P8]
    · isplitl [P7]; · iexact P7
      iexact P8
    iexact HR
  · have ht4 : ¬ t.val + 4 < 5 * n.val := fun h => h5 ((cond5 n t).2 h)
    have hst' : slotst c G fs7 fs8 (5 * n.val) (t.val + 1) s = iprop(Idle7 c fs7 s ∗ Idle8 c fs8 s) := by
      unfold slotst; rw [hpn, if_neg ht4]
    irw [hst']
    irw [dif_neg h5]
    rw [wp_ret]; imodintro
    isplitl [HO]; · iexists _; iexact HO
    isplitl [H1]; · iexact H1
    isplitl [H2]; · iexact H2
    isplitl [H3]; · iexact H3
    isplitl [H10]; · iexact H10
    isplitl [H11]; · iexact H11
    isplitl [H9]; · iexists _; iexact H9
    isplitl [H6]
    · iexists f6'
      isplitl [H6]; · iexact H6
      ipureintro; exact hdn
    isplitl [I7 I8]
    · isplitl [I7]; · iexact I7
      iexact I8
    iexact HR

end Cert.KernelIdeal.KS
-- ==== Proof.IKB.lean ====
/- The whole body: from its staged arguments to its staged result. -/
module

public import proofs.«01_k».proof.Proof.IKS

@[expose] public section

set_option maxRecDepth 8192
set_option maxHeartbeats 1000000

noncomputable section

namespace Cert.KernelIdeal.KB

open Cert.KernelIdeal Cert.KernelIdeal.Gen Cert.KernelIdeal.KA Cert.KernelIdeal.KD Cert.KernelIdeal.KW Cert.KernelIdeal.KX Cert.KernelIdeal.KR Cert.KernelIdeal.KS Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the transfers' counters. -/
local notation "𝕄" => MT nD τ sig Unit (Elt F) ℕ (Pipeline.UD sig nD τ) ℕ

/-- The embedding of the transfers' counters. -/
local notation "EC" => (countersEmb (U := Pipeline.UD sig nD τ))

variable (c : Dev nD)

variable (c : Dev nD)

/-! ## The ring's slots, taken apart and put together -/

omit [FloatOps F] in
theorem four_eq (Φ : Fin 4 → sProp 𝕄) : bigSep Finset.univ Φ = iprop(Φ 0 ∗ Φ 1 ∗ Φ 2 ∗ Φ 3) := by
  rw [BI.bigSep_eq_bigSepL_of_eq [0, 1, 2, 3] (by decide) (by decide)]; rfl

theorem cover7 : Finset.univ.biUnion set7 = Finset.univ := by
  ext x
  constructor
  · intro _; exact Finset.mem_univ _
  · intro _
    rw [Finset.mem_biUnion]
    exact ⟨⟨(x 0).val, (x 0).isLt⟩, Finset.mem_univ _, (mem_set7 _ x).2 rfl⟩

theorem disj7 : ∀ t ∈ (Finset.univ : Finset (Fin 4)), ∀ t' ∈ (Finset.univ : Finset (Fin 4)), t ≠ t' → Disjoint (set7 t) (set7 t') := by
  intro t _ t' _ h
  rw [Finset.disjoint_left]
  intro x hx hx'
  rw [mem_set7] at hx hx'
  exact h (Fin.ext (hx.symm.trans hx'))

theorem split7 (f : Buf (Elt F) ((c : Thread nD τ).loc cc0_scratch0)) :
    ((c : Thread nD τ).loc cc0_scratch0 ↦{fullShare} f : sProp 𝕄) = bigSep Finset.univ fun s => (c : Thread nD τ).loc cc0_scratch0 ↦[set7 s]{fullShare} f := by
  rw [← pointsTo_biUnion Finset.univ (ℓ := (c : Thread nD τ).loc cc0_scratch0) set7 disj7, cover7]; try rfl

theorem idle_in7 (f : Buf (Elt F) ((c : Thread nD τ).loc cc0_scratch0)) (fs : Buf (Elt F) ((c : Thread nD τ).loc main_arg4)) :
    iprop(((c : Thread nD τ).loc cc0_scratch0 ↦{fullShare} f) ∗ ((c : Thread nD τ).loc main_arg4 ↦{fullShare} fs) ∗ bigSep Finset.univ (fun s : Fin 4 => semVal ((c : Thread nD τ), SemLoc.dma (sem7 s)) 0))
      ⊢ (iprop(((c : Thread nD τ).loc main_arg4 ↦{Transfers.shareDrop fullShare 4} fs) ∗ bigSep Finset.univ (fun s => Idle7 c fs s)) : sProp 𝕄) := by
  rw [split7, four_eq, four_eq, four_eq]
  unfold Idle7 tok7
  iintro ⟨⟨H0, H1, H2, H3⟩, Ha, S0, S1, S2, S3⟩
  ihave Ha := (Transfers.pointsTo_toks_split fullShare 4) $$ Ha
  rw [four_eq]
  icases Ha with ⟨Ha, T0, T1, T2, T3⟩
  isplitl [Ha]; · iexact Ha
  isplitl [H0 T0 S0]
  · isplitl [H0]; · iexists f; iexact H0
    isplitl [T0]; · iexact T0
    iexact S0
  isplitl [H1 T1 S1]
  · isplitl [H1]; · iexists f; iexact H1
    isplitl [T1]; · iexact T1
    iexact S1
  isplitl [H2 T2 S2]
  · isplitl [H2]; · iexists f; iexact H2
    isplitl [T2]; · iexact T2
    iexact S2
  isplitl [H3]; · iexists f; iexact H3
  isplitl [T3]; · iexact T3
  iexact S3

theorem idle_out7 (fs : Buf (Elt F) ((c : Thread nD τ).loc main_arg4)) :
    iprop(((c : Thread nD τ).loc main_arg4 ↦{Transfers.shareDrop fullShare 4} fs) ∗ bigSep Finset.univ (fun s => Idle7 c fs s))
      ⊢ (iprop((∃ f : Buf (Elt F) ((c : Thread nD τ).loc cc0_scratch0), (c : Thread nD τ).loc cc0_scratch0 ↦{fullShare} f) ∗ ((c : Thread nD τ).loc main_arg4 ↦{fullShare} fs) ∗ bigSep Finset.univ (fun s : Fin 4 => semVal ((c : Thread nD τ), SemLoc.dma (sem7 s)) 0)) : sProp 𝕄) := by
  rw [four_eq, four_eq]
  unfold Idle7 tok7
  iintro ⟨Ha, ⟨⟨%f0, H0⟩, T0, S0⟩, ⟨⟨%f1, H1⟩, T1, S1⟩, ⟨⟨%f2, H2⟩, T2, S2⟩, ⟨⟨%f3, H3⟩, T3, S3⟩⟩
  isplitl [H0 H1 H2 H3]
  · ihave H : (bigSep Finset.univ fun s : Fin 4 => (c : Thread nD τ).loc cc0_scratch0 ↦[set7 s]{fullShare} (![f0, f1, f2, f3] : Fin 4 → Buf (Elt F) ((c : Thread nD τ).loc cc0_scratch0)) s : sProp 𝕄) $$ [H0 H1 H2 H3]
    · rw [four_eq]
      isplitl [H0]; · iexact H0
      isplitl [H1]; · iexact H1
      isplitl [H2]; · iexact H2
      iexact H3
    ihave H := (pointsTo_biUnion_join Finset.univ set7 (![f0, f1, f2, f3] : Fin 4 → Buf (Elt F) ((c : Thread nD τ).loc cc0_scratch0)) f0 disj7) $$ H
    rw [cover7]
    icases H with ⟨%g, -, H⟩
    iexists g; iexact H
  isplitl [Ha T0 T1 T2 T3]
  · iapply (Transfers.pointsTo_toks_join fullShare 4)
    isplitl [Ha]; · iexact Ha
    rw [four_eq]
    isplitl [T0]; · iexact T0
    isplitl [T1]; · iexact T1
    isplitl [T2]; · iexact T2
    iexact T3
  isplitl [S0]; · iexact S0
  isplitl [S1]; · iexact S1
  isplitl [S2]; · iexact S2
  iexact S3

theorem cover8 : Finset.univ.biUnion set8 = Finset.univ := by
  ext x
  constructor
  · intro _; exact Finset.mem_univ _
  · intro _
    rw [Finset.mem_biUnion]
    exact ⟨⟨(x 0).val, (x 0).isLt⟩, Finset.mem_univ _, (mem_set8 _ x).2 rfl⟩

theorem disj8 : ∀ t ∈ (Finset.univ : Finset (Fin 4)), ∀ t' ∈ (Finset.univ : Finset (Fin 4)), t ≠ t' → Disjoint (set8 t) (set8 t') := by
  intro t _ t' _ h
  rw [Finset.disjoint_left]
  intro x hx hx'
  rw [mem_set8] at hx hx'
  exact h (Fin.ext (hx.symm.trans hx'))

theorem split8 (f : Buf (Elt F) ((c : Thread nD τ).loc cc0_scratch1)) :
    ((c : Thread nD τ).loc cc0_scratch1 ↦{fullShare} f : sProp 𝕄) = bigSep Finset.univ fun s => (c : Thread nD τ).loc cc0_scratch1 ↦[set8 s]{fullShare} f := by
  rw [← pointsTo_biUnion Finset.univ (ℓ := (c : Thread nD τ).loc cc0_scratch1) set8 disj8, cover8]; try rfl

theorem idle_in8 (f : Buf (Elt F) ((c : Thread nD τ).loc cc0_scratch1)) (fs : Buf (Elt F) ((c : Thread nD τ).loc main_arg5)) :
    iprop(((c : Thread nD τ).loc cc0_scratch1 ↦{fullShare} f) ∗ ((c : Thread nD τ).loc main_arg5 ↦{fullShare} fs) ∗ bigSep Finset.univ (fun s : Fin 4 => semVal ((c : Thread nD τ), SemLoc.dma (sem8 s)) 0))
      ⊢ (iprop(((c : Thread nD τ).loc main_arg5 ↦{Transfers.shareDrop fullShare 4} fs) ∗ bigSep Finset.univ (fun s => Idle8 c fs s)) : sProp 𝕄) := by
  rw [split8, four_eq, four_eq, four_eq]
  unfold Idle8 tok8
  iintro ⟨⟨H0, H1, H2, H3⟩, Ha, S0, S1, S2, S3⟩
  ihave Ha := (Transfers.pointsTo_toks_split fullShare 4) $$ Ha
  rw [four_eq]
  icases Ha with ⟨Ha, T0, T1, T2, T3⟩
  isplitl [Ha]; · iexact Ha
  isplitl [H0 T0 S0]
  · isplitl [H0]; · iexists f; iexact H0
    isplitl [T0]; · iexact T0
    iexact S0
  isplitl [H1 T1 S1]
  · isplitl [H1]; · iexists f; iexact H1
    isplitl [T1]; · iexact T1
    iexact S1
  isplitl [H2 T2 S2]
  · isplitl [H2]; · iexists f; iexact H2
    isplitl [T2]; · iexact T2
    iexact S2
  isplitl [H3]; · iexists f; iexact H3
  isplitl [T3]; · iexact T3
  iexact S3

theorem idle_out8 (fs : Buf (Elt F) ((c : Thread nD τ).loc main_arg5)) :
    iprop(((c : Thread nD τ).loc main_arg5 ↦{Transfers.shareDrop fullShare 4} fs) ∗ bigSep Finset.univ (fun s => Idle8 c fs s))
      ⊢ (iprop((∃ f : Buf (Elt F) ((c : Thread nD τ).loc cc0_scratch1), (c : Thread nD τ).loc cc0_scratch1 ↦{fullShare} f) ∗ ((c : Thread nD τ).loc main_arg5 ↦{fullShare} fs) ∗ bigSep Finset.univ (fun s : Fin 4 => semVal ((c : Thread nD τ), SemLoc.dma (sem8 s)) 0)) : sProp 𝕄) := by
  rw [four_eq, four_eq]
  unfold Idle8 tok8
  iintro ⟨Ha, ⟨⟨%f0, H0⟩, T0, S0⟩, ⟨⟨%f1, H1⟩, T1, S1⟩, ⟨⟨%f2, H2⟩, T2, S2⟩, ⟨⟨%f3, H3⟩, T3, S3⟩⟩
  isplitl [H0 H1 H2 H3]
  · ihave H : (bigSep Finset.univ fun s : Fin 4 => (c : Thread nD τ).loc cc0_scratch1 ↦[set8 s]{fullShare} (![f0, f1, f2, f3] : Fin 4 → Buf (Elt F) ((c : Thread nD τ).loc cc0_scratch1)) s : sProp 𝕄) $$ [H0 H1 H2 H3]
    · rw [four_eq]
      isplitl [H0]; · iexact H0
      isplitl [H1]; · iexact H1
      isplitl [H2]; · iexact H2
      iexact H3
    ihave H := (pointsTo_biUnion_join Finset.univ set8 (![f0, f1, f2, f3] : Fin 4 → Buf (Elt F) ((c : Thread nD τ).loc cc0_scratch1)) f0 disj8) $$ H
    rw [cover8]
    icases H with ⟨%g, -, H⟩
    iexists g; iexact H
  isplitl [Ha T0 T1 T2 T3]
  · iapply (Transfers.pointsTo_toks_join fullShare 4)
    isplitl [Ha]; · iexact Ha
    rw [four_eq]
    isplitl [T0]; · iexact T0
    isplitl [T1]; · iexact T1
    isplitl [T2]; · iexact T2
    iexact T3
  isplitl [S0]; · iexact S0
  isplitl [S1]; · iexact S1
  isplitl [S2]; · iexact S2
  iexact S3

/-! ## The ring's start -/

theorem part1_wp (n : Fin 12) (v : BitVec 32) (h1 : k0_cond1 (W n.val) = 1#1) (fs7 : Buf (Elt F) ((c : Thread nD τ).loc main_arg4))
    (f11 : Buf (Elt F) ((c : Thread nD τ).loc cc0_scratch4)) (e : Fin 11) (hlive : f11 (ix1 ⟨0, by omega⟩) = W e.val) :
    iprop(((c : Thread nD τ).loc cc0_scratch4 ↦{fullShare} f11) ∗ Idle7 c fs7 0)
      ⊢ wp frame (wpE (defs₀ (F := F)) 𝒱₀ (c : Thread nD τ) none) Set.univ
          (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) v h1)
          (fun r => iprop(⌜r.1 = W e.val⌝ ∗ ((c : Thread nD τ).loc cc0_scratch4 ↦{fullShare} f11) ∗ Pend7 c fs7 0 e 0)) := by
  rw [k0_part1_eq_skeleton]
  unfold k0_part1_skel
  simp only [smemLoad, smemLoadElt, Prog.lift, Prog.bind_op, Prog.bind_ret, Prog.pure_eq_ret]
  iintro ⟨H11, I7⟩
  iapply (wp_load_rect 𝒱₀ (c : Thread nD τ) none Set.univ (m := Memref.whole cc0_scratch4) (r := Rect.unit (s := S12) k0_off4 S1.size k0_off4_inb) (Finset.subset_univ _)) $$ H11; iintro H11
  beta_reduce
  irw [read_c11 c 0 (by omega) _ off4 _ f11, hlive]
  iapply (wp_assume 𝒱₀ (c : Thread nD τ) none Set.univ (chk2 (W n.val) e))
  iapply (enq7 c none fs7 0 e 0 _ (slot7_eq 0 _ off6 _) _ (src7_eq e 0 _ (off7 e) _) _ (sem7_eq 0 _ off5 _)) $$ I7
  iintro P7
  rw [wp_ret]; imodintro
  isplitr [H11 P7]; · ipureintro; rfl
  isplitl [H11]; · iexact H11
  iexact P7

theorem part2_wp (n : Fin 12) (v : BitVec 32) (h1 : k0_cond2 (W n.val) = 1#1) (fs7 : Buf (Elt F) ((c : Thread nD τ).loc main_arg4))
    (f11 : Buf (Elt F) ((c : Thread nD τ).loc cc0_scratch4)) (e : Fin 11) (hlive : f11 (ix1 ⟨0, by omega⟩) = W e.val) :
    iprop(((c : Thread nD τ).loc cc0_scratch4 ↦{fullShare} f11) ∗ Idle7 c fs7 1)
      ⊢ wp frame (wpE (defs₀ (F := F)) 𝒱₀ (c : Thread nD τ) none) Set.univ
          (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) v h1)
          (fun r => iprop(⌜r.1 = W e.val⌝ ∗ ((c : Thread nD τ).loc cc0_scratch4 ↦{fullShare} f11) ∗ Pend7 c fs7 1 e 1)) := by
  rw [k0_part2_eq_skeleton]
  unfold k0_part2_skel
  simp only [smemLoad, smemLoadElt, Prog.lift, Prog.bind_op, Prog.bind_ret, Prog.pure_eq_ret]
  iintro ⟨H11, I7⟩
  iapply (wp_load_rect 𝒱₀ (c : Thread nD τ) none Set.univ (m := Memref.whole cc0_scratch4) (r := Rect.unit (s := S12) k0_off11 S1.size k0_off11_inb) (Finset.subset_univ _)) $$ H11; iintro H11
  beta_reduce
  irw [read_c11 c 0 (by omega) _ off11 _ f11, hlive]
  iapply (wp_assume 𝒱₀ (c : Thread nD τ) none Set.univ (chk3 (W n.val) e))
  iapply (enq7 c none fs7 1 e 1 _ (slot7_eq 1 _ off13 _) _ (src7_eq e 1 _ (off14 e) _) _ (sem7_eq 1 _ off12 _)) $$ I7
  iintro P7
  rw [wp_ret]; imodintro
  isplitr [H11 P7]; · ipureintro; rfl
  isplitl [H11]; · iexact H11
  iexact P7

theorem part3_wp (n : Fin 12) (v : BitVec 32) (h1 : k0_cond3 (W n.val) = 1#1) (fs7 : Buf (Elt F) ((c : Thread nD τ).loc main_arg4))
    (f11 : Buf (Elt F) ((c : Thread nD τ).loc cc0_scratch4)) (e : Fin 11) (hlive : f11 (ix1 ⟨0, by omega⟩) = W e.val) :
    iprop(((c : Thread nD τ).loc cc0_scratch4 ↦{fullShare} f11) ∗ Idle7 c fs7 2)
      ⊢ wp frame (wpE (defs₀ (F := F)) 𝒱₀ (c : Thread nD τ) none) Set.univ
          (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) v h1)
          (fun r => iprop(⌜r.1 = W e.val⌝ ∗ ((c : Thread nD τ).loc cc0_scratch4 ↦{fullShare} f11) ∗ Pend7 c fs7 2 e 2)) := by
  rw [k0_part3_eq_skeleton]
  unfold k0_part3_skel
  simp only [smemLoad, smemLoadElt, Prog.lift, Prog.bind_op, Prog.bind_ret, Prog.pure_eq_ret]
  iintro ⟨H11, I7⟩
  iapply (wp_load_rect 𝒱₀ (c : Thread nD τ) none Set.univ (m := Memref.whole cc0_scratch4) (r := Rect.unit (s := S12) k0_off18 S1.size k0_off18_inb) (Finset.subset_univ _)) $$ H11; iintro H11
  beta_reduce
  irw [read_c11 c 0 (by omega) _ off18 _ f11, hlive]
  iapply (wp_assume 𝒱₀ (c : Thread nD τ) none Set.univ (chk4 (W n.val) e))
  iapply (enq7 c none fs7 2 e 2 _ (slot7_eq 2 _ off20 _) _ (src7_eq e 2 _ (off21 e) _) _ (sem7_eq 2 _ off19 _)) $$ I7
  iintro P7
  rw [wp_ret]; imodintro
  isplitr [H11 P7]; · ipureintro; rfl
  isplitl [H11]; · iexact H11
  iexact P7

theorem part4_wp (n : Fin 12) (v : BitVec 32) (h1 : k0_cond4 (W n.val) = 1#1) (fs7 : Buf (Elt F) ((c : Thread nD τ).loc main_arg4))
    (f11 : Buf (Elt F) ((c : Thread nD τ).loc cc0_scratch4)) (e : Fin 11) (hlive : f11 (ix1 ⟨0, by omega⟩) = W e.val) :
    iprop(((c : Thread nD τ).loc cc0_scratch4 ↦{fullShare} f11) ∗ Idle7 c fs7 3)
      ⊢ wp frame (wpE (defs₀ (F := F)) 𝒱₀ (c : Thread nD τ) none) Set.univ
          (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) v h1)
          (fun r => iprop(⌜r.1 = W e.val⌝ ∗ ((c : Thread nD τ).loc cc0_scratch4 ↦{fullShare} f11) ∗ Pend7 c fs7 3 e 3)) := by
  rw [k0_part4_eq_skeleton]
  unfold k0_part4_skel
  simp only [smemLoad, smemLoadElt, Prog.lift, Prog.bind_op, Prog.bind_ret, Prog.pure_eq_ret]
  iintro ⟨H11, I7⟩
  iapply (wp_load_rect 𝒱₀ (c : Thread nD τ) none Set.univ (m := Memref.whole cc0_scratch4) (r := Rect.unit (s := S12) k0_off25 S1.size k0_off25_inb) (Finset.subset_univ _)) $$ H11; iintro H11
  beta_reduce
  irw [read_c11 c 0 (by omega) _ off25 _ f11, hlive]
  iapply (wp_assume 𝒱₀ (c : Thread nD τ) none Set.univ (chk5 (W n.val) e))
  iapply (enq7 c none fs7 3 e 3 _ (slot7_eq 3 _ off27 _) _ (src7_eq e 3 _ (off28 e) _) _ (sem7_eq 3 _ off26 _)) $$ I7
  iintro P7
  rw [wp_ret]; imodintro
  isplitr [H11 P7]; · ipureintro; rfl
  isplitl [H11]; · iexact H11
  iexact P7

theorem slot0 (G : ℕ → ℕ) (fs7 : Buf (Elt F) ((c : Thread nD τ).loc main_arg4)) (fs8 : Buf (Elt F) ((c : Thread nD τ).loc main_arg5)) (N : ℕ) (hN : 4 ≤ N) (s : Fin 4) :
    slotst c G fs7 fs8 N 0 s = iprop(Pend7 c fs7 s (ex G 0) ⟨s.val, by omega⟩ ∗ Pend8 c fs8 s (ex G 0) ⟨s.val, by omega⟩) := by
  have hp : pc 0 s.val = s.val := by unfold pc; omega
  have hg : grp G s.val = ex G 0 := by unfold grp; rw [show s.val / 5 = 0 by omega]
  have hb : cbl s.val = ⟨s.val, by omega⟩ := Fin.ext (show s.val % 5 = s.val by omega)
  unfold slotst
  rw [hp, if_pos (by omega), hg, hb]

theorem ring0 (G : ℕ → ℕ) (fs7 : Buf (Elt F) ((c : Thread nD τ).loc main_arg4)) (fs8 : Buf (Elt F) ((c : Thread nD τ).loc main_arg5)) (N : ℕ) (hN : 4 ≤ N) :
    ring c G fs7 fs8 N 0 = iprop((Pend7 c fs7 0 (ex G 0) 0 ∗ Pend8 c fs8 0 (ex G 0) 0) ∗ (Pend7 c fs7 1 (ex G 0) 1 ∗ Pend8 c fs8 1 (ex G 0) 1)
      ∗ (Pend7 c fs7 2 (ex G 0) 2 ∗ Pend8 c fs8 2 (ex G 0) 2) ∗ (Pend7 c fs7 3 (ex G 0) 3 ∗ Pend8 c fs8 3 (ex G 0) 3)) := by
  unfold ring
  rw [four_eq, slot0 c G fs7 fs8 N hN, slot0 c G fs7 fs8 N hN, slot0 c G fs7 fs8 N hN, slot0 c G fs7 fs8 N hN]
  rfl

theorem ringN (G : ℕ → ℕ) (fs7 : Buf (Elt F) ((c : Thread nD τ).loc main_arg4)) (fs8 : Buf (Elt F) ((c : Thread nD τ).loc main_arg5)) (N : ℕ) :
    ring c G fs7 fs8 N N = iprop(bigSep Finset.univ (fun s => Idle7 c fs7 s) ∗ bigSep Finset.univ (fun s => Idle8 c fs8 s)) := by
  unfold ring
  refine Eq.trans ?_ (bigSep_sep Finset.univ (fun s => Idle7 c fs7 s) (fun s => Idle8 c fs8 s))
  refine bigSep_congr fun s _ => ?_
  unfold slotst
  rw [if_neg (by have := pc_ge N s.val; omega)]; rfl

/-- Every row is in a group, every column in a block: at the end all is done. -/
theorem dn_all (G : ℕ → ℕ) (h : pre G 11 = 1024) (x : S1024x2560.Idx) : dn G (5 * nl G 11) x := by
  have h0 : (x 0).val < 1024 := (x 0).isLt
  have h1 : (x 1).val < 2560 := (x 1).isLt
  obtain ⟨e, he, hlo, hhi, hpos⟩ := group_of G 11 (x 0).val (by omega)
  have hn := nl_lt G he hpos
  refine ⟨5 * nl G e + (x 1).val / 512, by omega, ?_⟩
  have hg : (grp G (5 * nl G e + (x 1).val / 512)).val = e := by
    unfold grp
    rw [show (5 * nl G e + (x 1).val / 512) / 5 = nl G e by omega]
    exact congrArg Fin.val (ex_nl G ⟨e, he⟩ hpos)
  rw [hg]
  exact ⟨hlo, hhi, by omega, by omega⟩

/-! ## The body -/

/-- All that the body holds, with what is known of the result's buffer. -/
def Held (gs : Buf (Elt F) ((c : Thread nD τ).loc cc0_stg0_0)) (wg : Buf (Elt F) ((c : Thread nD τ).loc cc0_stg1_0)) (ag : Buf (Elt F) ((c : Thread nD τ).loc cc0_stg2_0))
    (fA : Buf (Elt F) ((c : Thread nD τ).loc cc0_stg3_0)) (fs7 : Buf (Elt F) ((c : Thread nD τ).loc main_arg4)) (fs8 : Buf (Elt F) ((c : Thread nD τ).loc main_arg5))
    (P : Buf (Elt F) ((c : Thread nD τ).loc cc0_stg4_0) → Prop) : sProp 𝕄 :=
  iprop((∃ Wt : Waits sig Unit, owes (c : Thread nD τ) 0 Wt) ∗ ((c : Thread nD τ).loc cc0_stg0_0 ↦{fullShare} gs) ∗ ((c : Thread nD τ).loc cc0_stg1_0 ↦{fullShare} wg)
        ∗ ((c : Thread nD τ).loc cc0_stg2_0 ↦{fullShare} ag) ∗ ((c : Thread nD τ).loc cc0_stg3_0 ↦{fullShare} fA)
        ∗ (∃ f6 : Buf (Elt F) ((c : Thread nD τ).loc cc0_stg4_0), ((c : Thread nD τ).loc cc0_stg4_0 ↦{fullShare} f6) ∗ ⌜P f6⌝)
        ∗ (∃ f : Buf (Elt F) ((c : Thread nD τ).loc cc0_scratch0), (c : Thread nD τ).loc cc0_scratch0 ↦{fullShare} f) ∗ (∃ f : Buf (Elt F) ((c : Thread nD τ).loc cc0_scratch1), (c : Thread nD τ).loc cc0_scratch1 ↦{fullShare} f)
        ∗ (∃ f : Buf (Elt F) ((c : Thread nD τ).loc cc0_scratch2), (c : Thread nD τ).loc cc0_scratch2 ↦{fullShare} f) ∗ (∃ f : Buf (Elt F) ((c : Thread nD τ).loc cc0_scratch3), (c : Thread nD τ).loc cc0_scratch3 ↦{fullShare} f)
        ∗ (∃ f : Buf (Elt F) ((c : Thread nD τ).loc cc0_scratch4), (c : Thread nD τ).loc cc0_scratch4 ↦{fullShare} f)
        ∗ ((c : Thread nD τ).loc main_arg4 ↦{fullShare} fs7) ∗ ((c : Thread nD τ).loc main_arg5 ↦{fullShare} fs8)
        ∗ bigSep Finset.univ (fun s : Fin 4 => semVal ((c : Thread nD τ), SemLoc.dma (sem7 s)) 0) ∗ bigSep Finset.univ (fun s : Fin 4 => semVal ((c : Thread nD τ), SemLoc.dma (sem8 s)) 0))

theorem body_wp (G : ℕ → ℕ) (gs : Buf (Elt F) ((c : Thread nD τ).loc cc0_stg0_0)) (hG : Sizes G gs)
    (wg : Buf (Elt F) ((c : Thread nD τ).loc cc0_stg1_0)) (ag : Buf (Elt F) ((c : Thread nD τ).loc cc0_stg2_0)) (fA : Buf (Elt F) ((c : Thread nD τ).loc cc0_stg3_0))
    (fs7 : Buf (Elt F) ((c : Thread nD τ).loc main_arg4)) (fs8 : Buf (Elt F) ((c : Thread nD τ).loc main_arg5))
    (tracked : Prop) (Y : S1024x2560.Idx → F .f32) (hv : ∀ n : Fin 12, n.val = nl G 11 → AllVals c G fs7 fs8 wg ag fA tracked Y n) :
    Held c gs wg ag fA fs7 fs8 (fun _ => True)
      ⊢ wp frame (wpE (defs₀ (F := F)) 𝒱₀ (c : Thread nD τ) none) Set.univ
          (cc0_nvfp4_grouped_projection (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6)
          (fun _ => Held c gs wg ag fA fs7 fs8 (fun f6 => tracked → f6 = Y)) := by
  have hn0 : 0 < nl G 11 := nl_pos G 11 (by rw [hG.total]; omega)
  obtain ⟨n, hn⟩ : ∃ n : Fin 12, n.val = nl G 11 := ⟨⟨nl G 11, by have := nl_le G 11; omega⟩, rfl⟩
  have hn1 : 1 ≤ n.val := by omega
  rw [cc0_nvfp4_grouped_projection_eq_skeleton]
  unfold cc0_nvfp4_grouped_projection_skel
  unfold Held
  iintro ⟨HO, H0, H1, H2, H3, ⟨%f6, H6, -⟩, ⟨%f7, H7⟩, ⟨%f8, H8⟩, ⟨%f9, H9⟩, ⟨%f10, H10⟩, ⟨%f11, H11⟩, Ha7, Ha8, HS7, HS8⟩
  -- the first loop
  iapply (Scf.wp_for_bind Idealize.ShloMosaic.frame (wpE (defs₀ (F := F)) 𝒱₀ (c : Thread nD τ) none) Set.univ k0_t1_loop.lb k0_t1_loop.ub k0_t1_loop.st k0_t1_ok ((0#32, 0#32) : BitVec 32 × BitVec 32)
    (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) (fun k acc => Scan c G gs k acc) (fun k acc => t1_wp c none G gs hG k acc)) $$ [H0 H10 H11]
  · unfold Scan
    isplitr [H0 H10 H11]; · ipureintro; rfl
    isplitl [H0]; · iexact H0
    iexists f10; iexists f11
    isplitl [H10]; · iexact H10
    isplitl [H11]; · iexact H11
    ipureintro
    exact ⟨fun y hy => absurd hy (by omega), fun e he => absurd he (by omega)⟩
  iintro %acc HS
  unfold Scan
  icases HS with ⟨%hacc, H0, %g10, %g11, H10, H11, %hsc⟩
  have htr : Scf.trips k0_t1_loop.lb k0_t1_loop.ub k0_t1_loop.st = 11 := trips1
  rw [htr, ← hn] at hacc
  rw [htr] at hsc
  subst hacc
  have hc1 : (k0_cond1 (W n.val) = 1#1) = True := eq_true (cond1 n hn1)
  have hc2 : (k0_cond2 (W n.val) = 1#1) = True := eq_true (cond2 n hn1)
  have hc3 : (k0_cond3 (W n.val) = 1#1) = True := eq_true (cond3 n hn1)
  have hc4 : (k0_cond4 (W n.val) = 1#1) = True := eq_true (cond4 n hn1)
  simp only [hc1, hc2, hc3, hc4, ↓reduceDIte, smemLoad, smemLoadElt, Prog.lift, Prog.bind_op, Prog.bind_ret, Prog.pure_eq_ret]
  iapply (wp_assume 𝒱₀ (c : Thread nD τ) none Set.univ (chk6 n))
  iapply (wp_load_rect 𝒱₀ (c : Thread nD τ) none Set.univ (m := Memref.whole cc0_scratch3) (r := Rect.unit (s := S12) ![11] S1.size inb_S12_S1_11) (Finset.subset_univ _)) $$ H10; iintro H10
  iapply (wp_store 𝒱₀ (c : Thread nD τ) none Set.univ (m := Memref.whole cc0_scratch3) (r := Rect.unit (s := S12) ![11] S1.size inb_S12_S1_11) (Mk := Finset.univ) (Finset.subset_univ _)) $$ H10; iintro H10
  obtain ⟨h10, hh10⟩ : ∃ h : Buf (Elt F) ((c : Thread nD τ).loc cc0_scratch3), h = ((Memref.whole cc0_scratch3 : Memref sig .tc .smem S12 .i32).access (Rect.unit (s := S12) ![11] S1.size inb_S12_S1_11)).write (Elt F) g10 (fun _ => W (pre G 11)) Finset.univ := ⟨_, rfl⟩
  have hcells : Cells G h10 g11 := by
    refine ⟨fun y => ?_, fun e he h0 y hy => hsc.2 e he h0 y hy⟩
    rw [hh10]
    refine (write_c10 c 11 _ rfl _ g10 (W (pre G 11)) y).trans ?_
    by_cases h : y.val = 11
    · rw [if_pos h, h]
    · rw [if_neg h]; exact hsc.1 y (by omega)
  ihave H10 : ((c : Thread nD τ).loc cc0_scratch3 ↦{fullShare} h10) $$ [H10]
  · rw [hh10]; iexact H10
  have hlive : g11 (ix1 ⟨0, by omega⟩) = W (ex G 0).val := hcells.live 0 hn0 (by omega)
  -- the ring's slots
  ihave HI7 := (idle_in7 c f7 fs7) $$ [H7 Ha7 HS7]
  · isplitl [H7]; · iexact H7
    isplitl [Ha7]; · iexact Ha7
    iexact HS7
  ihave HI8 := (idle_in8 c f8 fs8) $$ [H8 Ha8 HS8]
  · isplitl [H8]; · iexact H8
    isplitl [Ha8]; · iexact Ha8
    iexact HS8
  rw [four_eq, four_eq]
  icases HI7 with ⟨Ha7, A0, A1, A2, A3⟩
  icases HI8 with ⟨Ha8, B0, B1, B2, B3⟩
  rw [wp_bind]
  iapply (wp_wand_r Idealize.ShloMosaic.frame (wpE (defs₀ (F := F)) 𝒱₀ (c : Thread nD τ) none) Set.univ)
  isplitl [H11 A0]
  · iapply (part1_wp c n _ (cond1 n hn1) fs7 g11 (ex G 0) hlive)
    isplitl [H11]; · iexact H11
    iexact A0
  iintro %a ⟨%ha, H11, A0⟩
  obtain ⟨v, hw⟩ := a
  change v = W (ex G 0).val at ha
  subst ha
  simp only [Prog.lift, Prog.bind_op, Prog.bind_ret, Prog.pure_eq_ret]
  iapply (enq8 c none fs8 0 (ex G 0) 0 _ (slot8_eq 0 _ off9 _) _ (src8_eq (ex G 0) 0 _ (off10 (ex G 0)) _) _ (sem8_eq 0 _ off8 _)) $$ B0
  iintro B0
  clear hw
  rw [wp_bind]
  iapply (wp_wand_r Idealize.ShloMosaic.frame (wpE (defs₀ (F := F)) 𝒱₀ (c : Thread nD τ) none) Set.univ)
  isplitl [H11 A1]
  · iapply (part2_wp c n _ (cond2 n hn1) fs7 g11 (ex G 0) hlive)
    isplitl [H11]; · iexact H11
    iexact A1
  iintro %a ⟨%ha, H11, A1⟩
  obtain ⟨v, hw⟩ := a
  change v = W (ex G 0).val at ha
  subst ha
  simp only [Prog.lift, Prog.bind_op, Prog.bind_ret, Prog.pure_eq_ret]
  iapply (enq8 c none fs8 1 (ex G 0) 1 _ (slot8_eq 1 _ off16 _) _ (src8_eq (ex G 0) 1 _ (off17 (ex G 0)) _) _ (sem8_eq 1 _ off15 _)) $$ B1
  iintro B1
  clear hw
  rw [wp_bind]
  iapply (wp_wand_r Idealize.ShloMosaic.frame (wpE (defs₀ (F := F)) 𝒱₀ (c : Thread nD τ) none) Set.univ)
  isplitl [H11 A2]
  · iapply (part3_wp c n _ (cond3 n hn1) fs7 g11 (ex G 0) hlive)
    isplitl [H11]; · iexact H11
    iexact A2
  iintro %a ⟨%ha, H11, A2⟩
  obtain ⟨v, hw⟩ := a
  change v = W (ex G 0).val at ha
  subst ha
  simp only [Prog.lift, Prog.bind_op, Prog.bind_ret, Prog.pure_eq_ret]
  iapply (enq8 c none fs8 2 (ex G 0) 2 _ (slot8_eq 2 _ off23 _) _ (src8_eq (ex G 0) 2 _ (off24 (ex G 0)) _) _ (sem8_eq 2 _ off22 _)) $$ B2
  iintro B2
  clear hw
  rw [wp_bind]
  iapply (wp_wand_r Idealize.ShloMosaic.frame (wpE (defs₀ (F := F)) 𝒱₀ (c : Thread nD τ) none) Set.univ)
  isplitl [H11 A3]
  · iapply (part4_wp c n _ (cond4 n hn1) fs7 g11 (ex G 0) hlive)
    isplitl [H11]; · iexact H11
    iexact A3
  iintro %a ⟨%ha, H11, A3⟩
  obtain ⟨v, hw⟩ := a
  change v = W (ex G 0).val at ha
  subst ha
  simp only [Prog.lift, Prog.bind_op, Prog.bind_ret, Prog.pure_eq_ret]
  iapply (enq8 c none fs8 3 (ex G 0) 3 _ (slot8_eq 3 _ off30 _) _ (src8_eq (ex G 0) 3 _ (off31 (ex G 0)) _) _ (sem8_eq 3 _ off29 _)) $$ B3
  iintro B3
  clear hw
  -- the chunks
  iapply (Scf.wp_for_bind Idealize.ShloMosaic.frame (wpE (defs₀ (F := F)) 𝒱₀ (c : Thread nD τ) none) Set.univ (k0_t2_loop (W n.val)).lb (k0_t2_loop (W n.val)).ub (k0_t2_loop (W n.val)).st (k0_t2_ok (W n.val) (chk6 n)) (0#32 : BitVec 32)
    (k0_t2_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) (chk6 n)) (fun t _ => KS.Inv c G fs7 fs8 wg ag fA tracked Y n h10 g11 t)
    (fun t acc => t2_wp c G fs7 fs8 wg ag fA tracked Y n hn gs hG (chk6 n) h10 g11 hcells (hv n hn) t acc)) $$ [HO H1 H2 H3 H10 H11 H9 H6 A0 A1 A2 A3 B0 B1 B2 B3]
  · unfold KS.Inv
    rw [ring0 c G fs7 fs8 (5 * n.val) (by omega)]
    isplitl [HO]; · iexact HO
    isplitl [H1]; · iexact H1
    isplitl [H2]; · iexact H2
    isplitl [H3]; · iexact H3
    isplitl [H10]; · iexact H10
    isplitl [H11]; · iexact H11
    isplitl [H9]; · iexists f9; iexact H9
    isplitl [H6]
    · iexists f6
      isplitl [H6]; · iexact H6
      ipureintro
      exact fun _ x hx => absurd hx (fun ⟨j, hj, _⟩ => absurd hj (by omega))
    isplitl [A0 B0]
    · isplitl [A0]; · iexact A0
      iexact B0
    isplitl [A1 B1]
    · isplitl [A1]; · iexact A1
      iexact B1
    isplitl [A2 B2]
    · isplitl [A2]; · iexact A2
      iexact B2
    isplitl [A3]; · iexact A3
    iexact B3
  iintro %acc HI
  -- the second loop over chunks has no trips
  iapply (Scf.wp_for_bind Idealize.ShloMosaic.frame (wpE (defs₀ (F := F)) 𝒱₀ (c : Thread nD τ) none) Set.univ (k0_t6_loop (W n.val)).lb (k0_t6_loop (W n.val)).ub (k0_t6_loop (W n.val)).st (k0_t6_ok (W n.val) (chk6 n)) acc
    (k0_t6_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (W n.val) (chk6 n) _) (fun _ _ => KS.Inv c G fs7 fs8 wg ag fA tracked Y n h10 g11 (5 * n.val))
    (fun t acc => absurd (show t.val < (k0_t6_loop (W n.val)).trips from t.isLt) (by rw [trips6 n]; omega))) $$ [HI]
  · have htr2 : Scf.trips (k0_t2_loop (W n.val)).lb (k0_t2_loop (W n.val)).ub (k0_t2_loop (W n.val)).st = 5 * n.val := trips2 n
    rw [htr2]
    iexact HI
  iintro %acc' HI
  unfold KS.Inv
  rw [ringN]
  icases HI with ⟨HO, H1, H2, H3, H10, H11, H9, ⟨%f6', H6, %hf6⟩, A, B⟩
  ihave HI7 := (idle_out7 c fs7) $$ [Ha7 A]
  · isplitl [Ha7]; · iexact Ha7
    iexact A
  ihave HI8 := (idle_out8 c fs8) $$ [Ha8 B]
  · isplitl [Ha8]; · iexact Ha8
    iexact B
  icases HI7 with ⟨H7, Ha7, HS7⟩
  icases HI8 with ⟨H8, Ha8, HS8⟩
  rw [wp_ret]; imodintro
  isplitl [HO]; · iexact HO
  isplitl [H0]; · iexact H0
  isplitl [H1]; · iexact H1
  isplitl [H2]; · iexact H2
  isplitl [H3]; · iexact H3
  isplitl [H6]
  · iexists f6'
    isplitl [H6]; · iexact H6
    ipureintro
    intro ht
    funext x
    exact hf6 ht x (hn ▸ dn_all G hG.total x)
  isplitl [H7]; · iexact H7
  isplitl [H8]; · iexact H8
  isplitl [H9]; · iexact H9
  isplitl [H10]; · iexists h10; iexact H10
  isplitl [H11]; · iexists g11; iexact H11
  isplitl [Ha7]; · iexact Ha7
  isplitl [Ha8]; · iexact Ha8
  isplitl [HS7]; · iexact HS7
  iexact HS8

end Cert.KernelIdeal.KB
-- ==== Proof.IKL.lean ====
/- The launch: the body run as the one point of the grid, its arguments staged and its result written back. -/
module

public import proofs.«01_k».proof.Proof.IKB
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value

@[expose] public section

set_option maxRecDepth 8192
set_option maxHeartbeats 1000000

noncomputable section

namespace Cert.KernelIdeal.KL

open Cert.KernelIdeal Cert.KernelIdeal.Gen Cert.KernelIdeal.KA Cert.KernelIdeal.KD Cert.KernelIdeal.KW Cert.KernelIdeal.KX Cert.KernelIdeal.KR Cert.KernelIdeal.KS Cert.KernelIdeal.KB Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the transfers' counters. -/
local notation "𝕄" => MT nD τ sig Unit (Elt F) ℕ (Pipeline.UD sig nD τ) ℕ

/-- The embedding of the transfers' counters. -/
local notation "EC" => (countersEmb (U := Pipeline.UD sig nD τ))

open Idealize.ShloMosaic.Pipeline (Dat RDat Cfg Window BodyObligation cellOf)

variable (m : (ℓ : Loc nD τ sig) → Buf (Elt F) ℓ) (ρ : Dev nD → PrngReg) (Y : Dev nD → S1024x2560.Idx → F .f32)

abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's own transfer cells: four for the codes, four for the scales. -/
abbrev osem0 : Fin 8 → SemLoc sig := fun j => (![SemLoc.dma 5, SemLoc.dma 6, SemLoc.dma 7, SemLoc.dma 8, SemLoc.dma 9, SemLoc.dma 10, SemLoc.dma 11, SemLoc.dma 12] : Fin 8 → SemLoc sig) j
theorem ownSemFacts0 : Pipeline.OwnSemFacts spec0 osem0 := by decide

theorem sem7_val : sem7 0 = 5 ∧ sem7 1 = 6 ∧ sem7 2 = 7 ∧ sem7 3 = 8 := by decide +kernel
theorem sem8_val : sem8 0 = 9 ∧ sem8 1 = 10 ∧ sem8 2 = 11 ∧ sem8 3 = 12 := by decide +kernel

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0
          ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3, 4, 5, 6, 7] (by decide) (by decide)]; rfl

theorem sems7_eq (c : Dev nD) : (bigSep Finset.univ (fun s : Fin 4 => semVal ((c : Thread nD τ), SemLoc.dma (sem7 s)) 0) : sProp 𝕄)
    = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) := by
  obtain ⟨h0, h1, h2, h3⟩ := sem7_val
  rw [four_eq, h0, h1, h2, h3]
theorem sems8_eq (c : Dev nD) : (bigSep Finset.univ (fun s : Fin 4 => semVal ((c : Thread nD τ), SemLoc.dma (sem8 s)) 0) : sProp 𝕄)
    = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  obtain ⟨h0, h1, h2, h3⟩ := sem8_val
  rw [four_eq, h0, h1, h2, h3]

/-- The arguments the body's transfers read. -/
def H0 : Finset (Ref sig .tc) := {main_arg4, main_arg5}
theorem H0_sub : H0 ⊆ Pipeline.restRefs sig spec0 := by decide
theorem hbmPts0_eq (c : Dev nD) :
    (bigSep H0 (fun b => ((c : Thread nD τ).loc b) ↦{fullShare} V m c b) : sProp 𝕄)
      = iprop(((c : Thread nD τ).loc main_arg4 ↦{fullShare} V m c main_arg4) ∗ ((c : Thread nD τ).loc main_arg5 ↦{fullShare} V m c main_arg5)) := by
  rw [BI.bigSep_eq_bigSepL_of_eq [main_arg4, main_arg5] (by decide) (by decide)]; rfl

/-- The proof data: the arrays as launched, the result after the body at `Y`. -/
def dats (_ : Fin 1) (c : Dev nD) : Dat τ (Elt F) Unit ℕ (Pipeline.UD sig nD τ) ℕ (cfg0 (F := F)) c where
  A w := V m c (Pipeline.arrRef spec0 w)
  after w t := match w with
    | ⟨0, _⟩ => V m c main_arg0
    | ⟨1, _⟩ => V m c main_arg1
    | ⟨2, _⟩ => V m c main_arg2
    | ⟨3, _⟩ => V m c main_arg3
    | ⟨4, _⟩ => Y c
  Φ _ := Pipeline.ΦD osem0 spec0 H0 (V m) c
  q _ := fullShare
  owed _ := 0

theorem A_eq (c : Dev nD) (w : Fin (cfg0 (F := F)).W) : (dats m Y 0 c).A w = V m c (Pipeline.arrRef spec0 w) := by
  dsimp only [dats]

theorem before0 (c : Dev nD) (t : Fin (cfg0 (F := F)).N) (d) : (dats m Y 0 c).before 0 t d = V m c main_arg0 := by
  rw [(dats m Y 0 c).before_fetched 0 t (fetch0_0 t) d]
  unfold Dat.fetched Dat.blockOf
  funext y
  exact congrArg (V m c main_arg0) (funext fun a => Fin.ext (Pipeline.Window.rect_emb_val_of_index_zero win0_0 t a rfl y))

theorem before1 (c : Dev nD) (t : Fin (cfg0 (F := F)).N) (d) : (dats m Y 0 c).before 1 t d = V m c main_arg1 := by
  rw [(dats m Y 0 c).before_fetched 1 t (fetch0_1 t) d]
  unfold Dat.fetched Dat.blockOf
  funext y
  exact congrArg (V m c main_arg1) (funext fun a => Fin.ext (Pipeline.Window.rect_emb_val_of_index_zero win0_1 t a rfl y))

theorem before2 (c : Dev nD) (t : Fin (cfg0 (F := F)).N) (d) : (dats m Y 0 c).before 2 t d = V m c main_arg2 := by
  rw [(dats m Y 0 c).before_fetched 2 t (fetch0_2 t) d]
  unfold Dat.fetched Dat.blockOf
  funext y
  exact congrArg (V m c main_arg2) (funext fun a => Fin.ext (Pipeline.Window.rect_emb_val_of_index_zero win0_2 t a rfl y))

theorem before3 (c : Dev nD) (t : Fin (cfg0 (F := F)).N) (d) : (dats m Y 0 c).before 3 t d = V m c main_arg3 := by
  rw [(dats m Y 0 c).before_fetched 3 t (fetch0_3 t) d]
  unfold Dat.fetched Dat.blockOf
  funext y
  exact congrArg (V m c main_arg3) (funext fun a => Fin.ext (Pipeline.Window.rect_emb_val_of_index_zero win0_3 t a rfl y))

theorem disj4 : ∀ t t' : Fin (cfg0 (F := F)).N, ((cfg0 (F := F)).win 4).flush t = true → ((cfg0 (F := F)).win 4).flush t' = true → t ≠ t' →
    Disjoint (((cfg0 (F := F)).win 4).blk t).view.set (((cfg0 (F := F)).win 4).blk t').view.set :=
  fun t t' _ _ hne => absurd ((fin_N0 t).trans (fin_N0 t').symm) hne

/-- The result's array after the run. -/
theorem arr4 (c : Dev nD) : (dats m Y 0 c).arrAt 4 (cfg0 (F := F)).N = Y c := by
  funext x
  have h := (dats m Y 0 c).arrAt_emb_eq_flushed 4 disj4 t0_0 (flush0_4 t0_0) x
  have he : (((cfg0 (F := F)).win 4).blk t0_0).view.emb x = x :=
    funext fun a => Fin.ext (Pipeline.Window.rect_emb_val_of_index_zero win0_4 t0_0 a rfl x)
  rw [he] at h
  exact h

variable (G : Dev nD → ℕ → ℕ) (hG : ∀ c, Sizes (G c) (V m c main_arg0)) (tracked : Prop)
  (hv : ∀ c, ∀ n : Fin 12, n.val = nl (G c) 11 → AllVals c (G c) (V m c main_arg4) (V m c main_arg5) (V m c main_arg1) (V m c main_arg2) (V m c main_arg3) tracked (Y c) n)

def bodyPre (c : Dev nD) (t : Fin (cfg0 (F := F)).N) : sProp 𝕄 :=
  iprop((dats m Y 0 c).Φ t.castSucc ∗ (dats m Y 0 c).owesAt () t.castSucc
    ∗ (∃ d, owns (c : Thread nD τ) (st0_0 t) fullShare ((dats m Y 0 c).before 0 t d))
    ∗ (∃ d, owns (c : Thread nD τ) (st0_1 t) fullShare ((dats m Y 0 c).before 1 t d))
    ∗ (∃ d, owns (c : Thread nD τ) (st0_2 t) fullShare ((dats m Y 0 c).before 2 t d))
    ∗ (∃ d, owns (c : Thread nD τ) (st0_3 t) fullShare ((dats m Y 0 c).before 3 t d))
    ∗ (∃ X, owns (c : Thread nD τ) (st0_4 t) fullShare X))
def bodyPost (c : Dev nD) (t : Fin (cfg0 (F := F)).N) : sProp 𝕄 :=
  iprop((dats m Y 0 c).Φ t.succ ∗ (dats m Y 0 c).owesAt () t.succ
    ∗ owns (c : Thread nD τ) (st0_0 t) fullShare ((dats m Y 0 c).after 0 t)
    ∗ owns (c : Thread nD τ) (st0_1 t) fullShare ((dats m Y 0 c).after 1 t)
    ∗ owns (c : Thread nD τ) (st0_2 t) fullShare ((dats m Y 0 c).after 2 t)
    ∗ owns (c : Thread nD τ) (st0_3 t) fullShare ((dats m Y 0 c).after 3 t)
    ∗ (∃ X, ⌜tracked → X = Y c⌝ ∗ owns (c : Thread nD τ) (st0_4 t) fullShare X))

theorem of_eq {A B : sProp 𝕄} (h : A = B) : A ⊢ B := h ▸ .rfl

include hG hv in
theorem sound_body (c : Dev nD) (t : Fin (cfg0 (F := F)).N) :
    bodyPre m Y c t ⊢ wp frame (wpE (defs₀ (F := F)) 𝒱₀ c none) Set.univ (bodyAt0 t) (fun _ => bodyPost m Y tracked c t) := by
  rw [fin_N0 t]
  unfold bodyPre bodyPost
  rw [show (dats m Y 0 c).Φ (Fin.succ t0_0) = Pipeline.ΦD osem0 spec0 H0 (V m) c from rfl, show (dats m Y 0 c).Φ (Fin.castSucc t0_0) = Pipeline.ΦD osem0 spec0 H0 (V m) c from rfl]
  rw [Pipeline.ΦD_eq, scopedRest0_eq, ownSems00_eq, hbmPts0_eq]
  unfold Dat.owesAt Pipeline.owesWithin
  rw [show (dats m Y 0 c).owed (Fin.castSucc t0_0) = 0 from rfl, show (dats m Y 0 c).owed (Fin.succ t0_0) = 0 from rfl]
  have e0 : ∀ f, (owns (c : Thread nD τ) (st0_0 (F := F) t0_0) fullShare f : sProp 𝕄) = ((c : Thread nD τ).loc cc0_stg0_0 ↦{fullShare} f) := fun f => owns_whole (c : Thread nD τ) cc0_stg0_0 fullShare f
  have e1 : ∀ f, (owns (c : Thread nD τ) (st0_1 (F := F) t0_0) fullShare f : sProp 𝕄) = ((c : Thread nD τ).loc cc0_stg1_0 ↦{fullShare} f) := fun f => owns_whole (c : Thread nD τ) cc0_stg1_0 fullShare f
  have e2 : ∀ f, (owns (c : Thread nD τ) (st0_2 (F := F) t0_0) fullShare f : sProp 𝕄) = ((c : Thread nD τ).loc cc0_stg2_0 ↦{fullShare} f) := fun f => owns_whole (c : Thread nD τ) cc0_stg2_0 fullShare f
  have e3 : ∀ f, (owns (c : Thread nD τ) (st0_3 (F := F) t0_0) fullShare f : sProp 𝕄) = ((c : Thread nD τ).loc cc0_stg3_0 ↦{fullShare} f) := fun f => owns_whole (c : Thread nD τ) cc0_stg3_0 fullShare f
  have e4 : ∀ f, (owns (c : Thread nD τ) (st0_4 (F := F) t0_0) fullShare f : sProp 𝕄) = ((c : Thread nD τ).loc cc0_stg4_0 ↦{fullShare} f) := fun f => owns_whole (c : Thread nD τ) cc0_stg4_0 fullShare f
  have u0 : ∀ d, (owns (c : Thread nD τ) (st0_0 (F := F) t0_0) fullShare ((dats m Y 0 c).before 0 t0_0 d) : sProp 𝕄) ⊢ ((c : Thread nD τ).loc cc0_stg0_0 ↦{fullShare} V m c main_arg0) := fun d => by rw [before0]; exact of_eq (e0 (V m c main_arg0))
  have v0 : ((c : Thread nD τ).loc cc0_stg0_0 ↦{fullShare} V m c main_arg0 : sProp 𝕄) ⊢ owns (c : Thread nD τ) (st0_0 (F := F) t0_0) fullShare ((dats m Y 0 c).after 0 t0_0) := of_eq (e0 (V m c main_arg0)).symm
  have u1 : ∀ d, (owns (c : Thread nD τ) (st0_1 (F := F) t0_0) fullShare ((dats m Y 0 c).before 1 t0_0 d) : sProp 𝕄) ⊢ ((c : Thread nD τ).loc cc0_stg1_0 ↦{fullShare} V m c main_arg1) := fun d => by rw [before1]; exact of_eq (e1 (V m c main_arg1))
  have v1 : ((c : Thread nD τ).loc cc0_stg1_0 ↦{fullShare} V m c main_arg1 : sProp 𝕄) ⊢ owns (c : Thread nD τ) (st0_1 (F := F) t0_0) fullShare ((dats m Y 0 c).after 1 t0_0) := of_eq (e1 (V m c main_arg1)).symm
  have u2 : ∀ d, (owns (c : Thread nD τ) (st0_2 (F := F) t0_0) fullShare ((dats m Y 0 c).before 2 t0_0 d) : sProp 𝕄) ⊢ ((c : Thread nD τ).loc cc0_stg2_0 ↦{fullShare} V m c main_arg2) := fun d => by rw [before2]; exact of_eq (e2 (V m c main_arg2))
  have v2 : ((c : Thread nD τ).loc cc0_stg2_0 ↦{fullShare} V m c main_arg2 : sProp 𝕄) ⊢ owns (c : Thread nD τ) (st0_2 (F := F) t0_0) fullShare ((dats m Y 0 c).after 2 t0_0) := of_eq (e2 (V m c main_arg2)).symm
  have u3 : ∀ d, (owns (c : Thread nD τ) (st0_3 (F := F) t0_0) fullShare ((dats m Y 0 c).before 3 t0_0 d) : sProp 𝕄) ⊢ ((c : Thread nD τ).loc cc0_stg3_0 ↦{fullShare} V m c main_arg3) := fun d => by rw [before3]; exact of_eq (e3 (V m c main_arg3))
  have v3 : ((c : Thread nD τ).loc cc0_stg3_0 ↦{fullShare} V m c main_arg3 : sProp 𝕄) ⊢ owns (c : Thread nD τ) (st0_3 (F := F) t0_0) fullShare ((dats m Y 0 c).after 3 t0_0) := of_eq (e3 (V m c main_arg3)).symm
  have u4 : ∀ f, (owns (c : Thread nD τ) (st0_4 (F := F) t0_0) fullShare f : sProp 𝕄) ⊢ ((c : Thread nD τ).loc cc0_stg4_0 ↦{fullShare} f) := fun f => of_eq (e4 f)
  have v4 : ∀ f, ((c : Thread nD τ).loc cc0_stg4_0 ↦{fullShare} f : sProp 𝕄) ⊢ owns (c : Thread nD τ) (st0_4 (F := F) t0_0) fullShare f := fun f => of_eq (e4 f).symm
  iintro ⟨⟨⟨HS0, HS1, HS2, HS3, HS4⟩, Hg, ⟨Q0, Q1, Q2, Q3, Q4, Q5, Q6, Q7⟩, Ha4, Ha5⟩, ⟨%W, -, HW⟩, ⟨%d0, H0⟩, ⟨%d1, H1⟩, ⟨%d2, H2⟩, ⟨%d3, H3⟩, ⟨%d4, H4⟩⟩
  ihave H0 := (u0 _) $$ H0
  ihave H1 := (u1 _) $$ H1
  ihave H2 := (u2 _) $$ H2
  ihave H3 := (u3 _) $$ H3
  ihave H4 := (u4 _) $$ H4
  iapply (wp_wand_r Idealize.ShloMosaic.frame (wpE (defs₀ (F := F)) 𝒱₀ (c : Thread nD τ) none) Set.univ)
  isplitr [Hg]
  · iapply (body_wp c (G c) (V m c main_arg0) (hG c) (V m c main_arg1) (V m c main_arg2) (V m c main_arg3) (V m c main_arg4) (V m c main_arg5) tracked (Y c) (hv c))
    unfold Held
    rw [sems7_eq, sems8_eq]
    isplitl [HW]; · iexists W; iexact HW
    isplitl [H0]; · iexact H0
    isplitl [H1]; · iexact H1
    isplitl [H2]; · iexact H2
    isplitl [H3]; · iexact H3
    isplitl [H4]
    · iexists d4
      isplitl [H4]; · iexact H4
      ipureintro; trivial
    isplitl [HS0]; · iexact HS0
    isplitl [HS1]; · iexact HS1
    isplitl [HS2]; · iexact HS2
    isplitl [HS3]; · iexact HS3
    isplitl [HS4]; · iexact HS4
    isplitl [Ha4]; · iexact Ha4
    isplitl [Ha5]; · iexact Ha5
    isplitl [Q0 Q1 Q2 Q3]
    · isplitl [Q0]; · iexact Q0
      isplitl [Q1]; · iexact Q1
      isplitl [Q2]; · iexact Q2
      iexact Q3
    isplitl [Q4]; · iexact Q4
    isplitl [Q5]; · iexact Q5
    isplitl [Q6]; · iexact Q6
    iexact Q7
  iintro %u HH
  unfold Held
  rw [sems7_eq, sems8_eq]
  icases HH with ⟨⟨%W', HW⟩, H0, H1, H2, H3, ⟨%f6, H4, %hf6⟩, HS0, HS1, HS2, HS3, HS4, Ha4, Ha5, ⟨Q0, Q1, Q2, Q3⟩, Q4, Q5, Q6, Q7⟩
  isplitl [HS0 HS1 HS2 HS3 HS4 Hg Q0 Q1 Q2 Q3 Q4 Q5 Q6 Q7 Ha4 Ha5]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]; · iexact Hg
    isplitl [Q0 Q1 Q2 Q3 Q4 Q5 Q6 Q7]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      iexact Q7
    isplitl [Ha4]; · iexact Ha4
    iexact Ha5
  isplitl [HW]
  · iexists W'; isplitr; · ipureintro; exact fun _ _ => Or.inl trivial
    iexact HW
  isplitl [H0]; · iapply v0; iexact H0
  isplitl [H1]; · iapply v1; iexact H1
  isplitl [H2]; · iapply v2; iexact H2
  isplitl [H3]; · iapply v3; iexact H3
  iexists f6
  isplitr; · ipureintro; exact hf6
  iapply (v4 f6); iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The result's window, whose contents the frame does not name. -/
def fgt : Fin (cfg0 (F := F)).W → Bool := ![false, false, false, false, true]

theorem forget_post (c : Dev nD) (t : Fin (cfg0 (F := F)).N) : bodyPost m Y tracked c t
    ⊢ iprop((dats m Y 0 c).Φ t.succ ∗ (dats m Y 0 c).owesAt () t.succ
      ∗ owns (c : Thread nD τ) (st0_0 t) fullShare ((dats m Y 0 c).after 0 t)
      ∗ owns (c : Thread nD τ) (st0_1 t) fullShare ((dats m Y 0 c).after 1 t)
      ∗ owns (c : Thread nD τ) (st0_2 t) fullShare ((dats m Y 0 c).after 2 t)
      ∗ owns (c : Thread nD τ) (st0_3 t) fullShare ((dats m Y 0 c).after 3 t)
      ∗ (∃ X, owns (c : Thread nD τ) (st0_4 t) fullShare X)) := by
  unfold bodyPost
  iintro ⟨HP, HO, H0, H1, H2, H3, ⟨%X, -, H4⟩⟩
  isplitl [HP]; · iexact HP
  isplitl [HO]; · iexact HO
  isplitl [H0]; · iexact H0
  isplitl [H1]; · iexact H1
  isplitl [H2]; · iexact H2
  isplitl [H3]; · iexact H3
  iexists X; iexact H4

theorem exact_post (c : Dev nD) (t : Fin (cfg0 (F := F)).N) (ht : tracked) : bodyPost m Y tracked c t
    ⊢ iprop((dats m Y 0 c).Φ t.succ ∗ (dats m Y 0 c).owesAt () t.succ
      ∗ owns (c : Thread nD τ) (st0_0 t) fullShare ((dats m Y 0 c).after 0 t)
      ∗ owns (c : Thread nD τ) (st0_1 t) fullShare ((dats m Y 0 c).after 1 t)
      ∗ owns (c : Thread nD τ) (st0_2 t) fullShare ((dats m Y 0 c).after 2 t)
      ∗ owns (c : Thread nD τ) (st0_3 t) fullShare ((dats m Y 0 c).after 3 t)
      ∗ owns (c : Thread nD τ) (st0_4 t) fullShare ((dats m Y 0 c).after 4 t)) := by
  unfold bodyPost
  iintro ⟨HP, HO, H0, H1, H2, H3, ⟨%X, %hX, H4⟩⟩
  obtain rfl := hX ht
  isplitl [HP]; · iexact HP
  isplitl [HO]; · iexact HO
  isplitl [H0]; · iexact H0
  isplitl [H1]; · iexact H1
  isplitl [H2]; · iexact H2
  isplitl [H3]; · iexact H3
  iexact H4

theorem exact_pre (c : Dev nD) (t : Fin (cfg0 (F := F)).N) :
    iprop((dats m Y 0 c).Φ t.castSucc ∗ (dats m Y 0 c).owesAt () t.castSucc
    ∗ (∃ d, owns (c : Thread nD τ) (st0_0 t) fullShare ((dats m Y 0 c).before 0 t d))
    ∗ (∃ d, owns (c : Thread nD τ) (st0_1 t) fullShare ((dats m Y 0 c).before 1 t d))
    ∗ (∃ d, owns (c : Thread nD τ) (st0_2 t) fullShare ((dats m Y 0 c).before 2 t d))
    ∗ (∃ d, owns (c : Thread nD τ) (st0_3 t) fullShare ((dats m Y 0 c).before 3 t d))
    ∗ (∃ d, owns (c : Thread nD τ) (st0_4 t) fullShare ((dats m Y 0 c).before 4 t d))) ⊢ bodyPre m Y c t := by
  unfold bodyPre
  iintro ⟨HP, HO, H0, H1, H2, H3, ⟨%d, H4⟩⟩
  isplitl [HP]; · iexact HP
  isplitl [HO]; · iexact HO
  isplitl [H0]; · iexact H0
  isplitl [H1]; · iexact H1
  isplitl [H2]; · iexact H2
  isplitl [H3]; · iexact H3
  iexists _; iexact H4

include hG hv in
theorem body_forget (c : Dev nD) : Pipeline.BodyObligationLoose (dats (F := F) m Y 0 c) (defs₀ (F := F)) 𝒱₀ () Set.univ (fgt (F := F)) := fun t => by
  rw [bigSep_W0, bigSep_W0, defs₀_row]
  exact triple_restated (sound_body m Y G hG tracked hv c t) rfl .rfl fun _ => forget_post m Y tracked c t

include hG hv in
theorem body_exact (ht : tracked) (c : Dev nD) : BodyObligation (dats (F := F) m Y 0 c) (defs₀ (F := F)) 𝒱₀ () Set.univ := fun t => by
  rw [bigSep_W0, bigSep_W0, defs₀_row]
  exact triple_restated (sound_body m Y G hG tracked hv c t) rfl (exact_pre m Y c t) fun _ => exact_post m Y tracked c t ht

/-! ## The runs -/

include hG hv in
set_option backward.isDefEq.respectTransparency.types false in
theorem run_forget : θ_run defs (onTc (τ := τ) (main (F := F))) ⟨m, fun _ => 0, ρ⟩ (fun r => RDat.FramePost (cfg0 (F := F)) (fun c => (dats m Y 0 c).toRForget (fgt (F := F))) (V m) r ∧ r.2.sem = fun _ => 0) :=
  Pipeline.θ_run_frame_dma_forget (Q' := _) cfgs (dats m Y) (0 : Fin 1) launch0 osem0 defs₀ 𝒱₀ (fgt (F := F)) ownSemFacts0 H0 H0_sub m ρ main
    (hbody := fun c => body_forget m Y G hG tracked hv c) (hshare := fun c => (dats m Y 0 c).share_full fun _ => rfl)
    (howed := fun _ _ => rfl) (V := V m) (hmain := hmain m 𝒱₀) (hA := A_eq m Y)
    (hin := fun _ => .rfl) (hout := fun _ => .rfl)

include hG hv in
set_option backward.isDefEq.respectTransparency.types false in
theorem run_exact (ht : tracked) : θ_run defs (onTc (τ := τ) (main (F := F))) ⟨m, fun _ => 0, ρ⟩ (fun r => Pipeline.FramePost cfgs (dats m Y) 0 (V m) r ∧ r.2.sem = fun _ => 0) :=
  Pipeline.θ_run_frame_dma (Q' := _) cfgs (dats m Y) (0 : Fin 1) launch0 osem0 defs₀ 𝒱₀ ownSemFacts0 H0 H0_sub m ρ main
    (hbody := fun c => (body_exact m Y G hG tracked hv ht c).loose) (hshare := fun c => (dats m Y 0 c).share_full fun _ => rfl)
    (howed := fun _ _ => rfl) (V := V m) (hmain := hmain m 𝒱₀) (hA := A_eq m Y)
    (hin := fun _ => .rfl) (hout := fun _ => .rfl)

theorem rest4 : main_arg4 ∈ Pipeline.restRefs sig spec0 := Pipeline.mem_restRefs_of main_arg4 (by decide) (by decide)
theorem rest5 : main_arg5 ∈ Pipeline.restRefs sig spec0 := Pipeline.mem_restRefs_of main_arg5 (by decide) (by decide)

/-- Every argument ends as it began. -/
def Kept (r : PUnit × MemSt nD τ sig (Elt F)) : Prop := (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0

include hG hv in
/-- THE FRAME: the program runs and ends quiescent, its arguments unchanged. -/
theorem frame_forget : θ_run defs (onTc (τ := τ) (main (F := F))) ⟨m, fun _ => 0, ρ⟩ (Kept m) :=
  (θ_run defs _ _).mono (fun r h => ⟨fun c => ⟨
      (congrFun (RDat.ArrAt_in ((dats m Y 0 c).toRForget (fgt (F := F))) 0 rfl _) _).mp ((h.1 c).1 0),
      (congrFun (RDat.ArrAt_in ((dats m Y 0 c).toRForget (fgt (F := F))) 1 rfl _) _).mp ((h.1 c).1 1),
      (congrFun (RDat.ArrAt_in ((dats m Y 0 c).toRForget (fgt (F := F))) 2 rfl _) _).mp ((h.1 c).1 2),
      (congrFun (RDat.ArrAt_in ((dats m Y 0 c).toRForget (fgt (F := F))) 3 rfl _) _).mp ((h.1 c).1 3),
      (h.1 c).2 main_arg4 rest4,
      (h.1 c).2 main_arg5 rest5⟩, h.2⟩) (run_forget m ρ Y G hG tracked hv)

include hG hv in
/-- THE RUN WITH ITS RESULT: the result ends at `Y`, the arguments unchanged, the machine quiescent. -/
theorem frame_exact (ht : tracked) : θ_run defs (onTc (τ := τ) (main (F := F))) ⟨m, fun _ => 0, ρ⟩
    (fun r => Kept m r ∧ ∀ c : Dev nD, r.2.mem ((c.tc : Thread nD τ).loc main_v0) = Y c) :=
  (θ_run defs _ _).mono (fun r h => ⟨⟨fun c => ⟨
      ((h.1 c).1 0).trans ((dats m Y 0 c).arrAt_in 0 rfl _),
      ((h.1 c).1 1).trans ((dats m Y 0 c).arrAt_in 1 rfl _),
      ((h.1 c).1 2).trans ((dats m Y 0 c).arrAt_in 2 rfl _),
      ((h.1 c).1 3).trans ((dats m Y 0 c).arrAt_in 3 rfl _),
      (h.1 c).2 main_arg4 rest4,
      (h.1 c).2 main_arg5 rest5⟩, h.2⟩,
      fun c => ((h.1 c).1 4).trans (arr4 m Y c)⟩) (run_exact m ρ Y G hG tracked hv ht)

end Cert.KernelIdeal.KL
-- ==== Proof.KP.lean ====
/- What the precondition says of the group sizes: as naturals they sum to the number of rows. -/
module

public import proofs.«01_k».proof.Proof.Words
public import proofs.«01_k».proof.Pre_sizes_split_rows
public import proofs.«01_k».proof.Proof.Gen.Pre_sizes_split_rows
public import Idealize.ShloMosaic.Lib.Routing.Ops

@[expose] public section

noncomputable section

namespace Cert.Sizes

open Idealize.ShloMosaic Idealize.ShloMosaic.ValueIdx Cert.Words Cert.Pre_sizes_split_rows

/-- The group sizes as naturals, zero past the last group. -/
def nat (gs : IVec S11 32) (k : ℕ) : ℕ := if h : k < 11 then (gs (ix1 (⟨k, h⟩ : Fin 11))).toNat else 0

theorem nat_word (gs : IVec S11 32) (e : Fin 11) : gs (ix1 e) = BitVec.ofNat 32 (nat gs e.val) := by
  unfold nat
  rw [dif_pos e.isLt, BitVec.ofNat_toNat, BitVec.setWidth_eq]

theorem le_of_bounds (w : BitVec 32) (h0 : IntOp.cmpi .sge w 0#32 = 1#1) (h1 : IntOp.cmpi .sle w 1024#32 = 1#1) : w.toNat ≤ 1024 := by
  change BitVec.ofBool ((0#32).sle w) = 1#1 at h0
  change BitVec.ofBool (w.sle 1024#32) = 1#1 at h1
  have a : (0#32).sle w = true := by cases hc : (0#32).sle w with | true => rfl | false => rw [hc] at h0; exact absurd h0 (by decide)
  have b : w.sle 1024#32 = true := by cases hc : w.sle 1024#32 with | true => rfl | false => rw [hc] at h1; exact absurd h1 (by decide)
  rw [BitVec.sle_iff_toInt_le] at a b
  have hw := BitVec.toInt_eq_toNat_cond w
  have z : (0#32).toInt = 0 := by decide
  have z' : (1024#32).toInt = 1024 := by decide
  rw [z] at a
  rw [z'] at b
  split at hw <;> omega

theorem total {F : FTy → Type} [FloatOps F] (gs : IVec S11 32) (wg ag : FVec F S11 .f32) (a : FVec F S1024x6144 .bf16) (wc : IVec S11x3072x2560 8) (ws : FVec F S11x384x2560 .fp8e4m3)
    (h1 : (fn (F := F) gs wg ag a wc ws).1 = fun _ => 1#1) (h2 : (fn (F := F) gs wg ag a wc ws).2.1 = fun _ => 1#1) (h3 : (fn (F := F) gs wg ag a wc ws).2.2 = fun _ => 1#1) :
    pre (nat gs) 11 = 1024 := by
  have hle : ∀ k, nat gs k ≤ 1024 := by
    intro k
    unfold nat
    split
    · rename_i h
      exact le_of_bounds _ (congrFun h1 (ix1 ⟨k, h⟩)) (congrFun h2 (ix1 ⟨k, h⟩))
    · omega
  have h := congrFun h3 ix0
  have hs : Host.reduce IntOp.addi gs (constantI S_ 32 0#32) Facts.reducesTo_S11_S_d0 Facts.h_S_ ix0 = BitVec.ofNat 32 ((List.range 11).map (nat gs)).sum :=
    Routing.reduce_sum gs (nat gs) (nat_word gs) _ _
  change IntOp.cmpi .eq (Host.reduce IntOp.addi gs (constantI S_ 32 0#32) Facts.reducesTo_S11_S_d0 Facts.h_S_ ix0) 1024#32 = 1#1 at h
  rw [hs] at h
  have hp : ((List.range 11).map (nat gs)).sum = pre (nat gs) 11 := rfl
  rw [hp] at h
  have hb : pre (nat gs) 11 ≤ 11 * 1024 := by
    simp only [pre, Finset.sum_range_succ, Finset.sum_range_zero]
    have := hle 0; have := hle 1; have := hle 2; have := hle 3; have := hle 4; have := hle 5
    have := hle 6; have := hle 7; have := hle 8; have := hle 9; have := hle 10
    omega
  have hw : BitVec.ofNat 32 (pre (nat gs) 11) = 1024#32 := by
    change BitVec.ofBool (BitVec.ofNat 32 (pre (nat gs) 11) == 1024#32) = 1#1 at h
    cases hc : (BitVec.ofNat 32 (pre (nat gs) 11) == 1024#32) with
    | true => exact eq_of_beq hc
    | false => rw [hc] at h; exact absurd h (by decide)
  have := congrArg BitVec.toNat hw
  rw [BitVec.toNat_ofNat, BitVec.toNat_ofNat] at this
  omega

end Cert.Sizes
-- ==== Proof.KF.lean ====
/- The three frames: each program runs, ends quiescent and leaves its arguments as they were. -/
module

public import proofs.«01_k».proof.Defs
public import proofs.«01_k».proof.Proof.KL
public import proofs.«01_k».proof.Proof.IKL
public import proofs.«01_k».proof.Proof.KP
public import proofs.«01_k».proof.Proof.Gen.ReferenceIdeal.Frame

@[expose] public section

noncomputable section

namespace Cert.Frames

open Idealize.ShloMosaic Idealize.ShloMosaic.TcCoe Idealize.SL.Sem

theorem ix1_eq {n : ℕ} (e : Fin n) : Idealize.ShloMosaic.ix1 e = ValueIdx.ix1 e := by
  funext a
  match a with
  | ⟨0, _⟩ => rfl

theorem sizes_Kernel (m : (ℓ : Loc Cert.Kernel.nD Cert.Kernel.τ Cert.Kernel.sig) → Buf (Elt Bits) ℓ) (h : Pre_Kernel m) (c : Dev Cert.Kernel.nD) :
    Cert.Kernel.KR.Sizes (F := Bits) (Cert.Sizes.nat (Cert.Kernel.KL.V m c Cert.Kernel.main_arg0)) (Cert.Kernel.KL.V m c Cert.Kernel.main_arg0) where
  word e := by rw [ix1_eq]; exact Cert.Sizes.nat_word _ e
  total := Cert.Sizes.total _ _ _ _ _ _ (h c).1 (h c).2.1 (h c).2.2

theorem sizes_KernelIdeal (m : (ℓ : Loc Cert.KernelIdeal.nD Cert.KernelIdeal.τ Cert.KernelIdeal.sig) → Buf (Elt Ideal) ℓ) (h : Pre_KernelIdeal m) (c : Dev Cert.KernelIdeal.nD) :
    Cert.KernelIdeal.KR.Sizes (F := Ideal) (Cert.Sizes.nat (Cert.KernelIdeal.KL.V m c Cert.KernelIdeal.main_arg0)) (Cert.KernelIdeal.KL.V m c Cert.KernelIdeal.main_arg0) where
  word e := by rw [ix1_eq]; exact Cert.Sizes.nat_word _ e
  total := Cert.Sizes.total _ _ _ _ _ _ (h c).1 (h c).2.1 (h c).2.2

theorem quiescent_Kernel : Cert.quiescent_Kernel (hKernel := Cert.Kernel.Gen.facts) (hPre_sizes_split_rows := Cert.Pre_sizes_split_rows.Gen.facts) :=
  fun m g h => Cert.Kernel.KL.frame_forget m g (fun c => Cert.Kernel.KL.V m c Cert.Kernel.main_v0) _ (sizes_Kernel m h) (tracked := False)
    (fun _ _ _ _ ht => ht.elim)

theorem quiescent_KernelIdeal : Cert.quiescent_KernelIdeal (hKernelIdeal := Cert.KernelIdeal.Gen.facts) (hPre_sizes_split_rows := Cert.Pre_sizes_split_rows.Gen.facts) :=
  fun m g h => Cert.KernelIdeal.KL.frame_forget m g (fun c => Cert.KernelIdeal.KL.V m c Cert.KernelIdeal.main_v0) _ (sizes_KernelIdeal m h) (tracked := False)
    (fun _ _ _ _ ht => ht.elim)

theorem quiescent_ReferenceIdeal : Cert.quiescent_ReferenceIdeal (hReferenceIdeal := Cert.ReferenceIdeal.Gen.facts) (hPre_sizes_split_rows := Cert.Pre_sizes_split_rows.Gen.facts) :=
  fun m g _ => Cert.ReferenceIdeal.Gen.frame m g

end Cert.Frames

end
-- ==== Proof.VD.lean ====
/- The value of a 4-bit code over the extended reals: the kernel's chain of comparisons and the reference's tree of
   bits decode every code to the same number. And the sums of products, put together from blocks. -/
module

public import proofs.«01_k».proof.Proof.Words
public import Idealize.ShloMosaic.PureOps.Ideal
public import Idealize.ShloMosaic.PureOps.Vector
public import Idealize.ShloMosaic.Lib.Pointwise
public import Idealize.ShloMosaic.Lib.IdealHost

@[expose] public section

noncomputable section

namespace Cert.Val

open Idealize.ShloMosaic
open scoped BigOperators

/-- The kernel's decoding of a code: its magnitude looked up, its sign by subtraction from zero. -/
def kdec (w : BitVec 32) : EReal :=
  let mag : EReal :=
    Scalar.select (IntOp.cmpi .eq (IntOp.andi w 7#32) 7#32) (Ideal.ofBits .f32 0x40C00000#32)
    (Scalar.select (IntOp.cmpi .eq (IntOp.andi w 7#32) 6#32) (Ideal.ofBits .f32 0x40800000#32)
    (Scalar.select (IntOp.cmpi .eq (IntOp.andi w 7#32) 5#32) (Ideal.ofBits .f32 0x40400000#32)
    (Scalar.select (IntOp.cmpi .eq (IntOp.andi w 7#32) 4#32) (Ideal.ofBits .f32 0x40000000#32)
    (Scalar.select (IntOp.cmpi .eq (IntOp.andi w 7#32) 3#32) (Ideal.ofBits .f32 0x3FC00000#32)
    (Scalar.select (IntOp.cmpi .eq (IntOp.andi w 7#32) 2#32) (Ideal.ofBits .f32 0x3F800000#32)
    (Scalar.select (IntOp.cmpi .eq (IntOp.andi w 7#32) 1#32) (Ideal.ofBits .f32 0x3F000000#32)
      (Ideal.ofBits .f32 0x00000000#32)))))))
  Scalar.select (IntOp.cmpi .sge w 8#32) (Ideal.ofBits .f32 0x00000000#32 - mag) mag

/-- Bit `k` of a code, as the reference reads it. -/
def rbit (w : BitVec 32) (k : BitVec 32) : BitVec 1 := IntOp.cmpi .ne (IntOp.andi (IntOp.shrsi .vector w k) 1#32) 0#32

/-- The reference's decoding of a code, by its four bits. -/
def rdec (w : BitVec 32) : EReal :=
  let c (b : BitVec 16) : EReal := Ideal.ofBits .bf16 b
  let b0 := rbit w 0#32
  let b1 := rbit w 1#32
  Scalar.select (rbit w 3#32)
    (Scalar.select (rbit w 2#32)
      (Scalar.select b1 (Scalar.select b0 (c 0xC0C0#16) (c 0xC080#16)) (Scalar.select b0 (c 0xC040#16) (c 0xC000#16)))
      (Scalar.select b1 (Scalar.select b0 (c 0xBFC0#16) (c 0xBF80#16)) (Scalar.select b0 (c 0xBF00#16) (c 0x8000#16))))
    (Scalar.select (rbit w 2#32)
      (Scalar.select b1 (Scalar.select b0 (c 0x40C0#16) (c 0x4080#16)) (Scalar.select b0 (c 0x4040#16) (c 0x4000#16)))
      (Scalar.select b1 (Scalar.select b0 (c 0x3FC0#16) (c 0x3F80#16)) (Scalar.select b0 (c 0x3F00#16) (c 0x0000#16))))

section Constants

theorem f6 : Ideal.ofBits .f32 0x40C00000#32 = ((6 : ℝ) : EReal) := by simp [Ideal.ofBits, Ideal.ieee, -EReal.coe_mul]; norm_num
theorem f4 : Ideal.ofBits .f32 0x40800000#32 = ((4 : ℝ) : EReal) := by simp [Ideal.ofBits, Ideal.ieee, -EReal.coe_mul]; norm_num
theorem f3 : Ideal.ofBits .f32 0x40400000#32 = ((3 : ℝ) : EReal) := by simp [Ideal.ofBits, Ideal.ieee, -EReal.coe_mul]; norm_num
theorem f2 : Ideal.ofBits .f32 0x40000000#32 = ((2 : ℝ) : EReal) := by simp [Ideal.ofBits, Ideal.ieee, -EReal.coe_mul]; norm_num
theorem f15 : Ideal.ofBits .f32 0x3FC00000#32 = ((3 / 2 : ℝ) : EReal) := by simp [Ideal.ofBits, Ideal.ieee, -EReal.coe_mul]; norm_num
theorem f1 : Ideal.ofBits .f32 0x3F800000#32 = ((1 : ℝ) : EReal) := by simp [Ideal.ofBits, Ideal.ieee, -EReal.coe_mul]; norm_num
theorem f05 : Ideal.ofBits .f32 0x3F000000#32 = ((1 / 2 : ℝ) : EReal) := by simp [Ideal.ofBits, Ideal.ieee, -EReal.coe_mul]; norm_num
theorem f0 : Ideal.ofBits .f32 0x00000000#32 = ((0 : ℝ) : EReal) := by simp [Ideal.ofBits, Ideal.ieee, -EReal.coe_mul]
theorem b6 : Ideal.ofBits .bf16 0x40C0#16 = ((6 : ℝ) : EReal) := by simp [Ideal.ofBits, Ideal.ieee, -EReal.coe_mul]; norm_num
theorem b4 : Ideal.ofBits .bf16 0x4080#16 = ((4 : ℝ) : EReal) := by simp [Ideal.ofBits, Ideal.ieee, -EReal.coe_mul]; norm_num
theorem b3 : Ideal.ofBits .bf16 0x4040#16 = ((3 : ℝ) : EReal) := by simp [Ideal.ofBits, Ideal.ieee, -EReal.coe_mul]; norm_num
theorem b2 : Ideal.ofBits .bf16 0x4000#16 = ((2 : ℝ) : EReal) := by simp [Ideal.ofBits, Ideal.ieee, -EReal.coe_mul]; norm_num
theorem b15 : Ideal.ofBits .bf16 0x3FC0#16 = ((3 / 2 : ℝ) : EReal) := by simp [Ideal.ofBits, Ideal.ieee, -EReal.coe_mul]; norm_num
theorem b1 : Ideal.ofBits .bf16 0x3F80#16 = ((1 : ℝ) : EReal) := by simp [Ideal.ofBits, Ideal.ieee, -EReal.coe_mul]; norm_num
theorem b05 : Ideal.ofBits .bf16 0x3F00#16 = ((1 / 2 : ℝ) : EReal) := by simp [Ideal.ofBits, Ideal.ieee, -EReal.coe_mul]; norm_num
theorem b0 : Ideal.ofBits .bf16 0x0000#16 = ((0 : ℝ) : EReal) := by simp [Ideal.ofBits, Ideal.ieee, -EReal.coe_mul]
theorem n6 : Ideal.ofBits .bf16 0xC0C0#16 = ((-6 : ℝ) : EReal) := by simp [Ideal.ofBits, Ideal.ieee, -EReal.coe_mul, -EReal.coe_neg]; norm_num
theorem n4 : Ideal.ofBits .bf16 0xC080#16 = ((-4 : ℝ) : EReal) := by simp [Ideal.ofBits, Ideal.ieee, -EReal.coe_mul, -EReal.coe_neg]; norm_num
theorem n3 : Ideal.ofBits .bf16 0xC040#16 = ((-3 : ℝ) : EReal) := by simp [Ideal.ofBits, Ideal.ieee, -EReal.coe_mul, -EReal.coe_neg]; norm_num
theorem n2 : Ideal.ofBits .bf16 0xC000#16 = ((-2 : ℝ) : EReal) := by simp [Ideal.ofBits, Ideal.ieee, -EReal.coe_mul, -EReal.coe_neg]; norm_num
theorem n15 : Ideal.ofBits .bf16 0xBFC0#16 = ((-(3 / 2) : ℝ) : EReal) := by simp [Ideal.ofBits, Ideal.ieee, -EReal.coe_mul, -EReal.coe_neg]; norm_num
theorem n1 : Ideal.ofBits .bf16 0xBF80#16 = ((-1 : ℝ) : EReal) := by simp [Ideal.ofBits, Ideal.ieee, -EReal.coe_mul, -EReal.coe_neg]; norm_num
theorem n05 : Ideal.ofBits .bf16 0xBF00#16 = ((-(1 / 2) : ℝ) : EReal) := by simp [Ideal.ofBits, Ideal.ieee, -EReal.coe_mul, -EReal.coe_neg]; norm_num
theorem n0 : Ideal.ofBits .bf16 0x8000#16 = ((0 : ℝ) : EReal) := by simp [Ideal.ofBits, Ideal.ieee, -EReal.coe_mul, -EReal.coe_neg]

end Constants

theorem sel1 {α : Type} (a b : α) : Scalar.select 1#1 a b = a := rfl
theorem sel0 {α : Type} (a b : α) : Scalar.select 0#1 a b = b := rfl

theorem neg_sub {x : EReal} {r : ℝ} (h : x = (r : EReal)) : Ideal.ofBits .f32 0x00000000#32 - x = ((-r : ℝ) : EReal) := by
  rw [f0, h, ← EReal.coe_sub, zero_sub]

/-- The two decodings agree on every code. -/
theorem kdec_eq (w : BitVec 32) (h : w.toNat < 16) : kdec w = rdec w := by
  have hw : w = BitVec.ofNat 32 w.toNat := by rw [BitVec.ofNat_toNat, BitVec.setWidth_eq]
  generalize w.toNat = n at h hw
  subst hw
  interval_cases n
  · exact f0.trans b0.symm
  · exact f05.trans b05.symm
  · exact f1.trans b1.symm
  · exact f15.trans b15.symm
  · exact f2.trans b2.symm
  · exact f3.trans b3.symm
  · exact f4.trans b4.symm
  · exact f6.trans b6.symm
  · exact (neg_sub f0).trans ((by norm_num : ((-0 : ℝ) : EReal) = ((0 : ℝ) : EReal)).trans n0.symm)
  · exact (neg_sub f05).trans n05.symm
  · exact (neg_sub f1).trans n1.symm
  · exact (neg_sub f15).trans n15.symm
  · exact (neg_sub f2).trans n2.symm
  · exact (neg_sub f3).trans n3.symm
  · exact (neg_sub f4).trans n4.symm
  · exact (neg_sub f6).trans n6.symm

/-- A sum over blocks of `b` is the sum over the whole. -/
theorem sum_blocks (f : ℕ → EReal) (b n : ℕ) : ∑ k ∈ Finset.range n, ∑ j ∈ Finset.range b, f (k * b + j) = ∑ i ∈ Finset.range (n * b), f i := by
  induction n with
  | zero => simp
  | succ n ih => rw [Finset.sum_range_succ, ih, Nat.succ_mul, Finset.sum_range_add]

/-- A sum over an even count is the sum of the even terms and the odd. -/
theorem sum_pairs (f : ℕ → EReal) (n : ℕ) : ∑ i ∈ Finset.range (2 * n), f i = ∑ i ∈ Finset.range n, f (2 * i) + ∑ i ∈ Finset.range n, f (2 * i + 1) := by
  induction n with
  | zero => simp
  | succ n ih =>
    rw [show 2 * (n + 1) = 2 * n + 1 + 1 by ring, Finset.sum_range_succ, Finset.sum_range_succ, ih, Finset.sum_range_succ, Finset.sum_range_succ]
    abel

end Cert.Val

end
-- ==== Proof.KV.lean ====
/- The values the window loop computes, at the ideal arithmetic.

   A trip's bf16 weights are the decoded codes times their scales; the accumulator after `n` trips is the sum over the
   trips done of the activations times those weights. -/
module

public import proofs.«01_k».proof.Proof.IKW
public import proofs.«01_k».proof.Proof.VD
public import Idealize.ShloMosaic.Lib.Pointwise

@[expose] public section

set_option maxRecDepth 8192
set_option maxHeartbeats 1000000

noncomputable section

namespace Cert.KernelIdeal.KV

open Cert.KernelIdeal Cert.KernelIdeal.Gen Cert.KernelIdeal.KA Cert.KernelIdeal.KD Cert.KernelIdeal.KW Cert.Val
open Idealize.ShloMosaic

/-! ## Sixteen pieces of sixteen rows -/

theorem get_congr {β : Type} (l : List β) {a b : ℕ} (h : a = b) (ha : a < l.length) : l[a] = l[b]'(h ▸ ha) := by subst h; rfl

theorem cat_at {α : Type} (j : Fin 256) (q : Fin 512) : ∀ (l : List (S16x512.Idx → α)) (hs) (c : ℕ) (hc) (hl : c / 16 < l.length),
    concatenateAt S256x512 0 (ix2 j q) (l.map fun f => (⟨S16x512, f⟩ : (s : Shape) × (s.Idx → α))) hs c hc
      = l[c / 16] (ix2 ⟨c % 16, Nat.mod_lt _ (by omega)⟩ q)
  | [], _, _, _, hl => absurd hl (Nat.not_lt_zero _)
  | [x], hs, c, hc, hl => by
    have h16 : c < 16 := by simp only [List.length_cons, List.length_nil] at hl; omega
    refine (concatenateAt_singleton (α := α) 0 (ix2 j q) x hs c hc).trans ?_
    have h0 : c / 16 = 0 := by omega
    rw [get_congr _ h0 hl]
    rw [Shape.Idx.norm_def]
    refine congrArg x ?_
    funext b; apply Fin.ext; fin_cases b
    · show c = c % 16; omega
    · rfl
  | x :: y :: l, hs, c, hc, hl => by
    refine (concatenateAt_cons (α := α) 0 (ix2 j q) x ⟨S16x512, y⟩ (l.map fun f => ⟨S16x512, f⟩) hs c hc).trans ?_
    by_cases h16 : c < 16
    · refine (dif_pos (by exact h16)).trans ?_
      have h0 : c / 16 = 0 := by omega
      rw [get_congr _ h0 hl]
      rw [Shape.Idx.norm_def]
      refine congrArg x ?_
      funext b; apply Fin.ext; fin_cases b
      · show c = c % 16; omega
      · rfl
    · refine (dif_neg (by exact h16)).trans ?_
      have hl' : (c - 16) / 16 < (y :: l).length := by simp only [List.length_cons] at hl ⊢; omega
      refine (cat_at j q (y :: l) _ (c - 16) _ hl').trans ?_
      have h1 : c / 16 = (c - 16) / 16 + 1 := by omega
      have h2 : c % 16 = (c - 16) % 16 := by omega
      rw [get_congr _ h1 hl]
      simp only [h2]
      rfl

/-- Sixteen rows of the expanded codes times one row of scales. -/
def tile (v292 : FVec Ideal S256x512 .bf16) (s : Vec Ideal S1x512 .f32) (o : Fin 2 → ℕ) (h : Shape.Slices S256x512 o S16x512) : FVec Ideal S16x512 .bf16 :=
  mulf (extractStridedSlice S16x512 o v292 h)
    (truncf .bf16 (broadcastTo S16x512 (shapeCast S1x512 s shapeCasts_S1x512_S1x512) broadcasts_S1x512_S16x512) bitsLt_bf16_f32)

theorem cast_row (s : Vec Ideal S1x512 .f32) (q : Fin 512) : shapeCast S1x512 s shapeCasts_S1x512_S1x512 (ix2 0 q) = s (ix2 0 q) := by
  pointwise

theorem tile_apply (v292 : FVec Ideal S256x512 .bf16) (s : Vec Ideal S1x512 .f32) (o : ℕ) (ho : o + 16 ≤ 256) (h) (i : Fin 16) (q : Fin 512) :
    tile v292 s ![o, 0] h (ix2 i q) = (v292 (ix2 ⟨o + i.val, by omega⟩ q) * s (ix2 0 q) : EReal) := by
  have e1 : extractStridedSlice S16x512 ![o, 0] v292 h (ix2 i q) = v292 (ix2 ⟨o + i.val, by omega⟩ q) := by
    pointwise
  have e2 : broadcastTo S16x512 (shapeCast S1x512 s shapeCasts_S1x512_S1x512) broadcasts_S1x512_S16x512 (ix2 i q) = s (ix2 0 q) := by
    pointwise
  exact congrArg₂ (fun a b : EReal => a * b) e1 e2

/-- The expanded codes. -/
def e32 (v185 : Vec Ideal S1x128x512 .i8) : FVec Ideal S256x512 .f32 :=
  k0_pay32 (F := Ideal) (k0_pay28 (k0_pay26 (F := Ideal) v185) (k0_pay27 v185)) (k0_pay29 (k0_pay25 (F := Ideal) v185))
    (k0_pay30 (F := Ideal) (k0_pay25 (F := Ideal) v185)) (k0_pay31 (k0_pay25 (F := Ideal) v185))

theorem wblk_eq (v185 : Vec Ideal S1x128x512 .i8) (s : ℕ → Vec Ideal S1x512 .f32) :
    wblk v185 s = concatenate S256x512 0 ([tile (e32 v185) (s 0) ![0, 0] slices_S256x512_o0_0_S16x512,
        tile (e32 v185) (s 1) ![16, 0] slices_S256x512_o16_0_S16x512, tile (e32 v185) (s 2) ![32, 0] slices_S256x512_o32_0_S16x512,
        tile (e32 v185) (s 3) ![48, 0] slices_S256x512_o48_0_S16x512, tile (e32 v185) (s 4) ![64, 0] slices_S256x512_o64_0_S16x512,
        tile (e32 v185) (s 5) ![80, 0] slices_S256x512_o80_0_S16x512, tile (e32 v185) (s 6) ![96, 0] slices_S256x512_o96_0_S16x512,
        tile (e32 v185) (s 7) ![112, 0] slices_S256x512_o112_0_S16x512, tile (e32 v185) (s 8) ![128, 0] slices_S256x512_o128_0_S16x512,
        tile (e32 v185) (s 9) ![144, 0] slices_S256x512_o144_0_S16x512, tile (e32 v185) (s 10) ![160, 0] slices_S256x512_o160_0_S16x512,
        tile (e32 v185) (s 11) ![176, 0] slices_S256x512_o176_0_S16x512, tile (e32 v185) (s 12) ![192, 0] slices_S256x512_o192_0_S16x512,
        tile (e32 v185) (s 13) ![208, 0] slices_S256x512_o208_0_S16x512, tile (e32 v185) (s 14) ![224, 0] slices_S256x512_o224_0_S16x512,
        tile (e32 v185) (s 15) ![240, 0] slices_S256x512_o240_0_S16x512].map fun f => (⟨S16x512, f⟩ : (s : Shape) × (s.Idx → Ideal .bf16)))
      concatenates_S16x512_S16x512_S16x512_S16x512_S16x512_S16x512_S16x512_S16x512_S16x512_S16x512_S16x512_S16x512_S16x512_S16x512_S16x512_S16x512_S256x512_d0 := rfl

theorem wblk_tile (v185 : Vec Ideal S1x128x512 .i8) (s : ℕ → Vec Ideal S1x512 .f32) (j : Fin 256) (q : Fin 512) :
    wblk v185 s (ix2 j q) = (e32 v185 (ix2 j q) * s (j.val / 16) (ix2 0 q) : EReal) := by
  rw [wblk_eq, concatenate_apply]
  refine (cat_at j q _ _ j.val _ (by simp only [List.length_cons, List.length_nil]; omega)).trans ?_
  have hj : j.val / 16 < 16 := by omega
  obtain ⟨b, hb⟩ : ∃ b, b = j.val / 16 := ⟨_, rfl⟩
  have key : ∀ o h, o = 16 * b → ∀ ho : o + 16 ≤ 256, tile (e32 v185) (s b) ![o, 0] h (ix2 ⟨j.val % 16, Nat.mod_lt _ (by omega)⟩ q)
      = (e32 v185 (ix2 j q) * s b (ix2 0 q) : EReal) := by
    intro o h e ho
    rw [tile_apply _ _ o ho]
    have : (⟨o + j.val % 16, by omega⟩ : Fin 256) = j := Fin.ext (by show o + j.val % 16 = j.val; omega)
    simp only [this]
  have gen : ∀ (l : List (S16x512.Idx → Ideal .bf16)) (hl : j.val / 16 < l.length), l[j.val / 16] = l[b]'(hb ▸ hl) := by
    intro l hl; subst hb; rfl
  rw [gen]
  simp only [← hb] at hj ⊢
  interval_cases b <;> exact key _ _ rfl (by omega)

/-! ## The expanded codes -/

theorem lo_apply (v : Vec Ideal S1x128x512 .i8) (p : Fin 128) (q : Fin 512) :
    k0_pay28 (F := Ideal) (k0_pay26 (F := Ideal) v) (k0_pay27 v) (ix2 p q) = kdec (IntOp.andi (k0_pay25 (F := Ideal) v (ix2 p q)) 15#32) := rfl

/-- The high codes decoded, a vector at a time. -/
def v287 (v187 : IVec S128x512 32) : FVec Ideal S128x512 .f32 := fun i => kdec (IntOp.shrsi .vector (v187 i) 4#32)

theorem p32_eq (v237 : FVec Ideal S128x512 .f32) (v187 : IVec S128x512 32) :
    k0_pay32 (F := Ideal) v237 (k0_pay29 v187) (k0_pay30 (F := Ideal) v187) (k0_pay31 v187)
      = shapeCast S256x512 (concatenate S128x2x512 1 [⟨S128x1x512, shapeCast S128x1x512 v237 shapeCasts_S128x512_S128x1x512⟩,
          ⟨S128x1x512, shapeCast S128x1x512 (v287 v187) shapeCasts_S128x512_S128x1x512⟩] concatenates_S128x1x512_S128x1x512_S128x2x512_d1) shapeCasts_S128x2x512_S256x512 := rfl

theorem p32_apply (v237 : FVec Ideal S128x512 .f32) (v187 : IVec S128x512 32) (j : Fin 256) (q : Fin 512) :
    k0_pay32 (F := Ideal) v237 (k0_pay29 v187) (k0_pay30 (F := Ideal) v187) (k0_pay31 v187) (ix2 j q)
      = if j.val % 2 < 1 then v237 (ix2 ⟨j.val / 2, by omega⟩ q) else v287 v187 (ix2 ⟨j.val / 2, by omega⟩ q) := by
  rw [p32_eq]
  pointwise
  split <;> rfl

theorem p25_apply (v185 : Vec Ideal S1x128x512 .i8) (p : Fin 128) (q : Fin 512) :
    k0_pay25 (F := Ideal) v185 (ix2 p q) = (v185 (ix3 0 p q) : BitVec 8).setWidth 32 := by
  have e : shapeCast S128x512 v185 shapeCasts_S1x128x512_S128x512 (ix2 p q) = v185 (ix3 0 p q) := by
    pointwise
  exact congrArg (fun b : BitVec 8 => b.setWidth 32) e

/-- The code of row `i` of a slot: the packed byte's low half at an even row, its high half at an odd one. -/
def nib (b : BitVec 8) (i : ℕ) : BitVec 32 :=
  if i % 2 < 1 then IntOp.andi (b.setWidth 32) 15#32 else IntOp.shrsi .vector (b.setWidth 32) 4#32

theorem e32_apply (v185 : Vec Ideal S1x128x512 .i8) (j : Fin 256) (q : Fin 512) :
    e32 v185 (ix2 j q) = kdec (nib (v185 (ix3 0 ⟨j.val / 2, by omega⟩ q)) j.val) := by
  unfold e32
  rw [p32_apply]
  unfold nib
  by_cases h : j.val % 2 < 1
  · rw [if_pos h, if_pos h, lo_apply, p25_apply]
  · rw [if_neg h, if_neg h]
    show kdec (IntOp.shrsi .vector (k0_pay25 (F := Ideal) v185 _) 4#32) = _
    rw [p25_apply]

/-- The weight of row `i`, column `q` of a slot. -/
def wt (D : Fin 3072 → Fin 512 → BitVec 8) (S : S384x512.Idx → Ideal .f32) (i : ℕ) (q : Fin 512) : EReal :=
  kdec (nib (D ⟨(i / 2) % 3072, Nat.mod_lt _ (by omega)⟩ q) i) * S (ix2 ⟨(i / 16) % 384, Nat.mod_lt _ (by omega)⟩ q)

theorem wblk_apply (D : Fin 3072 → Fin 512 → BitVec 8) (S : S384x512.Idx → Ideal .f32) (k : ℕ) (j : Fin 256) (q : Fin 512) :
    wblk (F := Ideal) (r7 (F := Ideal) D k) (fun b => r9 (F := Ideal) S (k * 16 + b)) (ix2 j q) = wt D S (k * 256 + j.val) q := by
  rw [wblk_tile, e32_apply]
  unfold wt
  have e1 : (k * 128 + j.val / 2) % 3072 = ((k * 256 + j.val) / 2) % 3072 := by congr 1; omega
  have e2 : (k * 16 + j.val / 16) % 384 = ((k * 256 + j.val) / 16) % 384 := by congr 1; omega
  have e3 : (k * 256 + j.val) % 2 = j.val % 2 := by omega
  show kdec (nib (D ⟨(k * 128 + j.val / 2) % 3072, _⟩ q) j.val) * (S (ix2 ⟨(k * 16 + j.val / 16) % 384, _⟩ q) : EReal) = _
  unfold nib
  simp only [e1, e2, e3]

/-! ## The accumulators -/

/-- Row `r`'s activation at column `i`. -/
def av (A : S1024x6144.Idx → Ideal .bf16) (r i : ℕ) : EReal := A (ix2 ⟨r % 1024, Nat.mod_lt _ (by omega)⟩ ⟨i % 6144, Nat.mod_lt _ (by omega)⟩)

theorem p4_apply (x : FVec Ideal S128x512 .f32) (w : FVec Ideal S256x512 .bf16) (a : Vec Ideal S128x256 .bf16) (j : Fin 128) (q : Fin 512) :
    k0_pay4 x w a (ix2 j q) = (x (ix2 j q) + ∑ i : Fin 256, a (ix2 j i) * w (ix2 i q) : EReal) := by
  pointwise [k0_pay4]

theorem p7_apply (x : FVec Ideal S192x512 .f32) (w : FVec Ideal S256x512 .bf16) (a : Vec Ideal S192x256 .bf16) (j : Fin 192) (q : Fin 512) :
    k0_pay7 x w a (ix2 j q) = (x (ix2 j q) + ∑ i : Fin 256, a (ix2 j i) * w (ix2 i q) : EReal) := by
  pointwise [k0_pay7]

theorem p10_apply (x : FVec Ideal S272x512 .f32) (w : FVec Ideal S256x512 .bf16) (a : Vec Ideal S272x256 .bf16) (j : Fin 272) (q : Fin 512) :
    k0_pay10 x w a (ix2 j q) = (x (ix2 j q) + ∑ i : Fin 256, a (ix2 j i) * w (ix2 i q) : EReal) := by
  pointwise [k0_pay10]

theorem zero3 (x : S128x512.Idx) : k0_pay3 (F := Ideal) x = (0 : EReal) := by
  have : (Scalar.ofBits (F := Ideal) .f32 0x00000000#32 : EReal) = 0 := by exact f0.trans EReal.coe_zero
  exact this

/-- The sum of the first `n` trips' products. -/
def ksum (D : Fin 3072 → Fin 512 → BitVec 8) (S : S384x512.Idx → Ideal .f32) (A : S1024x6144.Idx → Ideal .bf16) (r : ℕ) (q : Fin 512) (n : ℕ) : EReal :=
  ∑ k ∈ Finset.range n, ∑ i ∈ Finset.range 256, av A r (k * 256 + i) * wt D S (k * 256 + i) q

theorem kl128_apply (D : Fin 3072 → Fin 512 → BitVec 8) (S : S384x512.Idx → Ideal .f32) (A : S1024x6144.Idx → Ideal .bf16) (w0 : ℕ) (r : Fin 128) (q : Fin 512) :
    ∀ n, kl128 (F := Ideal) D S A w0 n (ix2 r q) = ksum D S A (w0 + r.val) q n
  | 0 => by
    show k0_pay3 (F := Ideal) (ix2 r q) = _
    rw [zero3]; rfl
  | n + 1 => by
    show k0_pay4 (kl128 (F := Ideal) D S A w0 n) (wblk (F := Ideal) (r7 (F := Ideal) D n) fun b => r9 (F := Ideal) S (n * 16 + b)) (r3_128 (F := Ideal) A w0 n) (ix2 r q) = _
    rw [p4_apply, kl128_apply D S A w0 r q n]
    unfold ksum
    rw [Finset.sum_range_succ]
    congr 1
    rw [← Fin.sum_univ_eq_sum_range (fun i => av A (w0 + r.val) (n * 256 + i) * wt D S (n * 256 + i) q) 256]
    refine Finset.sum_congr rfl fun i _ => ?_
    rw [wblk_apply]
    rfl

theorem zero6 (x : S192x512.Idx) : k0_pay6 (F := Ideal) x = (0 : EReal) := by
  have : (Scalar.ofBits (F := Ideal) .f32 0x00000000#32 : EReal) = 0 := by exact f0.trans EReal.coe_zero
  exact this

theorem kl192_apply (D : Fin 3072 → Fin 512 → BitVec 8) (S : S384x512.Idx → Ideal .f32) (A : S1024x6144.Idx → Ideal .bf16) (w0 : ℕ) (r : Fin 192) (q : Fin 512) :
    ∀ n, kl192 (F := Ideal) D S A w0 n (ix2 r q) = ksum D S A (w0 + r.val) q n
  | 0 => by
    show k0_pay6 (F := Ideal) (ix2 r q) = _
    rw [zero6]; rfl
  | n + 1 => by
    show k0_pay7 (kl192 (F := Ideal) D S A w0 n) (wblk (F := Ideal) (r7 (F := Ideal) D n) fun b => r9 (F := Ideal) S (n * 16 + b)) (r3_192 (F := Ideal) A w0 n) (ix2 r q) = _
    rw [p7_apply, kl192_apply D S A w0 r q n]
    unfold ksum
    rw [Finset.sum_range_succ]
    congr 1
    rw [← Fin.sum_univ_eq_sum_range (fun i => av A (w0 + r.val) (n * 256 + i) * wt D S (n * 256 + i) q) 256]
    refine Finset.sum_congr rfl fun i _ => ?_
    rw [wblk_apply]
    rfl

theorem zero9 (x : S272x512.Idx) : k0_pay9 (F := Ideal) x = (0 : EReal) := by
  have : (Scalar.ofBits (F := Ideal) .f32 0x00000000#32 : EReal) = 0 := by exact f0.trans EReal.coe_zero
  exact this

theorem kl272_apply (D : Fin 3072 → Fin 512 → BitVec 8) (S : S384x512.Idx → Ideal .f32) (A : S1024x6144.Idx → Ideal .bf16) (w0 : ℕ) (r : Fin 272) (q : Fin 512) :
    ∀ n, kl272 (F := Ideal) D S A w0 n (ix2 r q) = ksum D S A (w0 + r.val) q n
  | 0 => by
    show k0_pay9 (F := Ideal) (ix2 r q) = _
    rw [zero9]; rfl
  | n + 1 => by
    show k0_pay10 (kl272 (F := Ideal) D S A w0 n) (wblk (F := Ideal) (r7 (F := Ideal) D n) fun b => r9 (F := Ideal) S (n * 16 + b)) (r3_272 (F := Ideal) A w0 n) (ix2 r q) = _
    rw [p10_apply, kl272_apply D S A w0 r q n]
    unfold ksum
    rw [Finset.sum_range_succ]
    congr 1
    rw [← Fin.sum_univ_eq_sum_range (fun i => av A (w0 + r.val) (n * 256 + i) * wt D S (n * 256 + i) q) 256]
    refine Finset.sum_congr rfl fun i _ => ?_
    rw [wblk_apply]
    rfl

/-- All trips' products: the even columns', then the odd ones'. -/
theorem ksum_all (D : Fin 3072 → Fin 512 → BitVec 8) (S : S384x512.Idx → Ideal .f32) (A : S1024x6144.Idx → Ideal .bf16) (r : ℕ) (q : Fin 512) :
    ksum D S A r q 24 = (∑ i ∈ Finset.range 3072, av A r (2 * i) * wt D S (2 * i) q)
      + ∑ i ∈ Finset.range 3072, av A r (2 * i + 1) * wt D S (2 * i + 1) q := by
  unfold ksum
  rw [sum_blocks (fun i => av A r i * wt D S i q) 256 24]
  exact sum_pairs (fun i => av A r i * wt D S i q) 3072

end Cert.KernelIdeal.KV

end
-- ==== Proof.RP.lean ====
/- The reference's payloads read at an index, at the ideal arithmetic. -/
module

public import proofs.«01_k».proof.Proof.VD
public import proofs.«01_k».proof.Proof.Gen.ReferenceIdeal.Value
public import Idealize.ShloMosaic.Lib.Pointwise

@[expose] public section

set_option maxRecDepth 8192
set_option maxHeartbeats 1000000

noncomputable section

namespace Cert.ReferenceIdeal.RV

open Cert.ReferenceIdeal Cert.ReferenceIdeal.Gen Cert.Val
open Idealize.ShloMosaic

/-- Codes decoded, times their scales. -/
def pr (v17 : FVec Ideal S3072x2560 .bf16) (w : IVec S3072x2560 32) : FVec Ideal S3072x2560 .bf16 := fun i => (rdec (w i) * v17 i : EReal)

theorem p17_eq (v17 : FVec Ideal S3072x2560 .bf16) (v19 : Vec Ideal S1x3072x2560 .i8) :
    k0_pay17 (F := Ideal) v17 (k0_pay11 (F := Ideal) v19) (k0_pay12 (F := Ideal) v19) (k0_pay13 (F := Ideal) v19) (k0_pay14 (F := Ideal) v19) k0_pay15 k0_pay16
      = pr v17 (fun i => IntOp.andi (k0_pay9 (F := Ideal) v19 i) 15#32) := rfl

/-- A product of the activations by 3072 rows of weights, from an accumulator. -/
def mm (a : FVec Ideal S1024x3072 .bf16) (w : FVec Ideal S3072x2560 .bf16) (z : FVec Ideal S1024x2560 .f32) : FVec Ideal S1024x2560 .f32 :=
  matmul dot_S1024x3072_S3072x2560_S1024x2560_1_0_0_1_n_n none (shapeCast S1024x3072 a shapeCasts_S1024x3072_S1024x3072) w z

/-- The accumulator both products start from. -/
def zz : FVec Ideal S1024x2560 .f32 := constant S1024x2560 .f32 0x00000000#32

theorem p5_eq (v : IVec S1024x2560 32) (a9 : FVec Ideal S1024x2560 .f32) (a8 : BitVec 32) (v17 v79 : FVec Ideal S3072x2560 .bf16) (v21 : IVec S3072x2560 32)
    (v138 v141 : Vec Ideal S1024x3072 .bf16) :
    k0_pay5 (F := Ideal) v a9 a8 v17 v79 (k0_pay19 v21) (k0_pay21 (k0_pay20 v21) 1#32) (k0_pay22 (k0_pay18 v21)) (k0_pay23 (k0_pay18 v21))
        (k0_pay24 (k0_pay18 v21) (k0_pay19 v21) (k0_pay20 v21) 1#32) (k0_pay25 (k0_pay19 v21) (k0_pay20 v21) 1#32) (FloatOps.ofBits FTy.bf16 16256#16) k0_pay26 v138 v141
      = select (cmpi .eq v (broadcast S1024x2560 a8))
          (addf (mm v138 v79 zz) (mm v141 (pr v17 fun i => IntOp.shrsi .vector (v21 i) 4#32) zz)) a9 := rfl

theorem mm_apply (v79 : FVec Ideal S3072x2560 .bf16) (v138 : Vec Ideal S1024x3072 .bf16) (r : Fin 1024) (q : Fin 2560) :
    mm v138 v79 zz (ix2 r q) = (∑ i : Fin 3072, v138 (ix2 r i) * v79 (ix2 i q) : EReal) := by
  have h0 : zz (ix2 r q) = (0 : EReal) := f0.trans EReal.coe_zero
  have h1 : mm v138 v79 zz (ix2 r q) = (zz (ix2 r q) + ∑ i : Fin 3072, v138 (ix2 r i) * v79 (ix2 i q) : EReal) := by
    generalize zz = z
    pointwise [mm]
  rw [h1, h0]
  exact zero_add _

theorem p8_apply (v11 : Vec Ideal S1x384x2560 .fp8e4m3) (i : Fin 3072) (q : Fin 2560) :
    k0_pay8 (F := Ideal) v11 (ix2 i q) = (v11 (ix3 0 ⟨i.val / 8, by omega⟩ q) : EReal) := by
  pointwise [k0_pay8]

theorem p9_apply (v19 : Vec Ideal S1x3072x2560 .i8) (i : Fin 3072) (q : Fin 2560) :
    k0_pay9 (F := Ideal) v19 (ix2 i q) = (v19 (ix3 0 i q) : BitVec 8).setWidth 32 := by
  have e : shapeCast S3072x2560 v19 shapeCasts_S1x3072x2560_S3072x2560 (ix2 i q) = v19 (ix3 0 i q) := by
    pointwise
  exact congrArg (fun b : BitVec 8 => b.setWidth 32) e

/-- A packed byte's low code, and its high one. -/
def lob (b : BitVec 8) : BitVec 32 := IntOp.andi (b.setWidth 32) 15#32
def hib (b : BitVec 8) : BitVec 32 := IntOp.shrsi .vector (b.setWidth 32) 4#32

/-- Trip's new product at an index. -/
theorem p5_apply (v : IVec S1024x2560 32) (a9 : FVec Ideal S1024x2560 .f32) (a8 : BitVec 32) (l6 : Vec Ideal S1x384x2560 .fp8e4m3) (l5 : Vec Ideal S1x3072x2560 .i8)
    (v138 v141 : Vec Ideal S1024x3072 .bf16) (r : Fin 1024) (q : Fin 2560) :
    k0_pay5 (F := Ideal) v a9 a8 (k0_pay8 (F := Ideal) l6)
        (k0_pay17 (F := Ideal) (k0_pay8 (F := Ideal) l6) (k0_pay11 (F := Ideal) l5) (k0_pay12 (F := Ideal) l5) (k0_pay13 (F := Ideal) l5) (k0_pay14 (F := Ideal) l5) k0_pay15 k0_pay16)
        (k0_pay19 (k0_pay9 (F := Ideal) l5)) (k0_pay21 (k0_pay20 (k0_pay9 (F := Ideal) l5)) 1#32) (k0_pay22 (k0_pay18 (k0_pay9 (F := Ideal) l5))) (k0_pay23 (k0_pay18 (k0_pay9 (F := Ideal) l5)))
        (k0_pay24 (k0_pay18 (k0_pay9 (F := Ideal) l5)) (k0_pay19 (k0_pay9 (F := Ideal) l5)) (k0_pay20 (k0_pay9 (F := Ideal) l5)) 1#32)
        (k0_pay25 (k0_pay19 (k0_pay9 (F := Ideal) l5)) (k0_pay20 (k0_pay9 (F := Ideal) l5)) 1#32) (FloatOps.ofBits FTy.bf16 16256#16) k0_pay26 v138 v141 (ix2 r q)
      = if v (ix2 r q) = a8 then
          (((∑ i : Fin 3072, v138 (ix2 r i) * (rdec (lob (l5 (ix3 0 i q))) * l6 (ix3 0 ⟨i.val / 8, by omega⟩ q)))
            + ∑ i : Fin 3072, v141 (ix2 r i) * (rdec (hib (l5 (ix3 0 i q))) * l6 (ix3 0 ⟨i.val / 8, by omega⟩ q)) : EReal))
        else a9 (ix2 r q) := by
  rw [p5_eq, p17_eq]
  have e1 : ∀ i : Fin 3072, pr (k0_pay8 (F := Ideal) l6) (fun i => IntOp.andi (k0_pay9 (F := Ideal) l5 i) 15#32) (ix2 i q)
      = (rdec (lob (l5 (ix3 0 i q))) * l6 (ix3 0 ⟨i.val / 8, by omega⟩ q) : EReal) := by
    intro i; unfold pr lob; dsimp only; rw [p8_apply, p9_apply]
  have e2 : ∀ i : Fin 3072, pr (k0_pay8 (F := Ideal) l6) (fun i => IntOp.shrsi .vector (k0_pay9 (F := Ideal) l5 i) 4#32) (ix2 i q)
      = (rdec (hib (l5 (ix3 0 i q))) * l6 (ix3 0 ⟨i.val / 8, by omega⟩ q) : EReal) := by
    intro i; unfold pr hib; dsimp only; rw [p8_apply, p9_apply]
  have m1 := mm_apply (pr (k0_pay8 (F := Ideal) l6) (fun i => IntOp.andi (k0_pay9 (F := Ideal) l5 i) 15#32)) v138 r q
  have m2 := mm_apply (pr (k0_pay8 (F := Ideal) l6) (fun i => IntOp.shrsi .vector (k0_pay9 (F := Ideal) l5 i) 4#32)) v141 r q
  simp only [e1] at m1
  simp only [e2] at m2
  show Scalar.select (IntOp.cmpi .eq (v (ix2 r q)) a8) ((mm _ _ _ (ix2 r q) + mm _ _ _ (ix2 r q) : EReal) : Ideal .f32) (a9 (ix2 r q)) = _
  rw [m1, m2]
  by_cases h : v (ix2 r q) = a8
  · rw [if_pos h, h]
    have : IntOp.cmpi .eq a8 a8 = 1#1 := by simp [IntOp.cmpi]
    rw [this]; rfl
  · rw [if_neg h]
    have : IntOp.cmpi .eq (v (ix2 r q)) a8 = 0#1 := by simp only [IntOp.cmpi]; rw [beq_eq_false_iff_ne.mpr h]; rfl
    rw [this]; rfl

theorem p6_apply (v : IVec S1024x2560 32) (a10 : FVec Ideal S1024x2560 .f32) (a8 : BitVec 32) (x y : Ideal .f32) (r : Fin 1024) (q : Fin 2560) :
    k0_pay6 (F := Ideal) v a10 a8 x y (ix2 r q) = if v (ix2 r q) = a8 then (x * y : EReal) else a10 (ix2 r q) := by
  show Scalar.select (IntOp.cmpi .eq (v (ix2 r q)) a8) ((x * y : EReal) : Ideal .f32) (a10 (ix2 r q)) = _
  by_cases h : v (ix2 r q) = a8
  · rw [if_pos h, h]
    have : IntOp.cmpi .eq a8 a8 = 1#1 := by simp [IntOp.cmpi]
    rw [this]; rfl
  · rw [if_neg h]
    have : IntOp.cmpi .eq (v (ix2 r q)) a8 = 0#1 := by simp only [IntOp.cmpi]; rw [beq_eq_false_iff_ne.mpr h]; rfl
    rw [this]; rfl

theorem p2_apply (a9 : BitVec 32) (a10 : IVec S1024x2560 32) (g : Elt Ideal .i32) (r : Fin 1024) (q : Fin 2560) :
    k0_pay2 (F := Ideal) a9 a10 g (ix2 r q) = a10 (ix2 r q) + (IntOp.cmpi .sge (BitVec.ofNat 32 r.val) (a9 + g)).setWidth 32 := by
  have e : iota .tc S1024x2560 32 [0] iota_S1024x2560_d0_w32 (ix2 r q) = BitVec.ofNat 32 r.val := by
    pointwise
  show a10 (ix2 r q) + (IntOp.cmpi .sge (iota .tc S1024x2560 32 [0] iota_S1024x2560_d0_w32 (ix2 r q)) (a9 + g)).setWidth 32 = _
  rw [e]

end Cert.ReferenceIdeal.RV

end
-- ==== Proof.RV.lean ====
/- The reference's two loops, and the value of its result at an index.

   The first loop counts, for each row, the groups that end at or before it: the number of the row's own group. The
   second keeps, for each row, the product and the scale of that group. -/
module

public import proofs.«01_k».proof.Proof.RP
public import proofs.«01_k».proof.Proof.IKW
public import proofs.«01_k».proof.Proof.Words
public import Idealize.ShloMosaic.Lib.WholeRead
public import Idealize.ShloMosaic.Lib.VecWindow

@[expose] public section

set_option maxRecDepth 8192
set_option maxHeartbeats 1000000

noncomputable section

namespace Cert.ReferenceIdeal.RV

open Cert.ReferenceIdeal Cert.ReferenceIdeal.Gen Cert.Val Cert.Words
open Idealize.ShloMosaic Idealize.ShloMosaic.TcCoe

variable (c : Dev nD) (arg0 : Memref sig .tc .smem S11 .i32) (harg0 : arg0.IsWhole) (arg1 : Memref sig .tc .smem S11 .f32) (harg1 : arg1.IsWhole) (arg2 : Memref sig .tc .smem S11 .f32) (harg2 : arg2.IsWhole) (arg3 : Memref sig .tc .vmem S1024x3072 .bf16) (harg3 : arg3.IsWhole) (arg4 : Memref sig .tc .vmem S1024x3072 .bf16) (harg4 : arg4.IsWhole) (arg5 : Memref sig .tc .vmem S11x3072x2560 .i8) (harg5 : arg5.IsWhole) (arg6 : Memref sig .tc .vmem S11x384x2560 .fp8e4m3) (harg6 : arg6.IsWhole) (arg7 : Memref sig .tc .vmem S1024x2560 .f32) (harg7 : arg7.IsWhole)
variable (x0 : Vec Ideal S11 .i32) (x1 x2 : Vec Ideal S11 .f32) (x3 x4 : Vec Ideal S1024x3072 .bf16) (x5 : Vec Ideal S11x3072x2560 .i8) (x6 : Vec Ideal S11x384x2560 .fp8e4m3)

theorem trips1 : k0_t1_loop.trips = 11 := by decide +kernel
theorem trips2 : k0_t2_loop.trips = 11 := by decide +kernel
theorem trips : Scf.trips (0#32) (Scalar.addi 0#32 11#32) 1#32 = 11 := by decide +kernel
theorem iv2 : ∀ k : Fin k0_t2_loop.trips, Scf.iv 0#32 1#32 k.val = BitVec.ofNat 32 k.val := by decide +kernel

/-! ## The first loop -/

theorem t1_eq (k : Fin k0_t1_loop.trips) (hk : k.val < 11) (acc : BitVec 32 × IVec S1024x2560 32) :
    tripR_k0_t1 (F := Ideal) Variants.none c none arg0 harg0 arg1 harg1 arg2 harg2 arg3 harg3 arg4 harg4 arg5 harg5 arg6 harg6 arg7 harg7 (harg0.unread x0) k acc
      = (acc.1 + x0 (ix1 ⟨k.val, hk⟩), k0_pay2 (F := Ideal) acc.1 acc.2 (x0 (ix1 ⟨k.val, hk⟩))) := by
  have e : View.readAt (Elt Ideal) arg0.view (Rect.unit (s := S11) (k0_off1 k) S1.size (k0_off1_inb k)).toLoadRect (harg0.unread x0) (Shape.Idx.first (Nat.lt_of_lt_of_eq Nat.one_pos numel1_S1.symm)) = x0 (ix1 ⟨k.val, hk⟩) := by
    rw [Memref.IsWhole.readAt_unread]
    congr 1
    funext a; apply Fin.ext; fin_cases a
    show k0_off1 k 0 + 1 * 0 = k.val
    rw [k0_off1_eq]; rfl
  rw [← e]
  unfold tripR_k0_t1 trip_k0_t1
  rfl

abbrev st1 (n : ℕ) : BitVec 32 × IVec S1024x2560 32 :=
  st_k0_t1 (F := Ideal) Variants.none c none arg0 harg0 arg1 harg1 arg2 harg2 arg3 harg3 arg4 harg4 arg5 harg5 arg6 harg6 arg7 harg7 (harg0.unread x0) (0#32, k0_pay1) n

theorem st1_val (G : ℕ → ℕ) (hg : ∀ k : Fin 11, x0 (ix1 k) = BitVec.ofNat 32 (G k.val)) (hp : pre G 11 ≤ 1024) :
    ∀ n, n ≤ 11 → (st1 c arg0 harg0 arg1 harg1 arg2 harg2 arg3 harg3 arg4 harg4 arg5 harg5 arg6 harg6 arg7 harg7 x0 n).1 = BitVec.ofNat 32 (pre G n)
      ∧ ∀ (r : Fin 1024) (q : Fin 2560) (e : ℕ), pre G e ≤ r.val → r.val < pre G (e + 1) → (st1 c arg0 harg0 arg1 harg1 arg2 harg2 arg3 harg3 arg4 harg4 arg5 harg5 arg6 harg6 arg7 harg7 x0 n).2 (ix2 r q) = BitVec.ofNat 32 (min n e)
  | 0, _ => ⟨rfl, fun r q e _ _ => by rw [Nat.zero_min]; rfl⟩
  | n + 1, hn => by
    obtain ⟨h1, h2⟩ := st1_val G hg hp n (by omega)
    have hk : n < k0_t1_loop.trips := by rw [trips1]; omega
    have hs : st1 c arg0 harg0 arg1 harg1 arg2 harg2 arg3 harg3 arg4 harg4 arg5 harg5 arg6 harg6 arg7 harg7 x0 (n + 1) = _ := st_k0_t1_succ (F := Ideal) Variants.none c none arg0 harg0 arg1 harg1 arg2 harg2 arg3 harg3 arg4 harg4 arg5 harg5 arg6 harg6 arg7 harg7 (harg0.unread x0) (0#32, k0_pay1) ⟨n, hk⟩
    have hn' : n < 11 := by omega
    rw [t1_eq c arg0 harg0 arg1 harg1 arg2 harg2 arg3 harg3 arg4 harg4 arg5 harg5 arg6 harg6 arg7 harg7 x0 ⟨n, hk⟩ hn'] at hs
    have h1' : (st_k0_t1 (F := Ideal) Variants.none c none arg0 harg0 arg1 harg1 arg2 harg2 arg3 harg3 arg4 harg4 arg5 harg5 arg6 harg6 arg7 harg7 (harg0.unread x0) (0#32, k0_pay1) n).1 = BitVec.ofNat 32 (pre G n) := h1
    have hx : x0 (ix1 ⟨n, hn'⟩) = BitVec.ofNat 32 (G n) := hg ⟨n, hn'⟩
    have hadd : (BitVec.ofNat 32 (pre G n) + BitVec.ofNat 32 (G n) : BitVec 32) = BitVec.ofNat 32 (pre G (n + 1)) := by
      rw [pre_succ, BitVec.ofNat_add]
    have hle : pre G (n + 1) ≤ 1024 := le_trans (pre_mono G (by omega)) hp
    rw [hs]
    refine ⟨?_, fun r q e he1 he2 => ?_⟩
    · show (st_k0_t1 (F := Ideal) Variants.none c none arg0 harg0 arg1 harg1 arg2 harg2 arg3 harg3 arg4 harg4 arg5 harg5 arg6 harg6 arg7 harg7 (harg0.unread x0) (0#32, k0_pay1) n).1 + x0 (ix1 ⟨n, hn'⟩) = _
      rw [h1', hx, hadd]
    · show k0_pay2 (F := Ideal) (st_k0_t1 (F := Ideal) Variants.none c none arg0 harg0 arg1 harg1 arg2 harg2 arg3 harg3 arg4 harg4 arg5 harg5 arg6 harg6 arg7 harg7 (harg0.unread x0) (0#32, k0_pay1) n).1 (st1 c arg0 harg0 arg1 harg1 arg2 harg2 arg3 harg3 arg4 harg4 arg5 harg5 arg6 harg6 arg7 harg7 x0 n).2 (x0 (ix1 ⟨n, hn'⟩)) (ix2 r q) = _
      rw [p2_apply, h2 r q e he1 he2, h1', hx, hadd]
      have hc : IntOp.cmpi .sge (BitVec.ofNat 32 r.val) (BitVec.ofNat 32 (pre G (n + 1))) = if pre G (n + 1) ≤ r.val then 1#1 else 0#1 :=
        Cert.KernelIdeal.KW.sge_W (by omega) (by omega)
      rw [hc]
      by_cases hlt : n < e
      · have : pre G (n + 1) ≤ r.val := le_trans (pre_mono G hlt) he1
        rw [if_pos this, Nat.min_eq_left (by omega), Nat.min_eq_left (by omega), BitVec.ofNat_add]; rfl
      · have : ¬ pre G (n + 1) ≤ r.val := by
          have := pre_mono G (a := e + 1) (b := n + 1) (by omega); omega
        rw [if_neg this, Nat.min_eq_right (by omega), Nat.min_eq_right (by omega)]
        exact BitVec.add_zero _

/-! ## The second loop -/

/-- Row `r`'s product at column `q`, in group `e`. -/
def prod (e : Fin 11) (r : Fin 1024) (q : Fin 2560) : EReal :=
  (∑ i : Fin 3072, x3 (ix2 r i) * (rdec (lob (x5 (ix3 e i q))) * x6 (ix3 e ⟨i.val / 8, by omega⟩ q)))
    + ∑ i : Fin 3072, x4 (ix2 r i) * (rdec (hib (x5 (ix3 e i q))) * x6 (ix3 e ⟨i.val / 8, by omega⟩ q))

abbrev trip2 (v : IVec S1024x2560 32) (k : Fin k0_t2_loop.trips) (acc : FVec Ideal S1024x2560 .f32 × FVec Ideal S1024x2560 .f32) :=
  tripR_k0_t2 (F := Ideal) Variants.none c none arg0 harg0 arg1 harg1 arg2 harg2 arg3 harg3 arg4 harg4 arg5 harg5 arg6 harg6 arg7 harg7 v (harg1.unread x1) (harg2.unread x2) (harg3.unread x3) (harg4.unread x4) (harg5.unread x5) (harg6.unread x6) k acc

abbrev l6 (k : Fin k0_t2_loop.trips) : Vec Ideal S1x384x2560 .fp8e4m3 :=
  View.readAt (Elt Ideal) arg6.view (Rect.unit (s := S11x384x2560) (k0_off2 k) S1x384x2560.size (k0_off2_inb k)).toLoadRect (harg6.unread x6)
abbrev l5 (k : Fin k0_t2_loop.trips) : Vec Ideal S1x3072x2560 .i8 :=
  View.readAt (Elt Ideal) arg5.view (Rect.unit (s := S11x3072x2560) (k0_off3 k) S1x3072x2560.size (k0_off3_inb k)).toLoadRect (harg5.unread x5)
abbrev l3 : Vec Ideal S1024x3072 .bf16 :=
  View.readAt (Elt Ideal) arg3.view (Rect.unit (s := S1024x3072) ![0, 0] S1024x3072.size inb_S1024x3072_S1024x3072_0_0).toLoadRect (harg3.unread x3)
abbrev l4 : Vec Ideal S1024x3072 .bf16 :=
  View.readAt (Elt Ideal) arg4.view (Rect.unit (s := S1024x3072) ![0, 0] S1024x3072.size inb_S1024x3072_S1024x3072_0_0).toLoadRect (harg4.unread x4)

theorem l6_apply (k : Fin k0_t2_loop.trips) (hk : k.val < 11) (i : Fin 384) (q : Fin 2560) : l6 arg6 harg6 x6 k (ix3 0 i q) = x6 (ix3 ⟨k.val, hk⟩ i q) := by
  unfold l6
  rw [Memref.IsWhole.readAt_unread]
  congr 1
  funext a; apply Fin.ext
  fin_cases a
  · show k0_off2 k 0 + 1 * 0 = k.val
    rw [k0_off2_eq]; rfl
  · show k0_off2 k 1 + 1 * i.val = i.val
    rw [k0_off2_eq]; show 0 + 1 * i.val = i.val; omega
  · show k0_off2 k 2 + 1 * q.val = q.val
    rw [k0_off2_eq]; show 0 + 1 * q.val = q.val; omega

theorem l5_apply (k : Fin k0_t2_loop.trips) (hk : k.val < 11) (i : Fin 3072) (q : Fin 2560) : l5 arg5 harg5 x5 k (ix3 0 i q) = x5 (ix3 ⟨k.val, hk⟩ i q) := by
  unfold l5
  rw [Memref.IsWhole.readAt_unread]
  congr 1
  funext a; apply Fin.ext
  fin_cases a
  · show k0_off3 k 0 + 1 * 0 = k.val
    rw [k0_off3_eq]; rfl
  · show k0_off3 k 1 + 1 * i.val = i.val
    rw [k0_off3_eq]; show 0 + 1 * i.val = i.val; omega
  · show k0_off3 k 2 + 1 * q.val = q.val
    rw [k0_off3_eq]; show 0 + 1 * q.val = q.val; omega

theorem l3_apply (r : Fin 1024) (i : Fin 3072) : l3 arg3 harg3 x3 (ix2 r i) = x3 (ix2 r i) := by
  unfold l3
  rw [Memref.IsWhole.readAt_unread]
  congr 1
  funext a; apply Fin.ext
  fin_cases a
  · show 0 + 1 * r.val = r.val; omega
  · show 0 + 1 * i.val = i.val; omega

theorem l4_apply (r : Fin 1024) (i : Fin 3072) : l4 arg4 harg4 x4 (ix2 r i) = x4 (ix2 r i) := by
  unfold l4
  rw [Memref.IsWhole.readAt_unread]
  congr 1
  funext a; apply Fin.ext
  fin_cases a
  · show 0 + 1 * r.val = r.val; omega
  · show 0 + 1 * i.val = i.val; omega

theorem t2_fst (v : IVec S1024x2560 32) (k : Fin k0_t2_loop.trips) (hk : k.val < 11) (acc : FVec Ideal S1024x2560 .f32 × FVec Ideal S1024x2560 .f32) (r : Fin 1024) (q : Fin 2560) :
    (trip2 c arg0 harg0 arg1 harg1 arg2 harg2 arg3 harg3 arg4 harg4 arg5 harg5 arg6 harg6 arg7 harg7 x1 x2 x3 x4 x5 x6 v k acc).1 (ix2 r q)
      = if v (ix2 r q) = BitVec.ofNat 32 k.val then prod x3 x4 x5 x6 ⟨k.val, hk⟩ r q else acc.1 (ix2 r q) := by
  have h := p5_apply v acc.1 (Scf.iv 0#32 1#32 k.val) (l6 arg6 harg6 x6 k) (l5 arg5 harg5 x5 k) (l3 arg3 harg3 x3) (l4 arg4 harg4 x4) r q
  simp only [l3_apply, l4_apply, l5_apply arg5 harg5 x5 k hk, l6_apply arg6 harg6 x6 k hk] at h
  rw [iv2 k] at h
  refine Eq.trans ?_ h
  rw [← iv2 k]
  unfold trip2 tripR_k0_t2 trip_k0_t2
  rfl

theorem t2_snd (v : IVec S1024x2560 32) (k : Fin k0_t2_loop.trips) (hk : k.val < 11) (acc : FVec Ideal S1024x2560 .f32 × FVec Ideal S1024x2560 .f32) (r : Fin 1024) (q : Fin 2560) :
    (trip2 c arg0 harg0 arg1 harg1 arg2 harg2 arg3 harg3 arg4 harg4 arg5 harg5 arg6 harg6 arg7 harg7 x1 x2 x3 x4 x5 x6 v k acc).2 (ix2 r q)
      = if v (ix2 r q) = BitVec.ofNat 32 k.val then (x2 (ix1 ⟨k.val, hk⟩) * x1 (ix1 ⟨k.val, hk⟩) : EReal) else acc.2 (ix2 r q) := by
  have e2 : View.readAt (Elt Ideal) arg2.view (Rect.unit (s := S11) (k0_off4 k) S1.size (k0_off4_inb k)).toLoadRect (harg2.unread x2) (Shape.Idx.first (Nat.lt_of_lt_of_eq Nat.one_pos numel1_S1.symm)) = x2 (ix1 ⟨k.val, hk⟩) := by
    rw [Memref.IsWhole.readAt_unread]
    congr 1
    funext a; apply Fin.ext; fin_cases a
    show k0_off4 k 0 + 1 * 0 = k.val
    rw [k0_off4_eq]; rfl
  have e1 : View.readAt (Elt Ideal) arg1.view (Rect.unit (s := S11) (k0_off4 k) S1.size (k0_off4_inb k)).toLoadRect (harg1.unread x1) (Shape.Idx.first (Nat.lt_of_lt_of_eq Nat.one_pos numel1_S1.symm)) = x1 (ix1 ⟨k.val, hk⟩) := by
    rw [Memref.IsWhole.readAt_unread]
    congr 1
    funext a; apply Fin.ext; fin_cases a
    show k0_off4 k 0 + 1 * 0 = k.val
    rw [k0_off4_eq]; rfl
  have h := p6_apply v acc.2 (Scf.iv 0#32 1#32 k.val) (x2 (ix1 ⟨k.val, hk⟩)) (x1 (ix1 ⟨k.val, hk⟩)) r q
  rw [← e2, ← e1] at h
  rw [e1, e2, iv2 k] at h
  refine Eq.trans ?_ h
  rw [← e1, ← e2, ← iv2 k]
  unfold trip2 tripR_k0_t2 trip_k0_t2
  rfl

abbrev st2 (v : IVec S1024x2560 32) (n : ℕ) : FVec Ideal S1024x2560 .f32 × FVec Ideal S1024x2560 .f32 :=
  st_k0_t2 (F := Ideal) Variants.none c none arg0 harg0 arg1 harg1 arg2 harg2 arg3 harg3 arg4 harg4 arg5 harg5 arg6 harg6 arg7 harg7 v (harg1.unread x1) (harg2.unread x2) (harg3.unread x3) (harg4.unread x4) (harg5.unread x5) (harg6.unread x6) (k0_pay3, k0_pay4) n

theorem ofNat_inj {a b : ℕ} (ha : a < 11) (hb : b < 11) : (BitVec.ofNat 32 a = BitVec.ofNat 32 b) ↔ a = b := by
  constructor
  · intro h
    have := congrArg BitVec.toNat h
    simpa [BitVec.toNat_ofNat, Nat.mod_eq_of_lt (show a < 4294967296 by omega), Nat.mod_eq_of_lt (show b < 4294967296 by omega)] using this
  · rintro rfl; rfl

theorem st2_val (v : IVec S1024x2560 32) (r : Fin 1024) (q : Fin 2560) (e : Fin 11) (hv : v (ix2 r q) = BitVec.ofNat 32 e.val) :
    ∀ n, n ≤ 11 → e.val < n → (st2 c arg0 harg0 arg1 harg1 arg2 harg2 arg3 harg3 arg4 harg4 arg5 harg5 arg6 harg6 arg7 harg7 x1 x2 x3 x4 x5 x6 v n).1 (ix2 r q) = prod x3 x4 x5 x6 e r q
      ∧ (st2 c arg0 harg0 arg1 harg1 arg2 harg2 arg3 harg3 arg4 harg4 arg5 harg5 arg6 harg6 arg7 harg7 x1 x2 x3 x4 x5 x6 v n).2 (ix2 r q) = (x2 (ix1 e) * x1 (ix1 e) : EReal)
  | 0, _, h => absurd h (Nat.not_lt_zero _)
  | n + 1, hn, he => by
    have hk : n < k0_t2_loop.trips := by rw [trips2]; omega
    have hn' : n < 11 := by omega
    have hs : st2 c arg0 harg0 arg1 harg1 arg2 harg2 arg3 harg3 arg4 harg4 arg5 harg5 arg6 harg6 arg7 harg7 x1 x2 x3 x4 x5 x6 v (n + 1) = trip2 c arg0 harg0 arg1 harg1 arg2 harg2 arg3 harg3 arg4 harg4 arg5 harg5 arg6 harg6 arg7 harg7 x1 x2 x3 x4 x5 x6 v ⟨n, hk⟩ (st2 c arg0 harg0 arg1 harg1 arg2 harg2 arg3 harg3 arg4 harg4 arg5 harg5 arg6 harg6 arg7 harg7 x1 x2 x3 x4 x5 x6 v n) :=
      st_k0_t2_succ (F := Ideal) Variants.none c none arg0 harg0 arg1 harg1 arg2 harg2 arg3 harg3 arg4 harg4 arg5 harg5 arg6 harg6 arg7 harg7 v (harg1.unread x1) (harg2.unread x2) (harg3.unread x3) (harg4.unread x4) (harg5.unread x5) (harg6.unread x6) (k0_pay3, k0_pay4) ⟨n, hk⟩
    have a1 := t2_fst c arg0 harg0 arg1 harg1 arg2 harg2 arg3 harg3 arg4 harg4 arg5 harg5 arg6 harg6 arg7 harg7 x1 x2 x3 x4 x5 x6 v ⟨n, hk⟩ hn' (st2 c arg0 harg0 arg1 harg1 arg2 harg2 arg3 harg3 arg4 harg4 arg5 harg5 arg6 harg6 arg7 harg7 x1 x2 x3 x4 x5 x6 v n) r q
    have a2 := t2_snd c arg0 harg0 arg1 harg1 arg2 harg2 arg3 harg3 arg4 harg4 arg5 harg5 arg6 harg6 arg7 harg7 x1 x2 x3 x4 x5 x6 v ⟨n, hk⟩ hn' (st2 c arg0 harg0 arg1 harg1 arg2 harg2 arg3 harg3 arg4 harg4 arg5 harg5 arg6 harg6 arg7 harg7 x1 x2 x3 x4 x5 x6 v n) r q
    rw [← hs] at a1 a2
    rw [a1, a2, hv]
    by_cases hen : e.val = n
    · have : (⟨n, hn'⟩ : Fin 11) = e := Fin.ext hen.symm
      rw [if_pos (congrArg _ hen), if_pos (congrArg _ hen)]
      simp only [this]
      exact ⟨trivial, trivial⟩
    · have hne : ¬ BitVec.ofNat 32 e.val = BitVec.ofNat 32 n := fun h => hen ((ofNat_inj e.isLt hn').mp h)
      rw [if_neg hne, if_neg hne]
      exact st2_val v r q e hv n (by omega) (by omega)

/-! ## The result -/

/-- The block the body leaves, at an index of group `e`. -/
theorem out_apply (G : ℕ → ℕ) (hg : ∀ k : Fin 11, x0 (ix1 k) = BitVec.ofNat 32 (G k.val)) (hp : pre G 11 ≤ 1024)
    (r : Fin 1024) (q : Fin 2560) (e : Fin 11) (he1 : pre G e.val ≤ r.val) (he2 : r.val < pre G (e.val + 1)) :
    out0_A_7 (F := Ideal) c arg0 harg0 arg1 harg1 arg2 harg2 arg3 harg3 arg4 harg4 arg5 harg5 arg6 harg6 arg7 harg7 x0 x1 x2 x3 x4 x5 x6 (ix2 r q)
      = (prod x3 x4 x5 x6 e r q * (x2 (ix1 e) * x1 (ix1 e)) : EReal) := by
  have hv := (st1_val c arg0 harg0 arg1 harg1 arg2 harg2 arg3 harg3 arg4 harg4 arg5 harg5 arg6 harg6 arg7 harg7 x0 G hg hp 11 le_rfl).2 r q e.val he1 he2
  rw [Nat.min_eq_right (by omega)] at hv
  obtain ⟨b1, b2⟩ := st2_val c arg0 harg0 arg1 harg1 arg2 harg2 arg3 harg3 arg4 harg4 arg5 harg5 arg6 harg6 arg7 harg7 x1 x2 x3 x4 x5 x6 (st1 c arg0 harg0 arg1 harg1 arg2 harg2 arg3 harg3 arg4 harg4 arg5 harg5 arg6 harg6 arg7 harg7 x0 11).2 r q e hv 11 le_rfl e.isLt
  have hrun : (kernelRun0_A (F := Ideal) c arg0 harg0 arg1 harg1 arg2 harg2 arg3 harg3 arg4 harg4 arg5 harg5 arg6 harg6 arg7 harg7 x0 x1 x2 x3 x4 x5 x6).1
      = [⟨Rect.unit ![0, 0] ![1024, 2560] inb_S1024x2560_S1024x2560_0_0,
          k0_pay7 (F := Ideal) (st2 c arg0 harg0 arg1 harg1 arg2 harg2 arg3 harg3 arg4 harg4 arg5 harg5 arg6 harg6 arg7 harg7 x1 x2 x3 x4 x5 x6 (st1 c arg0 harg0 arg1 harg1 arg2 harg2 arg3 harg3 arg4 harg4 arg5 harg5 arg6 harg6 arg7 harg7 x0 11).2 11).1 (st2 c arg0 harg0 arg1 harg1 arg2 harg2 arg3 harg3 arg4 harg4 arg5 harg5 arg6 harg6 arg7 harg7 x1 x2 x3 x4 x5 x6 (st1 c arg0 harg0 arg1 harg1 arg2 harg2 arg3 harg3 arg4 harg4 arg5 harg5 arg6 harg6 arg7 harg7 x0 11).2 11).2⟩] := by
    rw [← trips]
    unfold kernelRun0_A
    rfl
  unfold out0_A_7
  rw [hrun]
  have hw : VO0_7.read (Elt Ideal) (VO0_7.writes (Elt Ideal) VO0_7.junk [⟨Rect.unit ![0, 0] ![1024, 2560] inb_S1024x2560_S1024x2560_0_0,
          k0_pay7 (F := Ideal) (st2 c arg0 harg0 arg1 harg1 arg2 harg2 arg3 harg3 arg4 harg4 arg5 harg5 arg6 harg6 arg7 harg7 x1 x2 x3 x4 x5 x6 (st1 c arg0 harg0 arg1 harg1 arg2 harg2 arg3 harg3 arg4 harg4 arg5 harg5 arg6 harg6 arg7 harg7 x0 11).2 11).1 (st2 c arg0 harg0 arg1 harg1 arg2 harg2 arg3 harg3 arg4 harg4 arg5 harg5 arg6 harg6 arg7 harg7 x1 x2 x3 x4 x5 x6 (st1 c arg0 harg0 arg1 harg1 arg2 harg2 arg3 harg3 arg4 harg4 arg5 harg5 arg6 harg6 arg7 harg7 x0 11).2 11).2⟩]) (ix2 r q)
      = k0_pay7 (F := Ideal) (st2 c arg0 harg0 arg1 harg1 arg2 harg2 arg3 harg3 arg4 harg4 arg5 harg5 arg6 harg6 arg7 harg7 x1 x2 x3 x4 x5 x6 (st1 c arg0 harg0 arg1 harg1 arg2 harg2 arg3 harg3 arg4 harg4 arg5 harg5 arg6 harg6 arg7 harg7 x0 11).2 11).1 (st2 c arg0 harg0 arg1 harg1 arg2 harg2 arg3 harg3 arg4 harg4 arg5 harg5 arg6 harg6 arg7 harg7 x1 x2 x3 x4 x5 x6 (st1 c arg0 harg0 arg1 harg1 arg2 harg2 arg3 harg3 arg4 harg4 arg5 harg5 arg6 harg6 arg7 harg7 x0 11).2 11).2 (ix2 r q) := by
    exact congrFun (View.read_writes_full VO0_7 VO0_7.junk (off := ![0, 0]) inb_S1024x2560_S1024x2560_0_0 _ []) (ix2 r q)
  rw [hw]
  exact congrArg₂ (fun a b : EReal => a * b) b1 b2

end Cert.ReferenceIdeal.RV

end
-- ==== Proof.RO.lean ====
/- The reference's result array, at an index of a group, in terms of its arguments. -/
module

public import proofs.«01_k».proof.Proof.RV
public import proofs.«01_k».proof.Proof.Gen.ReferenceIdeal.Value

@[expose] public section

set_option maxRecDepth 8192
set_option maxHeartbeats 400000

noncomputable section

namespace Cert.ReferenceIdeal.RO

open Cert.ReferenceIdeal Cert.ReferenceIdeal.Gen Cert.ReferenceIdeal.Value Cert.ReferenceIdeal.RV Cert.Val Cert.Words
open Idealize.ShloMosaic Idealize.ShloMosaic.TcCoe Idealize.SL.Sem

variable (m : (ℓ : Loc nD τ sig) → Buf (Elt Ideal) ℓ) (c : Dev nD)

/-! ## The blocks are the whole arrays -/

theorem blk0 (x : S11.Idx) : iblk m c 0 t0_0 x = m ((c : Thread nD τ).loc main_arg0) x := by
  have he : ((cfg0.win 0).blk t0_0).view.emb x = x :=
    funext fun a => Fin.ext (Pipeline.Window.rect_emb_val_of_index_zero win0_0 t0_0 a rfl x)
  show V m c main_arg0 (((cfg0.win 0).blk t0_0).view.emb x) = _
  rw [he]
  exact congrFun (V_main_arg0 m c) x

theorem blk1 (x : S11.Idx) : iblk m c 1 t0_0 x = m ((c : Thread nD τ).loc main_arg1) x := by
  have he : ((cfg0.win 1).blk t0_0).view.emb x = x :=
    funext fun a => Fin.ext (Pipeline.Window.rect_emb_val_of_index_zero win0_1 t0_0 a rfl x)
  show V m c main_arg1 (((cfg0.win 1).blk t0_0).view.emb x) = _
  rw [he]
  exact congrFun (V_main_arg1 m c) x

theorem blk2 (x : S11.Idx) : iblk m c 2 t0_0 x = m ((c : Thread nD τ).loc main_arg2) x := by
  have he : ((cfg0.win 2).blk t0_0).view.emb x = x :=
    funext fun a => Fin.ext (Pipeline.Window.rect_emb_val_of_index_zero win0_2 t0_0 a rfl x)
  show V m c main_arg2 (((cfg0.win 2).blk t0_0).view.emb x) = _
  rw [he]
  exact congrFun (V_main_arg2 m c) x

theorem blk3 (x : S1024x3072.Idx) : iblk m c 3 t0_0 x = V m c main_v0 x := by
  have he : ((cfg0.win 3).blk t0_0).view.emb x = x :=
    funext fun a => Fin.ext (Pipeline.Window.rect_emb_val_of_index_zero win0_3 t0_0 a rfl x)
  show V m c main_v0 (((cfg0.win 3).blk t0_0).view.emb x) = _
  rw [he]

theorem blk4 (x : S1024x3072.Idx) : iblk m c 4 t0_0 x = V m c main_v1 x := by
  have he : ((cfg0.win 4).blk t0_0).view.emb x = x :=
    funext fun a => Fin.ext (Pipeline.Window.rect_emb_val_of_index_zero win0_4 t0_0 a rfl x)
  show V m c main_v1 (((cfg0.win 4).blk t0_0).view.emb x) = _
  rw [he]

theorem blk5 (x : S11x3072x2560.Idx) : iblk m c 5 t0_0 x = m ((c : Thread nD τ).loc main_arg4) x := by
  have he : ((cfg0.win 5).blk t0_0).view.emb x = x :=
    funext fun a => Fin.ext (Pipeline.Window.rect_emb_val_of_index_zero win0_5 t0_0 a rfl x)
  show V m c main_arg4 (((cfg0.win 5).blk t0_0).view.emb x) = _
  rw [he]
  exact congrFun (V_main_arg4 m c) x

theorem blk6 (x : S11x384x2560.Idx) : iblk m c 6 t0_0 x = m ((c : Thread nD τ).loc main_arg5) x := by
  have he : ((cfg0.win 6).blk t0_0).view.emb x = x :=
    funext fun a => Fin.ext (Pipeline.Window.rect_emb_val_of_index_zero win0_6 t0_0 a rfl x)
  show V m c main_arg5 (((cfg0.win 6).blk t0_0).view.emb x) = _
  rw [he]
  exact congrFun (V_main_arg5 m c) x

/-! ## The even and the odd columns of the activations -/

theorem even_eq : V m c main_v0 = Host.slice S1024x3072 ![0, 0] ![1, 2] (m ((c : Thread nD τ).loc main_arg3)) slicesBy_S1024x6144_S1024x3072_0s1_0s2 := by
  show StableHlo.after hostOps0 (fun b => m (c, b)) (Proc.devRef .tc main_v0) = _
  after_results

theorem odd_eq : V m c main_v1 = Host.slice S1024x3072 ![0, 1] ![1, 2] (m ((c : Thread nD τ).loc main_arg3)) slicesBy_S1024x6144_S1024x3072_0s1_1s2 := by
  show StableHlo.after hostOps0 (fun b => m (c, b)) (Proc.devRef .tc main_v1) = _
  after_results

theorem even_apply (r : Fin 1024) (i : Fin 3072) : V m c main_v0 (ix2 r i) = m ((c : Thread nD τ).loc main_arg3) (ix2 r ⟨2 * i.val, by omega⟩) := by
  rw [even_eq]
  refine congrArg (m ((c : Thread nD τ).loc main_arg3)) (funext fun a => Fin.ext ?_)
  match a with
  | ⟨0, _⟩ => show 0 + 1 * r.val = r.val; omega
  | ⟨1, _⟩ => show 0 + 2 * i.val = 2 * i.val; omega

theorem odd_apply (r : Fin 1024) (i : Fin 3072) : V m c main_v1 (ix2 r i) = m ((c : Thread nD τ).loc main_arg3) (ix2 r ⟨2 * i.val + 1, by omega⟩) := by
  rw [odd_eq]
  refine congrArg (m ((c : Thread nD τ).loc main_arg3)) (funext fun a => Fin.ext ?_)
  match a with
  | ⟨0, _⟩ => show 0 + 1 * r.val = r.val; omega
  | ⟨1, _⟩ => show 1 + 2 * i.val = 2 * i.val + 1; omega

theorem blk3_apply (r : Fin 1024) (i : Fin 3072) : iblk m c 3 t0_0 (ix2 r i) = m ((c : Thread nD τ).loc main_arg3) (ix2 r ⟨2 * i.val, by omega⟩) :=
  (blk3 m c _).trans (even_apply m c r i)

theorem blk4_apply (r : Fin 1024) (i : Fin 3072) : iblk m c 4 t0_0 (ix2 r i) = m ((c : Thread nD τ).loc main_arg3) (ix2 r ⟨2 * i.val + 1, by omega⟩) :=
  (blk4 m c _).trans (odd_apply m c r i)

/-! ## The result -/

/-- The product of row `r` of the activations with column `q` of matrix `e`, the even columns first. -/
def dot (a : S1024x6144.Idx → Ideal .bf16) (wc : S11x3072x2560.Idx → BitVec 8) (ws : S11x384x2560.Idx → Ideal .fp8e4m3) (e : Fin 11) (r : Fin 1024) (q : Fin 2560) : EReal :=
  (∑ i : Fin 3072, a (ix2 r ⟨2 * i.val, by omega⟩) * (rdec (lob (wc (ix3 e i q))) * ws (ix3 e ⟨i.val / 8, by omega⟩ q)))
    + ∑ i : Fin 3072, a (ix2 r ⟨2 * i.val + 1, by omega⟩) * (rdec (hib (wc (ix3 e i q))) * ws (ix3 e ⟨i.val / 8, by omega⟩ q))

/-- The product scaled: the group's two global scales multiplied, and the product with them. -/
def val (a : S1024x6144.Idx → Ideal .bf16) (wc : S11x3072x2560.Idx → BitVec 8) (ws : S11x384x2560.Idx → Ideal .fp8e4m3) (ag wg : S11.Idx → Ideal .f32) (e : Fin 11) (r : Fin 1024) (q : Fin 2560) : EReal :=
  dot a wc ws e r q * (ag (ix1 e) * wg (ix1 e))

/-- The array's entries are those of the block that is written back. -/
theorem arr7 (X : S1024x2560.Idx → Ideal .f32) (hX : (dats m 0 c).flushed 7 t0_0 = (cfg0.win 7).cut (grid0.coords t0_0) X) (x : S1024x2560.Idx) :
    (dats m 0 c).arrAt 7 cfg0.N x = X x := by
  have h := (dats m 0 c).arrAt_emb_eq_flushed 7 disjoint7 t0_0 (flush0_7 t0_0) x
  have he : ((cfg0.win 7).blk t0_0).view.emb x = x :=
    funext fun a => Fin.ext (Pipeline.Window.rect_emb_val_of_index_zero win0_7 t0_0 a rfl x)
  rw [he, hX] at h
  exact h

theorem out_eq (G : ℕ → ℕ) (hg : ∀ k : Fin 11, m ((c : Thread nD τ).loc main_arg0) (ix1 k) = BitVec.ofNat 32 (G k.val)) (hp : pre G 11 ≤ 1024)
    (r : Fin 1024) (q : Fin 2560) (e : Fin 11) (he1 : pre G e.val ≤ r.val) (he2 : r.val < pre G (e.val + 1)) :
    (dats m 0 c).arrAt 7 cfg0.N (ix2 r q)
      = val (m ((c : Thread nD τ).loc main_arg3)) (m ((c : Thread nD τ).loc main_arg4)) (m ((c : Thread nD τ).loc main_arg5))
        (m ((c : Thread nD τ).loc main_arg2)) (m ((c : Thread nD τ).loc main_arg1)) e r q := by
  have h2 := arr7 m c _ (flushed7_A m c t0_0) (ix2 r q)
  have h3 := out_apply c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0)
    (iblk m c 0 t0_0) (iblk m c 1 t0_0) (iblk m c 2 t0_0) (iblk m c 3 t0_0) (iblk m c 4 t0_0) (iblk m c 5 t0_0) (iblk m c 6 t0_0) G
    (fun k => by rw [blk0]; exact hg k) hp r q e he1 he2
  refine h2.trans (h3.trans ?_)
  unfold prod val dot
  simp only [blk1, blk2, blk3_apply, blk4_apply, blk5, blk6]

end Cert.ReferenceIdeal.RO

end
-- ==== Proof.KG.lean ====
/- The kernel's product is the reference's: same activations, same decoded weights, the columns in another order. -/
module

public import proofs.«01_k».proof.Proof.KF
public import proofs.«01_k».proof.Proof.KV
public import proofs.«01_k».proof.Proof.RO

@[expose] public section

set_option maxRecDepth 8192
set_option maxHeartbeats 400000

noncomputable section

namespace Cert.KernelIdeal.KG

open Cert.KernelIdeal Cert.KernelIdeal.Gen Cert.KernelIdeal.KD Cert.KernelIdeal.KX Cert.KernelIdeal.KS Cert.KernelIdeal.KW Cert.KernelIdeal.KV Cert.Val Cert.Words
open Idealize.ShloMosaic Idealize.ShloMosaic.TcCoe Idealize.SL.Sem
open Cert.ReferenceIdeal.RV (lob hib)

/-! ## The two codes of a byte -/

theorem nib_even (b : BitVec 8) (i : ℕ) : nib b (2 * i) = lob b := by
  unfold nib lob
  rw [if_pos (by omega)]

theorem nib_odd (b : BitVec 8) (i : ℕ) : nib b (2 * i + 1) = hib b := by
  unfold nib hib
  rw [if_neg (by omega)]

theorem lob_lt (b : BitVec 8) : (lob b).toNat < 16 := by
  unfold lob IntOp.andi
  rw [BitVec.toNat_and]
  exact Nat.lt_of_le_of_lt Nat.and_le_right (by decide)

theorem hib_lt (b : BitVec 8) : (hib b).toNat < 16 := by
  revert b
  unfold hib
  decide +kernel

/-! ## The product -/

theorem ksum_dot (c : Dev nD) (wc : S11x3072x2560.Idx → BitVec 8) (ws : S11x384x2560.Idx → Ideal .fp8e4m3) (a : S1024x6144.Idx → Ideal .bf16)
    (e : Fin 11) (cb : Fin 5) (q : Fin 512) (R : Fin 1024) (Q : Fin 2560) (hQ : Q.val = cb.val * 512 + q.val) :
    ksum (Dof (F := Ideal) c wc e cb) (Sof (F := Ideal) c ws e cb) a R.val q 24 = Cert.ReferenceIdeal.RO.dot a wc ws e R Q := by
  have hq : (⟨cb.val * 512 + q.val, by omega⟩ : Fin 2560) = Q := Fin.ext hQ.symm
  have hS : ∀ b : Fin 384, Sof (F := Ideal) c ws e cb (ix2 b q) = ws (ix3 e b Q) := by
    intro b
    rw [← hq]
    unfold Sof
    pointwise [k0_pay1, k0_pay22]
    rfl
  have hD : ∀ b : Fin 3072, Dof (F := Ideal) c wc e cb b q = wc (ix3 e b Q) := by
    intro b
    rw [← hq]
    rfl
  rw [ksum_all, ← Fin.sum_univ_eq_sum_range (fun i => av a R.val (2 * i) * wt (Dof (F := Ideal) c wc e cb) (Sof (F := Ideal) c ws e cb) (2 * i) q),
    ← Fin.sum_univ_eq_sum_range (fun i => av a R.val (2 * i + 1) * wt (Dof (F := Ideal) c wc e cb) (Sof (F := Ideal) c ws e cb) (2 * i + 1) q)]
  unfold Cert.ReferenceIdeal.RO.dot
  refine congrArg₂ (· + ·) (Finset.sum_congr rfl fun i _ => ?_) (Finset.sum_congr rfl fun i _ => ?_)
  · have h1 : (⟨R.val % 1024, Nat.mod_lt _ (by omega)⟩ : Fin 1024) = R := Fin.ext (Nat.mod_eq_of_lt R.isLt)
    have h2 : (⟨2 * i.val % 6144, Nat.mod_lt _ (by omega)⟩ : Fin 6144) = ⟨2 * i.val, by omega⟩ := Fin.ext (by dsimp only; omega)
    have h3 : (⟨2 * i.val / 2 % 3072, Nat.mod_lt _ (by omega)⟩ : Fin 3072) = i := Fin.ext (by dsimp only; omega)
    have h4 : (⟨2 * i.val / 16 % 384, Nat.mod_lt _ (by omega)⟩ : Fin 384) = ⟨i.val / 8, by omega⟩ := Fin.ext (by dsimp only; omega)
    unfold av wt
    rw [hS, hD, nib_even, kdec_eq _ (lob_lt _), h1, h2, h3, h4]
  · have h1 : (⟨R.val % 1024, Nat.mod_lt _ (by omega)⟩ : Fin 1024) = R := Fin.ext (Nat.mod_eq_of_lt R.isLt)
    have h2 : (⟨(2 * i.val + 1) % 6144, Nat.mod_lt _ (by omega)⟩ : Fin 6144) = ⟨2 * i.val + 1, by omega⟩ := Fin.ext (by dsimp only; omega)
    have h3 : (⟨(2 * i.val + 1) / 2 % 3072, Nat.mod_lt _ (by omega)⟩ : Fin 3072) = i := Fin.ext (by dsimp only; omega)
    have h4 : (⟨(2 * i.val + 1) / 16 % 384, Nat.mod_lt _ (by omega)⟩ : Fin 384) = ⟨i.val / 8, by omega⟩ := Fin.ext (by dsimp only; omega)
    unfold av wt
    rw [hS, hD, nib_odd, kdec_eq _ (hib_lt _), h1, h2, h3, h4]

/-! ## The scaled product, in each window -/

theorem scaled128 (c : Dev nD) (wg ag : S11.Idx → Ideal .f32) (e : Fin 11) (x : FVec Ideal S128x512 .f32) (r : Fin 128) (q : Fin 512) :
    mulf x (broadcastTo S128x512 (sof (F := Ideal) c wg ag e) broadcasts_S1x1_S128x512) (ix2 r q) = (x (ix2 r q) * (ag (ix1 e) * wg (ix1 e)) : EReal) := by
  unfold sof
  pointwise [k0_pay21]

theorem scaled192 (c : Dev nD) (wg ag : S11.Idx → Ideal .f32) (e : Fin 11) (x : FVec Ideal S192x512 .f32) (r : Fin 192) (q : Fin 512) :
    mulf x (broadcastTo S192x512 (sof (F := Ideal) c wg ag e) broadcasts_S1x1_S192x512) (ix2 r q) = (x (ix2 r q) * (ag (ix1 e) * wg (ix1 e)) : EReal) := by
  unfold sof
  pointwise [k0_pay21]

theorem scaled272 (c : Dev nD) (wg ag : S11.Idx → Ideal .f32) (e : Fin 11) (x : FVec Ideal S272x512 .f32) (r : Fin 272) (q : Fin 512) :
    mulf x (broadcastTo S272x512 (sof (F := Ideal) c wg ag e) broadcasts_S1x1_S272x512) (ix2 r q) = (x (ix2 r q) * (ag (ix1 e) * wg (ix1 e)) : EReal) := by
  unfold sof
  pointwise [k0_pay21]

/-- An array that holds the reference's values at every group's rows is the one the kernel writes. -/
theorem allVals (c : Dev nD) (G : ℕ → ℕ) (wc : S11x3072x2560.Idx → BitVec 8) (ws : S11x384x2560.Idx → Ideal .fp8e4m3) (wg ag : S11.Idx → Ideal .f32)
    (a : S1024x6144.Idx → Ideal .bf16) (Y : S1024x2560.Idx → Ideal .f32)
    (hY : ∀ (e : Fin 11) (R : Fin 1024) (Q : Fin 2560), pre G e.val ≤ R.val → R.val < pre G (e.val + 1) → Y (ix2 R Q) = Cert.ReferenceIdeal.RO.val a wc ws ag wg e R Q)
    (n : Fin 12) : AllVals (F := Ideal) c G wc ws wg ag a True Y n := by
  intro t _ w0
  have hx : ∀ (x : S1024x2560.Idx), x = ix2 ⟨(x 0).val, (x 0).isLt⟩ ⟨(x 1).val, (x 1).isLt⟩ := by
    intro x
    funext i
    match i with
    | ⟨0, _⟩ => rfl
    | ⟨1, _⟩ => rfl
  have key : ∀ (x : S1024x2560.Idx) (q : Fin 512), (x 1).val = t.val % 5 * 512 + q.val → pre G (grp G t.val).val ≤ (x 0).val → (x 0).val < pre G ((grp G t.val).val + 1) →
      (ksum (Dof (F := Ideal) c wc (grp G t.val) (cbl t.val)) (Sof (F := Ideal) c ws (grp G t.val) (cbl t.val)) a (x 0).val q 24
        * (ag (ix1 (grp G t.val)) * wg (ix1 (grp G t.val))) : EReal) = Y x := by
    intro x q h1 hlo hhi
    rw [hx x]
    refine Eq.trans ?_ (hY (grp G t.val) ⟨(x 0).val, (x 0).isLt⟩ ⟨(x 1).val, (x 1).isLt⟩ hlo hhi).symm
    unfold Cert.ReferenceIdeal.RO.val
    refine congrArg (· * (ag (ix1 (grp G t.val)) * wg (ix1 (grp G t.val)) : EReal)) ?_
    exact ksum_dot c wc ws a (grp G t.val) (cbl t.val) q ⟨(x 0).val, (x 0).isLt⟩ ⟨(x 1).val, (x 1).isLt⟩ h1
  refine ⟨fun r q x _ h0 h1 hlo hhi => ?_, fun r q x _ h0 h1 hlo hhi => ?_, fun r q x _ h0 h1 hlo hhi => ?_⟩
  · rw [scaled128, kl128_apply, ← h0]
    exact key x q h1 hlo hhi
  · rw [scaled192, kl192_apply, ← h0]
    exact key x q h1 hlo hhi
  · rw [scaled272, kl272_apply, ← h0]
    exact key x q h1 hlo hhi

end Cert.KernelIdeal.KG

namespace Cert.Frames

open Idealize.ShloMosaic Idealize.ShloMosaic.TcCoe Idealize.SL.Sem

/-- At the ideal arithmetic the kernel's result is the reference's. -/
theorem algebraic : Cert.algebraic_KernelIdeal_ReferenceIdeal (hKernelIdeal := Cert.KernelIdeal.Gen.facts) (hReferenceIdeal := Cert.ReferenceIdeal.Gen.facts)
    (hPre_sizes_split_rows := Cert.Pre_sizes_split_rows.Gen.facts) := by
  intro m g m' g' h heq
  refine ⟨fun c => (Cert.ReferenceIdeal.Gen.dats m' 0 c).arrAt 7 Cert.ReferenceIdeal.cfg0.N, ?_, ?_⟩
  · have hv : ∀ c, ∀ n : Fin 12, n.val = Cert.Words.nl (Cert.Sizes.nat (Cert.KernelIdeal.KL.V m c Cert.KernelIdeal.main_arg0)) 11 →
        Cert.KernelIdeal.KS.AllVals (F := Ideal) c (Cert.Sizes.nat (Cert.KernelIdeal.KL.V m c Cert.KernelIdeal.main_arg0)) (Cert.KernelIdeal.KL.V m c Cert.KernelIdeal.main_arg4)
          (Cert.KernelIdeal.KL.V m c Cert.KernelIdeal.main_arg5) (Cert.KernelIdeal.KL.V m c Cert.KernelIdeal.main_arg1) (Cert.KernelIdeal.KL.V m c Cert.KernelIdeal.main_arg2)
          (Cert.KernelIdeal.KL.V m c Cert.KernelIdeal.main_arg3) True ((Cert.ReferenceIdeal.Gen.dats m' 0 c).arrAt 7 Cert.ReferenceIdeal.cfg0.N) n := by
      intro c n _
      obtain ⟨h0, h1, h2, h3, h4, h5⟩ := heq c
      have hs := sizes_KernelIdeal m h c
      refine Cert.KernelIdeal.KG.allVals c _ _ _ _ _ _ _ (fun e R Q he1 he2 => ?_) n
      have ho := Cert.ReferenceIdeal.RO.out_eq m' c (Cert.Sizes.nat (Cert.KernelIdeal.KL.V m c Cert.KernelIdeal.main_arg0))
        (fun k => by rw [h0]; exact hs.word k) (le_of_eq hs.total) R Q e he1 he2
      rw [h1, h2, h3, h4, h5] at ho
      exact ho
    exact (θ_run Cert.KernelIdeal.defs _ _).mono
      (fun r hr c => ⟨hr.2 c, (hr.1.1 c).1, (hr.1.1 c).2.1, (hr.1.1 c).2.2.1, (hr.1.1 c).2.2.2.1, (hr.1.1 c).2.2.2.2.1, (hr.1.1 c).2.2.2.2.2⟩)
      (Cert.KernelIdeal.KL.frame_exact m g _ _ (sizes_KernelIdeal m h) True hv trivial)
  · exact Cert.ReferenceIdeal.Value.run_blocks m' g'

end Cert.Frames

end
-- ==== Proof.TC.lean ====
/- The scale of one group, as the greatest magnitude of its rows determines it, and the two ways of saying which rows a group has. -/
module

public import Idealize.ShloMosaic.Lib.Pointwise
public import Idealize.ShloMosaic.PureOps.Ideal.Laws

@[expose] public section

noncomputable section

namespace Cert.Glob

open Idealize.ShloMosaic

/-! ## Maxima -/

theorem ninf : Ideal.ofBits FTy.f32 4286578688#32 = (⊥ : EReal) := by simp [Ideal.ofBits, Ideal.ieee]

theorem zero_word : Ideal.ofBits FTy.f32 0#32 = (0 : EReal) := by simp [Ideal.ofBits, Ideal.ieee]

theorem one_word : Ideal.ofBits FTy.f32 1065353216#32 = (1 : EReal) := by simp [Ideal.ofBits, Ideal.ieee, -EReal.coe_mul]; norm_num

theorem bit_cases (b : BitVec 1) : b = 1#1 ∨ b = 0#1 := by revert b; decide

theorem fold_sup {ι : Type} (s : Finset ι) (f : ι → EReal) : Finset.fold max (Ideal.ofBits FTy.f32 4286578688#32) f s = s.sup f := by
  rw [ninf]; rfl

theorem absf_nonneg (x : Ideal .f32) : (0 : EReal) ≤ FloatOps.absf x := by
  change (0 : EReal) ≤ max x (-x)
  rcases le_total (0 : EReal) x with h | h
  · exact le_max_of_le_left h
  · exact le_max_of_le_right (EReal.neg_nonneg.2 h)

/-- The scale of a group whose greatest magnitude is `a`. -/
def sc (a : EReal) : EReal := if 0 < a then Ideal.div a (Ideal.ofBits FTy.f32 1160249344#32) else 1

theorem sc_max (a : EReal) : sc (max 0 a) = sc a := by
  rcases le_or_gt a 0 with h | h
  · rw [max_eq_left h]; unfold sc; rw [if_neg (lt_irrefl _), if_neg (not_lt.2 h)]
  · rw [max_eq_right h.le]

theorem sup_zero {n : ℕ} (r0 : Fin n) (P : Fin n → Prop) [DecidablePred P] (x : Fin n → EReal) (hx : ∀ r, 0 ≤ x r) :
    (Finset.univ.sup fun r => if P r then x r else 0) = max 0 (Finset.univ.sup fun r => if P r then x r else ⊥) := by
  apply le_antisymm
  · refine Finset.sup_le fun r _ => ?_
    by_cases h : P r
    · rw [if_pos h]
      refine le_max_of_le_right ?_
      have := Finset.le_sup (f := fun r => if P r then x r else ⊥) (Finset.mem_univ r)
      simpa only [if_pos h] using this
    · rw [if_neg h]; exact le_max_left _ _
  · refine max_le ?_ (Finset.sup_le fun r _ => ?_)
    · refine le_trans ?_ (Finset.le_sup (f := fun r => if P r then x r else 0) (Finset.mem_univ r0))
      split
      · exact hx _
      · exact le_refl _
    · refine le_trans ?_ (Finset.le_sup (f := fun r => if P r then x r else 0) (Finset.mem_univ r))
      split
      · exact le_refl _
      · exact bot_le

/-! ## Rows and starts -/

theorem toInt_row (r : Fin 1024) : (BitVec.ofNat 32 r.val).toInt = (r.val : ℤ) := by
  have h := r.isLt
  rw [BitVec.toInt_eq_toNat_cond, BitVec.toNat_ofNat, Nat.mod_eq_of_lt (by omega)]
  rw [if_pos (by omega)]

theorem sge_iff (r : Fin 1024) (s : BitVec 32) : IntOp.cmpi .sge (BitVec.ofNat 32 r.val) s = if s.toInt ≤ (r.val : ℤ) then 1#1 else 0#1 := by
  change BitVec.ofBool (s.sle (BitVec.ofNat 32 r.val)) = _
  rw [← toInt_row r]
  by_cases h : s.toInt ≤ (BitVec.ofNat 32 r.val).toInt
  · rw [if_pos h, BitVec.sle_iff_toInt_le.2 h]; rfl
  · rw [if_neg h, Bool.eq_false_iff.2 (fun hc => h (BitVec.sle_iff_toInt_le.1 hc))]; rfl

theorem slt_iff (r : Fin 1024) (s : BitVec 32) : IntOp.cmpi .slt (BitVec.ofNat 32 r.val) s = if (r.val : ℤ) < s.toInt then 1#1 else 0#1 := by
  change BitVec.ofBool ((BitVec.ofNat 32 r.val).slt s) = _
  rw [← toInt_row r]
  by_cases h : (BitVec.ofNat 32 r.val).toInt < s.toInt
  · rw [if_pos h, BitVec.slt_iff_toInt_lt.2 h]; rfl
  · rw [if_neg h, Bool.eq_false_iff.2 (fun hc => h (BitVec.slt_iff_toInt_lt.1 hc))]; rfl

/-- The kernel's selection of the rows from `lo` up to `hi`. -/
theorem sel_range {α : Type} (r : Fin 1024) (lo hi : BitVec 32) (a b : α) :
    Scalar.select (IntOp.andi (IntOp.cmpi CmpIPredicate.sge (BitVec.ofNat 32 r.val) lo) (IntOp.cmpi CmpIPredicate.slt (BitVec.ofNat 32 r.val) hi)) a b
      = if lo.toInt ≤ (r.val : ℤ) ∧ (r.val : ℤ) < hi.toInt then a else b := by
  rw [sge_iff, slt_iff]
  by_cases h : lo.toInt ≤ (r.val : ℤ)
  · by_cases h' : (r.val : ℤ) < hi.toInt
    · rw [if_pos h, if_pos h', if_pos ⟨h, h'⟩]; rfl
    · rw [if_pos h, if_neg h', if_neg (fun hc => h' hc.2)]; rfl
  · by_cases h' : (r.val : ℤ) < hi.toInt
    · rw [if_neg h, if_pos h', if_neg (fun hc => h hc.1)]; rfl
    · rw [if_neg h, if_neg h', if_neg (fun hc => h hc.1)]; rfl

/-- A sum of bits counts the bits that are set. -/
theorem fold_count {ι : Type} [DecidableEq ι] (s : Finset ι) (P : ι → Prop) [DecidablePred P] :
    Finset.fold IntOp.addi (0#32) (fun k => BitVec.setWidth 32 (if P k then 1#1 else 0#1)) s = BitVec.ofNat 32 (s.filter P).card := by
  induction s using Finset.induction_on with
  | empty => rfl
  | insert a s ha ih =>
    rw [Finset.fold_insert ha, ih, Finset.filter_insert]
    by_cases h : P a
    · rw [if_pos h, if_pos h, Finset.card_insert_of_notMem (fun hc => ha (Finset.mem_filter.1 hc).1)]
      change BitVec.setWidth 32 1#1 + BitVec.ofNat 32 _ = _
      rw [Nat.add_comm, BitVec.ofNat_add]; rfl
    · rw [if_neg h, if_neg h]
      change BitVec.setWidth 32 0#1 + BitVec.ofNat 32 _ = _
      rw [show BitVec.setWidth 32 0#1 = 0#32 from rfl, BitVec.zero_add]

/-- Among ascending starts the number of ends at or below a row is its group. -/
theorem card_ends (S : ℕ → ℤ) (h0 : S 0 = 0) (hS : ∀ a b, a ≤ b → b ≤ 11 → S a ≤ S b) (r : ℕ) (e : Fin 11) :
    (Finset.univ.filter fun k : Fin 11 => S (k.val + 1) ≤ (r : ℤ)).card = e.val ↔ S e.val ≤ (r : ℤ) ∧ (r : ℤ) < S (e.val + 1) := by
  have he := e.isLt
  constructor
  · intro h
    constructor
    · by_contra hc
      rw [not_le] at hc
      have h1 : 1 ≤ e.val := by
        by_contra hz
        have : e.val = 0 := by omega
        rw [this, h0] at hc; omega
      have hsub : (Finset.univ.filter fun k : Fin 11 => S (k.val + 1) ≤ (r : ℤ)) ⊆ Finset.Iio (⟨e.val - 1, by omega⟩ : Fin 11) := by
        intro k hk
        rw [Finset.mem_filter] at hk
        rw [Finset.mem_Iio, Fin.lt_def]
        by_contra hk'
        have : e.val ≤ k.val + 1 := by simp only [not_lt] at hk'; omega
        have := hS _ _ this (by have := k.isLt; omega)
        omega
      have := Finset.card_le_card hsub
      rw [Fin.card_Iio] at this
      simp only at this
      omega
    · by_contra hc
      rw [not_lt] at hc
      have hsub : Finset.Iic e ⊆ (Finset.univ.filter fun k : Fin 11 => S (k.val + 1) ≤ (r : ℤ)) := by
        intro k hk
        rw [Finset.mem_Iic, Fin.le_def] at hk
        rw [Finset.mem_filter]
        exact ⟨Finset.mem_univ _, le_trans (hS _ _ (by omega) (by omega)) hc⟩
      have := Finset.card_le_card hsub
      rw [Fin.card_Iic] at this
      omega
  · rintro ⟨h1, h2⟩
    have : (Finset.univ.filter fun k : Fin 11 => S (k.val + 1) ≤ (r : ℤ)) = Finset.Iio e := by
      ext k
      rw [Finset.mem_filter, Finset.mem_Iio, Fin.lt_def]
      constructor
      · rintro ⟨-, hk⟩
        by_contra hc
        have := hS (e.val + 1) (k.val + 1) (by omega) (by have := k.isLt; omega)
        omega
      · intro hk
        exact ⟨Finset.mem_univ _, le_trans (hS _ _ (by omega) (by omega)) h1⟩
    rw [this, Fin.card_Iio]

/-- The size of a group that has a row is positive. -/
theorem size_pos (lo hi : BitVec 32) (h0 : 0 ≤ lo.toInt) (h : lo.toInt < hi.toInt) : IntOp.cmpi .sgt (IntOp.subi hi lo) 0#32 = 1#1 := by
  change BitVec.ofBool ((0#32).slt (hi - lo)) = 1#1
  have : (0#32).slt (hi - lo) = true := by
    rw [BitVec.slt_iff_toInt_lt, BitVec.toInt_sub]
    have a := BitVec.toInt_lt (x := hi)
    have b := BitVec.toInt_lt (x := lo)
    rw [Int.bmod_eq_of_le (by omega) (by omega)]
    have : (0#32).toInt = 0 := by decide
    omega
  rw [this]; rfl

end Cert.Glob

end
-- ==== Proof.TR.lean ====
/- The reference's group scales: every group's greatest magnitude, over the rows between its start and the next. -/
module

public import proofs.«01_k».proof.Proof.TC
public import proofs.«01_k».proof.Proof.Gen.GlobalIdeal.Run

@[expose] public section

set_option maxRecDepth 8192

noncomputable section

namespace Cert.GlobalIdeal.RG

open Cert.GlobalIdeal Cert.GlobalIdeal.Gen Cert.Glob
open Idealize.ShloMosaic Idealize.ShloMosaic.TcCoe

/-- The greatest magnitude of row `r`. -/
def rm (y : S1024x2560.Idx → EReal) (r : Fin 1024) : EReal :=
  Finset.univ.sup fun q : Fin 2560 => (FloatOps.absf (F := Ideal) (φ := .f32) (y (ix2 r q)) : EReal)

theorem rm_nonneg (y : S1024x2560.Idx → EReal) (r : Fin 1024) : 0 ≤ rm y r :=
  le_trans (absf_nonneg (y (ix2 r (0 : Fin 2560))))
    (Finset.le_sup (f := fun q : Fin 2560 => (FloatOps.absf (F := Ideal) (φ := .f32) (y (ix2 r q)) : EReal)) (Finset.mem_univ 0))

/-- Start `k` as an integer. -/
def S (st : IVec S12 32) (k : ℕ) : ℤ := if h : k < 12 then (st (ix1 (⟨k, h⟩ : Fin 12))).toInt else 0

/-- The scale of group `e`. -/
def scale (st : IVec S12 32) (y : S1024x2560.Idx → EReal) (e : Fin 11) : EReal :=
  sc (Finset.univ.sup fun r : Fin 1024 => if S st e.val ≤ (r.val : ℤ) ∧ (r.val : ℤ) < S st (e.val + 1) then rm y r else 0)

/-- The reference's printed term. -/
def ref (st : IVec S12 32) (y : FVec Ideal S1024x2560 .f32) : FVec Ideal S11 .f32 :=
  select (cmpf .ogt (select (cmpi .sgt (subi (extractStridedSlice S11 ![1] st slices_S12_S11_1) (extractStridedSlice S11 ![0] st slices_S12_S11_0)) (broadcastInDim S11 ![] bcast_S_S11 (constantI S_ 32 0#32))) (Host.reduce FloatOps.maximumf (select (cmpi .eq (broadcastInDim S11x1024 ![0, 1] bcast_S1x1024_S11x1024_0_1 (broadcastInDim S1x1024 ![1] bcast_S1024_S1x1024_1 (Host.reduce IntOp.addi (extui 32 (cmpi .sge (broadcastInDim S1024x11 ![0, 1] bcast_S1024x1_S1024x11_0_1 (broadcastInDim S1024x1 ![0] bcast_S1024_S1024x1_0 (iotaInDim S1024 32 0))) (broadcastInDim S1024x11 ![0, 1] bcast_S1x11_S1024x11_0_1 (broadcastInDim S1x11 ![1] bcast_S11_S1x11_1 (extractStridedSlice S11 ![1] st slices_S12_S11_1)))) natLt_1_32) (constantI S_ 32 0#32) reducesTo_S1024x11_S1024_d1 h_S_))) (broadcastInDim S11x1024 ![0, 1] bcast_S11x1_S11x1024_0_1 (broadcastInDim S11x1 ![0] bcast_S11_S11x1_0 (iotaInDim S11 32 0)))) (broadcastInDim S11x1024 ![0, 1] bcast_S1x1024_S11x1024_0_1 (broadcastInDim S1x1024 ![1] bcast_S1024_S1x1024_1 (Host.reduce FloatOps.maximumf (Host.absf y) (constant S_ .f32 0xFF800000#32) reducesTo_S1024x2560_S1024_d1 h_S_))) (broadcastInDim S11x1024 ![] bcast_S_S11x1024 (id (constant S_ .f32 0xFF800000#32)))) (constant S_ .f32 0xFF800000#32) reducesTo_S11x1024_S11_d1 h_S_) (broadcastInDim S11 ![] bcast_S_S11 (id (constant S_ .f32 0x00000000#32)))) (broadcastInDim S11 ![] bcast_S_S11 (constant S_ .f32 0x00000000#32))) (Host.divf (select (cmpi .sgt (subi (extractStridedSlice S11 ![1] st slices_S12_S11_1) (extractStridedSlice S11 ![0] st slices_S12_S11_0)) (broadcastInDim S11 ![] bcast_S_S11 (constantI S_ 32 0#32))) (Host.reduce FloatOps.maximumf (select (cmpi .eq (broadcastInDim S11x1024 ![0, 1] bcast_S1x1024_S11x1024_0_1 (broadcastInDim S1x1024 ![1] bcast_S1024_S1x1024_1 (Host.reduce IntOp.addi (extui 32 (cmpi .sge (broadcastInDim S1024x11 ![0, 1] bcast_S1024x1_S1024x11_0_1 (broadcastInDim S1024x1 ![0] bcast_S1024_S1024x1_0 (iotaInDim S1024 32 0))) (broadcastInDim S1024x11 ![0, 1] bcast_S1x11_S1024x11_0_1 (broadcastInDim S1x11 ![1] bcast_S11_S1x11_1 (extractStridedSlice S11 ![1] st slices_S12_S11_1)))) natLt_1_32) (constantI S_ 32 0#32) reducesTo_S1024x11_S1024_d1 h_S_))) (broadcastInDim S11x1024 ![0, 1] bcast_S11x1_S11x1024_0_1 (broadcastInDim S11x1 ![0] bcast_S11_S11x1_0 (iotaInDim S11 32 0)))) (broadcastInDim S11x1024 ![0, 1] bcast_S1x1024_S11x1024_0_1 (broadcastInDim S1x1024 ![1] bcast_S1024_S1x1024_1 (Host.reduce FloatOps.maximumf (Host.absf y) (constant S_ .f32 0xFF800000#32) reducesTo_S1024x2560_S1024_d1 h_S_))) (broadcastInDim S11x1024 ![] bcast_S_S11x1024 (id (constant S_ .f32 0xFF800000#32)))) (constant S_ .f32 0xFF800000#32) reducesTo_S11x1024_S11_d1 h_S_) (broadcastInDim S11 ![] bcast_S_S11 (id (constant S_ .f32 0x00000000#32)))) (broadcastInDim S11 ![] bcast_S_S11 (constant S_ .f32 0x45280000#32))) (broadcastInDim S11 ![] bcast_S_S11 (id (constant S_ .f32 0x3F800000#32)))

theorem word_eq (n : ℕ) (hn : n ≤ 11) (e : Fin 11) : IntOp.cmpi .eq (BitVec.ofNat 32 n) (BitVec.ofNat 32 e.val) = if n = e.val then 1#1 else 0#1 := by
  have he := e.isLt
  change BitVec.ofBool (BitVec.ofNat 32 n == BitVec.ofNat 32 e.val) = _
  by_cases h : n = e.val
  · rw [if_pos h, h, beq_self_eq_true]; rfl
  · rw [if_neg h]
    have : (BitVec.ofNat 32 n == BitVec.ofNat 32 e.val) = false := by
      rw [beq_eq_false_iff_ne]
      intro hc
      have := congrArg BitVec.toNat hc
      rw [BitVec.toNat_ofNat, BitVec.toNat_ofNat, Nat.mod_eq_of_lt (by omega), Nat.mod_eq_of_lt (by omega)] at this
      exact h this
    rw [this]; rfl

theorem ref_apply (st : IVec S12 32) (y : FVec Ideal S1024x2560 .f32) (h0 : S st 0 = 0) (hS : ∀ a b, a ≤ b → b ≤ 11 → S st a ≤ S st b) (e : Fin 11) :
    ref st y (ix1 e) = scale st y e := by
  have he := e.isLt
  have hk : ∀ k : Fin 11, ∀ h : 1 + k.val < 12, (st (ix1 (⟨1 + k.val, h⟩ : Fin 12))).toInt = S st (k.val + 1) := fun k h => by
    unfold S; rw [dif_pos (by omega)]; congr 3; exact Fin.ext (by simp only; omega)
  have hc : ∀ k : Fin 11, ∀ h : k.val < 12, (st (ix1 (⟨k.val, h⟩ : Fin 12))).toInt = S st k.val := fun k h => by
    unfold S; rw [dif_pos h]
  have hb : (id (constant (F := Ideal) S_ FTy.f32 4286578688#32) : FVec Ideal S_ .f32) ix0 = (⊥ : EReal) := ninf
  have hz : (id (constant (F := Ideal) S_ FTy.f32 0#32) : FVec Ideal S_ .f32) ix0 = (0 : EReal) := zero_word
  have h1 : (id (constant (F := Ideal) S_ FTy.f32 1065353216#32) : FVec Ideal S_ .f32) ix0 = (1 : EReal) := one_word
  have hsel : ∀ x : Fin 1024, ∀ a : EReal,
      Scalar.select (IntOp.cmpi CmpIPredicate.eq (BitVec.ofNat 32 (Finset.univ.filter fun k : Fin 11 => S st (k.val + 1) ≤ (x.val : ℤ)).card) (BitVec.ofNat 32 e.val)) a ⊥
        = if S st e.val ≤ (x.val : ℤ) ∧ (x.val : ℤ) < S st (e.val + 1) then a else ⊥ := fun x a => by
    rw [word_eq _ (le_trans (Finset.card_le_univ _) (by simp)) e]
    by_cases h : S st e.val ≤ (x.val : ℤ) ∧ (x.val : ℤ) < S st (e.val + 1)
    · rw [if_pos h, if_pos ((card_ends (S st) h0 hS x.val e).2 h)]; rfl
    · rw [if_neg h, if_neg (fun hc => h ((card_ends (S st) h0 hS x.val e).1 hc))]; rfl
  pointwise [ref]
  simp only [fold_sup, sge_iff, hk, fold_count, hb, hz, h1, hsel]
  unfold scale
  rw [sup_zero 0 _ _ (rm_nonneg y), sc_max]
  change sc (Scalar.select _ (Finset.univ.sup fun r : Fin 1024 => if S st e.val ≤ (r.val : ℤ) ∧ (r.val : ℤ) < S st (e.val + 1) then rm y r else ⊥) (0 : EReal)) = _
  by_cases hlt : S st e.val < S st (e.val + 1)
  · rw [size_pos _ _ (by rw [hc]; exact h0 ▸ hS 0 e.val (by omega) (by omega)) (by rw [hc, hk]; exact hlt)]
    rfl
  · have hno : ∀ r : Fin 1024, ¬ (S st e.val ≤ (r.val : ℤ) ∧ (r.val : ℤ) < S st (e.val + 1)) := fun r h => hlt (lt_of_le_of_lt h.1 h.2)
    have hbot : (Finset.univ.sup fun r : Fin 1024 => if S st e.val ≤ (r.val : ℤ) ∧ (r.val : ℤ) < S st (e.val + 1) then rm y r else ⊥) = ⊥ := by
      simp only [if_neg (hno _)]
      exact Finset.sup_bot _
    rw [hbot]
    have hs : sc ⊥ = sc 0 := by rw [← sc_max ⊥, max_eq_left bot_le]
    rcases bit_cases (IntOp.cmpi CmpIPredicate.sgt (IntOp.subi (st (ix1 (⟨1 + e.val, by omega⟩ : Fin 12))) (st (ix1 (⟨e.val, by omega⟩ : Fin 12)))) 0#32) with h | h
    · rw [h]; rfl
    · rw [h, hs]; rfl

end Cert.GlobalIdeal.RG

end
-- ==== Proof.TV.lean ====
/- What the body leaves in its scratch rows and, from them, in every group's word. -/
module

public import proofs.«01_k».proof.Proof.TR
public import proofs.«01_k».proof.Proof.Gen.TailIdeal.Frame
public import proofs.«01_k».proof.Proof.Gen.TailIdeal.Value
public import Idealize.ShloMosaic.Lib.WholeRead
public import Idealize.ShloMosaic.Lib.Pipeline.ReadBack

@[expose] public section

set_option maxRecDepth 16384

noncomputable section

namespace Cert.TailIdeal.TV

open Cert.TailIdeal Cert.TailIdeal.Gen Cert.Glob Cert.GlobalIdeal.RG
open Idealize.ShloMosaic Idealize.ShloMosaic.TcCoe

/-- What the body makes of one group: the scale of the greatest of the rows from `lo` up to `hi`. -/
theorem kg (v2 : Vec Ideal S1024x128 .f32) (x : Fin 1024 → EReal) (h : ∀ r l, v2 (ix2 r l) = x r) (lo hi : BitVec 32) :
    k0_pay7 (F := Ideal) (iota .tc S1024x128 32 [0] iota_S1024x128_d0_w32) v2 lo hi
      = sc (Finset.univ.sup fun r : Fin 1024 => if lo.toInt ≤ (r.val : ℤ) ∧ (r.val : ℤ) < hi.toInt then x r else 0) := by
  pointwise [k0_pay7]
  simp only [h, fold_sup, sel_range]
  unfold sc
  exact Finset.sup_const ⟨((0 : Fin 1), (0 : Fin 128)), Finset.mem_univ _⟩ _

/-! ## The maximum of a row, twenty blocks of lanes at a time -/

/-- The running maximum over the blocks `0 … n`. -/
def run (f : ℕ → EReal) (l : ℕ) : ℕ → EReal
  | 0 => f (128 * 0 + l)
  | n + 1 => max (run f l n) (f (128 * (n + 1) + l))

theorem le_run (f : ℕ → EReal) (l i n : ℕ) (h : i ≤ n) : f (128 * i + l) ≤ run f l n := by
  induction n with
  | zero => rw [Nat.le_zero.1 h]; exact le_refl _
  | succ n ih =>
    rcases Nat.lt_or_ge n i with h' | h'
    · rw [show i = n + 1 by omega]; exact le_max_right _ _
    · exact le_max_of_le_left (ih h')

theorem run_le (f : ℕ → EReal) (l n : ℕ) (b : EReal) (h : ∀ i ≤ n, f (128 * i + l) ≤ b) : run f l n ≤ b := by
  induction n with
  | zero => exact h 0 (le_refl _)
  | succ n ih => exact max_le (ih fun i hi => h i (by omega)) (h _ (le_refl _))

theorem sup_run (f : ℕ → EReal) : (Finset.univ.sup fun l : Fin 128 => run f l.val 19) = Finset.univ.sup fun q : Fin 2560 => f q.val := by
  apply le_antisymm
  · refine Finset.sup_le fun l _ => run_le f _ _ _ fun i hi => ?_
    exact Finset.le_sup (f := fun q : Fin 2560 => f q.val) (Finset.mem_univ ⟨128 * i + l.val, by have := l.isLt; omega⟩)
  · refine Finset.sup_le fun q _ => ?_
    have hq := q.isLt
    have h := le_run f (q.val % 128) (q.val / 128) 19 (by omega)
    rw [Nat.div_add_mod] at h
    have hl : q.val % 128 < 128 := Nat.mod_lt _ (by decide)
    generalize q.val % 128 = l at h hl
    have h' := Finset.le_sup (f := fun l : Fin 128 => run f l.val 19) (Finset.mem_univ (⟨l, hl⟩ : Fin 128))
    exact le_trans h h'

/-- The magnitude in column `n` of row `r`. -/
def mag (y : S1024x2560.Idx → EReal) (r : Fin 1024) (n : ℕ) : EReal :=
  if h : n < 2560 then FloatOps.absf (F := Ideal) (φ := .f32) (y (ix2 r (⟨n, h⟩ : Fin 2560))) else ⊥

theorem rm_eq (y : S1024x2560.Idx → EReal) (r : Fin 1024) : (Finset.univ.sup fun l : Fin 128 => run (mag y r) l.val 19) = rm y r := by
  rw [sup_run]
  refine Finset.sup_congr rfl fun q _ => ?_
  unfold mag; rw [dif_pos q.isLt]

variable (c : Dev nD) (arg0 : Memref sig .tc .smem S12 .i32) (harg0 : arg0.IsWhole) (arg1 : Memref sig .tc .vmem S1024x2560 .f32) (harg1 : arg1.IsWhole) (arg2 : Memref sig .tc .smem S11 .f32) (harg2 : arg2.IsWhole) (arg3 : Memref sig .tc .vmem S1024x128 .f32) (harg3 : arg3.IsWhole)
    (x0 : Vec Ideal S12 .i32) (x1 : Vec Ideal S1024x2560 .f32)

theorem rd (off : Fin 2 → ℕ) (inb : ∀ a, off a + S8x128.size a ≤ S1024x2560.size a) (k i : ℕ) (h : off = ![8 * k, 128 * i]) (p : Fin 8) (q : Fin 128)
    (hr : 8 * k + p.val < 1024) (hq : 128 * i + q.val < 2560) :
    (FloatOps.absf (F := Ideal) (φ := .f32) (View.readAt (Elt Ideal) arg1.view (Rect.unit (s := S1024x2560) off S8x128.size inb).toLoadRect (harg1.unread x1) (ix2 p q)) : EReal)
      = mag x1 ⟨8 * k + p.val, hr⟩ (128 * i + q.val) := by
  subst h
  unfold mag
  rw [dif_pos hq, Memref.IsWhole.readAt_unread]
  congr 2
  funext a; apply Fin.ext
  fin_cases a
  · show 8 * k + 1 * p.val = 8 * k + p.val; omega
  · show 128 * i + 1 * q.val = 128 * i + q.val; omega

/-- What one trip stores. -/
def wv (k : Fin k0_t1_loop.trips) : FVec Ideal S8x128 .f32 :=
  k0_pay2 (F := Ideal) (k0_pay1 (F := Ideal) (View.readAt (Elt Ideal) arg1.view (Rect.unit (s := S1024x2560) (k0_off1 k) S8x128.size (k0_off1_inb k)).toLoadRect (harg1.unread x1)) (View.readAt (Elt Ideal) arg1.view (Rect.unit (s := S1024x2560) (k0_off2 k) S8x128.size (k0_off2_inb k)).toLoadRect (harg1.unread x1)) (View.readAt (Elt Ideal) arg1.view (Rect.unit (s := S1024x2560) (k0_off3 k) S8x128.size (k0_off3_inb k)).toLoadRect (harg1.unread x1)) (View.readAt (Elt Ideal) arg1.view (Rect.unit (s := S1024x2560) (k0_off4 k) S8x128.size (k0_off4_inb k)).toLoadRect (harg1.unread x1)) (View.readAt (Elt Ideal) arg1.view (Rect.unit (s := S1024x2560) (k0_off5 k) S8x128.size (k0_off5_inb k)).toLoadRect (harg1.unread x1)) (View.readAt (Elt Ideal) arg1.view (Rect.unit (s := S1024x2560) (k0_off6 k) S8x128.size (k0_off6_inb k)).toLoadRect (harg1.unread x1)) (View.readAt (Elt Ideal) arg1.view (Rect.unit (s := S1024x2560) (k0_off7 k) S8x128.size (k0_off7_inb k)).toLoadRect (harg1.unread x1)) (View.readAt (Elt Ideal) arg1.view (Rect.unit (s := S1024x2560) (k0_off8 k) S8x128.size (k0_off8_inb k)).toLoadRect (harg1.unread x1)) (View.readAt (Elt Ideal) arg1.view (Rect.unit (s := S1024x2560) (k0_off9 k) S8x128.size (k0_off9_inb k)).toLoadRect (harg1.unread x1)) (View.readAt (Elt Ideal) arg1.view (Rect.unit (s := S1024x2560) (k0_off10 k) S8x128.size (k0_off10_inb k)).toLoadRect (harg1.unread x1)) (View.readAt (Elt Ideal) arg1.view (Rect.unit (s := S1024x2560) (k0_off11 k) S8x128.size (k0_off11_inb k)).toLoadRect (harg1.unread x1))) (View.readAt (Elt Ideal) arg1.view (Rect.unit (s := S1024x2560) (k0_off12 k) S8x128.size (k0_off12_inb k)).toLoadRect (harg1.unread x1)) (View.readAt (Elt Ideal) arg1.view (Rect.unit (s := S1024x2560) (k0_off13 k) S8x128.size (k0_off13_inb k)).toLoadRect (harg1.unread x1)) (View.readAt (Elt Ideal) arg1.view (Rect.unit (s := S1024x2560) (k0_off14 k) S8x128.size (k0_off14_inb k)).toLoadRect (harg1.unread x1)) (View.readAt (Elt Ideal) arg1.view (Rect.unit (s := S1024x2560) (k0_off15 k) S8x128.size (k0_off15_inb k)).toLoadRect (harg1.unread x1)) (View.readAt (Elt Ideal) arg1.view (Rect.unit (s := S1024x2560) (k0_off16 k) S8x128.size (k0_off16_inb k)).toLoadRect (harg1.unread x1)) (View.readAt (Elt Ideal) arg1.view (Rect.unit (s := S1024x2560) (k0_off17 k) S8x128.size (k0_off17_inb k)).toLoadRect (harg1.unread x1)) (View.readAt (Elt Ideal) arg1.view (Rect.unit (s := S1024x2560) (k0_off18 k) S8x128.size (k0_off18_inb k)).toLoadRect (harg1.unread x1)) (View.readAt (Elt Ideal) arg1.view (Rect.unit (s := S1024x2560) (k0_off19 k) S8x128.size (k0_off19_inb k)).toLoadRect (harg1.unread x1)) (View.readAt (Elt Ideal) arg1.view (Rect.unit (s := S1024x2560) (k0_off20 k) S8x128.size (k0_off20_inb k)).toLoadRect (harg1.unread x1))

theorem trip_eq (k : Fin k0_t1_loop.trips) :
    tripL_k0_t1 (F := Ideal) Variants.none c none arg0 harg0 arg1 harg1 arg2 harg2 arg3 harg3 (harg1.unread x1) k
      = [⟨Rect.unit (s := S1024x128) (k0_off21 k) S8x128.size (k0_off21_inb k), wv arg1 harg1 x1 k⟩] := by
  unfold tripL_k0_t1 trip_k0_t1
  rfl

theorem wv_apply (k : Fin k0_t1_loop.trips) (p : Fin 8) (l : Fin 128) (hr : 8 * k.val + p.val < 1024) :
    wv arg1 harg1 x1 k (ix2 p l) = rm x1 ⟨8 * k.val + p.val, hr⟩ := by
  rw [← rm_eq]
  unfold wv
  pointwise [k0_pay2, k0_pay1]
  rw [fold_sup]
  refine Finset.sup_congr rfl fun q _ => ?_
  have hq := q.isLt
  rw [rd arg1 harg1 x1 (k0_off1 k) (k0_off1_inb k) k.val 0 (k0_off1_eq k) p q hr (by omega)]
  rw [rd arg1 harg1 x1 (k0_off2 k) (k0_off2_inb k) k.val 1 (k0_off2_eq k) p q hr (by omega)]
  rw [rd arg1 harg1 x1 (k0_off3 k) (k0_off3_inb k) k.val 2 (k0_off3_eq k) p q hr (by omega)]
  rw [rd arg1 harg1 x1 (k0_off4 k) (k0_off4_inb k) k.val 3 (k0_off4_eq k) p q hr (by omega)]
  rw [rd arg1 harg1 x1 (k0_off5 k) (k0_off5_inb k) k.val 4 (k0_off5_eq k) p q hr (by omega)]
  rw [rd arg1 harg1 x1 (k0_off6 k) (k0_off6_inb k) k.val 5 (k0_off6_eq k) p q hr (by omega)]
  rw [rd arg1 harg1 x1 (k0_off7 k) (k0_off7_inb k) k.val 6 (k0_off7_eq k) p q hr (by omega)]
  rw [rd arg1 harg1 x1 (k0_off8 k) (k0_off8_inb k) k.val 7 (k0_off8_eq k) p q hr (by omega)]
  rw [rd arg1 harg1 x1 (k0_off9 k) (k0_off9_inb k) k.val 8 (k0_off9_eq k) p q hr (by omega)]
  rw [rd arg1 harg1 x1 (k0_off10 k) (k0_off10_inb k) k.val 9 (k0_off10_eq k) p q hr (by omega)]
  rw [rd arg1 harg1 x1 (k0_off11 k) (k0_off11_inb k) k.val 10 (k0_off11_eq k) p q hr (by omega)]
  rw [rd arg1 harg1 x1 (k0_off12 k) (k0_off12_inb k) k.val 11 (k0_off12_eq k) p q hr (by omega)]
  rw [rd arg1 harg1 x1 (k0_off13 k) (k0_off13_inb k) k.val 12 (k0_off13_eq k) p q hr (by omega)]
  rw [rd arg1 harg1 x1 (k0_off14 k) (k0_off14_inb k) k.val 13 (k0_off14_eq k) p q hr (by omega)]
  rw [rd arg1 harg1 x1 (k0_off15 k) (k0_off15_inb k) k.val 14 (k0_off15_eq k) p q hr (by omega)]
  rw [rd arg1 harg1 x1 (k0_off16 k) (k0_off16_inb k) k.val 15 (k0_off16_eq k) p q hr (by omega)]
  rw [rd arg1 harg1 x1 (k0_off17 k) (k0_off17_inb k) k.val 16 (k0_off17_eq k) p q hr (by omega)]
  rw [rd arg1 harg1 x1 (k0_off18 k) (k0_off18_inb k) k.val 17 (k0_off18_eq k) p q hr (by omega)]
  rw [rd arg1 harg1 x1 (k0_off19 k) (k0_off19_inb k) k.val 18 (k0_off19_eq k) p q hr (by omega)]
  rw [rd arg1 harg1 x1 (k0_off20 k) (k0_off20_inb k) k.val 19 (k0_off20_eq k) p q hr (by omega)]
  rfl

theorem canon_rows (n : ℕ) (hn : n ≤ 128) (r : Fin 1024) (l : Fin 128) (hr : r.val < 8 * n) :
    View.canon (pb_k0_t1 (F := Ideal) Variants.none c none arg0 harg0 arg1 harg1 arg2 harg2 arg3 harg3 (harg1.unread x1) n) (ix2 r l) = rm x1 r := by
  induction n with
  | zero => omega
  | succ n ih =>
    have ht : n < k0_t1_loop.trips := lt_of_lt_of_eq (show n < 128 by omega) (by decide)
    have e := pb_k0_t1_succ (F := Ideal) Variants.none c none arg0 harg0 arg1 harg1 arg2 harg2 arg3 harg3 (harg1.unread x1) ⟨n, ht⟩
    rw [trip_eq] at e
    change pb_k0_t1 (F := Ideal) Variants.none c none arg0 harg0 arg1 harg1 arg2 harg2 arg3 harg3 (harg1.unread x1) (n + 1) = _ at e
    rw [e, List.singleton_append]
    have h0 : k0_off21 ⟨n, ht⟩ = ![8 * n, 0] := k0_off21_eq ⟨n, ht⟩
    by_cases h : 8 * n ≤ r.val
    · have hx : (Rect.unit (s := S1024x128) (k0_off21 ⟨n, ht⟩) S8x128.size (k0_off21_inb ⟨n, ht⟩)).emb (ix2 (⟨r.val - 8 * n, by omega⟩ : Fin 8) l) = ix2 r l := by
        funext a; apply Fin.ext
        fin_cases a
        · show k0_off21 ⟨n, ht⟩ 0 + 1 * (r.val - 8 * n) = r.val
          rw [h0]; show 8 * n + 1 * (r.val - 8 * n) = r.val; omega
        · show k0_off21 ⟨n, ht⟩ 1 + 1 * l.val = l.val
          rw [h0]; show 0 + 1 * l.val = l.val; omega
      rw [← hx, View.canon_cons_emb]
      have hw := wv_apply arg1 harg1 x1 ⟨n, ht⟩ (⟨r.val - 8 * n, by omega⟩ : Fin 8) l (by show 8 * n + (r.val - 8 * n) < 1024; have := r.isLt; omega)
      rw [hw]
      exact congrArg (rm x1) (Fin.ext (by show 8 * n + (r.val - 8 * n) = r.val; omega))
    · rw [View.canon_cons_of_not_mem]
      · exact ih (by omega) (by omega)
      · intro hm
        obtain ⟨x, hx⟩ : ∃ x, (Rect.unit (s := S1024x128) (k0_off21 ⟨n, ht⟩) S8x128.size (k0_off21_inb ⟨n, ht⟩)).emb x = ix2 r l :=
          (Rect.unit (s := S1024x128) (k0_off21 ⟨n, ht⟩) S8x128.size (k0_off21_inb ⟨n, ht⟩)).exists_idx_of_mem hm
        have := congrArg (fun i : S1024x128.Idx => (i 0).val) hx
        change k0_off21 ⟨n, ht⟩ 0 + 1 * (x 0).val = r.val at this
        have h00 := congrFun h0 0
        change k0_off21 ⟨n, ht⟩ 0 = 8 * n at h00
        omega

/-- The scratch rows after the loop. -/
def gr : Vec Ideal S1024x128 .f32 :=
  arg3.view.readCov (pb_k0_t1 (F := Ideal) Variants.none c none arg0 harg0 arg1 harg1 arg2 harg2 arg3 harg3 (harg1.unread x1) (Scf.trips (0#32) (Scalar.addi 0#32 128#32) 1#32))
    (Rect.unit (s := S1024x128) ![0, 0] S1024x128.size inb_S1024x128_S1024x128_0_0).toLoadRect

theorem gr_apply (r : Fin 1024) (l : Fin 128) : gr c arg0 harg0 arg1 harg1 arg2 harg2 arg3 harg3 x1 (ix2 r l) = rm x1 r := by
  unfold gr
  rw [View.readCov_eq_canon', show Scf.trips (0#32) (Scalar.addi 0#32 128#32) 1#32 = 128 by decide]
  have hx : (Rect.unit (s := S1024x128) ![0, 0] S1024x128.size inb_S1024x128_S1024x128_0_0).toLoadRect.idx (ix2 r l) = ix2 r l := by
    funext a; apply Fin.ext
    fin_cases a
    · show 0 + 1 * r.val = r.val; omega
    · show 0 + 1 * l.val = l.val; omega
  show View.canon _ ((Rect.unit (s := S1024x128) ![0, 0] S1024x128.size inb_S1024x128_S1024x128_0_0).toLoadRect.idx (ix2 r l)) = _
  rw [hx]
  exact canon_rows c arg0 harg0 arg1 harg1 arg2 harg2 arg3 harg3 x1 128 (le_refl _) r l (by have := r.isLt; omega)

/-- A word of the starts, as the body loads it. -/
def ld0 (k : ℕ) (inb : ∀ a, (![k] : Fin 1 → ℕ) a + S1.size a ≤ S12.size a) : BitVec 32 :=
  View.readAt (Elt Ideal) arg0.view (Rect.unit (s := S12) ![k] S1.size inb).toLoadRect (harg0.unread x0) (Shape.Idx.first (Nat.lt_of_lt_of_eq Nat.one_pos numel1_S1.symm))

theorem ld0_eq (k : ℕ) (inb : ∀ a, (![k] : Fin 1 → ℕ) a + S1.size a ≤ S12.size a) : (ld0 arg0 harg0 x0 k inb).toInt = S x0 k := by
  have hk : k < 12 := by have := inb 0; change k + 1 ≤ 12 at this; omega
  unfold ld0 S
  rw [dif_pos hk, Memref.IsWhole.readAt_unread]
  congr 2
  funext a; apply Fin.ext; fin_cases a
  show k + 1 * 0 = k
  omega

/-- The word of group `e`. -/
theorem word (e : Fin 11) (inb) (inb') :
    k0_pay7 (F := Ideal) (iota .tc S1024x128 32 [0] iota_S1024x128_d0_w32) (gr c arg0 harg0 arg1 harg1 arg2 harg2 arg3 harg3 x1) (ld0 arg0 harg0 x0 e.val inb) (ld0 arg0 harg0 x0 (e.val + 1) inb') = scale x0 x1 e := by
  rw [kg _ (rm x1) (gr_apply c arg0 harg0 arg1 harg1 arg2 harg2 arg3 harg3 x1), ld0_eq, ld0_eq]; rfl

/-- The body's pieces are the groups' words, last first. -/
theorem pieces_eq : (kernelRun0_A (F := Ideal) c arg0 harg0 arg1 harg1 arg2 harg2 arg3 harg3 x0 x1).1 = [⟨Rect.unit (s := S11) ![10] S1.size inb_S11_S1_10, fun _ => k0_pay7 (F := Ideal) (iota .tc S1024x128 32 [0] iota_S1024x128_d0_w32) (gr c arg0 harg0 arg1 harg1 arg2 harg2 arg3 harg3 x1) (ld0 arg0 harg0 x0 10 inb_S12_S1_10) (ld0 arg0 harg0 x0 11 inb_S12_S1_11)⟩,
    ⟨Rect.unit (s := S11) ![9] S1.size inb_S11_S1_9, fun _ => k0_pay7 (F := Ideal) (iota .tc S1024x128 32 [0] iota_S1024x128_d0_w32) (gr c arg0 harg0 arg1 harg1 arg2 harg2 arg3 harg3 x1) (ld0 arg0 harg0 x0 9 inb_S12_S1_9) (ld0 arg0 harg0 x0 10 inb_S12_S1_10)⟩,
    ⟨Rect.unit (s := S11) ![8] S1.size inb_S11_S1_8, fun _ => k0_pay7 (F := Ideal) (iota .tc S1024x128 32 [0] iota_S1024x128_d0_w32) (gr c arg0 harg0 arg1 harg1 arg2 harg2 arg3 harg3 x1) (ld0 arg0 harg0 x0 8 inb_S12_S1_8) (ld0 arg0 harg0 x0 9 inb_S12_S1_9)⟩,
    ⟨Rect.unit (s := S11) ![7] S1.size inb_S11_S1_7, fun _ => k0_pay7 (F := Ideal) (iota .tc S1024x128 32 [0] iota_S1024x128_d0_w32) (gr c arg0 harg0 arg1 harg1 arg2 harg2 arg3 harg3 x1) (ld0 arg0 harg0 x0 7 inb_S12_S1_7) (ld0 arg0 harg0 x0 8 inb_S12_S1_8)⟩,
    ⟨Rect.unit (s := S11) ![6] S1.size inb_S11_S1_6, fun _ => k0_pay7 (F := Ideal) (iota .tc S1024x128 32 [0] iota_S1024x128_d0_w32) (gr c arg0 harg0 arg1 harg1 arg2 harg2 arg3 harg3 x1) (ld0 arg0 harg0 x0 6 inb_S12_S1_6) (ld0 arg0 harg0 x0 7 inb_S12_S1_7)⟩,
    ⟨Rect.unit (s := S11) ![5] S1.size inb_S11_S1_5, fun _ => k0_pay7 (F := Ideal) (iota .tc S1024x128 32 [0] iota_S1024x128_d0_w32) (gr c arg0 harg0 arg1 harg1 arg2 harg2 arg3 harg3 x1) (ld0 arg0 harg0 x0 5 inb_S12_S1_5) (ld0 arg0 harg0 x0 6 inb_S12_S1_6)⟩,
    ⟨Rect.unit (s := S11) ![4] S1.size inb_S11_S1_4, fun _ => k0_pay7 (F := Ideal) (iota .tc S1024x128 32 [0] iota_S1024x128_d0_w32) (gr c arg0 harg0 arg1 harg1 arg2 harg2 arg3 harg3 x1) (ld0 arg0 harg0 x0 4 inb_S12_S1_4) (ld0 arg0 harg0 x0 5 inb_S12_S1_5)⟩,
    ⟨Rect.unit (s := S11) ![3] S1.size inb_S11_S1_3, fun _ => k0_pay7 (F := Ideal) (iota .tc S1024x128 32 [0] iota_S1024x128_d0_w32) (gr c arg0 harg0 arg1 harg1 arg2 harg2 arg3 harg3 x1) (ld0 arg0 harg0 x0 3 inb_S12_S1_3) (ld0 arg0 harg0 x0 4 inb_S12_S1_4)⟩,
    ⟨Rect.unit (s := S11) ![2] S1.size inb_S11_S1_2, fun _ => k0_pay7 (F := Ideal) (iota .tc S1024x128 32 [0] iota_S1024x128_d0_w32) (gr c arg0 harg0 arg1 harg1 arg2 harg2 arg3 harg3 x1) (ld0 arg0 harg0 x0 2 inb_S12_S1_2) (ld0 arg0 harg0 x0 3 inb_S12_S1_3)⟩,
    ⟨Rect.unit (s := S11) ![1] S1.size inb_S11_S1_1, fun _ => k0_pay7 (F := Ideal) (iota .tc S1024x128 32 [0] iota_S1024x128_d0_w32) (gr c arg0 harg0 arg1 harg1 arg2 harg2 arg3 harg3 x1) (ld0 arg0 harg0 x0 1 inb_S12_S1_1) (ld0 arg0 harg0 x0 2 inb_S12_S1_2)⟩,
    ⟨Rect.unit (s := S11) ![0] S1.size inb_S11_S1_0, fun _ => k0_pay7 (F := Ideal) (iota .tc S1024x128 32 [0] iota_S1024x128_d0_w32) (gr c arg0 harg0 arg1 harg1 arg2 harg2 arg3 harg3 x1) (ld0 arg0 harg0 x0 0 inb_S12_S1_0) (ld0 arg0 harg0 x0 1 inb_S12_S1_1)⟩] := by
  unfold kernelRun0_A
  rfl

theorem pieces_scale : View.PiecesOf (fun j : S11.Idx => (scale x0 x1 (j 0) : EReal)) (kernelRun0_A (F := Ideal) c arg0 harg0 arg1 harg1 arg2 harg2 arg3 harg3 x0 x1).1 := by
  rw [pieces_eq]
  exact ⟨fun x => (word c arg0 harg0 arg1 harg1 arg2 harg2 arg3 harg3 x0 x1 10 inb_S12_S1_10 inb_S12_S1_11).trans (congrArg (scale x0 x1) (Fin.ext (by have h : (x 0).val < 1 := (x 0).isLt; show 10 = 10 + 1 * (x 0).val; omega))),
    fun x => (word c arg0 harg0 arg1 harg1 arg2 harg2 arg3 harg3 x0 x1 9 inb_S12_S1_9 inb_S12_S1_10).trans (congrArg (scale x0 x1) (Fin.ext (by have h : (x 0).val < 1 := (x 0).isLt; show 9 = 9 + 1 * (x 0).val; omega))),
    fun x => (word c arg0 harg0 arg1 harg1 arg2 harg2 arg3 harg3 x0 x1 8 inb_S12_S1_8 inb_S12_S1_9).trans (congrArg (scale x0 x1) (Fin.ext (by have h : (x 0).val < 1 := (x 0).isLt; show 8 = 8 + 1 * (x 0).val; omega))),
    fun x => (word c arg0 harg0 arg1 harg1 arg2 harg2 arg3 harg3 x0 x1 7 inb_S12_S1_7 inb_S12_S1_8).trans (congrArg (scale x0 x1) (Fin.ext (by have h : (x 0).val < 1 := (x 0).isLt; show 7 = 7 + 1 * (x 0).val; omega))),
    fun x => (word c arg0 harg0 arg1 harg1 arg2 harg2 arg3 harg3 x0 x1 6 inb_S12_S1_6 inb_S12_S1_7).trans (congrArg (scale x0 x1) (Fin.ext (by have h : (x 0).val < 1 := (x 0).isLt; show 6 = 6 + 1 * (x 0).val; omega))),
    fun x => (word c arg0 harg0 arg1 harg1 arg2 harg2 arg3 harg3 x0 x1 5 inb_S12_S1_5 inb_S12_S1_6).trans (congrArg (scale x0 x1) (Fin.ext (by have h : (x 0).val < 1 := (x 0).isLt; show 5 = 5 + 1 * (x 0).val; omega))),
    fun x => (word c arg0 harg0 arg1 harg1 arg2 harg2 arg3 harg3 x0 x1 4 inb_S12_S1_4 inb_S12_S1_5).trans (congrArg (scale x0 x1) (Fin.ext (by have h : (x 0).val < 1 := (x 0).isLt; show 4 = 4 + 1 * (x 0).val; omega))),
    fun x => (word c arg0 harg0 arg1 harg1 arg2 harg2 arg3 harg3 x0 x1 3 inb_S12_S1_3 inb_S12_S1_4).trans (congrArg (scale x0 x1) (Fin.ext (by have h : (x 0).val < 1 := (x 0).isLt; show 3 = 3 + 1 * (x 0).val; omega))),
    fun x => (word c arg0 harg0 arg1 harg1 arg2 harg2 arg3 harg3 x0 x1 2 inb_S12_S1_2 inb_S12_S1_3).trans (congrArg (scale x0 x1) (Fin.ext (by have h : (x 0).val < 1 := (x 0).isLt; show 2 = 2 + 1 * (x 0).val; omega))),
    fun x => (word c arg0 harg0 arg1 harg1 arg2 harg2 arg3 harg3 x0 x1 1 inb_S12_S1_1 inb_S12_S1_2).trans (congrArg (scale x0 x1) (Fin.ext (by have h : (x 0).val < 1 := (x 0).isLt; show 1 = 1 + 1 * (x 0).val; omega))),
    fun x => (word c arg0 harg0 arg1 harg1 arg2 harg2 arg3 harg3 x0 x1 0 inb_S12_S1_0 inb_S12_S1_1).trans (congrArg (scale x0 x1) (Fin.ext (by have h : (x 0).val < 1 := (x 0).isLt; show 0 = 0 + 1 * (x 0).val; omega))), trivial⟩

end Cert.TailIdeal.TV

end
-- ==== Proof.TG.lean ====
/- The group scales: the kernel's and the reference's results are the same function of the starts and the rows. -/
module

public import proofs.«01_k».proof.Defs
public import proofs.«01_k».proof.Proof.TV
public import proofs.«01_k».proof.Proof.Gen.Tail.Frame
public import proofs.«01_k».proof.Proof.Gen.Pre_starts_ascend

@[expose] public section

set_option maxRecDepth 8192
set_option maxHeartbeats 400000

noncomputable section

namespace Cert.TailIdeal.TG

open Cert.TailIdeal Cert.TailIdeal.Gen Cert.TailIdeal.Value Cert.TailIdeal.TV Cert.GlobalIdeal.RG
open Idealize.ShloMosaic Idealize.ShloMosaic.TcCoe Idealize.SL.Sem

theorem out_apply (c : Dev nD) (arg0 : Memref sig .tc .smem S12 .i32) (harg0 : arg0.IsWhole) (arg1 : Memref sig .tc .vmem S1024x2560 .f32) (harg1 : arg1.IsWhole) (arg2 : Memref sig .tc .smem S11 .f32) (harg2 : arg2.IsWhole) (arg3 : Memref sig .tc .vmem S1024x128 .f32) (harg3 : arg3.IsWhole)
    (x0 : Vec Ideal S12 .i32) (x1 : Vec Ideal S1024x2560 .f32) (e : Fin 11) :
    out0_A_2 (F := Ideal) c arg0 harg0 arg1 harg1 arg2 harg2 arg3 harg3 x0 x1 (ix1 e) = scale x0 x1 e := by
  unfold out0_A_2
  rw [View.read_writes_junk_eq_canon]
  have h := View.canon_append_of_piecesOf _ [] _ (pieces_scale c arg0 harg0 arg1 harg1 arg2 harg2 arg3 harg3 x0 x1) (ix1 e)
    (cover0_A_2 c arg0 harg0 arg1 harg1 arg2 harg2 arg3 harg3 x0 x1 (ix1 e))
  rw [List.append_nil] at h
  exact h

variable (m : (ℓ : Loc nD τ sig) → Buf (Elt Ideal) ℓ) (c : Dev nD)

theorem blk0 : iblk m c 0 t0_0 = m ((c : Thread nD τ).loc main_arg0) := by
  funext x
  have he : ((cfg0.win 0).blk t0_0).view.emb x = x :=
    funext fun a => Fin.ext (Pipeline.Window.rect_emb_val_of_index_zero win0_0 t0_0 a rfl x)
  show V m c main_arg0 (((cfg0.win 0).blk t0_0).view.emb x) = _
  rw [he]

theorem blk1 : iblk m c 1 t0_0 = m ((c : Thread nD τ).loc main_arg1) := by
  funext x
  have he : ((cfg0.win 1).blk t0_0).view.emb x = x :=
    funext fun a => Fin.ext (Pipeline.Window.rect_emb_val_of_index_zero win0_1 t0_0 a rfl x)
  show V m c main_arg1 (((cfg0.win 1).blk t0_0).view.emb x) = _
  rw [he]

theorem arr2 (X : S11.Idx → Ideal .f32) (hX : (dats m 0 c).flushed 2 t0_0 = (cfg0.win 2).cut (grid0.coords t0_0) X) (x : S11.Idx) :
    (dats m 0 c).arrAt 2 cfg0.N x = X x := by
  have h := (dats m 0 c).arrAt_emb_eq_flushed 2 disjoint2 t0_0 (flush0_2 t0_0) x
  have he : ((cfg0.win 2).blk t0_0).view.emb x = x :=
    funext fun a => Fin.ext (Pipeline.Window.rect_emb_val_of_index_zero win0_2 t0_0 a rfl x)
  rw [he, hX] at h
  exact h

/-- The kernel's result at a group. -/
theorem result (e : Fin 11) :
    (dats m 0 c).arrAt 2 cfg0.N (ix1 e) = scale (m ((c : Thread nD τ).loc main_arg0)) (m ((c : Thread nD τ).loc main_arg1)) e := by
  refine (arr2 m c _ (flushed2_A m c t0_0) (ix1 e)).trans ?_
  refine (out_apply c _ _ _ _ _ _ _ _ _ _ e).trans ?_
  rw [blk0, blk1]

/-! ## What the precondition says of the starts -/

theorem cmp_eq (a b : BitVec 32) (h : IntOp.cmpi .eq a b = 1#1) : a = b := by
  change BitVec.ofBool (a == b) = 1#1 at h
  cases hc : a == b with
  | true => exact beq_iff_eq.1 hc
  | false => rw [hc] at h; exact absurd h (by decide)

theorem cmp_sle (a b : BitVec 32) (h : IntOp.cmpi .sle a b = 1#1) : a.toInt ≤ b.toInt := by
  change BitVec.ofBool (a.sle b) = 1#1 at h
  cases hc : a.sle b with
  | true => exact BitVec.sle_iff_toInt_le.1 hc
  | false => rw [hc] at h; exact absurd h (by decide)

theorem starts {F : FTy → Type} [FloatOps F] (st : IVec S12 32) (y : FVec F S1024x2560 .f32)
    (h1 : (Cert.Pre_starts_ascend.fn (F := F) st y).1 = fun _ => 1#1) (h2 : (Cert.Pre_starts_ascend.fn (F := F) st y).2 = fun _ => 1#1) :
    S st 0 = 0 ∧ ∀ a b, a ≤ b → b ≤ 11 → S st a ≤ S st b := by
  constructor
  · have h := congrFun h1 (ix1 (0 : Fin 1))
    pointwise [Cert.Pre_starts_ascend.fn] at h
    have e := cmp_eq _ _ h
    unfold S; rw [dif_pos (by omega)]
    exact (congrArg BitVec.toInt e).trans (by decide)
  · have hs : ∀ k, k < 11 → S st k ≤ S st (k + 1) := fun k hk => by
      have h := congrFun h2 (ix1 (⟨k, hk⟩ : Fin 11))
      pointwise [Cert.Pre_starts_ascend.fn] at h
      have e := cmp_sle _ _ h
      unfold S; rw [dif_pos (by omega), dif_pos (by omega)]
      refine le_trans e (le_of_eq (congrArg (fun i : Fin 12 => (st (ix1 i)).toInt) (Fin.ext ?_)))
      show 1 + k = k + 1
      omega
    intro a b hab
    induction b with
    | zero => intro _; rw [Nat.le_zero.1 hab]
    | succ b ih =>
      intro hb
      rcases Nat.lt_or_ge a (b + 1) with h | h
      · exact le_trans (ih (by omega) (by omega)) (hs b (by omega))
      · rw [show a = b + 1 by omega]

theorem algebraic : Cert.algebraic_TailIdeal_GlobalIdeal (hTailIdeal := Cert.TailIdeal.Gen.facts) (hGlobalIdeal := Cert.GlobalIdeal.Gen.facts) (hPre_starts_ascend := Cert.Pre_starts_ascend.Gen.facts) := by
  intro m g m' g' hpre hm
  refine ⟨fun c => (dats m 0 c).arrAt 2 cfg0.N, run_blocks m g, (θ_run _ _ _).mono (fun r h c => ⟨?_, (h c).2⟩) (Cert.GlobalIdeal.Value.run m' g')⟩
  refine (h c).1.trans ?_
  obtain ⟨h0, hS⟩ := starts _ _ (hpre c).1 (hpre c).2
  funext x
  obtain ⟨e, rfl⟩ : ∃ e : Fin 11, x = ix1 e := ⟨x 0, by funext a; match a with | ⟨0, _⟩ => rfl⟩
  rw [(hm c).1, (hm c).2]
  exact (ref_apply _ _ h0 hS e).trans (result m c e).symm

/-- The reference runs and leaves its arguments as they were; it has no semaphore. -/
theorem quiescent_GlobalIdeal : Cert.quiescent_GlobalIdeal (hGlobalIdeal := Cert.GlobalIdeal.Gen.facts) (hPre_starts_ascend := Cert.Pre_starts_ascend.Gen.facts) :=
  fun m g _ => (θ_run _ _ _).mono (fun r h => ⟨fun c => (h c).2, funext fun x => by
    obtain ⟨t, s⟩ := x
    cases s with
    | reg s => exact s.elim0
    | dma s => exact s.elim0⟩) (Cert.GlobalIdeal.Value.run m g)

theorem quiescent_TailIdeal : Cert.quiescent_TailIdeal (hTailIdeal := Cert.TailIdeal.Gen.facts) (hPre_starts_ascend := Cert.Pre_starts_ascend.Gen.facts) :=
  fun m g _ => Cert.TailIdeal.Gen.frame m g

theorem quiescent_Tail : Cert.quiescent_Tail (hTail := Cert.Tail.Gen.facts) (hPre_starts_ascend := Cert.Pre_starts_ascend.Gen.facts) :=
  fun m g _ => Cert.Tail.Gen.frame m g

end Cert.TailIdeal.TG

end
-- ==== Proof.AR.lean ====
/- The reference's group scales of the activations: every group's greatest block maximum, over the rows between its start and the next. -/
module

public import proofs.«01_k».proof.Proof.TR
public import proofs.«01_k».proof.Proof.Gen.ActGlobalIdeal.Run

@[expose] public section

set_option maxRecDepth 8192

noncomputable section

namespace Cert.ActGlobalIdeal.RG

open Cert.GlobalIdeal.RG (S word_eq)
open Cert.ActGlobalIdeal Cert.ActGlobalIdeal.Gen Cert.Glob
open Idealize.ShloMosaic Idealize.ShloMosaic.TcCoe

/-- The greatest of the block maxima of row `r`. -/
def rm (y : S1024x384.Idx → EReal) (r : Fin 1024) : EReal := Finset.univ.sup fun q : Fin 384 => y (ix2 r q)

theorem sc_sup_zero (P : Fin 1024 → Prop) [DecidablePred P] (x : Fin 1024 → EReal) :
    sc (Finset.univ.sup fun r => if P r then x r else 0) = sc (Finset.univ.sup fun r => if P r then x r else ⊥) := by
  rw [← sc_max, ← sc_max (Finset.univ.sup fun r => if P r then x r else ⊥)]
  congr 1
  apply le_antisymm
  · refine max_le (le_max_left _ _) (Finset.sup_le fun r _ => ?_)
    by_cases h : P r
    · rw [if_pos h]
      refine le_max_of_le_right ?_
      have := Finset.le_sup (f := fun r => if P r then x r else ⊥) (Finset.mem_univ r)
      simpa only [if_pos h] using this
    · rw [if_neg h]; exact le_max_left _ _
  · refine max_le (le_max_left _ _) (le_max_of_le_right (Finset.sup_mono_fun fun r _ => ?_))
    split
    · exact le_refl _
    · exact bot_le

/-- The scale of group `e`. -/
def scale (st : IVec S12 32) (y : S1024x384.Idx → EReal) (e : Fin 11) : EReal :=
  sc (Finset.univ.sup fun r : Fin 1024 => if S st e.val ≤ (r.val : ℤ) ∧ (r.val : ℤ) < S st (e.val + 1) then rm y r else 0)

/-- The reference's printed term. -/
def ref (st : IVec S12 32) (y : FVec Ideal S1024x384 .f32) : FVec Ideal S11 .f32 :=
  select (cmpf .ogt (select (cmpi .sgt (subi (extractStridedSlice S11 ![1] st slices_S12_S11_1) (extractStridedSlice S11 ![0] st slices_S12_S11_0)) (broadcastInDim S11 ![] bcast_S_S11 (constantI S_ 32 0#32))) (Host.reduce FloatOps.maximumf (select (cmpi .eq (broadcastInDim S11x1024 ![0, 1] bcast_S1x1024_S11x1024_0_1 (broadcastInDim S1x1024 ![1] bcast_S1024_S1x1024_1 (Host.reduce IntOp.addi (extui 32 (cmpi .sge (broadcastInDim S1024x11 ![0, 1] bcast_S1024x1_S1024x11_0_1 (broadcastInDim S1024x1 ![0] bcast_S1024_S1024x1_0 (iotaInDim S1024 32 0))) (broadcastInDim S1024x11 ![0, 1] bcast_S1x11_S1024x11_0_1 (broadcastInDim S1x11 ![1] bcast_S11_S1x11_1 (extractStridedSlice S11 ![1] st slices_S12_S11_1)))) natLt_1_32) (constantI S_ 32 0#32) reducesTo_S1024x11_S1024_d1 h_S_))) (broadcastInDim S11x1024 ![0, 1] bcast_S11x1_S11x1024_0_1 (broadcastInDim S11x1 ![0] bcast_S11_S11x1_0 (iotaInDim S11 32 0)))) (broadcastInDim S11x1024 ![0, 1] bcast_S1x1024_S11x1024_0_1 (broadcastInDim S1x1024 ![1] bcast_S1024_S1x1024_1 (Host.reduce FloatOps.maximumf y (constant S_ .f32 0xFF800000#32) reducesTo_S1024x384_S1024_d1 h_S_))) (broadcastInDim S11x1024 ![] bcast_S_S11x1024 (id (constant S_ .f32 0xFF800000#32)))) (constant S_ .f32 0xFF800000#32) reducesTo_S11x1024_S11_d1 h_S_) (broadcastInDim S11 ![] bcast_S_S11 (id (constant S_ .f32 0x00000000#32)))) (broadcastInDim S11 ![] bcast_S_S11 (constant S_ .f32 0x00000000#32))) (Host.divf (select (cmpi .sgt (subi (extractStridedSlice S11 ![1] st slices_S12_S11_1) (extractStridedSlice S11 ![0] st slices_S12_S11_0)) (broadcastInDim S11 ![] bcast_S_S11 (constantI S_ 32 0#32))) (Host.reduce FloatOps.maximumf (select (cmpi .eq (broadcastInDim S11x1024 ![0, 1] bcast_S1x1024_S11x1024_0_1 (broadcastInDim S1x1024 ![1] bcast_S1024_S1x1024_1 (Host.reduce IntOp.addi (extui 32 (cmpi .sge (broadcastInDim S1024x11 ![0, 1] bcast_S1024x1_S1024x11_0_1 (broadcastInDim S1024x1 ![0] bcast_S1024_S1024x1_0 (iotaInDim S1024 32 0))) (broadcastInDim S1024x11 ![0, 1] bcast_S1x11_S1024x11_0_1 (broadcastInDim S1x11 ![1] bcast_S11_S1x11_1 (extractStridedSlice S11 ![1] st slices_S12_S11_1)))) natLt_1_32) (constantI S_ 32 0#32) reducesTo_S1024x11_S1024_d1 h_S_))) (broadcastInDim S11x1024 ![0, 1] bcast_S11x1_S11x1024_0_1 (broadcastInDim S11x1 ![0] bcast_S11_S11x1_0 (iotaInDim S11 32 0)))) (broadcastInDim S11x1024 ![0, 1] bcast_S1x1024_S11x1024_0_1 (broadcastInDim S1x1024 ![1] bcast_S1024_S1x1024_1 (Host.reduce FloatOps.maximumf y (constant S_ .f32 0xFF800000#32) reducesTo_S1024x384_S1024_d1 h_S_))) (broadcastInDim S11x1024 ![] bcast_S_S11x1024 (id (constant S_ .f32 0xFF800000#32)))) (constant S_ .f32 0xFF800000#32) reducesTo_S11x1024_S11_d1 h_S_) (broadcastInDim S11 ![] bcast_S_S11 (id (constant S_ .f32 0x00000000#32)))) (broadcastInDim S11 ![] bcast_S_S11 (constant S_ .f32 0x45280000#32))) (broadcastInDim S11 ![] bcast_S_S11 (id (constant S_ .f32 0x3F800000#32)))

theorem ref_apply (st : IVec S12 32) (y : FVec Ideal S1024x384 .f32) (h0 : S st 0 = 0) (hS : ∀ a b, a ≤ b → b ≤ 11 → S st a ≤ S st b) (e : Fin 11) :
    ref st y (ix1 e) = scale st y e := by
  have he := e.isLt
  have hk : ∀ k : Fin 11, ∀ h : 1 + k.val < 12, (st (ix1 (⟨1 + k.val, h⟩ : Fin 12))).toInt = S st (k.val + 1) := fun k h => by
    unfold S; rw [dif_pos (by omega)]; congr 3; exact Fin.ext (by simp only; omega)
  have hc : ∀ k : Fin 11, ∀ h : k.val < 12, (st (ix1 (⟨k.val, h⟩ : Fin 12))).toInt = S st k.val := fun k h => by
    unfold S; rw [dif_pos h]
  have hb : (id (constant (F := Ideal) S_ FTy.f32 4286578688#32) : FVec Ideal S_ .f32) ix0 = (⊥ : EReal) := ninf
  have hz : (id (constant (F := Ideal) S_ FTy.f32 0#32) : FVec Ideal S_ .f32) ix0 = (0 : EReal) := zero_word
  have h1 : (id (constant (F := Ideal) S_ FTy.f32 1065353216#32) : FVec Ideal S_ .f32) ix0 = (1 : EReal) := one_word
  have hsel : ∀ x : Fin 1024, ∀ a : EReal,
      Scalar.select (IntOp.cmpi CmpIPredicate.eq (BitVec.ofNat 32 (Finset.univ.filter fun k : Fin 11 => S st (k.val + 1) ≤ (x.val : ℤ)).card) (BitVec.ofNat 32 e.val)) a ⊥
        = if S st e.val ≤ (x.val : ℤ) ∧ (x.val : ℤ) < S st (e.val + 1) then a else ⊥ := fun x a => by
    rw [word_eq _ (le_trans (Finset.card_le_univ _) (by simp)) e]
    by_cases h : S st e.val ≤ (x.val : ℤ) ∧ (x.val : ℤ) < S st (e.val + 1)
    · rw [if_pos h, if_pos ((card_ends (S st) h0 hS x.val e).2 h)]; rfl
    · rw [if_neg h, if_neg (fun hc => h ((card_ends (S st) h0 hS x.val e).1 hc))]; rfl
  pointwise [ref]
  simp only [fold_sup, sge_iff, hk, fold_count, hb, hz, h1, hsel]
  unfold scale
  rw [sc_sup_zero]
  change sc (Scalar.select _ (Finset.univ.sup fun r : Fin 1024 => if S st e.val ≤ (r.val : ℤ) ∧ (r.val : ℤ) < S st (e.val + 1) then rm y r else ⊥) (0 : EReal)) = _
  by_cases hlt : S st e.val < S st (e.val + 1)
  · rw [size_pos _ _ (by rw [hc]; exact h0 ▸ hS 0 e.val (by omega) (by omega)) (by rw [hc, hk]; exact hlt)]
    rfl
  · have hno : ∀ r : Fin 1024, ¬ (S st e.val ≤ (r.val : ℤ) ∧ (r.val : ℤ) < S st (e.val + 1)) := fun r h => hlt (lt_of_le_of_lt h.1 h.2)
    have hbot : (Finset.univ.sup fun r : Fin 1024 => if S st e.val ≤ (r.val : ℤ) ∧ (r.val : ℤ) < S st (e.val + 1) then rm y r else ⊥) = ⊥ := by
      simp only [if_neg (hno _)]
      exact Finset.sup_bot _
    rw [hbot]
    have hs : sc ⊥ = sc 0 := by rw [← sc_max ⊥, max_eq_left bot_le]
    rcases bit_cases (IntOp.cmpi CmpIPredicate.sgt (IntOp.subi (st (ix1 (⟨1 + e.val, by omega⟩ : Fin 12))) (st (ix1 (⟨e.val, by omega⟩ : Fin 12)))) 0#32) with h | h
    · rw [h]; rfl
    · rw [h, hs]; rfl

end Cert.ActGlobalIdeal.RG

end
-- ==== Proof.AV.lean ====
/- What the body leaves in its scratch rows and, from them, in every group's word. -/
module

public import proofs.«01_k».proof.Proof.AR
public import proofs.«01_k».proof.Proof.Gen.ActIdeal.Frame
public import proofs.«01_k».proof.Proof.Gen.ActIdeal.Value
public import Idealize.ShloMosaic.Lib.WholeRead
public import Idealize.ShloMosaic.Lib.Pipeline.ReadBack

@[expose] public section

set_option maxRecDepth 16384

noncomputable section

namespace Cert.ActIdeal.AV

open Cert.ActIdeal Cert.ActIdeal.Gen Cert.Glob Cert.ActGlobalIdeal.RG
open Cert.GlobalIdeal.RG (S)
open Idealize.ShloMosaic Idealize.ShloMosaic.TcCoe

/-- What the body makes of one group: the scale of the greatest of the rows from `lo` up to `hi`. -/
theorem kg (v2 : Vec Ideal S1024x128 .f32) (x : Fin 1024 → EReal) (h : ∀ r l, v2 (ix2 r l) = x r) (lo hi : BitVec 32) :
    k0_pay2 (F := Ideal) (iota .tc S1024x128 32 [0] iota_S1024x128_d0_w32) v2 lo hi
      = sc (Finset.univ.sup fun r : Fin 1024 => if lo.toInt ≤ (r.val : ℤ) ∧ (r.val : ℤ) < hi.toInt then x r else 0) := by
  pointwise [k0_pay2]
  simp only [h, fold_sup, sel_range]
  unfold sc
  exact Finset.sup_const ⟨((0 : Fin 1), (0 : Fin 128)), Finset.mem_univ _⟩ _

variable (c : Dev nD) (arg0 : Memref sig .tc .smem S12 .i32) (harg0 : arg0.IsWhole) (arg1 : Memref sig .tc .vmem S1024x384 .f32) (harg1 : arg1.IsWhole) (arg2 : Memref sig .tc .smem S11 .f32) (harg2 : arg2.IsWhole) (arg3 : Memref sig .tc .vmem S1024x128 .f32) (harg3 : arg3.IsWhole)
    (x0 : Vec Ideal S12 .i32) (x1 : Vec Ideal S1024x384 .f32)

/-- The greatest block maximum of an index's row. -/
def rowf (j : S1024x128.Idx) : EReal := rm x1 (j 0)

/-- What is stored for the 128 rows from `n`. -/
def wv (n : ℕ) (inb : ∀ a, (![n, 0] : Fin 2 → ℕ) a + S128x384.size a ≤ S1024x384.size a) : FVec Ideal S128x128 .f32 :=
  k0_pay3 (F := Ideal) (View.readAt (Elt Ideal) arg1.view (Rect.unit (s := S1024x384) ![n, 0] S128x384.size inb).toLoadRect (harg1.unread x1))

theorem wv_apply (n : ℕ) (inb : ∀ a, (![n, 0] : Fin 2 → ℕ) a + S128x384.size a ≤ S1024x384.size a)
    (inb' : ∀ a, (![n, 0] : Fin 2 → ℕ) a + S128x128.size a ≤ S1024x128.size a) (x : S128x128.Idx) :
    wv arg1 harg1 x1 n inb x = rowf x1 ((Rect.unit (s := S1024x128) ![n, 0] S128x128.size inb').emb x) := by
  obtain ⟨p, q, rfl⟩ : ∃ (p : Fin 128) (q : Fin 128), x = ix2 p q := ⟨x 0, x 1, by funext a; match a with | ⟨0, _⟩ => rfl | ⟨1, _⟩ => rfl⟩
  unfold wv rowf
  pointwise [k0_pay3]
  rw [fold_sup]
  unfold rm
  refine Finset.sup_congr rfl fun l _ => ?_
  rw [Memref.IsWhole.readAt_unread]
  congr 1
  funext a; apply Fin.ext
  fin_cases a
  · rfl
  · show 0 + 1 * l.val = l.val; omega

/-- A list of pieces that begins with the 128 rows from `n` is of `G` if these rows and the rest are. -/
theorem of_cons (n : ℕ) (w : FVec Ideal S128x128 .f32) (inb' : ∀ a, (![n, 0] : Fin 2 → ℕ) a + S128x128.size a ≤ S1024x128.size a) (G : S1024x128.Idx → Ideal .f32)
    (h : ∀ x : S128x128.Idx, w x = G ((Rect.unit (s := S1024x128) ![n, 0] S128x128.size inb').emb x)) (L : List (View.Piece (Elt Ideal) S1024x128 .f32))
    (hL : View.PiecesOf (Val := Elt Ideal) (e := .f32) G L) : View.PiecesOf (Val := Elt Ideal) (e := .f32) G (⟨Rect.unit (s := S1024x128) ![n, 0] S128x128.size inb', w⟩ :: L) :=
  ⟨h, hL⟩

/-- The pieces of the scratch rows, last first. -/
def grL : List (View.Piece (Elt Ideal) S1024x128 .f32) :=
  [⟨Rect.unit (s := S1024x128) ![896, 0] S128x128.size inb_S1024x128_S128x128_896_0, wv arg1 harg1 x1 896 inb_S1024x384_S128x384_896_0⟩,
    ⟨Rect.unit (s := S1024x128) ![768, 0] S128x128.size inb_S1024x128_S128x128_768_0, wv arg1 harg1 x1 768 inb_S1024x384_S128x384_768_0⟩,
    ⟨Rect.unit (s := S1024x128) ![640, 0] S128x128.size inb_S1024x128_S128x128_640_0, wv arg1 harg1 x1 640 inb_S1024x384_S128x384_640_0⟩,
    ⟨Rect.unit (s := S1024x128) ![512, 0] S128x128.size inb_S1024x128_S128x128_512_0, wv arg1 harg1 x1 512 inb_S1024x384_S128x384_512_0⟩,
    ⟨Rect.unit (s := S1024x128) ![384, 0] S128x128.size inb_S1024x128_S128x128_384_0, wv arg1 harg1 x1 384 inb_S1024x384_S128x384_384_0⟩,
    ⟨Rect.unit (s := S1024x128) ![256, 0] S128x128.size inb_S1024x128_S128x128_256_0, wv arg1 harg1 x1 256 inb_S1024x384_S128x384_256_0⟩,
    ⟨Rect.unit (s := S1024x128) ![128, 0] S128x128.size inb_S1024x128_S128x128_128_0, wv arg1 harg1 x1 128 inb_S1024x384_S128x384_128_0⟩,
    ⟨Rect.unit (s := S1024x128) ![0, 0] S128x128.size inb_S1024x128_S128x128_0_0, wv arg1 harg1 x1 0 inb_S1024x384_S128x384_0_0⟩]

theorem grL_of : View.PiecesOf (rowf x1) (grL arg1 harg1 x1) := by
  unfold grL
  refine of_cons 896 _ inb_S1024x128_S128x128_896_0 _ (wv_apply arg1 harg1 x1 896 inb_S1024x384_S128x384_896_0 inb_S1024x128_S128x128_896_0) _ ?_
  refine of_cons 768 _ inb_S1024x128_S128x128_768_0 _ (wv_apply arg1 harg1 x1 768 inb_S1024x384_S128x384_768_0 inb_S1024x128_S128x128_768_0) _ ?_
  refine of_cons 640 _ inb_S1024x128_S128x128_640_0 _ (wv_apply arg1 harg1 x1 640 inb_S1024x384_S128x384_640_0 inb_S1024x128_S128x128_640_0) _ ?_
  refine of_cons 512 _ inb_S1024x128_S128x128_512_0 _ (wv_apply arg1 harg1 x1 512 inb_S1024x384_S128x384_512_0 inb_S1024x128_S128x128_512_0) _ ?_
  refine of_cons 384 _ inb_S1024x128_S128x128_384_0 _ (wv_apply arg1 harg1 x1 384 inb_S1024x384_S128x384_384_0 inb_S1024x128_S128x128_384_0) _ ?_
  refine of_cons 256 _ inb_S1024x128_S128x128_256_0 _ (wv_apply arg1 harg1 x1 256 inb_S1024x384_S128x384_256_0 inb_S1024x128_S128x128_256_0) _ ?_
  refine of_cons 128 _ inb_S1024x128_S128x128_128_0 _ (wv_apply arg1 harg1 x1 128 inb_S1024x384_S128x384_128_0 inb_S1024x128_S128x128_128_0) _ ?_
  refine of_cons 0 _ inb_S1024x128_S128x128_0_0 _ (wv_apply arg1 harg1 x1 0 inb_S1024x384_S128x384_0_0 inb_S1024x128_S128x128_0_0) _ ?_
  exact trivial

/-- The scratch rows after the loop. -/
def gr : Vec Ideal S1024x128 .f32 :=
  arg3.view.readCov (grL arg1 harg1 x1) (Rect.unit (s := S1024x128) ![0, 0] S1024x128.size inb_S1024x128_S1024x128_0_0).toLoadRect

theorem gr_apply (r : Fin 1024) (l : Fin 128) : gr arg1 harg1 arg3 x1 (ix2 r l) = rm x1 r := by
  unfold gr
  rw [View.readCov_eq_canon']
  have hx : (Rect.unit (s := S1024x128) ![0, 0] S1024x128.size inb_S1024x128_S1024x128_0_0).toLoadRect.idx (ix2 r l) = ix2 r l := by
    funext a; apply Fin.ext
    fin_cases a
    · show 0 + 1 * r.val = r.val; omega
    · show 0 + 1 * l.val = l.val; omega
  show View.canon _ ((Rect.unit (s := S1024x128) ![0, 0] S1024x128.size inb_S1024x128_S1024x128_0_0).toLoadRect.idx (ix2 r l)) = _
  rw [hx]
  have h := View.canon_append_of_piecesOf _ [] _ (grL_of arg1 harg1 x1) (ix2 r l)
    (View.cover_of_tiledL (grL arg1 harg1 x1) S128x128.size (by sl_kernel_rfl) (ix2 r l))
  rw [List.append_nil] at h
  exact h

/-- A word of the starts, as the body loads it. -/
def ld0 (k : ℕ) (inb : ∀ a, (![k] : Fin 1 → ℕ) a + S1.size a ≤ S12.size a) : BitVec 32 :=
  View.readAt (Elt Ideal) arg0.view (Rect.unit (s := S12) ![k] S1.size inb).toLoadRect (harg0.unread x0) (Shape.Idx.first (Nat.lt_of_lt_of_eq Nat.one_pos numel1_S1.symm))

theorem ld0_eq (k : ℕ) (inb : ∀ a, (![k] : Fin 1 → ℕ) a + S1.size a ≤ S12.size a) : (ld0 arg0 harg0 x0 k inb).toInt = S x0 k := by
  have hk : k < 12 := by have := inb 0; change k + 1 ≤ 12 at this; omega
  unfold ld0 S
  rw [dif_pos hk, Memref.IsWhole.readAt_unread]
  congr 2
  funext a; apply Fin.ext; fin_cases a
  show k + 1 * 0 = k
  omega

/-- The word of group `e`. -/
theorem word (e : Fin 11) (inb) (inb') :
    k0_pay2 (F := Ideal) (iota .tc S1024x128 32 [0] iota_S1024x128_d0_w32) (gr arg1 harg1 arg3 x1) (ld0 arg0 harg0 x0 e.val inb) (ld0 arg0 harg0 x0 (e.val + 1) inb') = scale x0 x1 e := by
  rw [kg _ (rm x1) (gr_apply arg1 harg1 arg3 x1), ld0_eq, ld0_eq]; rfl

/-- The piece of group `e`. -/
def pc (e : ℕ) (i : ∀ a, (![e] : Fin 1 → ℕ) a + S1.size a ≤ S11.size a) (i0 : ∀ a, (![e] : Fin 1 → ℕ) a + S1.size a ≤ S12.size a) (i1 : ∀ a, (![e + 1] : Fin 1 → ℕ) a + S1.size a ≤ S12.size a) : View.Piece (Elt Ideal) S11 .f32 :=
  ⟨Rect.unit (s := S11) ![e] S1.size i, fun _ => k0_pay2 (F := Ideal) (iota .tc S1024x128 32 [0] iota_S1024x128_d0_w32) (gr arg1 harg1 arg3 x1) (ld0 arg0 harg0 x0 e i0) (ld0 arg0 harg0 x0 (e + 1) i1)⟩

/-- The body's pieces are the groups' words, last first. -/
theorem pieces_eq : (kernelRun0_A (F := Ideal) c arg0 harg0 arg1 harg1 arg2 harg2 arg3 harg3 x0 x1).1 = [pc arg0 harg0 arg1 harg1 arg3 x0 x1 10 inb_S11_S1_10 inb_S12_S1_10 inb_S12_S1_11,
    pc arg0 harg0 arg1 harg1 arg3 x0 x1 9 inb_S11_S1_9 inb_S12_S1_9 inb_S12_S1_10,
    pc arg0 harg0 arg1 harg1 arg3 x0 x1 8 inb_S11_S1_8 inb_S12_S1_8 inb_S12_S1_9,
    pc arg0 harg0 arg1 harg1 arg3 x0 x1 7 inb_S11_S1_7 inb_S12_S1_7 inb_S12_S1_8,
    pc arg0 harg0 arg1 harg1 arg3 x0 x1 6 inb_S11_S1_6 inb_S12_S1_6 inb_S12_S1_7,
    pc arg0 harg0 arg1 harg1 arg3 x0 x1 5 inb_S11_S1_5 inb_S12_S1_5 inb_S12_S1_6,
    pc arg0 harg0 arg1 harg1 arg3 x0 x1 4 inb_S11_S1_4 inb_S12_S1_4 inb_S12_S1_5,
    pc arg0 harg0 arg1 harg1 arg3 x0 x1 3 inb_S11_S1_3 inb_S12_S1_3 inb_S12_S1_4,
    pc arg0 harg0 arg1 harg1 arg3 x0 x1 2 inb_S11_S1_2 inb_S12_S1_2 inb_S12_S1_3,
    pc arg0 harg0 arg1 harg1 arg3 x0 x1 1 inb_S11_S1_1 inb_S12_S1_1 inb_S12_S1_2,
    pc arg0 harg0 arg1 harg1 arg3 x0 x1 0 inb_S11_S1_0 inb_S12_S1_0 inb_S12_S1_1] := by
  unfold kernelRun0_A
  rfl

theorem pc_scale (e : Fin 11) (i) (i0) (i1) (x : S1.Idx) :
    (pc arg0 harg0 arg1 harg1 arg3 x0 x1 e.val i i0 i1).2 x = scale x0 x1 ((Rect.unit (s := S11) ![e.val] S1.size i).emb x 0) :=
  (word arg0 harg0 arg1 harg1 arg3 x0 x1 e i0 i1).trans (congrArg (scale x0 x1) (Fin.ext (by have h : (x 0).val < 1 := (x 0).isLt; show e.val = e.val + 1 * (x 0).val; omega)))

theorem pieces_scale : View.PiecesOf (fun j : S11.Idx => (scale x0 x1 (j 0) : EReal)) (kernelRun0_A (F := Ideal) c arg0 harg0 arg1 harg1 arg2 harg2 arg3 harg3 x0 x1).1 := by
  rw [pieces_eq]
  exact ⟨pc_scale arg0 harg0 arg1 harg1 arg3 x0 x1 10 _ _ _, pc_scale arg0 harg0 arg1 harg1 arg3 x0 x1 9 _ _ _, pc_scale arg0 harg0 arg1 harg1 arg3 x0 x1 8 _ _ _, pc_scale arg0 harg0 arg1 harg1 arg3 x0 x1 7 _ _ _, pc_scale arg0 harg0 arg1 harg1 arg3 x0 x1 6 _ _ _, pc_scale arg0 harg0 arg1 harg1 arg3 x0 x1 5 _ _ _, pc_scale arg0 harg0 arg1 harg1 arg3 x0 x1 4 _ _ _, pc_scale arg0 harg0 arg1 harg1 arg3 x0 x1 3 _ _ _, pc_scale arg0 harg0 arg1 harg1 arg3 x0 x1 2 _ _ _, pc_scale arg0 harg0 arg1 harg1 arg3 x0 x1 1 _ _ _, pc_scale arg0 harg0 arg1 harg1 arg3 x0 x1 0 _ _ _, trivial⟩

end Cert.ActIdeal.AV

end
-- ==== Proof.AG.lean ====
/- The group scales of the activations: the kernel's and the reference's results are the same function of the starts and the rows. -/
module

public import proofs.«01_k».proof.Defs
public import proofs.«01_k».proof.Proof.AV
public import proofs.«01_k».proof.Proof.TG
public import proofs.«01_k».proof.Proof.Gen.Act.Frame
public import proofs.«01_k».proof.Proof.Gen.Pre_act_starts_ascend

@[expose] public section

set_option maxRecDepth 8192
set_option maxHeartbeats 400000

noncomputable section

namespace Cert.ActIdeal.AG

open Cert.ActIdeal Cert.ActIdeal.Gen Cert.ActIdeal.Value Cert.ActIdeal.AV Cert.ActGlobalIdeal.RG
open Cert.GlobalIdeal.RG (S)
open Cert.TailIdeal.TG (cmp_eq cmp_sle)
open Idealize.ShloMosaic Idealize.ShloMosaic.TcCoe Idealize.SL.Sem

theorem out_apply (c : Dev nD) (arg0 : Memref sig .tc .smem S12 .i32) (harg0 : arg0.IsWhole) (arg1 : Memref sig .tc .vmem S1024x384 .f32) (harg1 : arg1.IsWhole) (arg2 : Memref sig .tc .smem S11 .f32) (harg2 : arg2.IsWhole) (arg3 : Memref sig .tc .vmem S1024x128 .f32) (harg3 : arg3.IsWhole)
    (x0 : Vec Ideal S12 .i32) (x1 : Vec Ideal S1024x384 .f32) (e : Fin 11) :
    out0_A_2 (F := Ideal) c arg0 harg0 arg1 harg1 arg2 harg2 arg3 harg3 x0 x1 (ix1 e) = scale x0 x1 e := by
  unfold out0_A_2
  rw [View.read_writes_junk_eq_canon]
  have h := View.canon_append_of_piecesOf _ [] _ (pieces_scale c arg0 harg0 arg1 harg1 arg2 harg2 arg3 harg3 x0 x1) (ix1 e)
    (cover0_A_2 c arg0 harg0 arg1 harg1 arg2 harg2 arg3 harg3 x0 x1 (ix1 e))
  rw [List.append_nil] at h
  exact h

variable (m : (ℓ : Loc nD τ sig) → Buf (Elt Ideal) ℓ) (c : Dev nD)

theorem blk0 : iblk m c 0 t0_0 = m ((c : Thread nD τ).loc main_arg0) := by
  funext x
  have he : ((cfg0.win 0).blk t0_0).view.emb x = x :=
    funext fun a => Fin.ext (Pipeline.Window.rect_emb_val_of_index_zero win0_0 t0_0 a rfl x)
  show V m c main_arg0 (((cfg0.win 0).blk t0_0).view.emb x) = _
  rw [he]

theorem blk1 : iblk m c 1 t0_0 = m ((c : Thread nD τ).loc main_arg1) := by
  funext x
  have he : ((cfg0.win 1).blk t0_0).view.emb x = x :=
    funext fun a => Fin.ext (Pipeline.Window.rect_emb_val_of_index_zero win0_1 t0_0 a rfl x)
  show V m c main_arg1 (((cfg0.win 1).blk t0_0).view.emb x) = _
  rw [he]

theorem arr2 (X : S11.Idx → Ideal .f32) (hX : (dats m 0 c).flushed 2 t0_0 = (cfg0.win 2).cut (grid0.coords t0_0) X) (x : S11.Idx) :
    (dats m 0 c).arrAt 2 cfg0.N x = X x := by
  have h := (dats m 0 c).arrAt_emb_eq_flushed 2 disjoint2 t0_0 (flush0_2 t0_0) x
  have he : ((cfg0.win 2).blk t0_0).view.emb x = x :=
    funext fun a => Fin.ext (Pipeline.Window.rect_emb_val_of_index_zero win0_2 t0_0 a rfl x)
  rw [he, hX] at h
  exact h

/-- The kernel's result at a group. -/
theorem result (e : Fin 11) :
    (dats m 0 c).arrAt 2 cfg0.N (ix1 e) = scale (m ((c : Thread nD τ).loc main_arg0)) (m ((c : Thread nD τ).loc main_arg1)) e := by
  refine (arr2 m c _ (flushed2_A m c t0_0) (ix1 e)).trans ?_
  refine (out_apply c _ _ _ _ _ _ _ _ _ _ e).trans ?_
  rw [blk0, blk1]

/-! ## What the precondition says of the starts -/

theorem starts {F : FTy → Type} [FloatOps F] (st : IVec S12 32) (y : FVec F S1024x384 .f32)
    (h1 : (Cert.Pre_act_starts_ascend.fn (F := F) st y).1 = fun _ => 1#1) (h2 : (Cert.Pre_act_starts_ascend.fn (F := F) st y).2 = fun _ => 1#1) :
    S st 0 = 0 ∧ ∀ a b, a ≤ b → b ≤ 11 → S st a ≤ S st b := by
  constructor
  · have h := congrFun h1 (ix1 (0 : Fin 1))
    pointwise [Cert.Pre_act_starts_ascend.fn] at h
    have e := cmp_eq _ _ h
    unfold S; rw [dif_pos (by omega)]
    exact (congrArg BitVec.toInt e).trans (by decide)
  · have hs : ∀ k, k < 11 → S st k ≤ S st (k + 1) := fun k hk => by
      have h := congrFun h2 (ix1 (⟨k, hk⟩ : Fin 11))
      pointwise [Cert.Pre_act_starts_ascend.fn] at h
      have e := cmp_sle _ _ h
      unfold S; rw [dif_pos (by omega), dif_pos (by omega)]
      refine le_trans e (le_of_eq (congrArg (fun i : Fin 12 => (st (ix1 i)).toInt) (Fin.ext ?_)))
      show 1 + k = k + 1
      omega
    intro a b hab
    induction b with
    | zero => intro _; rw [Nat.le_zero.1 hab]
    | succ b ih =>
      intro hb
      rcases Nat.lt_or_ge a (b + 1) with h | h
      · exact le_trans (ih (by omega) (by omega)) (hs b (by omega))
      · rw [show a = b + 1 by omega]

theorem algebraic : Cert.algebraic_ActIdeal_ActGlobalIdeal (hActIdeal := Cert.ActIdeal.Gen.facts) (hActGlobalIdeal := Cert.ActGlobalIdeal.Gen.facts) (hPre_act_starts_ascend := Cert.Pre_act_starts_ascend.Gen.facts) := by
  intro m g m' g' hpre hm
  refine ⟨fun c => (dats m 0 c).arrAt 2 cfg0.N, run_blocks m g, (θ_run _ _ _).mono (fun r h c => ⟨?_, (h c).2⟩) (Cert.ActGlobalIdeal.Value.run m' g')⟩
  refine (h c).1.trans ?_
  obtain ⟨h0, hS⟩ := starts _ _ (hpre c).1 (hpre c).2
  funext x
  obtain ⟨e, rfl⟩ : ∃ e : Fin 11, x = ix1 e := ⟨x 0, by funext a; match a with | ⟨0, _⟩ => rfl⟩
  rw [(hm c).1, (hm c).2]
  exact (ref_apply _ _ h0 hS e).trans (result m c e).symm

/-- The reference runs and leaves its arguments as they were; it has no semaphore. -/
theorem quiescent_ActGlobalIdeal : Cert.quiescent_ActGlobalIdeal (hActGlobalIdeal := Cert.ActGlobalIdeal.Gen.facts) (hPre_act_starts_ascend := Cert.Pre_act_starts_ascend.Gen.facts) :=
  fun m g _ => (θ_run _ _ _).mono (fun r h => ⟨fun c => (h c).2, funext fun x => by
    obtain ⟨t, s⟩ := x
    cases s with
    | reg s => exact s.elim0
    | dma s => exact s.elim0⟩) (Cert.ActGlobalIdeal.Value.run m g)

theorem quiescent_ActIdeal : Cert.quiescent_ActIdeal (hActIdeal := Cert.ActIdeal.Gen.facts) (hPre_act_starts_ascend := Cert.Pre_act_starts_ascend.Gen.facts) :=
  fun m g _ => Cert.ActIdeal.Gen.frame m g

theorem quiescent_Act : Cert.quiescent_Act (hAct := Cert.Act.Gen.facts) (hPre_act_starts_ascend := Cert.Pre_act_starts_ascend.Gen.facts) :=
  fun m g _ => Cert.Act.Gen.frame m g

end Cert.ActIdeal.AG

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal.Frame
public import proofs.«01_k».proof.Proof.Gen.ReferenceIdeal.Value
public import proofs.«01_k».proof.Proof.Gen.Pre_sizes_split_rows
public import proofs.«01_k».proof.Proof.Gen.Tail.Frame
public import proofs.«01_k».proof.Proof.Gen.TailIdeal.Frame
public import proofs.«01_k».proof.Proof.Gen.TailIdeal.Value
public import proofs.«01_k».proof.Proof.Gen.GlobalIdeal.Run
public import proofs.«01_k».proof.Proof.Gen.Pre_starts_ascend
public import proofs.«01_k».proof.Proof.Gen.Act.Frame
public import proofs.«01_k».proof.Proof.Gen.ActIdeal.Frame
public import proofs.«01_k».proof.Proof.Gen.ActIdeal.Value
public import proofs.«01_k».proof.Proof.Gen.ActGlobalIdeal.Run
public import proofs.«01_k».proof.Proof.Gen.Pre_act_starts_ascend
public import proofs.«01_k».proof.Proof.KF
public import proofs.«01_k».proof.Proof.KG
public import proofs.«01_k».proof.Proof.TG
public import proofs.«01_k».proof.Proof.AG

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Tail.Gen.facts, Cert.TailIdeal.Gen.facts, Cert.GlobalIdeal.Gen.facts,
    Cert.Act.Gen.facts, Cert.ActIdeal.Gen.facts, Cert.ActGlobalIdeal.Gen.facts,
    Cert.Pre_sizes_split_rows.Gen.facts, Cert.Pre_starts_ascend.Gen.facts, Cert.Pre_act_starts_ascend.Gen.facts,
    Cert.Frames.quiescent_Kernel, Cert.Frames.quiescent_KernelIdeal, Cert.Frames.quiescent_ReferenceIdeal,
    Cert.TailIdeal.TG.quiescent_Tail, Cert.TailIdeal.TG.quiescent_TailIdeal, Cert.TailIdeal.TG.quiescent_GlobalIdeal,
    Cert.ActIdeal.AG.quiescent_Act, Cert.ActIdeal.AG.quiescent_ActIdeal, Cert.ActIdeal.AG.quiescent_ActGlobalIdeal,
    trivial, Cert.Frames.algebraic, trivial, Cert.TailIdeal.TG.algebraic, trivial, Cert.ActIdeal.AG.algebraic⟩

end Cert.Proof

end
